-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))).2.2.2.2.2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))).2.2.2.2.2.2.2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)) (v5 : (c : Dev Cert.KernelIdeal.nD) → Buf (Elt Ideal) ((c.tc : Thread Cert.KernelIdeal.nD Cert.KernelIdeal.τ).loc Cert.KernelIdeal.main_v19_5)) (v6 : (c : Dev Cert.KernelIdeal.nD) → Buf (Elt Ideal) ((c.tc : Thread Cert.KernelIdeal.nD Cert.KernelIdeal.τ).loc Cert.KernelIdeal.main_v19_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_v19_5) = v5 c
          ∧ r.2.mem ((c.tc : Thread Cert.KernelIdeal.nD Cert.KernelIdeal.τ).loc Cert.KernelIdeal.main_v19_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v47) = v5 c
          ∧ r.2.mem ((c.tc : Thread Cert.ReferenceIdeal.nD Cert.ReferenceIdeal.τ).loc Cert.ReferenceIdeal.main_v44) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v9_0)) (v1 : (c : Dev Cert.Kernel12Ideal.nD) → Buf (Elt Ideal) ((c.tc : Thread Cert.Kernel12Ideal.nD Cert.Kernel12Ideal.τ).loc Cert.Kernel12Ideal.main_v9_1)) (v2 : (c : Dev Cert.Kernel12Ideal.nD) → Buf (Elt Ideal) ((c.tc : Thread Cert.Kernel12Ideal.nD Cert.Kernel12Ideal.τ).loc Cert.Kernel12Ideal.main_v9_2)) (v3 : (c : Dev Cert.Kernel12Ideal.nD) → Buf (Elt Ideal) ((c.tc : Thread Cert.Kernel12Ideal.nD Cert.Kernel12Ideal.τ).loc Cert.Kernel12Ideal.main_v9_3)) (v4 : (c : Dev Cert.Kernel12Ideal.nD) → Buf (Elt Ideal) ((c.tc : Thread Cert.Kernel12Ideal.nD Cert.Kernel12Ideal.τ).loc Cert.Kernel12Ideal.main_v9_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9_0) = v0 c
          ∧ r.2.mem ((c.tc : Thread Cert.Kernel12Ideal.nD Cert.Kernel12Ideal.τ).loc Cert.Kernel12Ideal.main_v9_1) = v1 c
          ∧ r.2.mem ((c.tc : Thread Cert.Kernel12Ideal.nD Cert.Kernel12Ideal.τ).loc Cert.Kernel12Ideal.main_v9_2) = v2 c
          ∧ r.2.mem ((c.tc : Thread Cert.Kernel12Ideal.nD Cert.Kernel12Ideal.τ).loc Cert.Kernel12Ideal.main_v9_3) = v3 c
          ∧ r.2.mem ((c.tc : Thread Cert.Kernel12Ideal.nD Cert.Kernel12Ideal.τ).loc Cert.Kernel12Ideal.main_v9_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v31) = v0 c
          ∧ r.2.mem ((c.tc : Thread Cert.Reference12Ideal.nD Cert.Reference12Ideal.τ).loc Cert.Reference12Ideal.main_v0) = v1 c
          ∧ r.2.mem ((c.tc : Thread Cert.Reference12Ideal.nD Cert.Reference12Ideal.τ).loc Cert.Reference12Ideal.main_v1) = v2 c
          ∧ r.2.mem ((c.tc : Thread Cert.Reference12Ideal.nD Cert.Reference12Ideal.τ).loc Cert.Reference12Ideal.main_v9) = v3 c
          ∧ r.2.mem ((c.tc : Thread Cert.Reference12Ideal.nD Cert.Reference12Ideal.τ).loc Cert.Reference12Ideal.main_v32) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v37) = v0 c
          ∧ r.2.mem ((c.tc : Thread Cert.Reference13Ideal.nD Cert.Reference13Ideal.τ).loc Cert.Reference13Ideal.main_v40) = v1 c
          ∧ r.2.mem ((c.tc : Thread Cert.Reference13Ideal.nD Cert.Reference13Ideal.τ).loc Cert.Reference13Ideal.main_v43) = v2 c
          ∧ r.2.mem ((c.tc : Thread Cert.Reference13Ideal.nD Cert.Reference13Ideal.τ).loc Cert.Reference13Ideal.main_v46) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_v43) = v2 c
          ∧ r.2.mem ((c.tc : Thread Cert.Reference14Ideal.nD Cert.Reference14Ideal.τ).loc Cert.Reference14Ideal.main_v46) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v37) = v0 c
          ∧ r.2.mem ((c.tc : Thread Cert.Reference15Ideal.nD Cert.Reference15Ideal.τ).loc Cert.Reference15Ideal.main_v40) = v1 c
          ∧ r.2.mem ((c.tc : Thread Cert.Reference15Ideal.nD Cert.Reference15Ideal.τ).loc Cert.Reference15Ideal.main_v43) = v2 c
          ∧ r.2.mem ((c.tc : Thread Cert.Reference15Ideal.nD Cert.Reference15Ideal.τ).loc Cert.Reference15Ideal.main_v46) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v19) = v0 c
          ∧ r.2.mem ((c.tc : Thread Cert.Reference16Ideal.nD Cert.Reference16Ideal.τ).loc Cert.Reference16Ideal.main_v18) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)) →
    ∃ (v0 : (c : Dev Cert.Kernel19Ideal.nD) → Buf (Elt Ideal) ((c.tc : Thread Cert.Kernel19Ideal.nD Cert.Kernel19Ideal.τ).loc Cert.Kernel19Ideal.main_v35_0)) (v1 : (c : Dev Cert.Kernel19Ideal.nD) → Buf (Elt Ideal) ((c.tc : Thread Cert.Kernel19Ideal.nD Cert.Kernel19Ideal.τ).loc Cert.Kernel19Ideal.main_v35_1)) (v2 : (c : Dev Cert.Kernel19Ideal.nD) → Buf (Elt Ideal) ((c.tc : Thread Cert.Kernel19Ideal.nD Cert.Kernel19Ideal.τ).loc Cert.Kernel19Ideal.main_v35_2)) (v3 : (c : Dev Cert.Kernel19Ideal.nD) → Buf (Elt Ideal) ((c.tc : Thread Cert.Kernel19Ideal.nD Cert.Kernel19Ideal.τ).loc Cert.Kernel19Ideal.main_v35_3)) (v4 : (c : Dev Cert.Kernel19Ideal.nD) → Buf (Elt Ideal) ((c.tc : Thread Cert.Kernel19Ideal.nD Cert.Kernel19Ideal.τ).loc Cert.Kernel19Ideal.main_v35_4)) (v5 : (c : Dev Cert.Kernel19Ideal.nD) → Buf (Elt Ideal) ((c.tc : Thread Cert.Kernel19Ideal.nD Cert.Kernel19Ideal.τ).loc Cert.Kernel19Ideal.main_v35_5)) (v6 : (c : Dev Cert.Kernel19Ideal.nD) → Buf (Elt Ideal) ((c.tc : Thread Cert.Kernel19Ideal.nD Cert.Kernel19Ideal.τ).loc Cert.Kernel19Ideal.main_v35_6)) (v7 : (c : Dev Cert.Kernel19Ideal.nD) → Buf (Elt Ideal) ((c.tc : Thread Cert.Kernel19Ideal.nD Cert.Kernel19Ideal.τ).loc Cert.Kernel19Ideal.main_v35_7)) (v8 : (c : Dev Cert.Kernel19Ideal.nD) → Buf (Elt Ideal) ((c.tc : Thread Cert.Kernel19Ideal.nD Cert.Kernel19Ideal.τ).loc Cert.Kernel19Ideal.main_v35_8)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v35_0) = v0 c
          ∧ r.2.mem ((c.tc : Thread Cert.Kernel19Ideal.nD Cert.Kernel19Ideal.τ).loc Cert.Kernel19Ideal.main_v35_1) = v1 c
          ∧ r.2.mem ((c.tc : Thread Cert.Kernel19Ideal.nD Cert.Kernel19Ideal.τ).loc Cert.Kernel19Ideal.main_v35_2) = v2 c
          ∧ r.2.mem ((c.tc : Thread Cert.Kernel19Ideal.nD Cert.Kernel19Ideal.τ).loc Cert.Kernel19Ideal.main_v35_3) = v3 c
          ∧ r.2.mem ((c.tc : Thread Cert.Kernel19Ideal.nD Cert.Kernel19Ideal.τ).loc Cert.Kernel19Ideal.main_v35_4) = v4 c
          ∧ r.2.mem ((c.tc : Thread Cert.Kernel19Ideal.nD Cert.Kernel19Ideal.τ).loc Cert.Kernel19Ideal.main_v35_5) = v5 c
          ∧ r.2.mem ((c.tc : Thread Cert.Kernel19Ideal.nD Cert.Kernel19Ideal.τ).loc Cert.Kernel19Ideal.main_v35_6) = v6 c
          ∧ r.2.mem ((c.tc : Thread Cert.Kernel19Ideal.nD Cert.Kernel19Ideal.τ).loc Cert.Kernel19Ideal.main_v35_7) = v7 c
          ∧ r.2.mem ((c.tc : Thread Cert.Kernel19Ideal.nD Cert.Kernel19Ideal.τ).loc Cert.Kernel19Ideal.main_v35_8) = v8 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v99) = v0 c
          ∧ r.2.mem ((c.tc : Thread Cert.Reference19Ideal.nD Cert.Reference19Ideal.τ).loc Cert.Reference19Ideal.main_v137) = v1 c
          ∧ r.2.mem ((c.tc : Thread Cert.Reference19Ideal.nD Cert.Reference19Ideal.τ).loc Cert.Reference19Ideal.main_v136) = v2 c
          ∧ r.2.mem ((c.tc : Thread Cert.Reference19Ideal.nD Cert.Reference19Ideal.τ).loc Cert.Reference19Ideal.main_v119) = v3 c
          ∧ r.2.mem ((c.tc : Thread Cert.Reference19Ideal.nD Cert.Reference19Ideal.τ).loc Cert.Reference19Ideal.main_v163) = v4 c
          ∧ r.2.mem ((c.tc : Thread Cert.Reference19Ideal.nD Cert.Reference19Ideal.τ).loc Cert.Reference19Ideal.main_v73) = v5 c
          ∧ r.2.mem ((c.tc : Thread Cert.Reference19Ideal.nD Cert.Reference19Ideal.τ).loc Cert.Reference19Ideal.main_v70) = v6 c
          ∧ r.2.mem ((c.tc : Thread Cert.Reference19Ideal.nD Cert.Reference19Ideal.τ).loc Cert.Reference19Ideal.main_v122) = v7 c
          ∧ r.2.mem ((c.tc : Thread Cert.Reference19Ideal.nD Cert.Reference19Ideal.τ).loc Cert.Reference19Ideal.main_v105) = v8 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v7)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v7) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v6)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v6) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v6_0)) (v1 : (c : Dev Cert.Kernel22Ideal.nD) → Buf (Elt Ideal) ((c.tc : Thread Cert.Kernel22Ideal.nD Cert.Kernel22Ideal.τ).loc Cert.Kernel22Ideal.main_v6_1)) (v2 : (c : Dev Cert.Kernel22Ideal.nD) → Buf (Elt Ideal) ((c.tc : Thread Cert.Kernel22Ideal.nD Cert.Kernel22Ideal.τ).loc Cert.Kernel22Ideal.main_v6_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v6_0) = v0 c
          ∧ r.2.mem ((c.tc : Thread Cert.Kernel22Ideal.nD Cert.Kernel22Ideal.τ).loc Cert.Kernel22Ideal.main_v6_1) = v1 c
          ∧ r.2.mem ((c.tc : Thread Cert.Kernel22Ideal.nD Cert.Kernel22Ideal.τ).loc Cert.Kernel22Ideal.main_v6_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v50) = v0 c
          ∧ r.2.mem ((c.tc : Thread Cert.Reference22Ideal.nD Cert.Reference22Ideal.τ).loc Cert.Reference22Ideal.main_v28) = v1 c
          ∧ r.2.mem ((c.tc : Thread Cert.Reference22Ideal.nD Cert.Reference22Ideal.τ).loc Cert.Reference22Ideal.main_v51) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v17)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v17) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v40) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v17)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v17) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v87) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S4352x1024 : Shape := ⟨2, ![4352, 1024]⟩
abbrev S1024x2816 : Shape := ⟨2, ![1024, 2816]⟩
abbrev S2816x1024 : Shape := ⟨2, ![2816, 1024]⟩
abbrev S1x1024 : Shape := ⟨2, ![1, 1024]⟩
abbrev S8x128 : Shape := ⟨2, ![8, 128]⟩
abbrev S_ : Shape := ⟨0, ![]⟩

class Facts : Prop where
  bcast_S_S4352x1024 : S_.BroadcastsInDim S4352x1024 (![] : Fin 0 → Fin S4352x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S4352x1024 .f32) (main_arg1 : FVec F S1024x2816 .f32) (main_arg2 : FVec F S1024x2816 .f32) (main_arg3 : FVec F S2816x1024 .f32) (main_arg4 : FVec F S1x1024 .f32) (main_arg5 : FVec F S1x1024 .f32) (main_arg6 : FVec F S4352x1024 .f32) (main_arg7 : FVec F S8x128 .f32) : IVec S4352x1024 1 × IVec S1024x2816 1 × IVec S1024x2816 1 × IVec S2816x1024 1 × IVec S1x1024 1 × IVec S4352x1024 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4352x1024 .f32 := Host.absf main_arg6
  let main_cst_4 : FVec F S_ .f32 := constant S_ .f32 0x7F800000#32
  let main_v16 : FVec F S4352x1024 .f32 := broadcastInDim S4352x1024 ![] bcast_S_S4352x1024 main_cst_4
  let main_v17 : IVec S4352x1024 1 := cmpf .olt main_v15 main_v16
  (main_v2, main_v5, main_v8, main_v11, main_v14, main_v17)
-- ==== Pre_finite19.lean ====
abbrev S4352x1024 : Shape := ⟨2, ![4352, 1024]⟩
abbrev S4352x512 : Shape := ⟨2, ![4352, 512]⟩
abbrev S1024x1792 : Shape := ⟨2, ![1024, 1792]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩

class Facts : Prop where
  bcast_S_S4352x1024 : S_.BroadcastsInDim S4352x1024 (![] : Fin 0 → Fin S4352x1024.rank)
  bcast_S_S4352x512 : S_.BroadcastsInDim S4352x512 (![] : Fin 0 → Fin S4352x512.rank)
  bcast_S_S1024x1024 : S_.BroadcastsInDim S1024x1024 (![] : Fin 0 → Fin S1024x1024.rank)
  bcast_S_S1x512 : S_.BroadcastsInDim S1x512 (![] : Fin 0 → Fin S1x512.rank)
  bcast_S_S1x1024 : S_.BroadcastsInDim S1x1024 (![] : Fin 0 → Fin S1x1024.rank)

variable [Facts]

def fn_part1 {F : FTy → Type} [FloatOps F] (main_arg7 : FVec F S1x1024 .f32) (main_arg9 : FVec F S4352x1024 .f32) (main_v2 : IVec S4352x1024 1) (main_v5 : IVec S4352x512 1) (main_v8 : IVec S4352x512 1) (main_v11 : IVec S1024x1024 1) (main_v14 : IVec S1x512 1) (main_v17 : IVec S1x512 1) : IVec S4352x1024 1 × IVec S4352x512 1 × IVec S4352x512 1 × IVec S1024x1024 1 × IVec S1x512 1 × IVec S1x512 1 × IVec S1x1024 1 × IVec S4352x1024 1 :=
  let main_v18 : FVec F S1x1024 .f32 := Host.absf main_arg7
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S4352x1024 .f32 := Host.absf main_arg9
  let main_cst_6 : FVec F S_ .f32 := constant S_ .f32 0x7F800000#32
  let main_v22 : FVec F S4352x1024 .f32 := broadcastInDim S4352x1024 ![] bcast_S_S4352x1024 main_cst_6
  let main_v23 : IVec S4352x1024 1 := cmpf .olt main_v21 main_v22
  (main_v2, main_v5, main_v8, main_v11, main_v14, main_v17, main_v20, main_v23)

def fn {F : FTy → Type} [FloatOps F] (main_arg0 : FVec F S4352x1024 .f32) (main_arg1 : FVec F S4352x512 .f32) (main_arg2 : FVec F S4352x512 .f32) (main_arg3 : FVec F S1024x1792 .f32) (main_arg4 : FVec F S1024x1024 .f32) (main_arg5 : FVec F S1x512 .f32) (main_arg6 : FVec F S1x512 .f32) (main_arg7 : FVec F S1x1024 .f32) (main_arg8 : FVec F S1x1024 .f32) (main_arg9 : FVec F S4352x1024 .f32) : IVec S4352x1024 1 × IVec S4352x512 1 × IVec S4352x512 1 × IVec S1024x1024 1 × IVec S1x512 1 × IVec S1x512 1 × IVec S1x1024 1 × IVec S4352x1024 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S4352x512 .f32 := Host.absf main_arg1
  let main_cst_0 : FVec F S_ .f32 := constant S_ .f32 0x7F800000#32
  let main_v4 : FVec F S4352x512 .f32 := broadcastInDim S4352x512 ![] bcast_S_S4352x512 main_cst_0
  let main_v5 : IVec S4352x512 1 := cmpf .olt main_v3 main_v4
  let main_v6 : FVec F S4352x512 .f32 := Host.absf main_arg2
  let main_cst_1 : FVec F S_ .f32 := constant S_ .f32 0x7F800000#32
  let main_v7 : FVec F S4352x512 .f32 := broadcastInDim S4352x512 ![] bcast_S_S4352x512 main_cst_1
  let main_v8 : IVec S4352x512 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1x512 .f32 := Host.absf main_arg5
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg6
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg7 main_arg9 main_v2 main_v5 main_v8 main_v11 main_v14 main_v17
-- ==== Kernel.lean ====
abbrev S4352x1024 : Shape := ⟨2, ![4352, 1024]⟩
abbrev S1024x2816 : Shape := ⟨2, ![1024, 2816]⟩
abbrev S2816x1024 : Shape := ⟨2, ![2816, 1024]⟩
abbrev S1x1024 : Shape := ⟨2, ![1, 1024]⟩
abbrev S8x128 : Shape := ⟨2, ![8, 128]⟩
abbrev S4352x2816 : Shape := ⟨2, ![4352, 2816]⟩
abbrev S_ : Shape := ⟨0, ![]⟩
abbrev S8x352x1024 : Shape := ⟨3, ![8, 352, 1024]⟩
abbrev S8x1056x1024 : Shape := ⟨3, ![8, 1056, 1024]⟩
abbrev S256x1024 : Shape := ⟨2, ![256, 1024]⟩
abbrev S256x2816 : Shape := ⟨2, ![256, 2816]⟩
abbrev S3x8 : Shape := ⟨2, ![3, 8]⟩
abbrev S1x1 : Shape := ⟨2, ![1, 1]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩
abbrev S1024 : Shape := ⟨1, ![1024]⟩

abbrev nBuf : Space → Nat
  | .hbm => 44
  | .vmem => 24
  | .smem => 0
  | _ => 0

abbrev bufTy : (tb : Table) → Fin (tcTables nBuf tb) → BufTy
  | .hbm, ⟨0, _⟩ => ⟨S4352x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S4352x1024, .f32⟩
  | .hbm, ⟨7, _⟩ => ⟨S8x128, .f32⟩
  | .hbm, ⟨8, _⟩ => ⟨S4352x2816, .f32⟩
  | .hbm, ⟨9, _⟩ => ⟨S4352x2816, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S4352x2816, .f32⟩
  | .hbm, ⟨14, _⟩ => ⟨S4352x2816, .f32⟩
  | .hbm, ⟨15, _⟩ => ⟨S_, .f32⟩
  | .hbm, ⟨16, _⟩ => ⟨S4352x2816, .f32⟩
  | .hbm, ⟨17, _⟩ => ⟨S4352x2816, .f32⟩
  | .hbm, ⟨18, _⟩ => ⟨S_, .f32⟩
  | .hbm, ⟨19, _⟩ => ⟨S4352x2816, .f32⟩
  | .hbm, ⟨20, _⟩ => ⟨S4352x2816, .f32⟩
  | .hbm, ⟨21, _⟩ => ⟨S4352x2816, .f32⟩
  | .hbm, ⟨22, _⟩ => ⟨S4352x2816, .f32⟩
  | .hbm, ⟨23, _⟩ => ⟨S4352x1024, .f32⟩
  | .hbm, ⟨24, _⟩ => ⟨S_, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S2816x1024, .f32⟩
  | .hbm, ⟨29, _⟩ => ⟨S2816x1024, .f32⟩
  | .hbm, ⟨30, _⟩ => ⟨S2816x1024, .bf16⟩
  | .hbm, ⟨31, _⟩ => ⟨S8x352x1024, .bf16⟩
  | .hbm, ⟨32, _⟩ => ⟨S2816x1024, .bf16⟩
  | .hbm, ⟨33, _⟩ => ⟨S8x352x1024, .bf16⟩
  | .hbm, ⟨34, _⟩ => ⟨S2816x1024, .bf16⟩
  | .hbm, ⟨35, _⟩ => ⟨S8x352x1024, .bf16⟩
  | .hbm, ⟨36, _⟩ => ⟨S8x1056x1024, .bf16⟩
  | .hbm, ⟨37, _⟩ => ⟨S4352x1024, .f32⟩
  | .hbm, ⟨38, _⟩ => ⟨S4352x2816, .bf16⟩
  | .hbm, ⟨39, _⟩ => ⟨S4352x2816, .bf16⟩
  | .hbm, ⟨40, _⟩ => ⟨S4352x2816, .bf16⟩
  | .hbm, ⟨41, _⟩ => ⟨S4352x1024, .bf16⟩
  | .hbm, ⟨42, _⟩ => ⟨S1x1024, .f32⟩
  | .hbm, ⟨43, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | .local _ .vmem, ⟨21, _⟩ => ⟨S2816x1024, .bf16⟩
  | .local _ .vmem, ⟨22, _⟩ => ⟨S2816x1024, .bf16⟩
  | .local _ .vmem, ⟨23, _⟩ => ⟨S2816x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev main_v19_4 : Ref sig .tc := ⟨.hbm, 41, rfl⟩
abbrev main_v19_5 : Ref sig .tc := ⟨.hbm, 42, rfl⟩
abbrev main_v19_6 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4352x1024 : Shape := ⟨2, ![4352, 1024]⟩
abbrev S1024x2816 : Shape := ⟨2, ![1024, 2816]⟩
abbrev S2816x1024 : Shape := ⟨2, ![2816, 1024]⟩
abbrev S1x1024 : Shape := ⟨2, ![1, 1024]⟩
abbrev S8x128 : Shape := ⟨2, ![8, 128]⟩
abbrev S_ : Shape := ⟨0, ![]⟩
abbrev S4352x2816 : Shape := ⟨2, ![4352, 2816]⟩
abbrev S4352 : Shape := ⟨1, ![4352]⟩
abbrev S4352x1 : Shape := ⟨2, ![4352, 1]⟩
abbrev S1024 : Shape := ⟨1, ![1024]⟩

abbrev nBuf : Space → Nat
  | .hbm => 147
  | .vmem => 0
  | .smem => 0
  | _ => 0

abbrev hbmTy0_0 (i : Nat) : BufTy := match i % 128 with
  | 0 => ⟨S4352x1024, .f32⟩
  | 1 => ⟨S1024x2816, .f32⟩
  | 2 => ⟨S1024x2816, .f32⟩
  | 3 => ⟨S2816x1024, .f32⟩
  | 4 => ⟨S1x1024, .f32⟩
  | 5 => ⟨S1x1024, .f32⟩
  | 6 => ⟨S4352x1024, .f32⟩
  | 7 => ⟨S8x128, .f32⟩
  | 8 => ⟨S_, .f32⟩
  | 9 => ⟨S4352x2816, .f32⟩
  | 10 => ⟨S_, .f32⟩
  | 11 => ⟨S4352x1024, .f32⟩
  | 12 => ⟨S4352x2816, .f32⟩
  | 13 => ⟨S4352x2816, .f32⟩
  | 14 => ⟨S4352x2816, .f32⟩
  | 15 => ⟨S4352x2816, .f32⟩
  | 16 => ⟨S4352x2816, .f32⟩
  | 17 => ⟨S4352x2816, .f32⟩
  | 18 => ⟨S_, .f32⟩
  | 19 => ⟨S4352x2816, .f32⟩
  | 20 => ⟨S4352x2816, .f32⟩
  | 21 => ⟨S_, .f32⟩
  | 22 => ⟨S4352x2816, .f32⟩
  | 23 => ⟨S4352x2816, .f32⟩
  | 24 => ⟨S_, .f32⟩
  | 25 => ⟨S4352x2816, .f32⟩
  | 26 => ⟨S4352x2816, .f32⟩
  | 27 => ⟨S4352x2816, .f32⟩
  | 28 => ⟨S4352x2816, .f32⟩
  | 29 => ⟨S4352x2816, .f32⟩
  | 30 => ⟨S4352x1024, .f32⟩
  | 31 => ⟨S4352x1024, .f32⟩
  | 32 => ⟨S_, .f32⟩
  | 33 => ⟨S4352x1024, .f32⟩
  | 34 => ⟨S4352x1024, .f32⟩
  | 35 => ⟨S_, .f32⟩
  | 36 => ⟨S4352x1024, .f32⟩
  | 37 => ⟨S4352x1024, .f32⟩
  | 38 => ⟨S4352x1024, .f32⟩
  | 39 => ⟨S_, .f32⟩
  | 40 => ⟨S4352, .f32⟩
  | 41 => ⟨S4352x1, .f32⟩
  | 42 => ⟨S_, .f32⟩
  | 43 => ⟨S4352x1, .f32⟩
  | 44 => ⟨S4352x1, .f32⟩
  | 45 => ⟨S4352x1024, .f32⟩
  | 46 => ⟨S4352x1024, .f32⟩
  | 47 => ⟨S4352x1024, .f32⟩
  | 48 => ⟨S_, .f32⟩
  | 49 => ⟨S4352x1024, .f32⟩
  | 50 => ⟨S4352x1024, .f32⟩
  | 51 => ⟨S_, .f32⟩
  | 52 => ⟨S4352, .f32⟩
  | 53 => ⟨S4352x1, .f32⟩
  | 54 => ⟨S_, .f32⟩
  | 55 => ⟨S4352x1, .f32⟩
  | 56 => ⟨S4352x1, .f32⟩
  | 57 => ⟨S4352x1024, .f32⟩
  | 58 => ⟨S4352x1024, .f32⟩
  | 59 => ⟨S_, .f32⟩
  | 60 => ⟨S4352x1, .f32⟩
  | 61 => ⟨S4352x1, .f32⟩
  | 62 => ⟨S4352x1, .f32⟩
  | 63 => ⟨S4352x1, .f32⟩
  | 64 => ⟨S_, .f32⟩
  | 65 => ⟨S4352x1, .f32⟩
  | 66 => ⟨S4352x1, .f32⟩
  | 67 => ⟨S4352x1024, .f32⟩
  | 68 => ⟨S4352x1024, .f32⟩
  | 69 => ⟨S4352x1024, .f32⟩
  | 70 => ⟨S4352x1024, .f32⟩
  | 71 => ⟨S4352x1024, .f32⟩
  | 72 => ⟨S4352x1024, .f32⟩
  | 73 => ⟨S4352x1024, .f32⟩
  | 74 => ⟨S_, .f32⟩
  | 75 => ⟨S1024, .f32⟩
  | 76 => ⟨S1x1024, .f32⟩
  | 77 => ⟨S4352x1024, .f32⟩
  | 78 => ⟨S_, .f32⟩
  | 79 => ⟨S1024, .f32⟩
  | 80 => ⟨S1x1024, .f32⟩
  | 81 => ⟨S4352x1024, .f32⟩
  | 82 => ⟨S4352x1024, .f32⟩
  | 83 => ⟨S4352x1024, .f32⟩
  | 84 => ⟨S_, .f32⟩
  | 85 => ⟨S4352, .f32⟩
  | 86 => ⟨S4352x1, .f32⟩
  | 87 => ⟨S4352x1024, .f32⟩
  | 88 => ⟨S4352x1024, .f32⟩
  | 89 => ⟨S4352x1, .f32⟩
  | 90 => ⟨S4352x1024, .f32⟩
  | 91 => ⟨S_, .f32⟩
  | 92 => ⟨S4352, .f32⟩
  | 93 => ⟨S4352x1, .f32⟩
  | 94 => ⟨S_, .f32⟩
  | 95 => ⟨S4352x1, .f32⟩
  | 96 => ⟨S4352x1, .f32⟩
  | 97 => ⟨S_, .f32⟩
  | 98 => ⟨S4352, .f32⟩
  | 99 => ⟨S4352x1024, .f32⟩
  | 100 => ⟨S4352x1024, .f32⟩
  | 101 => ⟨S4352x1024, .f32⟩
  | 102 => ⟨S_, .f32⟩
  | 103 => ⟨S4352, .f32⟩
  | 104 => ⟨S4352x1, .f32⟩
  | 105 => ⟨S4352x1024, .f32⟩
  | 106 => ⟨S4352x1, .f32⟩
  | 107 => ⟨S_, .f32⟩
  | 108 => ⟨S4352x1, .f32⟩
  | 109 => ⟨S4352x1, .f32⟩
  | 110 => ⟨S_, .f32⟩
  | 111 => ⟨S4352, .f32⟩
  | 112 => ⟨S4352x1024, .f32⟩
  | 113 => ⟨S4352x1024, .f32⟩
  | 114 => ⟨S_, .f32⟩
  | 115 => ⟨S4352x1024, .f32⟩
  | 116 => ⟨S4352x1024, .f32⟩
  | 117 => ⟨S_, .f32⟩
  | 118 => ⟨S4352x1024, .f32⟩
  | 119 => ⟨S4352x1024, .f32⟩
  | 120 => ⟨S4352x2816, .f32⟩
  | 121 => ⟨S4352x2816, .f32⟩
  | 122 => ⟨S4352x2816, .f32⟩
  | 123 => ⟨S4352x2816, .f32⟩
  | 124 => ⟨S4352x2816, .f32⟩
  | 125 => ⟨S4352x2816, .f32⟩
  | 126 => ⟨S4352x2816, .f32⟩
  | 127 => ⟨S4352x1024, .f32⟩
  | _ => ⟨S4352x1024, .f32⟩

abbrev hbmTy0_1 (i : Nat) : BufTy := match i % 128 with
  | 0 => ⟨S4352x1024, .f32⟩
  | 1 => ⟨S4352x1024, .f32⟩
  | 2 => ⟨S4352x1024, .f32⟩
  | 3 => ⟨S4352x2816, .f32⟩
  | 4 => ⟨S4352x2816, .f32⟩
  | 5 => ⟨S4352x2816, .f32⟩
  | 6 => ⟨S_, .f32⟩
  | 7 => ⟨S4352x2816, .f32⟩
  | 8 => ⟨S4352x2816, .f32⟩
  | 9 => ⟨S_, .f32⟩
  | 10 => ⟨S4352x2816, .f32⟩
  | 11 => ⟨S4352x2816, .f32⟩
  | 12 => ⟨S4352x2816, .f32⟩
  | 13 => ⟨S4352x2816, .f32⟩
  | 14 => ⟨S4352x2816, .f32⟩
  | 15 => ⟨S4352x2816, .bf16⟩
  | 16 => ⟨S4352x2816, .bf16⟩
  | 17 => ⟨S4352x2816, .bf16⟩
  | 18 => ⟨S4352x1024, .bf16⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v6_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v6_1 : Ref sig .tc := ⟨.hbm, 27, rfl⟩
abbrev main_v6_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_3 : Ref sig .tc := ⟨.hbm, 39, rfl⟩
abbrev main_v15 : Ref sig .tc := ⟨.hbm, 40, rfl⟩
abbrev main_v16 : Ref sig .tc := ⟨.hbm, 41, rfl⟩
abbrev main_cst_4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_v22 : Ref sig .tc := ⟨.hbm, 49, rfl⟩
abbrev main_v23 : Ref sig .tc := ⟨.hbm, 50, rfl⟩
abbrev main_cst_6 : Ref sig .tc := ⟨.hbm, 51, rfl⟩
abbrev main_v24 : Ref sig .tc := ⟨.hbm, 52, rfl⟩
abbrev main_v25 : Ref sig .tc := ⟨.hbm, 53, rfl⟩
abbrev main_cst_7 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_16 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_17 : Ref sig .tc := ⟨.hbm, 107, rfl⟩
abbrev main_v69 : Ref sig .tc := ⟨.hbm, 108, rfl⟩
abbrev main_v70 : Ref sig .tc := ⟨.hbm, 109, rfl⟩
abbrev main_cst_18 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_cst_20 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_call2_v5 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩

abbrev nD : Nat := 1
abbrev τ : Topo := Topo.v7x

variable {F : FTy → Type} [FloatOps F]
-- ==== Kernel2.lean ====
abbrev S4352x2816 : Shape := ⟨2, ![4352, 2816]⟩
abbrev S4352x1024 : Shape := ⟨2, ![4352, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4352x2816, .f32⟩
  | .hbm, ⟨1, _⟩ => ⟨S4352x1024, .f32⟩
  | .hbm, ⟨2, _⟩ => ⟨S4352x2816, .bf16⟩
  | .hbm, ⟨3, _⟩ => ⟨S4352x1024, .bf16⟩
  | .hbm, ⟨4, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4352x2816 : Shape := ⟨2, ![4352, 2816]⟩
abbrev S4352x1024 : Shape := ⟨2, ![4352, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x2816, .f32⟩
  | .hbm, ⟨1, _⟩ => ⟨S4352x1024, .f32⟩
  | .hbm, ⟨2, _⟩ => ⟨S_, .f32⟩
  | .hbm, ⟨3, _⟩ => ⟨S1024x2816, .f32⟩
  | .hbm, ⟨4, _⟩ => ⟨S4352x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4352x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4352x2816 : Shape := ⟨2, ![4352, 2816]⟩
abbrev S4352x1024 : Shape := ⟨2, ![4352, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4352x2816, .f32⟩
  | .hbm, ⟨1, _⟩ => ⟨S4352x1024, .f32⟩
  | .hbm, ⟨2, _⟩ => ⟨S4352x2816, .bf16⟩
  | .hbm, ⟨3, _⟩ => ⟨S4352x1024, .bf16⟩
  | .hbm, ⟨4, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4352x2816, .f32⟩
  | .hbm, ⟨1, _⟩ => ⟨S4352x1024, .f32⟩
  | .hbm, ⟨2, _⟩ => ⟨S_, .f32⟩
  | .hbm, ⟨3, _⟩ => ⟨S2816x1024, .f32⟩
  | .hbm, ⟨4, _⟩ => ⟨S4352x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4352x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4352x1024 : Shape := ⟨2, ![4352, 1024]⟩
abbrev S1024x1024 : Shape := ⟨2, ![1024, 1024]⟩
abbrev S2176x512 : Shape := ⟨2, ![2176, 512]⟩
abbrev S2176x1024 : Shape := ⟨2, ![2176, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .bf16⟩
  | .hbm, ⟨3, _⟩ => ⟨S4352x1024, .bf16⟩
  | .hbm, ⟨4, _⟩ => ⟨S1024x1024, .bf16⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S2176x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4352x1792 : Shape := ⟨2, ![4352, 1792]⟩
abbrev S4352x1024 : Shape := ⟨2, ![4352, 1024]⟩
abbrev S1792x1024 : Shape := ⟨2, ![1792, 1024]⟩
abbrev S2176x896 : Shape := ⟨2, ![2176, 896]⟩
abbrev S2176x1024 : Shape := ⟨2, ![2176, 1024]⟩
abbrev S896x1024 : Shape := ⟨2, ![896, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4352x1792, .f32⟩
  | .hbm, ⟨1, _⟩ => ⟨S4352x1024, .f32⟩
  | .hbm, ⟨2, _⟩ => ⟨S4352x1792, .bf16⟩
  | .hbm, ⟨3, _⟩ => ⟨S4352x1024, .bf16⟩
  | .hbm, ⟨4, _⟩ => ⟨S1792x1024, .bf16⟩
  | .local _ .vmem, ⟨0, _⟩ => ⟨S2176x896, .bf16⟩
  | .local _ .vmem, ⟨1, _⟩ => ⟨S2176x896, .bf16⟩
  | .local _ .vmem, ⟨2, _⟩ => ⟨S2176x1024, .bf16⟩
  | .local _ .vmem, ⟨3, _⟩ => ⟨S2176x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4352x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4352x1792 : Shape := ⟨2, ![4352, 1792]⟩
abbrev S4352x1024 : Shape := ⟨2, ![4352, 1024]⟩
abbrev S_ : Shape := ⟨0, ![]⟩
abbrev S1024x1792 : Shape := ⟨2, ![1024, 1792]⟩
abbrev S1792x1024 : Shape := ⟨2, ![1792, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1792, .f32⟩
  | .hbm, ⟨1, _⟩ => ⟨S4352x1024, .f32⟩
  | .hbm, ⟨2, _⟩ => ⟨S_, .f32⟩
  | .hbm, ⟨3, _⟩ => ⟨S1024x1792, .f32⟩
  | .hbm, ⟨4, _⟩ => ⟨S4352x1792, .f32⟩
  | .hbm, ⟨5, _⟩ => ⟨S1792x1024, .f32⟩
  | .hbm, ⟨6, _⟩ => ⟨S1024x1792, .f32⟩
  | .hbm, ⟨7, _⟩ => ⟨S1792x1024, .f32⟩
  | .hbm, ⟨8, _⟩ => ⟨S1792x1024, .bf16⟩
  | _, _ => ⟨S4352x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel6Ideal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel7Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference7Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel8Ideal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S16x64 : Shape := ⟨2, ![16, 64]⟩

abbrev nBuf : Space → Nat
  | .hbm => 7
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel9Ideal.lean ====
abbrev S16x64 : Shape := ⟨2, ![16, 64]⟩

abbrev nBuf : Space → Nat
  | .hbm => 7
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S16x64 : Shape := ⟨2, ![16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S_, .f32⟩
  | .hbm, ⟨5, _⟩ => ⟨S16x64, .f32⟩
  | .hbm, ⟨6, _⟩ => ⟨S16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S_, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S_, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S_, .f32⟩
  | .hbm, ⟨20, _⟩ => ⟨S16x64, .f32⟩
  | .hbm, ⟨21, _⟩ => ⟨S16x64, .f32⟩
  | .hbm, ⟨22, _⟩ => ⟨S_, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S_, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16x64, .f32⟩
  | .hbm, ⟨36, _⟩ => ⟨S16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S2048x64 : Shape := ⟨2, ![2048, 64]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
abbrev S2048x64 : Shape := ⟨2, ![2048, 64]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2048x64 : Shape := ⟨2, ![2048, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S2048x64, .f32⟩
  | .hbm, ⟨6, _⟩ => ⟨S2048x64, .f32⟩
  | .hbm, ⟨7, _⟩ => ⟨S_, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S_, .f32⟩
  | .hbm, ⟨20, _⟩ => ⟨S2048x64, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S_, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S4x8 : Shape := ⟨2, ![4, 8]⟩

abbrev nBuf : Space → Nat
  | .hbm => 7
  | .vmem => 7
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S4x8, .f32⟩
  | .hbm, ⟨5, _⟩ => ⟨S4x8, .f32⟩
  | .hbm, ⟨6, _⟩ => ⟨S4x8, .f32⟩
  | .local _ .vmem, ⟨0, _⟩ => ⟨S4x8, .f32⟩
  | .local _ .vmem, ⟨1, _⟩ => ⟨S4x8, .f32⟩
  | .local _ .vmem, ⟨2, _⟩ => ⟨S4x8, .f32⟩
  | .local _ .vmem, ⟨3, _⟩ => ⟨S4x8, .f32⟩
  | .local _ .vmem, ⟨4, _⟩ => ⟨S4x8, .f32⟩
  | .local _ .vmem, ⟨5, _⟩ => ⟨S4x8, .f32⟩
  | .local _ .vmem, ⟨6, _⟩ => ⟨S4x8, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S4x8 : Shape := ⟨2, ![4, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S_, .f32⟩
  | .hbm, ⟨5, _⟩ => ⟨S4x8, .f32⟩
  | .hbm, ⟨6, _⟩ => ⟨S4x8, .f32⟩
  | .hbm, ⟨7, _⟩ => ⟨S_, .f32⟩
  | .hbm, ⟨8, _⟩ => ⟨S4x8, .f32⟩
  | .hbm, ⟨9, _⟩ => ⟨S4x8, .f32⟩
  | .hbm, ⟨10, _⟩ => ⟨S4x8, .f32⟩
  | .hbm, ⟨11, _⟩ => ⟨S_, .f32⟩
  | .hbm, ⟨12, _⟩ => ⟨S4x8, .f32⟩
  | .hbm, ⟨13, _⟩ => ⟨S4x8, .f32⟩
  | .hbm, ⟨14, _⟩ => ⟨S4x8, .f32⟩
  | .hbm, ⟨15, _⟩ => ⟨S_, .f32⟩
  | .hbm, ⟨16, _⟩ => ⟨S4x8, .f32⟩
  | .hbm, ⟨17, _⟩ => ⟨S4x8, .f32⟩
  | .hbm, ⟨18, _⟩ => ⟨S4x8, .f32⟩
  | .hbm, ⟨19, _⟩ => ⟨S_, .f32⟩
  | .hbm, ⟨20, _⟩ => ⟨S4x8, .f32⟩
  | .hbm, ⟨21, _⟩ => ⟨S4x8, .f32⟩
  | .hbm, ⟨22, _⟩ => ⟨S_, .f32⟩
  | .hbm, ⟨23, _⟩ => ⟨S4x8, .f32⟩
  | .hbm, ⟨24, _⟩ => ⟨S4x8, .f32⟩
  | .hbm, ⟨25, _⟩ => ⟨S4x8, .f32⟩
  | .hbm, ⟨26, _⟩ => ⟨S_, .f32⟩
  | .hbm, ⟨27, _⟩ => ⟨S4x8, .f32⟩
  | .hbm, ⟨28, _⟩ => ⟨S4x8, .f32⟩
  | .hbm, ⟨29, _⟩ => ⟨S4x8, .f32⟩
  | .hbm, ⟨30, _⟩ => ⟨S_, .f32⟩
  | .hbm, ⟨31, _⟩ => ⟨S4x8, .f32⟩
  | .hbm, ⟨32, _⟩ => ⟨S4x8, .f32⟩
  | .hbm, ⟨33, _⟩ => ⟨S4x8, .f32⟩
  | .hbm, ⟨34, _⟩ => ⟨S_, .f32⟩
  | .hbm, ⟨35, _⟩ => ⟨S4x8, .f32⟩
  | .hbm, ⟨36, _⟩ => ⟨S4x8, .f32⟩
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S4352x1024 : Shape := ⟨2, ![4352, 1024]⟩
abbrev S1024x2816 : Shape := ⟨2, ![1024, 2816]⟩
abbrev S2816x1024 : Shape := ⟨2, ![2816, 1024]⟩
abbrev S1x1024 : Shape := ⟨2, ![1, 1024]⟩
abbrev S8x352x1024 : Shape := ⟨3, ![8, 352, 1024]⟩
abbrev S8x1056x1024 : Shape := ⟨3, ![8, 1056, 1024]⟩
abbrev S4352x2816 : Shape := ⟨2, ![4352, 2816]⟩
abbrev S256x1024 : Shape := ⟨2, ![256, 1024]⟩
abbrev S256x2816 : Shape := ⟨2, ![256, 2816]⟩
abbrev S3x8 : Shape := ⟨2, ![3, 8]⟩
abbrev S1x1 : Shape := ⟨2, ![1, 1]⟩
abbrev S_ : Shape := ⟨0, ![]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩

abbrev nBuf : Space → Nat
  | .hbm => 20
  | .vmem => 17
  | .smem => 0
  | _ => 0

abbrev bufTy : (tb : Table) → Fin (tcTables nBuf tb) → BufTy
  | .hbm, ⟨0, _⟩ => ⟨S4352x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S8x352x1024, .bf16⟩
  | .hbm, ⟨10, _⟩ => ⟨S2816x1024, .bf16⟩
  | .hbm, ⟨11, _⟩ => ⟨S8x352x1024, .bf16⟩
  | .hbm, ⟨12, _⟩ => ⟨S2816x1024, .bf16⟩
  | .hbm, ⟨13, _⟩ => ⟨S8x352x1024, .bf16⟩
  | .hbm, ⟨14, _⟩ => ⟨S8x1056x1024, .bf16⟩
  | .hbm, ⟨15, _⟩ => ⟨S4352x1024, .f32⟩
  | .hbm, ⟨16, _⟩ => ⟨S4352x2816, .f32⟩
  | .hbm, ⟨17, _⟩ => ⟨S4352x2816, .f32⟩
  | .hbm, ⟨18, _⟩ => ⟨S4352x1024, .f32⟩
  | .hbm, ⟨19, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x2816, .f32⟩
  | .local _ .vmem, ⟨7, _⟩ => ⟨S256x2816, .f32⟩
  | .local _ .vmem, ⟨8, _⟩ => ⟨S256x2816, .f32⟩
  | .local _ .vmem, ⟨9, _⟩ => ⟨S256x2816, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S2816x1024, .bf16⟩
  | .local _ .vmem, ⟨15, _⟩ => ⟨S2816x1024, .bf16⟩
  | .local _ .vmem, ⟨16, _⟩ => ⟨S2816x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4352x1024 : Shape := ⟨2, ![4352, 1024]⟩
abbrev S1024x2816 : Shape := ⟨2, ![1024, 2816]⟩
abbrev S2816x1024 : Shape := ⟨2, ![2816, 1024]⟩
abbrev S1x1024 : Shape := ⟨2, ![1, 1024]⟩
abbrev S4352x2816 : Shape := ⟨2, ![4352, 2816]⟩
abbrev S_ : Shape := ⟨0, ![]⟩
abbrev S4352 : Shape := ⟨1, ![4352]⟩
abbrev S4352x1 : Shape := ⟨2, ![4352, 1]⟩

abbrev nBuf : Space → Nat
  | .hbm => 54
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S4352x2816, .f32⟩
  | .hbm, ⟨7, _⟩ => ⟨S4352x2816, .f32⟩
  | .hbm, ⟨8, _⟩ => ⟨S_, .f32⟩
  | .hbm, ⟨9, _⟩ => ⟨S4352x1024, .f32⟩
  | .hbm, ⟨10, _⟩ => ⟨S4352x1024, .f32⟩
  | .hbm, ⟨11, _⟩ => ⟨S4352x2816, .f32⟩
  | .hbm, ⟨12, _⟩ => ⟨S4352x2816, .f32⟩
  | .hbm, ⟨13, _⟩ => ⟨S_, .f32⟩
  | .hbm, ⟨14, _⟩ => ⟨S4352x2816, .f32⟩
  | .hbm, ⟨15, _⟩ => ⟨S4352x2816, .f32⟩
  | .hbm, ⟨16, _⟩ => ⟨S_, .f32⟩
  | .hbm, ⟨17, _⟩ => ⟨S4352x2816, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x1024, .f32⟩
  | .hbm, ⟨22, _⟩ => ⟨S_, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352, .f32⟩
  | .hbm, ⟨28, _⟩ => ⟨S4352x1, .f32⟩
  | .hbm, ⟨29, _⟩ => ⟨S_, .f32⟩
  | .hbm, ⟨30, _⟩ => ⟨S4352x1, .f32⟩
  | .hbm, ⟨31, _⟩ => ⟨S4352x1, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S_, .f32⟩
  | .hbm, ⟨36, _⟩ => ⟨S4352, .f32⟩
  | .hbm, ⟨37, _⟩ => ⟨S4352x1, .f32⟩
  | .hbm, ⟨38, _⟩ => ⟨S_, .f32⟩
  | .hbm, ⟨39, _⟩ => ⟨S4352x1, .f32⟩
  | .hbm, ⟨40, _⟩ => ⟨S4352x1, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S4352x1, .f32⟩
  | .hbm, ⟨45, _⟩ => ⟨S4352x1, .f32⟩
  | .hbm, ⟨46, _⟩ => ⟨S4352x1, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Kernel13.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S352x1024, .bf16⟩
  | .local _ .vmem, ⟨9, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel13Ideal.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S352x1024, .bf16⟩
  | .local _ .vmem, ⟨9, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S7x352x1024 : Shape := ⟨3, ![7, 352, 1024]⟩
abbrev S_ : Shape := ⟨0, ![]⟩
abbrev S352x1024 : Shape := ⟨2, ![352, 1024]⟩
abbrev S3x352x1024 : Shape := ⟨3, ![3, 352, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S1x352x1024, .bf16⟩
  | .hbm, ⟨10, _⟩ => ⟨S7x352x1024, .bf16⟩
  | .hbm, ⟨11, _⟩ => ⟨S8x352x1024, .bf16⟩
  | .hbm, ⟨12, _⟩ => ⟨S8x352x1024, .f32⟩
  | .hbm, ⟨13, _⟩ => ⟨S_, .f32⟩
  | .hbm, ⟨14, _⟩ => ⟨S352x1024, .f32⟩
  | .hbm, ⟨15, _⟩ => ⟨S1x352x1024, .f32⟩
  | .hbm, ⟨16, _⟩ => ⟨S352x1024, .f32⟩
  | .hbm, ⟨17, _⟩ => ⟨S1x352x1024, .f32⟩
  | .hbm, ⟨18, _⟩ => ⟨S352x1024, .f32⟩
  | .hbm, ⟨19, _⟩ => ⟨S1x352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S_, .f32⟩
  | .hbm, ⟨48, _⟩ => ⟨S352x1024, .f32⟩
  | .hbm, ⟨49, _⟩ => ⟨S352x1024, .f32⟩
  | .hbm, ⟨50, _⟩ => ⟨S352x1024, .f32⟩
  | .hbm, ⟨51, _⟩ => ⟨S_, .f32⟩
  | .hbm, ⟨52, _⟩ => ⟨S352x1024, .f32⟩
  | .hbm, ⟨53, _⟩ => ⟨S352x1024, .f32⟩
  | .hbm, ⟨54, _⟩ => ⟨S3x352x1024, .f32⟩
  | .hbm, ⟨55, _⟩ => ⟨S1x352x1024, .f32⟩
  | .hbm, ⟨56, _⟩ => ⟨S4x352x1024, .f32⟩
  | .hbm, ⟨57, _⟩ => ⟨S3x352x1024, .f32⟩
  | .hbm, ⟨58, _⟩ => ⟨S1x352x1024, .f32⟩
  | .hbm, ⟨59, _⟩ => ⟨S4x352x1024, .f32⟩
  | .hbm, ⟨60, _⟩ => ⟨S3x352x1024, .f32⟩
  | .hbm, ⟨61, _⟩ => ⟨S1x352x1024, .f32⟩
  | .hbm, ⟨62, _⟩ => ⟨S4x352x1024, .f32⟩
  | .hbm, ⟨63, _⟩ => ⟨S3x352x1024, .f32⟩
  | .hbm, ⟨64, _⟩ => ⟨S1x352x1024, .f32⟩
  | .hbm, ⟨65, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel14.lean ====
abbrev S8x224x1024 : Shape := ⟨3, ![8, 224, 1024]⟩
abbrev S4x224x1024 : Shape := ⟨3, ![4, 224, 1024]⟩
abbrev S1x224x1024 : Shape := ⟨3, ![1, 224, 1024]⟩
abbrev S224x1024 : Shape := ⟨2, ![224, 1024]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .bf16⟩
  | .hbm, ⟨2, _⟩ => ⟨S4x224x1024, .f32⟩
  | .hbm, ⟨3, _⟩ => ⟨S4x224x1024, .f32⟩
  | .hbm, ⟨4, _⟩ => ⟨S4x224x1024, .f32⟩
  | .hbm, ⟨5, _⟩ => ⟨S4x224x1024, .f32⟩
  | .hbm, ⟨6, _⟩ => ⟨S4x224x1024, .f32⟩
  | .hbm, ⟨7, _⟩ => ⟨S4x224x1024, .f32⟩
  | .hbm, ⟨8, _⟩ => ⟨S4x224x1024, .f32⟩
  | .hbm, ⟨9, _⟩ => ⟨S4x224x1024, .f32⟩
  | .hbm, ⟨10, _⟩ => ⟨S4x224x1024, .f32⟩
  | .hbm, ⟨11, _⟩ => ⟨S4x224x1024, .f32⟩
  | .hbm, ⟨12, _⟩ => ⟨S4x224x1024, .f32⟩
  | .local _ .vmem, ⟨0, _⟩ => ⟨S8x224x1024, .bf16⟩
  | .local _ .vmem, ⟨1, _⟩ => ⟨S1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S224x1024, .bf16⟩
  | .local _ .vmem, ⟨9, _⟩ => ⟨S224x1024, .f32⟩
  | _, _ => ⟨S8x224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

abbrev stage0_0 : Fin 1 → Memref sig .tc .vmem S8x224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x224x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x224x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x224x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x224x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel14Ideal.lean ====
abbrev S8x224x1024 : Shape := ⟨3, ![8, 224, 1024]⟩
abbrev S4x224x1024 : Shape := ⟨3, ![4, 224, 1024]⟩
abbrev S1x224x1024 : Shape := ⟨3, ![1, 224, 1024]⟩
abbrev S224x1024 : Shape := ⟨2, ![224, 1024]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .bf16⟩
  | .hbm, ⟨2, _⟩ => ⟨S4x224x1024, .f32⟩
  | .hbm, ⟨3, _⟩ => ⟨S4x224x1024, .f32⟩
  | .hbm, ⟨4, _⟩ => ⟨S4x224x1024, .f32⟩
  | .hbm, ⟨5, _⟩ => ⟨S4x224x1024, .f32⟩
  | .hbm, ⟨6, _⟩ => ⟨S4x224x1024, .f32⟩
  | .hbm, ⟨7, _⟩ => ⟨S4x224x1024, .f32⟩
  | .hbm, ⟨8, _⟩ => ⟨S4x224x1024, .f32⟩
  | .hbm, ⟨9, _⟩ => ⟨S4x224x1024, .f32⟩
  | .hbm, ⟨10, _⟩ => ⟨S4x224x1024, .f32⟩
  | .hbm, ⟨11, _⟩ => ⟨S4x224x1024, .f32⟩
  | .hbm, ⟨12, _⟩ => ⟨S4x224x1024, .f32⟩
  | .local _ .vmem, ⟨0, _⟩ => ⟨S8x224x1024, .bf16⟩
  | .local _ .vmem, ⟨1, _⟩ => ⟨S1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S224x1024, .bf16⟩
  | .local _ .vmem, ⟨9, _⟩ => ⟨S224x1024, .f32⟩
  | _, _ => ⟨S8x224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

abbrev stage0_0 : Fin 1 → Memref sig .tc .vmem S8x224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x224x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x224x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x224x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x224x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S8x224x1024 : Shape := ⟨3, ![8, 224, 1024]⟩
abbrev S4x224x1024 : Shape := ⟨3, ![4, 224, 1024]⟩
abbrev S1x224x1024 : Shape := ⟨3, ![1, 224, 1024]⟩
abbrev S7x224x1024 : Shape := ⟨3, ![7, 224, 1024]⟩
abbrev S_ : Shape := ⟨0, ![]⟩
abbrev S224x1024 : Shape := ⟨2, ![224, 1024]⟩
abbrev S3x224x1024 : Shape := ⟨3, ![3, 224, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .bf16⟩
  | .hbm, ⟨2, _⟩ => ⟨S4x224x1024, .f32⟩
  | .hbm, ⟨3, _⟩ => ⟨S4x224x1024, .f32⟩
  | .hbm, ⟨4, _⟩ => ⟨S4x224x1024, .f32⟩
  | .hbm, ⟨5, _⟩ => ⟨S4x224x1024, .f32⟩
  | .hbm, ⟨6, _⟩ => ⟨S4x224x1024, .f32⟩
  | .hbm, ⟨7, _⟩ => ⟨S4x224x1024, .f32⟩
  | .hbm, ⟨8, _⟩ => ⟨S4x224x1024, .f32⟩
  | .hbm, ⟨9, _⟩ => ⟨S1x224x1024, .bf16⟩
  | .hbm, ⟨10, _⟩ => ⟨S7x224x1024, .bf16⟩
  | .hbm, ⟨11, _⟩ => ⟨S8x224x1024, .bf16⟩
  | .hbm, ⟨12, _⟩ => ⟨S8x224x1024, .f32⟩
  | .hbm, ⟨13, _⟩ => ⟨S_, .f32⟩
  | .hbm, ⟨14, _⟩ => ⟨S224x1024, .f32⟩
  | .hbm, ⟨15, _⟩ => ⟨S1x224x1024, .f32⟩
  | .hbm, ⟨16, _⟩ => ⟨S224x1024, .f32⟩
  | .hbm, ⟨17, _⟩ => ⟨S1x224x1024, .f32⟩
  | .hbm, ⟨18, _⟩ => ⟨S224x1024, .f32⟩
  | .hbm, ⟨19, _⟩ => ⟨S1x224x1024, .f32⟩
  | .hbm, ⟨20, _⟩ => ⟨S224x1024, .f32⟩
  | .hbm, ⟨21, _⟩ => ⟨S_, .f32⟩
  | .hbm, ⟨22, _⟩ => ⟨S224x1024, .f32⟩
  | .hbm, ⟨23, _⟩ => ⟨S224x1024, .f32⟩
  | .hbm, ⟨24, _⟩ => ⟨S_, .f32⟩
  | .hbm, ⟨25, _⟩ => ⟨S224x1024, .f32⟩
  | .hbm, ⟨26, _⟩ => ⟨S224x1024, .f32⟩
  | .hbm, ⟨27, _⟩ => ⟨S224x1024, .f32⟩
  | .hbm, ⟨28, _⟩ => ⟨S_, .f32⟩
  | .hbm, ⟨29, _⟩ => ⟨S224x1024, .f32⟩
  | .hbm, ⟨30, _⟩ => ⟨S224x1024, .f32⟩
  | .hbm, ⟨31, _⟩ => ⟨S224x1024, .f32⟩
  | .hbm, ⟨32, _⟩ => ⟨S_, .f32⟩
  | .hbm, ⟨33, _⟩ => ⟨S224x1024, .f32⟩
  | .hbm, ⟨34, _⟩ => ⟨S224x1024, .f32⟩
  | .hbm, ⟨35, _⟩ => ⟨S224x1024, .f32⟩
  | .hbm, ⟨36, _⟩ => ⟨S_, .f32⟩
  | .hbm, ⟨37, _⟩ => ⟨S224x1024, .f32⟩
  | .hbm, ⟨38, _⟩ => ⟨S224x1024, .f32⟩
  | .hbm, ⟨39, _⟩ => ⟨S_, .f32⟩
  | .hbm, ⟨40, _⟩ => ⟨S224x1024, .f32⟩
  | .hbm, ⟨41, _⟩ => ⟨S224x1024, .f32⟩
  | .hbm, ⟨42, _⟩ => ⟨S224x1024, .f32⟩
  | .hbm, ⟨43, _⟩ => ⟨S_, .f32⟩
  | .hbm, ⟨44, _⟩ => ⟨S224x1024, .f32⟩
  | .hbm, ⟨45, _⟩ => ⟨S224x1024, .f32⟩
  | .hbm, ⟨46, _⟩ => ⟨S224x1024, .f32⟩
  | .hbm, ⟨47, _⟩ => ⟨S_, .f32⟩
  | .hbm, ⟨48, _⟩ => ⟨S224x1024, .f32⟩
  | .hbm, ⟨49, _⟩ => ⟨S224x1024, .f32⟩
  | .hbm, ⟨50, _⟩ => ⟨S224x1024, .f32⟩
  | .hbm, ⟨51, _⟩ => ⟨S_, .f32⟩
  | .hbm, ⟨52, _⟩ => ⟨S224x1024, .f32⟩
  | .hbm, ⟨53, _⟩ => ⟨S224x1024, .f32⟩
  | .hbm, ⟨54, _⟩ => ⟨S3x224x1024, .f32⟩
  | .hbm, ⟨55, _⟩ => ⟨S1x224x1024, .f32⟩
  | .hbm, ⟨56, _⟩ => ⟨S4x224x1024, .f32⟩
  | .hbm, ⟨57, _⟩ => ⟨S3x224x1024, .f32⟩
  | .hbm, ⟨58, _⟩ => ⟨S1x224x1024, .f32⟩
  | .hbm, ⟨59, _⟩ => ⟨S4x224x1024, .f32⟩
  | .hbm, ⟨60, _⟩ => ⟨S3x224x1024, .f32⟩
  | .hbm, ⟨61, _⟩ => ⟨S1x224x1024, .f32⟩
  | .hbm, ⟨62, _⟩ => ⟨S4x224x1024, .f32⟩
  | .hbm, ⟨63, _⟩ => ⟨S3x224x1024, .f32⟩
  | .hbm, ⟨64, _⟩ => ⟨S1x224x1024, .f32⟩
  | .hbm, ⟨65, _⟩ => ⟨S4x224x1024, .f32⟩
  | _, _ => ⟨S8x224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel15.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S128x1024, .bf16⟩
  | .local _ .vmem, ⟨9, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference15Ideal.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S7x128x1024 : Shape := ⟨3, ![7, 128, 1024]⟩
abbrev S_ : Shape := ⟨0, ![]⟩
abbrev S128x1024 : Shape := ⟨2, ![128, 1024]⟩
abbrev S3x128x1024 : Shape := ⟨3, ![3, 128, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S1x128x1024, .bf16⟩
  | .hbm, ⟨10, _⟩ => ⟨S7x128x1024, .bf16⟩
  | .hbm, ⟨11, _⟩ => ⟨S8x128x1024, .bf16⟩
  | .hbm, ⟨12, _⟩ => ⟨S8x128x1024, .f32⟩
  | .hbm, ⟨13, _⟩ => ⟨S_, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S1x128x1024, .f32⟩
  | .hbm, ⟨18, _⟩ => ⟨S128x1024, .f32⟩
  | .hbm, ⟨19, _⟩ => ⟨S1x128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | .hbm, ⟨54, _⟩ => ⟨S3x128x1024, .f32⟩
  | .hbm, ⟨55, _⟩ => ⟨S1x128x1024, .f32⟩
  | .hbm, ⟨56, _⟩ => ⟨S4x128x1024, .f32⟩
  | .hbm, ⟨57, _⟩ => ⟨S3x128x1024, .f32⟩
  | .hbm, ⟨58, _⟩ => ⟨S1x128x1024, .f32⟩
  | .hbm, ⟨59, _⟩ => ⟨S4x128x1024, .f32⟩
  | .hbm, ⟨60, _⟩ => ⟨S3x128x1024, .f32⟩
  | .hbm, ⟨61, _⟩ => ⟨S1x128x1024, .f32⟩
  | .hbm, ⟨62, _⟩ => ⟨S4x128x1024, .f32⟩
  | .hbm, ⟨63, _⟩ => ⟨S3x128x1024, .f32⟩
  | .hbm, ⟨64, _⟩ => ⟨S1x128x1024, .f32⟩
  | .hbm, ⟨65, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel16.lean ====
abbrev S4352x1024 : Shape := ⟨2, ![4352, 1024]⟩
abbrev S2x2048x1024 : Shape := ⟨3, ![2, 2048, 1024]⟩
abbrev S_ : Shape := ⟨0, ![]⟩
abbrev S2x2176x1024 : Shape := ⟨3, ![2, 2176, 1024]⟩
abbrev S1x128 : Shape := ⟨2, ![1, 128]⟩
abbrev S256x1024 : Shape := ⟨2, ![256, 1024]⟩
abbrev S256x1 : Shape := ⟨2, ![256, 1]⟩
abbrev S256 : Shape := ⟨1, ![256]⟩
abbrev S1 : Shape := ⟨1, ![1]⟩
abbrev S1x1 : Shape := ⟨2, ![1, 1]⟩

abbrev nBuf : Space → Nat
  | .hbm => 8
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S2x2048x1024, .f32⟩
  | .hbm, ⟨2, _⟩ => ⟨S_, .i32⟩
  | .hbm, ⟨3, _⟩ => ⟨S_, .f32⟩
  | .hbm, ⟨4, _⟩ => ⟨S2x2176x1024, .f32⟩
  | .hbm, ⟨5, _⟩ => ⟨S4352x1024, .f32⟩
  | .hbm, ⟨6, _⟩ => ⟨S1x128, .f32⟩
  | .hbm, ⟨7, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S4352x1024 : Shape := ⟨2, ![4352, 1024]⟩
abbrev S2x2048x1024 : Shape := ⟨3, ![2, 2048, 1024]⟩
abbrev S2x2176x1024 : Shape := ⟨3, ![2, 2176, 1024]⟩
abbrev S_ : Shape := ⟨0, ![]⟩
abbrev S2x2048 : Shape := ⟨2, ![2, 2048]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x2048x1024, .f32⟩
  | .hbm, ⟨2, _⟩ => ⟨S2x2176x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2176x1024, .f32⟩
  | .hbm, ⟨29, _⟩ => ⟨S4352x1024, .f32⟩
  | .hbm, ⟨30, _⟩ => ⟨S1x128, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel17.lean ====
abbrev S4352x1024 : Shape := ⟨2, ![4352, 1024]⟩
abbrev S16x1024 : Shape := ⟨2, ![16, 1024]⟩
abbrev S128x1024 : Shape := ⟨2, ![128, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4352x1024, .f32⟩
  | .hbm, ⟨1, _⟩ => ⟨S16x1024, .f32⟩
  | .local _ .vmem, ⟨0, _⟩ => ⟨S128x1024, .f32⟩
  | .local _ .vmem, ⟨1, _⟩ => ⟨S128x1024, .f32⟩
  | .local _ .vmem, ⟨2, _⟩ => ⟨S16x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c17_i32 : BitVec 32 := 17#32
  let v0 : BitVec 32 := Scalar.muli arg0 c17_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference17Ideal.lean ====
abbrev S4352x1024 : Shape := ⟨2, ![4352, 1024]⟩
abbrev S_ : Shape := ⟨0, ![]⟩
abbrev S16x1024 : Shape := ⟨2, ![16, 1024]⟩
abbrev S2x2048x1024 : Shape := ⟨3, ![2, 2048, 1024]⟩
abbrev S1x16x1024 : Shape := ⟨3, ![1, 16, 1024]⟩
abbrev S2x16x1024 : Shape := ⟨3, ![2, 16, 1024]⟩
abbrev S2x2064x1024 : Shape := ⟨3, ![2, 2064, 1024]⟩
abbrev S2x2176x1024 : Shape := ⟨3, ![2, 2176, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S_, .f32⟩
  | .hbm, ⟨2, _⟩ => ⟨S16x1024, .f32⟩
  | .hbm, ⟨3, _⟩ => ⟨S_, .f32⟩
  | .hbm, ⟨4, _⟩ => ⟨S2x2048x1024, .f32⟩
  | .hbm, ⟨5, _⟩ => ⟨S1x16x1024, .f32⟩
  | .hbm, ⟨6, _⟩ => ⟨S2x16x1024, .f32⟩
  | .hbm, ⟨7, _⟩ => ⟨S2x2064x1024, .f32⟩
  | .hbm, ⟨8, _⟩ => ⟨S_, .f32⟩
  | .hbm, ⟨9, _⟩ => ⟨S2x2048x1024, .f32⟩
  | .hbm, ⟨10, _⟩ => ⟨S2x2176x1024, .f32⟩
  | .hbm, ⟨11, _⟩ => ⟨S2x2064x1024, .f32⟩
  | .hbm, ⟨12, _⟩ => ⟨S2x16x1024, .f32⟩
  | .hbm, ⟨13, _⟩ => ⟨S2x2048x1024, .f32⟩
  | .hbm, ⟨14, _⟩ => ⟨S_, .f32⟩
  | .hbm, ⟨15, _⟩ => ⟨S16x1024, .f32⟩
  | .hbm, ⟨16, _⟩ => ⟨S1x16x1024, .f32⟩
  | .hbm, ⟨17, _⟩ => ⟨S_, .f32⟩
  | .hbm, ⟨18, _⟩ => ⟨S16x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel18.lean ====
abbrev S8x320x1024 : Shape := ⟨3, ![8, 320, 1024]⟩
abbrev S320x1024 : Shape := ⟨2, ![320, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x320x1024, .f32⟩
  | .hbm, ⟨1, _⟩ => ⟨S320x1024, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x1024, .f32⟩
  | _, _ => ⟨S8x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference18Ideal.lean ====
abbrev S8x320x1024 : Shape := ⟨3, ![8, 320, 1024]⟩
abbrev S_ : Shape := ⟨0, ![]⟩
abbrev S320x1024 : Shape := ⟨2, ![320, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x320x1024, .f32⟩
  | .hbm, ⟨1, _⟩ => ⟨S_, .f32⟩
  | .hbm, ⟨2, _⟩ => ⟨S320x1024, .f32⟩
  | _, _ => ⟨S8x320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S4352x1024 : Shape := ⟨2, ![4352, 1024]⟩
abbrev S4352x512 : Shape := ⟨2, ![4352, 512]⟩
abbrev S1024x1792 : Shape := ⟨2, ![1024, 1792]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩
abbrev S4352 : Shape := ⟨1, ![4352]⟩
abbrev S4352x1 : Shape := ⟨2, ![4352, 1]⟩
abbrev S1792x1024 : Shape := ⟨2, ![1792, 1024]⟩
abbrev S8x224x1024 : Shape := ⟨3, ![8, 224, 1024]⟩
abbrev S8x128x1024 : Shape := ⟨3, ![8, 128, 1024]⟩
abbrev S8x352x1024 : Shape := ⟨3, ![8, 352, 1024]⟩
abbrev S256x1024 : Shape := ⟨2, ![256, 1024]⟩
abbrev S256x512 : Shape := ⟨2, ![256, 512]⟩
abbrev S1x8 : Shape := ⟨2, ![1, 8]⟩
abbrev S1x1 : Shape := ⟨2, ![1, 1]⟩
abbrev S128x1024 : Shape := ⟨2, ![128, 1024]⟩
abbrev S1x128x1024 : Shape := ⟨3, ![1, 128, 1024]⟩
abbrev S256 : Shape := ⟨1, ![256]⟩
abbrev S256x1 : Shape := ⟨2, ![256, 1]⟩
abbrev S1024 : Shape := ⟨1, ![1024]⟩
abbrev S512 : Shape := ⟨1, ![512]⟩

abbrev nBuf : Space → Nat
  | .hbm => 61
  | .vmem => 26
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x512, .f32⟩
  | .hbm, ⟨3, _⟩ => ⟨S1024x1792, .f32⟩
  | .hbm, ⟨4, _⟩ => ⟨S1024x1024, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S4352x512, .f32⟩
  | .hbm, ⟨14, _⟩ => ⟨S_, .f32⟩
  | .hbm, ⟨15, _⟩ => ⟨S4352, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1, .f32⟩
  | .hbm, ⟨24, _⟩ => ⟨S4352x512, .f32⟩
  | .hbm, ⟨25, _⟩ => ⟨S4352x512, .f32⟩
  | .hbm, ⟨26, _⟩ => ⟨S4352x512, .f32⟩
  | .hbm, ⟨27, _⟩ => ⟨S4352x512, .f32⟩
  | .hbm, ⟨28, _⟩ => ⟨S4352x512, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S_, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S4352x512, .f32⟩
  | .hbm, ⟨40, _⟩ => ⟨S4352x512, .f32⟩
  | .hbm, ⟨41, _⟩ => ⟨S4352x512, .f32⟩
  | .hbm, ⟨42, _⟩ => ⟨S4352x512, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S1792x1024, .f32⟩
  | .hbm, ⟨47, _⟩ => ⟨S1792x1024, .bf16⟩
  | .hbm, ⟨48, _⟩ => ⟨S8x224x1024, .bf16⟩
  | .hbm, ⟨49, _⟩ => ⟨S1024x1024, .bf16⟩
  | .hbm, ⟨50, _⟩ => ⟨S8x128x1024, .bf16⟩
  | .hbm, ⟨51, _⟩ => ⟨S8x352x1024, .bf16⟩
  | .hbm, ⟨52, _⟩ => ⟨S4352x1024, .f32⟩
  | .hbm, ⟨53, _⟩ => ⟨S4352x1024, .bf16⟩
  | .hbm, ⟨54, _⟩ => ⟨S4352x512, .f32⟩
  | .hbm, ⟨55, _⟩ => ⟨S4352x512, .f32⟩
  | .hbm, ⟨56, _⟩ => ⟨S4352x1024, .bf16⟩
  | .hbm, ⟨57, _⟩ => ⟨S1x1024, .f32⟩
  | .hbm, ⟨58, _⟩ => ⟨S1x1024, .f32⟩
  | .hbm, ⟨59, _⟩ => ⟨S1x512, .f32⟩
  | .hbm, ⟨60, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x1024, .f32⟩
  | .local _ .vmem, ⟨23, _⟩ => ⟨S1x512, .f32⟩
  | .local _ .vmem, ⟨24, _⟩ => ⟨S1x512, .f32⟩
  | .local _ .vmem, ⟨25, _⟩ => ⟨S1024x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev main_v35_3 : Ref sig .tc := ⟨.hbm, 55, rfl⟩
abbrev main_v35_4 : Ref sig .tc := ⟨.hbm, 56, rfl⟩
abbrev main_v35_5 : Ref sig .tc := ⟨.hbm, 57, rfl⟩
abbrev main_v35_6 : Ref sig .tc := ⟨.hbm, 58, rfl⟩
abbrev main_v35_7 : Ref sig .tc := ⟨.hbm, 59, rfl⟩
abbrev main_v35_8 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference19Ideal.lean ====
abbrev S4352x1024 : Shape := ⟨2, ![4352, 1024]⟩
abbrev S4352x512 : Shape := ⟨2, ![4352, 512]⟩
abbrev S1024x1792 : Shape := ⟨2, ![1024, 1792]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩
abbrev S4352 : Shape := ⟨1, ![4352]⟩
abbrev S4352x1 : Shape := ⟨2, ![4352, 1]⟩
abbrev S1024 : Shape := ⟨1, ![1024]⟩
abbrev S512 : Shape := ⟨1, ![512]⟩

abbrev nBuf : Space → Nat
  | .hbm => 216
  | .vmem => 0
  | .smem => 0
  | _ => 0

abbrev hbmTy0_0 (i : Nat) : BufTy := match i % 128 with
  | 0 => ⟨S4352x1024, .f32⟩
  | 1 => ⟨S4352x512, .f32⟩
  | 2 => ⟨S4352x512, .f32⟩
  | 3 => ⟨S1024x1792, .f32⟩
  | 4 => ⟨S1024x1024, .f32⟩
  | 5 => ⟨S1x512, .f32⟩
  | 6 => ⟨S1x512, .f32⟩
  | 7 => ⟨S1x1024, .f32⟩
  | 8 => ⟨S1x1024, .f32⟩
  | 9 => ⟨S4352x1024, .f32⟩
  | 10 => ⟨S_, .f32⟩
  | 11 => ⟨S4352x1024, .f32⟩
  | 12 => ⟨S4352x512, .f32⟩
  | 13 => ⟨S_, .f32⟩
  | 14 => ⟨S4352x512, .f32⟩
  | 15 => ⟨S4352x512, .f32⟩
  | 16 => ⟨S_, .f32⟩
  | 17 => ⟨S4352, .f32⟩
  | 18 => ⟨S4352x1, .f32⟩
  | 19 => ⟨S_, .f32⟩
  | 20 => ⟨S4352x1, .f32⟩
  | 21 => ⟨S4352x1, .f32⟩
  | 22 => ⟨S_, .f32⟩
  | 23 => ⟨S4352x1, .f32⟩
  | 24 => ⟨S4352x1, .f32⟩
  | 25 => ⟨S4352x1, .f32⟩
  | 26 => ⟨S4352x1, .f32⟩
  | 27 => ⟨S_, .f32⟩
  | 28 => ⟨S4352x1, .f32⟩
  | 29 => ⟨S4352x1, .f32⟩
  | 30 => ⟨S4352x512, .f32⟩
  | 31 => ⟨S4352x512, .f32⟩
  | 32 => ⟨S4352x512, .f32⟩
  | 33 => ⟨S4352x512, .f32⟩
  | 34 => ⟨S4352x512, .f32⟩
  | 35 => ⟨S_, .f32⟩
  | 36 => ⟨S4352x512, .f32⟩
  | 37 => ⟨S4352x512, .f32⟩
  | 38 => ⟨S_, .f32⟩
  | 39 => ⟨S4352, .f32⟩
  | 40 => ⟨S4352x1, .f32⟩
  | 41 => ⟨S_, .f32⟩
  | 42 => ⟨S4352x1, .f32⟩
  | 43 => ⟨S4352x1, .f32⟩
  | 44 => ⟨S_, .f32⟩
  | 45 => ⟨S4352x1, .f32⟩
  | 46 => ⟨S4352x1, .f32⟩
  | 47 => ⟨S4352x1, .f32⟩
  | 48 => ⟨S4352x1, .f32⟩
  | 49 => ⟨S_, .f32⟩
  | 50 => ⟨S4352x1, .f32⟩
  | 51 => ⟨S4352x1, .f32⟩
  | 52 => ⟨S4352x512, .f32⟩
  | 53 => ⟨S4352x512, .f32⟩
  | 54 => ⟨S4352x512, .f32⟩
  | 55 => ⟨S4352x512, .f32⟩
  | 56 => ⟨S4352x1024, .f32⟩
  | 57 => ⟨S4352x1024, .f32⟩
  | 58 => ⟨S4352x1024, .f32⟩
  | 59 => ⟨S_, .f32⟩
  | 60 => ⟨S4352x1024, .f32⟩
  | 61 => ⟨S4352x1024, .f32⟩
  | 62 => ⟨S4352x1024, .f32⟩
  | 63 => ⟨S_, .f32⟩
  | 64 => ⟨S4352, .f32⟩
  | 65 => ⟨S4352x1, .f32⟩
  | 66 => ⟨S_, .f32⟩
  | 67 => ⟨S4352x1, .f32⟩
  | 68 => ⟨S4352x1, .f32⟩
  | 69 => ⟨S4352x1024, .f32⟩
  | 70 => ⟨S4352x1024, .f32⟩
  | 71 => ⟨S4352x1024, .f32⟩
  | 72 => ⟨S_, .f32⟩
  | 73 => ⟨S4352x1024, .f32⟩
  | 74 => ⟨S4352x1024, .f32⟩
  | 75 => ⟨S_, .f32⟩
  | 76 => ⟨S4352, .f32⟩
  | 77 => ⟨S4352x1, .f32⟩
  | 78 => ⟨S_, .f32⟩
  | 79 => ⟨S4352x1, .f32⟩
  | 80 => ⟨S4352x1, .f32⟩
  | 81 => ⟨S4352x1024, .f32⟩
  | 82 => ⟨S4352x1024, .f32⟩
  | 83 => ⟨S_, .f32⟩
  | 84 => ⟨S4352x1, .f32⟩
  | 85 => ⟨S4352x1, .f32⟩
  | 86 => ⟨S4352x1, .f32⟩
  | 87 => ⟨S4352x1, .f32⟩
  | 88 => ⟨S_, .f32⟩
  | 89 => ⟨S4352x1, .f32⟩
  | 90 => ⟨S4352x1, .f32⟩
  | 91 => ⟨S4352x1024, .f32⟩
  | 92 => ⟨S4352x1024, .f32⟩
  | 93 => ⟨S4352x1024, .f32⟩
  | 94 => ⟨S4352x1024, .f32⟩
  | 95 => ⟨S4352x1024, .f32⟩
  | 96 => ⟨S4352x1024, .f32⟩
  | 97 => ⟨S4352x1024, .f32⟩
  | 98 => ⟨S_, .f32⟩
  | 99 => ⟨S1024, .f32⟩
  | 100 => ⟨S1x1024, .f32⟩
  | 101 => ⟨S4352x1024, .f32⟩
  | 102 => ⟨S_, .f32⟩
  | 103 => ⟨S1024, .f32⟩
  | 104 => ⟨S1x1024, .f32⟩
  | 105 => ⟨S4352x1024, .f32⟩
  | 106 => ⟨S4352x1024, .f32⟩
  | 107 => ⟨S4352x1024, .f32⟩
  | 108 => ⟨S_, .f32⟩
  | 109 => ⟨S4352, .f32⟩
  | 110 => ⟨S4352x1, .f32⟩
  | 111 => ⟨S4352x1024, .f32⟩
  | 112 => ⟨S4352x1024, .f32⟩
  | 113 => ⟨S4352x1, .f32⟩
  | 114 => ⟨S4352x1024, .f32⟩
  | 115 => ⟨S_, .f32⟩
  | 116 => ⟨S4352, .f32⟩
  | 117 => ⟨S4352x1, .f32⟩
  | 118 => ⟨S_, .f32⟩
  | 119 => ⟨S4352x1, .f32⟩
  | 120 => ⟨S4352x1, .f32⟩
  | 121 => ⟨S_, .f32⟩
  | 122 => ⟨S4352, .f32⟩
  | 123 => ⟨S4352x1024, .f32⟩
  | 124 => ⟨S4352x1024, .f32⟩
  | 125 => ⟨S4352x1024, .f32⟩
  | 126 => ⟨S_, .f32⟩
  | 127 => ⟨S4352, .f32⟩
  | _ => ⟨S4352x1024, .f32⟩

abbrev hbmTy0_1 (i : Nat) : BufTy := match i % 128 with
  | 0 => ⟨S4352x1, .f32⟩
  | 1 => ⟨S4352x1024, .f32⟩
  | 2 => ⟨S4352x1, .f32⟩
  | 3 => ⟨S_, .f32⟩
  | 4 => ⟨S4352x1, .f32⟩
  | 5 => ⟨S4352x1, .f32⟩
  | 6 => ⟨S_, .f32⟩
  | 7 => ⟨S4352, .f32⟩
  | 8 => ⟨S4352x1024, .f32⟩
  | 9 => ⟨S4352x1024, .f32⟩
  | 10 => ⟨S4352x1024, .f32⟩
  | 11 => ⟨S4352x512, .f32⟩
  | 12 => ⟨S4352x512, .f32⟩
  | 13 => ⟨S4352x512, .f32⟩
  | 14 => ⟨S_, .f32⟩
  | 15 => ⟨S512, .f32⟩
  | 16 => ⟨S1x512, .f32⟩
  | 17 => ⟨S4352x512, .f32⟩
  | 18 => ⟨S4352x512, .f32⟩
  | 19 => ⟨S4352x512, .f32⟩
  | 20 => ⟨S_, .f32⟩
  | 21 => ⟨S4352, .f32⟩
  | 22 => ⟨S4352x1, .f32⟩
  | 23 => ⟨S4352x512, .f32⟩
  | 24 => ⟨S4352x512, .f32⟩
  | 25 => ⟨S4352x1, .f32⟩
  | 26 => ⟨S_, .f32⟩
  | 27 => ⟨S4352x1, .f32⟩
  | 28 => ⟨S4352x1, .f32⟩
  | 29 => ⟨S_, .f32⟩
  | 30 => ⟨S4352, .f32⟩
  | 31 => ⟨S4352x512, .f32⟩
  | 32 => ⟨S4352x512, .f32⟩
  | 33 => ⟨S4352x512, .f32⟩
  | 34 => ⟨S4352x512, .f32⟩
  | 35 => ⟨S_, .f32⟩
  | 36 => ⟨S512, .f32⟩
  | 37 => ⟨S1x512, .f32⟩
  | 38 => ⟨S4352x512, .f32⟩
  | 39 => ⟨S4352x512, .f32⟩
  | 40 => ⟨S4352x512, .f32⟩
  | 41 => ⟨S_, .f32⟩
  | 42 => ⟨S4352, .f32⟩
  | 43 => ⟨S4352x1, .f32⟩
  | 44 => ⟨S4352x512, .f32⟩
  | 45 => ⟨S4352x512, .f32⟩
  | 46 => ⟨S4352x1, .f32⟩
  | 47 => ⟨S_, .f32⟩
  | 48 => ⟨S4352x1, .f32⟩
  | 49 => ⟨S4352x1, .f32⟩
  | 50 => ⟨S_, .f32⟩
  | 51 => ⟨S4352, .f32⟩
  | 52 => ⟨S4352x512, .f32⟩
  | 53 => ⟨S4352x512, .f32⟩
  | 54 => ⟨S4352x512, .f32⟩
  | 55 => ⟨S4352x1024, .bf16⟩
  | 56 => ⟨S4352x512, .f32⟩
  | 57 => ⟨S_, .f32⟩
  | 58 => ⟨S4352, .f32⟩
  | 59 => ⟨S4352x1, .f32⟩
  | 60 => ⟨S_, .f32⟩
  | 61 => ⟨S4352x1, .f32⟩
  | 62 => ⟨S4352x1, .f32⟩
  | 63 => ⟨S_, .f32⟩
  | 64 => ⟨S4352x1, .f32⟩
  | 65 => ⟨S4352x1, .f32⟩
  | 66 => ⟨S4352x1, .f32⟩
  | 67 => ⟨S4352x512, .f32⟩
  | 68 => ⟨S4352x512, .f32⟩
  | 69 => ⟨S4352x512, .f32⟩
  | 70 => ⟨S4352x512, .f32⟩
  | 71 => ⟨S4352x512, .f32⟩
  | 72 => ⟨S_, .f32⟩
  | 73 => ⟨S4352, .f32⟩
  | 74 => ⟨S4352x1, .f32⟩
  | 75 => ⟨S_, .f32⟩
  | 76 => ⟨S4352x1, .f32⟩
  | 77 => ⟨S4352x1, .f32⟩
  | 78 => ⟨S_, .f32⟩
  | 79 => ⟨S4352x1, .f32⟩
  | 80 => ⟨S4352x1, .f32⟩
  | 81 => ⟨S4352x1, .f32⟩
  | 82 => ⟨S4352x512, .f32⟩
  | 83 => ⟨S4352x512, .f32⟩
  | 84 => ⟨S4352x512, .f32⟩
  | 85 => ⟨S4352x512, .f32⟩
  | 86 => ⟨S4352x1024, .f32⟩
  | 87 => ⟨S4352x1024, .bf16⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_cst_14 : Ref sig .tc := ⟨.hbm, 75, rfl⟩
abbrev main_v50 : Ref sig .tc := ⟨.hbm, 76, rfl⟩
abbrev main_v51 : Ref sig .tc := ⟨.hbm, 77, rfl⟩
abbrev main_cst_15 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_21 : Ref sig .tc := ⟨.hbm, 115, rfl⟩
abbrev main_v83 : Ref sig .tc := ⟨.hbm, 116, rfl⟩
abbrev main_v84 : Ref sig .tc := ⟨.hbm, 117, rfl⟩
abbrev main_cst_22 : Ref sig .tc := ⟨.hbm, 118, rfl⟩
abbrev main_v85 : Ref sig .tc := ⟨.hbm, 119, rfl⟩
abbrev main_v86 : Ref sig .tc := ⟨.hbm, 120, rfl⟩
abbrev main_cst_23 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_24 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_25 : Ref sig .tc := ⟨.hbm, 131, rfl⟩
abbrev main_v95 : Ref sig .tc := ⟨.hbm, 132, rfl⟩
abbrev main_v96 : Ref sig .tc := ⟨.hbm, 133, rfl⟩
abbrev main_cst_26 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_27 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_28 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_29 : Ref sig .tc := ⟨.hbm, 154, rfl⟩
abbrev main_v114 : Ref sig .tc := ⟨.hbm, 155, rfl⟩
abbrev main_v115 : Ref sig .tc := ⟨.hbm, 156, rfl⟩
abbrev main_cst_30 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_31 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_32 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_33 : Ref sig .tc := ⟨.hbm, 175, rfl⟩
abbrev main_v131 : Ref sig .tc := ⟨.hbm, 176, rfl⟩
abbrev main_v132 : Ref sig .tc := ⟨.hbm, 177, rfl⟩
abbrev main_cst_34 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_35 : Ref sig .tc := ⟨.hbm, 185, rfl⟩
abbrev main_v139 : Ref sig .tc := ⟨.hbm, 186, rfl⟩
abbrev main_v140 : Ref sig .tc := ⟨.hbm, 187, rfl⟩
abbrev main_cst_36 : Ref sig .tc := ⟨.hbm, 188, rfl⟩
abbrev main_v141 : Ref sig .tc := ⟨.hbm, 189, rfl⟩
abbrev main_v142 : Ref sig .tc := ⟨.hbm, 190, rfl⟩
abbrev main_cst_37 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_38 : Ref sig .tc := ⟨.hbm, 200, rfl⟩
abbrev main_v151 : Ref sig .tc := ⟨.hbm, 201, rfl⟩
abbrev main_v152 : Ref sig .tc := ⟨.hbm, 202, rfl⟩
abbrev main_cst_39 : Ref sig .tc := ⟨.hbm, 203, rfl⟩
abbrev main_v153 : Ref sig .tc := ⟨.hbm, 204, rfl⟩
abbrev main_v154 : Ref sig .tc := ⟨.hbm, 205, rfl⟩
abbrev main_cst_40 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩

abbrev nD : Nat := 1
abbrev τ : Topo := Topo.v7x

variable {F : FTy → Type} [FloatOps F]
-- ==== Kernel20.lean ====
abbrev S4352x1792 : Shape := ⟨2, ![4352, 1792]⟩
abbrev S1024x1792 : Shape := ⟨2, ![1024, 1792]⟩
abbrev S1024x1024 : Shape := ⟨2, ![1024, 1024]⟩
abbrev S4352x1024 : Shape := ⟨2, ![4352, 1024]⟩
abbrev S1792x1024 : Shape := ⟨2, ![1792, 1024]⟩
abbrev S8x224x1024 : Shape := ⟨3, ![8, 224, 1024]⟩
abbrev S8x128x1024 : Shape := ⟨3, ![8, 128, 1024]⟩
abbrev S8x352x1024 : Shape := ⟨3, ![8, 352, 1024]⟩
abbrev S544x1792 : Shape := ⟨2, ![544, 1792]⟩
abbrev S544x1024 : Shape := ⟨2, ![544, 1024]⟩
abbrev S1x8 : Shape := ⟨2, ![1, 8]⟩
abbrev S1x1 : Shape := ⟨2, ![1, 1]⟩
abbrev S_ : Shape := ⟨0, ![]⟩
abbrev S224x1024 : Shape := ⟨2, ![224, 1024]⟩
abbrev S1x224x1024 : Shape := ⟨3, ![1, 224, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4352x1792, .f32⟩
  | .hbm, ⟨1, _⟩ => ⟨S1024x1792, .f32⟩
  | .hbm, ⟨2, _⟩ => ⟨S1024x1024, .f32⟩
  | .hbm, ⟨3, _⟩ => ⟨S4352x1024, .f32⟩
  | .hbm, ⟨4, _⟩ => ⟨S4352x1792, .bf16⟩
  | .hbm, ⟨5, _⟩ => ⟨S1792x1024, .f32⟩
  | .hbm, ⟨6, _⟩ => ⟨S1792x1024, .bf16⟩
  | .hbm, ⟨7, _⟩ => ⟨S8x224x1024, .bf16⟩
  | .hbm, ⟨8, _⟩ => ⟨S1024x1024, .bf16⟩
  | .hbm, ⟨9, _⟩ => ⟨S8x128x1024, .bf16⟩
  | .hbm, ⟨10, _⟩ => ⟨S8x352x1024, .bf16⟩
  | .hbm, ⟨11, _⟩ => ⟨S4352x1024, .f32⟩
  | .local _ .vmem, ⟨0, _⟩ => ⟨S544x1792, .bf16⟩
  | .local _ .vmem, ⟨1, _⟩ => ⟨S544x1792, .bf16⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S1792x1024, .bf16⟩
  | _, _ => ⟨S4352x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4352x1792 : Shape := ⟨2, ![4352, 1792]⟩
abbrev S1024x1792 : Shape := ⟨2, ![1024, 1792]⟩
abbrev S1024x1024 : Shape := ⟨2, ![1024, 1024]⟩
abbrev S4352x1024 : Shape := ⟨2, ![4352, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4352x1792, .f32⟩
  | .hbm, ⟨1, _⟩ => ⟨S1024x1792, .f32⟩
  | .hbm, ⟨2, _⟩ => ⟨S1024x1024, .f32⟩
  | .hbm, ⟨3, _⟩ => ⟨S4352x1024, .f32⟩
  | .hbm, ⟨4, _⟩ => ⟨S_, .f32⟩
  | .hbm, ⟨5, _⟩ => ⟨S4352x1024, .f32⟩
  | .hbm, ⟨6, _⟩ => ⟨S4352x1792, .f32⟩
  | .hbm, ⟨7, _⟩ => ⟨S_, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S4352x1024, .f32⟩
  | .hbm, ⟨14, _⟩ => ⟨S4352x1024, .f32⟩
  | _, _ => ⟨S4352x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel21.lean ====
abbrev S4352x1024 : Shape := ⟨2, ![4352, 1024]⟩
abbrev S1024x1792 : Shape := ⟨2, ![1024, 1792]⟩
abbrev S1024x1024 : Shape := ⟨2, ![1024, 1024]⟩
abbrev S1792x1024 : Shape := ⟨2, ![1792, 1024]⟩
abbrev S8x224x1024 : Shape := ⟨3, ![8, 224, 1024]⟩
abbrev S8x128x1024 : Shape := ⟨3, ![8, 128, 1024]⟩
abbrev S8x352x1024 : Shape := ⟨3, ![8, 352, 1024]⟩
abbrev S4352x1792 : Shape := ⟨2, ![4352, 1792]⟩
abbrev S544x1024 : Shape := ⟨2, ![544, 1024]⟩
abbrev S544x1792 : Shape := ⟨2, ![544, 1792]⟩
abbrev S1x8 : Shape := ⟨2, ![1, 8]⟩
abbrev S1x1 : Shape := ⟨2, ![1, 1]⟩
abbrev S_ : Shape := ⟨0, ![]⟩
abbrev S224x1024 : Shape := ⟨2, ![224, 1024]⟩
abbrev S1x224x1024 : Shape := ⟨3, ![1, 224, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x1792, .f32⟩
  | .hbm, ⟨2, _⟩ => ⟨S1024x1024, .f32⟩
  | .hbm, ⟨3, _⟩ => ⟨S1792x1024, .f32⟩
  | .hbm, ⟨4, _⟩ => ⟨S1792x1024, .bf16⟩
  | .hbm, ⟨5, _⟩ => ⟨S8x224x1024, .bf16⟩
  | .hbm, ⟨6, _⟩ => ⟨S1024x1024, .bf16⟩
  | .hbm, ⟨7, _⟩ => ⟨S8x128x1024, .bf16⟩
  | .hbm, ⟨8, _⟩ => ⟨S8x352x1024, .bf16⟩
  | .hbm, ⟨9, _⟩ => ⟨S4352x1792, .f32⟩
  | .local _ .vmem, ⟨0, _⟩ => ⟨S544x1024, .f32⟩
  | .local _ .vmem, ⟨1, _⟩ => ⟨S544x1024, .f32⟩
  | .local _ .vmem, ⟨2, _⟩ => ⟨S544x1792, .f32⟩
  | .local _ .vmem, ⟨3, _⟩ => ⟨S544x1792, .f32⟩
  | .local _ .vmem, ⟨4, _⟩ => ⟨S1792x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference21Ideal.lean ====
abbrev S4352x1024 : Shape := ⟨2, ![4352, 1024]⟩
abbrev S1024x1792 : Shape := ⟨2, ![1024, 1792]⟩
abbrev S1024x1024 : Shape := ⟨2, ![1024, 1024]⟩
abbrev S4352x1792 : Shape := ⟨2, ![4352, 1792]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1792, .f32⟩
  | .hbm, ⟨2, _⟩ => ⟨S1024x1024, .f32⟩
  | .hbm, ⟨3, _⟩ => ⟨S4352x1792, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel22.lean ====
abbrev S4352x512 : Shape := ⟨2, ![4352, 512]⟩
abbrev S4352x1024 : Shape := ⟨2, ![4352, 1024]⟩
abbrev S1024x1792 : Shape := ⟨2, ![1024, 1792]⟩
abbrev S1024x1024 : Shape := ⟨2, ![1024, 1024]⟩
abbrev S1x512 : Shape := ⟨2, ![1, 512]⟩
abbrev S1x1024 : Shape := ⟨2, ![1, 1024]⟩
abbrev S1792x1024 : Shape := ⟨2, ![1792, 1024]⟩
abbrev S8x224x1024 : Shape := ⟨3, ![8, 224, 1024]⟩
abbrev S8x128x1024 : Shape := ⟨3, ![8, 128, 1024]⟩
abbrev S8x352x1024 : Shape := ⟨3, ![8, 352, 1024]⟩
abbrev S256x512 : Shape := ⟨2, ![256, 512]⟩
abbrev S256x1024 : Shape := ⟨2, ![256, 1024]⟩
abbrev S1x8 : Shape := ⟨2, ![1, 8]⟩
abbrev S1x1 : Shape := ⟨2, ![1, 1]⟩
abbrev S_ : Shape := ⟨0, ![]⟩
abbrev S128x1024 : Shape := ⟨2, ![128, 1024]⟩
abbrev S1x128x1024 : Shape := ⟨3, ![1, 128, 1024]⟩
abbrev S256 : Shape := ⟨1, ![256]⟩
abbrev S256x1 : Shape := ⟨2, ![256, 1]⟩
abbrev S512x1024 : Shape := ⟨2, ![512, 1024]⟩

abbrev nBuf : Space → Nat
  | .hbm => 18
  | .vmem => 17
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x1024, .f32⟩
  | .hbm, ⟨3, _⟩ => ⟨S1024x1792, .f32⟩
  | .hbm, ⟨4, _⟩ => ⟨S1024x1024, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1x1024, .f32⟩
  | .hbm, ⟨9, _⟩ => ⟨S1792x1024, .f32⟩
  | .hbm, ⟨10, _⟩ => ⟨S1792x1024, .bf16⟩
  | .hbm, ⟨11, _⟩ => ⟨S8x224x1024, .bf16⟩
  | .hbm, ⟨12, _⟩ => ⟨S1024x1024, .bf16⟩
  | .hbm, ⟨13, _⟩ => ⟨S8x128x1024, .bf16⟩
  | .hbm, ⟨14, _⟩ => ⟨S8x352x1024, .bf16⟩
  | .hbm, ⟨15, _⟩ => ⟨S4352x1024, .f32⟩
  | .hbm, ⟨16, _⟩ => ⟨S4352x1024, .f32⟩
  | .hbm, ⟨17, _⟩ => ⟨S4352x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference22Ideal.lean ====
abbrev S4352x512 : Shape := ⟨2, ![4352, 512]⟩
abbrev S4352x1024 : Shape := ⟨2, ![4352, 1024]⟩
abbrev S1024x1792 : Shape := ⟨2, ![1024, 1792]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 73
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x1024, .f32⟩
  | .hbm, ⟨3, _⟩ => ⟨S1024x1792, .f32⟩
  | .hbm, ⟨4, _⟩ => ⟨S1024x1024, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S4352x1024, .f32⟩
  | .hbm, ⟨11, _⟩ => ⟨S4352x1024, .f32⟩
  | .hbm, ⟨12, _⟩ => ⟨S4352x512, .f32⟩
  | .hbm, ⟨13, _⟩ => ⟨S_, .f32⟩
  | .hbm, ⟨14, _⟩ => ⟨S4352, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S_, .f32⟩
  | .hbm, ⟨20, _⟩ => ⟨S4352x1, .f32⟩
  | .hbm, ⟨21, _⟩ => ⟨S4352x1, .f32⟩
  | .hbm, ⟨22, _⟩ => ⟨S4352x1, .f32⟩
  | .hbm, ⟨23, _⟩ => ⟨S4352x512, .f32⟩
  | .hbm, ⟨24, _⟩ => ⟨S4352x512, .f32⟩
  | .hbm, ⟨25, _⟩ => ⟨S4352x512, .f32⟩
  | .hbm, ⟨26, _⟩ => ⟨S4352x512, .f32⟩
  | .hbm, ⟨27, _⟩ => ⟨S4352x512, .f32⟩
  | .hbm, ⟨28, _⟩ => ⟨S_, .f32⟩
  | .hbm, ⟨29, _⟩ => ⟨S4352, .f32⟩
  | .hbm, ⟨30, _⟩ => ⟨S4352x1, .f32⟩
  | .hbm, ⟨31, _⟩ => ⟨S_, .f32⟩
  | .hbm, ⟨32, _⟩ => ⟨S4352x1, .f32⟩
  | .hbm, ⟨33, _⟩ => ⟨S4352x1, .f32⟩
  | .hbm, ⟨34, _⟩ => ⟨S_, .f32⟩
  | .hbm, ⟨35, _⟩ => ⟨S4352x1, .f32⟩
  | .hbm, ⟨36, _⟩ => ⟨S4352x1, .f32⟩
  | .hbm, ⟨37, _⟩ => ⟨S4352x1, .f32⟩
  | .hbm, ⟨38, _⟩ => ⟨S4352x512, .f32⟩
  | .hbm, ⟨39, _⟩ => ⟨S4352x512, .f32⟩
  | .hbm, ⟨40, _⟩ => ⟨S4352x512, .f32⟩
  | .hbm, ⟨41, _⟩ => ⟨S4352x512, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S_, .f32⟩
  | .hbm, ⟨46, _⟩ => ⟨S4352, .f32⟩
  | .hbm, ⟨47, _⟩ => ⟨S4352x1, .f32⟩
  | .hbm, ⟨48, _⟩ => ⟨S_, .f32⟩
  | .hbm, ⟨49, _⟩ => ⟨S4352x1, .f32⟩
  | .hbm, ⟨50, _⟩ => ⟨S4352x1, .f32⟩
  | .hbm, ⟨51, _⟩ => ⟨S4352x1024, .f32⟩
  | .hbm, ⟨52, _⟩ => ⟨S4352x1024, .f32⟩
  | .hbm, ⟨53, _⟩ => ⟨S4352x1024, .f32⟩
  | .hbm, ⟨54, _⟩ => ⟨S_, .f32⟩
  | .hbm, ⟨55, _⟩ => ⟨S4352, .f32⟩
  | .hbm, ⟨56, _⟩ => ⟨S4352x1, .f32⟩
  | .hbm, ⟨57, _⟩ => ⟨S_, .f32⟩
  | .hbm, ⟨58, _⟩ => ⟨S4352x1, .f32⟩
  | .hbm, ⟨59, _⟩ => ⟨S4352x1, .f32⟩
  | .hbm, ⟨60, _⟩ => ⟨S4352x1024, .f32⟩
  | .hbm, ⟨61, _⟩ => ⟨S4352x1024, .f32⟩
  | .hbm, ⟨62, _⟩ => ⟨S_, .f32⟩
  | .hbm, ⟨63, _⟩ => ⟨S4352x1, .f32⟩
  | .hbm, ⟨64, _⟩ => ⟨S4352x1, .f32⟩
  | .hbm, ⟨65, _⟩ => ⟨S4352x1, .f32⟩
  | .hbm, ⟨66, _⟩ => ⟨S4352x1024, .f32⟩
  | .hbm, ⟨67, _⟩ => ⟨S4352x1024, .f32⟩
  | .hbm, ⟨68, _⟩ => ⟨S4352x1024, .f32⟩
  | .hbm, ⟨69, _⟩ => ⟨S4352x1024, .f32⟩
  | .hbm, ⟨70, _⟩ => ⟨S4352x1024, .f32⟩
  | .hbm, ⟨71, _⟩ => ⟨S4352x1024, .f32⟩
  | .hbm, ⟨72, _⟩ => ⟨S4352x1024, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Kernel23.lean ====
abbrev S4352x1792 : Shape := ⟨2, ![4352, 1792]⟩
abbrev S2176x8 : Shape := ⟨2, ![2176, 8]⟩
abbrev S_ : Shape := ⟨0, ![]⟩
abbrev S2176x48 : Shape := ⟨2, ![2176, 48]⟩
abbrev S2176x64 : Shape := ⟨2, ![2176, 64]⟩
abbrev S1x2176x1x64 : Shape := ⟨4, ![1, 2176, 1, 64]⟩
abbrev S1x2176x8x64 : Shape := ⟨4, ![1, 2176, 8, 64]⟩
abbrev S2176x512 : Shape := ⟨2, ![2176, 512]⟩
abbrev S4352x768 : Shape := ⟨2, ![4352, 768]⟩
abbrev S544x512 : Shape := ⟨2, ![544, 512]⟩
abbrev S544x128 : Shape := ⟨2, ![544, 128]⟩
abbrev S544x768 : Shape := ⟨2, ![544, 768]⟩

abbrev nBuf : Space → Nat
  | .hbm => 24
  | .vmem => 14
  | .smem => 0
  | _ => 0

abbrev bufTy : (tb : Table) → Fin (tcTables nBuf tb) → BufTy
  | .hbm, ⟨0, _⟩ => ⟨S4352x1792, .f32⟩
  | .hbm, ⟨1, _⟩ => ⟨S2176x8, .f32⟩
  | .hbm, ⟨2, _⟩ => ⟨S2176x8, .f32⟩
  | .hbm, ⟨3, _⟩ => ⟨S_, .f32⟩
  | .hbm, ⟨4, _⟩ => ⟨S2176x48, .f32⟩
  | .hbm, ⟨5, _⟩ => ⟨S_, .f32⟩
  | .hbm, ⟨6, _⟩ => ⟨S2176x8, .f32⟩
  | .hbm, ⟨7, _⟩ => ⟨S_, .f32⟩
  | .hbm, ⟨8, _⟩ => ⟨S2176x48, .f32⟩
  | .hbm, ⟨9, _⟩ => ⟨S2176x48, .f32⟩
  | .hbm, ⟨10, _⟩ => ⟨S2176x64, .f32⟩
  | .hbm, ⟨11, _⟩ => ⟨S2176x8, .f32⟩
  | .hbm, ⟨12, _⟩ => ⟨S2176x64, .f32⟩
  | .hbm, ⟨13, _⟩ => ⟨S2176x64, .f32⟩
  | .hbm, ⟨14, _⟩ => ⟨S1x2176x1x64, .f32⟩
  | .hbm, ⟨15, _⟩ => ⟨S1x2176x8x64, .f32⟩
  | .hbm, ⟨16, _⟩ => ⟨S2176x512, .f32⟩
  | .hbm, ⟨17, _⟩ => ⟨S1x2176x1x64, .f32⟩
  | .hbm, ⟨18, _⟩ => ⟨S1x2176x8x64, .f32⟩
  | .hbm, ⟨19, _⟩ => ⟨S2176x512, .f32⟩
  | .hbm, ⟨20, _⟩ => ⟨S1x2176x1x64, .f32⟩
  | .hbm, ⟨21, _⟩ => ⟨S1x2176x8x64, .f32⟩
  | .hbm, ⟨22, _⟩ => ⟨S2176x512, .f32⟩
  | .hbm, ⟨23, _⟩ => ⟨S4352x768, .bf16⟩
  | .local _ .vmem, ⟨0, _⟩ => ⟨S544x512, .f32⟩
  | .local _ .vmem, ⟨1, _⟩ => ⟨S544x512, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x768, .bf16⟩
  | .local _ .vmem, ⟨13, _⟩ => ⟨S544x768, .bf16⟩
  | _, _ => ⟨S4352x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c12_i32 : BitVec 32 := 12#32
  let c0_i32 : BitVec 32 := 0#32
  ![v1.toNat, c12_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c13_i32 : BitVec 32 := 13#32
  let c0_i32 : BitVec 32 := 0#32
  ![v1.toNat, c13_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S544x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S4352x1792 : Shape := ⟨2, ![4352, 1792]⟩
abbrev S2176x8 : Shape := ⟨2, ![2176, 8]⟩
abbrev S4352x512 : Shape := ⟨2, ![4352, 512]⟩
abbrev S4352x128 : Shape := ⟨2, ![4352, 128]⟩
abbrev S2x2176x8x64 : Shape := ⟨4, ![2, 2176, 8, 64]⟩
abbrev S2x2176x8x8 : Shape := ⟨4, ![2, 2176, 8, 8]⟩
abbrev S1x2176x1x8 : Shape := ⟨4, ![1, 2176, 1, 8]⟩
abbrev S2x2176x8x48 : Shape := ⟨4, ![2, 2176, 8, 48]⟩
abbrev S2x2176x2x64 : Shape := ⟨4, ![2, 2176, 2, 64]⟩
abbrev S2x2176x2x8 : Shape := ⟨4, ![2, 2176, 2, 8]⟩
abbrev S2x2176x2x48 : Shape := ⟨4, ![2, 2176, 2, 48]⟩
abbrev S4352x768 : Shape := ⟨2, ![4352, 768]⟩

abbrev nBuf : Space → Nat
  | .hbm => 44
  | .vmem => 0
  | .smem => 0
  | _ => 0

abbrev bufTy : (tb : Table) → Fin (tcTables nBuf tb) → BufTy
  | .hbm, ⟨0, _⟩ => ⟨S4352x1792, .f32⟩
  | .hbm, ⟨1, _⟩ => ⟨S2176x8, .f32⟩
  | .hbm, ⟨2, _⟩ => ⟨S2176x8, .f32⟩
  | .hbm, ⟨3, _⟩ => ⟨S4352x512, .f32⟩
  | .hbm, ⟨4, _⟩ => ⟨S4352x128, .f32⟩
  | .hbm, ⟨5, _⟩ => ⟨S4352x128, .f32⟩
  | .hbm, ⟨6, _⟩ => ⟨S2x2176x8x64, .f32⟩
  | .hbm, ⟨7, _⟩ => ⟨S2x2176x8x8, .f32⟩
  | .hbm, ⟨8, _⟩ => ⟨S2x2176x8x8, .f32⟩
  | .hbm, ⟨9, _⟩ => ⟨S1x2176x1x8, .f32⟩
  | .hbm, ⟨10, _⟩ => ⟨S1x2176x1x8, .f32⟩
  | .hbm, ⟨11, _⟩ => ⟨S2x2176x8x8, .f32⟩
  | .hbm, ⟨12, _⟩ => ⟨S2x2176x8x8, .f32⟩
  | .hbm, ⟨13, _⟩ => ⟨S2x2176x8x8, .f32⟩
  | .hbm, ⟨14, _⟩ => ⟨S2x2176x8x8, .f32⟩
  | .hbm, ⟨15, _⟩ => ⟨S2x2176x8x8, .f32⟩
  | .hbm, ⟨16, _⟩ => ⟨S2x2176x8x8, .f32⟩
  | .hbm, ⟨17, _⟩ => ⟨S2x2176x8x8, .f32⟩
  | .hbm, ⟨18, _⟩ => ⟨S2x2176x8x8, .f32⟩
  | .hbm, ⟨19, _⟩ => ⟨S2x2176x8x8, .f32⟩
  | .hbm, ⟨20, _⟩ => ⟨S2x2176x8x8, .f32⟩
  | .hbm, ⟨21, _⟩ => ⟨S2x2176x8x48, .f32⟩
  | .hbm, ⟨22, _⟩ => ⟨S2x2176x8x64, .f32⟩
  | .hbm, ⟨23, _⟩ => ⟨S2x2176x2x64, .f32⟩
  | .hbm, ⟨24, _⟩ => ⟨S2x2176x2x8, .f32⟩
  | .hbm, ⟨25, _⟩ => ⟨S2x2176x2x8, .f32⟩
  | .hbm, ⟨26, _⟩ => ⟨S1x2176x1x8, .f32⟩
  | .hbm, ⟨27, _⟩ => ⟨S1x2176x1x8, .f32⟩
  | .hbm, ⟨28, _⟩ => ⟨S2x2176x2x8, .f32⟩
  | .hbm, ⟨29, _⟩ => ⟨S2x2176x2x8, .f32⟩
  | .hbm, ⟨30, _⟩ => ⟨S2x2176x2x8, .f32⟩
  | .hbm, ⟨31, _⟩ => ⟨S2x2176x2x8, .f32⟩
  | .hbm, ⟨32, _⟩ => ⟨S2x2176x2x8, .f32⟩
  | .hbm, ⟨33, _⟩ => ⟨S2x2176x2x8, .f32⟩
  | .hbm, ⟨34, _⟩ => ⟨S2x2176x2x8, .f32⟩
  | .hbm, ⟨35, _⟩ => ⟨S2x2176x2x8, .f32⟩
  | .hbm, ⟨36, _⟩ => ⟨S2x2176x2x8, .f32⟩
  | .hbm, ⟨37, _⟩ => ⟨S2x2176x2x8, .f32⟩
  | .hbm, ⟨38, _⟩ => ⟨S2x2176x2x48, .f32⟩
  | .hbm, ⟨39, _⟩ => ⟨S2x2176x2x64, .f32⟩
  | .hbm, ⟨40, _⟩ => ⟨S4352x512, .f32⟩
  | .hbm, ⟨41, _⟩ => ⟨S4352x128, .f32⟩
  | .hbm, ⟨42, _⟩ => ⟨S4352x768, .f32⟩
  | .hbm, ⟨43, _⟩ => ⟨S4352x768, .bf16⟩
  | _, _ => ⟨S4352x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩

abbrev nD : Nat := 1
abbrev τ : Topo := Topo.v7x

variable {F : FTy → Type} [FloatOps F]
-- ==== Kernel24.lean ====
abbrev S4352x512 : Shape := ⟨2, ![4352, 512]⟩
abbrev S4352x128 : Shape := ⟨2, ![4352, 128]⟩
abbrev S2176x8 : Shape := ⟨2, ![2176, 8]⟩
abbrev S_ : Shape := ⟨0, ![]⟩
abbrev S2176x48 : Shape := ⟨2, ![2176, 48]⟩
abbrev S2176x64 : Shape := ⟨2, ![2176, 64]⟩
abbrev S1x2176x1x64 : Shape := ⟨4, ![1, 2176, 1, 64]⟩
abbrev S1x2176x8x64 : Shape := ⟨4, ![1, 2176, 8, 64]⟩
abbrev S2176x512 : Shape := ⟨2, ![2176, 512]⟩
abbrev S4352x768 : Shape := ⟨2, ![4352, 768]⟩
abbrev S544x512 : Shape := ⟨2, ![544, 512]⟩
abbrev S544x128 : Shape := ⟨2, ![544, 128]⟩
abbrev S544x768 : Shape := ⟨2, ![544, 768]⟩

abbrev nBuf : Space → Nat
  | .hbm => 26
  | .vmem => 14
  | .smem => 0
  | _ => 0

abbrev bufTy : (tb : Table) → Fin (tcTables nBuf tb) → BufTy
  | .hbm, ⟨0, _⟩ => ⟨S4352x512, .f32⟩
  | .hbm, ⟨1, _⟩ => ⟨S4352x128, .f32⟩
  | .hbm, ⟨2, _⟩ => ⟨S4352x128, .f32⟩
  | .hbm, ⟨3, _⟩ => ⟨S2176x8, .f32⟩
  | .hbm, ⟨4, _⟩ => ⟨S2176x8, .f32⟩
  | .hbm, ⟨5, _⟩ => ⟨S_, .f32⟩
  | .hbm, ⟨6, _⟩ => ⟨S2176x48, .f32⟩
  | .hbm, ⟨7, _⟩ => ⟨S_, .f32⟩
  | .hbm, ⟨8, _⟩ => ⟨S2176x8, .f32⟩
  | .hbm, ⟨9, _⟩ => ⟨S_, .f32⟩
  | .hbm, ⟨10, _⟩ => ⟨S2176x48, .f32⟩
  | .hbm, ⟨11, _⟩ => ⟨S2176x48, .f32⟩
  | .hbm, ⟨12, _⟩ => ⟨S2176x64, .f32⟩
  | .hbm, ⟨13, _⟩ => ⟨S2176x8, .f32⟩
  | .hbm, ⟨14, _⟩ => ⟨S2176x64, .f32⟩
  | .hbm, ⟨15, _⟩ => ⟨S2176x64, .f32⟩
  | .hbm, ⟨16, _⟩ => ⟨S1x2176x1x64, .f32⟩
  | .hbm, ⟨17, _⟩ => ⟨S1x2176x8x64, .f32⟩
  | .hbm, ⟨18, _⟩ => ⟨S2176x512, .f32⟩
  | .hbm, ⟨19, _⟩ => ⟨S1x2176x1x64, .f32⟩
  | .hbm, ⟨20, _⟩ => ⟨S1x2176x8x64, .f32⟩
  | .hbm, ⟨21, _⟩ => ⟨S2176x512, .f32⟩
  | .hbm, ⟨22, _⟩ => ⟨S1x2176x1x64, .f32⟩
  | .hbm, ⟨23, _⟩ => ⟨S1x2176x8x64, .f32⟩
  | .hbm, ⟨24, _⟩ => ⟨S2176x512, .f32⟩
  | .hbm, ⟨25, _⟩ => ⟨S4352x768, .bf16⟩
  | .local _ .vmem, ⟨0, _⟩ => ⟨S544x512, .f32⟩
  | .local _ .vmem, ⟨1, _⟩ => ⟨S544x512, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x768, .bf16⟩
  | .local _ .vmem, ⟨13, _⟩ => ⟨S544x768, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S544x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S4352x512 : Shape := ⟨2, ![4352, 512]⟩
abbrev S4352x128 : Shape := ⟨2, ![4352, 128]⟩
abbrev S2176x8 : Shape := ⟨2, ![2176, 8]⟩
abbrev S_ : Shape := ⟨0, ![]⟩
abbrev S2x2176x8x64 : Shape := ⟨4, ![2, 2176, 8, 64]⟩
abbrev S2x2176x8x8 : Shape := ⟨4, ![2, 2176, 8, 8]⟩
abbrev S1x2176x1x8 : Shape := ⟨4, ![1, 2176, 1, 8]⟩
abbrev S2x2176x8x48 : Shape := ⟨4, ![2, 2176, 8, 48]⟩
abbrev S2x2176x2x64 : Shape := ⟨4, ![2, 2176, 2, 64]⟩
abbrev S2x2176x2x8 : Shape := ⟨4, ![2, 2176, 2, 8]⟩
abbrev S2x2176x2x48 : Shape := ⟨4, ![2, 2176, 2, 48]⟩
abbrev S4352x768 : Shape := ⟨2, ![4352, 768]⟩

abbrev nBuf : Space → Nat
  | .hbm => 102
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x128, .f32⟩
  | .hbm, ⟨2, _⟩ => ⟨S4352x128, .f32⟩
  | .hbm, ⟨3, _⟩ => ⟨S2176x8, .f32⟩
  | .hbm, ⟨4, _⟩ => ⟨S2176x8, .f32⟩
  | .hbm, ⟨5, _⟩ => ⟨S_, .f32⟩
  | .hbm, ⟨6, _⟩ => ⟨S4352x512, .f32⟩
  | .hbm, ⟨7, _⟩ => ⟨S_, .f32⟩
  | .hbm, ⟨8, _⟩ => ⟨S4352x128, .f32⟩
  | .hbm, ⟨9, _⟩ => ⟨S_, .f32⟩
  | .hbm, ⟨10, _⟩ => ⟨S4352x128, .f32⟩
  | .hbm, ⟨11, _⟩ => ⟨S2x2176x8x64, .f32⟩
  | .hbm, ⟨12, _⟩ => ⟨S2x2176x8x8, .f32⟩
  | .hbm, ⟨13, _⟩ => ⟨S2x2176x8x8, .f32⟩
  | .hbm, ⟨14, _⟩ => ⟨S1x2176x1x8, .f32⟩
  | .hbm, ⟨15, _⟩ => ⟨S1x2176x1x8, .f32⟩
  | .hbm, ⟨16, _⟩ => ⟨S2x2176x8x8, .f32⟩
  | .hbm, ⟨17, _⟩ => ⟨S2x2176x8x8, .f32⟩
  | .hbm, ⟨18, _⟩ => ⟨S2x2176x8x8, .f32⟩
  | .hbm, ⟨19, _⟩ => ⟨S2x2176x8x8, .f32⟩
  | .hbm, ⟨20, _⟩ => ⟨S2x2176x8x8, .f32⟩
  | .hbm, ⟨21, _⟩ => ⟨S2x2176x8x8, .f32⟩
  | .hbm, ⟨22, _⟩ => ⟨S2x2176x8x8, .f32⟩
  | .hbm, ⟨23, _⟩ => ⟨S2x2176x8x8, .f32⟩
  | .hbm, ⟨24, _⟩ => ⟨S2x2176x8x8, .f32⟩
  | .hbm, ⟨25, _⟩ => ⟨S2x2176x8x8, .f32⟩
  | .hbm, ⟨26, _⟩ => ⟨S2x2176x8x48, .f32⟩
  | .hbm, ⟨27, _⟩ => ⟨S2x2176x8x64, .f32⟩
  | .hbm, ⟨28, _⟩ => ⟨S2x2176x2x64, .f32⟩
  | .hbm, ⟨29, _⟩ => ⟨S2x2176x2x8, .f32⟩
  | .hbm, ⟨30, _⟩ => ⟨S2x2176x2x8, .f32⟩
  | .hbm, ⟨31, _⟩ => ⟨S1x2176x1x8, .f32⟩
  | .hbm, ⟨32, _⟩ => ⟨S1x2176x1x8, .f32⟩
  | .hbm, ⟨33, _⟩ => ⟨S2x2176x2x8, .f32⟩
  | .hbm, ⟨34, _⟩ => ⟨S2x2176x2x8, .f32⟩
  | .hbm, ⟨35, _⟩ => ⟨S2x2176x2x8, .f32⟩
  | .hbm, ⟨36, _⟩ => ⟨S2x2176x2x8, .f32⟩
  | .hbm, ⟨37, _⟩ => ⟨S2x2176x2x8, .f32⟩
  | .hbm, ⟨38, _⟩ => ⟨S2x2176x2x8, .f32⟩
  | .hbm, ⟨39, _⟩ => ⟨S2x2176x2x8, .f32⟩
  | .hbm, ⟨40, _⟩ => ⟨S2x2176x2x8, .f32⟩
  | .hbm, ⟨41, _⟩ => ⟨S2x2176x2x8, .f32⟩
  | .hbm, ⟨42, _⟩ => ⟨S2x2176x2x8, .f32⟩
  | .hbm, ⟨43, _⟩ => ⟨S2x2176x2x48, .f32⟩
  | .hbm, ⟨44, _⟩ => ⟨S2x2176x2x64, .f32⟩
  | .hbm, ⟨45, _⟩ => ⟨S4352x512, .f32⟩
  | .hbm, ⟨46, _⟩ => ⟨S4352x128, .f32⟩
  | .hbm, ⟨47, _⟩ => ⟨S4352x768, .f32⟩
  | .hbm, ⟨48, _⟩ => ⟨S4352x768, .f32⟩
  | .hbm, ⟨49, _⟩ => ⟨S4352x512, .f32⟩
  | .hbm, ⟨50, _⟩ => ⟨S4352x128, .f32⟩
  | .hbm, ⟨51, _⟩ => ⟨S4352x128, .f32⟩
  | .hbm, ⟨52, _⟩ => ⟨S2x2176x2x64, .f32⟩
  | .hbm, ⟨53, _⟩ => ⟨S2x2176x8x64, .f32⟩
  | .hbm, ⟨54, _⟩ => ⟨S2x2176x2x8, .f32⟩
  | .hbm, ⟨55, _⟩ => ⟨S2x2176x2x8, .f32⟩
  | .hbm, ⟨56, _⟩ => ⟨S2x2176x2x48, .f32⟩
  | .hbm, ⟨57, _⟩ => ⟨S_, .f32⟩
  | .hbm, ⟨58, _⟩ => ⟨S2x2176x2x64, .f32⟩
  | .hbm, ⟨59, _⟩ => ⟨S2x2176x2x8, .f32⟩
  | .hbm, ⟨60, _⟩ => ⟨S2x2176x2x8, .f32⟩
  | .hbm, ⟨61, _⟩ => ⟨S2x2176x2x8, .f32⟩
  | .hbm, ⟨62, _⟩ => ⟨S2x2176x2x8, .f32⟩
  | .hbm, ⟨63, _⟩ => ⟨S2x2176x2x8, .f32⟩
  | .hbm, ⟨64, _⟩ => ⟨S2x2176x2x8, .f32⟩
  | .hbm, ⟨65, _⟩ => ⟨S2x2176x2x8, .f32⟩
  | .hbm, ⟨66, _⟩ => ⟨S2x2176x2x8, .f32⟩
  | .hbm, ⟨67, _⟩ => ⟨S2x2176x2x8, .f32⟩
  | .hbm, ⟨68, _⟩ => ⟨S2x2176x2x8, .f32⟩
  | .hbm, ⟨69, _⟩ => ⟨S2x2176x2x8, .f32⟩
  | .hbm, ⟨70, _⟩ => ⟨S_, .f32⟩
  | .hbm, ⟨71, _⟩ => ⟨S2x2176x2x64, .f32⟩
  | .hbm, ⟨72, _⟩ => ⟨S2x2176x2x64, .f32⟩
  | .hbm, ⟨73, _⟩ => ⟨S_, .f32⟩
  | .hbm, ⟨74, _⟩ => ⟨S2x2176x2x64, .f32⟩
  | .hbm, ⟨75, _⟩ => ⟨S2x2176x2x64, .f32⟩
  | .hbm, ⟨76, _⟩ => ⟨S4352x128, .f32⟩
  | .hbm, ⟨77, _⟩ => ⟨S2x2176x8x8, .f32⟩
  | .hbm, ⟨78, _⟩ => ⟨S2x2176x8x8, .f32⟩
  | .hbm, ⟨79, _⟩ => ⟨S2x2176x8x48, .f32⟩
  | .hbm, ⟨80, _⟩ => ⟨S_, .f32⟩
  | .hbm, ⟨81, _⟩ => ⟨S2x2176x8x64, .f32⟩
  | .hbm, ⟨82, _⟩ => ⟨S2x2176x8x8, .f32⟩
  | .hbm, ⟨83, _⟩ => ⟨S2x2176x8x8, .f32⟩
  | .hbm, ⟨84, _⟩ => ⟨S2x2176x8x8, .f32⟩
  | .hbm, ⟨85, _⟩ => ⟨S2x2176x8x8, .f32⟩
  | .hbm, ⟨86, _⟩ => ⟨S2x2176x8x8, .f32⟩
  | .hbm, ⟨87, _⟩ => ⟨S2x2176x8x8, .f32⟩
  | .hbm, ⟨88, _⟩ => ⟨S2x2176x8x8, .f32⟩
  | .hbm, ⟨89, _⟩ => ⟨S2x2176x8x8, .f32⟩
  | .hbm, ⟨90, _⟩ => ⟨S2x2176x8x8, .f32⟩
  | .hbm, ⟨91, _⟩ => ⟨S2x2176x8x8, .f32⟩
  | .hbm, ⟨92, _⟩ => ⟨S2x2176x8x8, .f32⟩
  | .hbm, ⟨93, _⟩ => ⟨S_, .f32⟩
  | .hbm, ⟨94, _⟩ => ⟨S2x2176x8x64, .f32⟩
  | .hbm, ⟨95, _⟩ => ⟨S2x2176x8x64, .f32⟩
  | .hbm, ⟨96, _⟩ => ⟨S_, .f32⟩
  | .hbm, ⟨97, _⟩ => ⟨S2x2176x8x64, .f32⟩
  | .hbm, ⟨98, _⟩ => ⟨S2x2176x8x64, .f32⟩
  | .hbm, ⟨99, _⟩ => ⟨S4352x512, .f32⟩
  | .hbm, ⟨100, _⟩ => ⟨S4352x768, .f32⟩
  | .hbm, ⟨101, _⟩ => ⟨S4352x768, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_2 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_3 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_5 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_6 : Ref sig .tc := ⟨.hbm, 93, rfl⟩
abbrev main_v81 : Ref sig .tc := ⟨.hbm, 94, rfl⟩
abbrev main_v82 : Ref sig .tc := ⟨.hbm, 95, rfl⟩
abbrev main_cst_7 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩

abbrev nD : Nat := 1
abbrev τ : Topo := Topo.v7x

variable {F : FTy → Type} [FloatOps F]
-- ==== Proof.Reals.lean ====
/- The real-number mathematics of one row of the half step's gradient: the layer norm, its derivative in the two forms that the kernel and the
   reference compute, the gate, and the passage from finite extended reals to reals. -/
module

public import Idealize.ShloMosaic.Lib.Pipeline.ValueKit
public import Idealize.ShloMosaic.Lib.IdealHost
public import Mathlib.Analysis.SpecialFunctions.Exp
public import Mathlib.Tactic.FieldSimp
public import Mathlib.Tactic.Ring
public import Mathlib.Tactic.Positivity
public import Mathlib.Tactic.Linarith

@[expose] public section

set_option maxRecDepth 16384

noncomputable section

namespace Cert.Row

open Idealize.ShloMosaic

/-! ## From finite extended reals to reals -/

/-- A sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient by a real that is not zero. -/
theorem coe_div (a b : ℝ) (h : b ≠ 0) : Ideal.div (a : EReal) (b : EReal) = ((a / b : ℝ) : EReal) := by
  rw [Ideal.div_coe h, ← EReal.coe_mul, mul_one_div]

/-- An extended real whose absolute value is below the infinity of the comparison is real. -/
theorem finite_of_abs (x : EReal) (h : max x (-x) < ⊤) : ∃ a : ℝ, x = a := by
  induction x using EReal.rec with
  | bot => simp at h
  | coe a => exact ⟨a, rfl⟩
  | top => simp at h

/-- The norm's epsilon, the value of its word. -/
def eps : ℝ := 10995116 * (2 : ℝ) ^ (-40 : ℤ)
/-- The residual's weight, the value of its word. -/
def alpha : ℝ := 14107901 * (2 : ℝ) ^ (-23 : ℤ)

theorem eps_pos : 0 < eps := by unfold eps; positivity

theorem bits_eps : Ideal.ofBits .f32 0x3727C5AC#32 = ((eps : ℝ) : EReal) := by
  simp [Ideal.ofBits, Ideal.ieee, eps]
theorem bits_alpha : Ideal.ofBits .f32 0x3FD744FD#32 = ((alpha : ℝ) : EReal) := by
  simp [Ideal.ofBits, Ideal.ieee, alpha]
theorem bits_half : Ideal.ofBits .f32 0x3F000000#32 = (((1 / 2 : ℝ) : ℝ) : EReal) := by
  simp [Ideal.ofBits, Ideal.ieee]; norm_cast; norm_num
theorem bits_neg_half : Ideal.ofBits .f32 0xBF000000#32 = (((-(1 / 2) : ℝ) : ℝ) : EReal) := by
  simp [Ideal.ofBits, Ideal.ieee]; norm_cast; norm_num
theorem bits_two : Ideal.ofBits .f32 0x40000000#32 = ((2 : ℝ) : EReal) := by
  simp [Ideal.ofBits, Ideal.ieee]; norm_cast; norm_num
theorem bits_1024 : Ideal.ofBits .f32 0x44800000#32 = ((1024 : ℝ) : EReal) := by
  simp [Ideal.ofBits, Ideal.ieee]; norm_cast; norm_num
theorem bits_one : Ideal.ofBits .f32 0x3F800000#32 = ((1 : ℝ) : EReal) := by
  rw [Ideal.ofBits_one_f32]; rfl

/-! ## The layer norm of a row -/

/-- The mean of a row. -/
def mu (v : Fin 1024 → ℝ) : ℝ := (∑ k, v k) / 1024
/-- The row less its mean. -/
def xc (z : Fin 1024 → ℝ) (k : Fin 1024) : ℝ := z k - mu z
/-- The variance with the epsilon. -/
def sv (z : Fin 1024 → ℝ) : ℝ := mu (fun k => xc z k * xc z k) + eps
/-- One over the deviation. -/
def rs (z : Fin 1024 → ℝ) : ℝ := (Real.sqrt (sv z))⁻¹
/-- The normalised row. -/
def xh (z : Fin 1024 → ℝ) (k : Fin 1024) : ℝ := xc z k * rs z
/-- The gradient at the norm's input, from the gradient `e` at the normalised row. -/
def dz (z e : Fin 1024 → ℝ) (k : Fin 1024) : ℝ := rs z * (e k - mu e - xh z k * mu (fun l => e l * xh z l))

theorem sv_pos (z : Fin 1024 → ℝ) : 0 < sv z := by
  have h : 0 ≤ mu (fun k => xc z k * xc z k) := div_nonneg (Finset.sum_nonneg fun k _ => mul_self_nonneg _) (by norm_num)
  have := eps_pos
  unfold sv; linarith

/-- The inverse square root of the variance, among the extended reals. -/
theorem coe_rs (z : Fin 1024 → ℝ) : Ideal.rsqrt ((sv z : ℝ) : EReal) = ((rs z : ℝ) : EReal) := by
  have h := sv_pos z
  rw [Ideal.rsqrt_coe, if_neg h.not_gt, if_neg h.ne']; rfl

theorem rs_div_sv (z : Fin 1024 → ℝ) : rs z / sv z = rs z * (rs z * rs z) := by
  have h := sv_pos z
  have hs : Real.sqrt (sv z) * Real.sqrt (sv z) = sv z := Real.mul_self_sqrt h.le
  have e : rs z * rs z = (sv z)⁻¹ := by unfold rs; rw [← mul_inv, hs]
  rw [e, div_eq_mul_inv]

theorem sum_xc (z : Fin 1024 → ℝ) : ∑ k, xc z k = 0 := by
  unfold xc mu
  rw [Finset.sum_sub_distrib, Finset.sum_const, Finset.card_univ, Fintype.card_fin, nsmul_eq_mul]
  push_cast; ring

/-- The cotangent of the variance's square, as the reference forms it: a factor of the row less its mean. -/
def cq (z e : Fin 1024 → ℝ) : ℝ := ((∑ k, xc z k * e k) * (-(1 / 2) * (rs z / sv z))) / 1024

/-- The reference's form of the norm's derivative is the kernel's. -/
theorem dz_of_terms (z e : Fin 1024 → ℝ) (k : Fin 1024) :
    (e k * rs z + cq z e * (2 * xc z k))
      + ((∑ l, -(e l * rs z)) + (∑ l, -(cq z e * (2 * xc z l)))) / 1024 = dz z e k := by
  have h2 : ∑ l, -(cq z e * (2 * xc z l)) = 0 := by
    have : ∀ l, -(cq z e * (2 * xc z l)) = (-(cq z e * 2)) * xc z l := fun l => by ring
    rw [Finset.sum_congr rfl fun l _ => this l, ← Finset.mul_sum, sum_xc, mul_zero]
  have h1 : ∑ l, -(e l * rs z) = -((∑ l, e l) * rs z) := by rw [Finset.sum_neg_distrib, Finset.sum_mul]
  have h3 : mu (fun l => e l * xh z l) = ((∑ l, xc z l * e l) * rs z) / 1024 := by
    unfold mu xh; rw [Finset.sum_mul]; congr 1; exact Finset.sum_congr rfl fun l _ => by ring
  rw [h2, h1]; unfold dz; rw [h3]; unfold cq; rw [rs_div_sv]; unfold mu xh; ring

/-! ## The gate -/

/-- The logistic function. -/
def sg (x : ℝ) : ℝ := 1 / (1 + Real.exp (-x))

theorem coe_sg (x : ℝ) : Ideal.div 1 (1 + Ideal.exp (-(x : EReal))) = ((sg x : ℝ) : EReal) := by
  have h : (1 + Real.exp (-x)) ≠ 0 := by positivity
  rw [← EReal.coe_neg, Ideal.exp_coe, ← EReal.coe_one, ← EReal.coe_add, coe_div _ _ h]; rfl

/-- The gradient at the gate's projection. -/
def dgate (da g u : ℝ) : ℝ := da * u * (sg g * (1 + g * (1 - sg g)))

/-- The reference's two terms of that gradient. -/
theorem dgate_of_terms (da g u : ℝ) : da * u * sg g + g * (da * u) * (sg g * (1 - sg g)) = dgate da g u := by unfold dgate; ring

end Cert.Row

end
-- ==== Proof.Loss16.lean ====
/- The loss and its gradient: over the reals the kernel's sums over blocks of rows are the reference's sums over tokens. -/
module

public import proofs.«01_k».proof.Defs
public import proofs.«01_k».proof.Proof.Reals
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Quiescent

@[expose] public section

set_option maxRecDepth 16384

noncomputable section

namespace Cert.Kernel16Ideal.Loss

open Idealize.ShloMosaic Idealize.ShloMosaic.TcCoe Idealize.SL.Sem Cert.Kernel16Ideal Kernel16Ideal.Gen
open Idealize.ShloMosaic.Pipeline (Dat)
open Cert.Row

/-- The rows of the point, and the whole of the loss's block. -/
theorem idx : ∀ t : Fin cfg0.N, win0_0.index t = ![t.val, 0] ∧ win0_1.index t = ![t.val, 0] ∧ win0_2.index t = ![0, 0] ∧ win0_3.index t = ![t.val, 0]
    ∧ ((grid0.coords t) 0).val = t.val ∧ t.val < 17 :=
  (by decide +kernel : ∀ t : Fin grid0.N, _)

/-- Whether a row is a token's: the body's test on 32-bit words, as a statement about numbers. -/
theorem token (t : Fin 17) (a : Fin 256) :
    IntOp.cmpi .sge (IntOp.remsi .vector (IntOp.addi (Scalar.muli (BitVec.ofNat 32 t.val) 256#32) (BitVec.ofNat 32 a.val)) 2176#32) 128#32
      = BitVec.ofBool (decide (128 ≤ (256 * t.val + a.val) % 2176)) := by
  revert t a; decide +kernel

theorem select_ofBool {α : Type} (p : Prop) [Decidable p] (x y : α) : Scalar.select (BitVec.ofBool (decide p)) x y = if p then x else y := by
  by_cases h : p <;> simp [Scalar.select, h]

theorem err_at (i : grid0.Coords) (x y : FVec Ideal S256x1024 .f32) (a : Fin 256) (k : Fin 1024) :
    k0_pay2 (F := Ideal) i x y (ix2 a k) = if 128 ≤ (256 * (i 0).val + a.val) % 2176 then (x (ix2 a k) - y (ix2 a k) : EReal) else 0 := by
  pointwise [k0_pay2]
  rw [← select_ofBool, ← token (i 0) a]

theorem sum_at (i : grid0.Coords) (x y : FVec Ideal S256x1024 .f32) (p : FVec Ideal S1x128 .f32) (j : Fin 128) :
    k0_pay4 (F := Ideal) i x y p (ix2 (0 : Fin 1) j) = p (ix2 (0 : Fin 1) j) + Ideal.ofBits .f32 0x3F000000#32
      * ∑ a : Fin 256, Ideal.div (∑ k : Fin 1024, k0_pay2 (F := Ideal) i x y (ix2 a k) * k0_pay2 (F := Ideal) i x y (ix2 a k)) (Ideal.ofBits .f32 0x44800000#32) := by
  pointwise [k0_pay4]

/-- The difference to the target at a row: a token's is the difference, a row of padding or of a meta token has none. -/
def err (y : FVec Ideal S4352x1024 .f32) (t : FVec Ideal S2x2048x1024 .f32) (r : Fin 4352) (k : Fin 1024) : EReal :=
  if h : 128 ≤ r.val % 2176 then
    (y (ix2 r k) : EReal) - t (ix3 (⟨r.val / 2176, by have := r.isLt; omega⟩ : Fin 2) (⟨r.val % 2176 - 128, by omega⟩ : Fin 2048) k)
  else 0

/-- The mean of a row's squares. -/
def row (y : FVec Ideal S4352x1024 .f32) (t : FVec Ideal S2x2048x1024 .f32) (r : Fin 4352) : EReal :=
  Ideal.div (∑ k : Fin 1024, err y t r k * err y t r k) (Ideal.ofBits .f32 0x44800000#32)

/-- The loss one block of 256 rows adds. -/
def part (y : FVec Ideal S4352x1024 .f32) (t : FVec Ideal S2x2048x1024 .f32) (n : Fin 17) : EReal :=
  Ideal.ofBits .f32 0x3F000000#32 * ∑ a : Fin 256, row y t (⟨n.val * 256 + a.val, by have := n.isLt; have := a.isLt; omega⟩ : Fin 4352)

/-- Half of a sum is the sum of the halves, also at the infinities. -/
theorem half_sum {ι : Type} (s : Finset ι) (f : ι → EReal) :
    Ideal.ofBits .f32 0x3F000000#32 * ∑ i ∈ s, f i = ∑ i ∈ s, Ideal.ofBits .f32 0x3F000000#32 * f i := by
  classical
  rw [bits_half]
  induction s using Finset.induction_on with
  | empty => simp
  | insert a s ha ih =>
    rw [Finset.sum_insert ha, Finset.sum_insert ha, EReal.left_distrib_of_nonneg_of_ne_top (by norm_cast; norm_num) (EReal.coe_ne_top _), ih]

theorem zero_div : Ideal.div 0 (Ideal.ofBits .f32 0x44800000#32) = 0 := by
  rw [bits_1024, Ideal.div_coe (by norm_num), zero_mul]

/-- Half of the squares' derivative is the difference itself, over the number of features. -/
theorem scale (x : EReal) :
    Ideal.div (Ideal.ofBits .f32 0x3F000000#32) (Ideal.ofBits .f32 0x44800000#32) * (Ideal.ofBits .f32 0x40000000#32 * x)
      = Ideal.div x (Ideal.ofBits .f32 0x44800000#32) := by
  rw [bits_1024, bits_half, bits_two, coe_div _ _ (by norm_num), Ideal.div_coe (by norm_num), ← mul_assoc, ← EReal.coe_mul, mul_comm x]
  norm_num

theorem row_zero (y : FVec Ideal S4352x1024 .f32) (t : FVec Ideal S2x2048x1024 .f32) (r : Fin 4352) (h : ¬128 ≤ r.val % 2176) : row y t r = 0 := by
  unfold row
  rw [Finset.sum_eq_zero (fun k _ => ?_), zero_div]
  unfold err
  rw [dif_neg h, zero_mul]

variable (m : (ℓ : Loc nD τ sig) → Buf (Elt Ideal) ℓ)

theorem target_at (c : Dev nD) (r : Fin 4352) (k : Fin 1024) (h : 128 ≤ r.val % 2176) : (V m c main_v1 : FVec Ideal S4352x1024 .f32) (ix2 r k)
    = (m (c.tc.loc main_arg1) : FVec Ideal S2x2048x1024 .f32)
        (ix3 (⟨r.val / 2176, by have := r.isLt; omega⟩ : Fin 2) (⟨r.val % 2176 - 128, by omega⟩ : Fin 2048) k) := by
  simp only [V, hostOps0, hostOps0_1, hostOps0_2, List.flatten_cons, List.flatten_nil, List.append_nil, List.cons_append, List.nil_append]
  after_results_simp
  show shapeCast S4352x1024 (pad S2x2176x1024 ![0, 128, 0] ![0, 0, 0] ![0, 0, 0] (s := S2x2048x1024) (α := EReal) (m (c.tc.loc main_arg1))
    (sitofp (F := Ideal) .f32 (constantI S_ 32 0#32)) pads_S2x2048x1024_S2x2176x1024_000_12800_000 h_S_) shapeCasts_S2x2176x1024_S4352x1024 (ix2 r k) = _
  pointwise
  rw [dif_pos ⟨by have := r.isLt; omega, h, by omega⟩]

theorem block_err (c : Dev nD) (t : Fin cfg0.N) (a : Fin 256) (k : Fin 1024) (r : Fin 4352) (hr : r.val = t.val * 256 + a.val) :
    k0_pay2 (F := Ideal) (grid0.coords t) (iblk m c 0 t) (iblk m c 1 t) (ix2 a k)
      = err (m (c.tc.loc main_arg0)) (m (c.tc.loc main_arg1)) r k := by
  have e0 : (iblk m c 0 t : FVec Ideal S256x1024 .f32) (ix2 a k) = m (c.tc.loc main_arg0) (ix2 r k) := by
    blk_ext [iblk, V_main_arg0, idx t, hr]
  have e1 : (iblk m c 1 t : FVec Ideal S256x1024 .f32) (ix2 a k) = (V m c main_v1 : FVec Ideal S4352x1024 .f32) (ix2 r k) := by
    blk_ext [iblk, idx t, hr]
  have hc := (idx t).2.2.2.2.1
  have hq : (256 * ((grid0.coords t) 0).val + a.val) = r.val := by omega
  rw [err_at, e0, e1, hq]
  unfold err
  split
  · rename_i h; rw [target_at m c r k h]
  · rfl

theorem half_part (c : Dev nD) (t : Fin cfg0.N) (p : FVec Ideal S1x128 .f32) (j : Fin 128) :
    k0_pay4 (F := Ideal) (grid0.coords t) (iblk m c 0 t) (iblk m c 1 t) p (ix2 (0 : Fin 1) j)
      = p (ix2 (0 : Fin 1) j) + part (m (c.tc.loc main_arg0)) (m (c.tc.loc main_arg1)) ⟨t.val, (idx t).2.2.2.2.2⟩ := by
  rw [sum_at]
  unfold part row
  refine congrArg _ (congrArg _ (Finset.sum_congr rfl fun a _ => congrArg₂ _ (Finset.sum_congr rfl fun k _ => ?_) rfl))
  rw [block_err m c t a k ⟨t.val * 256 + a.val, by have := (idx t).2.2.2.2.2; have := a.isLt; omega⟩ rfl]

/-- The loss so far, after a point. -/
theorem acc_at (c : Dev nD) (j : Fin 128) : ∀ (n : ℕ) (hn : n < cfg0.N), ((outsAt0 m c n hn).1 : FVec Ideal S1x128 .f32) (ix2 (0 : Fin 1) j)
    = ∑ s : Fin (n + 1), part (m (c.tc.loc main_arg0)) (m (c.tc.loc main_arg1))
        ⟨s.val, by have := (idx ⟨n, hn⟩).2.2.2.2.2; have := s.isLt; dsimp only at *; omega⟩ := by
  intro n
  induction n with
  | zero =>
    intro hn
    have e := congrArg Prod.fst (outsAt0_A m c ⟨0, hn⟩ rfl)
    refine (congrFun e _).trans ?_
    frame_out
    refine (half_part m c ⟨0, hn⟩ _ j).trans ?_
    rw [Fin.sum_univ_one]
    pointwise [k0_pay1]
  | succ n ih =>
    intro hn
    have h17 := (idx ⟨n + 1, hn⟩).2.2.2.2.2
    have e := congrArg Prod.fst (outsAt0_B m c ⟨n + 1, hn⟩ (by dsimp only at *; omega))
    refine (congrFun e _).trans ?_
    frame_out
    refine (half_part m c ⟨n + 1, hn⟩ _ j).trans ?_
    rw [Fin.sum_univ_castSucc]
    refine congrArg₂ (· + ·) ?_ rfl
    exact ih (Nat.lt_of_succ_lt hn)

/-- The loss of the device's tokens, in every lane of the result. -/
def loss (y : FVec Ideal S4352x1024 .f32) (t : FVec Ideal S2x2048x1024 .f32) : FVec Ideal S1x128 .f32 := fun _ =>
  Ideal.ofBits .f32 0x3F000000#32 * ∑ r : Fin 4352, row y t r

/-- The loss's gradient. -/
def step (y : FVec Ideal S4352x1024 .f32) (t : FVec Ideal S2x2048x1024 .f32) : FVec Ideal S4352x1024 .f32 := fun i =>
  Ideal.div (err y t (i 0) (i 1)) (Ideal.ofBits .f32 0x44800000#32)

theorem loss_total (y : FVec Ideal S4352x1024 .f32) (t : FVec Ideal S2x2048x1024 .f32) :
    ∑ n : Fin 17, part y t n = Ideal.ofBits .f32 0x3F000000#32 * ∑ r : Fin 4352, row y t r := by
  rw [Fin.sum_univ_tiles 17 256 rfl (row y t), half_sum]
  rfl

theorem final_loss (c : Dev nD) : (dats m 0 c).arrAt 2 (cfgs 0).N = loss (m (c.tc.loc main_arg0)) (m (c.tc.loc main_arg1)) := by
  refine (dats m 0 c).arrAt_eq_of_covers 2 _ (by decide +kernel) fun t hf y => ?_
  have hm : t.val % 17 = 16 := (flush0_2 t).mp hf
  have h17 := (idx t).2.2.2.2.2
  blk_simp
  rw [after0_2]
  have hy : (y : S1x128.Idx) = ix2 (0 : Fin 1) (y 1) := by blk_ext
  refine (congrArg _ hy).trans ((acc_at m c (y 1) t.val t.isLt).trans ?_)
  have ht : t = (⟨16, by decide⟩ : Fin cfg0.N) := Fin.ext (by dsimp only; omega)
  subst ht
  exact loss_total _ _

theorem final_step (c : Dev nD) : (dats m 0 c).arrAt 3 (cfgs 0).N = step (m (c.tc.loc main_arg0)) (m (c.tc.loc main_arg1)) := by
  refine (dats m 0 c).arrAt_eq_of_covers 3 _ (by decide +kernel) fun t _ y => ?_
  blk_simp
  have hy : (y : S256x1024.Idx) = ix2 (y 0) (y 1) := by blk_ext
  have h0 : (((win0_3.blk t).view.emb y 0 : Fin 4352) : ℕ) = t.val * 256 + (y 0).val := by blk_simp [idx t]
  have e1 : (win0_3.blk t).view.emb y 1 = y 1 := by apply Fin.ext; blk_simp [idx t]
  have e : (outsAt0 m c t.val t.isLt).2 = k0_pay3 (F := Ideal) (grid0.coords t) (iblk m c 0 t) (iblk m c 1 t) := by
    by_cases hz : t.val % 17 = 0
    · rw [outsAt0_A m c t hz]; frame_out
    · rw [outsAt0_B m c t hz]; frame_out
  rw [after0_3, e]
  refine (congrArg _ hy).trans ?_
  unfold step
  rw [e1]
  refine Eq.trans ?_ (congrArg (fun z => Ideal.div z _) (block_err m c t (y 0) (y 1) _ h0))
  pointwise [k0_pay3]

theorem reference_loss (y : FVec Ideal S4352x1024 .f32) (t : FVec Ideal S2x2048x1024 .f32) (i : S1x128.Idx) :
    (broadcastInDim Reference16Ideal.S1x128 ![] Reference16Ideal.Gen.bcast_S_S1x128 (mulf (constant Reference16Ideal.S_ .f32 0x3F000000#32) (Host.reduceAdd (Host.divf (Host.reduceAdd (mulf (subf (extractStridedSlice Reference16Ideal.S2x2048x1024 ![0, 128, 0] (shapeCast _ y Reference16Ideal.Gen.shapeCasts_S4352x1024_S2x2176x1024) Reference16Ideal.Gen.slices_S2x2176x1024_S2x2048x1024_0_128_0) t) (subf (extractStridedSlice Reference16Ideal.S2x2048x1024 ![0, 128, 0] (shapeCast _ y Reference16Ideal.Gen.shapeCasts_S4352x1024_S2x2176x1024) Reference16Ideal.Gen.slices_S2x2176x1024_S2x2048x1024_0_128_0) t)) (constant Reference16Ideal.S_ .f32 0x00000000#32) Reference16Ideal.Gen.reducesTo_S2x2048x1024_S2x2048_d2 Reference16Ideal.Gen.h_S_) (broadcastInDim Reference16Ideal.S2x2048 ![] Reference16Ideal.Gen.bcast_S_S2x2048 (constant Reference16Ideal.S_ .f32 0x44800000#32))) (constant Reference16Ideal.S_ .f32 0x00000000#32) Reference16Ideal.Gen.reducesTo_S2x2048_S_d0_1 Reference16Ideal.Gen.h_S_)) : FVec Ideal S1x128 .f32) i
      = Ideal.ofBits .f32 0x3F000000#32 * ∑ r : Fin 4352, row y t r := by
  pointwise
  refine congrArg _ ?_
  rw [Fin.sum_univ_tiles 2 2176 rfl (row y t)]
  refine Finset.sum_congr rfl fun s _ => ?_
  rw [Fin.sum_univ_two_halves 128 2048 rfl]
  have hs := s.isLt
  refine Eq.trans ?_ ((congrArg (· + _) (Finset.sum_eq_zero fun q _ => ?_)).trans (zero_add _)).symm
  · refine Finset.sum_congr rfl fun q _ => ?_
    have hq := q.isLt
    unfold row
    refine congrArg₂ _ (Finset.sum_congr rfl fun k _ => ?_) rfl
    have e : err y t ⟨s.val * 2176 + (128 + q.val), by omega⟩ k = (y (ix2 (⟨s.val * 2176 + (128 + q.val), by omega⟩ : Fin 4352) k) : EReal) - t (ix3 s q k) := by
      unfold err
      rw [dif_pos (by dsimp only; omega)]
      refine congrArg _ (congrArg t ?_)
      blk_ext
    exact (congrArg₂ (· * ·) e e).symm
  · have hq := q.isLt
    exact row_zero y t _ (by dsimp only; omega)

theorem reference_step (y : FVec Ideal S4352x1024 .f32) (t : FVec Ideal S2x2048x1024 .f32) (r : Fin 4352) (k : Fin 1024) :
    (shapeCast _ (pad Reference16Ideal.S2x2176x1024 ![0, 128, 0] ![0, 0, 0] ![0, 0, 0] (mulf (broadcastInDim Reference16Ideal.S2x2048x1024 ![0, 1] Reference16Ideal.Gen.bcast_S2x2048_S2x2048x1024_0_1 (Host.divf (broadcastInDim Reference16Ideal.S2x2048 ![] Reference16Ideal.Gen.bcast_S_S2x2048 (mulf (constant Reference16Ideal.S_ .f32 0x3F000000#32) (constant Reference16Ideal.S_ .f32 0x3F800000#32))) (broadcastInDim Reference16Ideal.S2x2048 ![] Reference16Ideal.Gen.bcast_S_S2x2048 (constant Reference16Ideal.S_ .f32 0x44800000#32)))) (mulf (broadcastInDim Reference16Ideal.S2x2048x1024 ![] Reference16Ideal.Gen.bcast_S_S2x2048x1024 (constant Reference16Ideal.S_ .f32 0x40000000#32)) (subf (extractStridedSlice Reference16Ideal.S2x2048x1024 ![0, 128, 0] (shapeCast _ y Reference16Ideal.Gen.shapeCasts_S4352x1024_S2x2176x1024) Reference16Ideal.Gen.slices_S2x2176x1024_S2x2048x1024_0_128_0) t))) (constant Reference16Ideal.S_ .f32 0x00000000#32) Reference16Ideal.Gen.pads_S2x2048x1024_S2x2176x1024_000_12800_000 Reference16Ideal.Gen.h_S_) Reference16Ideal.Gen.shapeCasts_S2x2176x1024_S4352x1024 : FVec Ideal S4352x1024 .f32) (ix2 r k)
      = Ideal.div (err y t r k) (Ideal.ofBits .f32 0x44800000#32) := by
  pointwise
  have hr := r.isLt
  unfold err
  by_cases h : 128 ≤ r.val % 2176
  · rw [dif_pos ⟨by omega, h, by omega⟩, dif_pos h, scale]
    refine congrArg (fun z => Ideal.div (z - _) _) (congrArg y ?_)
    blk_ext
  · rw [dif_neg (fun q => h q.2.1), dif_neg h, zero_div]

theorem frame_reference : Cert.quiescent_Reference16Ideal (hReference16Ideal := Reference16Ideal.Gen.facts) :=
  fun m ρ _ => (θ_run Reference16Ideal.defs _ _).mono
    (fun r h => And.intro (fun c => (h c).2.2) (Idealize.ShloMosaic.sem_eq_zero_of_no_sems (by decide) r.2))
    (Reference16Ideal.Value.run (F := Ideal) m ρ)

theorem algebraic : Cert.algebraic_Kernel16Ideal_Reference16Ideal (hKernel16Ideal := Kernel16Ideal.Gen.facts)
    (hReference16Ideal := Reference16Ideal.Gen.facts) := by
  intro m g m' g' _ hagree
  refine ⟨fun c => loss (m' (c.tc.loc Reference16Ideal.main_arg0)) (m' (c.tc.loc Reference16Ideal.main_arg1)),
    fun c => step (m' (c.tc.loc Reference16Ideal.main_arg0)) (m' (c.tc.loc Reference16Ideal.main_arg1)),
    (θ_run _ _ _).mono (fun r h c => ⟨(h c).1.trans ((final_loss m c).trans ?_), (h c).2.1.trans ((final_step m c).trans ?_), (h c).2.2⟩) (Value.run_blocks m g),
    (θ_run _ _ _).mono (fun r h c => ⟨(h c).1.trans (funext fun i => reference_loss _ _ i), (h c).2.1.trans (funext fun i => ?_), (h c).2.2⟩)
      (Reference16Ideal.Value.run (F := Ideal) m' g')⟩
  · exact congrArg₂ loss (hagree c).1.symm (hagree c).2.symm
  · exact congrArg₂ step (hagree c).1.symm (hagree c).2.symm
  · exact (congrArg _ (ix2_eta (i : S4352x1024.Idx)).symm).trans (reference_step _ _ _ _)

end Cert.Kernel16Ideal.Loss

end
-- ==== Proof.Meta17.lean ====
/- The meta tokens' gradient: over the reals the two sequences' rows, added, are the reference's derivative. -/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit
public import Idealize.ShloMosaic.Lib.Quiescent

@[expose] public section

set_option maxRecDepth 16384

noncomputable section

namespace Cert.Kernel17Ideal.Meta

open Idealize.ShloMosaic Idealize.ShloMosaic.TcCoe Idealize.SL.Sem Cert.Kernel17Ideal Kernel17Ideal.Gen
open Idealize.ShloMosaic.Pipeline (Dat)

/-- The input's block at a point is the first block of the point's sequence; the result's block is the whole of it. -/
theorem idx : ∀ t : Fin cfg0.N, win0_0.index t = ![t.val * 17, 0] ∧ win0_1.index t = ![0, 0] ∧ t.val < 2 :=
  (by decide +kernel : ∀ t : Fin grid0.N, _)

variable (m : (ℓ : Loc nD τ sig) → Buf (Elt Ideal) ℓ)

/-- The sum of the two sequences' gradients at the meta tokens, which are rows 112 to 127 of a sequence. -/
def total (dh : FVec Ideal S4352x1024 .f32) : FVec Ideal S16x1024 .f32 := fun i =>
  (dh (ix2 (⟨112 + (i 0).val, by have : (i 0).val < 16 := (i 0).isLt; omega⟩ : Fin 4352) (i 1)) : EReal)
    + dh (ix2 (⟨2288 + (i 0).val, by have : (i 0).val < 16 := (i 0).isLt; omega⟩ : Fin 4352) (i 1))

theorem final (c : Dev nD) : (dats m 0 c).arrAt 1 (cfgs 0).N = total (m (c.tc.loc main_arg0)) := by
  refine (dats m 0 c).arrAt_eq_of_covers 1 _ (by decide +kernel) fun t hf y => ?_
  have hm : t.val % 2 = 1 := (flush0_1 t).mp hf
  have h2 := (idx t).2.2
  blk_simp
  rw [after0_1, outsAt0_B m c t (by omega), outsAt0_A m c ⟨t.val - 1, Nat.lt_of_le_of_lt (Nat.sub_le _ _) t.isLt⟩ (by dsimp only; omega)]
  frame_out
  pointwise [k0_pay2, k0_pay1, total]
  refine congrArg₂ (· + ·) ?_ ?_
  · blk_ext [iblk, V, idx ⟨t.val - 1, Nat.lt_of_le_of_lt (Nat.sub_le _ _) t.isLt⟩, idx t]
  · blk_ext [iblk, V, idx t]

theorem reference_total (dh : FVec Ideal S4352x1024 .f32) :
    Host.reduceAdd (broadcastInDim Reference17Ideal.S1x16x1024 ![1, 2] Reference17Ideal.Gen.bcast_S16x1024_S1x16x1024_1_2 (Host.reduceAdd (extractStridedSlice Reference17Ideal.S2x16x1024 ![0, 0, 0] (extractStridedSlice Reference17Ideal.S2x2064x1024 ![0, 112, 0] (shapeCast _ dh Reference17Ideal.Gen.shapeCasts_S4352x1024_S2x2176x1024) Reference17Ideal.Gen.slices_S2x2176x1024_S2x2064x1024_0_112_0) Reference17Ideal.Gen.slices_S2x2064x1024_S2x16x1024_0_0_0) (constant Reference17Ideal.S_ .f32 0x00000000#32) Reference17Ideal.Gen.reducesTo_S2x16x1024_S16x1024_d0 Reference17Ideal.Gen.h_S_)) (constant Reference17Ideal.S_ .f32 0x00000000#32) Reference17Ideal.Gen.reducesTo_S1x16x1024_S16x1024_d0 Reference17Ideal.Gen.h_S_ = total dh := by
  funext i
  pointwise [total]
  refine (Fin.sum_univ_one _).trans ((Fin.sum_univ_two _).trans (congrArg₂ (· + ·) ?_ ?_))
  · blk_ext
  · blk_ext

theorem frame_reference : Cert.quiescent_Reference17Ideal (hReference17Ideal := Reference17Ideal.Gen.facts) :=
  fun m ρ _ => (θ_run Reference17Ideal.defs _ _).mono
    (fun r h => And.intro (fun c => (h c).2) (Idealize.ShloMosaic.sem_eq_zero_of_no_sems (by decide) r.2))
    (Reference17Ideal.Value.run (F := Ideal) m ρ)

theorem algebraic : Cert.algebraic_Kernel17Ideal_Reference17Ideal (hKernel17Ideal := Kernel17Ideal.Gen.facts)
    (hReference17Ideal := Reference17Ideal.Gen.facts) := by
  intro m g m' g' _ hagree
  refine ⟨fun c => total (m' (c.tc.loc Reference17Ideal.main_arg0)), (θ_run _ _ _).mono (fun r h c => ⟨(h c).1.trans ((final m c).trans ?_), (h c).2⟩) (Value.run_blocks m g),
    (θ_run _ _ _).mono (fun r h c => ⟨(h c).1.trans (reference_total _), (h c).2⟩) (Reference17Ideal.Value.run (F := Ideal) m' g')⟩
  exact (congrArg _ (hagree c)).symm

end Cert.Kernel17Ideal.Meta

end
-- ==== Proof.Sum18.lean ====
/- The sum of the devices' packed gradients: over the reals the kernel's sum of eight parts is the reference's. -/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit
public import Idealize.ShloMosaic.Lib.Quiescent

@[expose] public section

set_option maxRecDepth 16384

noncomputable section

namespace Cert.Kernel18Ideal.Sum

open Idealize.ShloMosaic Idealize.ShloMosaic.TcCoe Idealize.SL.Sem Cert.Kernel18Ideal Kernel18Ideal.Gen
open Idealize.ShloMosaic.Pipeline (Dat)

/-- Every window's block at a point is the point's rows. -/
theorem idx : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ)

/-- The sum of the eight parts. -/
def total (p : FVec Ideal S8x320x1024 .f32) : FVec Ideal S320x1024 .f32 := fun i => ∑ d : Fin 8, (p (ix3 d (i 0) (i 1)) : EReal)

theorem final (c : Dev nD) : (dats m 0 c).arrAt 1 (cfgs 0).N = total (m (c.tc.loc main_arg0)) := by
  refine (dats m 0 c).arrAt_eq_of_covers 1 _ (by decide +kernel) fun t _ y => ?_
  blk_simp
  rw [after0_1]; frame_out
  rw [total, Fin.sum_univ_eight]
  pointwise [k0_pay1]
  blk_point [iblk, V, idx t]

theorem reference_total (p : FVec Ideal S8x320x1024 .f32) :
    Host.reduceAdd p (constant Reference18Ideal.S_ .f32 0x00000000#32) Reference18Ideal.Gen.reducesTo_S8x320x1024_S320x1024_d0 Reference18Ideal.Gen.h_S_ = total p := by
  funext i
  pointwise [total]

theorem frame_reference : Cert.quiescent_Reference18Ideal (hReference18Ideal := Reference18Ideal.Gen.facts) :=
  fun m ρ _ => (θ_run Reference18Ideal.defs _ _).mono
    (fun r h => And.intro (fun c => (h c).2) (Idealize.ShloMosaic.sem_eq_zero_of_no_sems (by decide) r.2))
    (Reference18Ideal.Value.run (F := Ideal) m ρ)

theorem algebraic : Cert.algebraic_Kernel18Ideal_Reference18Ideal (hKernel18Ideal := Kernel18Ideal.Gen.facts)
    (hReference18Ideal := Reference18Ideal.Gen.facts) := by
  intro m g m' g' _ hagree
  refine ⟨fun c => total (m' (c.tc.loc Reference18Ideal.main_arg0)), (θ_run _ _ _).mono (fun r h c => ⟨(h c).1.trans ((final m c).trans ?_), (h c).2⟩) (Value.run_blocks m g),
    (θ_run _ _ _).mono (fun r h c => ⟨(h c).1.trans (reference_total _), (h c).2⟩) (Reference18Ideal.Value.run (F := Ideal) m' g')⟩
  exact (congrArg _ (hagree c)).symm

end Cert.Kernel18Ideal.Sum

end
-- ==== Proof.Reduce13.lean ====
/- The sum of the devices' parts of a feed-forward weight's gradient and the step on the weight: over the reals the kernel's four results are the reference's. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.VecWindow
public import Idealize.ShloMosaic.Lib.ValueLayout
public import Idealize.ShloMosaic.Lib.Quiescent

@[expose] public section

set_option maxRecDepth 16384

noncomputable section

namespace Cert.Kernel13Ideal.Reduce

open Idealize.ShloMosaic Idealize.ShloMosaic.TcCoe Idealize.SL.Sem Cert.Kernel13Ideal Kernel13Ideal.Gen

/-- The sum of the devices' parts, entry by entry: this device's own part, then the seven others'. -/
def total (p o : FVec Ideal S8x352x1024 .bf16) (i : Fin 352) (k : Fin 1024) : EReal :=
  (o (ix3 (0 : Fin 8) i k) : EReal) + p (ix3 (1 : Fin 8) i k) + p (ix3 (2 : Fin 8) i k) + p (ix3 (3 : Fin 8) i k) + p (ix3 (4 : Fin 8) i k)
    + p (ix3 (5 : Fin 8) i k) + p (ix3 (6 : Fin 8) i k) + p (ix3 (7 : Fin 8) i k)

/-- The new first moment of an entry. -/
def newM (g m : EReal) : EReal := Ideal.ofBits .f32 0x3F666666#32 * m + Ideal.ofBits .f32 0x3DCCCCCD#32 * g

/-- The new second moment of an entry. -/
def newV (g v : EReal) : EReal := Ideal.ofBits .f32 0x3F7FBE77#32 * v + Ideal.ofBits .f32 0x3A83126F#32 * (g * g)

/-- The step of an entry. -/
def newD (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-- The whole array: the last layer's block is new, the other layers' blocks are the old array's. -/
def put (old : FVec Ideal S4x352x1024 .f32) (new : Fin 352 → Fin 1024 → EReal) : FVec Ideal S4x352x1024 .f32 :=
  fun y => if (y 0).val < 3 then old y else new (y 1) (y 2)

section kernel

variable (m : (ℓ : Loc nD τ sig) → Buf (Elt Ideal) ℓ) (c : Dev nD)

/-- The block of every window at the one point. -/
theorem idx : ∀ t : Fin cfg0.N, win0_0.index t = ![0, 0, 0] ∧ win0_1.index t = ![3, 0, 0] ∧ win0_2.index t = ![3, 0, 0] ∧ win0_3.index t = ![3, 0, 0]
    ∧ win0_4.index t = ![3, 0, 0] ∧ win0_5.index t = ![3, 0, 0] ∧ win0_6.index t = ![3, 0, 0] ∧ win0_7.index t = ![3, 0, 0] ∧ t.val < 1 :=
  (by decide +kernel : ∀ t : Fin grid0.N, _)

/-- The grid's one point. -/
def pt : Fin cfg0.N := ⟨0, by decide⟩

theorem entry_v4 : V m c (Pipeline.arrRef spec0 4) = m (c.tc.loc main_arg5) := by
  simp only [V, hostOps0, List.flatten_cons, List.flatten_nil, List.append_nil, List.cons_append, List.nil_append]
  after_results_simp
  rfl

theorem entry_v5 : V m c (Pipeline.arrRef spec0 5) = m (c.tc.loc main_arg6) := by
  simp only [V, hostOps0, List.flatten_cons, List.flatten_nil, List.append_nil, List.cons_append, List.nil_append]
  after_results_simp
  rfl

theorem entry_v6 : V m c (Pipeline.arrRef spec0 6) = m (c.tc.loc main_arg7) := by
  simp only [V, hostOps0, List.flatten_cons, List.flatten_nil, List.append_nil, List.cons_append, List.nil_append]
  after_results_simp
  rfl

theorem entry_v7 : V m c (Pipeline.arrRef spec0 7) = m (c.tc.loc main_arg8) := by
  simp only [V, hostOps0, List.flatten_cons, List.flatten_nil, List.append_nil, List.cons_append, List.nil_append]
  after_results_simp
  rfl

/-- A read of the scratch after one copy over the whole of it gives what was copied. -/
theorem copied (w : S352x1024.Idx → Elt Ideal .bf16) (i : Fin 352) (k : Fin 1024) :
    (View.whole cc0_scratch0).readCov (Val := Elt Ideal) [⟨Rect.whole S352x1024, w⟩]
      (Rect.unit (s := S352x1024) ![0, 0] ![352, 1024] inb_S352x1024_S352x1024_0_0).toLoadRect (ix2 i k) = w (ix2 i k) := by
  exact congrFun (View.readCov_full (View.whole cc0_scratch0) _ (fun a => by simp) w []) (ix2 i k)

/-- This device's own part, as the copy leaves it in the scratch. -/
def own : Vec Ideal S352x1024 .bf16 :=
  ((View.whole cc0_scratch0).readCov (Val := Elt Ideal)
    [⟨Rect.whole S352x1024, ReadAs.same.apply (View.read (Elt Ideal)
      (((View.whole main_arg1).slice (Rect.unit ![0, 0, 0] ![1, 352, 1024] inb_S8x352x1024_S1x352x1024_0_0_0)).reshape S352x1024 (by decide)) (V m c main_arg1))⟩]
    (Rect.unit (s := S352x1024) ![0, 0] ![352, 1024] inb_S352x1024_S352x1024_0_0).toLoadRect :)

theorem own_at (i : Fin 352) (k : Fin 1024) : own m c (ix2 i k) = (m (c.tc.loc main_arg1) : FVec Ideal S8x352x1024 .bf16) (ix3 (0 : Fin 8) i k) := by
  rw [own, V_main_arg1]
  refine (copied _ i k).trans ?_
  have hr : (S352x1024).numel = (S1x352x1024).numel := by decide
  have e : Shape.reshapeEquiv hr (ix2 i k) = (ix3 (0 : Fin 1) i k : S1x352x1024.Idx) := ValueIdx.reshapeEquiv_ix2_1ab _ _ _
  show (m (c.tc.loc main_arg1) : FVec Ideal S8x352x1024 .bf16) ((Rect.unit (s := S8x352x1024) ![0, 0, 0] ![1, 352, 1024] inb_S8x352x1024_S1x352x1024_0_0_0).emb (Shape.reshapeEquiv hr (ix2 i k))) = _
  rw [e]
  congr 1; funext a; apply Fin.ext
  match a with
  | ⟨0, _⟩ => rfl
  | ⟨1, _⟩ => show 0 + 1 * i.val = i.val; omega
  | ⟨2, _⟩ => show 0 + 1 * k.val = k.val; omega

variable (t : Fin cfg0.N)

/-- The sum of the parts, as the body accumulates it. -/
def acc : FVec Ideal S352x1024 .f32 :=
  k0_pay11 (k0_pay10 (k0_pay9 (k0_pay8 (k0_pay7 (k0_pay6 (k0_pay5 (k0_pay4 (own m c))
    (View.ld (iblk m c 0 t) (Rect.unit ![1, 0, 0] ![1, 352, 1024] inb_S8x352x1024_S1x352x1024_1_0_0)))
    (View.ld (iblk m c 0 t) (Rect.unit ![2, 0, 0] ![1, 352, 1024] inb_S8x352x1024_S1x352x1024_2_0_0)))
    (View.ld (iblk m c 0 t) (Rect.unit ![3, 0, 0] ![1, 352, 1024] inb_S8x352x1024_S1x352x1024_3_0_0)))
    (View.ld (iblk m c 0 t) (Rect.unit ![4, 0, 0] ![1, 352, 1024] inb_S8x352x1024_S1x352x1024_4_0_0)))
    (View.ld (iblk m c 0 t) (Rect.unit ![5, 0, 0] ![1, 352, 1024] inb_S8x352x1024_S1x352x1024_5_0_0)))
    (View.ld (iblk m c 0 t) (Rect.unit ![6, 0, 0] ![1, 352, 1024] inb_S8x352x1024_S1x352x1024_6_0_0)))
    (View.ld (iblk m c 0 t) (Rect.unit ![7, 0, 0] ![1, 352, 1024] inb_S8x352x1024_S1x352x1024_7_0_0))

theorem part_at (i : Fin 352) (k : Fin 1024) (d : Fin 8) : (iblk m c 0 t : Vec Ideal S8x352x1024 .bf16) (ix3 d i k)
    = (m (c.tc.loc main_arg0) : FVec Ideal S8x352x1024 .bf16) (ix3 d i k) := by
  blk_ext [iblk, V_main_arg0, idx t]

theorem w_at (i : Fin 352) (k : Fin 1024) : (iblk m c 1 t : Vec Ideal S1x352x1024 .f32) (ix3 (0 : Fin 1) i k)
    = (m (c.tc.loc main_arg2) : FVec Ideal S4x352x1024 .f32) (ix3 (3 : Fin 4) i k) := by
  blk_ext [iblk, V_main_arg2, idx t]

theorem m_at (i : Fin 352) (k : Fin 1024) : (iblk m c 2 t : Vec Ideal S1x352x1024 .f32) (ix3 (0 : Fin 1) i k)
    = (m (c.tc.loc main_arg3) : FVec Ideal S4x352x1024 .f32) (ix3 (3 : Fin 4) i k) := by
  blk_ext [iblk, V_main_arg3, idx t]

theorem v_at (i : Fin 352) (k : Fin 1024) : (iblk m c 3 t : Vec Ideal S1x352x1024 .f32) (ix3 (0 : Fin 1) i k)
    = (m (c.tc.loc main_arg4) : FVec Ideal S4x352x1024 .f32) (ix3 (3 : Fin 4) i k) := by
  blk_ext [iblk, V_main_arg4, idx t]

theorem acc_at (i : Fin 352) (k : Fin 1024) : acc m c t (ix2 i k)
    = total (m (c.tc.loc main_arg0)) (m (c.tc.loc main_arg1)) i k := by
  have h := part_at m c t i k
  pointwise [acc, k0_pay4, k0_pay5, k0_pay6, k0_pay7, k0_pay8, k0_pay9, k0_pay10, k0_pay11, own_at, total, h]

/-- The gradient's block, entry by entry. -/
theorem after_4 (i : Fin 352) (k : Fin 1024) : ((dats m 0 c).after 4 t : FVec Ideal S1x352x1024 .f32) (ix3 (0 : Fin 1) i k) = (total (m (c.tc.loc main_arg0)) (m (c.tc.loc main_arg1)) i k) := by
  have hw := w_at m c t i k
  have hm := m_at m c t i k
  have hv := v_at m c t i k
  have e : (dats m 0 c).after 4 t = (k0_pay12 (F := Ideal) (acc m c t) : FVec Ideal S1x352x1024 .f32) := by rw [after0_4]; unfold outsAt0; frame_out; rfl
  rw [e]
  pointwise [k0_pay12, acc_at]

/-- The gradient's array at the end of the run. -/
theorem arr_4 : (dats m 0 c).arrAt 4 (cfgs 0).N = put (m (c.tc.loc main_arg5)) (fun i k => (total (m (c.tc.loc main_arg0)) (m (c.tc.loc main_arg1)) i k)) := by
  funext y
  unfold put
  split
  · rename_i h
    refine (Value.entry4 m c y fun t _ hc => ?_).trans (congrFun (entry_v4 m c) y)
    obtain ⟨x, _, h1⟩ := Finset.mem_map.mp hc
    have h0 : (((cfg0.win 4).blk t).view.emb x 0).val = 3 + (x 0).val := by blk_simp [idx t]
    rw [h1] at h0
    omega
  · rename_i h
    have hf : (cfg0.win 4).flush pt = true := by decide +kernel
    have hb := congrFun (Value.blocks4 m c pt hf) (ix3 (0 : Fin 1) (y 1) (y 2))
    have he : ((cfg0.win 4).blk pt).view.emb (ix3 (0 : Fin 1) (y 1) (y 2)) = y := by
      have := (y 0).isLt
      blk_ext [idx pt]
    refine (congrArg _ he).symm.trans (hb.trans ?_)
    refine Eq.trans ?_ (after_4 m c pt (y 1) (y 2))
    blk_simp

/-- The step's block, entry by entry. -/
theorem after_5 (i : Fin 352) (k : Fin 1024) : ((dats m 0 c).after 5 t : FVec Ideal S1x352x1024 .f32) (ix3 (0 : Fin 1) i k) = newD ((m (c.tc.loc main_arg2) : FVec Ideal S4x352x1024 .f32) (ix3 (3 : Fin 4) i k)) (total (m (c.tc.loc main_arg0)) (m (c.tc.loc main_arg1)) i k) ((m (c.tc.loc main_arg3) : FVec Ideal S4x352x1024 .f32) (ix3 (3 : Fin 4) i k)) ((m (c.tc.loc main_arg4) : FVec Ideal S4x352x1024 .f32) (ix3 (3 : Fin 4) i k)) := by
  have hw := w_at m c t i k
  have hm := m_at m c t i k
  have hv := v_at m c t i k
  have e : (dats m 0 c).after 5 t = (k0_pay1 (F := Ideal) (k0_pay13 (iblk m c 1 t)) (k0_pay15 (acc m c t) (iblk m c 3 t)) (k0_pay16 (acc m c t) (iblk m c 2 t)) k0_pay17 : FVec Ideal S1x352x1024 .f32) := by rw [after0_5]; unfold outsAt0; frame_out; rfl
  rw [e]
  pointwise [k0_pay1, k0_pay13, k0_pay14, k0_pay15, k0_pay16, k0_pay17, acc_at, newD, newM, newV, hw, hm, hv]

/-- The step's array at the end of the run. -/
theorem arr_5 : (dats m 0 c).arrAt 5 (cfgs 0).N = put (m (c.tc.loc main_arg6)) (fun i k => newD ((m (c.tc.loc main_arg2) : FVec Ideal S4x352x1024 .f32) (ix3 (3 : Fin 4) i k)) (total (m (c.tc.loc main_arg0)) (m (c.tc.loc main_arg1)) i k) ((m (c.tc.loc main_arg3) : FVec Ideal S4x352x1024 .f32) (ix3 (3 : Fin 4) i k)) ((m (c.tc.loc main_arg4) : FVec Ideal S4x352x1024 .f32) (ix3 (3 : Fin 4) i k))) := by
  funext y
  unfold put
  split
  · rename_i h
    refine (Value.entry5 m c y fun t _ hc => ?_).trans (congrFun (entry_v5 m c) y)
    obtain ⟨x, _, h1⟩ := Finset.mem_map.mp hc
    have h0 : (((cfg0.win 5).blk t).view.emb x 0).val = 3 + (x 0).val := by blk_simp [idx t]
    rw [h1] at h0
    omega
  · rename_i h
    have hf : (cfg0.win 5).flush pt = true := by decide +kernel
    have hb := congrFun (Value.blocks5 m c pt hf) (ix3 (0 : Fin 1) (y 1) (y 2))
    have he : ((cfg0.win 5).blk pt).view.emb (ix3 (0 : Fin 1) (y 1) (y 2)) = y := by
      have := (y 0).isLt
      blk_ext [idx pt]
    refine (congrArg _ he).symm.trans (hb.trans ?_)
    refine Eq.trans ?_ (after_5 m c pt (y 1) (y 2))
    blk_simp

/-- The first moment's block, entry by entry. -/
theorem after_6 (i : Fin 352) (k : Fin 1024) : ((dats m 0 c).after 6 t : FVec Ideal S1x352x1024 .f32) (ix3 (0 : Fin 1) i k) = newM (total (m (c.tc.loc main_arg0)) (m (c.tc.loc main_arg1)) i k) ((m (c.tc.loc main_arg3) : FVec Ideal S4x352x1024 .f32) (ix3 (3 : Fin 4) i k)) := by
  have hw := w_at m c t i k
  have hm := m_at m c t i k
  have hv := v_at m c t i k
  have e : (dats m 0 c).after 6 t = (k0_pay2 (F := Ideal) (k0_pay14 (acc m c t) (iblk m c 2 t)) : FVec Ideal S1x352x1024 .f32) := by rw [after0_6]; unfold outsAt0; frame_out; rfl
  rw [e]
  pointwise [k0_pay2, k0_pay14, acc_at, newM, hm]

/-- The first moment's array at the end of the run. -/
theorem arr_6 : (dats m 0 c).arrAt 6 (cfgs 0).N = put (m (c.tc.loc main_arg7)) (fun i k => newM (total (m (c.tc.loc main_arg0)) (m (c.tc.loc main_arg1)) i k) ((m (c.tc.loc main_arg3) : FVec Ideal S4x352x1024 .f32) (ix3 (3 : Fin 4) i k))) := by
  funext y
  unfold put
  split
  · rename_i h
    refine (Value.entry6 m c y fun t _ hc => ?_).trans (congrFun (entry_v6 m c) y)
    obtain ⟨x, _, h1⟩ := Finset.mem_map.mp hc
    have h0 : (((cfg0.win 6).blk t).view.emb x 0).val = 3 + (x 0).val := by blk_simp [idx t]
    rw [h1] at h0
    omega
  · rename_i h
    have hf : (cfg0.win 6).flush pt = true := by decide +kernel
    have hb := congrFun (Value.blocks6 m c pt hf) (ix3 (0 : Fin 1) (y 1) (y 2))
    have he : ((cfg0.win 6).blk pt).view.emb (ix3 (0 : Fin 1) (y 1) (y 2)) = y := by
      have := (y 0).isLt
      blk_ext [idx pt]
    refine (congrArg _ he).symm.trans (hb.trans ?_)
    refine Eq.trans ?_ (after_6 m c pt (y 1) (y 2))
    blk_simp

/-- The second moment's block, entry by entry. -/
theorem after_7 (i : Fin 352) (k : Fin 1024) : ((dats m 0 c).after 7 t : FVec Ideal S1x352x1024 .f32) (ix3 (0 : Fin 1) i k) = newV (total (m (c.tc.loc main_arg0)) (m (c.tc.loc main_arg1)) i k) ((m (c.tc.loc main_arg4) : FVec Ideal S4x352x1024 .f32) (ix3 (3 : Fin 4) i k)) := by
  have hw := w_at m c t i k
  have hm := m_at m c t i k
  have hv := v_at m c t i k
  have e : (dats m 0 c).after 7 t = (k0_pay3 (F := Ideal) (k0_pay15 (acc m c t) (iblk m c 3 t)) : FVec Ideal S1x352x1024 .f32) := by rw [after0_7]; unfold outsAt0; frame_out; rfl
  rw [e]
  pointwise [k0_pay3, k0_pay15, acc_at, newV, hv]

/-- The second moment's array at the end of the run. -/
theorem arr_7 : (dats m 0 c).arrAt 7 (cfgs 0).N = put (m (c.tc.loc main_arg8)) (fun i k => newV (total (m (c.tc.loc main_arg0)) (m (c.tc.loc main_arg1)) i k) ((m (c.tc.loc main_arg4) : FVec Ideal S4x352x1024 .f32) (ix3 (3 : Fin 4) i k))) := by
  funext y
  unfold put
  split
  · rename_i h
    refine (Value.entry7 m c y fun t _ hc => ?_).trans (congrFun (entry_v7 m c) y)
    obtain ⟨x, _, h1⟩ := Finset.mem_map.mp hc
    have h0 : (((cfg0.win 7).blk t).view.emb x 0).val = 3 + (x 0).val := by blk_simp [idx t]
    rw [h1] at h0
    omega
  · rename_i h
    have hf : (cfg0.win 7).flush pt = true := by decide +kernel
    have hb := congrFun (Value.blocks7 m c pt hf) (ix3 (0 : Fin 1) (y 1) (y 2))
    have he : ((cfg0.win 7).blk pt).view.emb (ix3 (0 : Fin 1) (y 1) (y 2)) = y := by
      have := (y 0).isLt
      blk_ext [idx pt]
    refine (congrArg _ he).symm.trans (hb.trans ?_)
    refine Eq.trans ?_ (after_7 m c pt (y 1) (y 2))
    blk_simp

end kernel

section reference

/-- The reference's sum over the devices. -/
def gsum (p o : FVec Ideal S8x352x1024 .bf16) : FVec Ideal S352x1024 .f32 :=
  Host.reduceAdd (extf .f32 (concatenate S8x352x1024 0 [⟨S1x352x1024, (extractStridedSlice S1x352x1024 ![0, 0, 0] o Reference13Ideal.Gen.slices_S8x352x1024_S1x352x1024_0_0_0)⟩, ⟨Reference13Ideal.S7x352x1024, (extractStridedSlice Reference13Ideal.S7x352x1024 ![1, 0, 0] p Reference13Ideal.Gen.slices_S8x352x1024_S7x352x1024_1_0_0)⟩] Reference13Ideal.Gen.concatenates_S1x352x1024_S7x352x1024_S8x352x1024_d0) Reference13Ideal.Gen.bitsLt_bf16_f32) (constant S_ .f32 0x00000000#32) Reference13Ideal.Gen.reducesTo_S8x352x1024_S352x1024_d0 Reference13Ideal.Gen.h_S_

theorem gsum_at (p o : FVec Ideal S8x352x1024 .bf16) (i : Fin 352) (k : Fin 1024) : gsum p o (ix2 i k) = total p o i k := by
  pointwise [gsum, total]
  refine (congrArg₂ (· + ·) (Fin.sum_univ_one _) (Fin.sum_univ_seven _)).trans ?_
  simp only [add_assoc]
  rfl

theorem concat_put (old : FVec Ideal S4x352x1024 .f32) (x : FVec Ideal S352x1024 .f32) :
    concatenate S4x352x1024 0 [⟨Reference13Ideal.S3x352x1024, (extractStridedSlice Reference13Ideal.S3x352x1024 ![0, 0, 0] old Reference13Ideal.Gen.slices_S4x352x1024_S3x352x1024_0_0_0)⟩, ⟨S1x352x1024, (broadcastInDim S1x352x1024 ![1, 2] Reference13Ideal.Gen.bcast_S352x1024_S1x352x1024_1_2 x)⟩] Reference13Ideal.Gen.concatenates_S3x352x1024_S1x352x1024_S4x352x1024_d0
      = put old (fun i k => x (ix2 i k)) := by
  funext y
  unfold put
  split
  · rename_i h; pointwise; exact dif_pos h
  · rename_i h; pointwise; exact dif_neg h

theorem step_at (g : FVec Ideal S352x1024 .f32) (w mm vv : FVec Ideal S4x352x1024 .f32) (i : Fin 352) (k : Fin 1024) :
    (mulf (broadcastInDim Reference13Ideal.S352x1024 ![] Reference13Ideal.Gen.bcast_S_S352x1024 (constant Reference13Ideal.S_ .f32 0xBA83126F#32)) (addf (Host.divf (Host.divf (addf (mulf (broadcastInDim Reference13Ideal.S352x1024 ![] Reference13Ideal.Gen.bcast_S_S352x1024 (constant Reference13Ideal.S_ .f32 0x3F666666#32)) (shapeCast _ (extractStridedSlice Reference13Ideal.S1x352x1024 ![3, 0, 0] mm Reference13Ideal.Gen.slices_S4x352x1024_S1x352x1024_3_0_0) Reference13Ideal.Gen.shapeCasts_S1x352x1024_S352x1024)) (mulf (broadcastInDim Reference13Ideal.S352x1024 ![] Reference13Ideal.Gen.bcast_S_S352x1024 (constant Reference13Ideal.S_ .f32 0x3DCCCCCD#32)) g)) (broadcastInDim Reference13Ideal.S352x1024 ![] Reference13Ideal.Gen.bcast_S_S352x1024 (constant Reference13Ideal.S_ .f32 0x3F26BD02#32))) (addf (Host.sqrt (Host.divf (addf (mulf (broadcastInDim Reference13Ideal.S352x1024 ![] Reference13Ideal.Gen.bcast_S_S352x1024 (constant Reference13Ideal.S_ .f32 0x3F7FBE77#32)) (shapeCast _ (extractStridedSlice Reference13Ideal.S1x352x1024 ![3, 0, 0] vv Reference13Ideal.Gen.slices_S4x352x1024_S1x352x1024_3_0_0) Reference13Ideal.Gen.shapeCasts_S1x352x1024_S352x1024)) (mulf (broadcastInDim Reference13Ideal.S352x1024 ![] Reference13Ideal.Gen.bcast_S_S352x1024 (constant Reference13Ideal.S_ .f32 0x3A83126F#32)) (mulf g g))) (broadcastInDim Reference13Ideal.S352x1024 ![] Reference13Ideal.Gen.bcast_S_S352x1024 (constant Reference13Ideal.S_ .f32 0x3C231ACC#32)))) (broadcastInDim Reference13Ideal.S352x1024 ![] Reference13Ideal.Gen.bcast_S_S352x1024 (constant Reference13Ideal.S_ .f32 0x322BCC77#32)))) (mulf (broadcastInDim Reference13Ideal.S352x1024 ![] Reference13Ideal.Gen.bcast_S_S352x1024 (constant Reference13Ideal.S_ .f32 0x3C23D70A#32)) (shapeCast _ (extractStridedSlice Reference13Ideal.S1x352x1024 ![3, 0, 0] w Reference13Ideal.Gen.slices_S4x352x1024_S1x352x1024_3_0_0) Reference13Ideal.Gen.shapeCasts_S1x352x1024_S352x1024))) : FVec Ideal S352x1024 .f32) (ix2 i k)
      = newD (w (ix3 (3 : Fin 4) i k)) (g (ix2 i k)) (mm (ix3 (3 : Fin 4) i k)) (vv (ix3 (3 : Fin 4) i k)) := by
  pointwise [newD, newM, newV]

theorem moment1_at (g : FVec Ideal S352x1024 .f32) (mm : FVec Ideal S4x352x1024 .f32) (i : Fin 352) (k : Fin 1024) :
    (addf (mulf (broadcastInDim Reference13Ideal.S352x1024 ![] Reference13Ideal.Gen.bcast_S_S352x1024 (constant Reference13Ideal.S_ .f32 0x3F666666#32)) (shapeCast _ (extractStridedSlice Reference13Ideal.S1x352x1024 ![3, 0, 0] mm Reference13Ideal.Gen.slices_S4x352x1024_S1x352x1024_3_0_0) Reference13Ideal.Gen.shapeCasts_S1x352x1024_S352x1024)) (mulf (broadcastInDim Reference13Ideal.S352x1024 ![] Reference13Ideal.Gen.bcast_S_S352x1024 (constant Reference13Ideal.S_ .f32 0x3DCCCCCD#32)) g) : FVec Ideal S352x1024 .f32) (ix2 i k)
      = newM (g (ix2 i k)) (mm (ix3 (3 : Fin 4) i k)) := by
  pointwise [newM]

theorem moment2_at (g : FVec Ideal S352x1024 .f32) (vv : FVec Ideal S4x352x1024 .f32) (i : Fin 352) (k : Fin 1024) :
    (addf (mulf (broadcastInDim Reference13Ideal.S352x1024 ![] Reference13Ideal.Gen.bcast_S_S352x1024 (constant Reference13Ideal.S_ .f32 0x3F7FBE77#32)) (shapeCast _ (extractStridedSlice Reference13Ideal.S1x352x1024 ![3, 0, 0] vv Reference13Ideal.Gen.slices_S4x352x1024_S1x352x1024_3_0_0) Reference13Ideal.Gen.shapeCasts_S1x352x1024_S352x1024)) (mulf (broadcastInDim Reference13Ideal.S352x1024 ![] Reference13Ideal.Gen.bcast_S_S352x1024 (constant Reference13Ideal.S_ .f32 0x3A83126F#32)) (mulf g g)) : FVec Ideal S352x1024 .f32) (ix2 i k)
      = newV (g (ix2 i k)) (vv (ix3 (3 : Fin 4) i k)) := by
  pointwise [newV]

end reference

theorem frame_reference : Cert.quiescent_Reference13Ideal (hReference13Ideal := Reference13Ideal.Gen.facts) :=
  fun m ρ _ => (θ_run Reference13Ideal.defs _ _).mono
    (fun r h => And.intro (fun c => (h c).2.2.2.2) (Idealize.ShloMosaic.sem_eq_zero_of_no_sems (by decide) r.2))
    (Reference13Ideal.Value.run (F := Ideal) m ρ)

theorem algebraic : Cert.algebraic_Kernel13Ideal_Reference13Ideal (hKernel13Ideal := Kernel13Ideal.Gen.facts)
    (hReference13Ideal := Reference13Ideal.Gen.facts) := by
  pair_intro
  · run_from Value.run_blocks m g
  · run_from Reference13Ideal.Value.run m' g'
    · exact (concat_put _ _).trans ((congrArg₂ put (hagree c).2.2.2.2.2.1 (funext fun i => funext fun k => gsum_at _ _ i k)).trans (arr_4 m c).symm)
    · exact (concat_put _ _).trans ((congrArg₂ put (hagree c).2.2.2.2.2.2.1 (funext fun i => funext fun k => (step_at (gsum _ _) _ _ _ i k).trans
        (by rw [gsum_at, (hagree c).2.2.2.2.1]))).trans (arr_5 m c).symm)
    · exact (concat_put _ _).trans ((congrArg₂ put (hagree c).2.2.2.2.2.2.2.1 (funext fun i => funext fun k => (moment1_at (gsum _ _) _ i k).trans
        (by rw [gsum_at, (hagree c).2.2.2.1]))).trans (arr_6 m c).symm)
    · exact (concat_put _ _).trans ((congrArg₂ put (hagree c).2.2.2.2.2.2.2.2 (funext fun i => funext fun k => (moment2_at (gsum _ _) _ i k).trans
        (by rw [gsum_at, (hagree c).2.2.2.2.1]))).trans (arr_7 m c).symm)

end Cert.Kernel13Ideal.Reduce

end
-- ==== Proof.Reduce14.lean ====
/- The sum of the devices' parts of the input projection's gradient and the step on the weight: over the reals the kernel's four results are the reference's. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit
public import Idealize.ShloMosaic.Lib.VecWindow
public import Idealize.ShloMosaic.Lib.ValueLayout
public import Idealize.ShloMosaic.Lib.Quiescent

@[expose] public section

set_option maxRecDepth 16384

noncomputable section

namespace Cert.Kernel14Ideal.Reduce

open Idealize.ShloMosaic Idealize.ShloMosaic.TcCoe Idealize.SL.Sem Cert.Kernel14Ideal Kernel14Ideal.Gen

/-- The sum of the devices' parts, entry by entry: this device's own part, then the seven others'. -/
def total (p o : FVec Ideal S8x224x1024 .bf16) (i : Fin 224) (k : Fin 1024) : EReal :=
  (o (ix3 (0 : Fin 8) i k) : EReal) + p (ix3 (1 : Fin 8) i k) + p (ix3 (2 : Fin 8) i k) + p (ix3 (3 : Fin 8) i k) + p (ix3 (4 : Fin 8) i k)
    + p (ix3 (5 : Fin 8) i k) + p (ix3 (6 : Fin 8) i k) + p (ix3 (7 : Fin 8) i k)

/-- The new first moment of an entry. -/
def newM (g m : EReal) : EReal := Ideal.ofBits .f32 0x3F666666#32 * m + Ideal.ofBits .f32 0x3DCCCCCD#32 * g

/-- The new second moment of an entry. -/
def newV (g v : EReal) : EReal := Ideal.ofBits .f32 0x3F7FBE77#32 * v + Ideal.ofBits .f32 0x3A83126F#32 * (g * g)

/-- The step of an entry. -/
def newD (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-- The whole array: the last layer's block is new, the other layers' blocks are the old array's. -/
def put (old : FVec Ideal S4x224x1024 .f32) (new : Fin 224 → Fin 1024 → EReal) : FVec Ideal S4x224x1024 .f32 :=
  fun y => if (y 0).val < 3 then old y else new (y 1) (y 2)

section kernel

variable (m : (ℓ : Loc nD τ sig) → Buf (Elt Ideal) ℓ) (c : Dev nD)

/-- The block of every window at the one point. -/
theorem idx : ∀ t : Fin cfg0.N, win0_0.index t = ![0, 0, 0] ∧ win0_1.index t = ![3, 0, 0] ∧ win0_2.index t = ![3, 0, 0] ∧ win0_3.index t = ![3, 0, 0]
    ∧ win0_4.index t = ![3, 0, 0] ∧ win0_5.index t = ![3, 0, 0] ∧ win0_6.index t = ![3, 0, 0] ∧ win0_7.index t = ![3, 0, 0] ∧ t.val < 1 :=
  (by decide +kernel : ∀ t : Fin grid0.N, _)

/-- The grid's one point. -/
def pt : Fin cfg0.N := ⟨0, by decide⟩

theorem entry_v4 : V m c (Pipeline.arrRef spec0 4) = m (c.tc.loc main_arg5) := by
  simp only [V, hostOps0, List.flatten_cons, List.flatten_nil, List.append_nil, List.cons_append, List.nil_append]
  after_results_simp
  rfl

theorem entry_v5 : V m c (Pipeline.arrRef spec0 5) = m (c.tc.loc main_arg6) := by
  simp only [V, hostOps0, List.flatten_cons, List.flatten_nil, List.append_nil, List.cons_append, List.nil_append]
  after_results_simp
  rfl

theorem entry_v6 : V m c (Pipeline.arrRef spec0 6) = m (c.tc.loc main_arg7) := by
  simp only [V, hostOps0, List.flatten_cons, List.flatten_nil, List.append_nil, List.cons_append, List.nil_append]
  after_results_simp
  rfl

theorem entry_v7 : V m c (Pipeline.arrRef spec0 7) = m (c.tc.loc main_arg8) := by
  simp only [V, hostOps0, List.flatten_cons, List.flatten_nil, List.append_nil, List.cons_append, List.nil_append]
  after_results_simp
  rfl

/-- A read of the scratch after one copy over the whole of it gives what was copied. -/
theorem copied (w : S224x1024.Idx → Elt Ideal .bf16) (i : Fin 224) (k : Fin 1024) :
    (View.whole cc0_scratch0).readCov (Val := Elt Ideal) [⟨Rect.whole S224x1024, w⟩]
      (Rect.unit (s := S224x1024) ![0, 0] ![224, 1024] inb_S224x1024_S224x1024_0_0).toLoadRect (ix2 i k) = w (ix2 i k) := by
  exact congrFun (View.readCov_full (View.whole cc0_scratch0) _ (fun a => by simp) w []) (ix2 i k)

/-- This device's own part, as the copy leaves it in the scratch. -/
def own : Vec Ideal S224x1024 .bf16 :=
  ((View.whole cc0_scratch0).readCov (Val := Elt Ideal)
    [⟨Rect.whole S224x1024, ReadAs.same.apply (View.read (Elt Ideal)
      (((View.whole main_arg1).slice (Rect.unit ![0, 0, 0] ![1, 224, 1024] inb_S8x224x1024_S1x224x1024_0_0_0)).reshape S224x1024 (by decide)) (V m c main_arg1))⟩]
    (Rect.unit (s := S224x1024) ![0, 0] ![224, 1024] inb_S224x1024_S224x1024_0_0).toLoadRect :)

theorem own_at (i : Fin 224) (k : Fin 1024) : own m c (ix2 i k) = (m (c.tc.loc main_arg1) : FVec Ideal S8x224x1024 .bf16) (ix3 (0 : Fin 8) i k) := by
  rw [own, V_main_arg1]
  refine (copied _ i k).trans ?_
  have hr : (S224x1024).numel = (S1x224x1024).numel := by decide
  have e : Shape.reshapeEquiv hr (ix2 i k) = (ix3 (0 : Fin 1) i k : S1x224x1024.Idx) := ValueIdx.reshapeEquiv_ix2_1ab _ _ _
  show (m (c.tc.loc main_arg1) : FVec Ideal S8x224x1024 .bf16) ((Rect.unit (s := S8x224x1024) ![0, 0, 0] ![1, 224, 1024] inb_S8x224x1024_S1x224x1024_0_0_0).emb (Shape.reshapeEquiv hr (ix2 i k))) = _
  rw [e]
  congr 1; funext a; apply Fin.ext
  match a with
  | ⟨0, _⟩ => rfl
  | ⟨1, _⟩ => show 0 + 1 * i.val = i.val; omega
  | ⟨2, _⟩ => show 0 + 1 * k.val = k.val; omega

variable (t : Fin cfg0.N)

/-- The sum of the parts, as the body accumulates it. -/
def acc : FVec Ideal S224x1024 .f32 :=
  k0_pay11 (k0_pay10 (k0_pay9 (k0_pay8 (k0_pay7 (k0_pay6 (k0_pay5 (k0_pay4 (own m c))
    (View.ld (iblk m c 0 t) (Rect.unit ![1, 0, 0] ![1, 224, 1024] inb_S8x224x1024_S1x224x1024_1_0_0)))
    (View.ld (iblk m c 0 t) (Rect.unit ![2, 0, 0] ![1, 224, 1024] inb_S8x224x1024_S1x224x1024_2_0_0)))
    (View.ld (iblk m c 0 t) (Rect.unit ![3, 0, 0] ![1, 224, 1024] inb_S8x224x1024_S1x224x1024_3_0_0)))
    (View.ld (iblk m c 0 t) (Rect.unit ![4, 0, 0] ![1, 224, 1024] inb_S8x224x1024_S1x224x1024_4_0_0)))
    (View.ld (iblk m c 0 t) (Rect.unit ![5, 0, 0] ![1, 224, 1024] inb_S8x224x1024_S1x224x1024_5_0_0)))
    (View.ld (iblk m c 0 t) (Rect.unit ![6, 0, 0] ![1, 224, 1024] inb_S8x224x1024_S1x224x1024_6_0_0)))
    (View.ld (iblk m c 0 t) (Rect.unit ![7, 0, 0] ![1, 224, 1024] inb_S8x224x1024_S1x224x1024_7_0_0))

theorem part_at (i : Fin 224) (k : Fin 1024) (d : Fin 8) : (iblk m c 0 t : Vec Ideal S8x224x1024 .bf16) (ix3 d i k)
    = (m (c.tc.loc main_arg0) : FVec Ideal S8x224x1024 .bf16) (ix3 d i k) := by
  blk_ext [iblk, V_main_arg0, idx t]

theorem w_at (i : Fin 224) (k : Fin 1024) : (iblk m c 1 t : Vec Ideal S1x224x1024 .f32) (ix3 (0 : Fin 1) i k)
    = (m (c.tc.loc main_arg2) : FVec Ideal S4x224x1024 .f32) (ix3 (3 : Fin 4) i k) := by
  blk_ext [iblk, V_main_arg2, idx t]

theorem m_at (i : Fin 224) (k : Fin 1024) : (iblk m c 2 t : Vec Ideal S1x224x1024 .f32) (ix3 (0 : Fin 1) i k)
    = (m (c.tc.loc main_arg3) : FVec Ideal S4x224x1024 .f32) (ix3 (3 : Fin 4) i k) := by
  blk_ext [iblk, V_main_arg3, idx t]

theorem v_at (i : Fin 224) (k : Fin 1024) : (iblk m c 3 t : Vec Ideal S1x224x1024 .f32) (ix3 (0 : Fin 1) i k)
    = (m (c.tc.loc main_arg4) : FVec Ideal S4x224x1024 .f32) (ix3 (3 : Fin 4) i k) := by
  blk_ext [iblk, V_main_arg4, idx t]

theorem acc_at (i : Fin 224) (k : Fin 1024) : acc m c t (ix2 i k)
    = total (m (c.tc.loc main_arg0)) (m (c.tc.loc main_arg1)) i k := by
  have h := part_at m c t i k
  pointwise [acc, k0_pay4, k0_pay5, k0_pay6, k0_pay7, k0_pay8, k0_pay9, k0_pay10, k0_pay11, own_at, total, h]

/-- The gradient's block, entry by entry. -/
theorem after_4 (i : Fin 224) (k : Fin 1024) : ((dats m 0 c).after 4 t : FVec Ideal S1x224x1024 .f32) (ix3 (0 : Fin 1) i k) = (total (m (c.tc.loc main_arg0)) (m (c.tc.loc main_arg1)) i k) := by
  have hw := w_at m c t i k
  have hm := m_at m c t i k
  have hv := v_at m c t i k
  have e : (dats m 0 c).after 4 t = (k0_pay12 (F := Ideal) (acc m c t) : FVec Ideal S1x224x1024 .f32) := by rw [after0_4]; unfold outsAt0; frame_out; rfl
  rw [e]
  pointwise [k0_pay12, acc_at]

/-- The gradient's array at the end of the run. -/
theorem arr_4 : (dats m 0 c).arrAt 4 (cfgs 0).N = put (m (c.tc.loc main_arg5)) (fun i k => (total (m (c.tc.loc main_arg0)) (m (c.tc.loc main_arg1)) i k)) := by
  funext y
  unfold put
  split
  · rename_i h
    refine (Value.entry4 m c y fun t _ hc => ?_).trans (congrFun (entry_v4 m c) y)
    obtain ⟨x, _, h1⟩ := Finset.mem_map.mp hc
    have h0 : (((cfg0.win 4).blk t).view.emb x 0).val = 3 + (x 0).val := by blk_simp [idx t]
    rw [h1] at h0
    omega
  · rename_i h
    have hf : (cfg0.win 4).flush pt = true := by decide +kernel
    have hb := congrFun (Value.blocks4 m c pt hf) (ix3 (0 : Fin 1) (y 1) (y 2))
    have he : ((cfg0.win 4).blk pt).view.emb (ix3 (0 : Fin 1) (y 1) (y 2)) = y := by
      have := (y 0).isLt
      blk_ext [idx pt]
    refine (congrArg _ he).symm.trans (hb.trans ?_)
    refine Eq.trans ?_ (after_4 m c pt (y 1) (y 2))
    blk_simp

/-- The step's block, entry by entry. -/
theorem after_5 (i : Fin 224) (k : Fin 1024) : ((dats m 0 c).after 5 t : FVec Ideal S1x224x1024 .f32) (ix3 (0 : Fin 1) i k) = newD ((m (c.tc.loc main_arg2) : FVec Ideal S4x224x1024 .f32) (ix3 (3 : Fin 4) i k)) (total (m (c.tc.loc main_arg0)) (m (c.tc.loc main_arg1)) i k) ((m (c.tc.loc main_arg3) : FVec Ideal S4x224x1024 .f32) (ix3 (3 : Fin 4) i k)) ((m (c.tc.loc main_arg4) : FVec Ideal S4x224x1024 .f32) (ix3 (3 : Fin 4) i k)) := by
  have hw := w_at m c t i k
  have hm := m_at m c t i k
  have hv := v_at m c t i k
  have e : (dats m 0 c).after 5 t = (k0_pay1 (F := Ideal) (k0_pay13 (iblk m c 1 t)) (k0_pay15 (acc m c t) (iblk m c 3 t)) (k0_pay16 (acc m c t) (iblk m c 2 t)) k0_pay17 : FVec Ideal S1x224x1024 .f32) := by rw [after0_5]; unfold outsAt0; frame_out; rfl
  rw [e]
  pointwise [k0_pay1, k0_pay13, k0_pay14, k0_pay15, k0_pay16, k0_pay17, acc_at, newD, newM, newV, hw, hm, hv]

/-- The step's array at the end of the run. -/
theorem arr_5 : (dats m 0 c).arrAt 5 (cfgs 0).N = put (m (c.tc.loc main_arg6)) (fun i k => newD ((m (c.tc.loc main_arg2) : FVec Ideal S4x224x1024 .f32) (ix3 (3 : Fin 4) i k)) (total (m (c.tc.loc main_arg0)) (m (c.tc.loc main_arg1)) i k) ((m (c.tc.loc main_arg3) : FVec Ideal S4x224x1024 .f32) (ix3 (3 : Fin 4) i k)) ((m (c.tc.loc main_arg4) : FVec Ideal S4x224x1024 .f32) (ix3 (3 : Fin 4) i k))) := by
  funext y
  unfold put
  split
  · rename_i h
    refine (Value.entry5 m c y fun t _ hc => ?_).trans (congrFun (entry_v5 m c) y)
    obtain ⟨x, _, h1⟩ := Finset.mem_map.mp hc
    have h0 : (((cfg0.win 5).blk t).view.emb x 0).val = 3 + (x 0).val := by blk_simp [idx t]
    rw [h1] at h0
    omega
  · rename_i h
    have hf : (cfg0.win 5).flush pt = true := by decide +kernel
    have hb := congrFun (Value.blocks5 m c pt hf) (ix3 (0 : Fin 1) (y 1) (y 2))
    have he : ((cfg0.win 5).blk pt).view.emb (ix3 (0 : Fin 1) (y 1) (y 2)) = y := by
      have := (y 0).isLt
      blk_ext [idx pt]
    refine (congrArg _ he).symm.trans (hb.trans ?_)
    refine Eq.trans ?_ (after_5 m c pt (y 1) (y 2))
    blk_simp

/-- The first moment's block, entry by entry. -/
theorem after_6 (i : Fin 224) (k : Fin 1024) : ((dats m 0 c).after 6 t : FVec Ideal S1x224x1024 .f32) (ix3 (0 : Fin 1) i k) = newM (total (m (c.tc.loc main_arg0)) (m (c.tc.loc main_arg1)) i k) ((m (c.tc.loc main_arg3) : FVec Ideal S4x224x1024 .f32) (ix3 (3 : Fin 4) i k)) := by
  have hw := w_at m c t i k
  have hm := m_at m c t i k
  have hv := v_at m c t i k
  have e : (dats m 0 c).after 6 t = (k0_pay2 (F := Ideal) (k0_pay14 (acc m c t) (iblk m c 2 t)) : FVec Ideal S1x224x1024 .f32) := by rw [after0_6]; unfold outsAt0; frame_out; rfl
  rw [e]
  pointwise [k0_pay2, k0_pay14, acc_at, newM, hm]

/-- The first moment's array at the end of the run. -/
theorem arr_6 : (dats m 0 c).arrAt 6 (cfgs 0).N = put (m (c.tc.loc main_arg7)) (fun i k => newM (total (m (c.tc.loc main_arg0)) (m (c.tc.loc main_arg1)) i k) ((m (c.tc.loc main_arg3) : FVec Ideal S4x224x1024 .f32) (ix3 (3 : Fin 4) i k))) := by
  funext y
  unfold put
  split
  · rename_i h
    refine (Value.entry6 m c y fun t _ hc => ?_).trans (congrFun (entry_v6 m c) y)
    obtain ⟨x, _, h1⟩ := Finset.mem_map.mp hc
    have h0 : (((cfg0.win 6).blk t).view.emb x 0).val = 3 + (x 0).val := by blk_simp [idx t]
    rw [h1] at h0
    omega
  · rename_i h
    have hf : (cfg0.win 6).flush pt = true := by decide +kernel
    have hb := congrFun (Value.blocks6 m c pt hf) (ix3 (0 : Fin 1) (y 1) (y 2))
    have he : ((cfg0.win 6).blk pt).view.emb (ix3 (0 : Fin 1) (y 1) (y 2)) = y := by
      have := (y 0).isLt
      blk_ext [idx pt]
    refine (congrArg _ he).symm.trans (hb.trans ?_)
    refine Eq.trans ?_ (after_6 m c pt (y 1) (y 2))
    blk_simp

/-- The second moment's block, entry by entry. -/
theorem after_7 (i : Fin 224) (k : Fin 1024) : ((dats m 0 c).after 7 t : FVec Ideal S1x224x1024 .f32) (ix3 (0 : Fin 1) i k) = newV (total (m (c.tc.loc main_arg0)) (m (c.tc.loc main_arg1)) i k) ((m (c.tc.loc main_arg4) : FVec Ideal S4x224x1024 .f32) (ix3 (3 : Fin 4) i k)) := by
  have hw := w_at m c t i k
  have hm := m_at m c t i k
  have hv := v_at m c t i k
  have e : (dats m 0 c).after 7 t = (k0_pay3 (F := Ideal) (k0_pay15 (acc m c t) (iblk m c 3 t)) : FVec Ideal S1x224x1024 .f32) := by rw [after0_7]; unfold outsAt0; frame_out; rfl
  rw [e]
  pointwise [k0_pay3, k0_pay15, acc_at, newV, hv]

/-- The second moment's array at the end of the run. -/
theorem arr_7 : (dats m 0 c).arrAt 7 (cfgs 0).N = put (m (c.tc.loc main_arg8)) (fun i k => newV (total (m (c.tc.loc main_arg0)) (m (c.tc.loc main_arg1)) i k) ((m (c.tc.loc main_arg4) : FVec Ideal S4x224x1024 .f32) (ix3 (3 : Fin 4) i k))) := by
  funext y
  unfold put
  split
  · rename_i h
    refine (Value.entry7 m c y fun t _ hc => ?_).trans (congrFun (entry_v7 m c) y)
    obtain ⟨x, _, h1⟩ := Finset.mem_map.mp hc
    have h0 : (((cfg0.win 7).blk t).view.emb x 0).val = 3 + (x 0).val := by blk_simp [idx t]
    rw [h1] at h0
    omega
  · rename_i h
    have hf : (cfg0.win 7).flush pt = true := by decide +kernel
    have hb := congrFun (Value.blocks7 m c pt hf) (ix3 (0 : Fin 1) (y 1) (y 2))
    have he : ((cfg0.win 7).blk pt).view.emb (ix3 (0 : Fin 1) (y 1) (y 2)) = y := by
      have := (y 0).isLt
      blk_ext [idx pt]
    refine (congrArg _ he).symm.trans (hb.trans ?_)
    refine Eq.trans ?_ (after_7 m c pt (y 1) (y 2))
    blk_simp

end kernel

section reference

/-- The reference's sum over the devices. -/
def gsum (p o : FVec Ideal S8x224x1024 .bf16) : FVec Ideal S224x1024 .f32 :=
  Host.reduceAdd (extf .f32 (concatenate S8x224x1024 0 [⟨S1x224x1024, (extractStridedSlice S1x224x1024 ![0, 0, 0] o Reference14Ideal.Gen.slices_S8x224x1024_S1x224x1024_0_0_0)⟩, ⟨Reference14Ideal.S7x224x1024, (extractStridedSlice Reference14Ideal.S7x224x1024 ![1, 0, 0] p Reference14Ideal.Gen.slices_S8x224x1024_S7x224x1024_1_0_0)⟩] Reference14Ideal.Gen.concatenates_S1x224x1024_S7x224x1024_S8x224x1024_d0) Reference14Ideal.Gen.bitsLt_bf16_f32) (constant S_ .f32 0x00000000#32) Reference14Ideal.Gen.reducesTo_S8x224x1024_S224x1024_d0 Reference14Ideal.Gen.h_S_

theorem gsum_at (p o : FVec Ideal S8x224x1024 .bf16) (i : Fin 224) (k : Fin 1024) : gsum p o (ix2 i k) = total p o i k := by
  pointwise [gsum, total]
  refine (congrArg₂ (· + ·) (Fin.sum_univ_one _) (Fin.sum_univ_seven _)).trans ?_
  simp only [add_assoc]
  rfl

theorem concat_put (old : FVec Ideal S4x224x1024 .f32) (x : FVec Ideal S224x1024 .f32) :
    concatenate S4x224x1024 0 [⟨Reference14Ideal.S3x224x1024, (extractStridedSlice Reference14Ideal.S3x224x1024 ![0, 0, 0] old Reference14Ideal.Gen.slices_S4x224x1024_S3x224x1024_0_0_0)⟩, ⟨S1x224x1024, (broadcastInDim S1x224x1024 ![1, 2] Reference14Ideal.Gen.bcast_S224x1024_S1x224x1024_1_2 x)⟩] Reference14Ideal.Gen.concatenates_S3x224x1024_S1x224x1024_S4x224x1024_d0
      = put old (fun i k => x (ix2 i k)) := by
  funext y
  unfold put
  split
  · rename_i h; pointwise; exact dif_pos h
  · rename_i h; pointwise; exact dif_neg h

theorem step_at (g : FVec Ideal S224x1024 .f32) (w mm vv : FVec Ideal S4x224x1024 .f32) (i : Fin 224) (k : Fin 1024) :
    (mulf (broadcastInDim Reference14Ideal.S224x1024 ![] Reference14Ideal.Gen.bcast_S_S224x1024 (constant Reference14Ideal.S_ .f32 0xBA83126F#32)) (addf (Host.divf (Host.divf (addf (mulf (broadcastInDim Reference14Ideal.S224x1024 ![] Reference14Ideal.Gen.bcast_S_S224x1024 (constant Reference14Ideal.S_ .f32 0x3F666666#32)) (shapeCast _ (extractStridedSlice Reference14Ideal.S1x224x1024 ![3, 0, 0] mm Reference14Ideal.Gen.slices_S4x224x1024_S1x224x1024_3_0_0) Reference14Ideal.Gen.shapeCasts_S1x224x1024_S224x1024)) (mulf (broadcastInDim Reference14Ideal.S224x1024 ![] Reference14Ideal.Gen.bcast_S_S224x1024 (constant Reference14Ideal.S_ .f32 0x3DCCCCCD#32)) g)) (broadcastInDim Reference14Ideal.S224x1024 ![] Reference14Ideal.Gen.bcast_S_S224x1024 (constant Reference14Ideal.S_ .f32 0x3F26BD02#32))) (addf (Host.sqrt (Host.divf (addf (mulf (broadcastInDim Reference14Ideal.S224x1024 ![] Reference14Ideal.Gen.bcast_S_S224x1024 (constant Reference14Ideal.S_ .f32 0x3F7FBE77#32)) (shapeCast _ (extractStridedSlice Reference14Ideal.S1x224x1024 ![3, 0, 0] vv Reference14Ideal.Gen.slices_S4x224x1024_S1x224x1024_3_0_0) Reference14Ideal.Gen.shapeCasts_S1x224x1024_S224x1024)) (mulf (broadcastInDim Reference14Ideal.S224x1024 ![] Reference14Ideal.Gen.bcast_S_S224x1024 (constant Reference14Ideal.S_ .f32 0x3A83126F#32)) (mulf g g))) (broadcastInDim Reference14Ideal.S224x1024 ![] Reference14Ideal.Gen.bcast_S_S224x1024 (constant Reference14Ideal.S_ .f32 0x3C231ACC#32)))) (broadcastInDim Reference14Ideal.S224x1024 ![] Reference14Ideal.Gen.bcast_S_S224x1024 (constant Reference14Ideal.S_ .f32 0x322BCC77#32)))) (mulf (broadcastInDim Reference14Ideal.S224x1024 ![] Reference14Ideal.Gen.bcast_S_S224x1024 (constant Reference14Ideal.S_ .f32 0x3C23D70A#32)) (shapeCast _ (extractStridedSlice Reference14Ideal.S1x224x1024 ![3, 0, 0] w Reference14Ideal.Gen.slices_S4x224x1024_S1x224x1024_3_0_0) Reference14Ideal.Gen.shapeCasts_S1x224x1024_S224x1024))) : FVec Ideal S224x1024 .f32) (ix2 i k)
      = newD (w (ix3 (3 : Fin 4) i k)) (g (ix2 i k)) (mm (ix3 (3 : Fin 4) i k)) (vv (ix3 (3 : Fin 4) i k)) := by
  pointwise [newD, newM, newV]

theorem moment1_at (g : FVec Ideal S224x1024 .f32) (mm : FVec Ideal S4x224x1024 .f32) (i : Fin 224) (k : Fin 1024) :
    (addf (mulf (broadcastInDim Reference14Ideal.S224x1024 ![] Reference14Ideal.Gen.bcast_S_S224x1024 (constant Reference14Ideal.S_ .f32 0x3F666666#32)) (shapeCast _ (extractStridedSlice Reference14Ideal.S1x224x1024 ![3, 0, 0] mm Reference14Ideal.Gen.slices_S4x224x1024_S1x224x1024_3_0_0) Reference14Ideal.Gen.shapeCasts_S1x224x1024_S224x1024)) (mulf (broadcastInDim Reference14Ideal.S224x1024 ![] Reference14Ideal.Gen.bcast_S_S224x1024 (constant Reference14Ideal.S_ .f32 0x3DCCCCCD#32)) g) : FVec Ideal S224x1024 .f32) (ix2 i k)
      = newM (g (ix2 i k)) (mm (ix3 (3 : Fin 4) i k)) := by
  pointwise [newM]

theorem moment2_at (g : FVec Ideal S224x1024 .f32) (vv : FVec Ideal S4x224x1024 .f32) (i : Fin 224) (k : Fin 1024) :
    (addf (mulf (broadcastInDim Reference14Ideal.S224x1024 ![] Reference14Ideal.Gen.bcast_S_S224x1024 (constant Reference14Ideal.S_ .f32 0x3F7FBE77#32)) (shapeCast _ (extractStridedSlice Reference14Ideal.S1x224x1024 ![3, 0, 0] vv Reference14Ideal.Gen.slices_S4x224x1024_S1x224x1024_3_0_0) Reference14Ideal.Gen.shapeCasts_S1x224x1024_S224x1024)) (mulf (broadcastInDim Reference14Ideal.S224x1024 ![] Reference14Ideal.Gen.bcast_S_S224x1024 (constant Reference14Ideal.S_ .f32 0x3A83126F#32)) (mulf g g)) : FVec Ideal S224x1024 .f32) (ix2 i k)
      = newV (g (ix2 i k)) (vv (ix3 (3 : Fin 4) i k)) := by
  pointwise [newV]

end reference

theorem frame_reference : Cert.quiescent_Reference14Ideal (hReference14Ideal := Reference14Ideal.Gen.facts) :=
  fun m ρ _ => (θ_run Reference14Ideal.defs _ _).mono
    (fun r h => And.intro (fun c => (h c).2.2.2.2) (Idealize.ShloMosaic.sem_eq_zero_of_no_sems (by decide) r.2))
    (Reference14Ideal.Value.run (F := Ideal) m ρ)

theorem algebraic : Cert.algebraic_Kernel14Ideal_Reference14Ideal (hKernel14Ideal := Kernel14Ideal.Gen.facts)
    (hReference14Ideal := Reference14Ideal.Gen.facts) := by
  pair_intro
  · run_from Value.run_blocks m g
  · run_from Reference14Ideal.Value.run m' g'
    · exact (concat_put _ _).trans ((congrArg₂ put (hagree c).2.2.2.2.2.1 (funext fun i => funext fun k => gsum_at _ _ i k)).trans (arr_4 m c).symm)
    · exact (concat_put _ _).trans ((congrArg₂ put (hagree c).2.2.2.2.2.2.1 (funext fun i => funext fun k => (step_at (gsum _ _) _ _ _ i k).trans
        (by rw [gsum_at, (hagree c).2.2.2.2.1]))).trans (arr_5 m c).symm)
    · exact (concat_put _ _).trans ((congrArg₂ put (hagree c).2.2.2.2.2.2.2.1 (funext fun i => funext fun k => (moment1_at (gsum _ _) _ i k).trans
        (by rw [gsum_at, (hagree c).2.2.2.1]))).trans (arr_6 m c).symm)
    · exact (concat_put _ _).trans ((congrArg₂ put (hagree c).2.2.2.2.2.2.2.2 (funext fun i => funext fun k => (moment2_at (gsum _ _) _ i k).trans
        (by rw [gsum_at, (hagree c).2.2.2.2.1]))).trans (arr_7 m c).symm)

end Cert.Kernel14Ideal.Reduce

end
-- ==== Proof.Reduce15.lean ====
/- The sum of the devices' parts of the output projection's gradient and the step on the weight: over the reals the kernel's four results are the reference's. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Lib.VecWindow
public import Idealize.ShloMosaic.Lib.ValueLayout
public import Idealize.ShloMosaic.Lib.Quiescent

@[expose] public section

set_option maxRecDepth 16384

noncomputable section

namespace Cert.Kernel15Ideal.Reduce

open Idealize.ShloMosaic Idealize.ShloMosaic.TcCoe Idealize.SL.Sem Cert.Kernel15Ideal Kernel15Ideal.Gen

/-- The sum of the devices' parts, entry by entry: this device's own part, then the seven others'. -/
def total (p o : FVec Ideal S8x128x1024 .bf16) (i : Fin 128) (k : Fin 1024) : EReal :=
  (o (ix3 (0 : Fin 8) i k) : EReal) + p (ix3 (1 : Fin 8) i k) + p (ix3 (2 : Fin 8) i k) + p (ix3 (3 : Fin 8) i k) + p (ix3 (4 : Fin 8) i k)
    + p (ix3 (5 : Fin 8) i k) + p (ix3 (6 : Fin 8) i k) + p (ix3 (7 : Fin 8) i k)

/-- The new first moment of an entry. -/
def newM (g m : EReal) : EReal := Ideal.ofBits .f32 0x3F666666#32 * m + Ideal.ofBits .f32 0x3DCCCCCD#32 * g

/-- The new second moment of an entry. -/
def newV (g v : EReal) : EReal := Ideal.ofBits .f32 0x3F7FBE77#32 * v + Ideal.ofBits .f32 0x3A83126F#32 * (g * g)

/-- The step of an entry. -/
def newD (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-- The whole array: the last layer's block is new, the other layers' blocks are the old array's. -/
def put (old : FVec Ideal S4x128x1024 .f32) (new : Fin 128 → Fin 1024 → EReal) : FVec Ideal S4x128x1024 .f32 :=
  fun y => if (y 0).val < 3 then old y else new (y 1) (y 2)

section kernel

variable (m : (ℓ : Loc nD τ sig) → Buf (Elt Ideal) ℓ) (c : Dev nD)

/-- The block of every window at the one point. -/
theorem idx : ∀ t : Fin cfg0.N, win0_0.index t = ![0, 0, 0] ∧ win0_1.index t = ![3, 0, 0] ∧ win0_2.index t = ![3, 0, 0] ∧ win0_3.index t = ![3, 0, 0]
    ∧ win0_4.index t = ![3, 0, 0] ∧ win0_5.index t = ![3, 0, 0] ∧ win0_6.index t = ![3, 0, 0] ∧ win0_7.index t = ![3, 0, 0] ∧ t.val < 1 :=
  (by decide +kernel : ∀ t : Fin grid0.N, _)

/-- The grid's one point. -/
def pt : Fin cfg0.N := ⟨0, by decide⟩

theorem entry_v4 : V m c (Pipeline.arrRef spec0 4) = m (c.tc.loc main_arg5) := by
  simp only [V, hostOps0, List.flatten_cons, List.flatten_nil, List.append_nil, List.cons_append, List.nil_append]
  after_results_simp
  rfl

theorem entry_v5 : V m c (Pipeline.arrRef spec0 5) = m (c.tc.loc main_arg6) := by
  simp only [V, hostOps0, List.flatten_cons, List.flatten_nil, List.append_nil, List.cons_append, List.nil_append]
  after_results_simp
  rfl

theorem entry_v6 : V m c (Pipeline.arrRef spec0 6) = m (c.tc.loc main_arg7) := by
  simp only [V, hostOps0, List.flatten_cons, List.flatten_nil, List.append_nil, List.cons_append, List.nil_append]
  after_results_simp
  rfl

theorem entry_v7 : V m c (Pipeline.arrRef spec0 7) = m (c.tc.loc main_arg8) := by
  simp only [V, hostOps0, List.flatten_cons, List.flatten_nil, List.append_nil, List.cons_append, List.nil_append]
  after_results_simp
  rfl

/-- A read of the scratch after one copy over the whole of it gives what was copied. -/
theorem copied (w : S128x1024.Idx → Elt Ideal .bf16) (i : Fin 128) (k : Fin 1024) :
    (View.whole cc0_scratch0).readCov (Val := Elt Ideal) [⟨Rect.whole S128x1024, w⟩]
      (Rect.unit (s := S128x1024) ![0, 0] ![128, 1024] inb_S128x1024_S128x1024_0_0).toLoadRect (ix2 i k) = w (ix2 i k) := by
  exact congrFun (View.readCov_full (View.whole cc0_scratch0) _ (fun a => by simp) w []) (ix2 i k)

/-- This device's own part, as the copy leaves it in the scratch. -/
def own : Vec Ideal S128x1024 .bf16 :=
  ((View.whole cc0_scratch0).readCov (Val := Elt Ideal)
    [⟨Rect.whole S128x1024, ReadAs.same.apply (View.read (Elt Ideal)
      (((View.whole main_arg1).slice (Rect.unit ![0, 0, 0] ![1, 128, 1024] inb_S8x128x1024_S1x128x1024_0_0_0)).reshape S128x1024 (by decide)) (V m c main_arg1))⟩]
    (Rect.unit (s := S128x1024) ![0, 0] ![128, 1024] inb_S128x1024_S128x1024_0_0).toLoadRect :)

theorem own_at (i : Fin 128) (k : Fin 1024) : own m c (ix2 i k) = (m (c.tc.loc main_arg1) : FVec Ideal S8x128x1024 .bf16) (ix3 (0 : Fin 8) i k) := by
  rw [own, V_main_arg1]
  refine (copied _ i k).trans ?_
  have hr : (S128x1024).numel = (S1x128x1024).numel := by decide
  have e : Shape.reshapeEquiv hr (ix2 i k) = (ix3 (0 : Fin 1) i k : S1x128x1024.Idx) := ValueIdx.reshapeEquiv_ix2_1ab _ _ _
  show (m (c.tc.loc main_arg1) : FVec Ideal S8x128x1024 .bf16) ((Rect.unit (s := S8x128x1024) ![0, 0, 0] ![1, 128, 1024] inb_S8x128x1024_S1x128x1024_0_0_0).emb (Shape.reshapeEquiv hr (ix2 i k))) = _
  rw [e]
  congr 1; funext a; apply Fin.ext
  match a with
  | ⟨0, _⟩ => rfl
  | ⟨1, _⟩ => show 0 + 1 * i.val = i.val; omega
  | ⟨2, _⟩ => show 0 + 1 * k.val = k.val; omega

variable (t : Fin cfg0.N)

/-- The sum of the parts, as the body accumulates it. -/
def acc : FVec Ideal S128x1024 .f32 :=
  k0_pay11 (k0_pay10 (k0_pay9 (k0_pay8 (k0_pay7 (k0_pay6 (k0_pay5 (k0_pay4 (own m c))
    (View.ld (iblk m c 0 t) (Rect.unit ![1, 0, 0] ![1, 128, 1024] inb_S8x128x1024_S1x128x1024_1_0_0)))
    (View.ld (iblk m c 0 t) (Rect.unit ![2, 0, 0] ![1, 128, 1024] inb_S8x128x1024_S1x128x1024_2_0_0)))
    (View.ld (iblk m c 0 t) (Rect.unit ![3, 0, 0] ![1, 128, 1024] inb_S8x128x1024_S1x128x1024_3_0_0)))
    (View.ld (iblk m c 0 t) (Rect.unit ![4, 0, 0] ![1, 128, 1024] inb_S8x128x1024_S1x128x1024_4_0_0)))
    (View.ld (iblk m c 0 t) (Rect.unit ![5, 0, 0] ![1, 128, 1024] inb_S8x128x1024_S1x128x1024_5_0_0)))
    (View.ld (iblk m c 0 t) (Rect.unit ![6, 0, 0] ![1, 128, 1024] inb_S8x128x1024_S1x128x1024_6_0_0)))
    (View.ld (iblk m c 0 t) (Rect.unit ![7, 0, 0] ![1, 128, 1024] inb_S8x128x1024_S1x128x1024_7_0_0))

theorem part_at (i : Fin 128) (k : Fin 1024) (d : Fin 8) : (iblk m c 0 t : Vec Ideal S8x128x1024 .bf16) (ix3 d i k)
    = (m (c.tc.loc main_arg0) : FVec Ideal S8x128x1024 .bf16) (ix3 d i k) := by
  blk_ext [iblk, V_main_arg0, idx t]

theorem w_at (i : Fin 128) (k : Fin 1024) : (iblk m c 1 t : Vec Ideal S1x128x1024 .f32) (ix3 (0 : Fin 1) i k)
    = (m (c.tc.loc main_arg2) : FVec Ideal S4x128x1024 .f32) (ix3 (3 : Fin 4) i k) := by
  blk_ext [iblk, V_main_arg2, idx t]

theorem m_at (i : Fin 128) (k : Fin 1024) : (iblk m c 2 t : Vec Ideal S1x128x1024 .f32) (ix3 (0 : Fin 1) i k)
    = (m (c.tc.loc main_arg3) : FVec Ideal S4x128x1024 .f32) (ix3 (3 : Fin 4) i k) := by
  blk_ext [iblk, V_main_arg3, idx t]

theorem v_at (i : Fin 128) (k : Fin 1024) : (iblk m c 3 t : Vec Ideal S1x128x1024 .f32) (ix3 (0 : Fin 1) i k)
    = (m (c.tc.loc main_arg4) : FVec Ideal S4x128x1024 .f32) (ix3 (3 : Fin 4) i k) := by
  blk_ext [iblk, V_main_arg4, idx t]

theorem acc_at (i : Fin 128) (k : Fin 1024) : acc m c t (ix2 i k)
    = total (m (c.tc.loc main_arg0)) (m (c.tc.loc main_arg1)) i k := by
  have h := part_at m c t i k
  pointwise [acc, k0_pay4, k0_pay5, k0_pay6, k0_pay7, k0_pay8, k0_pay9, k0_pay10, k0_pay11, own_at, total, h]

/-- The gradient's block, entry by entry. -/
theorem after_4 (i : Fin 128) (k : Fin 1024) : ((dats m 0 c).after 4 t : FVec Ideal S1x128x1024 .f32) (ix3 (0 : Fin 1) i k) = (total (m (c.tc.loc main_arg0)) (m (c.tc.loc main_arg1)) i k) := by
  have hw := w_at m c t i k
  have hm := m_at m c t i k
  have hv := v_at m c t i k
  have e : (dats m 0 c).after 4 t = (k0_pay12 (F := Ideal) (acc m c t) : FVec Ideal S1x128x1024 .f32) := by rw [after0_4]; unfold outsAt0; frame_out; rfl
  rw [e]
  pointwise [k0_pay12, acc_at]

/-- The gradient's array at the end of the run. -/
theorem arr_4 : (dats m 0 c).arrAt 4 (cfgs 0).N = put (m (c.tc.loc main_arg5)) (fun i k => (total (m (c.tc.loc main_arg0)) (m (c.tc.loc main_arg1)) i k)) := by
  funext y
  unfold put
  split
  · rename_i h
    refine (Value.entry4 m c y fun t _ hc => ?_).trans (congrFun (entry_v4 m c) y)
    obtain ⟨x, _, h1⟩ := Finset.mem_map.mp hc
    have h0 : (((cfg0.win 4).blk t).view.emb x 0).val = 3 + (x 0).val := by blk_simp [idx t]
    rw [h1] at h0
    omega
  · rename_i h
    have hf : (cfg0.win 4).flush pt = true := by decide +kernel
    have hb := congrFun (Value.blocks4 m c pt hf) (ix3 (0 : Fin 1) (y 1) (y 2))
    have he : ((cfg0.win 4).blk pt).view.emb (ix3 (0 : Fin 1) (y 1) (y 2)) = y := by
      have := (y 0).isLt
      blk_ext [idx pt]
    refine (congrArg _ he).symm.trans (hb.trans ?_)
    refine Eq.trans ?_ (after_4 m c pt (y 1) (y 2))
    blk_simp

/-- The step's block, entry by entry. -/
theorem after_5 (i : Fin 128) (k : Fin 1024) : ((dats m 0 c).after 5 t : FVec Ideal S1x128x1024 .f32) (ix3 (0 : Fin 1) i k) = newD ((m (c.tc.loc main_arg2) : FVec Ideal S4x128x1024 .f32) (ix3 (3 : Fin 4) i k)) (total (m (c.tc.loc main_arg0)) (m (c.tc.loc main_arg1)) i k) ((m (c.tc.loc main_arg3) : FVec Ideal S4x128x1024 .f32) (ix3 (3 : Fin 4) i k)) ((m (c.tc.loc main_arg4) : FVec Ideal S4x128x1024 .f32) (ix3 (3 : Fin 4) i k)) := by
  have hw := w_at m c t i k
  have hm := m_at m c t i k
  have hv := v_at m c t i k
  have e : (dats m 0 c).after 5 t = (k0_pay1 (F := Ideal) (k0_pay13 (iblk m c 1 t)) (k0_pay15 (acc m c t) (iblk m c 3 t)) (k0_pay16 (acc m c t) (iblk m c 2 t)) k0_pay17 : FVec Ideal S1x128x1024 .f32) := by rw [after0_5]; unfold outsAt0; frame_out; rfl
  rw [e]
  pointwise [k0_pay1, k0_pay13, k0_pay14, k0_pay15, k0_pay16, k0_pay17, acc_at, newD, newM, newV, hw, hm, hv]

/-- The step's array at the end of the run. -/
theorem arr_5 : (dats m 0 c).arrAt 5 (cfgs 0).N = put (m (c.tc.loc main_arg6)) (fun i k => newD ((m (c.tc.loc main_arg2) : FVec Ideal S4x128x1024 .f32) (ix3 (3 : Fin 4) i k)) (total (m (c.tc.loc main_arg0)) (m (c.tc.loc main_arg1)) i k) ((m (c.tc.loc main_arg3) : FVec Ideal S4x128x1024 .f32) (ix3 (3 : Fin 4) i k)) ((m (c.tc.loc main_arg4) : FVec Ideal S4x128x1024 .f32) (ix3 (3 : Fin 4) i k))) := by
  funext y
  unfold put
  split
  · rename_i h
    refine (Value.entry5 m c y fun t _ hc => ?_).trans (congrFun (entry_v5 m c) y)
    obtain ⟨x, _, h1⟩ := Finset.mem_map.mp hc
    have h0 : (((cfg0.win 5).blk t).view.emb x 0).val = 3 + (x 0).val := by blk_simp [idx t]
    rw [h1] at h0
    omega
  · rename_i h
    have hf : (cfg0.win 5).flush pt = true := by decide +kernel
    have hb := congrFun (Value.blocks5 m c pt hf) (ix3 (0 : Fin 1) (y 1) (y 2))
    have he : ((cfg0.win 5).blk pt).view.emb (ix3 (0 : Fin 1) (y 1) (y 2)) = y := by
      have := (y 0).isLt
      blk_ext [idx pt]
    refine (congrArg _ he).symm.trans (hb.trans ?_)
    refine Eq.trans ?_ (after_5 m c pt (y 1) (y 2))
    blk_simp

/-- The first moment's block, entry by entry. -/
theorem after_6 (i : Fin 128) (k : Fin 1024) : ((dats m 0 c).after 6 t : FVec Ideal S1x128x1024 .f32) (ix3 (0 : Fin 1) i k) = newM (total (m (c.tc.loc main_arg0)) (m (c.tc.loc main_arg1)) i k) ((m (c.tc.loc main_arg3) : FVec Ideal S4x128x1024 .f32) (ix3 (3 : Fin 4) i k)) := by
  have hw := w_at m c t i k
  have hm := m_at m c t i k
  have hv := v_at m c t i k
  have e : (dats m 0 c).after 6 t = (k0_pay2 (F := Ideal) (k0_pay14 (acc m c t) (iblk m c 2 t)) : FVec Ideal S1x128x1024 .f32) := by rw [after0_6]; unfold outsAt0; frame_out; rfl
  rw [e]
  pointwise [k0_pay2, k0_pay14, acc_at, newM, hm]

/-- The first moment's array at the end of the run. -/
theorem arr_6 : (dats m 0 c).arrAt 6 (cfgs 0).N = put (m (c.tc.loc main_arg7)) (fun i k => newM (total (m (c.tc.loc main_arg0)) (m (c.tc.loc main_arg1)) i k) ((m (c.tc.loc main_arg3) : FVec Ideal S4x128x1024 .f32) (ix3 (3 : Fin 4) i k))) := by
  funext y
  unfold put
  split
  · rename_i h
    refine (Value.entry6 m c y fun t _ hc => ?_).trans (congrFun (entry_v6 m c) y)
    obtain ⟨x, _, h1⟩ := Finset.mem_map.mp hc
    have h0 : (((cfg0.win 6).blk t).view.emb x 0).val = 3 + (x 0).val := by blk_simp [idx t]
    rw [h1] at h0
    omega
  · rename_i h
    have hf : (cfg0.win 6).flush pt = true := by decide +kernel
    have hb := congrFun (Value.blocks6 m c pt hf) (ix3 (0 : Fin 1) (y 1) (y 2))
    have he : ((cfg0.win 6).blk pt).view.emb (ix3 (0 : Fin 1) (y 1) (y 2)) = y := by
      have := (y 0).isLt
      blk_ext [idx pt]
    refine (congrArg _ he).symm.trans (hb.trans ?_)
    refine Eq.trans ?_ (after_6 m c pt (y 1) (y 2))
    blk_simp

/-- The second moment's block, entry by entry. -/
theorem after_7 (i : Fin 128) (k : Fin 1024) : ((dats m 0 c).after 7 t : FVec Ideal S1x128x1024 .f32) (ix3 (0 : Fin 1) i k) = newV (total (m (c.tc.loc main_arg0)) (m (c.tc.loc main_arg1)) i k) ((m (c.tc.loc main_arg4) : FVec Ideal S4x128x1024 .f32) (ix3 (3 : Fin 4) i k)) := by
  have hw := w_at m c t i k
  have hm := m_at m c t i k
  have hv := v_at m c t i k
  have e : (dats m 0 c).after 7 t = (k0_pay3 (F := Ideal) (k0_pay15 (acc m c t) (iblk m c 3 t)) : FVec Ideal S1x128x1024 .f32) := by rw [after0_7]; unfold outsAt0; frame_out; rfl
  rw [e]
  pointwise [k0_pay3, k0_pay15, acc_at, newV, hv]

/-- The second moment's array at the end of the run. -/
theorem arr_7 : (dats m 0 c).arrAt 7 (cfgs 0).N = put (m (c.tc.loc main_arg8)) (fun i k => newV (total (m (c.tc.loc main_arg0)) (m (c.tc.loc main_arg1)) i k) ((m (c.tc.loc main_arg4) : FVec Ideal S4x128x1024 .f32) (ix3 (3 : Fin 4) i k))) := by
  funext y
  unfold put
  split
  · rename_i h
    refine (Value.entry7 m c y fun t _ hc => ?_).trans (congrFun (entry_v7 m c) y)
    obtain ⟨x, _, h1⟩ := Finset.mem_map.mp hc
    have h0 : (((cfg0.win 7).blk t).view.emb x 0).val = 3 + (x 0).val := by blk_simp [idx t]
    rw [h1] at h0
    omega
  · rename_i h
    have hf : (cfg0.win 7).flush pt = true := by decide +kernel
    have hb := congrFun (Value.blocks7 m c pt hf) (ix3 (0 : Fin 1) (y 1) (y 2))
    have he : ((cfg0.win 7).blk pt).view.emb (ix3 (0 : Fin 1) (y 1) (y 2)) = y := by
      have := (y 0).isLt
      blk_ext [idx pt]
    refine (congrArg _ he).symm.trans (hb.trans ?_)
    refine Eq.trans ?_ (after_7 m c pt (y 1) (y 2))
    blk_simp

end kernel

section reference

/-- The reference's sum over the devices. -/
def gsum (p o : FVec Ideal S8x128x1024 .bf16) : FVec Ideal S128x1024 .f32 :=
  Host.reduceAdd (extf .f32 (concatenate S8x128x1024 0 [⟨S1x128x1024, (extractStridedSlice S1x128x1024 ![0, 0, 0] o Reference15Ideal.Gen.slices_S8x128x1024_S1x128x1024_0_0_0)⟩, ⟨Reference15Ideal.S7x128x1024, (extractStridedSlice Reference15Ideal.S7x128x1024 ![1, 0, 0] p Reference15Ideal.Gen.slices_S8x128x1024_S7x128x1024_1_0_0)⟩] Reference15Ideal.Gen.concatenates_S1x128x1024_S7x128x1024_S8x128x1024_d0) Reference15Ideal.Gen.bitsLt_bf16_f32) (constant S_ .f32 0x00000000#32) Reference15Ideal.Gen.reducesTo_S8x128x1024_S128x1024_d0 Reference15Ideal.Gen.h_S_

theorem gsum_at (p o : FVec Ideal S8x128x1024 .bf16) (i : Fin 128) (k : Fin 1024) : gsum p o (ix2 i k) = total p o i k := by
  pointwise [gsum, total]
  refine (congrArg₂ (· + ·) (Fin.sum_univ_one _) (Fin.sum_univ_seven _)).trans ?_
  simp only [add_assoc]
  rfl

theorem concat_put (old : FVec Ideal S4x128x1024 .f32) (x : FVec Ideal S128x1024 .f32) :
    concatenate S4x128x1024 0 [⟨Reference15Ideal.S3x128x1024, (extractStridedSlice Reference15Ideal.S3x128x1024 ![0, 0, 0] old Reference15Ideal.Gen.slices_S4x128x1024_S3x128x1024_0_0_0)⟩, ⟨S1x128x1024, (broadcastInDim S1x128x1024 ![1, 2] Reference15Ideal.Gen.bcast_S128x1024_S1x128x1024_1_2 x)⟩] Reference15Ideal.Gen.concatenates_S3x128x1024_S1x128x1024_S4x128x1024_d0
      = put old (fun i k => x (ix2 i k)) := by
  funext y
  unfold put
  split
  · rename_i h; pointwise; exact dif_pos h
  · rename_i h; pointwise; exact dif_neg h

theorem step_at (g : FVec Ideal S128x1024 .f32) (w mm vv : FVec Ideal S4x128x1024 .f32) (i : Fin 128) (k : Fin 1024) :
    (mulf (broadcastInDim Reference15Ideal.S128x1024 ![] Reference15Ideal.Gen.bcast_S_S128x1024 (constant Reference15Ideal.S_ .f32 0xBA83126F#32)) (addf (Host.divf (Host.divf (addf (mulf (broadcastInDim Reference15Ideal.S128x1024 ![] Reference15Ideal.Gen.bcast_S_S128x1024 (constant Reference15Ideal.S_ .f32 0x3F666666#32)) (shapeCast _ (extractStridedSlice Reference15Ideal.S1x128x1024 ![3, 0, 0] mm Reference15Ideal.Gen.slices_S4x128x1024_S1x128x1024_3_0_0) Reference15Ideal.Gen.shapeCasts_S1x128x1024_S128x1024)) (mulf (broadcastInDim Reference15Ideal.S128x1024 ![] Reference15Ideal.Gen.bcast_S_S128x1024 (constant Reference15Ideal.S_ .f32 0x3DCCCCCD#32)) g)) (broadcastInDim Reference15Ideal.S128x1024 ![] Reference15Ideal.Gen.bcast_S_S128x1024 (constant Reference15Ideal.S_ .f32 0x3F26BD02#32))) (addf (Host.sqrt (Host.divf (addf (mulf (broadcastInDim Reference15Ideal.S128x1024 ![] Reference15Ideal.Gen.bcast_S_S128x1024 (constant Reference15Ideal.S_ .f32 0x3F7FBE77#32)) (shapeCast _ (extractStridedSlice Reference15Ideal.S1x128x1024 ![3, 0, 0] vv Reference15Ideal.Gen.slices_S4x128x1024_S1x128x1024_3_0_0) Reference15Ideal.Gen.shapeCasts_S1x128x1024_S128x1024)) (mulf (broadcastInDim Reference15Ideal.S128x1024 ![] Reference15Ideal.Gen.bcast_S_S128x1024 (constant Reference15Ideal.S_ .f32 0x3A83126F#32)) (mulf g g))) (broadcastInDim Reference15Ideal.S128x1024 ![] Reference15Ideal.Gen.bcast_S_S128x1024 (constant Reference15Ideal.S_ .f32 0x3C231ACC#32)))) (broadcastInDim Reference15Ideal.S128x1024 ![] Reference15Ideal.Gen.bcast_S_S128x1024 (constant Reference15Ideal.S_ .f32 0x322BCC77#32)))) (mulf (broadcastInDim Reference15Ideal.S128x1024 ![] Reference15Ideal.Gen.bcast_S_S128x1024 (constant Reference15Ideal.S_ .f32 0x3C23D70A#32)) (shapeCast _ (extractStridedSlice Reference15Ideal.S1x128x1024 ![3, 0, 0] w Reference15Ideal.Gen.slices_S4x128x1024_S1x128x1024_3_0_0) Reference15Ideal.Gen.shapeCasts_S1x128x1024_S128x1024))) : FVec Ideal S128x1024 .f32) (ix2 i k)
      = newD (w (ix3 (3 : Fin 4) i k)) (g (ix2 i k)) (mm (ix3 (3 : Fin 4) i k)) (vv (ix3 (3 : Fin 4) i k)) := by
  pointwise [newD, newM, newV]

theorem moment1_at (g : FVec Ideal S128x1024 .f32) (mm : FVec Ideal S4x128x1024 .f32) (i : Fin 128) (k : Fin 1024) :
    (addf (mulf (broadcastInDim Reference15Ideal.S128x1024 ![] Reference15Ideal.Gen.bcast_S_S128x1024 (constant Reference15Ideal.S_ .f32 0x3F666666#32)) (shapeCast _ (extractStridedSlice Reference15Ideal.S1x128x1024 ![3, 0, 0] mm Reference15Ideal.Gen.slices_S4x128x1024_S1x128x1024_3_0_0) Reference15Ideal.Gen.shapeCasts_S1x128x1024_S128x1024)) (mulf (broadcastInDim Reference15Ideal.S128x1024 ![] Reference15Ideal.Gen.bcast_S_S128x1024 (constant Reference15Ideal.S_ .f32 0x3DCCCCCD#32)) g) : FVec Ideal S128x1024 .f32) (ix2 i k)
      = newM (g (ix2 i k)) (mm (ix3 (3 : Fin 4) i k)) := by
  pointwise [newM]

theorem moment2_at (g : FVec Ideal S128x1024 .f32) (vv : FVec Ideal S4x128x1024 .f32) (i : Fin 128) (k : Fin 1024) :
    (addf (mulf (broadcastInDim Reference15Ideal.S128x1024 ![] Reference15Ideal.Gen.bcast_S_S128x1024 (constant Reference15Ideal.S_ .f32 0x3F7FBE77#32)) (shapeCast _ (extractStridedSlice Reference15Ideal.S1x128x1024 ![3, 0, 0] vv Reference15Ideal.Gen.slices_S4x128x1024_S1x128x1024_3_0_0) Reference15Ideal.Gen.shapeCasts_S1x128x1024_S128x1024)) (mulf (broadcastInDim Reference15Ideal.S128x1024 ![] Reference15Ideal.Gen.bcast_S_S128x1024 (constant Reference15Ideal.S_ .f32 0x3A83126F#32)) (mulf g g)) : FVec Ideal S128x1024 .f32) (ix2 i k)
      = newV (g (ix2 i k)) (vv (ix3 (3 : Fin 4) i k)) := by
  pointwise [newV]

end reference

theorem frame_reference : Cert.quiescent_Reference15Ideal (hReference15Ideal := Reference15Ideal.Gen.facts) :=
  fun m ρ _ => (θ_run Reference15Ideal.defs _ _).mono
    (fun r h => And.intro (fun c => (h c).2.2.2.2) (Idealize.ShloMosaic.sem_eq_zero_of_no_sems (by decide) r.2))
    (Reference15Ideal.Value.run (F := Ideal) m ρ)

theorem algebraic : Cert.algebraic_Kernel15Ideal_Reference15Ideal (hKernel15Ideal := Kernel15Ideal.Gen.facts)
    (hReference15Ideal := Reference15Ideal.Gen.facts) := by
  pair_intro
  · run_from Value.run_blocks m g
  · run_from Reference15Ideal.Value.run m' g'
    · exact (concat_put _ _).trans ((congrArg₂ put (hagree c).2.2.2.2.2.1 (funext fun i => funext fun k => gsum_at _ _ i k)).trans (arr_4 m c).symm)
    · exact (concat_put _ _).trans ((congrArg₂ put (hagree c).2.2.2.2.2.2.1 (funext fun i => funext fun k => (step_at (gsum _ _) _ _ _ i k).trans
        (by rw [gsum_at, (hagree c).2.2.2.2.1]))).trans (arr_5 m c).symm)
    · exact (concat_put _ _).trans ((congrArg₂ put (hagree c).2.2.2.2.2.2.2.1 (funext fun i => funext fun k => (moment1_at (gsum _ _) _ i k).trans
        (by rw [gsum_at, (hagree c).2.2.2.1]))).trans (arr_6 m c).symm)
    · exact (concat_put _ _).trans ((congrArg₂ put (hagree c).2.2.2.2.2.2.2.2 (funext fun i => funext fun k => (moment2_at (gsum _ _) _ i k).trans
        (by rw [gsum_at, (hagree c).2.2.2.2.1]))).trans (arr_7 m c).symm)

end Cert.Kernel15Ideal.Reduce

end
-- ==== Proof.Blocks.lean ====
/- What one grid point of the kernel computes, as functions of the blocks it reads: the row blocks of the incoming gradient, of the pre-norm sum and
   of the two projections, the layer norm's gain, and the three weight matrices reassembled from the exchange buffer. -/
module

public import proofs.«01_k».proof.Proof.Gen.KernelIdeal.Frame.Runs
public import Idealize.ShloMosaic.Lib.Pipeline.ValueKit
public import Idealize.ShloMosaic.Lib.ValueLayout

@[expose] public section

set_option maxRecDepth 16384

noncomputable section

namespace Cert.KernelIdeal.Ffn

open Idealize.ShloMosaic KernelIdeal.Gen

variable {F : FTy → Type} [FloatOps F]

/-- One of the three matrices packed in the exchange buffer: device `k` holds rows `off .. off + 352` of its slab, and the slabs follow one another. -/
def shard (off : ℕ) (h : off + 352 ≤ 1056) (f : S8x1056x1024.Idx → Elt F .bf16) : Vec F S2816x1024 .bf16 := fun y =>
  f (ix3 (⟨(y 0).val / 352, by have : (y 0).val < 2816 := (y 0).isLt; omega⟩ : Fin 8)
    (⟨off + (y 0).val % 352, by have := Nat.mod_lt (y 0).val (by decide : 0 < 352); omega⟩ : Fin 1056) (y 1))

/-- Half the gradient at the norm's input, rounded: the gradient of the half step's output. -/
def bDy (dh z : Vec F S256x1024 .f32) (lg : Vec F S1x1024 .f32) : Vec F S256x1024 .bf16 :=
  k0_pay18 (k0_pay10 z) (k0_pay11 z) (k0_pay12 dh lg) (k0_pay13 dh z lg) (k0_pay14 dh lg)

/-- The gradient of the gated activation. -/
def bDa (dh z : Vec F S256x1024 .f32) (lg : Vec F S1x1024 .f32) (wd : Vec F S2816x1024 .bf16) : Vec F S256x2816 .f32 :=
  k0_pay20 (k0_pay10 z) (k0_pay11 z) (k0_pay12 dh lg) (k0_pay13 dh z lg) (k0_pay14 dh lg) wd

/-- The gradient of the gate's projection. -/
def bDg (dh z : Vec F S256x1024 .f32) (g u : Vec F S256x2816 .f32) (lg : Vec F S1x1024 .f32) (wd : Vec F S2816x1024 .bf16) : Vec F S256x2816 .bf16 :=
  k0_pay3 (bDa dh z lg wd) (k0_pay21 g) (k0_pay22 u) (k0_pay23 g) (FloatOps.ofBits FTy.f32 1065353216#32)

/-- The gradient of the up projection. -/
def bDu (dh z : Vec F S256x1024 .f32) (g : Vec F S256x2816 .f32) (lg : Vec F S1x1024 .f32) (wd : Vec F S2816x1024 .bf16) : Vec F S256x2816 .bf16 :=
  k0_pay4 (bDa dh z lg wd) (k0_pay21 g) (k0_pay23 g) (FloatOps.ofBits FTy.f32 1065353216#32)

/-- The gated activation. -/
def bAct (g u : Vec F S256x2816 .f32) : Vec F S256x2816 .bf16 :=
  k0_pay5 (k0_pay21 g) (k0_pay22 u) (k0_pay23 g) (FloatOps.ofBits FTy.f32 1065353216#32)

/-- The gradient of the half step's input. -/
def bDx (dh z : Vec F S256x1024 .f32) (g u : Vec F S256x2816 .f32) (lg : Vec F S1x1024 .f32) (wg wu wd : Vec F S2816x1024 .bf16) :
    Vec F S256x1024 .f32 :=
  k0_pay6 (k0_pay19 (k0_pay10 z) (k0_pay11 z) (k0_pay12 dh lg) (k0_pay13 dh z lg) (k0_pay14 dh lg)) (bDa dh z lg wd)
    (k0_pay21 g) (k0_pay22 u) (k0_pay23 g) (FloatOps.ofBits FTy.f32 1065353216#32) wg wu

/-- The gain's gradient after one more block of rows. -/
def bGam (dh z : Vec F S256x1024 .f32) (s : Vec F S1x1024 .f32) : Vec F S1x1024 .f32 := k0_pay16 dh (k0_pay11 z) s

/-- The bias's gradient after one more block of rows. -/
def bBet (dh : Vec F S256x1024 .f32) (s : Vec F S1x1024 .f32) : Vec F S1x1024 .f32 := k0_pay17 dh s

/-- A slab of the exchange buffer, read as a matrix of 352 rows. -/
theorem slab_read (f : S8x1056x1024.Idx → Elt F .bf16) (k off : ℕ) (hk : k < 8) (ho : off + 352 ≤ 1056)
    (inb : ∀ a, (![k, off, 0] : Fin 3 → ℕ) a + (![1, 352, 1024] : Fin 3 → ℕ) a ≤ S8x1056x1024.size a)
    (hr : S352x1024.numel = (Rect.unit (s := S8x1056x1024) ![k, off, 0] ![1, 352, 1024] inb).shape.numel) (x : S352x1024.Idx) :
    f ((Rect.unit (s := S8x1056x1024) ![k, off, 0] ![1, 352, 1024] inb).emb (Shape.reshapeEquiv hr x))
      = f (ix3 (⟨k, hk⟩ : Fin 8) (⟨off + (x 0).val, by have : (x 0).val < 352 := (x 0).isLt; omega⟩ : Fin 1056) (x 1)) := by
  have e : Shape.reshapeEquiv hr x = (ix3 (0 : Fin 1) (x 0) (x 1) : (⟨3, ![1, 352, 1024]⟩ : Shape).Idx) := by
    rw [show x = ix2 (x 0) (x 1) from (ix2_eta x).symm]; exact ValueIdx.reshapeEquiv_ix2_1ab _ _ _
  rw [e]; congr 1; funext a; apply Fin.ext
  match a with
  | ⟨0, _⟩ => show k + 1 * 0 = k; omega
  | ⟨1, _⟩ => show off + 1 * (x 0).val = off + (x 0).val; omega
  | ⟨2, _⟩ => show 0 + 1 * (x 1).val = (x 1).val; omega

/-- The slab of device `k`, as the copy that fills rows `352 k .. 352 k + 352` of the scratch delivers it. -/
def piece (f : S8x1056x1024.Idx → Elt F .bf16) (k off o : ℕ)
    (ino : ∀ a, (![o, 0] : Fin 2 → ℕ) a + (![352, 1024] : Fin 2 → ℕ) a ≤ S2816x1024.size a)
    (inb : ∀ a, (![k, off, 0] : Fin 3 → ℕ) a + (![1, 352, 1024] : Fin 3 → ℕ) a ≤ S8x1056x1024.size a)
    (hr : S352x1024.numel = (Rect.unit (s := S8x1056x1024) ![k, off, 0] ![1, 352, 1024] inb).shape.numel) :
    View.Piece (Elt F) S2816x1024 .bf16 :=
  ⟨Rect.unit ![o, 0] ![352, 1024] ino,
    fun x => f ((Rect.unit (s := S8x1056x1024) ![k, off, 0] ![1, 352, 1024] inb).emb (Shape.reshapeEquiv hr x))⟩

theorem piece_apply (f : S8x1056x1024.Idx → Elt F .bf16) (k off o : ℕ) (hk : k < 8) (ho : o = 352 * k) (hoff : off + 352 ≤ 1056) (ino) (inb) (hr) (x) :
    (piece f k off o ino inb hr).2 x = shard off hoff f ((piece f k off o ino inb hr).1.emb x) := by
  refine (slab_read f k off hk hoff inb hr x).trans ?_
  subst ho
  have h0 : (x 0).val < 352 := (x 0).isLt
  unfold shard; congr 1; funext a; apply Fin.ext
  match a with
  | ⟨0, _⟩ => show k = (352 * k + 1 * (x 0).val) / 352; omega
  | ⟨1, _⟩ => show off + (x 0).val = off + (352 * k + 1 * (x 0).val) % 352; omega
  | ⟨2, _⟩ => show (x 1).val = 0 + 1 * (x 1).val; omega

/-- The eight copies fill the scratch with the reassembled matrix. -/
theorem canon_shard (f : S8x1056x1024.Idx → Elt F .bf16) (off : ℕ) (hoff : off + 352 ≤ 1056) (i0 i1 i2 i3 i4 i5 i6 i7 b0 b1 b2 b3 b4 b5 b6 b7 r0 r1 r2 r3 r4 r5 r6 r7) :
    View.canon [piece f 7 off 2464 i7 b7 r7, piece f 6 off 2112 i6 b6 r6, piece f 5 off 1760 i5 b5 r5, piece f 4 off 1408 i4 b4 r4,
      piece f 3 off 1056 i3 b3 r3, piece f 2 off 704 i2 b2 r2, piece f 1 off 352 i1 b1 r1, piece f 0 off 0 i0 b0 r0] = shard off hoff f := by
  funext y
  refine View.canon_apply_of_pieces (shard off hoff f) _ ?_ y ?_
  · intro p hp
    simp only [List.mem_cons, List.not_mem_nil, or_false] at hp
    rcases hp with rfl | rfl | rfl | rfl | rfl | rfl | rfl | rfl <;> exact piece_apply f _ _ _ (by decide) (by decide) hoff _ _ _
  · exact View.cover_of_tiledL _ ![352, 1024] (by sl_kernel_rfl) y

/-- A whole load of the scratch after the eight copies reads the reassembled matrix. -/
theorem load_shard (v : View sig .tc .vmem S2816x1024 .bf16) (f : S8x1056x1024.Idx → Elt F .bf16) (off : ℕ) (hoff : off + 352 ≤ 1056) (ib)
    (i0 i1 i2 i3 i4 i5 i6 i7 b0 b1 b2 b3 b4 b5 b6 b7 r0 r1 r2 r3 r4 r5 r6 r7) :
    v.readCov [piece f 7 off 2464 i7 b7 r7, piece f 6 off 2112 i6 b6 r6, piece f 5 off 1760 i5 b5 r5, piece f 4 off 1408 i4 b4 r4,
      piece f 3 off 1056 i3 b3 r3, piece f 2 off 704 i2 b2 r2, piece f 1 off 352 i1 b1 r1, piece f 0 off 0 i0 b0 r0]
      (Rect.unit (s := S2816x1024) ![0, 0] ![2816, 1024] ib).toLoadRect = shard off hoff f := by
  rw [View.readCov_eq_canon_ld _ _ _ (View.cover_of_tiledL _ ![352, 1024] (by sl_kernel_rfl)), canon_shard f off hoff]
  exact View.ld_unit_lit' _ _ (by decide)

theorem bDx_congr (dh z : Vec F S256x1024 .f32) (g u : Vec F S256x2816 .f32) (lg : Vec F S1x1024 .f32) {wg wu wd wg' wu' wd' : Vec F S2816x1024 .bf16}
    (hg : wg = wg') (hu : wu = wu') (hd : wd = wd') : bDx dh z g u lg wg wu wd = bDx dh z g u lg wg' wu' wd' := by
  rw [hg, hu, hd]

end Cert.KernelIdeal.Ffn

end
-- ==== Proof.RunNext.lean ====
/- A grid point after the first: the weights are already in the scratch, and the point adds its rows to the two running sums. -/
module

public import proofs.«01_k».proof.Proof.Blocks

@[expose] public section

set_option maxRecDepth 16384

noncomputable section

namespace Cert.KernelIdeal.Ffn

open KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1200000 in
/-- The body at such a point leaves each output block at its function of the blocks it read, and the scratch as it was. -/
theorem next_point (c : Dev nD) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x2816 .f32) (harg3 : arg3.IsWhole)
    (arg4 : Memref sig .tc .vmem S256x2816 .f32) (harg4 : arg4.IsWhole)
    (arg6 : Memref sig .tc .vmem S1x1024 .f32) (harg6 : arg6.IsWhole)
    (arg8 : Memref sig .tc .vmem S256x1024 .f32) (harg8 : arg8.IsWhole)
    (arg9 : Memref sig .tc .vmem S256x2816 .bf16) (harg9 : arg9.IsWhole)
    (arg10 : Memref sig .tc .vmem S256x2816 .bf16) (harg10 : arg10.IsWhole)
    (arg11 : Memref sig .tc .vmem S256x2816 .bf16) (harg11 : arg11.IsWhole)
    (arg12 : Memref sig .tc .vmem S256x1024 .bf16) (harg12 : arg12.IsWhole)
    (arg13 : Memref sig .tc .vmem S1x1024 .f32) (harg13 : arg13.IsWhole)
    (arg14 : Memref sig .tc .vmem S1x1024 .f32) (harg14 : arg14.IsWhole)
    (arg15 : Memref sig .tc .vmem S2816x1024 .bf16) (harg15 : arg15.IsWhole)
    (arg16 : Memref sig .tc .vmem S2816x1024 .bf16) (harg16 : arg16.IsWhole)
    (arg17 : Memref sig .tc .vmem S2816x1024 .bf16) (harg17 : arg17.IsWhole)
    (hc0 : ¬cond0_0 i) (hc1 : ¬cond0_1 i)
    (x0 : Vec F S256x1024 .f32)    (x1 : Vec F S256x1024 .f32)    (x2 : Vec F S256x2816 .f32)    (x3 : Vec F S256x2816 .f32)    (x4 : Vec F S1x1024 .f32)
    (s0 s1 : Vec F S1x1024 .f32) (w0 w1 w2 : Vec F S2816x1024 .bf16)
    (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg6 fullShare x4 ∗ (∃ d, owns (c : Thread nD τ) arg8 fullShare d) ∗
      (∃ d, owns (c : Thread nD τ) arg9 fullShare d) ∗ (∃ d, owns (c : Thread nD τ) arg10 fullShare d) ∗
      (∃ d, owns (c : Thread nD τ) arg11 fullShare d) ∗ (∃ d, owns (c : Thread nD τ) arg12 fullShare d) ∗
      owns (c : Thread nD τ) arg13 fullShare s0 ∗ owns (c : Thread nD τ) arg14 fullShare s1 ∗ owns (c : Thread nD τ) arg15 fullShare w0 ∗
      owns (c : Thread nD τ) arg16 fullShare w1 ∗ owns (c : Thread nD τ) arg17 fullShare w2
      ∗ (iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg6 fullShare x4 ∗
      owns (c : Thread nD τ) arg8 fullShare (bDx x0 x1 x2 x3 x4 w0 w1 w2) ∗ owns (c : Thread nD τ) arg9 fullShare (bDg x0 x1 x2 x3 x4 w2) ∗
      owns (c : Thread nD τ) arg10 fullShare (bDu x0 x1 x2 x4 w2) ∗ owns (c : Thread nD τ) arg11 fullShare (bAct x2 x3) ∗
      owns (c : Thread nD τ) arg12 fullShare (bDy x0 x1 x4) ∗ owns (c : Thread nD τ) arg13 fullShare (bGam x0 x1 s0) ∗
      owns (c : Thread nD τ) arg14 fullShare (bBet x0 s1) ∗ owns (c : Thread nD τ) arg15 fullShare w0 ∗
      owns (c : Thread nD τ) arg16 fullShare w1 ∗ owns (c : Thread nD τ) arg17 fullShare w2) -∗ K ⟨⟩))
      ⊢ wp frame (wpE (defs₀ (F := F)) Variants.none c none) Set.univ
        (cc0_ffn1_bwd i arg1 harg1 arg2 harg2 arg3 harg3 arg4 harg4 (Memref.whole main_v18) (Memref.isWhole_whole _) arg6 harg6 (Memref.whole main_arg7) (Memref.isWhole_whole _) arg8 harg8 arg9 harg9 arg10 harg10 arg11 harg11 arg12 harg12 arg13 harg13 arg14 harg14 arg15 harg15 arg16 harg16 arg17 harg17 cc0_scratch3) K := by
  simp only [cc0_ffn1_bwd_eq_skeleton]; unfold cc0_ffn1_bwd_skel
  simp only [k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%fs0, %hfs0, HS0⟩, ⟨%fs1, %hfs1, HS1⟩, ⟨%fs2, %hfs2, HS2⟩, Hk⟩
  obtain rfl := harg1.eq_unread hf0
  obtain rfl := harg2.eq_unread hf1
  obtain rfl := harg3.eq_unread hf2
  obtain rfl := harg4.eq_unread hf3
  obtain rfl := harg6.eq_unread hf4
  obtain rfl := harg13.eq_unread hf10
  obtain rfl := harg14.eq_unread hf11
  obtain rfl := harg15.eq_unread hfs0
  obtain rfl := harg16.eq_unread hfs1
  obtain rfl := harg17.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg6.read_unread _
    iexact H4
  isplitl [H5]
  · iexists _; isplitr; swap; iexact H5; ipureintro
    rw [View.read_writes_eq_canon _ _ _ (View.cover_of_tiledL _ S256x1024.size (by sl_kernel_rfl))]; frame_out
    rfl
  isplitl [H6]
  · iexists _; isplitr; swap; iexact H6; ipureintro
    rw [View.read_writes_eq_canon _ _ _ (View.cover_of_tiledL _ S256x2816.size (by sl_kernel_rfl))]; frame_out
    rfl
  isplitl [H7]
  · iexists _; isplitr; swap; iexact H7; ipureintro
    rw [View.read_writes_eq_canon _ _ _ (View.cover_of_tiledL _ S256x2816.size (by sl_kernel_rfl))]; frame_out
    rfl
  isplitl [H8]
  · iexists _; isplitr; swap; iexact H8; ipureintro
    rw [View.read_writes_eq_canon _ _ _ (View.cover_of_tiledL _ S256x2816.size (by sl_kernel_rfl))]; frame_out
    rfl
  isplitl [H9]
  · iexists _; isplitr; swap; iexact H9; ipureintro
    rw [View.read_writes_eq_canon _ _ _ (View.cover_of_tiledL _ S256x1024.size (by sl_kernel_rfl))]; frame_out
    rfl
  isplitl [H10]
  · iexists _; isplitr; swap; iexact H10; ipureintro
    rw [View.read_writes_eq_canon _ _ _ (View.cover_of_tiledL _ S1x1024.size (by sl_kernel_rfl))]; frame_out
    rfl
  isplitl [H11]
  · iexists _; isplitr; swap; iexact H11; ipureintro
    rw [View.read_writes_eq_canon _ _ _ (View.cover_of_tiledL _ S1x1024.size (by sl_kernel_rfl))]; frame_out
    rfl
  isplitl [HS0]
  · iexists _; isplitr; · ipureintro; exact harg15.read_unread _
    iexact HS0
  isplitl [HS1]
  · iexists _; isplitr; · ipureintro; exact harg16.read_unread _
    iexact HS1
  iexists _; isplitr; · ipureintro; exact harg17.read_unread _
  iexact HS2

end Cert.KernelIdeal.Ffn

end
-- ==== Proof.RunFirst.lean ====
/- The first grid point: it copies the three weight matrices into the scratch, slab by slab, and sets the two running sums to zero before it adds its rows. -/
module

public import proofs.«01_k».proof.Proof.RunNext

@[expose] public section

set_option maxRecDepth 16384

noncomputable section

namespace Cert.KernelIdeal.Ffn

open KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The counters of the twenty-four copies, all at zero. -/
def cells (c : Dev nD) : sProp 𝕄 :=
  iprop(semVal ((c : Thread nD τ), SemLoc.dma 21) 0 ∗ semVal ((c : Thread nD τ), SemLoc.dma 22) 0 ∗ semVal ((c : Thread nD τ), SemLoc.dma 23) 0 ∗
    semVal ((c : Thread nD τ), SemLoc.dma 24) 0 ∗ semVal ((c : Thread nD τ), SemLoc.dma 25) 0 ∗ semVal ((c : Thread nD τ), SemLoc.dma 26) 0 ∗
    semVal ((c : Thread nD τ), SemLoc.dma 27) 0 ∗ semVal ((c : Thread nD τ), SemLoc.dma 28) 0 ∗ semVal ((c : Thread nD τ), SemLoc.dma 29) 0 ∗
    semVal ((c : Thread nD τ), SemLoc.dma 30) 0 ∗ semVal ((c : Thread nD τ), SemLoc.dma 31) 0 ∗ semVal ((c : Thread nD τ), SemLoc.dma 32) 0 ∗
    semVal ((c : Thread nD τ), SemLoc.dma 33) 0 ∗ semVal ((c : Thread nD τ), SemLoc.dma 34) 0 ∗ semVal ((c : Thread nD τ), SemLoc.dma 35) 0 ∗
    semVal ((c : Thread nD τ), SemLoc.dma 36) 0 ∗ semVal ((c : Thread nD τ), SemLoc.dma 37) 0 ∗ semVal ((c : Thread nD τ), SemLoc.dma 38) 0 ∗
    semVal ((c : Thread nD τ), SemLoc.dma 39) 0 ∗ semVal ((c : Thread nD τ), SemLoc.dma 40) 0 ∗ semVal ((c : Thread nD τ), SemLoc.dma 41) 0 ∗
    semVal ((c : Thread nD τ), SemLoc.dma 42) 0 ∗ semVal ((c : Thread nD τ), SemLoc.dma 43) 0 ∗ semVal ((c : Thread nD τ), SemLoc.dma 44) 0)

set_option sl_exec.dmaWindow true in
set_option sl_exec.dmaWindowSet true in
set_option maxHeartbeats 2400000 in
/-- The body at the first point: the scratch ends at the three reassembled matrices, and each output block at its function of the blocks read. -/
theorem first_point (c : Dev nD) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x2816 .f32) (harg3 : arg3.IsWhole)
    (arg4 : Memref sig .tc .vmem S256x2816 .f32) (harg4 : arg4.IsWhole)
    (arg6 : Memref sig .tc .vmem S1x1024 .f32) (harg6 : arg6.IsWhole)
    (arg8 : Memref sig .tc .vmem S256x1024 .f32) (harg8 : arg8.IsWhole)
    (arg9 : Memref sig .tc .vmem S256x2816 .bf16) (harg9 : arg9.IsWhole)
    (arg10 : Memref sig .tc .vmem S256x2816 .bf16) (harg10 : arg10.IsWhole)
    (arg11 : Memref sig .tc .vmem S256x2816 .bf16) (harg11 : arg11.IsWhole)
    (arg12 : Memref sig .tc .vmem S256x1024 .bf16) (harg12 : arg12.IsWhole)
    (arg13 : Memref sig .tc .vmem S1x1024 .f32) (harg13 : arg13.IsWhole)
    (arg14 : Memref sig .tc .vmem S1x1024 .f32) (harg14 : arg14.IsWhole)
    (arg15 : Memref sig .tc .vmem S2816x1024 .bf16) (harg15 : arg15.IsWhole)
    (arg16 : Memref sig .tc .vmem S2816x1024 .bf16) (harg16 : arg16.IsWhole)
    (arg17 : Memref sig .tc .vmem S2816x1024 .bf16) (harg17 : arg17.IsWhole)
    (hc0 : cond0_0 i) (hc1 : cond0_1 i)
    (x0 : Vec F S256x1024 .f32)    (x1 : Vec F S256x1024 .f32)    (x2 : Vec F S256x2816 .f32)    (x3 : Vec F S256x2816 .f32)    (x4 : Vec F S1x1024 .f32)
    (fh : HbBuf0 (F := F) c hbM0_0) (W : Waits sig Unit) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg6 fullShare x4 ∗ (∃ d, owns (c : Thread nD τ) arg8 fullShare d) ∗
      (∃ d, owns (c : Thread nD τ) arg9 fullShare d) ∗ (∃ d, owns (c : Thread nD τ) arg10 fullShare d) ∗
      (∃ d, owns (c : Thread nD τ) arg11 fullShare d) ∗ (∃ d, owns (c : Thread nD τ) arg12 fullShare d) ∗
      (∃ d, owns (c : Thread nD τ) arg13 fullShare d) ∗ (∃ d, owns (c : Thread nD τ) arg14 fullShare d) ∗
      (∃ d, owns (c : Thread nD τ) arg15 fullShare d) ∗ (∃ d, owns (c : Thread nD τ) arg16 fullShare d) ∗
      (∃ d, owns (c : Thread nD τ) arg17 fullShare d) ∗ cells c ∗ hbPt0 c hbM0_0 fh ∗ owes (c : Thread nD τ) 0 W
      ∗ (iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg6 fullShare x4 ∗
      owns (c : Thread nD τ) arg8 fullShare (bDx x0 x1 x2 x3 x4 (shard 0 (by decide) fh) (shard 352 (by decide) fh) (shard 704 (by decide) fh)) ∗
      owns (c : Thread nD τ) arg9 fullShare (bDg x0 x1 x2 x3 x4 (shard 704 (by decide) fh)) ∗
      owns (c : Thread nD τ) arg10 fullShare (bDu x0 x1 x2 x4 (shard 704 (by decide) fh)) ∗ owns (c : Thread nD τ) arg11 fullShare (bAct x2 x3) ∗
      owns (c : Thread nD τ) arg12 fullShare (bDy x0 x1 x4) ∗ owns (c : Thread nD τ) arg13 fullShare (bGam x0 x1 k0_pay7) ∗
      owns (c : Thread nD τ) arg14 fullShare (bBet x0 k0_pay8) ∗ owns (c : Thread nD τ) arg15 fullShare (shard 0 (by decide) fh) ∗
      owns (c : Thread nD τ) arg16 fullShare (shard 352 (by decide) fh) ∗ owns (c : Thread nD τ) arg17 fullShare (shard 704 (by decide) fh) ∗
      cells c ∗ hbPt0 c hbM0_0 fh ∗ (∃ W', owes (c : Thread nD τ) 0 W')) -∗ K ⟨⟩))
      ⊢ wp frame (wpE (defs₀ (F := F)) Variants.none c none) Set.univ
        (cc0_ffn1_bwd i arg1 harg1 arg2 harg2 arg3 harg3 arg4 harg4 (Memref.whole main_v18) (Memref.isWhole_whole _) arg6 harg6 (Memref.whole main_arg7) (Memref.isWhole_whole _) arg8 harg8 arg9 harg9 arg10 harg10 arg11 harg11 arg12 harg12 arg13 harg13 arg14 harg14 arg15 harg15 arg16 harg16 arg17 harg17 cc0_scratch3) K := by
  simp only [cc0_ffn1_bwd_eq_skeleton]; unfold cc0_ffn1_bwd_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton]
  unfold owns; unfold cells
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0, HW, Hk⟩
  obtain rfl := harg1.eq_unread hf0
  obtain rfl := harg2.eq_unread hf1
  obtain rfl := harg3.eq_unread hf2
  obtain rfl := harg4.eq_unread hf3
  obtain rfl := harg6.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg6.read_unread _
    iexact H4
  isplitl [H5]
  · iexists _; isplitr; swap; iexact H5; ipureintro
    rw [View.read_writes_eq_canon _ _ _ (View.cover_of_tiledL _ S256x1024.size (by sl_kernel_rfl))]; frame_out
    exact bDx_congr _ _ _ _ _ (load_shard _ fh 0 (by decide) _ _ _ _ _ _ _ _ _ _ _ _ _ _ _ _ _ _ _ _ _ _ _ _ _)
      (load_shard _ fh 352 (by decide) _ _ _ _ _ _ _ _ _ _ _ _ _ _ _ _ _ _ _ _ _ _ _ _ _)
      (load_shard _ fh 704 (by decide) _ _ _ _ _ _ _ _ _ _ _ _ _ _ _ _ _ _ _ _ _ _ _ _ _)
  isplitl [H6]
  · iexists _; isplitr; swap; iexact H6; ipureintro
    rw [View.read_writes_eq_canon _ _ _ (View.cover_of_tiledL _ S256x2816.size (by sl_kernel_rfl))]; frame_out
    exact congrArg (bDg x0 x1 x2 x3 x4) (load_shard _ fh 704 (by decide) _ _ _ _ _ _ _ _ _ _ _ _ _ _ _ _ _ _ _ _ _ _ _ _ _)
  isplitl [H7]
  · iexists _; isplitr; swap; iexact H7; ipureintro
    rw [View.read_writes_eq_canon _ _ _ (View.cover_of_tiledL _ S256x2816.size (by sl_kernel_rfl))]; frame_out
    exact congrArg (bDu x0 x1 x2 x4) (load_shard _ fh 704 (by decide) _ _ _ _ _ _ _ _ _ _ _ _ _ _ _ _ _ _ _ _ _ _ _ _ _)
  isplitl [H8]
  · iexists _; isplitr; swap; iexact H8; ipureintro
    rw [View.read_writes_eq_canon _ _ _ (View.cover_of_tiledL _ S256x2816.size (by sl_kernel_rfl))]; frame_out
    rfl
  isplitl [H9]
  · iexists _; isplitr; swap; iexact H9; ipureintro
    rw [View.read_writes_eq_canon _ _ _ (View.cover_of_tiledL _ S256x1024.size (by sl_kernel_rfl))]; frame_out
    rfl
  isplitl [H10]
  · iexists _; isplitr; swap; iexact H10; ipureintro
    rw [View.read_writes_eq_canon _ _ _ (View.cover_of_tiledL _ S1x1024.size (by sl_kernel_rfl))]; frame_out
    rfl
  isplitl [H11]
  · iexists _; isplitr; swap; iexact H11; ipureintro
    rw [View.read_writes_eq_canon _ _ _ (View.cover_of_tiledL _ S1x1024.size (by sl_kernel_rfl))]; frame_out
    rfl
  isplitl [HS0]
  · iexists _; isplitr; swap; iexact HS0; ipureintro
    rw [View.read_writes_eq_canon _ _ _ (View.cover_of_tiledL _ ![352, 1024] (by sl_kernel_rfl))]; frame_out
    exact canon_shard fh 0 (by decide) _ _ _ _ _ _ _ _ _ _ _ _ _ _ _ _ _ _ _ _ _ _ _ _
  isplitl [HS1]
  · iexists _; isplitr; swap; iexact HS1; ipureintro
    rw [View.read_writes_eq_canon _ _ _ (View.cover_of_tiledL _ ![352, 1024] (by sl_kernel_rfl))]; frame_out
    exact canon_shard fh 352 (by decide) _ _ _ _ _ _ _ _ _ _ _ _ _ _ _ _ _ _ _ _ _ _ _ _
  isplitl [HS2]
  · iexists _; isplitr; swap; iexact HS2; ipureintro
    rw [View.read_writes_eq_canon _ _ _ (View.cover_of_tiledL _ ![352, 1024] (by sl_kernel_rfl))]; frame_out
    exact canon_shard fh 704 (by decide) _ _ _ _ _ _ _ _ _ _ _ _ _ _ _ _ _ _ _ _ _ _ _ _
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; iexact Hq0
    isplitl [Hq1]; iexact Hq1
    isplitl [Hq2]; iexact Hq2
    isplitl [Hq3]; iexact Hq3
    isplitl [Hq4]; iexact Hq4
    isplitl [Hq5]; iexact Hq5
    isplitl [Hq6]; iexact Hq6
    isplitl [Hq7]; iexact Hq7
    isplitl [Hq8]; iexact Hq8
    isplitl [Hq9]; iexact Hq9
    isplitl [Hq10]; iexact Hq10
    isplitl [Hq11]; iexact Hq11
    isplitl [Hq12]; iexact Hq12
    isplitl [Hq13]; iexact Hq13
    isplitl [Hq14]; iexact Hq14
    isplitl [Hq15]; iexact Hq15
    isplitl [Hq16]; iexact Hq16
    isplitl [Hq17]; iexact Hq17
    isplitl [Hq18]; iexact Hq18
    isplitl [Hq19]; iexact Hq19
    isplitl [Hq20]; iexact Hq20
    isplitl [Hq21]; iexact Hq21
    isplitl [Hq22]; iexact Hq22
    iexact Hq23
  isplitl [Hh0]; · iexact Hh0
  iexists _; iexact HW

end Cert.KernelIdeal.Ffn

end
-- ==== Proof.Frame.lean ====
/- The whole run of the kernel: what each staging buffer, the scratch and the copy counters hold before and after every grid point, and what follows for the arrays at the end. -/
module

public import proofs.«01_k».proof.Proof.RunFirst

@[expose] public section

set_option maxRecDepth 16384

noncomputable section

namespace Cert.KernelIdeal.Ffn

open KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The three weight matrices as the scratch holds them after the first point. -/
def wGate (c : Dev nD) : Vec F S2816x1024 .bf16 := shard 0 (by decide) (V m c main_v18)
def wUp (c : Dev nD) : Vec F S2816x1024 .bf16 := shard 352 (by decide) (V m c main_v18)
def wDown (c : Dev nD) : Vec F S2816x1024 .bf16 := shard 704 (by decide) (V m c main_v18)

/-- The gain's gradient after the points up to `n`. -/
def gamAt (c : Dev nD) : (n : ℕ) → n < cfg0.N → Vec F S1x1024 .f32
  | 0, h => bGam (iblk m c 0 ⟨0, h⟩) (iblk m c 1 ⟨0, h⟩) k0_pay7
  | n + 1, h => bGam (iblk m c 0 ⟨n + 1, h⟩) (iblk m c 1 ⟨n + 1, h⟩) (gamAt c n (Nat.lt_of_succ_lt h))

/-- The bias's gradient after the points up to `n`. -/
def betAt (c : Dev nD) : (n : ℕ) → n < cfg0.N → Vec F S1x1024 .f32
  | 0, h => bBet (iblk m c 0 ⟨0, h⟩) k0_pay8
  | n + 1, h => bBet (iblk m c 0 ⟨n + 1, h⟩) (betAt c n (Nat.lt_of_succ_lt h))

theorem gamAt_first (c : Dev nD) (t : Fin cfg0.N) (h : t.val = 0) :
    gamAt m c t.val t.isLt = bGam (iblk m c 0 t) (iblk m c 1 t) k0_pay7 := by
  obtain ⟨n, hn⟩ := t; obtain rfl : n = 0 := h; rfl

theorem gamAt_next (c : Dev nD) (t : Fin cfg0.N) (h : t.val ≠ 0) :
    gamAt m c t.val t.isLt = bGam (iblk m c 0 t) (iblk m c 1 t) (gamAt m c (t.val - 1) (Nat.lt_of_le_of_lt (Nat.sub_le _ _) t.isLt)) := by
  obtain ⟨n, hn⟩ := t
  cases n with
  | zero => exact absurd rfl h
  | succ n => rfl

theorem betAt_first (c : Dev nD) (t : Fin cfg0.N) (h : t.val = 0) : betAt m c t.val t.isLt = bBet (iblk m c 0 t) k0_pay8 := by
  obtain ⟨n, hn⟩ := t; obtain rfl : n = 0 := h; rfl

theorem betAt_next (c : Dev nD) (t : Fin cfg0.N) (h : t.val ≠ 0) :
    betAt m c t.val t.isLt = bBet (iblk m c 0 t) (betAt m c (t.val - 1) (Nat.lt_of_le_of_lt (Nat.sub_le _ _) t.isLt)) := by
  obtain ⟨n, hn⟩ := t
  cases n with
  | zero => exact absurd rfl h
  | succ n => rfl

/-- What every point keeps: the generator register, the copy counters at zero, and the two operands left in main memory. -/
def kept (c : Dev nD) : sProp 𝕄 :=
  iprop((∃ r, prngReg c r) ∗ cells c ∗ (hbPt0 c hbM0_0 (V m c main_v18) ∗ hbPt0 c hbM0_1 (V m c main_arg7)))

/-- The scratch at anything, as the first point finds it. -/
def scratchAny (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d))

/-- The scratch at the three weight matrices, as every later point finds it. -/
def scratchSet (c : Dev nD) : sProp 𝕄 :=
  iprop(owns (c : Thread nD τ) scM0_0 fullShare (wGate m c) ∗ owns (c : Thread nD τ) scM0_1 fullShare (wUp m c) ∗ owns (c : Thread nD τ) scM0_2 fullShare (wDown m c))

theorem launch_eq (c : Dev nD) : (Pipeline.ΦD osem0 spec0 H0 (V m) c : sProp 𝕄) = iprop(scratchAny c ∗ kept m c) := by
  rw [PhiD0_eq]; rfl

/-- What holds before point `n`. -/
def inv (c : Dev nD) : (n : ℕ) → n ≤ cfg0.N → sProp 𝕄
  | 0, _ => iprop(scratchAny c ∗ kept m c)
  | _ + 1, _ => iprop(scratchSet m c ∗ kept m c)

theorem inv_first (c : Dev nD) (n : ℕ) (h : n ≤ cfg0.N) (hz : n = 0) : inv m c n h = iprop(scratchAny c ∗ kept m c) := by
  subst hz; rfl

theorem inv_next (c : Dev nD) (n : ℕ) (h : n ≤ cfg0.N) (hz : n ≠ 0) : inv m c n h = iprop(scratchSet m c ∗ kept m c) := by
  cases n with
  | zero => exact absurd rfl hz
  | succ n => rfl

/-- The arrays at the start, what the body leaves in each window's buffer, and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => bDx (iblk m c 0 t) (iblk m c 1 t) (iblk m c 2 t) (iblk m c 3 t) (iblk m c 4 t) (wGate m c) (wUp m c) (wDown m c)
    | ⟨6, _⟩ => bDg (iblk m c 0 t) (iblk m c 1 t) (iblk m c 2 t) (iblk m c 3 t) (iblk m c 4 t) (wDown m c)
    | ⟨7, _⟩ => bDu (iblk m c 0 t) (iblk m c 1 t) (iblk m c 2 t) (iblk m c 4 t) (wDown m c)
    | ⟨8, _⟩ => bAct (iblk m c 2 t) (iblk m c 3 t)
    | ⟨9, _⟩ => bDy (iblk m c 0 t) (iblk m c 1 t) (iblk m c 4 t)
    | ⟨10, _⟩ => gamAt m c t.val t.isLt
    | ⟨11, _⟩ => betAt m c t.val t.isLt
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = bDx (iblk m c 0 t) (iblk m c 1 t) (iblk m c 2 t) (iblk m c 3 t) (iblk m c 4 t) (wGate m c) (wUp m c) (wDown m c) := by dsimp only [dats]
theorem after_6 (c : Dev nD) (t : Fin cfg0.N) : (dats m 0 c).after 6 t = bDg (iblk m c 0 t) (iblk m c 1 t) (iblk m c 2 t) (iblk m c 3 t) (iblk m c 4 t) (wDown m c) := by dsimp only [dats]
theorem after_7 (c : Dev nD) (t : Fin cfg0.N) : (dats m 0 c).after 7 t = bDu (iblk m c 0 t) (iblk m c 1 t) (iblk m c 2 t) (iblk m c 4 t) (wDown m c) := by dsimp only [dats]
theorem after_8 (c : Dev nD) (t : Fin cfg0.N) : (dats m 0 c).after 8 t = bAct (iblk m c 2 t) (iblk m c 3 t) := by dsimp only [dats]
theorem after_9 (c : Dev nD) (t : Fin cfg0.N) : (dats m 0 c).after 9 t = bDy (iblk m c 0 t) (iblk m c 1 t) (iblk m c 4 t) := by dsimp only [dats]
theorem after_10 (c : Dev nD) (t : Fin cfg0.N) : (dats m 0 c).after 10 t = gamAt m c t.val t.isLt := by dsimp only [dats]
theorem after_11 (c : Dev nD) (t : Fin cfg0.N) : (dats m 0 c).after 11 t = betAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- After the first point the running sum's buffer still holds what the point before left. -/
theorem before_10 (c : Dev nD) (t : Fin cfg0.N) (h : t.val ≠ 0) (d) :
    (dats m 0 c).before 10 t d = gamAt m c (t.val - 1) (Nat.lt_of_le_of_lt (Nat.sub_le _ _) t.isLt) := by
  have hN : t.val < 17 := lt_of_lt_of_eq t.isLt (show cfg0.N = 17 from N_0)
  rw [Dat.before_out_kept _ 10 rfl t (by omega) (Bool.eq_false_iff.mpr fun h => by have := (flush0_10 _).mp h; dsimp only at this; omega)
    (fun _ => rfl) (fun _ _ => rfl)]
  dsimp only [dats]

/-- After the first point the running sum's buffer still holds what the point before left. -/
theorem before_11 (c : Dev nD) (t : Fin cfg0.N) (h : t.val ≠ 0) (d) :
    (dats m 0 c).before 11 t d = betAt m c (t.val - 1) (Nat.lt_of_le_of_lt (Nat.sub_le _ _) t.isLt) := by
  have hN : t.val < 17 := lt_of_lt_of_eq t.isLt (show cfg0.N = 17 from N_0)
  rw [Dat.before_out_kept _ 11 rfl t (by omega) (Bool.eq_false_iff.mpr fun h => by have := (flush0_11 _).mp h; dsimp only at this; omega)
    (fun _ => rfl) (fun _ _ => rfl)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = iprop(scratchSet m c ∗ kept m c) from rfl,
    after_0, after_1, after_2, after_3, after_4, after_5, after_6, after_7, after_8, after_9, after_10, after_11]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases hz : t.val = 0
  · rw [inv_castSucc m c t, inv_first m c _ _ hz, gamAt_first m c t hz, betAt_first m c t hz]
    unfold scratchAny scratchSet kept wGate wUp wDown
    iintro ⟨⟨⟨HS0, HS1, HS2⟩, ⟨Hg, Hq, ⟨Hh0, Hh1⟩⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (first_point c (grid0.coords t) _ _ _ _ _ _ _ _ _ _ _ _ _ _ _ _ _ _ _ _ _ _ _ _ _ _ _ _ _ _ ((hcond0_0 t).mpr (by omega)) ((hcond0_1 t).mpr (by omega))
      (iblk m c 0 t) (iblk m c 1 t) (iblk m c 2 t) (iblk m c 3 t) (iblk m c 4 t) (V m c main_v18) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [Hq]; · iexact Hq
    isplitl [Hh0]; · iexact Hh0
    isplitl [HW]; · iexact HW
    iintro ⟨H0, H1, H2, H3, H4, H5, H6, H7, H8, H9, H10, H11, HS0, HS1, HS2, Hq, Hh0, ⟨%W', HW'⟩⟩
    isplitl [HS0 HS1 HS2 Hg Hq Hh0 Hh1]
    · isplitl [HS0 HS1 HS2]
      · isplitl [HS0]; · iexact HS0
        isplitl [HS1]; · iexact HS1
        iexact HS2
      isplitl [Hg]; · iexact Hg
      isplitl [Hq]; · iexact Hq
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [inv_castSucc m c t, inv_next m c _ _ hz, gamAt_next m c t hz, betAt_next m c t hz]
    simp only [before_10 m c t hz, before_11 m c t hz]
    unfold scratchSet kept
    iintro ⟨⟨⟨HS0, HS1, HS2⟩, ⟨Hg, Hq, ⟨Hh0, Hh1⟩⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (next_point c (grid0.coords t) _ _ _ _ _ _ _ _ _ _ _ _ _ _ _ _ _ _ _ _ _ _ _ _ _ _ _ _ _ _ (fun h => by have := (hcond0_0 t).mp h; omega) (fun h => by have := (hcond0_1 t).mp h; omega)
      (iblk m c 0 t) (iblk m c 1 t) (iblk m c 2 t) (iblk m c 3 t) (iblk m c 4 t) _ _ _ _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg Hq Hh0 Hh1]
    · isplitl [HS0 HS1 HS2]
      · isplitl [HS0]; · iexact HS0
        isplitl [HS1]; · iexact HS1
        iexact HS2
      isplitl [Hg]; · iexact Hg
      isplitl [Hq]; · iexact Hq
      isplitl [Hh0]; · iexact Hh0
      iexact Hh1
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦD osem0 spec0 H0 (V m) c ⊢ (dats m 0 c).Φ 0 := by
  rw [show (dats m 0 c).Φ 0 = iprop(scratchAny c ∗ kept m c) from rfl, launch_eq]

theorem inv_out (c : Dev nD) : (dats m 0 c).Φ (Fin.last cfg0.N) ⊢ Pipeline.ΦD osem0 spec0 H0 (V m) c := by
  rw [show (dats m 0 c).Φ (Fin.last cfg0.N) = inv m c (Fin.last cfg0.N).val (Nat.le_of_lt_succ (Fin.last cfg0.N).isLt) from rfl,
    inv_next m c _ _ (by rw [Fin.val_last]; have : cfg0.N = 17 := N_0; omega), launch_eq]
  unfold scratchSet scratchAny
  iintro ⟨⟨HS0, HS1, HS2⟩, Hk⟩
  isplitl [HS0 HS1 HS2]
  · isplitl [HS0]
    · iexists _; iexact HS0
    isplitl [HS1]
    · iexists _; iexact HS1
    iexists _; iexact HS2
  iexact Hk

set_option backward.isDefEq.respectTransparency.types false in
/-- Every weakly fair run ends, with the arrays at what the points left and every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the arguments end as they began, and every counter is at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Ffn

end
-- ==== Proof.Bits.Frame.lean ====
/- The frame of the half step's gradient kernel as it was written: its idealized program is the same program, and the frame of that one is
   proved for every reading of its floats. -/
module

public import proofs.«01_k».proof.Proof.Frame
public import proofs.«01_k».proof.Proof.Gen.Kernel

@[expose] public section

set_option maxRecDepth 16384

noncomputable section

namespace Cert.KernelIdeal.Ffn

open Idealize.ShloMosaic Idealize.ShloMosaic.TcCoe Idealize.SL.Sem Cert.KernelIdeal Cert.KernelIdeal.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

end Cert.KernelIdeal.Ffn

namespace Cert.Kernel.Ffn

open Idealize.ShloMosaic Idealize.ShloMosaic.TcCoe Idealize.SL.Sem Cert.Kernel Cert.Kernel.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- The two programs are the same. -/
theorem framed_eq (F : FTy → Type) [FloatOps F] : Framed F = Cert.KernelIdeal.Ffn.Framed F := by sl_kernel_rfl

/-- The frame of the program as it was written. -/
theorem frame_run {F : FTy → Type} [FloatOps F] : Framed F :=
  (framed_eq F).mpr Cert.KernelIdeal.Ffn.frame_run

end Cert.Kernel.Ffn

end
-- ==== Proof.HalfStep.lean ====
/- The real functions of the half step's gradient: from the step's input, the three weights, the norm's gain and the incoming gradient, the seven
   results over the reals. -/
module

public import proofs.«01_k».proof.Proof.Reals

@[expose] public section

set_option maxRecDepth 16384

noncomputable section

namespace Cert.Row

/-- The arguments over the reals: the input, the gate, up and down weights, the gain, and the gradient of the half step's output. -/
structure Data where
  h : Fin 4352 → Fin 1024 → ℝ
  wg : Fin 1024 → Fin 2816 → ℝ
  wu : Fin 1024 → Fin 2816 → ℝ
  wd : Fin 2816 → Fin 1024 → ℝ
  lg : Fin 1024 → ℝ
  dh : Fin 4352 → Fin 1024 → ℝ

namespace Data

variable (d : Data)

/-- The gate's projection. -/
def g (i : Fin 4352) (j : Fin 2816) : ℝ := ∑ k, d.h i k * d.wg k j
/-- The up projection. -/
def u (i : Fin 4352) (j : Fin 2816) : ℝ := ∑ k, d.h i k * d.wu k j
/-- The gated activation. -/
def act (i : Fin 4352) (j : Fin 2816) : ℝ := d.g i j * sg (d.g i j) * d.u i j
/-- The norm's input. -/
def z (i : Fin 4352) (k : Fin 1024) : ℝ := alpha * d.h i k + 1 / 2 * ∑ j, d.act i j * d.wd j k
/-- The gradient at the normalised row. -/
def e (i : Fin 4352) (k : Fin 1024) : ℝ := d.dh i k * d.lg k
/-- The gradient at the norm's input. -/
def gz (i : Fin 4352) (k : Fin 1024) : ℝ := dz (d.z i) (d.e i) k
/-- The gradient of the gated unit's output. -/
def dy (i : Fin 4352) (k : Fin 1024) : ℝ := 1 / 2 * d.gz i k
/-- The gradient of the gated activation. -/
def da (i : Fin 4352) (j : Fin 2816) : ℝ := ∑ k, d.dy i k * d.wd j k
/-- The gradient of the gate's projection. -/
def dg (i : Fin 4352) (j : Fin 2816) : ℝ := dgate (d.da i j) (d.g i j) (d.u i j)
/-- The gradient of the up projection. -/
def du (i : Fin 4352) (j : Fin 2816) : ℝ := d.da i j * (d.g i j * sg (d.g i j))
/-- The gradient of the input. -/
def dx (i : Fin 4352) (k : Fin 1024) : ℝ := alpha * d.gz i k + ∑ j, d.dg i j * d.wg k j + ∑ j, d.du i j * d.wu k j
/-- The gain's gradient. -/
def dlg (k : Fin 1024) : ℝ := ∑ i, d.dh i k * xh (d.z i) k
/-- The bias's gradient. -/
def dlb (k : Fin 1024) : ℝ := ∑ i, d.dh i k

end Data

end Cert.Row

end
-- ==== Proof.BlockValue.lean ====
/- What one block of 256 rows computes over the reals: each value the kernel stores at a grid point, read at an index, is the half step's real
   function at that block's row. -/
module

public import proofs.«01_k».proof.Proof.HalfStep
public import proofs.«01_k».proof.Proof.Blocks

@[expose] public section

set_option maxRecDepth 16384

noncomputable section

namespace Cert.KernelIdeal.Ffn

open Idealize.ShloMosaic KernelIdeal.Gen Cert.Row

variable {dh z : Vec Ideal S256x1024 .f32} {g u : Vec Ideal S256x2816 .f32} {lg : Vec Ideal S1x1024 .f32} {wg wu wd : Vec Ideal S2816x1024 .bf16}
  {d : Data} {ρ : Fin 256 → Fin 4352}

section norm

variable (hz : ∀ a k, z (ix2 a k) = ((d.z (ρ a) k : ℝ) : EReal))
include hz

theorem pay9_at (a : Fin 256) (k : Fin 1024) : k0_pay9 z (ix2 a k) = ((xc (d.z (ρ a)) k : ℝ) : EReal) := by
  pointwise [k0_pay9, hz]
  simp only [bits_1024, zero_add, ← coe_sum, coe_div _ _ (by norm_num : (1024 : ℝ) ≠ 0), ← EReal.coe_sub]; rfl

theorem pay10_at (a : Fin 256) : k0_pay10 z (ix2 a (0 : Fin 1)) = ((rs (d.z (ρ a)) : ℝ) : EReal) := by
  have h := pay9_at hz
  pointwise [k0_pay10, h]
  simp only [bits_1024, bits_eps, zero_add, ← EReal.coe_mul, ← coe_sum, coe_div _ _ (by norm_num : (1024 : ℝ) ≠ 0), ← EReal.coe_add]
  exact coe_rs _

theorem pay11_at (a : Fin 256) (k : Fin 1024) : k0_pay11 z (ix2 a k) = ((xh (d.z (ρ a)) k : ℝ) : EReal) := by
  have h := pay9_at hz; have h2 := pay10_at hz
  pointwise [k0_pay11, h, h2]
  simp only [← EReal.coe_mul]; rfl

end norm

section gain

variable (hdh : ∀ a k, dh (ix2 a k) = ((d.dh (ρ a) k : ℝ) : EReal)) (hlg : ∀ k, lg (ix2 (0 : Fin 1) k) = ((d.lg k : ℝ) : EReal))
include hdh hlg

theorem pay12_at (a : Fin 256) (k : Fin 1024) : k0_pay12 dh lg (ix2 a k) = ((d.e (ρ a) k : ℝ) : EReal) := by
  pointwise [k0_pay12, hdh, hlg]
  simp only [← EReal.coe_mul]; rfl

theorem pay14_at (a : Fin 256) (k : Fin 1024) : k0_pay14 dh lg (ix2 a k) = ((mu (d.e (ρ a)) : ℝ) : EReal) := by
  have h := pay12_at hdh hlg
  pointwise [k0_pay14, h]
  simp only [bits_1024, zero_add, ← coe_sum, coe_div _ _ (by norm_num : (1024 : ℝ) ≠ 0)]; rfl

variable (hz : ∀ a k, z (ix2 a k) = ((d.z (ρ a) k : ℝ) : EReal))
include hz

theorem pay13_at (a : Fin 256) :
    k0_pay13 dh z lg (ix2 a (0 : Fin 1)) = ((mu (fun l => d.e (ρ a) l * xh (d.z (ρ a)) l) : ℝ) : EReal) := by
  have h := pay12_at hdh hlg; have h2 := pay11_at hz
  pointwise [k0_pay13, h, h2]
  simp only [bits_1024, zero_add, ← EReal.coe_mul, ← coe_sum, coe_div _ _ (by norm_num : (1024 : ℝ) ≠ 0)]; rfl

theorem pay15_at (a : Fin 256) (k : Fin 1024) :
    k0_pay15 (k0_pay10 z) (k0_pay11 z) (k0_pay12 dh lg) (k0_pay13 dh z lg) (k0_pay14 dh lg) (ix2 a k) = ((d.gz (ρ a) k : ℝ) : EReal) := by
  have h := pay10_at hz; have h2 := pay11_at hz; have h3 := pay12_at hdh hlg; have h4 := pay13_at hdh hlg hz; have h5 := pay14_at hdh hlg
  pointwise [k0_pay15, h, h2, h3, h4, h5]
  simp only [← EReal.coe_mul, ← EReal.coe_sub]; rfl

theorem bDy_at (a : Fin 256) (k : Fin 1024) : bDy dh z lg (ix2 a k) = ((d.dy (ρ a) k : ℝ) : EReal) := by
  have h := pay15_at hdh hlg hz
  pointwise [bDy, k0_pay18, h]
  simp only [bits_half, ← EReal.coe_mul]; rfl

theorem pay19_at (a : Fin 256) (k : Fin 1024) :
    k0_pay19 (k0_pay10 z) (k0_pay11 z) (k0_pay12 dh lg) (k0_pay13 dh z lg) (k0_pay14 dh lg) (ix2 a k) = ((alpha * d.gz (ρ a) k : ℝ) : EReal) := by
  have h := pay15_at hdh hlg hz
  pointwise [k0_pay19, h]
  simp only [bits_alpha, ← EReal.coe_mul]

variable (hwd : ∀ j k, wd (ix2 j k) = ((d.wd j k : ℝ) : EReal))
include hwd

theorem bDa_at (a : Fin 256) (j : Fin 2816) : bDa dh z lg wd (ix2 a j) = ((d.da (ρ a) j : ℝ) : EReal) := by
  have h : ∀ a k, k0_pay18 (k0_pay10 z) (k0_pay11 z) (k0_pay12 dh lg) (k0_pay13 dh z lg) (k0_pay14 dh lg) (ix2 a k) = _ := bDy_at hdh hlg hz
  pointwise [bDa, k0_pay20, h, hwd]
  simp only [zero_add, ← EReal.coe_mul, ← coe_sum]; rfl

end gain

section gate

variable (hg : ∀ a j, g (ix2 a j) = ((d.g (ρ a) j : ℝ) : EReal))
include hg

theorem gate_at (a : Fin 256) (j : Fin 2816) : k0_pay1 (k0_pay23 g) (1 : EReal) (ix2 a j) = ((sg (d.g (ρ a) j) : ℝ) : EReal) := by
  pointwise [k0_pay1, k0_pay23, k0_pay21, hg]
  rw [← coe_sg]
  simp only [zero_sub]

theorem silu_at (a : Fin 256) (j : Fin 2816) :
    k0_pay2 (k0_pay21 g) (k0_pay23 g) (1 : EReal) (ix2 a j) = ((d.g (ρ a) j * sg (d.g (ρ a) j) : ℝ) : EReal) := by
  have h := gate_at hg
  pointwise [k0_pay2, k0_pay21, hg, h]
  simp only [← EReal.coe_mul]

variable (hu : ∀ a j, u (ix2 a j) = ((d.u (ρ a) j : ℝ) : EReal))
include hu

theorem bAct_at (a : Fin 256) (j : Fin 2816) : bAct g u (ix2 a j) = ((d.act (ρ a) j : ℝ) : EReal) := by
  have h := silu_at hg
  pointwise [bAct, k0_pay5, k0_pay22, hu, h]
  simp only [← EReal.coe_mul]; rfl

end gate

section all

variable (hdh : ∀ a k, dh (ix2 a k) = ((d.dh (ρ a) k : ℝ) : EReal)) (hz : ∀ a k, z (ix2 a k) = ((d.z (ρ a) k : ℝ) : EReal))
  (hg : ∀ a j, g (ix2 a j) = ((d.g (ρ a) j : ℝ) : EReal)) (hu : ∀ a j, u (ix2 a j) = ((d.u (ρ a) j : ℝ) : EReal))
  (hlg : ∀ k, lg (ix2 (0 : Fin 1) k) = ((d.lg k : ℝ) : EReal)) (hwd : ∀ j k, wd (ix2 j k) = ((d.wd j k : ℝ) : EReal))

include hdh hz hg hlg hwd in
theorem bDu_at (a : Fin 256) (j : Fin 2816) : bDu dh z g lg wd (ix2 a j) = ((d.du (ρ a) j : ℝ) : EReal) := by
  have h := silu_at hg; have h2 := bDa_at hdh hlg hz hwd
  pointwise [bDu, k0_pay4, h, h2]
  simp only [← EReal.coe_mul]; rfl

include hdh hz hg hu hlg hwd in
theorem bDg_at (a : Fin 256) (j : Fin 2816) : bDg dh z g u lg wd (ix2 a j) = ((d.dg (ρ a) j : ℝ) : EReal) := by
  have h := gate_at hg; have h2 := bDa_at hdh hlg hz hwd
  pointwise [bDg, k0_pay3, k0_pay21, k0_pay22, hg, hu, h, h2]
  simp only [← EReal.coe_one, ← EReal.coe_add, ← EReal.coe_sub, ← EReal.coe_mul]; rfl

include hdh hz hg hu hlg hwd in
theorem bDx_at (hwg : ∀ j k, wg (ix2 j k) = ((d.wg k j : ℝ) : EReal)) (hwu : ∀ j k, wu (ix2 j k) = ((d.wu k j : ℝ) : EReal))
    (a : Fin 256) (k : Fin 1024) : bDx dh z g u lg wg wu wd (ix2 a k) = ((d.dx (ρ a) k : ℝ) : EReal) := by
  have h := pay19_at hdh hlg hz
  have h2 : ∀ a j, k0_pay3 (bDa dh z lg wd) (k0_pay21 g) (k0_pay22 u) (k0_pay23 g) (1 : EReal) (ix2 a j) = ((d.dg (ρ a) j : ℝ) : EReal) := by
    rw [← Ideal.ofBits_one_f32]; exact bDg_at hdh hz hg hu hlg hwd
  have h3 : ∀ a j, k0_pay4 (bDa dh z lg wd) (k0_pay21 g) (k0_pay23 g) (1 : EReal) (ix2 a j) = ((d.du (ρ a) j : ℝ) : EReal) := by
    rw [← Ideal.ofBits_one_f32]; exact bDu_at hdh hz hg hlg hwd
  pointwise [bDx, k0_pay6, h, h2, h3, hwg, hwu]
  simp only [zero_add, ← EReal.coe_mul, ← coe_sum, ← EReal.coe_add]; rfl

end all

/-- The gain's gradient after one more block. -/
theorem bGam_at {s : Vec Ideal S1x1024 .f32} (hdh : ∀ a k, dh (ix2 a k) = ((d.dh (ρ a) k : ℝ) : EReal))
    (hz : ∀ a k, z (ix2 a k) = ((d.z (ρ a) k : ℝ) : EReal)) (k : Fin 1024) (x : ℝ) (hs : s (ix2 (0 : Fin 1) k) = (x : EReal)) :
    bGam dh z s (ix2 (0 : Fin 1) k) = ((x + ∑ a, d.dh (ρ a) k * xh (d.z (ρ a)) k : ℝ) : EReal) := by
  have h := pay11_at hz
  pointwise [bGam, k0_pay16, hdh, h, hs]
  simp only [zero_add, ← EReal.coe_mul, ← coe_sum, ← EReal.coe_add]

/-- The bias's gradient after one more block. -/
theorem bBet_at {s : Vec Ideal S1x1024 .f32} (hdh : ∀ a k, dh (ix2 a k) = ((d.dh (ρ a) k : ℝ) : EReal)) (k : Fin 1024) (x : ℝ)
    (hs : s (ix2 (0 : Fin 1) k) = (x : EReal)) :
    bBet dh s (ix2 (0 : Fin 1) k) = ((x + ∑ a, d.dh (ρ a) k : ℝ) : EReal) := by
  pointwise [bBet, k0_pay17, hdh, hs]
  simp only [zero_add, ← coe_sum, ← EReal.coe_add]

end Cert.KernelIdeal.Ffn

end
-- ==== Proof.Entry.lean ====
/- The arrays the kernel call reads, over the reals: the host operations before it compute the two projections and the norm's input, and pack the
   three weight matrices into eight shards of 352 rows each. -/
module

public import proofs.«01_k».proof.Proof.HalfStep
public import proofs.«01_k».proof.Proof.Frame
public import Idealize.ShloMosaic.Lib.Pipeline.ValueKit

@[expose] public section

set_option maxRecDepth 16384

noncomputable section

namespace Cert.KernelIdeal.Ffn

open Idealize.ShloMosaic Idealize.ShloMosaic.TcCoe Idealize.SL.Sem Cert.KernelIdeal KernelIdeal.Gen Cert.Row

variable (m : (ℓ : Loc nD τ sig) → Buf (Elt Ideal) ℓ) (c : Dev nD)

/-- The kernel's arguments are the reals of `d`. -/
structure Reads (d : Data) : Prop where
  h : ∀ i k, (m (c.tc.loc main_arg0) : FVec Ideal S4352x1024 .f32) (ix2 i k) = ((d.h i k : ℝ) : EReal)
  wg : ∀ i k, (m (c.tc.loc main_arg1) : FVec Ideal S1024x2816 .f32) (ix2 i k) = ((d.wg i k : ℝ) : EReal)
  wu : ∀ i k, (m (c.tc.loc main_arg2) : FVec Ideal S1024x2816 .f32) (ix2 i k) = ((d.wu i k : ℝ) : EReal)
  wd : ∀ i k, (m (c.tc.loc main_arg3) : FVec Ideal S2816x1024 .f32) (ix2 i k) = ((d.wd i k : ℝ) : EReal)
  lg : ∀ k, (m (c.tc.loc main_arg4) : FVec Ideal S1x1024 .f32) (ix2 (0 : Fin 1) k) = ((d.lg k : ℝ) : EReal)
  dh : ∀ i k, (m (c.tc.loc main_arg6) : FVec Ideal S4352x1024 .f32) (ix2 i k) = ((d.dh i k : ℝ) : EReal)

variable {m c} {d : Data} (R : Reads m c d)
include R

theorem v0_at (i : Fin 4352) (j : Fin 2816) : (V m c main_v0 : FVec Ideal S4352x2816 .f32) (ix2 i j) = ((d.g i j : ℝ) : EReal) := by
  simp only [V, hostOps0, hostOps0_1, hostOps0_2, List.flatten_cons, List.flatten_nil, List.append_nil, List.cons_append, List.nil_append]
  after_results_simp
  have h := R.h; have w := R.wg
  pointwise [h, w]
  simp only [add_zero, ← EReal.coe_mul, ← coe_sum]; rfl

theorem v1_at (i : Fin 4352) (j : Fin 2816) : (V m c main_v1 : FVec Ideal S4352x2816 .f32) (ix2 i j) = ((d.u i j : ℝ) : EReal) := by
  simp only [V, hostOps0, hostOps0_1, hostOps0_2, List.flatten_cons, List.flatten_nil, List.append_nil, List.cons_append, List.nil_append]
  after_results_simp
  have h := R.h; have w := R.wu
  pointwise [h, w]
  simp only [add_zero, ← EReal.coe_mul, ← coe_sum]; rfl

theorem v9_at (i : Fin 4352) (k : Fin 1024) : (V m c main_v9 : FVec Ideal S4352x1024 .f32) (ix2 i k) = ((d.z i k : ℝ) : EReal) := by
  simp only [V, hostOps0, hostOps0_1, hostOps0_2, List.flatten_cons, List.flatten_nil, List.append_nil, List.cons_append, List.nil_append]
  after_results_simp
  simp only [StableHlo.TRef.ofBuf, StableHlo.TRef.toBuf, cast_eq]
  have h := R.h; have w := R.wg; have w2 := R.wu; have w3 := R.wd
  pointwise [h, w, w2, w3]
  simp only [bits_alpha, bits_half, add_zero, ← EReal.coe_mul, ← coe_sum, coe_sg, ← EReal.coe_add]; rfl

omit R in
theorem v18_eq : V m c main_v18 = (concatenate S8x1056x1024 1
    [⟨S8x352x1024, shapeCast S8x352x1024 (transpose S2816x1024 [1, 0] (m (c.tc.loc main_arg1) : FVec Ideal S1024x2816 .f32) transposes_S1024x2816_S2816x1024_1_0) shapeCasts_S2816x1024_S8x352x1024⟩,
     ⟨S8x352x1024, shapeCast S8x352x1024 (transpose S2816x1024 [1, 0] (m (c.tc.loc main_arg2) : FVec Ideal S1024x2816 .f32) transposes_S1024x2816_S2816x1024_1_0) shapeCasts_S2816x1024_S8x352x1024⟩,
     ⟨S8x352x1024, shapeCast S8x352x1024 (m (c.tc.loc main_arg3) : FVec Ideal S2816x1024 .f32) shapeCasts_S2816x1024_S8x352x1024⟩]
    concatenates_S8x352x1024_S8x352x1024_S8x352x1024_S8x1056x1024_d1 : FVec Ideal S8x1056x1024 .bf16) := by
  funext y
  simp only [V, hostOps0, hostOps0_1, hostOps0_2, List.flatten_cons, List.flatten_nil, List.append_nil, List.cons_append, List.nil_append]
  after_results_simp
  dsimp only [Matrix.cons_val]
  after_results_simp
  rfl

omit R in
theorem cat_at (x₁ x₂ x₃ : FVec Ideal S8x352x1024 .bf16) (i : Fin 8) (j : Fin 1056) (k : Fin 1024) :
    (concatenate S8x1056x1024 1 [⟨S8x352x1024, x₁⟩, ⟨S8x352x1024, x₂⟩, ⟨S8x352x1024, x₃⟩]
      concatenates_S8x352x1024_S8x352x1024_S8x352x1024_S8x1056x1024_d1 : FVec Ideal S8x1056x1024 .bf16) (ix3 i j k) =
    if h : j.val < 352 then x₁ (ix3 i ⟨j.val, h⟩ k) else if h2 : j.val - 352 < 352 then x₂ (ix3 i ⟨j.val - 352, h2⟩ k)
      else x₃ (ix3 i ⟨j.val - 352 - 352, by omega⟩ k) := by
  pointwise []

omit R in
theorem fold_at (x : FVec Ideal S2816x1024 .f32) (i : Fin 8) (j : Fin 352) (k : Fin 1024) :
    (shapeCast S8x352x1024 x shapeCasts_S2816x1024_S8x352x1024 : FVec Ideal S8x352x1024 .f32) (ix3 i j k) =
    x (ix2 (⟨i.val * 352 + j.val, by omega⟩ : Fin 2816) k) := by
  pointwise []

omit R in
theorem turn_at (x : FVec Ideal S1024x2816 .f32) (i : Fin 2816) (k : Fin 1024) :
    (transpose S2816x1024 [1, 0] x transposes_S1024x2816_S2816x1024_1_0 : FVec Ideal S2816x1024 .f32) (ix2 i k) = x (ix2 k i) := by
  pointwise []

theorem wGate_at (j : Fin 2816) (k : Fin 1024) : wGate m c (ix2 j k) = ((d.wg k j : ℝ) : EReal) := by
  have hj := Nat.mod_lt j.val (by decide : 0 < 352)
  rw [wGate, v18_eq]
  refine (cat_at _ _ _ (⟨j.val / 352, by omega⟩ : Fin 8) (⟨0 + j.val % 352, by omega⟩ : Fin 1056) k).trans ?_
  refine (dif_pos (show 0 + j.val % 352 < 352 by omega)).trans ?_
  refine (fold_at _ _ _ _).trans ?_
  refine Eq.trans ?_ (R.wg k j)
  refine (turn_at _ _ _).trans ?_
  congr 2; apply Fin.ext; simp only; omega

theorem wUp_at (j : Fin 2816) (k : Fin 1024) : wUp m c (ix2 j k) = ((d.wu k j : ℝ) : EReal) := by
  have hj := Nat.mod_lt j.val (by decide : 0 < 352)
  rw [wUp, v18_eq]
  refine (cat_at _ _ _ (⟨j.val / 352, by omega⟩ : Fin 8) (⟨352 + j.val % 352, by omega⟩ : Fin 1056) k).trans ?_
  refine (dif_neg (show ¬ 352 + j.val % 352 < 352 by omega)).trans ?_
  refine (dif_pos (show 352 + j.val % 352 - 352 < 352 by omega)).trans ?_
  refine (fold_at _ _ _ _).trans ?_
  refine Eq.trans ?_ (R.wu k j)
  refine (turn_at _ _ _).trans ?_
  congr 2; apply Fin.ext; simp only; omega

theorem wDown_at (j : Fin 2816) (k : Fin 1024) : wDown m c (ix2 j k) = ((d.wd j k : ℝ) : EReal) := by
  have hj := Nat.mod_lt j.val (by decide : 0 < 352)
  rw [wDown, v18_eq]
  refine (cat_at _ _ _ (⟨j.val / 352, by omega⟩ : Fin 8) (⟨704 + j.val % 352, by omega⟩ : Fin 1056) k).trans ?_
  refine (dif_neg (show ¬ 704 + j.val % 352 < 352 by omega)).trans ?_
  refine (dif_neg (show ¬ 704 + j.val % 352 - 352 < 352 by omega)).trans ?_
  refine (fold_at _ _ _ _).trans ?_
  refine Eq.trans ?_ (R.wd j k)
  congr 2; apply Fin.ext; simp only; omega

end Cert.KernelIdeal.Ffn

end
-- ==== Proof.KernelValue.lean ====
/- The kernel's seven result arrays over the reals: what every grid point reads and stores is the half step's gradient at that point's rows, and the
   blocks tile the arrays; the gain's and the bias's gradients accumulate over the points. -/
module

public import proofs.«01_k».proof.Proof.BlockValue
public import proofs.«01_k».proof.Proof.Entry

@[expose] public section

set_option maxRecDepth 16384

noncomputable section

namespace Cert.KernelIdeal.Ffn

open Idealize.ShloMosaic Idealize.ShloMosaic.TcCoe Idealize.SL.Sem Cert.KernelIdeal KernelIdeal.Gen Cert.Row
open Idealize.ShloMosaic.Pipeline (Dat)

/-- The block of every window at a point: rows by the point, or the whole row. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0] ∧ win0_11.index t = ![0, 0] ∧ t.val < 17 :=
  (by decide +kernel : ∀ t : Fin grid0.N, _)

/-- The array's row at row `a` of the block of point `t`. -/
def row (t : Fin cfg0.N) (a : Fin 256) : Fin 4352 := ⟨t.val * 256 + a.val, by have := (idx t).2.2.2.2.2.2.2.2.2.2.2.2; omega⟩

variable {m : (ℓ : Loc nD τ sig) → Buf (Elt Ideal) ℓ} {c : Dev nD} {d : Data} (R : Reads m c d)
include R

theorem dh_at (t : Fin cfg0.N) (a : Fin 256) (k : Fin 1024) :
    (iblk m c 0 t : Vec Ideal S256x1024 .f32) (ix2 a k) = ((d.dh (row t a) k : ℝ) : EReal) := by
  refine Eq.trans ?_ (R.dh (row t a) k)
  blk_ext [iblk, V_main_arg6, idx t, row]

theorem z_at (t : Fin cfg0.N) (a : Fin 256) (k : Fin 1024) :
    (iblk m c 1 t : Vec Ideal S256x1024 .f32) (ix2 a k) = ((d.z (row t a) k : ℝ) : EReal) := by
  refine Eq.trans ?_ (v9_at R (row t a) k)
  blk_ext [iblk, idx t, row]

theorem g_at (t : Fin cfg0.N) (a : Fin 256) (k : Fin 2816) :
    (iblk m c 2 t : Vec Ideal S256x2816 .f32) (ix2 a k) = ((d.g (row t a) k : ℝ) : EReal) := by
  refine Eq.trans ?_ (v0_at R (row t a) k)
  blk_ext [iblk, idx t, row]

theorem u_at (t : Fin cfg0.N) (a : Fin 256) (k : Fin 2816) :
    (iblk m c 3 t : Vec Ideal S256x2816 .f32) (ix2 a k) = ((d.u (row t a) k : ℝ) : EReal) := by
  refine Eq.trans ?_ (v1_at R (row t a) k)
  blk_ext [iblk, idx t, row]

theorem lg_at (t : Fin cfg0.N) (k : Fin 1024) :
    (iblk m c 4 t : Vec Ideal S1x1024 .f32) (ix2 (0 : Fin 1) k) = ((d.lg k : ℝ) : EReal) := by
  refine Eq.trans ?_ (R.lg k)
  blk_ext [iblk, V_main_arg4, idx t, row]

/-- The gradient of the input. -/
theorem dx_eq : (dats m 0 c).arrAt 5 (cfgs 0).N = (fun y => ((d.dx (y 0) (y 1) : ℝ) : EReal) : FVec Ideal S4352x1024 .f32) := by
  refine (dats m 0 c).arrAt_eq_of_covers 5 _ (by decide +kernel) fun t hf y => ?_
  blk_simp
  rw [after_5]
  have hy : (y : S256x1024.Idx) = ix2 (y 0) (y 1) := by blk_ext
  have e0 : (win0_5.blk t).view.emb y 0 = row t (y 0) := by apply Fin.ext; blk_simp [idx t, row]
  have e1 : (win0_5.blk t).view.emb y 1 = y 1 := by apply Fin.ext; blk_simp [idx t]
  refine (congrArg _ hy).trans ((bDx_at (dh_at R t) (z_at R t) (g_at R t) (u_at R t) (lg_at R t) (wDown_at R) (wGate_at R) (wUp_at R) (y 0) (y 1)).trans ?_)
  rw [e0, e1]

/-- The gradient of the gate's projection. -/
theorem dg_eq : (dats m 0 c).arrAt 6 (cfgs 0).N = (fun y => ((d.dg (y 0) (y 1) : ℝ) : EReal) : FVec Ideal S4352x2816 .bf16) := by
  refine (dats m 0 c).arrAt_eq_of_covers 6 _ (by decide +kernel) fun t hf y => ?_
  blk_simp
  rw [after_6]
  have hy : (y : S256x2816.Idx) = ix2 (y 0) (y 1) := by blk_ext
  have e0 : (win0_6.blk t).view.emb y 0 = row t (y 0) := by apply Fin.ext; blk_simp [idx t, row]
  have e1 : (win0_6.blk t).view.emb y 1 = y 1 := by apply Fin.ext; blk_simp [idx t]
  refine (congrArg _ hy).trans ((bDg_at (dh_at R t) (z_at R t) (g_at R t) (u_at R t) (lg_at R t) (wDown_at R) (y 0) (y 1)).trans ?_)
  rw [e0, e1]

/-- The gradient of the up projection. -/
theorem du_eq : (dats m 0 c).arrAt 7 (cfgs 0).N = (fun y => ((d.du (y 0) (y 1) : ℝ) : EReal) : FVec Ideal S4352x2816 .bf16) := by
  refine (dats m 0 c).arrAt_eq_of_covers 7 _ (by decide +kernel) fun t hf y => ?_
  blk_simp
  rw [after_7]
  have hy : (y : S256x2816.Idx) = ix2 (y 0) (y 1) := by blk_ext
  have e0 : (win0_7.blk t).view.emb y 0 = row t (y 0) := by apply Fin.ext; blk_simp [idx t, row]
  have e1 : (win0_7.blk t).view.emb y 1 = y 1 := by apply Fin.ext; blk_simp [idx t]
  refine (congrArg _ hy).trans ((bDu_at (dh_at R t) (z_at R t) (g_at R t) (lg_at R t) (wDown_at R) (y 0) (y 1)).trans ?_)
  rw [e0, e1]

/-- The gated activation. -/
theorem act_eq : (dats m 0 c).arrAt 8 (cfgs 0).N = (fun y => ((d.act (y 0) (y 1) : ℝ) : EReal) : FVec Ideal S4352x2816 .bf16) := by
  refine (dats m 0 c).arrAt_eq_of_covers 8 _ (by decide +kernel) fun t hf y => ?_
  blk_simp
  rw [after_8]
  have hy : (y : S256x2816.Idx) = ix2 (y 0) (y 1) := by blk_ext
  have e0 : (win0_8.blk t).view.emb y 0 = row t (y 0) := by apply Fin.ext; blk_simp [idx t, row]
  have e1 : (win0_8.blk t).view.emb y 1 = y 1 := by apply Fin.ext; blk_simp [idx t]
  refine (congrArg _ hy).trans ((bAct_at (g_at R t) (u_at R t) (y 0) (y 1)).trans ?_)
  rw [e0, e1]

/-- The gradient of the gated unit's output. -/
theorem dy_eq : (dats m 0 c).arrAt 9 (cfgs 0).N = (fun y => ((d.dy (y 0) (y 1) : ℝ) : EReal) : FVec Ideal S4352x1024 .bf16) := by
  refine (dats m 0 c).arrAt_eq_of_covers 9 _ (by decide +kernel) fun t hf y => ?_
  blk_simp
  rw [after_9]
  have hy : (y : S256x1024.Idx) = ix2 (y 0) (y 1) := by blk_ext
  have e0 : (win0_9.blk t).view.emb y 0 = row t (y 0) := by apply Fin.ext; blk_simp [idx t, row]
  have e1 : (win0_9.blk t).view.emb y 1 = y 1 := by apply Fin.ext; blk_simp [idx t]
  refine (congrArg _ hy).trans ((bDy_at (dh_at R t) (lg_at R t) (z_at R t) (y 0) (y 1)).trans ?_)
  rw [e0, e1]

omit R in
/-- The rows of point `n` of a column summed, nothing past the last point. -/
def part (f : Fin 4352 → ℝ) (n : ℕ) : ℝ := if h : n < 17 then ∑ a : Fin 256, f ⟨n * 256 + a.val, by omega⟩ else 0

omit R in
theorem part_at (f : Fin 4352 → ℝ) (t : Fin cfg0.N) : part f t.val = ∑ a : Fin 256, f (row t a) :=
  dif_pos (idx t).2.2.2.2.2.2.2.2.2.2.2.2

omit R in
theorem part_all (f : Fin 4352 → ℝ) : ∑ n ∈ Finset.range 17, part f n = ∑ i, f i := by
  rw [Finset.sum_range, Fin.sum_univ_tiles 17 256 rfl f]
  exact Finset.sum_congr rfl fun t _ => dif_pos t.isLt

theorem gamAt_at (k : Fin 1024) : ∀ (n : ℕ) (h : n < cfg0.N), (gamAt m c n h : Vec Ideal S1x1024 .f32) (ix2 (0 : Fin 1) k) =
    ((∑ s ∈ Finset.range (n + 1), part (fun i => d.dh i k * xh (d.z i) k) s : ℝ) : EReal)
  | 0, h => by
    have z : (k0_pay7 (F := Ideal)) (ix2 (0 : Fin 1) k) = ((0 : ℝ) : EReal) := by pointwise [k0_pay7]; rfl
    have e := part_at (fun i => d.dh i k * xh (d.z i) k) ⟨0, h⟩
    rw [Finset.sum_range_succ, Finset.sum_range_zero, show part (fun i => d.dh i k * xh (d.z i) k) 0 = _ from e]
    exact bGam_at (dh_at R _) (z_at R _) k 0 z
  | n + 1, h => by
    have e := part_at (fun i => d.dh i k * xh (d.z i) k) ⟨n + 1, h⟩
    rw [Finset.sum_range_succ, show part (fun i => d.dh i k * xh (d.z i) k) (n + 1) = _ from e]
    exact bGam_at (dh_at R _) (z_at R _) k _ (gamAt_at k n (Nat.lt_of_succ_lt h))

theorem betAt_at (k : Fin 1024) : ∀ (n : ℕ) (h : n < cfg0.N), (betAt m c n h : Vec Ideal S1x1024 .f32) (ix2 (0 : Fin 1) k) =
    ((∑ s ∈ Finset.range (n + 1), part (fun i => d.dh i k) s : ℝ) : EReal)
  | 0, h => by
    have z : (k0_pay8 (F := Ideal)) (ix2 (0 : Fin 1) k) = ((0 : ℝ) : EReal) := by pointwise [k0_pay8]; rfl
    have e := part_at (fun i => d.dh i k) ⟨0, h⟩
    rw [Finset.sum_range_succ, Finset.sum_range_zero, show part (fun i => d.dh i k) 0 = _ from e]
    exact bBet_at (dh_at R _) k 0 z
  | n + 1, h => by
    have e := part_at (fun i => d.dh i k) ⟨n + 1, h⟩
    rw [Finset.sum_range_succ, show part (fun i => d.dh i k) (n + 1) = _ from e]
    exact bBet_at (dh_at R _) k _ (betAt_at k n (Nat.lt_of_succ_lt h))

omit R in
/-- The point at which the two accumulated rows are written back is the last. -/
theorem last_of_flush : ∀ t : Fin cfg0.N, (win0_10.flush t = true → t.val = 16) ∧ (win0_11.flush t = true → t.val = 16) :=
  (by decide +kernel : ∀ t : Fin grid0.N, _)

/-- The gain's gradient. -/
theorem dlg_eq : (dats m 0 c).arrAt 10 (cfgs 0).N = (fun y => ((d.dlg (y 1) : ℝ) : EReal) : FVec Ideal S1x1024 .f32) := by
  refine (dats m 0 c).arrAt_eq_of_covers 10 _ (by decide +kernel) fun t hf y => ?_
  have ht : t.val = 16 := (last_of_flush t).1 hf
  blk_simp
  rw [after_10]
  have hy : (y : S1x1024.Idx) = ix2 (0 : Fin 1) (y 1) := by blk_ext
  have e1 : (win0_10.blk t).view.emb y 1 = y 1 := by apply Fin.ext; blk_simp [idx t]
  refine (congrArg _ hy).trans ((gamAt_at R (y 1) t.val t.isLt).trans ?_)
  rw [e1, ht, part_all]; rfl

/-- The bias's gradient. -/
theorem dlb_eq : (dats m 0 c).arrAt 11 (cfgs 0).N = (fun y => ((d.dlb (y 1) : ℝ) : EReal) : FVec Ideal S1x1024 .f32) := by
  refine (dats m 0 c).arrAt_eq_of_covers 11 _ (by decide +kernel) fun t hf y => ?_
  have ht : t.val = 16 := (last_of_flush t).2 hf
  blk_simp
  rw [after_11]
  have hy : (y : S1x1024.Idx) = ix2 (0 : Fin 1) (y 1) := by blk_ext
  have e1 : (win0_11.blk t).view.emb y 1 = y 1 := by apply Fin.ext; blk_simp [idx t]
  refine (congrArg _ hy).trans ((betAt_at R (y 1) t.val t.isLt).trans ?_)
  rw [e1, ht, part_all]; rfl

end Cert.KernelIdeal.Ffn

end
-- ==== Proof.KernelRun.lean ====
/- The kernel's run over the reals: the seven result arrays end at the half step's gradient, the arguments as they began. -/
module

public import proofs.«01_k».proof.Proof.KernelValue

@[expose] public section

set_option maxRecDepth 16384

noncomputable section

namespace Cert.KernelIdeal.Ffn

open Idealize.ShloMosaic Idealize.ShloMosaic.TcCoe Idealize.SL.Sem Cert.KernelIdeal KernelIdeal.Gen Cert.Row

theorem value_run (m : (ℓ : Loc nD τ sig) → Buf (Elt Ideal) ℓ) (ρ : Dev nD → PrngReg) (d : Dev nD → Data) (R : ∀ c, Reads m c (d c)) :
    θ_run defs (onTc (τ := τ) (main (F := Ideal))) ⟨m, fun _ => 0, ρ⟩ (fun r => ∀ c : Dev nD,
      r.2.mem (c.tc.loc main_v19_0) = (fun y => (((d c).dx (y 0) (y 1) : ℝ) : EReal) : FVec Ideal S4352x1024 .f32)
      ∧ r.2.mem (c.tc.loc main_v19_1) = (fun y => (((d c).dg (y 0) (y 1) : ℝ) : EReal) : FVec Ideal S4352x2816 .bf16)
      ∧ r.2.mem (c.tc.loc main_v19_2) = (fun y => (((d c).du (y 0) (y 1) : ℝ) : EReal) : FVec Ideal S4352x2816 .bf16)
      ∧ r.2.mem (c.tc.loc main_v19_3) = (fun y => (((d c).act (y 0) (y 1) : ℝ) : EReal) : FVec Ideal S4352x2816 .bf16)
      ∧ r.2.mem (c.tc.loc main_v19_4) = (fun y => (((d c).dy (y 0) (y 1) : ℝ) : EReal) : FVec Ideal S4352x1024 .bf16)
      ∧ r.2.mem (c.tc.loc main_v19_5) = (fun y => (((d c).dlg (y 1) : ℝ) : EReal) : FVec Ideal S1x1024 .f32)
      ∧ r.2.mem (c.tc.loc main_v19_6) = (fun y => (((d c).dlb (y 1) : ℝ) : EReal) : FVec Ideal S1x1024 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run defs _ _).mono (fun r h c => ⟨((h.1.1 c).1 5).trans (dx_eq (R c)),
    ((h.1.1 c).1 6).trans (dg_eq (R c)),
    ((h.1.1 c).1 7).trans (du_eq (R c)),
    ((h.1.1 c).1 8).trans (act_eq (R c)),
    ((h.1.1 c).1 9).trans (dy_eq (R c)),
    ((h.1.1 c).1 10).trans (dlg_eq (R c)),
    ((h.1.1 c).1 11).trans (dlb_eq (R c)),
    h.2.1 c⟩) (θ_run_and (run_main (F := Ideal) m ρ) (frame_run m ρ))

end Cert.KernelIdeal.Ffn

end
-- ==== Proof.RefValue.lean ====
/- The reference's results over the reals: each named intermediate array of its run, read at an index, is the real function of the half step's
   gradient that it stands for. -/
module

public import proofs.«01_k».proof.Proof.HalfStep
public import proofs.«01_k».proof.Proof.Gen.ReferenceIdeal.Run

@[expose] public section

set_option maxRecDepth 16384

noncomputable section

namespace Cert.ReferenceIdeal.Half

open Idealize.ShloMosaic Idealize.SL.Sem Cert.ReferenceIdeal ReferenceIdeal.Value Cert.Row

/-- The run's arguments are the reals of `d`. -/
structure Reads (d : Data) (V0 : Valuation τ sig (Elt Ideal)) : Prop where
  h : ∀ i k, (V0 (Proc.devRef .tc main_arg0) : FVec Ideal S4352x1024 .f32) (ix2 i k) = ((d.h i k : ℝ) : EReal)
  wg : ∀ i k, (V0 (Proc.devRef .tc main_arg1) : FVec Ideal S1024x2816 .f32) (ix2 i k) = ((d.wg i k : ℝ) : EReal)
  wu : ∀ i k, (V0 (Proc.devRef .tc main_arg2) : FVec Ideal S1024x2816 .f32) (ix2 i k) = ((d.wu i k : ℝ) : EReal)
  wd : ∀ i k, (V0 (Proc.devRef .tc main_arg3) : FVec Ideal S2816x1024 .f32) (ix2 i k) = ((d.wd i k : ℝ) : EReal)
  lg : ∀ k, (V0 (Proc.devRef .tc main_arg4) : FVec Ideal S1x1024 .f32) (ix2 (0 : Fin 1) k) = ((d.lg k : ℝ) : EReal)
  dh : ∀ i k, (V0 (Proc.devRef .tc main_arg6) : FVec Ideal S4352x1024 .f32) (ix2 i k) = ((d.dh i k : ℝ) : EReal)

variable {d : Data} {V0 : Valuation τ sig (Elt Ideal)} (R : Reads d V0)
include R

theorem v3_at (i : Fin 4352) (j : Fin 2816) : (res_main_v3 V0 : FVec Ideal S4352x2816 .f32) (ix2 i j) = ((d.g i j : ℝ) : EReal) := by
  have h := R.h; have w := R.wg
  pointwise [res_main_v3, res_main_v0, h, w]
  simp only [add_zero, ← EReal.coe_mul, ← coe_sum]; rfl

theorem v5_at (i : Fin 4352) (j : Fin 2816) : (res_main_v5 V0 : FVec Ideal S4352x2816 .f32) (ix2 i j) = ((d.u i j : ℝ) : EReal) := by
  have h := R.h; have w := R.wu
  pointwise [res_main_v5, res_main_v0, h, w]
  simp only [add_zero, ← EReal.coe_mul, ← coe_sum]; rfl

theorem v6_2_at (i : Fin 4352) (j : Fin 2816) : (res_main_v6_2 V0 : FVec Ideal S4352x2816 .f32) (ix2 i j) = ((sg (d.g i j) : ℝ) : EReal) := by
  have h := v3_at R
  pointwise [res_main_v6_2, h]
  exact coe_sg _

theorem v6_0_at (i : Fin 4352) (j : Fin 2816) :
    (res_main_v6_0 V0 : FVec Ideal S4352x2816 .f32) (ix2 i j) = ((d.g i j * sg (d.g i j) : ℝ) : EReal) := by
  have h := v3_at R; have h2 := v6_2_at R
  pointwise [res_main_v6_0, h, h2]
  simp only [← EReal.coe_mul]

theorem v14_at (i : Fin 4352) (k : Fin 1024) : (res_main_v14 V0 : FVec Ideal S4352x1024 .f32) (ix2 i k) = ((d.z i k : ℝ) : EReal) := by
  have h := R.h; have w := R.wd; have a := v6_0_at R; have b := v5_at R
  pointwise [res_main_v14, h, w, a, b]
  simp only [bits_alpha, bits_half, add_zero, ← EReal.coe_mul, ← coe_sum, ← EReal.coe_add]; rfl

theorem v18_at (i : Fin 4352) : (res_main_v18 V0 : FVec Ideal S4352x1 .f32) (ix2 i (0 : Fin 1)) = ((mu (d.z i) : ℝ) : EReal) := by
  have h := v14_at R
  pointwise [res_main_v18, h]
  simp only [bits_1024, zero_add, ← coe_sum]
  exact coe_div _ _ (by norm_num)

theorem v20_at (i : Fin 4352) (k : Fin 1024) : (res_main_v20 V0 : FVec Ideal S4352x1024 .f32) (ix2 i k) = ((xc (d.z i) k : ℝ) : EReal) := by
  have h := v14_at R; have h2 := v18_at R
  pointwise [res_main_v20, h, h2]
  simp only [← EReal.coe_sub]; rfl

theorem v29_at (i : Fin 4352) (k : Fin 1024) : (res_main_v29 V0 : FVec Ideal S4352x1024 .f32) (ix2 i k) = ((xc (d.z i) k : ℝ) : EReal) :=
  v20_at R i k

theorem v31_at (i : Fin 4352) : (res_main_v31 V0 : FVec Ideal S4352x1 .f32) (ix2 i (0 : Fin 1)) = ((sv (d.z i) : ℝ) : EReal) := by
  have h := v20_at R
  pointwise [res_main_v31, h]
  simp only [bits_1024, bits_eps, zero_add, ← EReal.coe_mul, ← coe_sum]
  rw [coe_div _ _ (by norm_num), ← EReal.coe_add]; rfl

theorem v32_at (i : Fin 4352) : (res_main_v32 V0 : FVec Ideal S4352x1 .f32) (ix2 i (0 : Fin 1)) = ((rs (d.z i) : ℝ) : EReal) := by
  have h := v31_at R
  pointwise [res_main_v32, h]
  exact coe_rs _

theorem v37_at (i : Fin 4352) (k : Fin 1024) : (res_main_v37 V0 : FVec Ideal S4352x1024 .f32) (ix2 i k) = ((xh (d.z i) k : ℝ) : EReal) := by
  have h := v29_at R; have h2 := v32_at R
  pointwise [res_main_v37, h, h2]
  simp only [← EReal.coe_mul]; rfl

theorem v42_at (i : Fin 4352) (k : Fin 1024) : (res_main_v42 V0 : FVec Ideal S4352x1024 .f32) (ix2 i k) = ((d.dh i k : ℝ) : EReal) := by
  have h := R.dh
  pointwise [res_main_v42, h]

theorem v49_at (i : Fin 4352) (k : Fin 1024) : (res_main_v49 V0 : FVec Ideal S4352x1024 .f32) (ix2 i k) = ((d.e i k : ℝ) : EReal) := by
  have h := v42_at R; have h2 := R.lg
  pointwise [res_main_v49, h, h2]
  simp only [← EReal.coe_mul]; rfl

theorem v54_at (i : Fin 4352) (k : Fin 1024) :
    (res_main_v54 V0 : FVec Ideal S4352x1024 .f32) (ix2 i k) = ((d.e i k * rs (d.z i) : ℝ) : EReal) := by
  have h := v49_at R; have h2 := v32_at R
  pointwise [res_main_v54, h, h2]
  simp only [← EReal.coe_mul]

theorem v63_at (i : Fin 4352) (k : Fin 1024) :
    (res_main_v63 V0 : FVec Ideal S4352x1024 .f32) (ix2 i k) = ((cq (d.z i) (d.e i) * (2 * xc (d.z i) k) : ℝ) : EReal) := by
  have h := v49_at R; have h2 := v32_at R; have h3 := v31_at R; have h4 := v29_at R; have h5 := v20_at R
  pointwise [res_main_v63, h, h2, h3, h4, h5]
  simp only [Fin.sum_univ_one, Fin.isValue, h2, h3, bits_1024, bits_two, bits_neg_half, zero_add, ← EReal.coe_mul, ← coe_sum]
  rw [coe_div _ _ (sv_pos (d.z i)).ne', ← EReal.coe_mul, ← EReal.coe_mul, coe_div _ _ (by norm_num : (1024 : ℝ) ≠ 0), ← EReal.coe_mul]; rfl

theorem v73_at (i : Fin 4352) (k : Fin 1024) : (res_main_v73 V0 : FVec Ideal S4352x1024 .f32) (ix2 i k) = ((d.gz i k : ℝ) : EReal) := by
  have h := v54_at R; have h2 := v63_at R
  pointwise [res_main_v73, h, h2]
  simp only [bits_1024, zero_add, ← EReal.coe_neg, ← EReal.coe_add, ← coe_sum, coe_div _ _ (by norm_num : (1024 : ℝ) ≠ 0)]
  simp only [Finset.univ_unique, Finset.sum_singleton]
  rw [dz_of_terms]; rfl

theorem v75_at (i : Fin 4352) (k : Fin 1024) : (res_main_v75 V0 : FVec Ideal S4352x1024 .f32) (ix2 i k) = ((d.dy i k : ℝ) : EReal) := by
  have h := v73_at R
  pointwise [res_main_v75, h]
  simp only [bits_half, ← EReal.coe_mul]; rfl

theorem v78_at (i : Fin 4352) (j : Fin 2816) : (res_main_v78 V0 : FVec Ideal S4352x2816 .f32) (ix2 i j) = ((d.da i j : ℝ) : EReal) := by
  have h := v75_at R; have h2 := R.wd
  pointwise [res_main_v78, h, h2]
  simp only [← EReal.coe_mul, ← coe_sum]; rfl

theorem v79_at (i : Fin 4352) (j : Fin 2816) : (res_main_v79 V0 : FVec Ideal S4352x2816 .f32) (ix2 i j) = ((d.du i j : ℝ) : EReal) := by
  have h := v6_0_at R; have h2 := v78_at R
  pointwise [res_main_v79, h, h2]
  simp only [← EReal.coe_mul]; rw [mul_comm]; rfl

theorem v80_at (i : Fin 4352) (j : Fin 2816) :
    (res_main_v80 V0 : FVec Ideal S4352x2816 .f32) (ix2 i j) = ((d.da i j * d.u i j : ℝ) : EReal) := by
  have h := v78_at R; have h2 := v5_at R
  pointwise [res_main_v80, h, h2]
  simp only [← EReal.coe_mul]

theorem v81_at (i : Fin 4352) (j : Fin 2816) : (res_main_v81 V0 : FVec Ideal S4352x2816 .f32) (ix2 i j) = ((d.dg i j : ℝ) : EReal) := by
  have h := v80_at R; have h2 := v6_2_at R; have h3 := v3_at R
  pointwise [res_main_v81, h, h2, h3]
  simp only [← EReal.coe_one, ← EReal.coe_sub, ← EReal.coe_mul, ← EReal.coe_add]
  rw [dgate_of_terms]; rfl

theorem v86_at (i : Fin 4352) (j : Fin 2816) : (res_main_v86 V0 : FVec Ideal S4352x2816 .f32) (ix2 i j) = ((d.g i j : ℝ) : EReal) := by
  have h := R.h; have w := R.wg
  pointwise [res_main_v86, h, w]
  simp only [← EReal.coe_mul, ← coe_sum]; rfl

end Cert.ReferenceIdeal.Half

end
-- ==== Proof.RefResults.lean ====
/- The reference's seven results as arrays of real numbers. -/
module

public import proofs.«01_k».proof.Proof.RefValue

@[expose] public section

set_option maxRecDepth 16384

noncomputable section

namespace Cert.ReferenceIdeal.Half

open Idealize.ShloMosaic Idealize.SL.Sem Cert.ReferenceIdeal ReferenceIdeal.Gen ReferenceIdeal.Value Cert.Row

variable {d : Data} {V0 : Valuation τ sig (Elt Ideal)} (R : Reads d V0)
include R

theorem dx_eq : (addf (addf (mulf (broadcastInDim S4352x1024 ![] bcast_S_S4352x1024 (constant S_ .f32 0x3FD744FD#32)) (res_main_v73 V0))
      (Host.dotGeneral (φ₁ := .f32) (φ₂ := .f32) dot_S4352x2816_S1024x2816_S4352x1024_1_1_0_0_n_n none (res_main_v79 V0 : FVec Ideal S4352x2816 .f32) (V0 (Proc.devRef .tc main_arg2) : FVec Ideal S1024x2816 .f32)))
      (Host.dotGeneral (φ₁ := .f32) (φ₂ := .f32) dot_S4352x2816_S1024x2816_S4352x1024_1_1_0_0_n_n none (res_main_v81 V0 : FVec Ideal S4352x2816 .f32) (V0 (Proc.devRef .tc main_arg1) : FVec Ideal S1024x2816 .f32)) :
      FVec Ideal S4352x1024 .f32) = fun y => ((d.dx (y 0) (y 1) : ℝ) : EReal) := by
  have h := v73_at R; have h2 := v79_at R; have h3 := v81_at R; have w := R.wg; have w2 := R.wu
  funext y; idx_vars y
  pointwise [h, h2, h3, w, w2]
  simp only [bits_alpha, add_zero, ← EReal.coe_mul, ← coe_sum, ← EReal.coe_add]
  rw [add_right_comm]; rfl

theorem dg_eq : (truncf .bf16 (res_main_v81 V0) bitsLt_bf16_f32 : FVec Ideal S4352x2816 .bf16) = fun y => ((d.dg (y 0) (y 1) : ℝ) : EReal) := by
  have h := v81_at R
  funext y; idx_vars y
  pointwise [h]

theorem du_eq : (truncf .bf16 (res_main_v79 V0) bitsLt_bf16_f32 : FVec Ideal S4352x2816 .bf16) = fun y => ((d.du (y 0) (y 1) : ℝ) : EReal) := by
  have h := v79_at R
  funext y; idx_vars y
  pointwise [h]

theorem act_eq : (truncf .bf16 (mulf (mulf (res_main_v86 V0) (Host.divf (broadcastInDim S4352x2816 ![] bcast_S_S4352x2816 (constant S_ .f32 0x3F800000#32))
      (addf (broadcastInDim S4352x2816 ![] bcast_S_S4352x2816 (constant S_ .f32 0x3F800000#32)) (Host.exp (Host.negf (res_main_v86 V0))))))
      (Host.dotGeneral (φ₁ := .f32) (φ₂ := .f32) dot_S4352x1024_S1024x2816_S4352x2816_1_0_0_1_n_n none (V0 (Proc.devRef .tc main_arg0) : FVec Ideal S4352x1024 .f32) (V0 (Proc.devRef .tc main_arg2) : FVec Ideal S1024x2816 .f32)))
      bitsLt_bf16_f32 : FVec Ideal S4352x2816 .bf16) = fun y => ((d.act (y 0) (y 1) : ℝ) : EReal) := by
  have h := v86_at R; have a := R.h; have w := R.wu
  funext y; idx_vars y
  pointwise [h, a, w]
  simp only [add_zero, ← EReal.coe_mul, ← coe_sum, coe_sg, ← EReal.coe_add]; rfl

theorem dy_eq : (truncf .bf16 (res_main_v75 V0) bitsLt_bf16_f32 : FVec Ideal S4352x1024 .bf16) = fun y => ((d.dy (y 0) (y 1) : ℝ) : EReal) := by
  have h := v75_at R
  funext y; idx_vars y
  pointwise [h]

theorem dlg_eq : (shapeCast S1x1024 (Host.reduceAdd (mulf (res_main_v37 V0) (res_main_v42 V0)) (constant S_ .f32 0x00000000#32)
      reducesTo_S4352x1024_S1024_d0 h_S_) shapeCasts_S1024_S1x1024 : FVec Ideal S1x1024 .f32) = fun y => ((d.dlg (y 1) : ℝ) : EReal) := by
  have h := v37_at R; have h2 := v42_at R
  funext y; idx_vars y
  pointwise [h, h2]
  simp only [← EReal.coe_mul, ← coe_sum]
  exact congrArg _ (Finset.sum_congr rfl fun _ _ => mul_comm _ _)

theorem dlb_eq : (shapeCast S1x1024 (Host.reduceAdd (V0 (Proc.devRef .tc main_arg6) : FVec Ideal S4352x1024 .f32) (constant S_ .f32 0x00000000#32)
      reducesTo_S4352x1024_S1024_d0 h_S_) shapeCasts_S1024_S1x1024 : FVec Ideal S1x1024 .f32) = fun y => ((d.dlb (y 1) : ℝ) : EReal) := by
  have h := R.dh
  funext y; idx_vars y
  pointwise [h]
  simp only [zero_add, add_zero, ← coe_sum]; rfl

end Cert.ReferenceIdeal.Half

end
-- ==== Proof.RefRun.lean ====
/- The reference's run over the reals: its seven results end at the half step's gradient, the arguments as they began. -/
module

public import proofs.«01_k».proof.Proof.RefResults

@[expose] public section

set_option maxRecDepth 16384

noncomputable section

namespace Cert.ReferenceIdeal.Half

open Idealize.ShloMosaic Idealize.ShloMosaic.TcCoe Idealize.ShloMosaic.StableHlo Idealize.SL.Sem Cert.ReferenceIdeal ReferenceIdeal.Gen ReferenceIdeal.Value Cert.Row

theorem value_run (m : (ℓ : Loc nD τ sig) → Buf (Elt Ideal) ℓ) (ρ : Dev nD → PrngReg) (d : Dev nD → Data) (R : ∀ c, Reads (d c) (launchContents m c)) :
    θ_run defs (onTc (τ := τ) (main (F := Ideal))) ⟨m, fun _ => 0, ρ⟩ (fun r => ∀ c : Dev nD,
      r.2.mem (c.tc.loc main_v85) = (fun y => (((d c).dx (y 0) (y 1) : ℝ) : EReal) : FVec Ideal S4352x1024 .f32)
      ∧ r.2.mem (c.tc.loc main_v90) = (fun y => (((d c).dg (y 0) (y 1) : ℝ) : EReal) : FVec Ideal S4352x2816 .bf16)
      ∧ r.2.mem (c.tc.loc main_v91) = (fun y => (((d c).du (y 0) (y 1) : ℝ) : EReal) : FVec Ideal S4352x2816 .bf16)
      ∧ r.2.mem (c.tc.loc main_v92) = (fun y => (((d c).act (y 0) (y 1) : ℝ) : EReal) : FVec Ideal S4352x2816 .bf16)
      ∧ r.2.mem (c.tc.loc main_v93) = (fun y => (((d c).dy (y 0) (y 1) : ℝ) : EReal) : FVec Ideal S4352x1024 .bf16)
      ∧ r.2.mem (c.tc.loc main_v47) = (fun y => (((d c).dlg (y 1) : ℝ) : EReal) : FVec Ideal S1x1024 .f32)
      ∧ r.2.mem (c.tc.loc main_v44) = (fun y => (((d c).dlb (y 1) : ℝ) : EReal) : FVec Ideal S1x1024 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run defs _ _).mono (fun r h c => ⟨(h c).1.trans (dx_eq (R c)), (h c).2.1.trans (dg_eq (R c)), (h c).2.2.1.trans (du_eq (R c)),
    (h c).2.2.2.1.trans (act_eq (R c)), (h c).2.2.2.2.1.trans (dy_eq (R c)), (h c).2.2.2.2.2.1.trans (dlg_eq (R c)),
    (h c).2.2.2.2.2.2.1.trans (dlb_eq (R c)), (h c).2.2.2.2.2.2.2⟩) (ReferenceIdeal.Value.run (F := Ideal) m ρ)

end Cert.ReferenceIdeal.Half

end
-- ==== Proof.Finite.lean ====
/- The precondition read: an array all of whose entries have an absolute value below infinity is an array of real numbers. -/
module

public import proofs.«01_k».proof.Proof.Entry
public import proofs.«01_k».proof.Proof.Gen.Pre_finite
public import proofs.«01_k».proof.Defs

@[expose] public section

set_option maxRecDepth 16384

noncomputable section

namespace Cert.Row

open Idealize.ShloMosaic Idealize.SL.Sem

/-- The comparison's word is infinity. -/
theorem bits_inf : Ideal.ofBits .f32 0x7F800000#32 = ⊤ := by
  simp [Ideal.ofBits, Ideal.ieee]

/-- An extended real for which the comparison holds is real. -/
theorem real_of_lt (x : EReal)
    (h : BitVec.ofBool (decide (FloatOps.absf (F := Ideal) (φ := .f32) x < Ideal.ofBits .f32 0x7F800000#32)) = 1#1) :
    ∃ a : ℝ, x = (a : EReal) := by
  rw [bits_inf] at h
  refine finite_of_abs x ?_
  by_contra hc
  have hd : decide (FloatOps.absf (F := Ideal) (φ := .f32) x < ⊤) = false := decide_eq_false hc
  rw [hd] at h
  exact absurd h (by decide)

/-- Under the precondition the kernel's arguments are real. -/
theorem reads (m : (ℓ : Loc KernelIdeal.nD KernelIdeal.τ KernelIdeal.sig) → Buf (Elt Ideal) ℓ)
    (h : Cert.Pre_KernelIdeal_finite m) (c : Dev KernelIdeal.nD) : ∃ d : Data, KernelIdeal.Ffn.Reads m c d := by
  obtain ⟨h0, h1, h2, h3, h4, h6⟩ := h c
  have r0 : ∀ (i : Fin 4352) (k : Fin 1024), ∃ a : ℝ, (m (c.tc.loc KernelIdeal.main_arg0) :
      FVec Ideal KernelIdeal.S4352x1024 .f32) (ix2 i k) = (a : EReal) := fun i k => by
    have e := congrFun h0 (ix2 i k)
    pointwise [Cert.Pre_finite.fn] at e
    exact real_of_lt _ e
  have r1 : ∀ (i : Fin 1024) (k : Fin 2816), ∃ a : ℝ, (m (c.tc.loc KernelIdeal.main_arg1) :
      FVec Ideal KernelIdeal.S1024x2816 .f32) (ix2 i k) = (a : EReal) := fun i k => by
    have e := congrFun h1 (ix2 i k)
    pointwise [Cert.Pre_finite.fn] at e
    exact real_of_lt _ e
  have r2 : ∀ (i : Fin 1024) (k : Fin 2816), ∃ a : ℝ, (m (c.tc.loc KernelIdeal.main_arg2) :
      FVec Ideal KernelIdeal.S1024x2816 .f32) (ix2 i k) = (a : EReal) := fun i k => by
    have e := congrFun h2 (ix2 i k)
    pointwise [Cert.Pre_finite.fn] at e
    exact real_of_lt _ e
  have r3 : ∀ (i : Fin 2816) (k : Fin 1024), ∃ a : ℝ, (m (c.tc.loc KernelIdeal.main_arg3) :
      FVec Ideal KernelIdeal.S2816x1024 .f32) (ix2 i k) = (a : EReal) := fun i k => by
    have e := congrFun h3 (ix2 i k)
    pointwise [Cert.Pre_finite.fn] at e
    exact real_of_lt _ e
  have r4 : ∀ (k : Fin 1024), ∃ a : ℝ, (m (c.tc.loc KernelIdeal.main_arg4) :
      FVec Ideal KernelIdeal.S1x1024 .f32) (ix2 (0 : Fin 1) k) = (a : EReal) := fun k => by
    have e := congrFun h4 (ix2 (0 : Fin 1) k)
    pointwise [Cert.Pre_finite.fn] at e
    exact real_of_lt _ e
  have r6 : ∀ (i : Fin 4352) (k : Fin 1024), ∃ a : ℝ, (m (c.tc.loc KernelIdeal.main_arg6) :
      FVec Ideal KernelIdeal.S4352x1024 .f32) (ix2 i k) = (a : EReal) := fun i k => by
    have e := congrFun h6 (ix2 i k)
    pointwise [Cert.Pre_finite.fn] at e
    exact real_of_lt _ e
  choose a0 e0 using r0
  choose a1 e1 using r1
  choose a2 e2 using r2
  choose a3 e3 using r3
  choose a4 e4 using r4
  choose a6 e6 using r6
  exact ⟨⟨a0, a1, a2, a3, a4, a6⟩, ⟨e0, e1, e2, e3, e4, e6⟩⟩

end Cert.Row

end
-- ==== Proof.Product2.lean ====
/- The weight gradient `ffn_wgrad_in` over the reals: the two points of a column of blocks add the products of the upper and of the lower half of the
   rows, so the result is the sum over all rows. -/
module

public import proofs.«01_k».proof.Proof.Gen.Kernel2Ideal.Frame
public import Idealize.ShloMosaic.Lib.Pipeline.ValueKit

@[expose] public section

set_option maxRecDepth 16384

noncomputable section

namespace Cert.Kernel2Ideal.Product

open Idealize.ShloMosaic Idealize.ShloMosaic.TcCoe Idealize.SL.Sem Cert.Kernel2Ideal Kernel2Ideal.Gen
open Idealize.ShloMosaic.Pipeline (Dat)

/-- The block of every window at a point: the point's half of the rows, the point's half of the result's rows. -/
theorem idx : ∀ t : Fin cfg0.N, win0_0.index t = ![t.val % 2, t.val / 2] ∧ win0_1.index t = ![t.val % 2, 0] ∧ win0_2.index t = ![t.val / 2, 0]
    ∧ t.val < 4 := (by decide +kernel : ∀ t : Fin grid0.N, _)

/-- One point's product. -/
theorem part_at (x : FVec Ideal S2176x1408 .bf16) (y : FVec Ideal S2176x1024 .bf16) (a : Fin 1408) (b : Fin 1024) :
    k0_pay1 (F := Ideal) x y (ix2 a b) = ∑ k : Fin 2176, x (ix2 k a) * y (ix2 k b) := by
  pointwise [k0_pay1]

/-- What the second of a block's two points writes back: its own product on top of the first's. -/
theorem both_at (x x' : FVec Ideal S2176x1408 .bf16) (y y' : FVec Ideal S2176x1024 .bf16) (a : Fin 1408) (b : Fin 1024) :
    k0_pay4 (F := Ideal) (k0_pay3 (F := Ideal) x' y' (k0_pay2 (F := Ideal) x y)) (ix2 a b)
      = ∑ k : Fin 2176, x (ix2 k a) * y (ix2 k b) + ∑ k : Fin 2176, x' (ix2 k a) * y' (ix2 k b) := by
  rw [← part_at, ← part_at]
  pointwise [k0_pay4, k0_pay3, k0_pay2]

variable (m : (ℓ : Loc nD τ sig) → Buf (Elt Ideal) ℓ)

/-- The first operand's block, read from the argument. -/
theorem left_at (c : Dev nD) (t : Fin cfg0.N) (k : Fin 2176) (a : Fin 1408) (r : Fin 4352) (i : Fin 2816)
    (hr : r.val = t.val % 2 * 2176 + k.val) (hi : i.val = t.val / 2 * 1408 + a.val) :
    (iblk m c 0 t : FVec Ideal S2176x1408 .bf16) (ix2 k a) = m (c.tc.loc main_arg0) (ix2 r i) := by
  have e : (V m c main_v0 : FVec Ideal S4352x2816 .bf16) (ix2 r i) = m (c.tc.loc main_arg0) (ix2 r i) := by
    entry_read
    try rfl
  refine Eq.trans ?_ e
  blk_ext [iblk, idx t, hr, hi]

/-- The second operand's block, read from the argument. -/
theorem right_at (c : Dev nD) (t : Fin cfg0.N) (k : Fin 2176) (b : Fin 1024) (r : Fin 4352) (hr : r.val = t.val % 2 * 2176 + k.val) :
    (iblk m c 1 t : FVec Ideal S2176x1024 .bf16) (ix2 k b) = m (c.tc.loc main_arg1) (ix2 r b) := by
  have e : (V m c main_v1 : FVec Ideal S4352x1024 .bf16) (ix2 r b) = m (c.tc.loc main_arg1) (ix2 r b) := by
    entry_read
    try rfl
  refine Eq.trans ?_ e
  blk_ext [iblk, idx t, hr]

/-- The product of the transposed first argument with the second, at an index. -/
def grad (x : FVec Ideal S4352x2816 .f32) (y : FVec Ideal S4352x1024 .f32) : FVec Ideal S2816x1024 .bf16 := fun i =>
  ∑ r : Fin 4352, x (ix2 r (i 0)) * y (ix2 r (i 1))

/-- The result array after the run. -/
theorem final (c : Dev nD) : (dats m 0 c).arrAt 2 (cfgs 0).N
    = grad (m (c.tc.loc main_arg0)) (m (c.tc.loc main_arg1)) := by
  refine (dats m 0 c).arrAt_eq_of_covers 2 _ (by decide +kernel) fun t hf y => ?_
  have hm : t.val % 2 = 1 := (flush0_2 t).mp hf
  have h4 := (idx t).2.2.2
  blk_simp
  have hy : (y : S1408x1024.Idx) = ix2 (y 0) (y 1) := by blk_ext
  have h0 : (((win0_2.blk t).view.emb y 0 : Fin 2816) : ℕ) = t.val / 2 * 1408 + (y 0).val := by blk_simp [idx t]
  have e1 : (win0_2.blk t).view.emb y 1 = y 1 := by apply Fin.ext; blk_simp [idx t]
  rw [after0_2, outsAt0_B m c t (by omega) hm hm, outsAt0_A m c ⟨t.val - 1, Nat.lt_of_le_of_lt (Nat.sub_le _ _) t.isLt⟩ (by dsimp only; omega) (by dsimp only; omega) (by dsimp only; omega)]
  frame_out
  rw [(Memref.isWhole_whole cc0_scratch0).read_unread]
  refine (congrArg _ hy).trans ((both_at _ _ _ _ (y 0) (y 1)).trans ?_)
  rw [grad, Fin.sum_univ_tiles 2 2176 rfl, Fin.sum_univ_two]
  refine congrArg₂ (· + ·) (Finset.sum_congr rfl fun k _ => congrArg₂ (· * ·) ?_ ?_) (Finset.sum_congr rfl fun k _ => congrArg₂ (· * ·) ?_ ?_)
  · exact left_at m c _ k _ _ _ (by dsimp only; omega) (h0.trans (by dsimp only; omega))
  · rw [e1]; exact right_at m c _ k _ _ (by dsimp only; omega)
  · exact left_at m c _ k _ _ _ (by dsimp only; omega) h0
  · rw [e1]; exact right_at m c _ k _ _ (by dsimp only; omega)

end Cert.Kernel2Ideal.Product

end
-- ==== Proof.Weight2.lean ====
/- The claims about the weight gradient `ffn_wgrad_in`: the kernel's result over the reals is the derivative of the product by its second factor. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Product2

@[expose] public section

set_option maxRecDepth 16384

noncomputable section

namespace Cert.Kernel2Ideal.Product

open Idealize.ShloMosaic Idealize.ShloMosaic.TcCoe Idealize.SL.Sem

/-- The reference's result is the same sum of products. -/
theorem reference_at (x : FVec Ideal Reference2Ideal.S4352x2816 .f32) (y : FVec Ideal Reference2Ideal.S4352x1024 .f32) :
    (truncf .bf16 (transpose Reference2Ideal.S2816x1024 [1, 0] (transpose Reference2Ideal.S1024x2816 [1, 0] (Host.dotGeneral (φ₁ := .f32) (φ₂ := .f32) Reference2Ideal.dot_S4352x2816_S4352x1024_S2816x1024_0_0_1_1_n_n none x y) Reference2Ideal.Gen.transposes_S2816x1024_S1024x2816_1_0) Reference2Ideal.Gen.transposes_S1024x2816_S2816x1024_1_0) Reference2Ideal.Gen.bitsLt_bf16_f32 : FVec Ideal Reference2Ideal.S2816x1024 .bf16) = grad x y := by
  funext i
  have hi : (i : Reference2Ideal.S2816x1024.Idx) = ix2 (i 0) (i 1) := by blk_ext
  rw [hi]
  unfold grad
  pointwise []

theorem frame_reference : Cert.quiescent_Reference2Ideal (hReference2Ideal := Reference2Ideal.Gen.facts) :=
  fun m ρ _ => (θ_run Reference2Ideal.defs _ _).mono
    (fun r h => And.intro (fun c => (h c).2) (Idealize.ShloMosaic.sem_eq_zero_of_no_sems (by decide) r.2))
    (Reference2Ideal.Value.run (F := Ideal) m ρ)

theorem algebraic : Cert.algebraic_Kernel2Ideal_Reference2Ideal (hKernel2Ideal := Kernel2Ideal.Gen.facts)
    (hReference2Ideal := Reference2Ideal.Gen.facts) := by
  pair_intro
  · run_from Kernel2Ideal.Gen.run_main m g
  · run_from Reference2Ideal.Value.run m' g'
    exact (reference_at _ _).trans (final m _).symm

end Cert.Kernel2Ideal.Product

end
-- ==== Proof.Product3.lean ====
/- The weight gradient `ffn_wgrad_down` over the reals: the two points of a column of blocks add the products of the upper and of the lower half of the
   rows, so the result is the sum over all rows. -/
module

public import proofs.«01_k».proof.Proof.Gen.Kernel3Ideal.Frame
public import Idealize.ShloMosaic.Lib.Pipeline.ValueKit

@[expose] public section

set_option maxRecDepth 16384

noncomputable section

namespace Cert.Kernel3Ideal.Product

open Idealize.ShloMosaic Idealize.ShloMosaic.TcCoe Idealize.SL.Sem Cert.Kernel3Ideal Kernel3Ideal.Gen
open Idealize.ShloMosaic.Pipeline (Dat)

/-- The block of every window at a point: the point's half of the rows, the point's half of the result's rows. -/
theorem idx : ∀ t : Fin cfg0.N, win0_0.index t = ![t.val % 2, t.val / 2] ∧ win0_1.index t = ![t.val % 2, 0] ∧ win0_2.index t = ![t.val / 2, 0]
    ∧ t.val < 4 := (by decide +kernel : ∀ t : Fin grid0.N, _)

/-- One point's product. -/
theorem part_at (x : FVec Ideal S2176x1408 .bf16) (y : FVec Ideal S2176x1024 .bf16) (a : Fin 1408) (b : Fin 1024) :
    k0_pay1 (F := Ideal) x y (ix2 a b) = ∑ k : Fin 2176, x (ix2 k a) * y (ix2 k b) := by
  pointwise [k0_pay1]

/-- What the second of a block's two points writes back: its own product on top of the first's. -/
theorem both_at (x x' : FVec Ideal S2176x1408 .bf16) (y y' : FVec Ideal S2176x1024 .bf16) (a : Fin 1408) (b : Fin 1024) :
    k0_pay4 (F := Ideal) (k0_pay3 (F := Ideal) x' y' (k0_pay2 (F := Ideal) x y)) (ix2 a b)
      = ∑ k : Fin 2176, x (ix2 k a) * y (ix2 k b) + ∑ k : Fin 2176, x' (ix2 k a) * y' (ix2 k b) := by
  rw [← part_at, ← part_at]
  pointwise [k0_pay4, k0_pay3, k0_pay2]

variable (m : (ℓ : Loc nD τ sig) → Buf (Elt Ideal) ℓ)

/-- The first operand's block, read from the argument. -/
theorem left_at (c : Dev nD) (t : Fin cfg0.N) (k : Fin 2176) (a : Fin 1408) (r : Fin 4352) (i : Fin 2816)
    (hr : r.val = t.val % 2 * 2176 + k.val) (hi : i.val = t.val / 2 * 1408 + a.val) :
    (iblk m c 0 t : FVec Ideal S2176x1408 .bf16) (ix2 k a) = m (c.tc.loc main_arg0) (ix2 r i) := by
  have e : (V m c main_v0 : FVec Ideal S4352x2816 .bf16) (ix2 r i) = m (c.tc.loc main_arg0) (ix2 r i) := by
    entry_read
    try rfl
  refine Eq.trans ?_ e
  blk_ext [iblk, idx t, hr, hi]

/-- The second operand's block, read from the argument. -/
theorem right_at (c : Dev nD) (t : Fin cfg0.N) (k : Fin 2176) (b : Fin 1024) (r : Fin 4352) (hr : r.val = t.val % 2 * 2176 + k.val) :
    (iblk m c 1 t : FVec Ideal S2176x1024 .bf16) (ix2 k b) = m (c.tc.loc main_arg1) (ix2 r b) := by
  have e : (V m c main_v1 : FVec Ideal S4352x1024 .bf16) (ix2 r b) = m (c.tc.loc main_arg1) (ix2 r b) := by
    entry_read
    try rfl
  refine Eq.trans ?_ e
  blk_ext [iblk, idx t, hr]

/-- The product of the transposed first argument with the second, at an index. -/
def grad (x : FVec Ideal S4352x2816 .f32) (y : FVec Ideal S4352x1024 .f32) : FVec Ideal S2816x1024 .bf16 := fun i =>
  ∑ r : Fin 4352, x (ix2 r (i 0)) * y (ix2 r (i 1))

/-- The result array after the run. -/
theorem final (c : Dev nD) : (dats m 0 c).arrAt 2 (cfgs 0).N
    = grad (m (c.tc.loc main_arg0)) (m (c.tc.loc main_arg1)) := by
  refine (dats m 0 c).arrAt_eq_of_covers 2 _ (by decide +kernel) fun t hf y => ?_
  have hm : t.val % 2 = 1 := (flush0_2 t).mp hf
  have h4 := (idx t).2.2.2
  blk_simp
  have hy : (y : S1408x1024.Idx) = ix2 (y 0) (y 1) := by blk_ext
  have h0 : (((win0_2.blk t).view.emb y 0 : Fin 2816) : ℕ) = t.val / 2 * 1408 + (y 0).val := by blk_simp [idx t]
  have e1 : (win0_2.blk t).view.emb y 1 = y 1 := by apply Fin.ext; blk_simp [idx t]
  rw [after0_2, outsAt0_B m c t (by omega) hm hm, outsAt0_A m c ⟨t.val - 1, Nat.lt_of_le_of_lt (Nat.sub_le _ _) t.isLt⟩ (by dsimp only; omega) (by dsimp only; omega) (by dsimp only; omega)]
  frame_out
  rw [(Memref.isWhole_whole cc0_scratch0).read_unread]
  refine (congrArg _ hy).trans ((both_at _ _ _ _ (y 0) (y 1)).trans ?_)
  rw [grad, Fin.sum_univ_tiles 2 2176 rfl, Fin.sum_univ_two]
  refine congrArg₂ (· + ·) (Finset.sum_congr rfl fun k _ => congrArg₂ (· * ·) ?_ ?_) (Finset.sum_congr rfl fun k _ => congrArg₂ (· * ·) ?_ ?_)
  · exact left_at m c _ k _ _ _ (by dsimp only; omega) (h0.trans (by dsimp only; omega))
  · rw [e1]; exact right_at m c _ k _ _ (by dsimp only; omega)
  · exact left_at m c _ k _ _ _ (by dsimp only; omega) h0
  · rw [e1]; exact right_at m c _ k _ _ (by dsimp only; omega)

end Cert.Kernel3Ideal.Product

end
-- ==== Proof.Weight3.lean ====
/- The claims about the weight gradient `ffn_wgrad_down`: the kernel's result over the reals is the derivative of the product by its second factor. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Product3

@[expose] public section

set_option maxRecDepth 16384

noncomputable section

namespace Cert.Kernel3Ideal.Product

open Idealize.ShloMosaic Idealize.ShloMosaic.TcCoe Idealize.SL.Sem

/-- The reference's result is the same sum of products. -/
theorem reference_at (x : FVec Ideal Reference3Ideal.S4352x2816 .f32) (y : FVec Ideal Reference3Ideal.S4352x1024 .f32) :
    (truncf .bf16 (transpose Reference3Ideal.S2816x1024 [1, 0] (Host.dotGeneral (φ₁ := .f32) (φ₂ := .f32) Reference3Ideal.dot_S4352x1024_S4352x2816_S1024x2816_0_0_1_1_n_n none y x) Reference3Ideal.Gen.transposes_S1024x2816_S2816x1024_1_0) Reference3Ideal.Gen.bitsLt_bf16_f32 : FVec Ideal Reference3Ideal.S2816x1024 .bf16) = grad x y := by
  funext i
  have hi : (i : Reference3Ideal.S2816x1024.Idx) = ix2 (i 0) (i 1) := by blk_ext
  rw [hi]
  unfold grad
  pointwise []
  exact Finset.sum_congr rfl fun _ _ => mul_comm _ _

theorem frame_reference : Cert.quiescent_Reference3Ideal (hReference3Ideal := Reference3Ideal.Gen.facts) :=
  fun m ρ _ => (θ_run Reference3Ideal.defs _ _).mono
    (fun r h => And.intro (fun c => (h c).2) (Idealize.ShloMosaic.sem_eq_zero_of_no_sems (by decide) r.2))
    (Reference3Ideal.Value.run (F := Ideal) m ρ)

theorem algebraic : Cert.algebraic_Kernel3Ideal_Reference3Ideal (hKernel3Ideal := Kernel3Ideal.Gen.facts)
    (hReference3Ideal := Reference3Ideal.Gen.facts) := by
  pair_intro
  · run_from Kernel3Ideal.Gen.run_main m g
  · run_from Reference3Ideal.Value.run m' g'
    exact (reference_at _ _).trans (final m _).symm

end Cert.Kernel3Ideal.Product

end
-- ==== Proof.Product4.lean ====
/- The weight gradient `w_out_wgrad` over the reals: the two points of a column of blocks add the products of the upper and of the lower half of the
   rows, so the result is the sum over all rows. -/
module

public import proofs.«01_k».proof.Proof.Gen.Kernel4Ideal.Frame
public import Idealize.ShloMosaic.Lib.Pipeline.ValueKit

@[expose] public section

set_option maxRecDepth 16384

noncomputable section

namespace Cert.Kernel4Ideal.Product

open Idealize.ShloMosaic Idealize.ShloMosaic.TcCoe Idealize.SL.Sem Cert.Kernel4Ideal Kernel4Ideal.Gen
open Idealize.ShloMosaic.Pipeline (Dat)

/-- The block of every window at a point: the point's half of the rows, the point's half of the result's rows. -/
theorem idx : ∀ t : Fin cfg0.N, win0_0.index t = ![t.val % 2, t.val / 2] ∧ win0_1.index t = ![t.val % 2, 0] ∧ win0_2.index t = ![t.val / 2, 0]
    ∧ t.val < 4 := (by decide +kernel : ∀ t : Fin grid0.N, _)

/-- One point's product. -/
theorem part_at (x : FVec Ideal S2176x512 .bf16) (y : FVec Ideal S2176x1024 .bf16) (a : Fin 512) (b : Fin 1024) :
    k0_pay1 (F := Ideal) x y (ix2 a b) = ∑ k : Fin 2176, x (ix2 k a) * y (ix2 k b) := by
  pointwise [k0_pay1]

/-- What the second of a block's two points writes back: its own product on top of the first's. -/
theorem both_at (x x' : FVec Ideal S2176x512 .bf16) (y y' : FVec Ideal S2176x1024 .bf16) (a : Fin 512) (b : Fin 1024) :
    k0_pay4 (F := Ideal) (k0_pay3 (F := Ideal) x' y' (k0_pay2 (F := Ideal) x y)) (ix2 a b)
      = ∑ k : Fin 2176, x (ix2 k a) * y (ix2 k b) + ∑ k : Fin 2176, x' (ix2 k a) * y' (ix2 k b) := by
  rw [← part_at, ← part_at]
  pointwise [k0_pay4, k0_pay3, k0_pay2]

variable (m : (ℓ : Loc nD τ sig) → Buf (Elt Ideal) ℓ)

/-- The first operand's block, read from the argument. -/
theorem left_at (c : Dev nD) (t : Fin cfg0.N) (k : Fin 2176) (a : Fin 512) (r : Fin 4352) (i : Fin 1024)
    (hr : r.val = t.val % 2 * 2176 + k.val) (hi : i.val = t.val / 2 * 512 + a.val) :
    (iblk m c 0 t : FVec Ideal S2176x512 .bf16) (ix2 k a) = m (c.tc.loc main_arg0) (ix2 r i) := by
  have e : (V m c main_v0 : FVec Ideal S4352x1024 .bf16) (ix2 r i) = m (c.tc.loc main_arg0) (ix2 r i) := by
    entry_read
    try rfl
  refine Eq.trans ?_ e
  blk_ext [iblk, idx t, hr, hi]

/-- The second operand's block, read from the argument. -/
theorem right_at (c : Dev nD) (t : Fin cfg0.N) (k : Fin 2176) (b : Fin 1024) (r : Fin 4352) (hr : r.val = t.val % 2 * 2176 + k.val) :
    (iblk m c 1 t : FVec Ideal S2176x1024 .bf16) (ix2 k b) = m (c.tc.loc main_arg1) (ix2 r b) := by
  have e : (V m c main_v1 : FVec Ideal S4352x1024 .bf16) (ix2 r b) = m (c.tc.loc main_arg1) (ix2 r b) := by
    entry_read
    try rfl
  refine Eq.trans ?_ e
  blk_ext [iblk, idx t, hr]

/-- The product of the transposed first argument with the second, at an index. -/
def grad (x : FVec Ideal S4352x1024 .f32) (y : FVec Ideal S4352x1024 .f32) : FVec Ideal S1024x1024 .bf16 := fun i =>
  ∑ r : Fin 4352, x (ix2 r (i 0)) * y (ix2 r (i 1))

/-- The result array after the run. -/
theorem final (c : Dev nD) : (dats m 0 c).arrAt 2 (cfgs 0).N
    = grad (m (c.tc.loc main_arg0)) (m (c.tc.loc main_arg1)) := by
  refine (dats m 0 c).arrAt_eq_of_covers 2 _ (by decide +kernel) fun t hf y => ?_
  have hm : t.val % 2 = 1 := (flush0_2 t).mp hf
  have h4 := (idx t).2.2.2
  blk_simp
  have hy : (y : S512x1024.Idx) = ix2 (y 0) (y 1) := by blk_ext
  have h0 : (((win0_2.blk t).view.emb y 0 : Fin 1024) : ℕ) = t.val / 2 * 512 + (y 0).val := by blk_simp [idx t]
  have e1 : (win0_2.blk t).view.emb y 1 = y 1 := by apply Fin.ext; blk_simp [idx t]
  rw [after0_2, outsAt0_B m c t (by omega) hm hm, outsAt0_A m c ⟨t.val - 1, Nat.lt_of_le_of_lt (Nat.sub_le _ _) t.isLt⟩ (by dsimp only; omega) (by dsimp only; omega) (by dsimp only; omega)]
  frame_out
  rw [(Memref.isWhole_whole cc0_scratch0).read_unread]
  refine (congrArg _ hy).trans ((both_at _ _ _ _ (y 0) (y 1)).trans ?_)
  rw [grad, Fin.sum_univ_tiles 2 2176 rfl, Fin.sum_univ_two]
  refine congrArg₂ (· + ·) (Finset.sum_congr rfl fun k _ => congrArg₂ (· * ·) ?_ ?_) (Finset.sum_congr rfl fun k _ => congrArg₂ (· * ·) ?_ ?_)
  · exact left_at m c _ k _ _ _ (by dsimp only; omega) (h0.trans (by dsimp only; omega))
  · rw [e1]; exact right_at m c _ k _ _ (by dsimp only; omega)
  · exact left_at m c _ k _ _ _ (by dsimp only; omega) h0
  · rw [e1]; exact right_at m c _ k _ _ (by dsimp only; omega)

end Cert.Kernel4Ideal.Product

end
-- ==== Proof.Weight4.lean ====
/- The claims about the weight gradient `w_out_wgrad`: the kernel's result over the reals is the derivative of the product by its second factor. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Product4

@[expose] public section

set_option maxRecDepth 16384

noncomputable section

namespace Cert.Kernel4Ideal.Product

open Idealize.ShloMosaic Idealize.ShloMosaic.TcCoe Idealize.SL.Sem

/-- The reference's result is the same sum of products. -/
theorem reference_at (x : FVec Ideal Reference4Ideal.S4352x1024 .f32) (y : FVec Ideal Reference4Ideal.S4352x1024 .f32) :
    (truncf .bf16 (transpose Reference4Ideal.S1024x1024 [1, 0] (Host.dotGeneral (φ₁ := .f32) (φ₂ := .f32) Reference4Ideal.dot_S4352x1024_S4352x1024_S1024x1024_0_0_1_1_n_n none y x) Reference4Ideal.Gen.transposes_S1024x1024_S1024x1024_1_0) Reference4Ideal.Gen.bitsLt_bf16_f32 : FVec Ideal Reference4Ideal.S1024x1024 .bf16) = grad x y := by
  funext i
  have hi : (i : Reference4Ideal.S1024x1024.Idx) = ix2 (i 0) (i 1) := by blk_ext
  rw [hi]
  unfold grad
  pointwise []
  exact Finset.sum_congr rfl fun _ _ => mul_comm _ _

theorem frame_reference : Cert.quiescent_Reference4Ideal (hReference4Ideal := Reference4Ideal.Gen.facts) :=
  fun m ρ _ => (θ_run Reference4Ideal.defs _ _).mono
    (fun r h => And.intro (fun c => (h c).2) (Idealize.ShloMosaic.sem_eq_zero_of_no_sems (by decide) r.2))
    (Reference4Ideal.Value.run (F := Ideal) m ρ)

theorem algebraic : Cert.algebraic_Kernel4Ideal_Reference4Ideal (hKernel4Ideal := Kernel4Ideal.Gen.facts)
    (hReference4Ideal := Reference4Ideal.Gen.facts) := by
  pair_intro
  · run_from Kernel4Ideal.Gen.run_main m g
  · run_from Reference4Ideal.Value.run m' g'
    exact (reference_at _ _).trans (final m _).symm

end Cert.Kernel4Ideal.Product

end
-- ==== Proof.Product5.lean ====
/- The weight gradient `w_in_wgrad` over the reals: the two points of a column of blocks add the products of the upper and of the lower half of the
   rows, so the result is the sum over all rows. -/
module

public import proofs.«01_k».proof.Proof.Gen.Kernel5Ideal.Frame
public import Idealize.ShloMosaic.Lib.Pipeline.ValueKit

@[expose] public section

set_option maxRecDepth 16384

noncomputable section

namespace Cert.Kernel5Ideal.Product

open Idealize.ShloMosaic Idealize.ShloMosaic.TcCoe Idealize.SL.Sem Cert.Kernel5Ideal Kernel5Ideal.Gen
open Idealize.ShloMosaic.Pipeline (Dat)

/-- The block of every window at a point: the point's half of the rows, the point's half of the result's rows. -/
theorem idx : ∀ t : Fin cfg0.N, win0_0.index t = ![t.val % 2, t.val / 2] ∧ win0_1.index t = ![t.val % 2, 0] ∧ win0_2.index t = ![t.val / 2, 0]
    ∧ t.val < 4 := (by decide +kernel : ∀ t : Fin grid0.N, _)

/-- One point's product. -/
theorem part_at (x : FVec Ideal S2176x896 .bf16) (y : FVec Ideal S2176x1024 .bf16) (a : Fin 896) (b : Fin 1024) :
    k0_pay1 (F := Ideal) x y (ix2 a b) = ∑ k : Fin 2176, x (ix2 k a) * y (ix2 k b) := by
  pointwise [k0_pay1]

/-- What the second of a block's two points writes back: its own product on top of the first's. -/
theorem both_at (x x' : FVec Ideal S2176x896 .bf16) (y y' : FVec Ideal S2176x1024 .bf16) (a : Fin 896) (b : Fin 1024) :
    k0_pay4 (F := Ideal) (k0_pay3 (F := Ideal) x' y' (k0_pay2 (F := Ideal) x y)) (ix2 a b)
      = ∑ k : Fin 2176, x (ix2 k a) * y (ix2 k b) + ∑ k : Fin 2176, x' (ix2 k a) * y' (ix2 k b) := by
  rw [← part_at, ← part_at]
  pointwise [k0_pay4, k0_pay3, k0_pay2]

variable (m : (ℓ : Loc nD τ sig) → Buf (Elt Ideal) ℓ)

/-- The first operand's block, read from the argument. -/
theorem left_at (c : Dev nD) (t : Fin cfg0.N) (k : Fin 2176) (a : Fin 896) (r : Fin 4352) (i : Fin 1792)
    (hr : r.val = t.val % 2 * 2176 + k.val) (hi : i.val = t.val / 2 * 896 + a.val) :
    (iblk m c 0 t : FVec Ideal S2176x896 .bf16) (ix2 k a) = m (c.tc.loc main_arg0) (ix2 r i) := by
  have e : (V m c main_v0 : FVec Ideal S4352x1792 .bf16) (ix2 r i) = m (c.tc.loc main_arg0) (ix2 r i) := by
    entry_read
    try rfl
  refine Eq.trans ?_ e
  blk_ext [iblk, idx t, hr, hi]

/-- The second operand's block, read from the argument. -/
theorem right_at (c : Dev nD) (t : Fin cfg0.N) (k : Fin 2176) (b : Fin 1024) (r : Fin 4352) (hr : r.val = t.val % 2 * 2176 + k.val) :
    (iblk m c 1 t : FVec Ideal S2176x1024 .bf16) (ix2 k b) = m (c.tc.loc main_arg1) (ix2 r b) := by
  have e : (V m c main_v1 : FVec Ideal S4352x1024 .bf16) (ix2 r b) = m (c.tc.loc main_arg1) (ix2 r b) := by
    entry_read
    try rfl
  refine Eq.trans ?_ e
  blk_ext [iblk, idx t, hr]

/-- The product of the transposed first argument with the second, at an index. -/
def grad (x : FVec Ideal S4352x1792 .f32) (y : FVec Ideal S4352x1024 .f32) : FVec Ideal S1792x1024 .bf16 := fun i =>
  ∑ r : Fin 4352, x (ix2 r (i 0)) * y (ix2 r (i 1))

/-- The result array after the run. -/
theorem final (c : Dev nD) : (dats m 0 c).arrAt 2 (cfgs 0).N
    = grad (m (c.tc.loc main_arg0)) (m (c.tc.loc main_arg1)) := by
  refine (dats m 0 c).arrAt_eq_of_covers 2 _ (by decide +kernel) fun t hf y => ?_
  have hm : t.val % 2 = 1 := (flush0_2 t).mp hf
  have h4 := (idx t).2.2.2
  blk_simp
  have hy : (y : S896x1024.Idx) = ix2 (y 0) (y 1) := by blk_ext
  have h0 : (((win0_2.blk t).view.emb y 0 : Fin 1792) : ℕ) = t.val / 2 * 896 + (y 0).val := by blk_simp [idx t]
  have e1 : (win0_2.blk t).view.emb y 1 = y 1 := by apply Fin.ext; blk_simp [idx t]
  rw [after0_2, outsAt0_B m c t (by omega) hm hm, outsAt0_A m c ⟨t.val - 1, Nat.lt_of_le_of_lt (Nat.sub_le _ _) t.isLt⟩ (by dsimp only; omega) (by dsimp only; omega) (by dsimp only; omega)]
  frame_out
  rw [(Memref.isWhole_whole cc0_scratch0).read_unread]
  refine (congrArg _ hy).trans ((both_at _ _ _ _ (y 0) (y 1)).trans ?_)
  rw [grad, Fin.sum_univ_tiles 2 2176 rfl, Fin.sum_univ_two]
  refine congrArg₂ (· + ·) (Finset.sum_congr rfl fun k _ => congrArg₂ (· * ·) ?_ ?_) (Finset.sum_congr rfl fun k _ => congrArg₂ (· * ·) ?_ ?_)
  · exact left_at m c _ k _ _ _ (by dsimp only; omega) (h0.trans (by dsimp only; omega))
  · rw [e1]; exact right_at m c _ k _ _ (by dsimp only; omega)
  · exact left_at m c _ k _ _ _ (by dsimp only; omega) h0
  · rw [e1]; exact right_at m c _ k _ _ (by dsimp only; omega)

end Cert.Kernel5Ideal.Product

end
-- ==== Proof.Weight5.lean ====
/- The claims about the weight gradient `w_in_wgrad`: the kernel's result over the reals is the derivative of the product by its second factor. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Product5

@[expose] public section

set_option maxRecDepth 16384

noncomputable section

namespace Cert.Kernel5Ideal.Product

open Idealize.ShloMosaic Idealize.ShloMosaic.TcCoe Idealize.SL.Sem

/-- The reference's result is the same sum of products. -/
theorem reference_at (x : FVec Ideal Reference5Ideal.S4352x1792 .f32) (y : FVec Ideal Reference5Ideal.S4352x1024 .f32) :
    (truncf .bf16 (transpose Reference5Ideal.S1792x1024 [1, 0] (transpose Reference5Ideal.S1024x1792 [1, 0] (Host.dotGeneral (φ₁ := .f32) (φ₂ := .f32) Reference5Ideal.dot_S4352x1792_S4352x1024_S1792x1024_0_0_1_1_n_n none x y) Reference5Ideal.Gen.transposes_S1792x1024_S1024x1792_1_0) Reference5Ideal.Gen.transposes_S1024x1792_S1792x1024_1_0) Reference5Ideal.Gen.bitsLt_bf16_f32 : FVec Ideal Reference5Ideal.S1792x1024 .bf16) = grad x y := by
  funext i
  have hi : (i : Reference5Ideal.S1792x1024.Idx) = ix2 (i 0) (i 1) := by blk_ext
  rw [hi]
  unfold grad
  pointwise []

theorem frame_reference : Cert.quiescent_Reference5Ideal (hReference5Ideal := Reference5Ideal.Gen.facts) :=
  fun m ρ _ => (θ_run Reference5Ideal.defs _ _).mono
    (fun r h => And.intro (fun c => (h c).2) (Idealize.ShloMosaic.sem_eq_zero_of_no_sems (by decide) r.2))
    (Reference5Ideal.Value.run (F := Ideal) m ρ)

theorem algebraic : Cert.algebraic_Kernel5Ideal_Reference5Ideal (hKernel5Ideal := Kernel5Ideal.Gen.facts)
    (hReference5Ideal := Reference5Ideal.Gen.facts) := by
  pair_intro
  · run_from Kernel5Ideal.Gen.run_main m g
  · run_from Reference5Ideal.Value.run m' g'
    exact (reference_at _ _).trans (final m _).symm

end Cert.Kernel5Ideal.Product

end
-- ==== Proof.Step6.lean ====
/- One step of AdamW at 16 rows of 128: the kernel's three arrays over the reals are the reference's, element by element. -/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import Idealize.ShloMosaic.Lib.Pipeline.ValueKit

@[expose] public section

set_option maxRecDepth 16384

noncomputable section

namespace Cert.Kernel6Ideal.Step

open Idealize.ShloMosaic Idealize.ShloMosaic.TcCoe Idealize.SL.Sem Cert.Kernel6Ideal Kernel6Ideal.Gen
open Idealize.ShloMosaic.Pipeline (Dat)

/-- Every window's block at a point is the point's rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An array filled with one constant. -/
abbrev fill (n : BitVec 32) : FVec Ideal Reference6Ideal.S16x128 .f32 :=
  broadcastInDim Reference6Ideal.S16x128 ![] Reference6Ideal.Gen.bcast_S_S16x128 (constant Reference6Ideal.S_ .f32 n)

/-- The reference's new first moment. -/
def refM (g m : FVec Ideal Reference6Ideal.S16x128 .f32) : FVec Ideal Reference6Ideal.S16x128 .f32 :=
  addf (mulf (fill 0x3F666666#32) m) (mulf (fill 0x3DCCCCCD#32) g)

/-- The reference's new second moment. -/
def refV (g v : FVec Ideal Reference6Ideal.S16x128 .f32) : FVec Ideal Reference6Ideal.S16x128 .f32 :=
  addf (mulf (fill 0x3F7FBE77#32) v) (mulf (fill 0x3A83126F#32) (mulf g g))

/-- The reference's step. -/
def refD (w g m v : FVec Ideal Reference6Ideal.S16x128 .f32) : FVec Ideal Reference6Ideal.S16x128 .f32 :=
  mulf (fill 0xBA83126F#32) (addf (Host.divf (Host.divf (refM g m) (fill 0x3F26BD02#32))
    (addf (Host.sqrt (Host.divf (refV g v) (fill 0x3C231ACC#32))) (fill 0x322BCC77#32))) (mulf (fill 0x3C23D70A#32) w))

variable (m : (ℓ : Loc nD τ sig) → Buf (Elt Ideal) ℓ)

theorem moment1 (c : Dev nD) : (dats m 0 c).arrAt 5 (cfgs 0).N
    = refM (m (c.tc.loc main_arg1)) (m (c.tc.loc main_arg2)) := by
  refine (dats m 0 c).arrAt_eq_of_covers 5 _ (by decide +kernel) fun t _ y => ?_
  blk_simp
  rw [after0_5]; frame_out
  pointwise [k0_pay1, refM, fill]
  blk_point [iblk, V, idx t]

theorem moment2 (c : Dev nD) : (dats m 0 c).arrAt 6 (cfgs 0).N
    = refV (m (c.tc.loc main_arg1)) (m (c.tc.loc main_arg3)) := by
  refine (dats m 0 c).arrAt_eq_of_covers 6 _ (by decide +kernel) fun t _ y => ?_
  blk_simp
  rw [after0_6]; frame_out
  pointwise [k0_pay2, refV, fill]
  blk_point [iblk, V, idx t]

theorem delta (c : Dev nD) : (dats m 0 c).arrAt 4 (cfgs 0).N
    = refD (m (c.tc.loc main_arg0)) (m (c.tc.loc main_arg1)) (m (c.tc.loc main_arg2))
        (m (c.tc.loc main_arg3)) := by
  refine (dats m 0 c).arrAt_eq_of_covers 4 _ (by decide +kernel) fun t _ y => ?_
  blk_simp
  rw [after0_4]; frame_out
  pointwise [k0_pay3, k0_pay1, k0_pay2, refD, refM, refV, fill]
  blk_point [iblk, V, idx t]

theorem frame_reference : Cert.quiescent_Reference6Ideal (hReference6Ideal := Reference6Ideal.Gen.facts) :=
  fun m ρ _ => (θ_run Reference6Ideal.defs _ _).mono
    (fun r h => And.intro (fun c => (h c).2.2.2) (Idealize.ShloMosaic.sem_eq_zero_of_no_sems (by decide) r.2))
    (Reference6Ideal.Value.run (F := Ideal) m ρ)

theorem algebraic : Cert.algebraic_Kernel6Ideal_Reference6Ideal (hKernel6Ideal := Kernel6Ideal.Gen.facts)
    (hReference6Ideal := Reference6Ideal.Gen.facts) := by
  pair_intro
  · run_from Kernel6Ideal.Gen.run_main m g
  · run_from Reference6Ideal.Value.run m' g'
    · exact (delta m _).symm
    · exact (moment1 m _).symm
    · exact (moment2 m _).symm

end Cert.Kernel6Ideal.Step

end
-- ==== Proof.Step7.lean ====
/- One step of AdamW at 4 rows of 1024: the kernel's three arrays over the reals are the reference's, element by element. -/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import Idealize.ShloMosaic.Lib.Pipeline.ValueKit

@[expose] public section

set_option maxRecDepth 16384

noncomputable section

namespace Cert.Kernel7Ideal.Step

open Idealize.ShloMosaic Idealize.ShloMosaic.TcCoe Idealize.SL.Sem Cert.Kernel7Ideal Kernel7Ideal.Gen
open Idealize.ShloMosaic.Pipeline (Dat)

/-- Every window's block at a point is the point's rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An array filled with one constant. -/
abbrev fill (n : BitVec 32) : FVec Ideal Reference7Ideal.S4x1024 .f32 :=
  broadcastInDim Reference7Ideal.S4x1024 ![] Reference7Ideal.Gen.bcast_S_S4x1024 (constant Reference7Ideal.S_ .f32 n)

/-- The reference's new first moment. -/
def refM (g m : FVec Ideal Reference7Ideal.S4x1024 .f32) : FVec Ideal Reference7Ideal.S4x1024 .f32 :=
  addf (mulf (fill 0x3F666666#32) m) (mulf (fill 0x3DCCCCCD#32) g)

/-- The reference's new second moment. -/
def refV (g v : FVec Ideal Reference7Ideal.S4x1024 .f32) : FVec Ideal Reference7Ideal.S4x1024 .f32 :=
  addf (mulf (fill 0x3F7FBE77#32) v) (mulf (fill 0x3A83126F#32) (mulf g g))

/-- The reference's step. -/
def refD (w g m v : FVec Ideal Reference7Ideal.S4x1024 .f32) : FVec Ideal Reference7Ideal.S4x1024 .f32 :=
  mulf (fill 0xBA83126F#32) (addf (Host.divf (Host.divf (refM g m) (fill 0x3F26BD02#32))
    (addf (Host.sqrt (Host.divf (refV g v) (fill 0x3C231ACC#32))) (fill 0x322BCC77#32))) (mulf (fill 0x3C23D70A#32) w))

variable (m : (ℓ : Loc nD τ sig) → Buf (Elt Ideal) ℓ)

theorem moment1 (c : Dev nD) : (dats m 0 c).arrAt 5 (cfgs 0).N
    = refM (m (c.tc.loc main_arg1)) (m (c.tc.loc main_arg2)) := by
  refine (dats m 0 c).arrAt_eq_of_covers 5 _ (by decide +kernel) fun t _ y => ?_
  blk_simp
  rw [after0_5]; frame_out
  pointwise [k0_pay1, refM, fill]
  blk_point [iblk, V, idx t]

theorem moment2 (c : Dev nD) : (dats m 0 c).arrAt 6 (cfgs 0).N
    = refV (m (c.tc.loc main_arg1)) (m (c.tc.loc main_arg3)) := by
  refine (dats m 0 c).arrAt_eq_of_covers 6 _ (by decide +kernel) fun t _ y => ?_
  blk_simp
  rw [after0_6]; frame_out
  pointwise [k0_pay2, refV, fill]
  blk_point [iblk, V, idx t]

theorem delta (c : Dev nD) : (dats m 0 c).arrAt 4 (cfgs 0).N
    = refD (m (c.tc.loc main_arg0)) (m (c.tc.loc main_arg1)) (m (c.tc.loc main_arg2))
        (m (c.tc.loc main_arg3)) := by
  refine (dats m 0 c).arrAt_eq_of_covers 4 _ (by decide +kernel) fun t _ y => ?_
  blk_simp
  rw [after0_4]; frame_out
  pointwise [k0_pay3, k0_pay1, k0_pay2, refD, refM, refV, fill]
  blk_point [iblk, V, idx t]

theorem frame_reference : Cert.quiescent_Reference7Ideal (hReference7Ideal := Reference7Ideal.Gen.facts) :=
  fun m ρ _ => (θ_run Reference7Ideal.defs _ _).mono
    (fun r h => And.intro (fun c => (h c).2.2.2) (Idealize.ShloMosaic.sem_eq_zero_of_no_sems (by decide) r.2))
    (Reference7Ideal.Value.run (F := Ideal) m ρ)

theorem algebraic : Cert.algebraic_Kernel7Ideal_Reference7Ideal (hKernel7Ideal := Kernel7Ideal.Gen.facts)
    (hReference7Ideal := Reference7Ideal.Gen.facts) := by
  pair_intro
  · run_from Kernel7Ideal.Gen.run_main m g
  · run_from Reference7Ideal.Value.run m' g'
    · exact (delta m _).symm
    · exact (moment1 m _).symm
    · exact (moment2 m _).symm

end Cert.Kernel7Ideal.Step

end
-- ==== Proof.Step8.lean ====
/- One step of AdamW at 4 rows of 512: the kernel's three arrays over the reals are the reference's, element by element. -/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import Idealize.ShloMosaic.Lib.Pipeline.ValueKit

@[expose] public section

set_option maxRecDepth 16384

noncomputable section

namespace Cert.Kernel8Ideal.Step

open Idealize.ShloMosaic Idealize.ShloMosaic.TcCoe Idealize.SL.Sem Cert.Kernel8Ideal Kernel8Ideal.Gen
open Idealize.ShloMosaic.Pipeline (Dat)

/-- Every window's block at a point is the point's rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An array filled with one constant. -/
abbrev fill (n : BitVec 32) : FVec Ideal Reference8Ideal.S4x512 .f32 :=
  broadcastInDim Reference8Ideal.S4x512 ![] Reference8Ideal.Gen.bcast_S_S4x512 (constant Reference8Ideal.S_ .f32 n)

/-- The reference's new first moment. -/
def refM (g m : FVec Ideal Reference8Ideal.S4x512 .f32) : FVec Ideal Reference8Ideal.S4x512 .f32 :=
  addf (mulf (fill 0x3F666666#32) m) (mulf (fill 0x3DCCCCCD#32) g)

/-- The reference's new second moment. -/
def refV (g v : FVec Ideal Reference8Ideal.S4x512 .f32) : FVec Ideal Reference8Ideal.S4x512 .f32 :=
  addf (mulf (fill 0x3F7FBE77#32) v) (mulf (fill 0x3A83126F#32) (mulf g g))

/-- The reference's step. -/
def refD (w g m v : FVec Ideal Reference8Ideal.S4x512 .f32) : FVec Ideal Reference8Ideal.S4x512 .f32 :=
  mulf (fill 0xBA83126F#32) (addf (Host.divf (Host.divf (refM g m) (fill 0x3F26BD02#32))
    (addf (Host.sqrt (Host.divf (refV g v) (fill 0x3C231ACC#32))) (fill 0x322BCC77#32))) (mulf (fill 0x3C23D70A#32) w))

variable (m : (ℓ : Loc nD τ sig) → Buf (Elt Ideal) ℓ)

theorem moment1 (c : Dev nD) : (dats m 0 c).arrAt 5 (cfgs 0).N
    = refM (m (c.tc.loc main_arg1)) (m (c.tc.loc main_arg2)) := by
  refine (dats m 0 c).arrAt_eq_of_covers 5 _ (by decide +kernel) fun t _ y => ?_
  blk_simp
  rw [after0_5]; frame_out
  pointwise [k0_pay1, refM, fill]
  blk_point [iblk, V, idx t]

theorem moment2 (c : Dev nD) : (dats m 0 c).arrAt 6 (cfgs 0).N
    = refV (m (c.tc.loc main_arg1)) (m (c.tc.loc main_arg3)) := by
  refine (dats m 0 c).arrAt_eq_of_covers 6 _ (by decide +kernel) fun t _ y => ?_
  blk_simp
  rw [after0_6]; frame_out
  pointwise [k0_pay2, refV, fill]
  blk_point [iblk, V, idx t]

theorem delta (c : Dev nD) : (dats m 0 c).arrAt 4 (cfgs 0).N
    = refD (m (c.tc.loc main_arg0)) (m (c.tc.loc main_arg1)) (m (c.tc.loc main_arg2))
        (m (c.tc.loc main_arg3)) := by
  refine (dats m 0 c).arrAt_eq_of_covers 4 _ (by decide +kernel) fun t _ y => ?_
  blk_simp
  rw [after0_4]; frame_out
  pointwise [k0_pay3, k0_pay1, k0_pay2, refD, refM, refV, fill]
  blk_point [iblk, V, idx t]

theorem frame_reference : Cert.quiescent_Reference8Ideal (hReference8Ideal := Reference8Ideal.Gen.facts) :=
  fun m ρ _ => (θ_run Reference8Ideal.defs _ _).mono
    (fun r h => And.intro (fun c => (h c).2.2.2) (Idealize.ShloMosaic.sem_eq_zero_of_no_sems (by decide) r.2))
    (Reference8Ideal.Value.run (F := Ideal) m ρ)

theorem algebraic : Cert.algebraic_Kernel8Ideal_Reference8Ideal (hKernel8Ideal := Kernel8Ideal.Gen.facts)
    (hReference8Ideal := Reference8Ideal.Gen.facts) := by
  pair_intro
  · run_from Kernel8Ideal.Gen.run_main m g
  · run_from Reference8Ideal.Value.run m' g'
    · exact (delta m _).symm
    · exact (moment1 m _).symm
    · exact (moment2 m _).symm

end Cert.Kernel8Ideal.Step

end
-- ==== Proof.Step9.lean ====
/- One step of AdamW at 16 rows of 64: the kernel's three arrays over the reals are the reference's, element by element. -/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import Idealize.ShloMosaic.Lib.Pipeline.ValueKit

@[expose] public section

set_option maxRecDepth 16384

noncomputable section

namespace Cert.Kernel9Ideal.Step

open Idealize.ShloMosaic Idealize.ShloMosaic.TcCoe Idealize.SL.Sem Cert.Kernel9Ideal Kernel9Ideal.Gen
open Idealize.ShloMosaic.Pipeline (Dat)

/-- Every window's block at a point is the point's rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An array filled with one constant. -/
abbrev fill (n : BitVec 32) : FVec Ideal Reference9Ideal.S16x64 .f32 :=
  broadcastInDim Reference9Ideal.S16x64 ![] Reference9Ideal.Gen.bcast_S_S16x64 (constant Reference9Ideal.S_ .f32 n)

/-- The reference's new first moment. -/
def refM (g m : FVec Ideal Reference9Ideal.S16x64 .f32) : FVec Ideal Reference9Ideal.S16x64 .f32 :=
  addf (mulf (fill 0x3F666666#32) m) (mulf (fill 0x3DCCCCCD#32) g)

/-- The reference's new second moment. -/
def refV (g v : FVec Ideal Reference9Ideal.S16x64 .f32) : FVec Ideal Reference9Ideal.S16x64 .f32 :=
  addf (mulf (fill 0x3F7FBE77#32) v) (mulf (fill 0x3A83126F#32) (mulf g g))

/-- The reference's step. -/
def refD (w g m v : FVec Ideal Reference9Ideal.S16x64 .f32) : FVec Ideal Reference9Ideal.S16x64 .f32 :=
  mulf (fill 0xBA83126F#32) (addf (Host.divf (Host.divf (refM g m) (fill 0x3F26BD02#32))
    (addf (Host.sqrt (Host.divf (refV g v) (fill 0x3C231ACC#32))) (fill 0x322BCC77#32))) (mulf (fill 0x3C23D70A#32) w))

variable (m : (ℓ : Loc nD τ sig) → Buf (Elt Ideal) ℓ)

theorem moment1 (c : Dev nD) : (dats m 0 c).arrAt 5 (cfgs 0).N
    = refM (m (c.tc.loc main_arg1)) (m (c.tc.loc main_arg2)) := by
  refine (dats m 0 c).arrAt_eq_of_covers 5 _ (by decide +kernel) fun t _ y => ?_
  blk_simp
  rw [after0_5]; frame_out
  pointwise [k0_pay1, refM, fill]
  blk_point [iblk, V, idx t]

theorem moment2 (c : Dev nD) : (dats m 0 c).arrAt 6 (cfgs 0).N
    = refV (m (c.tc.loc main_arg1)) (m (c.tc.loc main_arg3)) := by
  refine (dats m 0 c).arrAt_eq_of_covers 6 _ (by decide +kernel) fun t _ y => ?_
  blk_simp
  rw [after0_6]; frame_out
  pointwise [k0_pay2, refV, fill]
  blk_point [iblk, V, idx t]

theorem delta (c : Dev nD) : (dats m 0 c).arrAt 4 (cfgs 0).N
    = refD (m (c.tc.loc main_arg0)) (m (c.tc.loc main_arg1)) (m (c.tc.loc main_arg2))
        (m (c.tc.loc main_arg3)) := by
  refine (dats m 0 c).arrAt_eq_of_covers 4 _ (by decide +kernel) fun t _ y => ?_
  blk_simp
  rw [after0_4]; frame_out
  pointwise [k0_pay3, k0_pay1, k0_pay2, refD, refM, refV, fill]
  blk_point [iblk, V, idx t]

theorem frame_reference : Cert.quiescent_Reference9Ideal (hReference9Ideal := Reference9Ideal.Gen.facts) :=
  fun m ρ _ => (θ_run Reference9Ideal.defs _ _).mono
    (fun r h => And.intro (fun c => (h c).2.2.2) (Idealize.ShloMosaic.sem_eq_zero_of_no_sems (by decide) r.2))
    (Reference9Ideal.Value.run (F := Ideal) m ρ)

theorem algebraic : Cert.algebraic_Kernel9Ideal_Reference9Ideal (hKernel9Ideal := Kernel9Ideal.Gen.facts)
    (hReference9Ideal := Reference9Ideal.Gen.facts) := by
  pair_intro
  · run_from Kernel9Ideal.Gen.run_main m g
  · run_from Reference9Ideal.Value.run m' g'
    · exact (delta m _).symm
    · exact (moment1 m _).symm
    · exact (moment2 m _).symm

end Cert.Kernel9Ideal.Step

end
-- ==== Proof.Step10.lean ====
/- One step of AdamW at 2048 rows of 64: the kernel's three arrays over the reals are the reference's, element by element. -/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import Idealize.ShloMosaic.Lib.Pipeline.ValueKit

@[expose] public section

set_option maxRecDepth 16384

noncomputable section

namespace Cert.Kernel10Ideal.Step

open Idealize.ShloMosaic Idealize.ShloMosaic.TcCoe Idealize.SL.Sem Cert.Kernel10Ideal Kernel10Ideal.Gen
open Idealize.ShloMosaic.Pipeline (Dat)

/-- Every window's block at a point is the point's rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An array filled with one constant. -/
abbrev fill (n : BitVec 32) : FVec Ideal Reference10Ideal.S2048x64 .f32 :=
  broadcastInDim Reference10Ideal.S2048x64 ![] Reference10Ideal.Gen.bcast_S_S2048x64 (constant Reference10Ideal.S_ .f32 n)

/-- The reference's new first moment. -/
def refM (g m : FVec Ideal Reference10Ideal.S2048x64 .f32) : FVec Ideal Reference10Ideal.S2048x64 .f32 :=
  addf (mulf (fill 0x3F666666#32) m) (mulf (fill 0x3DCCCCCD#32) g)

/-- The reference's new second moment. -/
def refV (g v : FVec Ideal Reference10Ideal.S2048x64 .f32) : FVec Ideal Reference10Ideal.S2048x64 .f32 :=
  addf (mulf (fill 0x3F7FBE77#32) v) (mulf (fill 0x3A83126F#32) (mulf g g))

/-- The reference's step. -/
def refD (w g m v : FVec Ideal Reference10Ideal.S2048x64 .f32) : FVec Ideal Reference10Ideal.S2048x64 .f32 :=
  mulf (fill 0xBA83126F#32) (addf (Host.divf (Host.divf (refM g m) (fill 0x3F26BD02#32))
    (addf (Host.sqrt (Host.divf (refV g v) (fill 0x3C231ACC#32))) (fill 0x322BCC77#32))) (mulf (fill 0x3C23D70A#32) w))

variable (m : (ℓ : Loc nD τ sig) → Buf (Elt Ideal) ℓ)

theorem moment1 (c : Dev nD) : (dats m 0 c).arrAt 5 (cfgs 0).N
    = refM (m (c.tc.loc main_arg1)) (m (c.tc.loc main_arg2)) := by
  refine (dats m 0 c).arrAt_eq_of_covers 5 _ (by decide +kernel) fun t _ y => ?_
  blk_simp
  rw [after0_5]; frame_out
  pointwise [k0_pay1, refM, fill]
  blk_point [iblk, V, idx t]

theorem moment2 (c : Dev nD) : (dats m 0 c).arrAt 6 (cfgs 0).N
    = refV (m (c.tc.loc main_arg1)) (m (c.tc.loc main_arg3)) := by
  refine (dats m 0 c).arrAt_eq_of_covers 6 _ (by decide +kernel) fun t _ y => ?_
  blk_simp
  rw [after0_6]; frame_out
  pointwise [k0_pay2, refV, fill]
  blk_point [iblk, V, idx t]

theorem delta (c : Dev nD) : (dats m 0 c).arrAt 4 (cfgs 0).N
    = refD (m (c.tc.loc main_arg0)) (m (c.tc.loc main_arg1)) (m (c.tc.loc main_arg2))
        (m (c.tc.loc main_arg3)) := by
  refine (dats m 0 c).arrAt_eq_of_covers 4 _ (by decide +kernel) fun t _ y => ?_
  blk_simp
  rw [after0_4]; frame_out
  pointwise [k0_pay3, k0_pay1, k0_pay2, refD, refM, refV, fill]
  blk_point [iblk, V, idx t]

theorem frame_reference : Cert.quiescent_Reference10Ideal (hReference10Ideal := Reference10Ideal.Gen.facts) :=
  fun m ρ _ => (θ_run Reference10Ideal.defs _ _).mono
    (fun r h => And.intro (fun c => (h c).2.2.2) (Idealize.ShloMosaic.sem_eq_zero_of_no_sems (by decide) r.2))
    (Reference10Ideal.Value.run (F := Ideal) m ρ)

theorem algebraic : Cert.algebraic_Kernel10Ideal_Reference10Ideal (hKernel10Ideal := Kernel10Ideal.Gen.facts)
    (hReference10Ideal := Reference10Ideal.Gen.facts) := by
  pair_intro
  · run_from Kernel10Ideal.Gen.run_main m g
  · run_from Reference10Ideal.Value.run m' g'
    · exact (delta m _).symm
    · exact (moment1 m _).symm
    · exact (moment2 m _).symm

end Cert.Kernel10Ideal.Step

end
-- ==== Proof.Step11.lean ====
/- One step of AdamW at 4 rows of 8: the kernel's three arrays over the reals are the reference's, element by element. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Pipeline.ValueKit

@[expose] public section

set_option maxRecDepth 16384

noncomputable section

namespace Cert.Kernel11Ideal.Step

open Idealize.ShloMosaic Idealize.ShloMosaic.TcCoe Idealize.SL.Sem Cert.Kernel11Ideal Kernel11Ideal.Gen
open Idealize.ShloMosaic.Pipeline (Dat)

/-- Every window's block at a point is the point's rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An array filled with one constant. -/
abbrev fill (n : BitVec 32) : FVec Ideal Reference11Ideal.S4x8 .f32 :=
  broadcastInDim Reference11Ideal.S4x8 ![] Reference11Ideal.Gen.bcast_S_S4x8 (constant Reference11Ideal.S_ .f32 n)

/-- The reference's new first moment. -/
def refM (g m : FVec Ideal Reference11Ideal.S4x8 .f32) : FVec Ideal Reference11Ideal.S4x8 .f32 :=
  addf (mulf (fill 0x3F666666#32) m) (mulf (fill 0x3DCCCCCD#32) g)

/-- The reference's new second moment. -/
def refV (g v : FVec Ideal Reference11Ideal.S4x8 .f32) : FVec Ideal Reference11Ideal.S4x8 .f32 :=
  addf (mulf (fill 0x3F7FBE77#32) v) (mulf (fill 0x3A83126F#32) (mulf g g))

/-- The reference's step. -/
def refD (w g m v : FVec Ideal Reference11Ideal.S4x8 .f32) : FVec Ideal Reference11Ideal.S4x8 .f32 :=
  mulf (fill 0xBA83126F#32) (addf (Host.divf (Host.divf (refM g m) (fill 0x3F26BD02#32))
    (addf (Host.sqrt (Host.divf (refV g v) (fill 0x3C231ACC#32))) (fill 0x322BCC77#32))) (mulf (fill 0x3C23D70A#32) w))

variable (m : (ℓ : Loc nD τ sig) → Buf (Elt Ideal) ℓ)

theorem moment1 (c : Dev nD) : (dats m 0 c).arrAt 5 (cfgs 0).N
    = refM (m (c.tc.loc main_arg1)) (m (c.tc.loc main_arg2)) := by
  refine (dats m 0 c).arrAt_eq_of_covers 5 _ (by decide +kernel) fun t _ y => ?_
  blk_simp
  rw [after0_5]; frame_out
  pointwise [k0_pay1, refM, fill]
  blk_point [iblk, V, idx t]

theorem moment2 (c : Dev nD) : (dats m 0 c).arrAt 6 (cfgs 0).N
    = refV (m (c.tc.loc main_arg1)) (m (c.tc.loc main_arg3)) := by
  refine (dats m 0 c).arrAt_eq_of_covers 6 _ (by decide +kernel) fun t _ y => ?_
  blk_simp
  rw [after0_6]; frame_out
  pointwise [k0_pay2, refV, fill]
  blk_point [iblk, V, idx t]

theorem delta (c : Dev nD) : (dats m 0 c).arrAt 4 (cfgs 0).N
    = refD (m (c.tc.loc main_arg0)) (m (c.tc.loc main_arg1)) (m (c.tc.loc main_arg2))
        (m (c.tc.loc main_arg3)) := by
  refine (dats m 0 c).arrAt_eq_of_covers 4 _ (by decide +kernel) fun t _ y => ?_
  blk_simp
  rw [after0_4]; frame_out
  pointwise [k0_pay3, k0_pay1, k0_pay2, refD, refM, refV, fill]
  blk_point [iblk, V, idx t]

theorem frame_reference : Cert.quiescent_Reference11Ideal (hReference11Ideal := Reference11Ideal.Gen.facts) :=
  fun m ρ _ => (θ_run Reference11Ideal.defs _ _).mono
    (fun r h => And.intro (fun c => (h c).2.2.2) (Idealize.ShloMosaic.sem_eq_zero_of_no_sems (by decide) r.2))
    (Reference11Ideal.Value.run (F := Ideal) m ρ)

theorem algebraic : Cert.algebraic_Kernel11Ideal_Reference11Ideal (hKernel11Ideal := Kernel11Ideal.Gen.facts)
    (hReference11Ideal := Reference11Ideal.Gen.facts) := by
  pair_intro
  · run_from Kernel11Ideal.Gen.run_main m g
  · run_from Reference11Ideal.Value.run m' g'
    · exact (delta m _).symm
    · exact (moment1 m _).symm
    · exact (moment2 m _).symm

end Cert.Kernel11Ideal.Step

end
-- ==== Proof.Half12Blocks.lean ====
/- What one grid point of the half step's forward kernel computes, as functions of the blocks it reads: a block of rows, the norm's gain and bias, and the
   three weight matrices reassembled from the exchange buffer. -/
module

public import proofs.«01_k».proof.Proof.Gen.Kernel12Ideal.Frame.Runs
public import Idealize.ShloMosaic.Lib.Pipeline.ValueKit
public import Idealize.ShloMosaic.Lib.ValueLayout

@[expose] public section

set_option maxRecDepth 16384

noncomputable section

namespace Cert.Kernel12Ideal.Half

open Idealize.ShloMosaic Kernel12Ideal.Gen

variable {F : FTy → Type} [FloatOps F]

/-- A matrix packed in the exchange buffer: device `k` holds rows `off .. off + 352` of its slab, and the slabs follow one another. -/
def shard (off : ℕ) (h : off + 352 ≤ 1056) (f : S8x1056x1024.Idx → Elt F .bf16) : Vec F S2816x1024 .bf16 := fun y =>
  f (ix3 (⟨(y 0).val / 352, by have : (y 0).val < 2816 := (y 0).isLt; omega⟩ : Fin 8)
    (⟨off + (y 0).val % 352, by have := Nat.mod_lt (y 0).val (by decide : 0 < 352); omega⟩ : Fin 1056) (y 1))

/-- The gate's projection. -/
def fGate (h : Vec F S256x1024 .f32) (wg : Vec F S2816x1024 .bf16) : Vec F S256x2816 .f32 := k0_pay4 h wg

/-- The up projection. -/
def fUp (h : Vec F S256x1024 .f32) (wu : Vec F S2816x1024 .bf16) : Vec F S256x2816 .f32 := k0_pay5 h wu

/-- The norm's input. -/
def fSum (h : Vec F S256x1024 .f32) (wg wu wd : Vec F S2816x1024 .bf16) : Vec F S256x1024 .f32 := k0_pay6 h wg wu wd

/-- The half step's output. -/
def fOut (h : Vec F S256x1024 .f32) (lg lb : Vec F S1x1024 .f32) (wg wu wd : Vec F S2816x1024 .bf16) : Vec F S256x1024 .f32 :=
  k0_pay1 (k0_pay6 h wg wu wd) (k0_pay7 h wg wu wd) lg lb

/-- The half step's output, rounded. -/
def fOutR (h : Vec F S256x1024 .f32) (lg lb : Vec F S1x1024 .f32) (wg wu wd : Vec F S2816x1024 .bf16) : Vec F S256x1024 .bf16 :=
  k0_pay2 (k0_pay6 h wg wu wd) (k0_pay7 h wg wu wd) lg lb

/-- A slab of the exchange buffer, read as a matrix of 352 rows. -/
theorem slab_read (f : S8x1056x1024.Idx → Elt F .bf16) (k off : ℕ) (hk : k < 8) (ho : off + 352 ≤ 1056)
    (inb : ∀ a, (![k, off, 0] : Fin 3 → ℕ) a + (![1, 352, 1024] : Fin 3 → ℕ) a ≤ S8x1056x1024.size a)
    (hr : S352x1024.numel = (Rect.unit (s := S8x1056x1024) ![k, off, 0] ![1, 352, 1024] inb).shape.numel) (x : S352x1024.Idx) :
    f ((Rect.unit (s := S8x1056x1024) ![k, off, 0] ![1, 352, 1024] inb).emb (Shape.reshapeEquiv hr x))
      = f (ix3 (⟨k, hk⟩ : Fin 8) (⟨off + (x 0).val, by have : (x 0).val < 352 := (x 0).isLt; omega⟩ : Fin 1056) (x 1)) := by
  have e : Shape.reshapeEquiv hr x = (ix3 (0 : Fin 1) (x 0) (x 1) : (⟨3, ![1, 352, 1024]⟩ : Shape).Idx) := by
    rw [show x = ix2 (x 0) (x 1) from (ix2_eta x).symm]; exact ValueIdx.reshapeEquiv_ix2_1ab _ _ _
  rw [e]; congr 1; funext a; apply Fin.ext
  match a with
  | ⟨0, _⟩ => show k + 1 * 0 = k; omega
  | ⟨1, _⟩ => show off + 1 * (x 0).val = off + (x 0).val; omega
  | ⟨2, _⟩ => show 0 + 1 * (x 1).val = (x 1).val; omega

/-- The slab of device `k`, as the copy that fills rows `352 k .. 352 k + 352` of the scratch delivers it. -/
def piece (f : S8x1056x1024.Idx → Elt F .bf16) (k off o : ℕ)
    (ino : ∀ a, (![o, 0] : Fin 2 → ℕ) a + (![352, 1024] : Fin 2 → ℕ) a ≤ S2816x1024.size a)
    (inb : ∀ a, (![k, off, 0] : Fin 3 → ℕ) a + (![1, 352, 1024] : Fin 3 → ℕ) a ≤ S8x1056x1024.size a)
    (hr : S352x1024.numel = (Rect.unit (s := S8x1056x1024) ![k, off, 0] ![1, 352, 1024] inb).shape.numel) :
    View.Piece (Elt F) S2816x1024 .bf16 :=
  ⟨Rect.unit ![o, 0] ![352, 1024] ino,
    fun x => f ((Rect.unit (s := S8x1056x1024) ![k, off, 0] ![1, 352, 1024] inb).emb (Shape.reshapeEquiv hr x))⟩

theorem piece_apply (f : S8x1056x1024.Idx → Elt F .bf16) (k off o : ℕ) (hk : k < 8) (ho : o = 352 * k) (hoff : off + 352 ≤ 1056) (ino) (inb) (hr) (x) :
    (piece f k off o ino inb hr).2 x = shard off hoff f ((piece f k off o ino inb hr).1.emb x) := by
  refine (slab_read f k off hk hoff inb hr x).trans ?_
  subst ho
  have h0 : (x 0).val < 352 := (x 0).isLt
  unfold shard; congr 1; funext a; apply Fin.ext
  match a with
  | ⟨0, _⟩ => show k = (352 * k + 1 * (x 0).val) / 352; omega
  | ⟨1, _⟩ => show off + (x 0).val = off + (352 * k + 1 * (x 0).val) % 352; omega
  | ⟨2, _⟩ => show (x 1).val = 0 + 1 * (x 1).val; omega

/-- The eight copies fill the scratch with the reassembled matrix. -/
theorem canon_shard (f : S8x1056x1024.Idx → Elt F .bf16) (off : ℕ) (hoff : off + 352 ≤ 1056) (i0 i1 i2 i3 i4 i5 i6 i7 b0 b1 b2 b3 b4 b5 b6 b7 r0 r1 r2 r3 r4 r5 r6 r7) :
    View.canon [piece f 7 off 2464 i7 b7 r7, piece f 6 off 2112 i6 b6 r6, piece f 5 off 1760 i5 b5 r5, piece f 4 off 1408 i4 b4 r4,
      piece f 3 off 1056 i3 b3 r3, piece f 2 off 704 i2 b2 r2, piece f 1 off 352 i1 b1 r1, piece f 0 off 0 i0 b0 r0] = shard off hoff f := by
  funext y
  refine View.canon_apply_of_pieces (shard off hoff f) _ ?_ y ?_
  · intro p hp
    simp only [List.mem_cons, List.not_mem_nil, or_false] at hp
    rcases hp with rfl | rfl | rfl | rfl | rfl | rfl | rfl | rfl <;> exact piece_apply f _ _ _ (by decide) (by decide) hoff _ _ _
  · exact View.cover_of_tiledL _ ![352, 1024] (by sl_kernel_rfl) y

/-- A whole load of the scratch after the eight copies reads the reassembled matrix. -/
theorem load_shard (v : View sig .tc .vmem S2816x1024 .bf16) (f : S8x1056x1024.Idx → Elt F .bf16) (off : ℕ) (hoff : off + 352 ≤ 1056) (ib)
    (i0 i1 i2 i3 i4 i5 i6 i7 b0 b1 b2 b3 b4 b5 b6 b7 r0 r1 r2 r3 r4 r5 r6 r7) :
    v.readCov [piece f 7 off 2464 i7 b7 r7, piece f 6 off 2112 i6 b6 r6, piece f 5 off 1760 i5 b5 r5, piece f 4 off 1408 i4 b4 r4,
      piece f 3 off 1056 i3 b3 r3, piece f 2 off 704 i2 b2 r2, piece f 1 off 352 i1 b1 r1, piece f 0 off 0 i0 b0 r0]
      (Rect.unit (s := S2816x1024) ![0, 0] ![2816, 1024] ib).toLoadRect = shard off hoff f := by
  rw [View.readCov_eq_canon_ld _ _ _ (View.cover_of_tiledL _ ![352, 1024] (by sl_kernel_rfl)), canon_shard f off hoff]
  exact View.ld_unit_lit' _ _ (by decide)

end Cert.Kernel12Ideal.Half

end
-- ==== Proof.Half12Next.lean ====
/- A grid point of the half step forward after the first: the weights are already in the scratch. -/
module

public import proofs.«01_k».proof.Proof.Half12Blocks

@[expose] public section

set_option maxRecDepth 16384

noncomputable section

namespace Cert.Kernel12Ideal.Half

open Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1200000 in
/-- The body at such a point leaves each output block at its function of the blocks it read, and the scratch as it was. -/
theorem next_point (c : Dev nD) (i : grid0.Coords)
    (arg1 : Memref sig .tc .vmem S256x1024 .f32) (harg1 : arg1.IsWhole)
    (arg3 : Memref sig .tc .vmem S1x1024 .f32) (harg3 : arg3.IsWhole)
    (arg4 : Memref sig .tc .vmem S1x1024 .f32) (harg4 : arg4.IsWhole)
    (arg5 : Memref sig .tc .vmem S256x1024 .f32) (harg5 : arg5.IsWhole)
    (arg6 : Memref sig .tc .vmem S256x2816 .f32) (harg6 : arg6.IsWhole)
    (arg7 : Memref sig .tc .vmem S256x2816 .f32) (harg7 : arg7.IsWhole)
    (arg8 : Memref sig .tc .vmem S256x1024 .f32) (harg8 : arg8.IsWhole)
    (arg9 : Memref sig .tc .vmem S256x1024 .bf16) (harg9 : arg9.IsWhole)
    (arg10 : Memref sig .tc .vmem S2816x1024 .bf16) (harg10 : arg10.IsWhole)
    (arg11 : Memref sig .tc .vmem S2816x1024 .bf16) (harg11 : arg11.IsWhole)
    (arg12 : Memref sig .tc .vmem S2816x1024 .bf16) (harg12 : arg12.IsWhole)
    (hc0 : ¬cond0_0 i)
    (x0 : Vec F S256x1024 .f32) (x1 : Vec F S1x1024 .f32) (x2 : Vec F S1x1024 .f32)
    (w0 w1 w2 : Vec F S2816x1024 .bf16)
    (K : PUnit → sProp 𝕄) :
    iprop(owns (c : Thread nD τ) arg1 fullShare x0 ∗
      owns (c : Thread nD τ) arg3 fullShare x1 ∗
      owns (c : Thread nD τ) arg4 fullShare x2 ∗
      (∃ d, owns (c : Thread nD τ) arg5 fullShare d) ∗
      (∃ d, owns (c : Thread nD τ) arg6 fullShare d) ∗
      (∃ d, owns (c : Thread nD τ) arg7 fullShare d) ∗
      (∃ d, owns (c : Thread nD τ) arg8 fullShare d) ∗
      (∃ d, owns (c : Thread nD τ) arg9 fullShare d) ∗
      owns (c : Thread nD τ) arg10 fullShare w0 ∗
      owns (c : Thread nD τ) arg11 fullShare w1 ∗
      owns (c : Thread nD τ) arg12 fullShare w2
      ∗ (iprop(owns (c : Thread nD τ) arg1 fullShare x0 ∗
      owns (c : Thread nD τ) arg3 fullShare x1 ∗
      owns (c : Thread nD τ) arg4 fullShare x2 ∗
      owns (c : Thread nD τ) arg5 fullShare (fOut x0 x1 x2 w0 w1 w2) ∗
      owns (c : Thread nD τ) arg6 fullShare (fGate x0 w0) ∗
      owns (c : Thread nD τ) arg7 fullShare (fUp x0 w1) ∗
      owns (c : Thread nD τ) arg8 fullShare (fSum x0 w0 w1 w2) ∗
      owns (c : Thread nD τ) arg9 fullShare (fOutR x0 x1 x2 w0 w1 w2) ∗
      owns (c : Thread nD τ) arg10 fullShare w0 ∗
      owns (c : Thread nD τ) arg11 fullShare w1 ∗
      owns (c : Thread nD τ) arg12 fullShare w2) -∗ K ⟨⟩))
      ⊢ wp frame (wpE (defs₀ (F := F)) Variants.none c none) Set.univ
        (cc0_ffn1_fwd i arg1 harg1 (Memref.whole main_v8) (Memref.isWhole_whole _) arg3 harg3 arg4 harg4 arg5 harg5 arg6 harg6 arg7 harg7 arg8 harg8 arg9 harg9 arg10 harg10 arg11 harg11 arg12 harg12 cc0_scratch3) K := by
  simp only [cc0_ffn1_fwd_eq_skeleton]; unfold cc0_ffn1_fwd_skel
  simp only [k0_part11_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
  obtain rfl := harg1.eq_unread hf0
  obtain rfl := harg3.eq_unread hf1
  obtain rfl := harg4.eq_unread hf2
  obtain rfl := harg10.eq_unread hfs0
  obtain rfl := harg11.eq_unread hfs1
  obtain rfl := harg12.eq_unread hfs2
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; iexact H3; ipureintro
    rw [View.read_writes_eq_canon _ _ _ (View.cover_of_tiledL _ S256x1024.size (by sl_kernel_rfl))]; frame_out
    rfl
  isplitl [H4]
  · iexists _; isplitr; swap; iexact H4; ipureintro
    rw [View.read_writes_eq_canon _ _ _ (View.cover_of_tiledL _ S256x2816.size (by sl_kernel_rfl))]; frame_out
    rfl
  isplitl [H5]
  · iexists _; isplitr; swap; iexact H5; ipureintro
    rw [View.read_writes_eq_canon _ _ _ (View.cover_of_tiledL _ S256x2816.size (by sl_kernel_rfl))]; frame_out
    rfl
  isplitl [H6]
  · iexists _; isplitr; swap; iexact H6; ipureintro
    rw [View.read_writes_eq_canon _ _ _ (View.cover_of_tiledL _ S256x1024.size (by sl_kernel_rfl))]; frame_out
    rfl
  isplitl [H7]
  · iexists _; isplitr; swap; iexact H7; ipureintro
    rw [View.read_writes_eq_canon _ _ _ (View.cover_of_tiledL _ S256x1024.size (by sl_kernel_rfl))]; frame_out
    rfl
  isplitl [HS0]
  · iexists _; isplitr; · ipureintro; exact harg10.read_unread _
    iexact HS0
  isplitl [HS1]
  · iexists _; isplitr; · ipureintro; exact harg11.read_unread _
    iexact HS1
  iexists _; isplitr; · ipureintro; exact harg12.read_unread _
  iexact HS2

end Cert.Kernel12Ideal.Half

end
-- ==== Proof.Half12First.lean ====
/- The first grid point of the half step forward: it copies the three weight matrices into the scratch, slab by slab, before it computes its rows. -/
module

public import proofs.«01_k».proof.Proof.Half12Next

@[expose] public section

set_option maxRecDepth 16384

noncomputable section

namespace Cert.Kernel12Ideal.Half

open Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The counters of the copies, all at zero. -/
def cells (c : Dev nD) : sProp 𝕄 :=
  iprop(semVal ((c : Thread nD τ), SemLoc.dma 14) 0 ∗
    semVal ((c : Thread nD τ), SemLoc.dma 15) 0 ∗
    semVal ((c : Thread nD τ), SemLoc.dma 16) 0 ∗
    semVal ((c : Thread nD τ), SemLoc.dma 17) 0 ∗
    semVal ((c : Thread nD τ), SemLoc.dma 18) 0 ∗
    semVal ((c : Thread nD τ), SemLoc.dma 19) 0 ∗
    semVal ((c : Thread nD τ), SemLoc.dma 20) 0 ∗
    semVal ((c : Thread nD τ), SemLoc.dma 21) 0 ∗
    semVal ((c : Thread nD τ), SemLoc.dma 22) 0 ∗
    semVal ((c : Thread nD τ), SemLoc.dma 23) 0 ∗
    semVal ((c : Thread nD τ), SemLoc.dma 24) 0 ∗
    semVal ((c : Thread nD τ), SemLoc.dma 25) 0 ∗
    semVal ((c : Thread nD τ), SemLoc.dma 26) 0 ∗
    semVal ((c : Thread nD τ), SemLoc.dma 27) 0 ∗
    semVal ((c : Thread nD τ), SemLoc.dma 28) 0 ∗
    semVal ((c : Thread nD τ), SemLoc.dma 29) 0 ∗
    semVal ((c : Thread nD τ), SemLoc.dma 30) 0 ∗
    semVal ((c : Thread nD τ), SemLoc.dma 31) 0 ∗
    semVal ((c : Thread nD τ), SemLoc.dma 32) 0 ∗
    semVal ((c : Thread nD τ), SemLoc.dma 33) 0 ∗
    semVal ((c : Thread nD τ), SemLoc.dma 34) 0 ∗
    semVal ((c : Thread nD τ), SemLoc.dma 35) 0 ∗
    semVal ((c : Thread nD τ), SemLoc.dma 36) 0 ∗
    semVal ((c : Thread nD τ), SemLoc.dma 37) 0)

theorem congr3 {α β γ δ : Type} (f : α → β → γ → δ) {a a' : α} {b b' : β} {g g' : γ} (h : a = a') (h' : b = b') (h'' : g = g') :
    f a b g = f a' b' g' := by subst h h' h''; rfl

set_option sl_exec.dmaWindow true in
set_option sl_exec.dmaWindowSet true in
set_option maxHeartbeats 2400000 in
/-- The body at the first point: the scratch ends at the reassembled weights, and each output block at its function of the blocks read. -/
theorem first_point (c : Dev nD) (i : grid0.Coords)
    (arg1 : Memref sig .tc .vmem S256x1024 .f32) (harg1 : arg1.IsWhole)
    (arg3 : Memref sig .tc .vmem S1x1024 .f32) (harg3 : arg3.IsWhole)
    (arg4 : Memref sig .tc .vmem S1x1024 .f32) (harg4 : arg4.IsWhole)
    (arg5 : Memref sig .tc .vmem S256x1024 .f32) (harg5 : arg5.IsWhole)
    (arg6 : Memref sig .tc .vmem S256x2816 .f32) (harg6 : arg6.IsWhole)
    (arg7 : Memref sig .tc .vmem S256x2816 .f32) (harg7 : arg7.IsWhole)
    (arg8 : Memref sig .tc .vmem S256x1024 .f32) (harg8 : arg8.IsWhole)
    (arg9 : Memref sig .tc .vmem S256x1024 .bf16) (harg9 : arg9.IsWhole)
    (arg10 : Memref sig .tc .vmem S2816x1024 .bf16) (harg10 : arg10.IsWhole)
    (arg11 : Memref sig .tc .vmem S2816x1024 .bf16) (harg11 : arg11.IsWhole)
    (arg12 : Memref sig .tc .vmem S2816x1024 .bf16) (harg12 : arg12.IsWhole)
    (hc0 : cond0_0 i)
    (x0 : Vec F S256x1024 .f32) (x1 : Vec F S1x1024 .f32) (x2 : Vec F S1x1024 .f32)
    (fh : HbBuf0 (F := F) c hbM0_0) (W : Waits sig Unit) (K : PUnit → sProp 𝕄) :
    iprop(owns (c : Thread nD τ) arg1 fullShare x0 ∗
      owns (c : Thread nD τ) arg3 fullShare x1 ∗
      owns (c : Thread nD τ) arg4 fullShare x2 ∗
      (∃ d, owns (c : Thread nD τ) arg5 fullShare d) ∗
      (∃ d, owns (c : Thread nD τ) arg6 fullShare d) ∗
      (∃ d, owns (c : Thread nD τ) arg7 fullShare d) ∗
      (∃ d, owns (c : Thread nD τ) arg8 fullShare d) ∗
      (∃ d, owns (c : Thread nD τ) arg9 fullShare d) ∗
      (∃ d, owns (c : Thread nD τ) arg10 fullShare d) ∗
      (∃ d, owns (c : Thread nD τ) arg11 fullShare d) ∗
      (∃ d, owns (c : Thread nD τ) arg12 fullShare d) ∗ cells c ∗ hbPt0 c hbM0_0 fh ∗ owes (c : Thread nD τ) 0 W
      ∗ (iprop(owns (c : Thread nD τ) arg1 fullShare x0 ∗
      owns (c : Thread nD τ) arg3 fullShare x1 ∗
      owns (c : Thread nD τ) arg4 fullShare x2 ∗
      owns (c : Thread nD τ) arg5 fullShare (fOut x0 x1 x2 (shard 0 (by decide) fh) (shard 352 (by decide) fh) (shard 704 (by decide) fh)) ∗
      owns (c : Thread nD τ) arg6 fullShare (fGate x0 (shard 0 (by decide) fh)) ∗
      owns (c : Thread nD τ) arg7 fullShare (fUp x0 (shard 352 (by decide) fh)) ∗
      owns (c : Thread nD τ) arg8 fullShare (fSum x0 (shard 0 (by decide) fh) (shard 352 (by decide) fh) (shard 704 (by decide) fh)) ∗
      owns (c : Thread nD τ) arg9 fullShare (fOutR x0 x1 x2 (shard 0 (by decide) fh) (shard 352 (by decide) fh) (shard 704 (by decide) fh)) ∗
      owns (c : Thread nD τ) arg10 fullShare (shard 0 (by decide) fh) ∗
      owns (c : Thread nD τ) arg11 fullShare (shard 352 (by decide) fh) ∗
      owns (c : Thread nD τ) arg12 fullShare (shard 704 (by decide) fh) ∗
      cells c ∗ hbPt0 c hbM0_0 fh ∗ (∃ W', owes (c : Thread nD τ) 0 W')) -∗ K ⟨⟩))
      ⊢ wp frame (wpE (defs₀ (F := F)) Variants.none c none) Set.univ
        (cc0_ffn1_fwd i arg1 harg1 (Memref.whole main_v8) (Memref.isWhole_whole _) arg3 harg3 arg4 harg4 arg5 harg5 arg6 harg6 arg7 harg7 arg8 harg8 arg9 harg9 arg10 harg10 arg11 harg11 arg12 harg12 cc0_scratch3) K := by
  simp only [cc0_ffn1_fwd_eq_skeleton]; unfold cc0_ffn1_fwd_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns; unfold cells
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0, HW, Hk⟩
  obtain rfl := harg1.eq_unread hf0
  obtain rfl := harg3.eq_unread hf1
  obtain rfl := harg4.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; iexact H3; ipureintro
    rw [View.read_writes_eq_canon _ _ _ (View.cover_of_tiledL _ S256x1024.size (by sl_kernel_rfl))]; frame_out
    exact congr3 (fun w0 w1 w2 => fOut x0 x1 x2 w0 w1 w2) (load_shard _ fh 0 (by decide) _ _ _ _ _ _ _ _ _ _ _ _ _ _ _ _ _ _ _ _ _ _ _ _ _ )
      (load_shard _ fh 352 (by decide) _ _ _ _ _ _ _ _ _ _ _ _ _ _ _ _ _ _ _ _ _ _ _ _ _ )
      (load_shard _ fh 704 (by decide) _ _ _ _ _ _ _ _ _ _ _ _ _ _ _ _ _ _ _ _ _ _ _ _ _ )
  isplitl [H4]
  · iexists _; isplitr; swap; iexact H4; ipureintro
    rw [View.read_writes_eq_canon _ _ _ (View.cover_of_tiledL _ S256x2816.size (by sl_kernel_rfl))]; frame_out
    exact congrArg (fun w0 => fGate x0 w0) (load_shard _ fh 0 (by decide) _ _ _ _ _ _ _ _ _ _ _ _ _ _ _ _ _ _ _ _ _ _ _ _ _ )
  isplitl [H5]
  · iexists _; isplitr; swap; iexact H5; ipureintro
    rw [View.read_writes_eq_canon _ _ _ (View.cover_of_tiledL _ S256x2816.size (by sl_kernel_rfl))]; frame_out
    exact congrArg (fun w1 => fUp x0 w1) (load_shard _ fh 352 (by decide) _ _ _ _ _ _ _ _ _ _ _ _ _ _ _ _ _ _ _ _ _ _ _ _ _ )
  isplitl [H6]
  · iexists _; isplitr; swap; iexact H6; ipureintro
    rw [View.read_writes_eq_canon _ _ _ (View.cover_of_tiledL _ S256x1024.size (by sl_kernel_rfl))]; frame_out
    exact congr3 (fun w0 w1 w2 => fSum x0 w0 w1 w2) (load_shard _ fh 0 (by decide) _ _ _ _ _ _ _ _ _ _ _ _ _ _ _ _ _ _ _ _ _ _ _ _ _ )
      (load_shard _ fh 352 (by decide) _ _ _ _ _ _ _ _ _ _ _ _ _ _ _ _ _ _ _ _ _ _ _ _ _ )
      (load_shard _ fh 704 (by decide) _ _ _ _ _ _ _ _ _ _ _ _ _ _ _ _ _ _ _ _ _ _ _ _ _ )
  isplitl [H7]
  · iexists _; isplitr; swap; iexact H7; ipureintro
    rw [View.read_writes_eq_canon _ _ _ (View.cover_of_tiledL _ S256x1024.size (by sl_kernel_rfl))]; frame_out
    exact congr3 (fun w0 w1 w2 => fOutR x0 x1 x2 w0 w1 w2) (load_shard _ fh 0 (by decide) _ _ _ _ _ _ _ _ _ _ _ _ _ _ _ _ _ _ _ _ _ _ _ _ _ )
      (load_shard _ fh 352 (by decide) _ _ _ _ _ _ _ _ _ _ _ _ _ _ _ _ _ _ _ _ _ _ _ _ _ )
      (load_shard _ fh 704 (by decide) _ _ _ _ _ _ _ _ _ _ _ _ _ _ _ _ _ _ _ _ _ _ _ _ _ )
  isplitl [HS0]
  · iexists _; isplitr; swap; iexact HS0; ipureintro
    rw [View.read_writes_eq_canon _ _ _ (View.cover_of_tiledL _ ![352, 1024] (by sl_kernel_rfl))]; frame_out
    exact canon_shard fh 0 (by decide) _ _ _ _ _ _ _ _ _ _ _ _ _ _ _ _ _ _ _ _ _ _ _ _
  isplitl [HS1]
  · iexists _; isplitr; swap; iexact HS1; ipureintro
    rw [View.read_writes_eq_canon _ _ _ (View.cover_of_tiledL _ ![352, 1024] (by sl_kernel_rfl))]; frame_out
    exact canon_shard fh 352 (by decide) _ _ _ _ _ _ _ _ _ _ _ _ _ _ _ _ _ _ _ _ _ _ _ _
  isplitl [HS2]
  · iexists _; isplitr; swap; iexact HS2; ipureintro
    rw [View.read_writes_eq_canon _ _ _ (View.cover_of_tiledL _ ![352, 1024] (by sl_kernel_rfl))]; frame_out
    exact canon_shard fh 704 (by decide) _ _ _ _ _ _ _ _ _ _ _ _ _ _ _ _ _ _ _ _ _ _ _ _
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; iexact Hq0
    isplitl [Hq1]; iexact Hq1
    isplitl [Hq2]; iexact Hq2
    isplitl [Hq3]; iexact Hq3
    isplitl [Hq4]; iexact Hq4
    isplitl [Hq5]; iexact Hq5
    isplitl [Hq6]; iexact Hq6
    isplitl [Hq7]; iexact Hq7
    isplitl [Hq8]; iexact Hq8
    isplitl [Hq9]; iexact Hq9
    isplitl [Hq10]; iexact Hq10
    isplitl [Hq11]; iexact Hq11
    isplitl [Hq12]; iexact Hq12
    isplitl [Hq13]; iexact Hq13
    isplitl [Hq14]; iexact Hq14
    isplitl [Hq15]; iexact Hq15
    isplitl [Hq16]; iexact Hq16
    isplitl [Hq17]; iexact Hq17
    isplitl [Hq18]; iexact Hq18
    isplitl [Hq19]; iexact Hq19
    isplitl [Hq20]; iexact Hq20
    isplitl [Hq21]; iexact Hq21
    isplitl [Hq22]; iexact Hq22
    iexact Hq23
  isplitl [Hh0]; · iexact Hh0
  iexists _; iexact HW

end Cert.Kernel12Ideal.Half

end
-- ==== Proof.Half12Frame.lean ====
/- The whole run of the half step's forward kernel: what each staging buffer, the scratch and the copy counters hold before and after every grid point. -/
module

public import proofs.«01_k».proof.Proof.Half12First

@[expose] public section

set_option maxRecDepth 16384

noncomputable section

namespace Cert.Kernel12Ideal.Half

open Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the scratch holds them after the first point. -/
def wt0 (c : Dev nD) : Vec F S2816x1024 .bf16 := shard 0 (by decide) (V m c main_v8)
def wt1 (c : Dev nD) : Vec F S2816x1024 .bf16 := shard 352 (by decide) (V m c main_v8)
def wt2 (c : Dev nD) : Vec F S2816x1024 .bf16 := shard 704 (by decide) (V m c main_v8)

/-- What every point keeps: the generator register, the copy counters at zero, and what is left in main memory. -/
def kept (c : Dev nD) : sProp 𝕄 :=
  iprop((∃ r, prngReg c r) ∗ cells c ∗ hbPt0 c hbM0_0 (V m c main_v8))

/-- The scratch at anything, as the first point finds it. -/
def scratchAny (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d))

/-- The scratch at the weights, as every later point finds it. -/
def scratchSet (c : Dev nD) : sProp 𝕄 :=
  iprop(owns (c : Thread nD τ) scM0_0 fullShare (wt0 m c) ∗ owns (c : Thread nD τ) scM0_1 fullShare (wt1 m c) ∗ owns (c : Thread nD τ) scM0_2 fullShare (wt2 m c))

theorem launch_eq (c : Dev nD) : (Pipeline.ΦD osem0 spec0 H0 (V m) c : sProp 𝕄) = iprop(scratchAny c ∗ kept m c) := by
  rw [PhiD0_eq]; rfl

/-- What holds before point `n`. -/
def inv (c : Dev nD) : (n : ℕ) → n ≤ cfg0.N → sProp 𝕄
  | 0, _ => iprop(scratchAny c ∗ kept m c)
  | _ + 1, _ => iprop(scratchSet m c ∗ kept m c)

theorem inv_first (c : Dev nD) (n : ℕ) (h : n ≤ cfg0.N) (hz : n = 0) : inv m c n h = iprop(scratchAny c ∗ kept m c) := by
  subst hz; rfl

theorem inv_next (c : Dev nD) (n : ℕ) (h : n ≤ cfg0.N) (hz : n ≠ 0) : inv m c n h = iprop(scratchSet m c ∗ kept m c) := by
  cases n with
  | zero => exact absurd rfl hz
  | succ n => rfl

/-- The arrays at the start, what the body leaves in each window's buffer, and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fOut (iblk m c 0 t) (iblk m c 1 t) (iblk m c 2 t) (wt0 m c) (wt1 m c) (wt2 m c)
    | ⟨4, _⟩ => fGate (iblk m c 0 t) (wt0 m c)
    | ⟨5, _⟩ => fUp (iblk m c 0 t) (wt1 m c)
    | ⟨6, _⟩ => fSum (iblk m c 0 t) (wt0 m c) (wt1 m c) (wt2 m c)
    | ⟨7, _⟩ => fOutR (iblk m c 0 t) (iblk m c 1 t) (iblk m c 2 t) (wt0 m c) (wt1 m c) (wt2 m c)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = fOut (iblk m c 0 t) (iblk m c 1 t) (iblk m c 2 t) (wt0 m c) (wt1 m c) (wt2 m c) := by dsimp only [dats]
theorem after_4 (c : Dev nD) (t : Fin cfg0.N) : (dats m 0 c).after 4 t = fGate (iblk m c 0 t) (wt0 m c) := by dsimp only [dats]
theorem after_5 (c : Dev nD) (t : Fin cfg0.N) : (dats m 0 c).after 5 t = fUp (iblk m c 0 t) (wt1 m c) := by dsimp only [dats]
theorem after_6 (c : Dev nD) (t : Fin cfg0.N) : (dats m 0 c).after 6 t = fSum (iblk m c 0 t) (wt0 m c) (wt1 m c) (wt2 m c) := by dsimp only [dats]
theorem after_7 (c : Dev nD) (t : Fin cfg0.N) : (dats m 0 c).after 7 t = fOutR (iblk m c 0 t) (iblk m c 1 t) (iblk m c 2 t) (wt0 m c) (wt1 m c) (wt2 m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = iprop(scratchSet m c ∗ kept m c) from rfl,
    after_0, after_1, after_2, after_3, after_4, after_5, after_6, after_7]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases hz : t.val = 0
  · rw [inv_castSucc m c t, inv_first m c _ _ hz]
    unfold scratchAny scratchSet kept wt0 wt1 wt2
    iintro ⟨⟨⟨HS0, HS1, HS2⟩, ⟨Hg, Hq, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (first_point c (grid0.coords t) _ _ _ _ _ _ _ _ _ _ _ _ _ _ _ _ _ _ _ _ _ _  ((hcond0_0 t).mpr (by omega))
      (iblk m c 0 t) (iblk m c 1 t) (iblk m c 2 t) (V m c main_v8) W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [Hq]; · iexact Hq
    isplitl [Hh0]; · iexact Hh0
    isplitl [HW]; · iexact HW
    iintro ⟨H0, H1, H2, H3, H4, H5, H6, H7, HS0, HS1, HS2, Hq, Hh0, ⟨%W', HW'⟩⟩
    isplitl [HS0 HS1 HS2 Hg Hq Hh0]
    · isplitl [HS0 HS1 HS2]
      · isplitl [HS0]; · iexact HS0
        isplitl [HS1]; · iexact HS1
        iexact HS2
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_castSucc m c t, inv_next m c _ _ hz]
    unfold scratchSet kept
    iintro ⟨⟨⟨HS0, HS1, HS2⟩, ⟨Hg, Hq, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (next_point c (grid0.coords t) _ _ _ _ _ _ _ _ _ _ _ _ _ _ _ _ _ _ _ _ _ _  (fun h => by have := (hcond0_0 t).mp h; omega)
      (iblk m c 0 t) (iblk m c 1 t) (iblk m c 2 t) _ _ _ _ )
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg Hq Hh0]
    · isplitl [HS0 HS1 HS2]
      · isplitl [HS0]; · iexact HS0
        isplitl [HS1]; · iexact HS1
        iexact HS2
      isplitl [Hg]; · iexact Hg
      isplitl [Hq]; · iexact Hq
      iexact Hh0
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦD osem0 spec0 H0 (V m) c ⊢ (dats m 0 c).Φ 0 := by
  rw [show (dats m 0 c).Φ 0 = iprop(scratchAny c ∗ kept m c) from rfl, launch_eq]

theorem inv_out (c : Dev nD) : (dats m 0 c).Φ (Fin.last cfg0.N) ⊢ Pipeline.ΦD osem0 spec0 H0 (V m) c := by
  rw [show (dats m 0 c).Φ (Fin.last cfg0.N) = inv m c (Fin.last cfg0.N).val (Nat.le_of_lt_succ (Fin.last cfg0.N).isLt) from rfl,
    inv_next m c _ _ (by rw [Fin.val_last]; have : cfg0.N = 17 := N_0; omega), launch_eq]
  unfold scratchSet scratchAny
  iintro ⟨⟨HS0, HS1, HS2⟩, Hk⟩
  isplitl [HS0 HS1 HS2]
  · isplitl [HS0]
    · iexists _; iexact HS0
    isplitl [HS1]
    · iexists _; iexact HS1
    iexists _; iexact HS2
  iexact Hk

set_option backward.isDefEq.respectTransparency.types false in
/-- Every weakly fair run ends, with the arrays at what the points left and every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the arguments end as they began, and every counter is at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel12Ideal.Half

end
-- ==== Proof.Half12Block.lean ====
/- What one block of 256 rows of the half step's forward kernel holds, entry by entry. -/
module

public import proofs.«01_k».proof.Proof.Half12Blocks

@[expose] public section

set_option maxRecDepth 16384

noncomputable section

namespace Cert.Kernel12Ideal.Half

open Idealize.ShloMosaic Kernel12Ideal.Gen

/-- The half step's arguments: the rows, the three weights, the norm's gain and bias. -/
structure Args where
  h : Fin 4352 → Fin 1024 → EReal
  wg : Fin 1024 → Fin 2816 → EReal
  wu : Fin 1024 → Fin 2816 → EReal
  wd : Fin 2816 → Fin 1024 → EReal
  lg : Fin 1024 → EReal
  lb : Fin 1024 → EReal

variable {x : Vec Ideal S256x1024 .f32} {lg lb : Vec Ideal S1x1024 .f32} {wg wu wd : Vec Ideal S2816x1024 .bf16}
  {d : Args} {ρ : Fin 256 → Fin 4352}

namespace Args

variable (d : Args)

/-- The gate's projection. -/
def g (i : Fin 4352) (j : Fin 2816) : EReal := ∑ k, d.h i k * d.wg k j
/-- The up projection. -/
def u (i : Fin 4352) (j : Fin 2816) : EReal := ∑ k, d.h i k * d.wu k j
/-- The gated activation. -/
def act (i : Fin 4352) (j : Fin 2816) : EReal := d.g i j * Ideal.div 1 (1 + Ideal.exp (-d.g i j)) * d.u i j
/-- The norm's input. -/
def z (i : Fin 4352) (k : Fin 1024) : EReal :=
  Ideal.ofBits FTy.f32 1071072509#32 * d.h i k + Ideal.ofBits FTy.f32 1056964608#32 * ∑ j, d.act i j * d.wd j k
/-- The row less its mean. -/
def ctr (i : Fin 4352) (k : Fin 1024) : EReal := d.z i k - Ideal.div (∑ l, d.z i l) (Ideal.ofBits FTy.f32 1149239296#32)
/-- The half step's output. -/
def out (i : Fin 4352) (k : Fin 1024) : EReal :=
  d.ctr i k * Ideal.rsqrt (Ideal.div (∑ l, d.ctr i l * d.ctr i l) (Ideal.ofBits FTy.f32 1149239296#32) + Ideal.ofBits FTy.f32 925353388#32)
    * d.lg k + d.lb k

end Args

section block

variable (hx : ∀ a k, x (ix2 a k) = d.h (ρ a) k)
  (hg : ∀ j k, wg (ix2 j k) = d.wg k j) (hu : ∀ j k, wu (ix2 j k) = d.wu k j) (hd : ∀ j k, wd (ix2 j k) = d.wd j k)
  (hlg : ∀ k, lg (ix2 (0 : Fin 1) k) = d.lg k) (hlb : ∀ k, lb (ix2 (0 : Fin 1) k) = d.lb k)

include hx hg in
theorem gate_at (a : Fin 256) (j : Fin 2816) : fGate x wg (ix2 a j) = d.g (ρ a) j := by
  pointwise [fGate, k0_pay4, k0_pay3, hx, hg]
  rfl

include hx hu in
theorem up_at (a : Fin 256) (j : Fin 2816) : fUp x wu (ix2 a j) = d.u (ρ a) j := by
  pointwise [fUp, k0_pay5, k0_pay3, hx, hu]
  rfl

include hx hg hu hd in
theorem sum_at (a : Fin 256) (k : Fin 1024) : fSum x wg wu wd (ix2 a k) = d.z (ρ a) k := by
  have h1 := gate_at hx hg
  have h2 := up_at hx hu
  simp only [fGate, fUp] at h1 h2
  pointwise [fSum, k0_pay6, hx, h1, h2, hd]
  simp only [zero_sub]
  rfl

include hx hg hu hd hlg hlb in
theorem out_at (a : Fin 256) (k : Fin 1024) : fOut x lg lb wg wu wd (ix2 a k) = d.out (ρ a) k := by
  have h1 := sum_at hx hg hu hd
  simp only [fSum] at h1
  have h2 : ∀ a : Fin 256, k0_pay7 x wg wu wd (ix1 a) = ∑ l, d.z (ρ a) l := by
    intro a
    pointwise [k0_pay7, h1]
  pointwise [fOut, k0_pay1, h1, h2, hlg, hlb]
  rfl

include hx hg hu hd hlg hlb in
theorem outR_at (a : Fin 256) (k : Fin 1024) : fOutR x lg lb wg wu wd (ix2 a k) = d.out (ρ a) k := by
  have h1 := out_at hx hg hu hd hlg hlb
  simp only [fOut] at h1
  pointwise [fOutR, k0_pay2, h1]

end block

end Cert.Kernel12Ideal.Half

end
-- ==== Proof.Half12Value.lean ====
/- The half step's forward kernel over the reals: the weights its scratch ends at are the arguments' entries, and its five result arrays hold the half step's. -/
module

public import proofs.«01_k».proof.Proof.Half12Frame
public import proofs.«01_k».proof.Proof.Half12Block

@[expose] public section

set_option maxRecDepth 16384

noncomputable section

namespace Cert.Kernel12Ideal.Half

open Idealize.ShloMosaic Idealize.ShloMosaic.TcCoe Idealize.SL.Sem Cert.Kernel12Ideal Kernel12Ideal.Gen
open Idealize.ShloMosaic.Pipeline (Dat)

variable (m : (ℓ : Loc nD τ sig) → Buf (Elt Ideal) ℓ) (c : Dev nD)

/-- The kernel's arguments, entry by entry. -/
def args : Args where
  h i k := (m (c.tc.loc main_arg0) : FVec Ideal S4352x1024 .f32) (ix2 i k)
  wg i k := (m (c.tc.loc main_arg1) : FVec Ideal S1024x2816 .f32) (ix2 i k)
  wu i k := (m (c.tc.loc main_arg2) : FVec Ideal S1024x2816 .f32) (ix2 i k)
  wd i k := (m (c.tc.loc main_arg3) : FVec Ideal S2816x1024 .f32) (ix2 i k)
  lg k := (m (c.tc.loc main_arg4) : FVec Ideal S1x1024 .f32) (ix2 (0 : Fin 1) k)
  lb k := (m (c.tc.loc main_arg5) : FVec Ideal S1x1024 .f32) (ix2 (0 : Fin 1) k)

theorem v8_eq : V m c main_v8 = (concatenate S8x1056x1024 1
    [⟨S8x352x1024, shapeCast S8x352x1024 (transpose S2816x1024 [1, 0] (m (c.tc.loc main_arg1) : FVec Ideal S1024x2816 .f32) transposes_S1024x2816_S2816x1024_1_0) shapeCasts_S2816x1024_S8x352x1024⟩,
     ⟨S8x352x1024, shapeCast S8x352x1024 (transpose S2816x1024 [1, 0] (m (c.tc.loc main_arg2) : FVec Ideal S1024x2816 .f32) transposes_S1024x2816_S2816x1024_1_0) shapeCasts_S2816x1024_S8x352x1024⟩,
     ⟨S8x352x1024, shapeCast S8x352x1024 (m (c.tc.loc main_arg3) : FVec Ideal S2816x1024 .f32) shapeCasts_S2816x1024_S8x352x1024⟩]
    concatenates_S8x352x1024_S8x352x1024_S8x352x1024_S8x1056x1024_d1 : FVec Ideal S8x1056x1024 .bf16) := by
  funext y
  simp only [V, hostOps0, List.flatten_cons, List.flatten_nil, List.append_nil, List.cons_append, List.nil_append]
  after_results_simp
  dsimp only [Matrix.cons_val]
  after_results_simp
  rfl

theorem cat_at (x₁ x₂ x₃ : FVec Ideal S8x352x1024 .bf16) (i : Fin 8) (j : Fin 1056) (k : Fin 1024) :
    (concatenate S8x1056x1024 1 [⟨S8x352x1024, x₁⟩, ⟨S8x352x1024, x₂⟩, ⟨S8x352x1024, x₃⟩]
      concatenates_S8x352x1024_S8x352x1024_S8x352x1024_S8x1056x1024_d1 : FVec Ideal S8x1056x1024 .bf16) (ix3 i j k) =
    if h : j.val < 352 then x₁ (ix3 i ⟨j.val, h⟩ k) else if h2 : j.val - 352 < 352 then x₂ (ix3 i ⟨j.val - 352, h2⟩ k)
      else x₃ (ix3 i ⟨j.val - 352 - 352, by omega⟩ k) := by
  pointwise []

theorem fold_at (x : FVec Ideal S2816x1024 .f32) (i : Fin 8) (j : Fin 352) (k : Fin 1024) :
    (shapeCast S8x352x1024 x shapeCasts_S2816x1024_S8x352x1024 : FVec Ideal S8x352x1024 .f32) (ix3 i j k) =
    x (ix2 (⟨i.val * 352 + j.val, by omega⟩ : Fin 2816) k) := by
  pointwise []

theorem turn_at (x : FVec Ideal S1024x2816 .f32) (i : Fin 2816) (k : Fin 1024) :
    (transpose S2816x1024 [1, 0] x transposes_S1024x2816_S2816x1024_1_0 : FVec Ideal S2816x1024 .f32) (ix2 i k) = x (ix2 k i) := by
  pointwise []

theorem wt0_at (j : Fin 2816) (k : Fin 1024) : wt0 m c (ix2 j k) = (args m c).wg k j := by
  have hj := Nat.mod_lt j.val (by decide : 0 < 352)
  rw [wt0, v8_eq]
  refine (cat_at _ _ _ (⟨j.val / 352, by omega⟩ : Fin 8) (⟨0 + j.val % 352, by omega⟩ : Fin 1056) k).trans ?_
  refine (dif_pos (show 0 + j.val % 352 < 352 by omega)).trans ?_
  refine (fold_at _ _ _ _).trans ?_
  refine (turn_at _ _ _).trans ?_
  unfold args; dsimp only; congr 2; apply Fin.ext; simp only; omega

theorem wt1_at (j : Fin 2816) (k : Fin 1024) : wt1 m c (ix2 j k) = (args m c).wu k j := by
  have hj := Nat.mod_lt j.val (by decide : 0 < 352)
  rw [wt1, v8_eq]
  refine (cat_at _ _ _ (⟨j.val / 352, by omega⟩ : Fin 8) (⟨352 + j.val % 352, by omega⟩ : Fin 1056) k).trans ?_
  refine (dif_neg (show ¬ 352 + j.val % 352 < 352 by omega)).trans ?_
  refine (dif_pos (show 352 + j.val % 352 - 352 < 352 by omega)).trans ?_
  refine (fold_at _ _ _ _).trans ?_
  refine (turn_at _ _ _).trans ?_
  unfold args; dsimp only; congr 2; apply Fin.ext; simp only; omega

theorem wt2_at (j : Fin 2816) (k : Fin 1024) : wt2 m c (ix2 j k) = (args m c).wd j k := by
  have hj := Nat.mod_lt j.val (by decide : 0 < 352)
  rw [wt2, v8_eq]
  refine (cat_at _ _ _ (⟨j.val / 352, by omega⟩ : Fin 8) (⟨704 + j.val % 352, by omega⟩ : Fin 1056) k).trans ?_
  refine (dif_neg (show ¬ 704 + j.val % 352 < 352 by omega)).trans ?_
  refine (dif_neg (show ¬ 704 + j.val % 352 - 352 < 352 by omega)).trans ?_
  refine (fold_at _ _ _ _).trans ?_
  unfold args; dsimp only; congr 2; apply Fin.ext; simp only; omega

/-- The block of every window at a point: rows by the point, or the whole row. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] ∧ t.val < 17 :=
  (by decide +kernel : ∀ t : Fin grid0.N, _)

/-- The array's row at row `a` of the block of point `t`. -/
def row (t : Fin cfg0.N) (a : Fin 256) : Fin 4352 := ⟨t.val * 256 + a.val, by have := (idx t).2.2.2.2.2.2.2.2; omega⟩

theorem h_at (t : Fin cfg0.N) (a : Fin 256) (k : Fin 1024) : (iblk m c 0 t : Vec Ideal S256x1024 .f32) (ix2 a k) = (args m c).h (row t a) k := by
  unfold args
  blk_ext [iblk, V_main_arg0, idx t, row]

theorem lg_at (t : Fin cfg0.N) (k : Fin 1024) : (iblk m c 1 t : Vec Ideal S1x1024 .f32) (ix2 (0 : Fin 1) k) = (args m c).lg k := by
  unfold args
  blk_ext [iblk, V_main_arg4, idx t, row]

theorem lb_at (t : Fin cfg0.N) (k : Fin 1024) : (iblk m c 2 t : Vec Ideal S1x1024 .f32) (ix2 (0 : Fin 1) k) = (args m c).lb k := by
  unfold args
  blk_ext [iblk, V_main_arg5, idx t, row]

/-- The half step's output. -/
theorem out_eq : (dats m 0 c).arrAt 3 (cfgs 0).N = (fun y => (args m c).out (y 0) (y 1) : FVec Ideal S4352x1024 .f32) := by
  refine (dats m 0 c).arrAt_eq_of_covers 3 _ (by decide +kernel) fun t hf y => ?_
  blk_simp
  rw [after_3]
  have hy : (y : S256x1024.Idx) = ix2 (y 0) (y 1) := by blk_ext
  have e0 : (win0_3.blk t).view.emb y 0 = row t (y 0) := by apply Fin.ext; blk_simp [idx t, row]
  have e1 : (win0_3.blk t).view.emb y 1 = y 1 := by apply Fin.ext; blk_simp [idx t]
  refine (congrArg _ hy).trans ((out_at (h_at m c t) (wt0_at m c) (wt1_at m c) (wt2_at m c) (lg_at m c t) (lb_at m c t) (y 0) (y 1)).trans ?_)
  rw [e0, e1]

/-- The gate's projection. -/
theorem gate_eq : (dats m 0 c).arrAt 4 (cfgs 0).N = (fun y => (args m c).g (y 0) (y 1) : FVec Ideal S4352x2816 .f32) := by
  refine (dats m 0 c).arrAt_eq_of_covers 4 _ (by decide +kernel) fun t hf y => ?_
  blk_simp
  rw [after_4]
  have hy : (y : S256x2816.Idx) = ix2 (y 0) (y 1) := by blk_ext
  have e0 : (win0_4.blk t).view.emb y 0 = row t (y 0) := by apply Fin.ext; blk_simp [idx t, row]
  have e1 : (win0_4.blk t).view.emb y 1 = y 1 := by apply Fin.ext; blk_simp [idx t]
  refine (congrArg _ hy).trans ((gate_at (h_at m c t) (wt0_at m c) (y 0) (y 1)).trans ?_)
  rw [e0, e1]

/-- The up projection. -/
theorem up_eq : (dats m 0 c).arrAt 5 (cfgs 0).N = (fun y => (args m c).u (y 0) (y 1) : FVec Ideal S4352x2816 .f32) := by
  refine (dats m 0 c).arrAt_eq_of_covers 5 _ (by decide +kernel) fun t hf y => ?_
  blk_simp
  rw [after_5]
  have hy : (y : S256x2816.Idx) = ix2 (y 0) (y 1) := by blk_ext
  have e0 : (win0_5.blk t).view.emb y 0 = row t (y 0) := by apply Fin.ext; blk_simp [idx t, row]
  have e1 : (win0_5.blk t).view.emb y 1 = y 1 := by apply Fin.ext; blk_simp [idx t]
  refine (congrArg _ hy).trans ((up_at (h_at m c t) (wt1_at m c) (y 0) (y 1)).trans ?_)
  rw [e0, e1]

/-- The norm's input. -/
theorem sum_eq : (dats m 0 c).arrAt 6 (cfgs 0).N = (fun y => (args m c).z (y 0) (y 1) : FVec Ideal S4352x1024 .f32) := by
  refine (dats m 0 c).arrAt_eq_of_covers 6 _ (by decide +kernel) fun t hf y => ?_
  blk_simp
  rw [after_6]
  have hy : (y : S256x1024.Idx) = ix2 (y 0) (y 1) := by blk_ext
  have e0 : (win0_6.blk t).view.emb y 0 = row t (y 0) := by apply Fin.ext; blk_simp [idx t, row]
  have e1 : (win0_6.blk t).view.emb y 1 = y 1 := by apply Fin.ext; blk_simp [idx t]
  refine (congrArg _ hy).trans ((sum_at (h_at m c t) (wt0_at m c) (wt1_at m c) (wt2_at m c) (y 0) (y 1)).trans ?_)
  rw [e0, e1]

/-- The half step's output, rounded. -/
theorem outR_eq : (dats m 0 c).arrAt 7 (cfgs 0).N = (fun y => (args m c).out (y 0) (y 1) : FVec Ideal S4352x1024 .bf16) := by
  refine (dats m 0 c).arrAt_eq_of_covers 7 _ (by decide +kernel) fun t hf y => ?_
  blk_simp
  rw [after_7]
  have hy : (y : S256x1024.Idx) = ix2 (y 0) (y 1) := by blk_ext
  have e0 : (win0_7.blk t).view.emb y 0 = row t (y 0) := by apply Fin.ext; blk_simp [idx t, row]
  have e1 : (win0_7.blk t).view.emb y 1 = y 1 := by apply Fin.ext; blk_simp [idx t]
  refine (congrArg _ hy).trans ((outR_at (h_at m c t) (wt0_at m c) (wt1_at m c) (wt2_at m c) (lg_at m c t) (lb_at m c t) (y 0) (y 1)).trans ?_)
  rw [e0, e1]

end Cert.Kernel12Ideal.Half

end
-- ==== Proof.Half12Ref.lean ====
/- The reference's half step forward, entry by entry. -/
module

public import proofs.«01_k».proof.Proof.Half12Block
public import proofs.«01_k».proof.Proof.Gen.Reference12Ideal.Run

@[expose] public section

set_option maxRecDepth 16384

noncomputable section

namespace Cert.Kernel12Ideal.Half

open Idealize.ShloMosaic Idealize.ShloMosaic.TcCoe Idealize.SL.Sem

/-- The reference's arguments, entry by entry. -/
def argsR (m : (ℓ : Loc Reference12Ideal.nD Reference12Ideal.τ Reference12Ideal.sig) → Buf (Elt Ideal) ℓ)
    (c : Dev Reference12Ideal.nD) : Args where
  h i k := (m (c.tc.loc Reference12Ideal.main_arg0) : FVec Ideal Reference12Ideal.S4352x1024 .f32) (ix2 i k)
  wg i k := (m (c.tc.loc Reference12Ideal.main_arg1) : FVec Ideal Reference12Ideal.S1024x2816 .f32) (ix2 i k)
  wu i k := (m (c.tc.loc Reference12Ideal.main_arg2) : FVec Ideal Reference12Ideal.S1024x2816 .f32) (ix2 i k)
  wd i k := (m (c.tc.loc Reference12Ideal.main_arg3) : FVec Ideal Reference12Ideal.S2816x1024 .f32) (ix2 i k)
  lg k := (m (c.tc.loc Reference12Ideal.main_arg4) : FVec Ideal Reference12Ideal.S1x1024 .f32) (ix2 (0 : Fin 1) k)
  lb k := (m (c.tc.loc Reference12Ideal.main_arg5) : FVec Ideal Reference12Ideal.S1x1024 .f32) (ix2 (0 : Fin 1) k)

variable (m : (ℓ : Loc Reference12Ideal.nD Reference12Ideal.τ Reference12Ideal.sig) → Buf (Elt Ideal) ℓ)
  (c : Dev Reference12Ideal.nD)

theorem refOut_at (y : Reference12Ideal.S4352x1024.Idx) :
    (Reference12Ideal.Value.res_main_v31 m c : FVec Ideal Reference12Ideal.S4352x1024 .f32) y = (argsR m c).out (y 0) (y 1) := by
  have hy : y = ix2 (y 0) (y 1) := by blk_ext
  refine (congrArg _ hy).trans ?_
  generalize y 0 = i; generalize y 1 = k
  unfold Reference12Ideal.Value.res_main_v31
  pointwise []
  rfl

theorem refOutR_at (y : Reference12Ideal.S4352x1024.Idx) :
    (Reference12Ideal.Value.res_main_v32 m c : FVec Ideal Reference12Ideal.S4352x1024 .bf16) y = (argsR m c).out (y 0) (y 1) :=
  refOut_at m c y

/-- The reference's run: its five results are the half step's, its arguments end as they began. -/
theorem ref_run (ρ : Dev Reference12Ideal.nD → PrngReg) :
    θ_run Reference12Ideal.defs (onTc (τ := Reference12Ideal.τ) (Reference12Ideal.main (F := Ideal))) ⟨m, fun _ => 0, ρ⟩ (fun r => ∀ c : Dev Reference12Ideal.nD,
      r.2.mem (c.tc.loc Reference12Ideal.main_v31) = (fun y => (argsR m c).out (y 0) (y 1) : FVec Ideal Reference12Ideal.S4352x1024 .f32)
      ∧ r.2.mem (c.tc.loc Reference12Ideal.main_v0) = (fun y => (argsR m c).g (y 0) (y 1) : FVec Ideal Reference12Ideal.S4352x2816 .f32)
      ∧ r.2.mem (c.tc.loc Reference12Ideal.main_v1) = (fun y => (argsR m c).u (y 0) (y 1) : FVec Ideal Reference12Ideal.S4352x2816 .f32)
      ∧ r.2.mem (c.tc.loc Reference12Ideal.main_v9) = (fun y => (argsR m c).z (y 0) (y 1) : FVec Ideal Reference12Ideal.S4352x1024 .f32)
      ∧ r.2.mem (c.tc.loc Reference12Ideal.main_v32) = (fun y => (argsR m c).out (y 0) (y 1) : FVec Ideal Reference12Ideal.S4352x1024 .bf16)
      ∧ r.2.mem (c.tc.loc Reference12Ideal.main_arg0) = m (c.tc.loc Reference12Ideal.main_arg0)
      ∧ r.2.mem (c.tc.loc Reference12Ideal.main_arg1) = m (c.tc.loc Reference12Ideal.main_arg1)
      ∧ r.2.mem (c.tc.loc Reference12Ideal.main_arg2) = m (c.tc.loc Reference12Ideal.main_arg2)
      ∧ r.2.mem (c.tc.loc Reference12Ideal.main_arg3) = m (c.tc.loc Reference12Ideal.main_arg3)
      ∧ r.2.mem (c.tc.loc Reference12Ideal.main_arg4) = m (c.tc.loc Reference12Ideal.main_arg4)
      ∧ r.2.mem (c.tc.loc Reference12Ideal.main_arg5) = m (c.tc.loc Reference12Ideal.main_arg5)) := by
  refine (θ_run _ _ _).mono (fun r h c => ⟨(h c).1.trans (funext fun y => refOut_at m c y), (h c).2.1.trans (funext fun y => ?_),
    (h c).2.2.1.trans (funext fun y => ?_), (h c).2.2.2.1.trans (funext fun y => ?_),
    (h c).2.2.2.2.1.trans (funext fun y => refOutR_at m c y), (h c).2.2.2.2.2⟩) (Reference12Ideal.Value.run (F := Ideal) m ρ)
  all_goals
    refine (congrArg _ (by blk_ext : y = ix2 (y 0) (y 1))).trans ?_
    generalize y 0 = i; generalize y 1 = k
    pointwise []
    rfl

end Cert.Kernel12Ideal.Half

end
-- ==== Proof.Half12.lean ====
/- The half step forward: over the reals the kernel's five results are the reference's. -/
module

public import proofs.«01_k».proof.Defs
public import proofs.«01_k».proof.Proof.Gen.Kernel12Ideal
public import proofs.«01_k».proof.Proof.Gen.Reference12Ideal
public import proofs.«01_k».proof.Proof.Half12Value
public import proofs.«01_k».proof.Proof.Half12Ref
public import Idealize.ShloMosaic.Lib.Quiescent

@[expose] public section

set_option maxRecDepth 16384

noncomputable section

namespace Cert.Kernel12Ideal.Half

open Idealize.ShloMosaic Idealize.ShloMosaic.TcCoe Idealize.SL.Sem Cert.Kernel12Ideal Kernel12Ideal.Gen

/-- The reference has no counters, and its run leaves its arguments. -/
theorem frame_reference : Cert.quiescent_Reference12Ideal (hReference12Ideal := Reference12Ideal.Gen.facts) :=
  fun m ρ _ => (θ_run Reference12Ideal.defs _ _).mono
    (fun r h => And.intro (fun c => (h c).2.2.2.2.2) (Idealize.ShloMosaic.sem_eq_zero_of_no_sems (by decide) r.2))
    (Reference12Ideal.Value.run (F := Ideal) m ρ)

/-- The kernel's run: its five results are the half step's, its arguments end as they began. -/
theorem value_run (m : (ℓ : Loc nD τ sig) → Buf (Elt Ideal) ℓ) (ρ : Dev nD → PrngReg) (d : Dev nD → Args) (hd : ∀ c, args m c = d c) :
    θ_run defs (onTc (τ := τ) (main (F := Ideal))) ⟨m, fun _ => 0, ρ⟩ (fun r => ∀ c : Dev nD,
      r.2.mem (c.tc.loc main_v9_0) = (fun y => (d c).out (y 0) (y 1) : FVec Ideal S4352x1024 .f32)
      ∧ r.2.mem (c.tc.loc main_v9_1) = (fun y => (d c).g (y 0) (y 1) : FVec Ideal S4352x2816 .f32)
      ∧ r.2.mem (c.tc.loc main_v9_2) = (fun y => (d c).u (y 0) (y 1) : FVec Ideal S4352x2816 .f32)
      ∧ r.2.mem (c.tc.loc main_v9_3) = (fun y => (d c).z (y 0) (y 1) : FVec Ideal S4352x1024 .f32)
      ∧ r.2.mem (c.tc.loc main_v9_4) = (fun y => (d c).out (y 0) (y 1) : FVec Ideal S4352x1024 .bf16)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  (θ_run defs _ _).mono (fun r h c => ⟨((h.1.1 c).1 3).trans (hd c ▸ out_eq m c), ((h.1.1 c).1 4).trans (hd c ▸ gate_eq m c),
    ((h.1.1 c).1 5).trans (hd c ▸ up_eq m c), ((h.1.1 c).1 6).trans (hd c ▸ sum_eq m c), ((h.1.1 c).1 7).trans (hd c ▸ outR_eq m c),
    h.2.1 c⟩) (θ_run_and (run_main (F := Ideal) m ρ) (frame_run m ρ))

/-- Over the reals the kernel's five results are the reference's. -/
theorem algebraic : Cert.algebraic_Kernel12Ideal_Reference12Ideal (hKernel12Ideal := Kernel12Ideal.Gen.facts)
    (hReference12Ideal := Reference12Ideal.Gen.facts) := by
  intro m g m' g' _ hagree
  refine ⟨_, _, _, _, _, value_run m g (fun c => argsR m' c) (fun c => ?_), ref_run m' g'⟩
  obtain ⟨h0, h1, h2, h3, h4, h5⟩ := hagree c
  unfold args argsR
  congr 1
  · funext i k; exact (congrFun h0 _).symm
  · funext i k; exact (congrFun h1 _).symm
  · funext i k; exact (congrFun h2 _).symm
  · funext i k; exact (congrFun h3 _).symm
  · funext k; exact (congrFun h4 _).symm
  · funext k; exact (congrFun h5 _).symm

end Cert.Kernel12Ideal.Half

end
-- ==== Proof.Bits.Half12Frame.lean ====
/- The frame of the half step's forward kernel as it was written: its idealized program is the same program, and the frame of that one is
   proved for every reading of its floats. -/
module

public import proofs.«01_k».proof.Proof.Half12Frame
public import proofs.«01_k».proof.Proof.Gen.Kernel12

@[expose] public section

set_option maxRecDepth 16384

noncomputable section

namespace Cert.Kernel12Ideal.Half

open Idealize.ShloMosaic Idealize.ShloMosaic.TcCoe Idealize.SL.Sem Cert.Kernel12Ideal Cert.Kernel12Ideal.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

end Cert.Kernel12Ideal.Half

namespace Cert.Kernel12.Half

open Idealize.ShloMosaic Idealize.ShloMosaic.TcCoe Idealize.SL.Sem Cert.Kernel12 Cert.Kernel12.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The two programs are the same. -/
theorem framed_eq (F : FTy → Type) [FloatOps F] : Framed F = Cert.Kernel12Ideal.Half.Framed F := by sl_kernel_rfl

/-- The frame of the program as it was written. -/
theorem frame_run {F : FTy → Type} [FloatOps F] : Framed F :=
  (framed_eq F).mpr Cert.Kernel12Ideal.Half.frame_run

end Cert.Kernel12.Half

end
-- ==== Proof.Mix19Reals.lean ====
/- The real-number mathematics of the mixer's output gradient: the root-mean-square norm of a row, its derivative in the two forms that the kernel
   and the reference compute, and the nine results over the reals. -/
module

public import proofs.«01_k».proof.Proof.Reals

@[expose] public section

set_option maxRecDepth 16384

noncomputable section

namespace Cert.Row

open Idealize.ShloMosaic

/-- The root-mean-square norm's epsilon, the value of its word. -/
def eps2 : ℝ := 8796093 * (2 : ℝ) ^ (-43 : ℤ)

theorem eps2_pos : 0 < eps2 := by unfold eps2; positivity

theorem bits_eps2 : Ideal.ofBits .f32 0x358637BD#32 = ((eps2 : ℝ) : EReal) := by
  simp [Ideal.ofBits, Ideal.ieee, eps2]

theorem bits_512 : Ideal.ofBits .f32 0x44000000#32 = ((512 : ℝ) : EReal) := by
  simp [Ideal.ofBits, Ideal.ieee]; norm_cast; norm_num

/-- The mean of a branch's row. -/
def m2 (v : Fin 512 → ℝ) : ℝ := (∑ k, v k) / 512
/-- The mean square with the epsilon. -/
def s2 (v : Fin 512 → ℝ) : ℝ := m2 (fun k => v k * v k) + eps2
/-- One over the root mean square. -/
def r2 (v : Fin 512 → ℝ) : ℝ := (Real.sqrt (s2 v))⁻¹
/-- The normed row. -/
def n2 (v : Fin 512 → ℝ) (k : Fin 512) : ℝ := v k * r2 v
/-- The gradient at the row, from the gradient `e` at the normed row. -/
def dn (v e : Fin 512 → ℝ) (k : Fin 512) : ℝ := r2 v * (e k - n2 v k * m2 (fun l => e l * n2 v l))

theorem s2_pos (v : Fin 512 → ℝ) : 0 < s2 v := by
  have h : 0 ≤ m2 (fun k => v k * v k) := div_nonneg (Finset.sum_nonneg fun k _ => mul_self_nonneg _) (by norm_num)
  have := eps2_pos
  unfold s2; linarith

theorem coe_r2 (v : Fin 512 → ℝ) : Ideal.rsqrt ((s2 v : ℝ) : EReal) = ((r2 v : ℝ) : EReal) := by
  have h := s2_pos v
  rw [Ideal.rsqrt_coe, if_neg h.not_gt, if_neg h.ne']; rfl

theorem r2_div_s2 (v : Fin 512 → ℝ) : r2 v / s2 v = r2 v * (r2 v * r2 v) := by
  have h := s2_pos v
  have hs : Real.sqrt (s2 v) * Real.sqrt (s2 v) = s2 v := Real.mul_self_sqrt h.le
  have e : r2 v * r2 v = (s2 v)⁻¹ := by unfold r2; rw [← mul_inv, hs]
  rw [e, div_eq_mul_inv]

/-- The cotangent of the mean square, as the reference forms it. -/
def c2 (v e : Fin 512 → ℝ) : ℝ := ((∑ k, v k * e k) * (-(1 / 2) * (r2 v / s2 v))) / 512

/-- The reference's form of the norm's derivative is the kernel's. -/
theorem dn_of_terms (v e : Fin 512 → ℝ) (k : Fin 512) : e k * r2 v + c2 v e * (2 * v k) = dn v e k := by
  have h3 : m2 (fun l => e l * n2 v l) = ((∑ l, v l * e l) * r2 v) / 512 := by
    unfold m2 n2; rw [Finset.sum_mul]; congr 1; exact Finset.sum_congr rfl fun l _ => by ring
  unfold dn; rw [h3]; unfold c2; rw [r2_div_s2]; unfold n2; ring

/-- The arguments over the reals: the residual, the two branches, the output projection, the branches' gains, the norm's gain and the gradient of
    the norm's output. -/
structure MixData where
  h : Fin 4352 → Fin 1024 → ℝ
  yr : Fin 4352 → Fin 512 → ℝ
  ya : Fin 4352 → Fin 512 → ℝ
  w : Fin 1024 → Fin 1024 → ℝ
  gr : Fin 512 → ℝ
  ga : Fin 512 → ℝ
  lg : Fin 1024 → ℝ
  dh : Fin 4352 → Fin 1024 → ℝ

namespace MixData

variable (d : MixData)

/-- The norm's input. -/
def z (i : Fin 4352) (k : Fin 1024) : ℝ := alpha * d.h i k
  + (∑ j : Fin 512, n2 (d.yr i) j * d.gr j * d.w (⟨j.val, by omega⟩ : Fin 1024) k
    + ∑ j : Fin 512, n2 (d.ya i) j * d.ga j * d.w (⟨512 + j.val, by omega⟩ : Fin 1024) k)
/-- The gradient at the normalised row. -/
def e (i : Fin 4352) (k : Fin 1024) : ℝ := d.dh i k * d.lg k
/-- The gradient at the norm's input. -/
def gz (i : Fin 4352) (k : Fin 1024) : ℝ := dz (d.z i) (d.e i) k
/-- The gradient at the mixed branches. -/
def dm (i : Fin 4352) (j : Fin 1024) : ℝ := ∑ k, d.gz i k * d.w j k
/-- Its recurrent half. -/
def dR (i : Fin 4352) (j : Fin 512) : ℝ := d.dm i ⟨j.val, by omega⟩
/-- Its attention half. -/
def dA (i : Fin 4352) (j : Fin 512) : ℝ := d.dm i ⟨512 + j.val, by omega⟩
/-- The gradient at the recurrent branch. -/
def dyr (i : Fin 4352) (j : Fin 512) : ℝ := dn (d.yr i) (fun l => d.dR i l * d.gr l) j
/-- The gradient at the attention branch. -/
def dya (i : Fin 4352) (j : Fin 512) : ℝ := dn (d.ya i) (fun l => d.dA i l * d.ga l) j
/-- The two normed branches side by side. -/
def mix (i : Fin 4352) (j : Fin 1024) : ℝ :=
  if h : j.val < 512 then n2 (d.yr i) ⟨j.val, h⟩ * d.gr ⟨j.val, h⟩ else n2 (d.ya i) ⟨j.val - 512, by omega⟩ * d.ga ⟨j.val - 512, by omega⟩
theorem mix_low (i : Fin 4352) (j : Fin 1024) (k : Fin 512) (h : j.val = k.val) : n2 (d.yr i) k * d.gr k = d.mix i j := by
  have e : (⟨j.val, by omega⟩ : Fin 512) = k := Fin.ext h
  unfold mix; rw [dif_pos (by omega), e]
theorem mix_high (i : Fin 4352) (j : Fin 1024) (k : Fin 512) (h : j.val = 512 + k.val) : n2 (d.ya i) k * d.ga k = d.mix i j := by
  have e : (⟨j.val - 512, by omega⟩ : Fin 512) = k := Fin.ext (by simp only; omega)
  unfold mix; rw [dif_neg (by omega), e]
/-- The norm gain's gradient. -/
def dlg (k : Fin 1024) : ℝ := ∑ i, d.dh i k * xh (d.z i) k
/-- The norm bias's gradient. -/
def dlb (k : Fin 1024) : ℝ := ∑ i, d.dh i k
/-- The recurrent gain's gradient. -/
def dgr (j : Fin 512) : ℝ := ∑ i, d.dR i j * n2 (d.yr i) j
/-- The attention gain's gradient. -/
def dga (j : Fin 512) : ℝ := ∑ i, d.dA i j * n2 (d.ya i) j

end MixData

end Cert.Row

end
-- ==== Proof.Mix19Blocks.lean ====
/- What one grid point of the mixer's output backward kernel computes from the blocks it reads: a block of rows of the gradient, of the norm's input and of
   both branches, the gains, and the weight matrix reassembled from the exchange buffer. -/
module

public import proofs.«01_k».proof.Proof.Gen.Kernel19Ideal.Frame.Runs
public import Idealize.ShloMosaic.Lib.Pipeline.ValueKit
public import Idealize.ShloMosaic.Lib.ValueLayout

@[expose] public section

set_option maxRecDepth 16384

noncomputable section

namespace Cert.Kernel19Ideal.Mix

open Idealize.ShloMosaic Kernel19Ideal.Gen

variable {F : FTy → Type} [FloatOps F]

/-- A matrix packed in the exchange buffer: device `k` holds rows `off .. off + 128` of its slab, and the slabs follow one another. -/
def shard (off : ℕ) (h : off + 128 ≤ 352) (f : S8x352x1024.Idx → Elt F .bf16) : Vec F S1024x1024 .bf16 := fun y =>
  f (ix3 (⟨(y 0).val / 128, by have : (y 0).val < 1024 := (y 0).isLt; omega⟩ : Fin 8)
    (⟨off + (y 0).val % 128, by have := Nat.mod_lt (y 0).val (by decide : 0 < 128); omega⟩ : Fin 352) (y 1))

/-- The gradient at the norm's input. -/
def fDz (dh z : Vec F S256x1024 .f32) (lg : Vec F S1x1024 .f32) : Vec F S256x1024 .f32 := k0_pay15 (k0_pay10 z) (k0_pay11 z) (k0_pay12 dh lg) (k0_pay13 dh z lg) (k0_pay14 dh lg)

/-- The same, rounded. -/
def fDzR (dh z : Vec F S256x1024 .f32) (lg : Vec F S1x1024 .f32) : Vec F S256x1024 .bf16 := k0_pay18 (k0_pay10 z) (k0_pay11 z) (k0_pay12 dh lg) (k0_pay13 dh z lg) (k0_pay14 dh lg)

/-- The gradient at the mixed branches. -/
def fDm (dh z : Vec F S256x1024 .f32) (lg : Vec F S1x1024 .f32) (w : Vec F S1024x1024 .bf16) : Vec F S256x1024 .f32 := k0_pay19 (k0_pay10 z) (k0_pay11 z) (k0_pay12 dh lg) (k0_pay13 dh z lg) (k0_pay14 dh lg) w

/-- The recurrent half of a gradient at the mixed branches. -/
def recHalf (d : Vec F S256x1024 .f32) : Vec F S256x512 .f32 := extractStridedSlice S256x512 ![0, 0] d slices_S256x1024_o0_0_S256x512

/-- The gradient at the recurrent branch. -/
def fDyr (yr : Vec F S256x512 .f32) (gr : Vec F S1x512 .f32) (d : Vec F S256x1024 .f32) : Vec F S256x512 .f32 :=
  k0_pay24 (recHalf d) yr gr (k0_pay21 yr) (Scalar.ofBits .f32 0x358637BD#32)

/-- The gradient at the attention branch. -/
def fDya (ya : Vec F S256x512 .f32) (ga : Vec F S1x512 .f32) (d : Vec F S256x1024 .f32) : Vec F S256x512 .f32 := k0_pay30 d ya ga

/-- The recurrent branch, normed. -/
def fYr (yr : Vec F S256x512 .f32) (gr : Vec F S1x512 .f32) : Vec F S256x512 .bf16 := k0_pay3 (k0_pay26 yr gr (k0_pay21 yr) (Scalar.ofBits .f32 0x358637BD#32))

/-- The attention branch, normed. -/
def fYa (ya : Vec F S256x512 .f32) (ga : Vec F S1x512 .f32) : Vec F S256x512 .bf16 := k0_pay4 ga (k0_pay29 ya)

/-- The two normed branches side by side. -/
def fMixed (yr ya : Vec F S256x512 .f32) (gr ga : Vec F S1x512 .f32) : Vec F S256x1024 .bf16 :=
  View.canon [(⟨Rect.unit (s := S256x1024) ![0, 512] S256x512.size inb_S256x1024_S256x512_0_512, fYa ya ga⟩ : View.Piece (Elt F) S256x1024 .bf16),
    ⟨Rect.unit (s := S256x1024) ![0, 0] S256x512.size inb_S256x1024_S256x512_0_0, fYr yr gr⟩]

/-- The running sum of the norm gain's gradient. -/
def fGam (dh z : Vec F S256x1024 .f32) (s : Vec F S1x1024 .f32) : Vec F S1x1024 .f32 := k0_pay16 dh (k0_pay11 z) s

/-- The running sum of the norm bias's gradient. -/
def fBet (dh : Vec F S256x1024 .f32) (s : Vec F S1x1024 .f32) : Vec F S1x1024 .f32 := k0_pay17 dh s

/-- The running sum of the recurrent gain's gradient. -/
def fGr (yr : Vec F S256x512 .f32) (d : Vec F S256x1024 .f32) (s : Vec F S1x512 .f32) : Vec F S1x512 .f32 :=
  k0_pay1 (k0_pay25 (recHalf d) yr (k0_pay21 yr) (Scalar.ofBits .f32 0x358637BD#32)) s

/-- The running sum of the attention gain's gradient. -/
def fGa (ya : Vec F S256x512 .f32) (d : Vec F S256x1024 .f32) (s : Vec F S1x512 .f32) : Vec F S1x512 .f32 := k0_pay2 (k0_pay31 d ya) s

/-- A slab of the exchange buffer, read as a matrix of 128 rows. -/
theorem slab_read (f : S8x352x1024.Idx → Elt F .bf16) (k off : ℕ) (hk : k < 8) (ho : off + 128 ≤ 352)
    (inb : ∀ a, (![k, off, 0] : Fin 3 → ℕ) a + (![1, 128, 1024] : Fin 3 → ℕ) a ≤ S8x352x1024.size a)
    (hr : S128x1024.numel = (Rect.unit (s := S8x352x1024) ![k, off, 0] ![1, 128, 1024] inb).shape.numel) (x : S128x1024.Idx) :
    f ((Rect.unit (s := S8x352x1024) ![k, off, 0] ![1, 128, 1024] inb).emb (Shape.reshapeEquiv hr x))
      = f (ix3 (⟨k, hk⟩ : Fin 8) (⟨off + (x 0).val, by have : (x 0).val < 128 := (x 0).isLt; omega⟩ : Fin 352) (x 1)) := by
  have e : Shape.reshapeEquiv hr x = (ix3 (0 : Fin 1) (x 0) (x 1) : (⟨3, ![1, 128, 1024]⟩ : Shape).Idx) := by
    rw [show x = ix2 (x 0) (x 1) from (ix2_eta x).symm]; exact ValueIdx.reshapeEquiv_ix2_1ab _ _ _
  rw [e]; congr 1; funext a; apply Fin.ext
  match a with
  | ⟨0, _⟩ => show k + 1 * 0 = k; omega
  | ⟨1, _⟩ => show off + 1 * (x 0).val = off + (x 0).val; omega
  | ⟨2, _⟩ => show 0 + 1 * (x 1).val = (x 1).val; omega

/-- The slab of device `k`, as the copy that fills rows `128 k .. 128 k + 128` of the scratch delivers it. -/
def piece (f : S8x352x1024.Idx → Elt F .bf16) (k off o : ℕ)
    (ino : ∀ a, (![o, 0] : Fin 2 → ℕ) a + (![128, 1024] : Fin 2 → ℕ) a ≤ S1024x1024.size a)
    (inb : ∀ a, (![k, off, 0] : Fin 3 → ℕ) a + (![1, 128, 1024] : Fin 3 → ℕ) a ≤ S8x352x1024.size a)
    (hr : S128x1024.numel = (Rect.unit (s := S8x352x1024) ![k, off, 0] ![1, 128, 1024] inb).shape.numel) :
    View.Piece (Elt F) S1024x1024 .bf16 :=
  ⟨Rect.unit ![o, 0] ![128, 1024] ino,
    fun x => f ((Rect.unit (s := S8x352x1024) ![k, off, 0] ![1, 128, 1024] inb).emb (Shape.reshapeEquiv hr x))⟩

theorem piece_apply (f : S8x352x1024.Idx → Elt F .bf16) (k off o : ℕ) (hk : k < 8) (ho : o = 128 * k) (hoff : off + 128 ≤ 352) (ino) (inb) (hr) (x) :
    (piece f k off o ino inb hr).2 x = shard off hoff f ((piece f k off o ino inb hr).1.emb x) := by
  refine (slab_read f k off hk hoff inb hr x).trans ?_
  subst ho
  have h0 : (x 0).val < 128 := (x 0).isLt
  unfold shard; congr 1; funext a; apply Fin.ext
  match a with
  | ⟨0, _⟩ => show k = (128 * k + 1 * (x 0).val) / 128; omega
  | ⟨1, _⟩ => show off + (x 0).val = off + (128 * k + 1 * (x 0).val) % 128; omega
  | ⟨2, _⟩ => show (x 1).val = 0 + 1 * (x 1).val; omega

/-- The eight copies fill the scratch with the reassembled matrix. -/
theorem canon_shard (f : S8x352x1024.Idx → Elt F .bf16) (off : ℕ) (hoff : off + 128 ≤ 352) (i0 i1 i2 i3 i4 i5 i6 i7 b0 b1 b2 b3 b4 b5 b6 b7 r0 r1 r2 r3 r4 r5 r6 r7) :
    View.canon [piece f 7 off 896 i7 b7 r7, piece f 6 off 768 i6 b6 r6, piece f 5 off 640 i5 b5 r5, piece f 4 off 512 i4 b4 r4,
      piece f 3 off 384 i3 b3 r3, piece f 2 off 256 i2 b2 r2, piece f 1 off 128 i1 b1 r1, piece f 0 off 0 i0 b0 r0] = shard off hoff f := by
  funext y
  refine View.canon_apply_of_pieces (shard off hoff f) _ ?_ y ?_
  · intro p hp
    simp only [List.mem_cons, List.not_mem_nil, or_false] at hp
    rcases hp with rfl | rfl | rfl | rfl | rfl | rfl | rfl | rfl <;> exact piece_apply f _ _ _ (by decide) (by decide) hoff _ _ _
  · exact View.cover_of_tiledL _ ![128, 1024] (by sl_kernel_rfl) y

/-- A whole load of the scratch after the eight copies reads the reassembled matrix. -/
theorem load_shard (v : View sig .tc .vmem S1024x1024 .bf16) (f : S8x352x1024.Idx → Elt F .bf16) (off : ℕ) (hoff : off + 128 ≤ 352) (ib)
    (i0 i1 i2 i3 i4 i5 i6 i7 b0 b1 b2 b3 b4 b5 b6 b7 r0 r1 r2 r3 r4 r5 r6 r7) :
    v.readCov [piece f 7 off 896 i7 b7 r7, piece f 6 off 768 i6 b6 r6, piece f 5 off 640 i5 b5 r5, piece f 4 off 512 i4 b4 r4,
      piece f 3 off 384 i3 b3 r3, piece f 2 off 256 i2 b2 r2, piece f 1 off 128 i1 b1 r1, piece f 0 off 0 i0 b0 r0]
      (Rect.unit (s := S1024x1024) ![0, 0] ![1024, 1024] ib).toLoadRect = shard off hoff f := by
  rw [View.readCov_eq_canon_ld _ _ _ (View.cover_of_tiledL _ ![128, 1024] (by sl_kernel_rfl)), canon_shard f off hoff]
  exact View.ld_unit_lit' _ _ (by decide)

end Cert.Kernel19Ideal.Mix

end
-- ==== Proof.Mix19Block.lean ====
/- What one block of 256 rows computes over the reals: each value the mixer's output gradient kernel stores at a grid point, read at an index. -/
module

public import proofs.«01_k».proof.Proof.Mix19Reals
public import proofs.«01_k».proof.Proof.Mix19Blocks
public import Idealize.ShloMosaic.Lib.Pipeline.ValueKit
public import Idealize.ShloMosaic.Lib.IdealHost

@[expose] public section

set_option maxRecDepth 16384

noncomputable section

namespace Cert.Kernel19Ideal.Mix

open Idealize.ShloMosaic Kernel19Ideal.Gen Cert.Row

variable {dh z D : Vec Ideal S256x1024 .f32} {yr ya : Vec Ideal S256x512 .f32} {gr ga : Vec Ideal S1x512 .f32} {lg : Vec Ideal S1x1024 .f32}
  {w : Vec Ideal S1024x1024 .bf16} {d : MixData} {ρ : Fin 256 → Fin 4352}

section norm

variable (hz : ∀ a k, z (ix2 a k) = ((d.z (ρ a) k : ℝ) : EReal))
include hz

theorem pay9_at (a : Fin 256) (k : Fin 1024) : k0_pay9 z (ix2 a k) = ((xc (d.z (ρ a)) k : ℝ) : EReal) := by
  pointwise [k0_pay9, hz]
  simp only [bits_1024, zero_add, ← coe_sum, coe_div _ _ (by norm_num : (1024 : ℝ) ≠ 0), ← EReal.coe_sub]; rfl

theorem pay10_at (a : Fin 256) : k0_pay10 z (ix2 a (0 : Fin 1)) = ((rs (d.z (ρ a)) : ℝ) : EReal) := by
  have h := pay9_at hz
  pointwise [k0_pay10, h]
  simp only [bits_1024, bits_eps, zero_add, ← EReal.coe_mul, ← coe_sum, coe_div _ _ (by norm_num : (1024 : ℝ) ≠ 0), ← EReal.coe_add]
  exact coe_rs _

theorem pay11_at (a : Fin 256) (k : Fin 1024) : k0_pay11 z (ix2 a k) = ((xh (d.z (ρ a)) k : ℝ) : EReal) := by
  have h := pay9_at hz; have h2 := pay10_at hz
  pointwise [k0_pay11, h, h2]
  simp only [← EReal.coe_mul]; rfl

end norm

section gain

variable (hdh : ∀ a k, dh (ix2 a k) = ((d.dh (ρ a) k : ℝ) : EReal)) (hlg : ∀ k, lg (ix2 (0 : Fin 1) k) = ((d.lg k : ℝ) : EReal))
include hdh hlg

theorem pay12_at (a : Fin 256) (k : Fin 1024) : k0_pay12 dh lg (ix2 a k) = ((d.e (ρ a) k : ℝ) : EReal) := by
  pointwise [k0_pay12, hdh, hlg]
  simp only [← EReal.coe_mul]; rfl

theorem pay14_at (a : Fin 256) (k : Fin 1024) : k0_pay14 dh lg (ix2 a k) = ((mu (d.e (ρ a)) : ℝ) : EReal) := by
  have h := pay12_at hdh hlg
  pointwise [k0_pay14, h]
  simp only [bits_1024, zero_add, ← coe_sum, coe_div _ _ (by norm_num : (1024 : ℝ) ≠ 0)]; rfl

variable (hz : ∀ a k, z (ix2 a k) = ((d.z (ρ a) k : ℝ) : EReal))
include hz

theorem pay13_at (a : Fin 256) :
    k0_pay13 dh z lg (ix2 a (0 : Fin 1)) = ((mu (fun l => d.e (ρ a) l * xh (d.z (ρ a)) l) : ℝ) : EReal) := by
  have h := pay12_at hdh hlg; have h2 := pay11_at hz
  pointwise [k0_pay13, h, h2]
  simp only [bits_1024, zero_add, ← EReal.coe_mul, ← coe_sum, coe_div _ _ (by norm_num : (1024 : ℝ) ≠ 0)]; rfl

theorem fDz_at (a : Fin 256) (k : Fin 1024) : fDz dh z lg (ix2 a k) = ((d.gz (ρ a) k : ℝ) : EReal) := by
  have h := pay10_at hz; have h2 := pay11_at hz; have h3 := pay12_at hdh hlg; have h4 := pay13_at hdh hlg hz; have h5 := pay14_at hdh hlg
  pointwise [fDz, k0_pay15, h, h2, h3, h4, h5]
  simp only [← EReal.coe_mul, ← EReal.coe_sub]; rfl

theorem fDzR_at (a : Fin 256) (k : Fin 1024) : fDzR dh z lg (ix2 a k) = ((d.gz (ρ a) k : ℝ) : EReal) := fDz_at hdh hlg hz a k

variable (hw : ∀ j k, w (ix2 j k) = ((d.w j k : ℝ) : EReal))
include hw

theorem fDm_at (a : Fin 256) (j : Fin 1024) : fDm dh z lg w (ix2 a j) = ((d.dm (ρ a) j : ℝ) : EReal) := by
  have h : ∀ a k, k0_pay18 (k0_pay10 z) (k0_pay11 z) (k0_pay12 dh lg) (k0_pay13 dh z lg) (k0_pay14 dh lg) (ix2 a k) = _ := fDzR_at hdh hlg hz
  pointwise [fDm, k0_pay19, h, hw]
  simp only [zero_add, ← EReal.coe_mul, ← coe_sum]; rfl

end gain

section rec

variable (hyr : ∀ a k, yr (ix2 a k) = ((d.yr (ρ a) k : ℝ) : EReal))
include hyr

theorem pay22_at (a : Fin 256) : k0_pay22 (k0_pay21 yr) (Ideal.ofBits .f32 0x358637BD#32) (ix2 a (0 : Fin 1)) = ((r2 (d.yr (ρ a)) : ℝ) : EReal) := by
  pointwise [k0_pay22, k0_pay21, hyr]
  simp only [bits_512, bits_eps2, zero_add, ← EReal.coe_mul, ← coe_sum, coe_div _ _ (by norm_num : (512 : ℝ) ≠ 0), ← EReal.coe_add]
  exact coe_r2 _

theorem pay23_at (a : Fin 256) (k : Fin 512) : k0_pay23 yr (k0_pay21 yr) (Ideal.ofBits .f32 0x358637BD#32) (ix2 a k) = ((n2 (d.yr (ρ a)) k : ℝ) : EReal) := by
  have h := pay22_at hyr
  pointwise [k0_pay23, hyr, h]
  simp only [← EReal.coe_mul]; rfl

variable (hD : ∀ a j, D (ix2 a j) = ((d.dm (ρ a) j : ℝ) : EReal))

include hD in
omit hyr in
theorem recHalf_at (a : Fin 256) (j : Fin 512) : recHalf D (ix2 a j) = ((d.dR (ρ a) j : ℝ) : EReal) := by
  have e : recHalf D (ix2 a j) = D (ix2 a (⟨j.val, by omega⟩ : Fin 1024)) := by pointwise [recHalf]
  rw [e, hD]; rfl

include hD in
/-- The recurrent gain's gradient after one more block. -/
theorem fGr_at {s : Vec Ideal S1x512 .f32} (k : Fin 512) (x : ℝ) (hs : s (ix2 (0 : Fin 1) k) = (x : EReal)) :
    fGr yr D s (ix2 (0 : Fin 1) k) = ((x + ∑ a, d.dR (ρ a) k * n2 (d.yr (ρ a)) k : ℝ) : EReal) := by
  have h := pay23_at hyr; have h2 := recHalf_at hD
  pointwise [fGr, k0_pay1, k0_pay25, h, h2, hs]
  simp only [zero_add, ← EReal.coe_mul, ← coe_sum, ← EReal.coe_add]

variable (hgr : ∀ k, gr (ix2 (0 : Fin 1) k) = ((d.gr k : ℝ) : EReal))
include hgr

theorem fYr_at (a : Fin 256) (k : Fin 512) : fYr yr gr (ix2 a k) = ((n2 (d.yr (ρ a)) k * d.gr k : ℝ) : EReal) := by
  have h := pay23_at hyr
  pointwise [fYr, k0_pay3, k0_pay26, h, hgr]
  simp only [← EReal.coe_mul]

include hD

theorem fDyr_at (a : Fin 256) (k : Fin 512) : fDyr yr gr D (ix2 a k) = ((d.dyr (ρ a) k : ℝ) : EReal) := by
  have h := pay23_at hyr; have h2 := pay22_at hyr; have h3 := recHalf_at hD
  pointwise [fDyr, k0_pay24, h, h2, h3, hgr]
  simp only [bits_512, zero_add, ← EReal.coe_mul, ← coe_sum, coe_div _ _ (by norm_num : (512 : ℝ) ≠ 0), ← EReal.coe_sub]; rfl

end rec

section attn

variable (hya : ∀ a k, ya (ix2 a k) = ((d.ya (ρ a) k : ℝ) : EReal))
include hya

theorem pay28_at (a : Fin 256) : k0_pay28 ya (ix2 a (0 : Fin 1)) = ((r2 (d.ya (ρ a)) : ℝ) : EReal) := by
  pointwise [k0_pay28, hya]
  simp only [bits_512, bits_eps2, zero_add, ← EReal.coe_mul, ← coe_sum, coe_div _ _ (by norm_num : (512 : ℝ) ≠ 0), ← EReal.coe_add]
  exact coe_r2 _

theorem pay29_at (a : Fin 256) (k : Fin 512) : k0_pay29 ya (ix2 a k) = ((n2 (d.ya (ρ a)) k : ℝ) : EReal) := by
  have h := pay28_at hya
  pointwise [k0_pay29, hya, h]
  simp only [← EReal.coe_mul]; rfl

variable (hD : ∀ a j, D (ix2 a j) = ((d.dm (ρ a) j : ℝ) : EReal))

include hD in
omit hya in
theorem pay27_at (a : Fin 256) (j : Fin 512) : k0_pay27 (F := Ideal) D (ix2 a j) = ((d.dA (ρ a) j : ℝ) : EReal) := by
  have e : k0_pay27 (F := Ideal) D (ix2 a j) = D (ix2 a (⟨512 + j.val, by omega⟩ : Fin 1024)) := by pointwise [k0_pay27]
  rw [e, hD]; rfl

include hD in
/-- The attention gain's gradient after one more block. -/
theorem fGa_at {s : Vec Ideal S1x512 .f32} (k : Fin 512) (x : ℝ) (hs : s (ix2 (0 : Fin 1) k) = (x : EReal)) :
    fGa ya D s (ix2 (0 : Fin 1) k) = ((x + ∑ a, d.dA (ρ a) k * n2 (d.ya (ρ a)) k : ℝ) : EReal) := by
  have h := pay29_at hya; have h2 := pay27_at hD
  pointwise [fGa, k0_pay2, k0_pay31, h, h2, hs]
  simp only [zero_add, ← EReal.coe_mul, ← coe_sum, ← EReal.coe_add]

variable (hga : ∀ k, ga (ix2 (0 : Fin 1) k) = ((d.ga k : ℝ) : EReal))
include hga

theorem fYa_at (a : Fin 256) (k : Fin 512) : fYa ya ga (ix2 a k) = ((n2 (d.ya (ρ a)) k * d.ga k : ℝ) : EReal) := by
  have h := pay29_at hya
  pointwise [fYa, k0_pay4, h, hga]
  simp only [← EReal.coe_mul]

include hD

theorem fDya_at (a : Fin 256) (k : Fin 512) : fDya ya ga D (ix2 a k) = ((d.dya (ρ a) k : ℝ) : EReal) := by
  have h := pay29_at hya; have h2 := pay28_at hya; have h3 := pay27_at hD
  pointwise [fDya, k0_pay30, h, h2, h3, hga]
  simp only [bits_512, zero_add, ← EReal.coe_mul, ← coe_sum, coe_div _ _ (by norm_num : (512 : ℝ) ≠ 0), ← EReal.coe_sub]; rfl

end attn

theorem fMixed_at (hyr : ∀ a k, yr (ix2 a k) = ((d.yr (ρ a) k : ℝ) : EReal)) (hya : ∀ a k, ya (ix2 a k) = ((d.ya (ρ a) k : ℝ) : EReal))
    (hgr : ∀ k, gr (ix2 (0 : Fin 1) k) = ((d.gr k : ℝ) : EReal)) (hga : ∀ k, ga (ix2 (0 : Fin 1) k) = ((d.ga k : ℝ) : EReal))
    (a : Fin 256) (k : Fin 1024) : fMixed yr ya gr ga (ix2 a k) = ((d.mix (ρ a) k : ℝ) : EReal) := by
  refine View.canon_apply_of_pieces (Val := Elt Ideal) (e := .bf16) (fun y : S256x1024.Idx => ((d.mix (ρ (y 0)) (y 1) : ℝ) : EReal)) _ ?_ (ix2 a k) ?_
  · intro p hp
    simp only [List.mem_cons, List.not_mem_nil, or_false] at hp
    rcases hp with rfl | rfl
    · intro x
      refine (congrArg (fYa ya ga) (ix2_eta x).symm).trans ((fYa_at hya hga (x 0) (x 1)).trans ?_)
      have e0 : (Rect.unit (s := S256x1024) ![0, 512] S256x512.size inb_S256x1024_S256x512_0_512).emb x 0 = x 0 := by
        apply Fin.ext; show 0 + 1 * (x 0).val = (x 0).val; omega
      have e1 : ((Rect.unit (s := S256x1024) ![0, 512] S256x512.size inb_S256x1024_S256x512_0_512).emb x 1).val = 512 + (x 1).val := by
        show 512 + 1 * (x 1).val = 512 + (x 1).val; omega
      exact congrArg (fun a : ℝ => (a : EReal)) ((d.mix_high (ρ (x 0)) _ (x 1) e1).trans (congrArg (fun a => d.mix (ρ a) _) e0.symm))
    · intro x
      refine (congrArg (fYr yr gr) (ix2_eta x).symm).trans ((fYr_at hyr hgr (x 0) (x 1)).trans ?_)
      have e0 : (Rect.unit (s := S256x1024) ![0, 0] S256x512.size inb_S256x1024_S256x512_0_0).emb x 0 = x 0 := by
        apply Fin.ext; show 0 + 1 * (x 0).val = (x 0).val; omega
      have e1 : ((Rect.unit (s := S256x1024) ![0, 0] S256x512.size inb_S256x1024_S256x512_0_0).emb x 1).val = (x 1).val := by
        show 0 + 1 * (x 1).val = (x 1).val; omega
      exact congrArg (fun a : ℝ => (a : EReal)) ((d.mix_low (ρ (x 0)) _ (x 1) e1).trans (congrArg (fun a => d.mix (ρ a) _) e0.symm))
  · exact View.cover_of_tiledL _ ![256, 512] (by sl_kernel_rfl) (ix2 a k)

/-- The norm gain's gradient after one more block. -/
theorem fGam_at {s : Vec Ideal S1x1024 .f32} (hdh : ∀ a k, dh (ix2 a k) = ((d.dh (ρ a) k : ℝ) : EReal))
    (hz : ∀ a k, z (ix2 a k) = ((d.z (ρ a) k : ℝ) : EReal)) (k : Fin 1024) (x : ℝ) (hs : s (ix2 (0 : Fin 1) k) = (x : EReal)) :
    fGam dh z s (ix2 (0 : Fin 1) k) = ((x + ∑ a, d.dh (ρ a) k * xh (d.z (ρ a)) k : ℝ) : EReal) := by
  have h := pay11_at hz
  pointwise [fGam, k0_pay16, hdh, h, hs]
  simp only [zero_add, ← EReal.coe_mul, ← coe_sum, ← EReal.coe_add]

/-- The norm bias's gradient after one more block. -/
theorem fBet_at {s : Vec Ideal S1x1024 .f32} (hdh : ∀ a k, dh (ix2 a k) = ((d.dh (ρ a) k : ℝ) : EReal)) (k : Fin 1024) (x : ℝ)
    (hs : s (ix2 (0 : Fin 1) k) = (x : EReal)) :
    fBet dh s (ix2 (0 : Fin 1) k) = ((x + ∑ a, d.dh (ρ a) k : ℝ) : EReal) := by
  pointwise [fBet, k0_pay17, hdh, hs]
  simp only [zero_add, ← coe_sum, ← EReal.coe_add]

end Cert.Kernel19Ideal.Mix

end
-- ==== Proof.Mix19Next.lean ====
/- A grid point of the mixer's output backward kernel after the first: the weight is already in the scratch, and the four sums hold the earlier points'. -/
module

public import proofs.«01_k».proof.Proof.Mix19Blocks

@[expose] public section

set_option maxRecDepth 16384

noncomputable section

namespace Cert.Kernel19Ideal.Mix

open Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1200000 in
/-- The body at such a point leaves each output block at its function of the blocks it read, and the scratch as it was. -/
theorem next_point (c : Dev nD) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x512 .f32) (harg3 : arg3.IsWhole)
    (arg4 : Memref sig .tc .vmem S256x512 .f32) (harg4 : arg4.IsWhole)
    (arg6 : Memref sig .tc .vmem S1x512 .f32) (harg6 : arg6.IsWhole)
    (arg7 : Memref sig .tc .vmem S1x512 .f32) (harg7 : arg7.IsWhole)
    (arg8 : Memref sig .tc .vmem S1x1024 .f32) (harg8 : arg8.IsWhole)
    (arg9 : Memref sig .tc .vmem S256x1024 .f32) (harg9 : arg9.IsWhole)
    (arg10 : Memref sig .tc .vmem S256x1024 .bf16) (harg10 : arg10.IsWhole)
    (arg11 : Memref sig .tc .vmem S256x512 .f32) (harg11 : arg11.IsWhole)
    (arg12 : Memref sig .tc .vmem S256x512 .f32) (harg12 : arg12.IsWhole)
    (arg13 : Memref sig .tc .vmem S256x1024 .bf16) (harg13 : arg13.IsWhole)
    (arg14 : Memref sig .tc .vmem S1x1024 .f32) (harg14 : arg14.IsWhole)
    (arg15 : Memref sig .tc .vmem S1x1024 .f32) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S1024x1024 .bf16) (harg18 : arg18.IsWhole)
    (hc0 : ¬cond0_0 i) (hc1 : ¬cond0_1 i)
    (x0 : Vec F S256x1024 .f32) (x1 : Vec F S256x1024 .f32) (x2 : Vec F S256x512 .f32) (x3 : Vec F S256x512 .f32) (x4 : Vec F S1x512 .f32) (x5 : Vec F S1x512 .f32) (x6 : Vec F S1x1024 .f32) (s0 : Vec F S1x1024 .f32) (s1 : Vec F S1x1024 .f32) (s2 : Vec F S1x512 .f32) (s3 : Vec F S1x512 .f32)
    (w0 : Vec F S1024x1024 .bf16)
    (K : PUnit → sProp 𝕄) :
    iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg6 fullShare x4 ∗
      owns (c : Thread nD τ) arg7 fullShare x5 ∗
      owns (c : Thread nD τ) arg8 fullShare x6 ∗
      (∃ d, owns (c : Thread nD τ) arg9 fullShare d) ∗
      (∃ d, owns (c : Thread nD τ) arg10 fullShare d) ∗
      (∃ d, owns (c : Thread nD τ) arg11 fullShare d) ∗
      (∃ d, owns (c : Thread nD τ) arg12 fullShare d) ∗
      (∃ d, owns (c : Thread nD τ) arg13 fullShare d) ∗
      owns (c : Thread nD τ) arg14 fullShare s0 ∗
      owns (c : Thread nD τ) arg15 fullShare s1 ∗
      owns (c : Thread nD τ) arg16 fullShare s2 ∗
      owns (c : Thread nD τ) arg17 fullShare s3 ∗
      owns (c : Thread nD τ) arg18 fullShare w0
      ∗ (iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg6 fullShare x4 ∗
      owns (c : Thread nD τ) arg7 fullShare x5 ∗
      owns (c : Thread nD τ) arg8 fullShare x6 ∗
      owns (c : Thread nD τ) arg9 fullShare (fDz x0 x1 x6) ∗
      owns (c : Thread nD τ) arg10 fullShare (fDzR x0 x1 x6) ∗
      owns (c : Thread nD τ) arg11 fullShare (fDyr x2 x4 (fDm x0 x1 x6 w0)) ∗
      owns (c : Thread nD τ) arg12 fullShare (fDya x3 x5 (fDm x0 x1 x6 w0)) ∗
      owns (c : Thread nD τ) arg13 fullShare (fMixed x2 x3 x4 x5) ∗
      owns (c : Thread nD τ) arg14 fullShare (fGam x0 x1 s0) ∗
      owns (c : Thread nD τ) arg15 fullShare (fBet x0 s1) ∗
      owns (c : Thread nD τ) arg16 fullShare (fGr x2 (fDm x0 x1 x6 w0) s2) ∗
      owns (c : Thread nD τ) arg17 fullShare (fGa x3 (fDm x0 x1 x6 w0) s3) ∗
      owns (c : Thread nD τ) arg18 fullShare w0) -∗ K ⟨⟩))
      ⊢ wp frame (wpE (defs₀ (F := F)) Variants.none c none) Set.univ
        (cc0_mix_out_bwd i arg1 harg1 arg2 harg2 arg3 harg3 arg4 harg4 (Memref.whole main_v34) (Memref.isWhole_whole _) arg6 harg6 arg7 harg7 arg8 harg8 arg9 harg9 arg10 harg10 arg11 harg11 arg12 harg12 arg13 harg13 arg14 harg14 arg15 harg15 arg16 harg16 arg17 harg17 arg18 harg18 cc0_scratch1) K := by
  simp only [cc0_mix_out_bwd_eq_skeleton]; unfold cc0_mix_out_bwd_skel
  simp only [k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%fs0, %hfs0, HS0⟩, Hk⟩
  obtain rfl := harg1.eq_unread hf0
  obtain rfl := harg2.eq_unread hf1
  obtain rfl := harg3.eq_unread hf2
  obtain rfl := harg4.eq_unread hf3
  obtain rfl := harg6.eq_unread hf4
  obtain rfl := harg7.eq_unread hf5
  obtain rfl := harg8.eq_unread hf6
  obtain rfl := harg14.eq_unread hf12
  obtain rfl := harg15.eq_unread hf13
  obtain rfl := harg16.eq_unread hf14
  obtain rfl := harg17.eq_unread hf15
  obtain rfl := harg18.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; iexact H7; ipureintro
    rw [View.read_writes_eq_canon _ _ _ (View.cover_of_tiledL _ S256x1024.size (by sl_kernel_rfl))]; frame_out
    rfl
  isplitl [H8]
  · iexists _; isplitr; swap; iexact H8; ipureintro
    rw [View.read_writes_eq_canon _ _ _ (View.cover_of_tiledL _ S256x1024.size (by sl_kernel_rfl))]; frame_out
    rfl
  isplitl [H9]
  · iexists _; isplitr; swap; iexact H9; ipureintro
    rw [View.read_writes_eq_canon _ _ _ (View.cover_of_tiledL _ S256x512.size (by sl_kernel_rfl))]; frame_out
    rfl
  isplitl [H10]
  · iexists _; isplitr; swap; iexact H10; ipureintro
    rw [View.read_writes_eq_canon _ _ _ (View.cover_of_tiledL _ S256x512.size (by sl_kernel_rfl))]; frame_out
    rfl
  isplitl [H11]
  · iexists _; isplitr; swap; iexact H11; ipureintro
    rw [View.read_writes_eq_canon _ _ _ (View.cover_of_tiledL _ ![256, 512] (by sl_kernel_rfl))]; frame_out
    rfl
  isplitl [H12]
  · iexists _; isplitr; swap; iexact H12; ipureintro
    rw [View.read_writes_eq_canon _ _ _ (View.cover_of_tiledL _ S1x1024.size (by sl_kernel_rfl))]; frame_out
    rfl
  isplitl [H13]
  · iexists _; isplitr; swap; iexact H13; ipureintro
    rw [View.read_writes_eq_canon _ _ _ (View.cover_of_tiledL _ S1x1024.size (by sl_kernel_rfl))]; frame_out
    rfl
  isplitl [H14]
  · iexists _; isplitr; swap; iexact H14; ipureintro
    rw [View.read_writes_eq_canon _ _ _ (View.cover_of_tiledL _ S1x512.size (by sl_kernel_rfl))]; frame_out
    rfl
  isplitl [H15]
  · iexists _; isplitr; swap; iexact H15; ipureintro
    rw [View.read_writes_eq_canon _ _ _ (View.cover_of_tiledL _ S1x512.size (by sl_kernel_rfl))]; frame_out
    rfl
  iexists _; isplitr; · ipureintro; exact harg18.read_unread _
  iexact HS0

end Cert.Kernel19Ideal.Mix

end
-- ==== Proof.Mix19First.lean ====
/- The first grid point of the mixer's output backward kernel: it copies the weight into the scratch, slab by slab, and starts the four sums at zero. -/
module

public import proofs.«01_k».proof.Proof.Mix19Next

@[expose] public section

set_option maxRecDepth 16384

noncomputable section

namespace Cert.Kernel19Ideal.Mix

open Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The counters of the copies, all at zero. -/
def cells (c : Dev nD) : sProp 𝕄 :=
  iprop(semVal ((c : Thread nD τ), SemLoc.dma 25) 0 ∗
    semVal ((c : Thread nD τ), SemLoc.dma 26) 0 ∗
    semVal ((c : Thread nD τ), SemLoc.dma 27) 0 ∗
    semVal ((c : Thread nD τ), SemLoc.dma 28) 0 ∗
    semVal ((c : Thread nD τ), SemLoc.dma 29) 0 ∗
    semVal ((c : Thread nD τ), SemLoc.dma 30) 0 ∗
    semVal ((c : Thread nD τ), SemLoc.dma 31) 0 ∗
    semVal ((c : Thread nD τ), SemLoc.dma 32) 0)

set_option sl_exec.dmaWindow true in
set_option sl_exec.dmaWindowSet true in
set_option sl_exec.rejoinHeartbeats 200000 in
set_option maxHeartbeats 2400000 in
/-- The body at the first point: the scratch ends at the reassembled weights, and each output block at its function of the blocks read. -/
theorem first_point (c : Dev nD) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x512 .f32) (harg3 : arg3.IsWhole)
    (arg4 : Memref sig .tc .vmem S256x512 .f32) (harg4 : arg4.IsWhole)
    (arg6 : Memref sig .tc .vmem S1x512 .f32) (harg6 : arg6.IsWhole)
    (arg7 : Memref sig .tc .vmem S1x512 .f32) (harg7 : arg7.IsWhole)
    (arg8 : Memref sig .tc .vmem S1x1024 .f32) (harg8 : arg8.IsWhole)
    (arg9 : Memref sig .tc .vmem S256x1024 .f32) (harg9 : arg9.IsWhole)
    (arg10 : Memref sig .tc .vmem S256x1024 .bf16) (harg10 : arg10.IsWhole)
    (arg11 : Memref sig .tc .vmem S256x512 .f32) (harg11 : arg11.IsWhole)
    (arg12 : Memref sig .tc .vmem S256x512 .f32) (harg12 : arg12.IsWhole)
    (arg13 : Memref sig .tc .vmem S256x1024 .bf16) (harg13 : arg13.IsWhole)
    (arg14 : Memref sig .tc .vmem S1x1024 .f32) (harg14 : arg14.IsWhole)
    (arg15 : Memref sig .tc .vmem S1x1024 .f32) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S1024x1024 .bf16) (harg18 : arg18.IsWhole)
    (hc0 : cond0_0 i) (hc1 : cond0_1 i)
    (x0 : Vec F S256x1024 .f32) (x1 : Vec F S256x1024 .f32) (x2 : Vec F S256x512 .f32) (x3 : Vec F S256x512 .f32) (x4 : Vec F S1x512 .f32) (x5 : Vec F S1x512 .f32) (x6 : Vec F S1x1024 .f32)
    (fh : HbBuf0 (F := F) c hbM0_0) (W : Waits sig Unit) (K : PUnit → sProp 𝕄) :
    iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg6 fullShare x4 ∗
      owns (c : Thread nD τ) arg7 fullShare x5 ∗
      owns (c : Thread nD τ) arg8 fullShare x6 ∗
      (∃ d, owns (c : Thread nD τ) arg9 fullShare d) ∗
      (∃ d, owns (c : Thread nD τ) arg10 fullShare d) ∗
      (∃ d, owns (c : Thread nD τ) arg11 fullShare d) ∗
      (∃ d, owns (c : Thread nD τ) arg12 fullShare d) ∗
      (∃ d, owns (c : Thread nD τ) arg13 fullShare d) ∗
      (∃ d, owns (c : Thread nD τ) arg14 fullShare d) ∗
      (∃ d, owns (c : Thread nD τ) arg15 fullShare d) ∗
      (∃ d, owns (c : Thread nD τ) arg16 fullShare d) ∗
      (∃ d, owns (c : Thread nD τ) arg17 fullShare d) ∗
      (∃ d, owns (c : Thread nD τ) arg18 fullShare d) ∗ cells c ∗ hbPt0 c hbM0_0 fh ∗ owes (c : Thread nD τ) 0 W
      ∗ (iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg6 fullShare x4 ∗
      owns (c : Thread nD τ) arg7 fullShare x5 ∗
      owns (c : Thread nD τ) arg8 fullShare x6 ∗
      owns (c : Thread nD τ) arg9 fullShare (fDz x0 x1 x6) ∗
      owns (c : Thread nD τ) arg10 fullShare (fDzR x0 x1 x6) ∗
      owns (c : Thread nD τ) arg11 fullShare (fDyr x2 x4 (fDm x0 x1 x6 (shard 224 (by decide) fh))) ∗
      owns (c : Thread nD τ) arg12 fullShare (fDya x3 x5 (fDm x0 x1 x6 (shard 224 (by decide) fh))) ∗
      owns (c : Thread nD τ) arg13 fullShare (fMixed x2 x3 x4 x5) ∗
      owns (c : Thread nD τ) arg14 fullShare (fGam x0 x1 k0_pay5) ∗
      owns (c : Thread nD τ) arg15 fullShare (fBet x0 k0_pay6) ∗
      owns (c : Thread nD τ) arg16 fullShare (fGr x2 (fDm x0 x1 x6 (shard 224 (by decide) fh)) k0_pay7) ∗
      owns (c : Thread nD τ) arg17 fullShare (fGa x3 (fDm x0 x1 x6 (shard 224 (by decide) fh)) k0_pay8) ∗
      owns (c : Thread nD τ) arg18 fullShare (shard 224 (by decide) fh) ∗
      cells c ∗ hbPt0 c hbM0_0 fh ∗ (∃ W', owes (c : Thread nD τ) 0 W')) -∗ K ⟨⟩))
      ⊢ wp frame (wpE (defs₀ (F := F)) Variants.none c none) Set.univ
        (cc0_mix_out_bwd i arg1 harg1 arg2 harg2 arg3 harg3 arg4 harg4 (Memref.whole main_v34) (Memref.isWhole_whole _) arg6 harg6 arg7 harg7 arg8 harg8 arg9 harg9 arg10 harg10 arg11 harg11 arg12 harg12 arg13 harg13 arg14 harg14 arg15 harg15 arg16 harg16 arg17 harg17 arg18 harg18 cc0_scratch1) K := by
  simp only [cc0_mix_out_bwd_eq_skeleton]; unfold cc0_mix_out_bwd_skel
  simp only [k0_part4_eq_skeleton, k0_part1_eq_skeleton, k0_part2_eq_skeleton, k0_part3_eq_skeleton, k0_part5_eq_skeleton, k0_part6_eq_skeleton]
  unfold owns; unfold cells
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨Hq0, Hq1, Hq2, Hq3, Hq4, Hq5, Hq6, Hq7⟩, Hh0, HW, Hk⟩
  obtain rfl := harg1.eq_unread hf0
  obtain rfl := harg2.eq_unread hf1
  obtain rfl := harg3.eq_unread hf2
  obtain rfl := harg4.eq_unread hf3
  obtain rfl := harg6.eq_unread hf4
  obtain rfl := harg7.eq_unread hf5
  obtain rfl := harg8.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; iexact H7; ipureintro
    rw [View.read_writes_eq_canon _ _ _ (View.cover_of_tiledL _ S256x1024.size (by sl_kernel_rfl))]; frame_out
    rfl
  isplitl [H8]
  · iexists _; isplitr; swap; iexact H8; ipureintro
    rw [View.read_writes_eq_canon _ _ _ (View.cover_of_tiledL _ S256x1024.size (by sl_kernel_rfl))]; frame_out
    rfl
  isplitl [H9]
  · iexists _; isplitr; swap; iexact H9; ipureintro
    rw [View.read_writes_eq_canon _ _ _ (View.cover_of_tiledL _ S256x512.size (by sl_kernel_rfl))]; frame_out
    exact congrArg (fun w0 => fDyr x2 x4 (fDm x0 x1 x6 w0)) (load_shard _ fh 224 (by decide) _ _ _ _ _ _ _ _ _ _ _ _ _ _ _ _ _ _ _ _ _ _ _ _ _ )
  isplitl [H10]
  · iexists _; isplitr; swap; iexact H10; ipureintro
    rw [View.read_writes_eq_canon _ _ _ (View.cover_of_tiledL _ S256x512.size (by sl_kernel_rfl))]; frame_out
    exact congrArg (fun w0 => fDya x3 x5 (fDm x0 x1 x6 w0)) (load_shard _ fh 224 (by decide) _ _ _ _ _ _ _ _ _ _ _ _ _ _ _ _ _ _ _ _ _ _ _ _ _ )
  isplitl [H11]
  · iexists _; isplitr; swap; iexact H11; ipureintro
    rw [View.read_writes_eq_canon _ _ _ (View.cover_of_tiledL _ ![256, 512] (by sl_kernel_rfl))]; frame_out
    rfl
  isplitl [H12]
  · iexists _; isplitr; swap; iexact H12; ipureintro
    rw [View.read_writes_eq_canon _ _ _ (View.cover_of_tiledL _ S1x1024.size (by sl_kernel_rfl))]; frame_out
    rfl
  isplitl [H13]
  · iexists _; isplitr; swap; iexact H13; ipureintro
    rw [View.read_writes_eq_canon _ _ _ (View.cover_of_tiledL _ S1x1024.size (by sl_kernel_rfl))]; frame_out
    rfl
  isplitl [H14]
  · iexists _; isplitr; swap; iexact H14; ipureintro
    rw [View.read_writes_eq_canon _ _ _ (View.cover_of_tiledL _ S1x512.size (by sl_kernel_rfl))]; frame_out
    exact congrArg (fun w0 => fGr x2 (fDm x0 x1 x6 w0) k0_pay7) (load_shard _ fh 224 (by decide) _ _ _ _ _ _ _ _ _ _ _ _ _ _ _ _ _ _ _ _ _ _ _ _ _ )
  isplitl [H15]
  · iexists _; isplitr; swap; iexact H15; ipureintro
    rw [View.read_writes_eq_canon _ _ _ (View.cover_of_tiledL _ S1x512.size (by sl_kernel_rfl))]; frame_out
    exact congrArg (fun w0 => fGa x3 (fDm x0 x1 x6 w0) k0_pay8) (load_shard _ fh 224 (by decide) _ _ _ _ _ _ _ _ _ _ _ _ _ _ _ _ _ _ _ _ _ _ _ _ _ )
  isplitl [HS0]
  · iexists _; isplitr; swap; iexact HS0; ipureintro
    rw [View.read_writes_eq_canon _ _ _ (View.cover_of_tiledL _ ![128, 1024] (by sl_kernel_rfl))]; frame_out
    exact canon_shard fh 224 (by decide) _ _ _ _ _ _ _ _ _ _ _ _ _ _ _ _ _ _ _ _ _ _ _ _
  isplitl [Hq0 Hq1 Hq2 Hq3 Hq4 Hq5 Hq6 Hq7]
  · isplitl [Hq0]; iexact Hq0
    isplitl [Hq1]; iexact Hq1
    isplitl [Hq2]; iexact Hq2
    isplitl [Hq3]; iexact Hq3
    isplitl [Hq4]; iexact Hq4
    isplitl [Hq5]; iexact Hq5
    isplitl [Hq6]; iexact Hq6
    iexact Hq7
  isplitl [Hh0]; · iexact Hh0
  iexists _; iexact HW

end Cert.Kernel19Ideal.Mix

end
-- ==== Proof.Mix19Frame.lean ====
/- The whole run of the mixer's output backward kernel: what each staging buffer, the scratch and the copy counters hold before and after every grid point. -/
module

public import proofs.«01_k».proof.Proof.Mix19First

@[expose] public section

set_option maxRecDepth 16384

noncomputable section

namespace Cert.Kernel19Ideal.Mix

open Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the scratch holds them after the first point. -/
def wt0 (c : Dev nD) : Vec F S1024x1024 .bf16 := shard 224 (by decide) (V m c main_v34)

/-- The sum of the norm gain over the blocks up to a point. -/
def sum0 (c : Dev nD) : (n : ℕ) → n < cfg0.N → Vec F S1x1024 .f32
  | 0, h => fGam (iblk m c 0 ⟨0, h⟩) (iblk m c 1 ⟨0, h⟩) k0_pay5
  | n + 1, h => fGam (iblk m c 0 ⟨n + 1, h⟩) (iblk m c 1 ⟨n + 1, h⟩) (sum0 c n (Nat.lt_of_succ_lt h))

theorem sum0_first (c : Dev nD) (t : Fin cfg0.N) (h : t.val = 0) :
    sum0 m c t.val t.isLt = fGam (iblk m c 0 t) (iblk m c 1 t) k0_pay5 := by
  obtain ⟨n, hn⟩ := t; obtain rfl : n = 0 := h; rfl

theorem sum0_next (c : Dev nD) (t : Fin cfg0.N) (h : t.val ≠ 0) :
    sum0 m c t.val t.isLt = fGam (iblk m c 0 t) (iblk m c 1 t) (sum0 m c (t.val - 1) (Nat.lt_of_le_of_lt (Nat.sub_le _ _) t.isLt)) := by
  obtain ⟨n, hn⟩ := t
  cases n with
  | zero => exact absurd rfl h
  | succ n => rfl

/-- The sum of the norm bias over the blocks up to a point. -/
def sum1 (c : Dev nD) : (n : ℕ) → n < cfg0.N → Vec F S1x1024 .f32
  | 0, h => fBet (iblk m c 0 ⟨0, h⟩) k0_pay6
  | n + 1, h => fBet (iblk m c 0 ⟨n + 1, h⟩) (sum1 c n (Nat.lt_of_succ_lt h))

theorem sum1_first (c : Dev nD) (t : Fin cfg0.N) (h : t.val = 0) :
    sum1 m c t.val t.isLt = fBet (iblk m c 0 t) k0_pay6 := by
  obtain ⟨n, hn⟩ := t; obtain rfl : n = 0 := h; rfl

theorem sum1_next (c : Dev nD) (t : Fin cfg0.N) (h : t.val ≠ 0) :
    sum1 m c t.val t.isLt = fBet (iblk m c 0 t) (sum1 m c (t.val - 1) (Nat.lt_of_le_of_lt (Nat.sub_le _ _) t.isLt)) := by
  obtain ⟨n, hn⟩ := t
  cases n with
  | zero => exact absurd rfl h
  | succ n => rfl

/-- The sum of the recurrent gain over the blocks up to a point. -/
def sum2 (c : Dev nD) : (n : ℕ) → n < cfg0.N → Vec F S1x512 .f32
  | 0, h => fGr (iblk m c 2 ⟨0, h⟩) (fDm (iblk m c 0 ⟨0, h⟩) (iblk m c 1 ⟨0, h⟩) (iblk m c 6 ⟨0, h⟩) (wt0 m c)) k0_pay7
  | n + 1, h => fGr (iblk m c 2 ⟨n + 1, h⟩) (fDm (iblk m c 0 ⟨n + 1, h⟩) (iblk m c 1 ⟨n + 1, h⟩) (iblk m c 6 ⟨n + 1, h⟩) (wt0 m c)) (sum2 c n (Nat.lt_of_succ_lt h))

theorem sum2_first (c : Dev nD) (t : Fin cfg0.N) (h : t.val = 0) :
    sum2 m c t.val t.isLt = fGr (iblk m c 2 t) (fDm (iblk m c 0 t) (iblk m c 1 t) (iblk m c 6 t) (wt0 m c)) k0_pay7 := by
  obtain ⟨n, hn⟩ := t; obtain rfl : n = 0 := h; rfl

theorem sum2_next (c : Dev nD) (t : Fin cfg0.N) (h : t.val ≠ 0) :
    sum2 m c t.val t.isLt = fGr (iblk m c 2 t) (fDm (iblk m c 0 t) (iblk m c 1 t) (iblk m c 6 t) (wt0 m c)) (sum2 m c (t.val - 1) (Nat.lt_of_le_of_lt (Nat.sub_le _ _) t.isLt)) := by
  obtain ⟨n, hn⟩ := t
  cases n with
  | zero => exact absurd rfl h
  | succ n => rfl

/-- The sum of the attention gain over the blocks up to a point. -/
def sum3 (c : Dev nD) : (n : ℕ) → n < cfg0.N → Vec F S1x512 .f32
  | 0, h => fGa (iblk m c 3 ⟨0, h⟩) (fDm (iblk m c 0 ⟨0, h⟩) (iblk m c 1 ⟨0, h⟩) (iblk m c 6 ⟨0, h⟩) (wt0 m c)) k0_pay8
  | n + 1, h => fGa (iblk m c 3 ⟨n + 1, h⟩) (fDm (iblk m c 0 ⟨n + 1, h⟩) (iblk m c 1 ⟨n + 1, h⟩) (iblk m c 6 ⟨n + 1, h⟩) (wt0 m c)) (sum3 c n (Nat.lt_of_succ_lt h))

theorem sum3_first (c : Dev nD) (t : Fin cfg0.N) (h : t.val = 0) :
    sum3 m c t.val t.isLt = fGa (iblk m c 3 t) (fDm (iblk m c 0 t) (iblk m c 1 t) (iblk m c 6 t) (wt0 m c)) k0_pay8 := by
  obtain ⟨n, hn⟩ := t; obtain rfl : n = 0 := h; rfl

theorem sum3_next (c : Dev nD) (t : Fin cfg0.N) (h : t.val ≠ 0) :
    sum3 m c t.val t.isLt = fGa (iblk m c 3 t) (fDm (iblk m c 0 t) (iblk m c 1 t) (iblk m c 6 t) (wt0 m c)) (sum3 m c (t.val - 1) (Nat.lt_of_le_of_lt (Nat.sub_le _ _) t.isLt)) := by
  obtain ⟨n, hn⟩ := t
  cases n with
  | zero => exact absurd rfl h
  | succ n => rfl

/-- What every point keeps: the generator register, the copy counters at zero, and what is left in main memory. -/
def kept (c : Dev nD) : sProp 𝕄 :=
  iprop((∃ r, prngReg c r) ∗ cells c ∗ hbPt0 c hbM0_0 (V m c main_v34))

/-- The scratch at anything, as the first point finds it. -/
def scratchAny (c : Dev nD) : sProp 𝕄 :=
  iprop((∃ d, owns (c : Thread nD τ) scM0_0 fullShare d))

/-- The scratch at the weights, as every later point finds it. -/
def scratchSet (c : Dev nD) : sProp 𝕄 :=
  iprop(owns (c : Thread nD τ) scM0_0 fullShare (wt0 m c))

theorem launch_eq (c : Dev nD) : (Pipeline.ΦD osem0 spec0 H0 (V m) c : sProp 𝕄) = iprop(scratchAny c ∗ kept m c) := by
  rw [PhiD0_eq]; rfl

/-- What holds before point `n`. -/
def inv (c : Dev nD) : (n : ℕ) → n ≤ cfg0.N → sProp 𝕄
  | 0, _ => iprop(scratchAny c ∗ kept m c)
  | _ + 1, _ => iprop(scratchSet m c ∗ kept m c)

theorem inv_first (c : Dev nD) (n : ℕ) (h : n ≤ cfg0.N) (hz : n = 0) : inv m c n h = iprop(scratchAny c ∗ kept m c) := by
  subst hz; rfl

theorem inv_next (c : Dev nD) (n : ℕ) (h : n ≤ cfg0.N) (hz : n ≠ 0) : inv m c n h = iprop(scratchSet m c ∗ kept m c) := by
  cases n with
  | zero => exact absurd rfl hz
  | succ n => rfl

/-- The arrays at the start, what the body leaves in each window's buffer, and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fDz (iblk m c 0 t) (iblk m c 1 t) (iblk m c 6 t)
    | ⟨8, _⟩ => fDzR (iblk m c 0 t) (iblk m c 1 t) (iblk m c 6 t)
    | ⟨9, _⟩ => fDyr (iblk m c 2 t) (iblk m c 4 t) (fDm (iblk m c 0 t) (iblk m c 1 t) (iblk m c 6 t) (wt0 m c))
    | ⟨10, _⟩ => fDya (iblk m c 3 t) (iblk m c 5 t) (fDm (iblk m c 0 t) (iblk m c 1 t) (iblk m c 6 t) (wt0 m c))
    | ⟨11, _⟩ => fMixed (iblk m c 2 t) (iblk m c 3 t) (iblk m c 4 t) (iblk m c 5 t)
    | ⟨12, _⟩ => sum0 m c t.val t.isLt
    | ⟨13, _⟩ => sum1 m c t.val t.isLt
    | ⟨14, _⟩ => sum2 m c t.val t.isLt
    | ⟨15, _⟩ => sum3 m c t.val t.isLt
    | ⟨n + 16, h⟩ => absurd (show n + 16 < 16 from h) (by omega)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = fDz (iblk m c 0 t) (iblk m c 1 t) (iblk m c 6 t) := by dsimp only [dats]
theorem after_8 (c : Dev nD) (t : Fin cfg0.N) : (dats m 0 c).after 8 t = fDzR (iblk m c 0 t) (iblk m c 1 t) (iblk m c 6 t) := by dsimp only [dats]
theorem after_9 (c : Dev nD) (t : Fin cfg0.N) : (dats m 0 c).after 9 t = fDyr (iblk m c 2 t) (iblk m c 4 t) (fDm (iblk m c 0 t) (iblk m c 1 t) (iblk m c 6 t) (wt0 m c)) := by dsimp only [dats]
theorem after_10 (c : Dev nD) (t : Fin cfg0.N) : (dats m 0 c).after 10 t = fDya (iblk m c 3 t) (iblk m c 5 t) (fDm (iblk m c 0 t) (iblk m c 1 t) (iblk m c 6 t) (wt0 m c)) := by dsimp only [dats]
theorem after_11 (c : Dev nD) (t : Fin cfg0.N) : (dats m 0 c).after 11 t = fMixed (iblk m c 2 t) (iblk m c 3 t) (iblk m c 4 t) (iblk m c 5 t) := by dsimp only [dats]
theorem after_12 (c : Dev nD) (t : Fin cfg0.N) : (dats m 0 c).after 12 t = sum0 m c t.val t.isLt := by dsimp only [dats]
theorem after_13 (c : Dev nD) (t : Fin cfg0.N) : (dats m 0 c).after 13 t = sum1 m c t.val t.isLt := by dsimp only [dats]
theorem after_14 (c : Dev nD) (t : Fin cfg0.N) : (dats m 0 c).after 14 t = sum2 m c t.val t.isLt := by dsimp only [dats]
theorem after_15 (c : Dev nD) (t : Fin cfg0.N) : (dats m 0 c).after 15 t = sum3 m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- After the first point the running sum's buffer still holds what the point before left. -/
theorem before_12 (c : Dev nD) (t : Fin cfg0.N) (h : t.val ≠ 0) (d) :
    (dats m 0 c).before 12 t d = sum0 m c (t.val - 1) (Nat.lt_of_le_of_lt (Nat.sub_le _ _) t.isLt) := by
  have hN : t.val < 17 := lt_of_lt_of_eq t.isLt (show cfg0.N = 17 from N_0)
  rw [Dat.before_out_kept _ 12 rfl t (by omega) (Bool.eq_false_iff.mpr fun h => by have := (flush0_12 _).mp h; dsimp only at this; omega)
    (fun _ => rfl) (fun _ _ => rfl)]
  dsimp only [dats]

/-- After the first point the running sum's buffer still holds what the point before left. -/
theorem before_13 (c : Dev nD) (t : Fin cfg0.N) (h : t.val ≠ 0) (d) :
    (dats m 0 c).before 13 t d = sum1 m c (t.val - 1) (Nat.lt_of_le_of_lt (Nat.sub_le _ _) t.isLt) := by
  have hN : t.val < 17 := lt_of_lt_of_eq t.isLt (show cfg0.N = 17 from N_0)
  rw [Dat.before_out_kept _ 13 rfl t (by omega) (Bool.eq_false_iff.mpr fun h => by have := (flush0_13 _).mp h; dsimp only at this; omega)
    (fun _ => rfl) (fun _ _ => rfl)]
  dsimp only [dats]

/-- After the first point the running sum's buffer still holds what the point before left. -/
theorem before_14 (c : Dev nD) (t : Fin cfg0.N) (h : t.val ≠ 0) (d) :
    (dats m 0 c).before 14 t d = sum2 m c (t.val - 1) (Nat.lt_of_le_of_lt (Nat.sub_le _ _) t.isLt) := by
  have hN : t.val < 17 := lt_of_lt_of_eq t.isLt (show cfg0.N = 17 from N_0)
  rw [Dat.before_out_kept _ 14 rfl t (by omega) (Bool.eq_false_iff.mpr fun h => by have := (flush0_14 _).mp h; dsimp only at this; omega)
    (fun _ => rfl) (fun _ _ => rfl)]
  dsimp only [dats]

/-- After the first point the running sum's buffer still holds what the point before left. -/
theorem before_15 (c : Dev nD) (t : Fin cfg0.N) (h : t.val ≠ 0) (d) :
    (dats m 0 c).before 15 t d = sum3 m c (t.val - 1) (Nat.lt_of_le_of_lt (Nat.sub_le _ _) t.isLt) := by
  have hN : t.val < 17 := lt_of_lt_of_eq t.isLt (show cfg0.N = 17 from N_0)
  rw [Dat.before_out_kept _ 15 rfl t (by omega) (Bool.eq_false_iff.mpr fun h => by have := (flush0_15 _).mp h; dsimp only at this; omega)
    (fun _ => rfl) (fun _ _ => rfl)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = iprop(scratchSet m c ∗ kept m c) from rfl,
    after_0, after_1, after_2, after_3, after_4, after_5, after_6, after_7, after_8, after_9, after_10, after_11, after_12, after_13, after_14, after_15]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases hz : t.val = 0
  · rw [inv_castSucc m c t, inv_first m c _ _ hz, sum0_first m c t hz, sum1_first m c t hz, sum2_first m c t hz, sum3_first m c t hz]
    unfold scratchAny scratchSet kept wt0
    iintro ⟨⟨HS0, ⟨Hg, Hq, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (first_point c (grid0.coords t) _ _ _ _ _ _ _ _ _ _ _ _ _ _ _ _ _ _ _ _ _ _ _ _ _ _ _ _ _ _ _ _ _ _  ((hcond0_0 t).mpr (by omega)) ((hcond0_1 t).mpr (by omega))
      (iblk m c 0 t) (iblk m c 1 t) (iblk m c 2 t) (iblk m c 3 t) (iblk m c 4 t) (iblk m c 5 t) (iblk m c 6 t) (V m c main_v34) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [Hq]; · iexact Hq
    isplitl [Hh0]; · iexact Hh0
    isplitl [HW]; · iexact HW
    iintro ⟨H0, H1, H2, H3, H4, H5, H6, H7, H8, H9, H10, H11, H12, H13, H14, H15, HS0, Hq, Hh0, ⟨%W', HW'⟩⟩
    isplitl [HS0 Hg Hq Hh0]
    · isplitl [HS0]; · iexact HS0
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [inv_castSucc m c t, inv_next m c _ _ hz, sum0_next m c t hz, sum1_next m c t hz, sum2_next m c t hz, sum3_next m c t hz]
    simp only [before_12 m c t hz, before_13 m c t hz, before_14 m c t hz, before_15 m c t hz]
    unfold scratchSet kept
    iintro ⟨⟨HS0, ⟨Hg, Hq, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (next_point c (grid0.coords t) _ _ _ _ _ _ _ _ _ _ _ _ _ _ _ _ _ _ _ _ _ _ _ _ _ _ _ _ _ _ _ _ _ _  (fun h => by have := (hcond0_0 t).mp h; omega) (fun h => by have := (hcond0_1 t).mp h; omega)
      (iblk m c 0 t) (iblk m c 1 t) (iblk m c 2 t) (iblk m c 3 t) (iblk m c 4 t) (iblk m c 5 t) (iblk m c 6 t) _ _ _ _ _ _ )
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    isplitl [H14]; · iexact H14
    isplitl [H15]; · iexact H15
    isplitl [HS0]; · iexact HS0
    iintro ⟨H0, H1, H2, H3, H4, H5, H6, H7, H8, H9, H10, H11, H12, H13, H14, H15, HS0⟩
    isplitl [HS0 Hg Hq Hh0]
    · isplitl [HS0]; · iexact HS0
      isplitl [Hg]; · iexact Hg
      isplitl [Hq]; · iexact Hq
      iexact Hh0
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦD osem0 spec0 H0 (V m) c ⊢ (dats m 0 c).Φ 0 := by
  rw [show (dats m 0 c).Φ 0 = iprop(scratchAny c ∗ kept m c) from rfl, launch_eq]

theorem inv_out (c : Dev nD) : (dats m 0 c).Φ (Fin.last cfg0.N) ⊢ Pipeline.ΦD osem0 spec0 H0 (V m) c := by
  rw [show (dats m 0 c).Φ (Fin.last cfg0.N) = inv m c (Fin.last cfg0.N).val (Nat.le_of_lt_succ (Fin.last cfg0.N).isLt) from rfl,
    inv_next m c _ _ (by rw [Fin.val_last]; have : cfg0.N = 17 := N_0; omega), launch_eq]
  unfold scratchSet scratchAny
  iintro ⟨HS0, Hk⟩
  isplitl [HS0]
  · iexists _; iexact HS0
  iexact Hk

set_option backward.isDefEq.respectTransparency.types false in
/-- Every weakly fair run ends, with the arrays at what the points left and every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the arguments end as they began, and every counter is at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel19Ideal.Mix

end
-- ==== Proof.Mix19Entry.lean ====
/- The arrays the mixer's output gradient kernel reads, over the reals: the host operations before it compute the norm's input, and pack the mixer's
   weights into eight shards of 352 rows each. -/
module

public import proofs.«01_k».proof.Proof.Mix19Reals
public import proofs.«01_k».proof.Proof.Mix19Frame
public import Idealize.ShloMosaic.Lib.Pipeline.ValueKit
public import Idealize.ShloMosaic.Lib.IdealHost

@[expose] public section

set_option maxRecDepth 16384

noncomputable section

namespace Cert.Kernel19Ideal.Mix

open Idealize.ShloMosaic Idealize.ShloMosaic.TcCoe Idealize.SL.Sem Cert.Kernel19Ideal Kernel19Ideal.Gen Cert.Row

variable (m : (ℓ : Loc nD τ sig) → Buf (Elt Ideal) ℓ) (c : Dev nD)

/-- The kernel's arguments are the reals of `d`. -/
structure Reads (d : MixData) : Prop where
  h : ∀ i k, (m (c.tc.loc main_arg0) : FVec Ideal S4352x1024 .f32) (ix2 i k) = ((d.h i k : ℝ) : EReal)
  yr : ∀ i k, (m (c.tc.loc main_arg1) : FVec Ideal S4352x512 .f32) (ix2 i k) = ((d.yr i k : ℝ) : EReal)
  ya : ∀ i k, (m (c.tc.loc main_arg2) : FVec Ideal S4352x512 .f32) (ix2 i k) = ((d.ya i k : ℝ) : EReal)
  w : ∀ i k, (m (c.tc.loc main_arg4) : FVec Ideal S1024x1024 .f32) (ix2 i k) = ((d.w i k : ℝ) : EReal)
  gr : ∀ k, (m (c.tc.loc main_arg5) : FVec Ideal S1x512 .f32) (ix2 (0 : Fin 1) k) = ((d.gr k : ℝ) : EReal)
  ga : ∀ k, (m (c.tc.loc main_arg6) : FVec Ideal S1x512 .f32) (ix2 (0 : Fin 1) k) = ((d.ga k : ℝ) : EReal)
  lg : ∀ k, (m (c.tc.loc main_arg7) : FVec Ideal S1x1024 .f32) (ix2 (0 : Fin 1) k) = ((d.lg k : ℝ) : EReal)
  dh : ∀ i k, (m (c.tc.loc main_arg9) : FVec Ideal S4352x1024 .f32) (ix2 i k) = ((d.dh i k : ℝ) : EReal)

variable {m c} {d : MixData} (R : Reads m c d)
include R

theorem v28_at (i : Fin 4352) (k : Fin 1024) : (V m c main_v28 : FVec Ideal S4352x1024 .f32) (ix2 i k) = ((d.z i k : ℝ) : EReal) := by
  simp only [V, hostOps0, List.flatten_cons, List.flatten_nil, List.append_nil, List.cons_append, List.nil_append]
  after_results_simp
  (try simp only [StableHlo.TRef.ofBuf, StableHlo.TRef.toBuf, cast_eq])
  have h := R.h; have w := R.w; have yr := R.yr; have ya := R.ya; have gr := R.gr; have ga := R.ga
  pointwise [h, w]
  after_results_simp
  pointwise [yr, ya, gr, ga]
  simp only [bits_alpha, bits_512, bits_eps2, zero_add, add_zero, ← EReal.coe_mul, ← coe_sum, coe_div _ _ (by norm_num : (512 : ℝ) ≠ 0), ← EReal.coe_add]
  have e1 : Ideal.rsqrt (((∑ k, d.yr i k * d.yr i k) / 512 + eps2 : ℝ) : EReal) = ((r2 (d.yr i) : ℝ) : EReal) := coe_r2 _
  have e2 : Ideal.rsqrt (((∑ k, d.ya i k * d.ya i k) / 512 + eps2 : ℝ) : EReal) = ((r2 (d.ya i) : ℝ) : EReal) := coe_r2 _
  rw [e1, e2]
  simp only [← EReal.coe_mul, ← coe_sum, ← EReal.coe_add]; rfl

omit R in
theorem buf_eq : V m c main_v34 = (concatenate S8x352x1024 1
    [⟨S8x224x1024, shapeCast S8x224x1024 (transpose S1792x1024 [1, 0] (m (c.tc.loc main_arg3) : FVec Ideal S1024x1792 .f32) transposes_S1024x1792_S1792x1024_1_0) shapeCasts_S1792x1024_S8x224x1024⟩,
     ⟨S8x128x1024, shapeCast S8x128x1024 (m (c.tc.loc main_arg4) : FVec Ideal S1024x1024 .f32) shapeCasts_S1024x1024_S8x128x1024⟩]
    concatenates_S8x224x1024_S8x128x1024_S8x352x1024_d1 : FVec Ideal S8x352x1024 .bf16) := by
  funext y
  simp only [V, hostOps0, List.flatten_cons, List.flatten_nil, List.append_nil, List.cons_append, List.nil_append]
  after_results_simp
  first | rfl | (dsimp only [Matrix.cons_val]; after_results_simp; rfl)

omit R in
theorem cat_at (x₁ : FVec Ideal S8x224x1024 .bf16) (x₂ : FVec Ideal S8x128x1024 .bf16) (i : Fin 8) (j : Fin 352) (k : Fin 1024) :
    (concatenate S8x352x1024 1 [⟨S8x224x1024, x₁⟩, ⟨S8x128x1024, x₂⟩]
      concatenates_S8x224x1024_S8x128x1024_S8x352x1024_d1 : FVec Ideal S8x352x1024 .bf16) (ix3 i j k) =
    if h : j.val < 224 then x₁ (ix3 i ⟨j.val, h⟩ k) else x₂ (ix3 i ⟨j.val - 224, by omega⟩ k) := by
  pointwise []

omit R in
theorem fold_at (x : FVec Ideal S1024x1024 .f32) (i : Fin 8) (j : Fin 128) (k : Fin 1024) :
    (shapeCast S8x128x1024 x shapeCasts_S1024x1024_S8x128x1024 : FVec Ideal S8x128x1024 .f32) (ix3 i j k) =
    x (ix2 (⟨i.val * 128 + j.val, by omega⟩ : Fin 1024) k) := by
  pointwise []

theorem wt0_at (j : Fin 1024) (k : Fin 1024) : wt0 m c (ix2 j k) = ((d.w j k : ℝ) : EReal) := by
  have hj := Nat.mod_lt j.val (by decide : 0 < 128)
  rw [wt0, buf_eq]
  refine (cat_at _ _ (⟨j.val / 128, by omega⟩ : Fin 8) (⟨224 + j.val % 128, by omega⟩ : Fin 352) k).trans ?_
  refine (dif_neg (show ¬ 224 + j.val % 128 < 224 by omega)).trans ?_
  refine (fold_at _ _ _ _).trans ?_
  refine Eq.trans ?_ (R.w j k)
  congr 2; apply Fin.ext; simp only; omega

end Cert.Kernel19Ideal.Mix

end
-- ==== Proof.Mix19Value.lean ====
/- The mixer's output gradient kernel's nine result arrays over the reals: what every grid point reads and stores is the gradient at that point's
   rows, the blocks tile the arrays, and the four gains' and biases' gradients accumulate over the points. -/
module

public import proofs.«01_k».proof.Proof.Mix19Block
public import proofs.«01_k».proof.Proof.Mix19Entry

@[expose] public section

set_option maxRecDepth 16384

noncomputable section

namespace Cert.Kernel19Ideal.Mix

open Idealize.ShloMosaic Idealize.ShloMosaic.TcCoe Idealize.SL.Sem Cert.Kernel19Ideal Kernel19Ideal.Gen Cert.Row
open Idealize.ShloMosaic.Pipeline (Dat)

/-- The block of every window at a point: rows by the point, or the whole row. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0] ∧ win0_12.index t = ![0, 0] ∧ win0_13.index t = ![0, 0] ∧ win0_14.index t = ![0, 0] ∧ win0_15.index t = ![0, 0] ∧ t.val < 17 :=
  (by decide +kernel : ∀ t : Fin grid0.N, _)

theorem lt17 (t : Fin cfg0.N) : t.val < 17 := (idx t).2.2.2.2.2.2.2.2.2.2.2.2.2.2.2.2

/-- The array's row at row `a` of the block of point `t`. -/
def row (t : Fin cfg0.N) (a : Fin 256) : Fin 4352 := ⟨t.val * 256 + a.val, by have := lt17 t; omega⟩

variable {m : (ℓ : Loc nD τ sig) → Buf (Elt Ideal) ℓ} {c : Dev nD} {d : MixData} (R : Reads m c d)
include R

theorem dh_at (t : Fin cfg0.N) (a : Fin 256) (k : Fin 1024) :
    (iblk m c 0 t : Vec Ideal S256x1024 .f32) (ix2 a k) = ((d.dh (row t a) k : ℝ) : EReal) := by
  refine Eq.trans ?_ (R.dh (row t a) k)
  blk_ext [iblk, V_main_arg9, idx t, row]

theorem z_at (t : Fin cfg0.N) (a : Fin 256) (k : Fin 1024) :
    (iblk m c 1 t : Vec Ideal S256x1024 .f32) (ix2 a k) = ((d.z (row t a) k : ℝ) : EReal) := by
  refine Eq.trans ?_ (v28_at R (row t a) k)
  blk_ext [iblk, idx t, row]

theorem yr_at (t : Fin cfg0.N) (a : Fin 256) (k : Fin 512) :
    (iblk m c 2 t : Vec Ideal S256x512 .f32) (ix2 a k) = ((d.yr (row t a) k : ℝ) : EReal) := by
  refine Eq.trans ?_ (R.yr (row t a) k)
  blk_ext [iblk, V_main_arg1, idx t, row]

theorem ya_at (t : Fin cfg0.N) (a : Fin 256) (k : Fin 512) :
    (iblk m c 3 t : Vec Ideal S256x512 .f32) (ix2 a k) = ((d.ya (row t a) k : ℝ) : EReal) := by
  refine Eq.trans ?_ (R.ya (row t a) k)
  blk_ext [iblk, V_main_arg2, idx t, row]

theorem gr_at (t : Fin cfg0.N) (k : Fin 512) :
    (iblk m c 4 t : Vec Ideal S1x512 .f32) (ix2 (0 : Fin 1) k) = ((d.gr k : ℝ) : EReal) := by
  refine Eq.trans ?_ (R.gr k)
  blk_ext [iblk, V_main_arg5, idx t, row]

theorem ga_at (t : Fin cfg0.N) (k : Fin 512) :
    (iblk m c 5 t : Vec Ideal S1x512 .f32) (ix2 (0 : Fin 1) k) = ((d.ga k : ℝ) : EReal) := by
  refine Eq.trans ?_ (R.ga k)
  blk_ext [iblk, V_main_arg6, idx t, row]

theorem lg_at (t : Fin cfg0.N) (k : Fin 1024) :
    (iblk m c 6 t : Vec Ideal S1x1024 .f32) (ix2 (0 : Fin 1) k) = ((d.lg k : ℝ) : EReal) := by
  refine Eq.trans ?_ (R.lg k)
  blk_ext [iblk, V_main_arg7, idx t, row]

/-- The gradient at the mixed branches, of a point's rows. -/
theorem dm_at (t : Fin cfg0.N) (a : Fin 256) (j : Fin 1024) :
    fDm (iblk m c 0 t) (iblk m c 1 t) (iblk m c 6 t) (wt0 m c) (ix2 a j) = ((d.dm (row t a) j : ℝ) : EReal) :=
  fDm_at (dh_at R t) (lg_at R t) (z_at R t) (wt0_at R) a j

/-- The gradient at the norm's input. -/
theorem arr_7 : (dats m 0 c).arrAt 7 (cfgs 0).N = (fun y => ((d.gz (y 0) (y 1) : ℝ) : EReal) : FVec Ideal S4352x1024 .f32) := by
  refine (dats m 0 c).arrAt_eq_of_covers 7 _ (by decide +kernel) fun t hf y => ?_
  blk_simp
  rw [after_7]
  have hy : (y : S256x1024.Idx) = ix2 (y 0) (y 1) := by blk_ext
  have e0 : (win0_7.blk t).view.emb y 0 = row t (y 0) := by apply Fin.ext; blk_simp [idx t, row]
  have e1 : (win0_7.blk t).view.emb y 1 = y 1 := by apply Fin.ext; blk_simp [idx t]
  refine (congrArg _ hy).trans ((fDz_at (dh_at R t) (lg_at R t) (z_at R t) (y 0) (y 1)).trans ?_)
  rw [e0, e1]

/-- The same, rounded. -/
theorem arr_8 : (dats m 0 c).arrAt 8 (cfgs 0).N = (fun y => ((d.gz (y 0) (y 1) : ℝ) : EReal) : FVec Ideal S4352x1024 .bf16) := by
  refine (dats m 0 c).arrAt_eq_of_covers 8 _ (by decide +kernel) fun t hf y => ?_
  blk_simp
  rw [after_8]
  have hy : (y : S256x1024.Idx) = ix2 (y 0) (y 1) := by blk_ext
  have e0 : (win0_8.blk t).view.emb y 0 = row t (y 0) := by apply Fin.ext; blk_simp [idx t, row]
  have e1 : (win0_8.blk t).view.emb y 1 = y 1 := by apply Fin.ext; blk_simp [idx t]
  refine (congrArg _ hy).trans ((fDzR_at (dh_at R t) (lg_at R t) (z_at R t) (y 0) (y 1)).trans ?_)
  rw [e0, e1]

/-- The gradient at the recurrent branch. -/
theorem arr_9 : (dats m 0 c).arrAt 9 (cfgs 0).N = (fun y => ((d.dyr (y 0) (y 1) : ℝ) : EReal) : FVec Ideal S4352x512 .f32) := by
  refine (dats m 0 c).arrAt_eq_of_covers 9 _ (by decide +kernel) fun t hf y => ?_
  blk_simp
  rw [after_9]
  have hy : (y : S256x512.Idx) = ix2 (y 0) (y 1) := by blk_ext
  have e0 : (win0_9.blk t).view.emb y 0 = row t (y 0) := by apply Fin.ext; blk_simp [idx t, row]
  have e1 : (win0_9.blk t).view.emb y 1 = y 1 := by apply Fin.ext; blk_simp [idx t]
  refine (congrArg _ hy).trans ((fDyr_at (yr_at R t) (dm_at R t) (gr_at R t) (y 0) (y 1)).trans ?_)
  rw [e0, e1]

/-- The gradient at the attention branch. -/
theorem arr_10 : (dats m 0 c).arrAt 10 (cfgs 0).N = (fun y => ((d.dya (y 0) (y 1) : ℝ) : EReal) : FVec Ideal S4352x512 .f32) := by
  refine (dats m 0 c).arrAt_eq_of_covers 10 _ (by decide +kernel) fun t hf y => ?_
  blk_simp
  rw [after_10]
  have hy : (y : S256x512.Idx) = ix2 (y 0) (y 1) := by blk_ext
  have e0 : (win0_10.blk t).view.emb y 0 = row t (y 0) := by apply Fin.ext; blk_simp [idx t, row]
  have e1 : (win0_10.blk t).view.emb y 1 = y 1 := by apply Fin.ext; blk_simp [idx t]
  refine (congrArg _ hy).trans ((fDya_at (ya_at R t) (dm_at R t) (ga_at R t) (y 0) (y 1)).trans ?_)
  rw [e0, e1]

/-- The two normed branches side by side. -/
theorem arr_11 : (dats m 0 c).arrAt 11 (cfgs 0).N = (fun y => ((d.mix (y 0) (y 1) : ℝ) : EReal) : FVec Ideal S4352x1024 .bf16) := by
  refine (dats m 0 c).arrAt_eq_of_covers 11 _ (by decide +kernel) fun t hf y => ?_
  blk_simp
  rw [after_11]
  have hy : (y : S256x1024.Idx) = ix2 (y 0) (y 1) := by blk_ext
  have e0 : (win0_11.blk t).view.emb y 0 = row t (y 0) := by apply Fin.ext; blk_simp [idx t, row]
  have e1 : (win0_11.blk t).view.emb y 1 = y 1 := by apply Fin.ext; blk_simp [idx t]
  refine (congrArg _ hy).trans ((fMixed_at (yr_at R t) (ya_at R t) (gr_at R t) (ga_at R t) (y 0) (y 1)).trans ?_)
  rw [e0, e1]

omit R in
/-- The rows of point `n` of a column summed, nothing past the last point. -/
def part (f : Fin 4352 → ℝ) (n : ℕ) : ℝ := if h : n < 17 then ∑ a : Fin 256, f ⟨n * 256 + a.val, by omega⟩ else 0

omit R in
theorem part_at (f : Fin 4352 → ℝ) (t : Fin cfg0.N) : part f t.val = ∑ a : Fin 256, f (row t a) := dif_pos (lt17 t)

omit R in
theorem part_all (f : Fin 4352 → ℝ) : ∑ n ∈ Finset.range 17, part f n = ∑ i, f i := by
  rw [Finset.sum_range, Fin.sum_univ_tiles 17 256 rfl f]
  exact Finset.sum_congr rfl fun t _ => dif_pos t.isLt

theorem sum0_at (k : Fin 1024) : ∀ (n : ℕ) (h : n < cfg0.N), (sum0 m c n h : Vec Ideal S1x1024 .f32) (ix2 (0 : Fin 1) k) =
    ((∑ s ∈ Finset.range (n + 1), part (fun i => d.dh i k * xh (d.z i) k) s : ℝ) : EReal)
  | 0, h => by
    have z : (k0_pay5 (F := Ideal)) (ix2 (0 : Fin 1) k) = ((0 : ℝ) : EReal) := by pointwise [k0_pay5]; rfl
    have e := part_at (fun i => d.dh i k * xh (d.z i) k) ⟨0, h⟩
    rw [Finset.sum_range_succ, Finset.sum_range_zero, show part (fun i => d.dh i k * xh (d.z i) k) 0 = _ from e]
    exact fGam_at (dh_at R _) (z_at R _) k 0 z
  | n + 1, h => by
    have e := part_at (fun i => d.dh i k * xh (d.z i) k) ⟨n + 1, h⟩
    rw [Finset.sum_range_succ, show part (fun i => d.dh i k * xh (d.z i) k) (n + 1) = _ from e]
    exact fGam_at (dh_at R _) (z_at R _) k _ (sum0_at k n (Nat.lt_of_succ_lt h))

theorem sum1_at (k : Fin 1024) : ∀ (n : ℕ) (h : n < cfg0.N), (sum1 m c n h : Vec Ideal S1x1024 .f32) (ix2 (0 : Fin 1) k) =
    ((∑ s ∈ Finset.range (n + 1), part (fun i => d.dh i k) s : ℝ) : EReal)
  | 0, h => by
    have z : (k0_pay6 (F := Ideal)) (ix2 (0 : Fin 1) k) = ((0 : ℝ) : EReal) := by pointwise [k0_pay6]; rfl
    have e := part_at (fun i => d.dh i k) ⟨0, h⟩
    rw [Finset.sum_range_succ, Finset.sum_range_zero, show part (fun i => d.dh i k) 0 = _ from e]
    exact fBet_at (dh_at R _) k 0 z
  | n + 1, h => by
    have e := part_at (fun i => d.dh i k) ⟨n + 1, h⟩
    rw [Finset.sum_range_succ, show part (fun i => d.dh i k) (n + 1) = _ from e]
    exact fBet_at (dh_at R _) k _ (sum1_at k n (Nat.lt_of_succ_lt h))

theorem sum2_at (k : Fin 512) : ∀ (n : ℕ) (h : n < cfg0.N), (sum2 m c n h : Vec Ideal S1x512 .f32) (ix2 (0 : Fin 1) k) =
    ((∑ s ∈ Finset.range (n + 1), part (fun i => d.dR i k * n2 (d.yr i) k) s : ℝ) : EReal)
  | 0, h => by
    have z : (k0_pay7 (F := Ideal)) (ix2 (0 : Fin 1) k) = ((0 : ℝ) : EReal) := by pointwise [k0_pay7]; rfl
    have e := part_at (fun i => d.dR i k * n2 (d.yr i) k) ⟨0, h⟩
    rw [Finset.sum_range_succ, Finset.sum_range_zero, show part (fun i => d.dR i k * n2 (d.yr i) k) 0 = _ from e]
    exact fGr_at (yr_at R _) (dm_at R _) k 0 z
  | n + 1, h => by
    have e := part_at (fun i => d.dR i k * n2 (d.yr i) k) ⟨n + 1, h⟩
    rw [Finset.sum_range_succ, show part (fun i => d.dR i k * n2 (d.yr i) k) (n + 1) = _ from e]
    exact fGr_at (yr_at R _) (dm_at R _) k _ (sum2_at k n (Nat.lt_of_succ_lt h))

theorem sum3_at (k : Fin 512) : ∀ (n : ℕ) (h : n < cfg0.N), (sum3 m c n h : Vec Ideal S1x512 .f32) (ix2 (0 : Fin 1) k) =
    ((∑ s ∈ Finset.range (n + 1), part (fun i => d.dA i k * n2 (d.ya i) k) s : ℝ) : EReal)
  | 0, h => by
    have z : (k0_pay8 (F := Ideal)) (ix2 (0 : Fin 1) k) = ((0 : ℝ) : EReal) := by pointwise [k0_pay8]; rfl
    have e := part_at (fun i => d.dA i k * n2 (d.ya i) k) ⟨0, h⟩
    rw [Finset.sum_range_succ, Finset.sum_range_zero, show part (fun i => d.dA i k * n2 (d.ya i) k) 0 = _ from e]
    exact fGa_at (ya_at R _) (dm_at R _) k 0 z
  | n + 1, h => by
    have e := part_at (fun i => d.dA i k * n2 (d.ya i) k) ⟨n + 1, h⟩
    rw [Finset.sum_range_succ, show part (fun i => d.dA i k * n2 (d.ya i) k) (n + 1) = _ from e]
    exact fGa_at (ya_at R _) (dm_at R _) k _ (sum3_at k n (Nat.lt_of_succ_lt h))

omit R in
/-- The point at which the four accumulated rows are written back is the last. -/
theorem last_of_flush : ∀ t : Fin cfg0.N, (win0_12.flush t = true → t.val = 16) ∧ (win0_13.flush t = true → t.val = 16)
    ∧ (win0_14.flush t = true → t.val = 16) ∧ (win0_15.flush t = true → t.val = 16) :=
  (by decide +kernel : ∀ t : Fin grid0.N, _)

theorem arr_12 : (dats m 0 c).arrAt 12 (cfgs 0).N = (fun y => ((d.dlg (y 1) : ℝ) : EReal) : FVec Ideal S1x1024 .f32) := by
  refine (dats m 0 c).arrAt_eq_of_covers 12 _ (by decide +kernel) fun t hf y => ?_
  have ht : t.val = 16 := (last_of_flush t).1 hf
  blk_simp
  rw [after_12]
  have hy : (y : S1x1024.Idx) = ix2 (0 : Fin 1) (y 1) := by blk_ext
  have e1 : (win0_12.blk t).view.emb y 1 = y 1 := by apply Fin.ext; blk_simp [idx t]
  refine (congrArg _ hy).trans ((sum0_at R (y 1) t.val t.isLt).trans ?_)
  rw [e1, ht, part_all]; rfl

theorem arr_13 : (dats m 0 c).arrAt 13 (cfgs 0).N = (fun y => ((d.dlb (y 1) : ℝ) : EReal) : FVec Ideal S1x1024 .f32) := by
  refine (dats m 0 c).arrAt_eq_of_covers 13 _ (by decide +kernel) fun t hf y => ?_
  have ht : t.val = 16 := (last_of_flush t).2.1 hf
  blk_simp
  rw [after_13]
  have hy : (y : S1x1024.Idx) = ix2 (0 : Fin 1) (y 1) := by blk_ext
  have e1 : (win0_13.blk t).view.emb y 1 = y 1 := by apply Fin.ext; blk_simp [idx t]
  refine (congrArg _ hy).trans ((sum1_at R (y 1) t.val t.isLt).trans ?_)
  rw [e1, ht, part_all]; rfl

theorem arr_14 : (dats m 0 c).arrAt 14 (cfgs 0).N = (fun y => ((d.dgr (y 1) : ℝ) : EReal) : FVec Ideal S1x512 .f32) := by
  refine (dats m 0 c).arrAt_eq_of_covers 14 _ (by decide +kernel) fun t hf y => ?_
  have ht : t.val = 16 := (last_of_flush t).2.2.1 hf
  blk_simp
  rw [after_14]
  have hy : (y : S1x512.Idx) = ix2 (0 : Fin 1) (y 1) := by blk_ext
  have e1 : (win0_14.blk t).view.emb y 1 = y 1 := by apply Fin.ext; blk_simp [idx t]
  refine (congrArg _ hy).trans ((sum2_at R (y 1) t.val t.isLt).trans ?_)
  rw [e1, ht, part_all]; rfl

theorem arr_15 : (dats m 0 c).arrAt 15 (cfgs 0).N = (fun y => ((d.dga (y 1) : ℝ) : EReal) : FVec Ideal S1x512 .f32) := by
  refine (dats m 0 c).arrAt_eq_of_covers 15 _ (by decide +kernel) fun t hf y => ?_
  have ht : t.val = 16 := (last_of_flush t).2.2.2 hf
  blk_simp
  rw [after_15]
  have hy : (y : S1x512.Idx) = ix2 (0 : Fin 1) (y 1) := by blk_ext
  have e1 : (win0_15.blk t).view.emb y 1 = y 1 := by apply Fin.ext; blk_simp [idx t]
  refine (congrArg _ hy).trans ((sum3_at R (y 1) t.val t.isLt).trans ?_)
  rw [e1, ht, part_all]; rfl

omit R in
set_option maxHeartbeats 2000000 in
/-- The kernel's run over the reals: the nine result arrays end at the gradient, the arguments as they began. -/
theorem value_run (m : (ℓ : Loc nD τ sig) → Buf (Elt Ideal) ℓ) (ρ : Dev nD → PrngReg) (d : Dev nD → MixData) (R : ∀ c, Reads m c (d c)) :
    θ_run defs (onTc (τ := τ) (main (F := Ideal))) ⟨m, fun _ => 0, ρ⟩ (fun r => ∀ c : Dev nD,
      r.2.mem (c.tc.loc main_v35_0) = (fun y => (((d c).gz (y 0) (y 1) : ℝ) : EReal) : FVec Ideal S4352x1024 .f32)
      ∧ r.2.mem (c.tc.loc main_v35_1) = (fun y => (((d c).gz (y 0) (y 1) : ℝ) : EReal) : FVec Ideal S4352x1024 .bf16)
      ∧ r.2.mem (c.tc.loc main_v35_2) = (fun y => (((d c).dyr (y 0) (y 1) : ℝ) : EReal) : FVec Ideal S4352x512 .f32)
      ∧ r.2.mem (c.tc.loc main_v35_3) = (fun y => (((d c).dya (y 0) (y 1) : ℝ) : EReal) : FVec Ideal S4352x512 .f32)
      ∧ r.2.mem (c.tc.loc main_v35_4) = (fun y => (((d c).mix (y 0) (y 1) : ℝ) : EReal) : FVec Ideal S4352x1024 .bf16)
      ∧ r.2.mem (c.tc.loc main_v35_5) = (fun y => (((d c).dlg (y 1) : ℝ) : EReal) : FVec Ideal S1x1024 .f32)
      ∧ r.2.mem (c.tc.loc main_v35_6) = (fun y => (((d c).dlb (y 1) : ℝ) : EReal) : FVec Ideal S1x1024 .f32)
      ∧ r.2.mem (c.tc.loc main_v35_7) = (fun y => (((d c).dgr (y 1) : ℝ) : EReal) : FVec Ideal S1x512 .f32)
      ∧ r.2.mem (c.tc.loc main_v35_8) = (fun y => (((d c).dga (y 1) : ℝ) : EReal) : FVec Ideal S1x512 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨((h.1.1 c).1 7).trans (arr_7 (R c)), ((h.1.1 c).1 8).trans (arr_8 (R c)), ((h.1.1 c).1 9).trans (arr_9 (R c)), ((h.1.1 c).1 10).trans (arr_10 (R c)), ((h.1.1 c).1 11).trans (arr_11 (R c)), ((h.1.1 c).1 12).trans (arr_12 (R c)), ((h.1.1 c).1 13).trans (arr_13 (R c)), ((h.1.1 c).1 14).trans (arr_14 (R c)), ((h.1.1 c).1 15).trans (arr_15 (R c)),
    h.2.1 c⟩) (θ_run_and (run_main (F := Ideal) m ρ) (frame_run m ρ))

end Cert.Kernel19Ideal.Mix

end
-- ==== Proof.Mix19Ref.lean ====
/- The reference of the mixer's output gradient over the reals: each named intermediate array of its run, read at an index, is the real function it
   stands for, and so are its nine results. -/
module

public import proofs.«01_k».proof.Proof.Mix19Reals
public import proofs.«01_k».proof.Proof.Gen.Reference19Ideal.Run
public import Idealize.ShloMosaic.Lib.Pipeline.ValueKit
public import Idealize.ShloMosaic.Lib.IdealHost

@[expose] public section

set_option maxRecDepth 16384

noncomputable section

namespace Cert.Reference19Ideal.Mix

open Idealize.ShloMosaic Idealize.ShloMosaic.TcCoe Idealize.ShloMosaic.StableHlo Idealize.SL.Sem Cert.Reference19Ideal Reference19Ideal.Gen Reference19Ideal.Value Cert.Row

/-- The run's arguments are the reals of `d`. -/
structure Reads (d : MixData) (V0 : Valuation τ sig (Elt Ideal)) : Prop where
  h : ∀ i k, (V0 (Proc.devRef .tc main_arg0) : FVec Ideal S4352x1024 .f32) (ix2 i k) = ((d.h i k : ℝ) : EReal)
  yr : ∀ i k, (V0 (Proc.devRef .tc main_arg1) : FVec Ideal S4352x512 .f32) (ix2 i k) = ((d.yr i k : ℝ) : EReal)
  ya : ∀ i k, (V0 (Proc.devRef .tc main_arg2) : FVec Ideal S4352x512 .f32) (ix2 i k) = ((d.ya i k : ℝ) : EReal)
  w : ∀ i k, (V0 (Proc.devRef .tc main_arg4) : FVec Ideal S1024x1024 .f32) (ix2 i k) = ((d.w i k : ℝ) : EReal)
  gr : ∀ k, (V0 (Proc.devRef .tc main_arg5) : FVec Ideal S1x512 .f32) (ix2 (0 : Fin 1) k) = ((d.gr k : ℝ) : EReal)
  ga : ∀ k, (V0 (Proc.devRef .tc main_arg6) : FVec Ideal S1x512 .f32) (ix2 (0 : Fin 1) k) = ((d.ga k : ℝ) : EReal)
  lg : ∀ k, (V0 (Proc.devRef .tc main_arg7) : FVec Ideal S1x1024 .f32) (ix2 (0 : Fin 1) k) = ((d.lg k : ℝ) : EReal)
  dh : ∀ i k, (V0 (Proc.devRef .tc main_arg9) : FVec Ideal S4352x1024 .f32) (ix2 i k) = ((d.dh i k : ℝ) : EReal)

variable {d : MixData} {V0 : Valuation τ sig (Elt Ideal)} (R : Reads d V0)
include R

theorem v9_at (i : Fin 4352) : (res_main_v9 V0 : FVec Ideal S4352x1 .f32) (ix2 i (0 : Fin 1)) = ((s2 (d.yr i) : ℝ) : EReal) := by
  have h := R.yr
  pointwise [res_main_v9, h]
  simp only [bits_512, bits_eps2, zero_add, ← EReal.coe_mul, ← coe_sum]
  rw [coe_div _ _ (by norm_num), ← EReal.coe_add]; rfl

theorem v10_at (i : Fin 4352) : (res_main_v10 V0 : FVec Ideal S4352x1 .f32) (ix2 i (0 : Fin 1)) = ((r2 (d.yr i) : ℝ) : EReal) := by
  have h := v9_at R
  pointwise [res_main_v10, h]
  exact coe_r2 _

theorem v15_at (i : Fin 4352) (j : Fin 512) : (res_main_v15 V0 : FVec Ideal S4352x512 .f32) (ix2 i j) = ((n2 (d.yr i) j : ℝ) : EReal) := by
  have h := v10_at R; have h2 := R.yr
  pointwise [res_main_v15, h, h2]
  simp only [← EReal.coe_mul]; rfl

theorem v26_at (i : Fin 4352) : (res_main_v26 V0 : FVec Ideal S4352x1 .f32) (ix2 i (0 : Fin 1)) = ((s2 (d.ya i) : ℝ) : EReal) := by
  have h := R.ya
  pointwise [res_main_v26, h]
  simp only [bits_512, bits_eps2, zero_add, ← EReal.coe_mul, ← coe_sum]
  rw [coe_div _ _ (by norm_num), ← EReal.coe_add]; rfl

theorem v27_at (i : Fin 4352) : (res_main_v27 V0 : FVec Ideal S4352x1 .f32) (ix2 i (0 : Fin 1)) = ((r2 (d.ya i) : ℝ) : EReal) := by
  have h := v26_at R
  pointwise [res_main_v27, h]
  exact coe_r2 _

theorem v32_at (i : Fin 4352) (j : Fin 512) : (res_main_v32 V0 : FVec Ideal S4352x512 .f32) (ix2 i j) = ((n2 (d.ya i) j : ℝ) : EReal) := by
  have h := v27_at R; have h2 := R.ya
  pointwise [res_main_v32, h, h2]
  simp only [← EReal.coe_mul]; rfl

theorem v40_at (i : Fin 4352) (k : Fin 1024) : (res_main_v40 V0 : FVec Ideal S4352x1024 .f32) (ix2 i k) = ((d.z i k : ℝ) : EReal) := by
  have h := R.h; have w := R.w; have a := v15_at R; have b := v32_at R; have gr := R.gr; have ga := R.ga
  pointwise [res_main_v40, h, w, a, b, gr, ga]
  simp only [bits_alpha, zero_add, add_zero, ← EReal.coe_mul, ← coe_sum, ← EReal.coe_add]; rfl

theorem v44_at (i : Fin 4352) : (res_main_v44 V0 : FVec Ideal S4352x1 .f32) (ix2 i (0 : Fin 1)) = ((mu (d.z i) : ℝ) : EReal) := by
  have h := v40_at R
  pointwise [res_main_v44, h]
  simp only [bits_1024, zero_add, ← coe_sum]
  exact coe_div _ _ (by norm_num)

theorem v46_at (i : Fin 4352) (k : Fin 1024) : (res_main_v46 V0 : FVec Ideal S4352x1024 .f32) (ix2 i k) = ((xc (d.z i) k : ℝ) : EReal) := by
  have h := v40_at R; have h2 := v44_at R
  pointwise [res_main_v46, h, h2]
  simp only [← EReal.coe_sub]; rfl

theorem v55_at (i : Fin 4352) (k : Fin 1024) : (res_main_v55 V0 : FVec Ideal S4352x1024 .f32) (ix2 i k) = ((xc (d.z i) k : ℝ) : EReal) :=
  v46_at R i k

theorem v57_at (i : Fin 4352) : (res_main_v57 V0 : FVec Ideal S4352x1 .f32) (ix2 i (0 : Fin 1)) = ((sv (d.z i) : ℝ) : EReal) := by
  have h := v46_at R
  pointwise [res_main_v57, h]
  simp only [bits_1024, bits_eps, zero_add, ← EReal.coe_mul, ← coe_sum]
  rw [coe_div _ _ (by norm_num), ← EReal.coe_add]; rfl

theorem v58_at (i : Fin 4352) : (res_main_v58 V0 : FVec Ideal S4352x1 .f32) (ix2 i (0 : Fin 1)) = ((rs (d.z i) : ℝ) : EReal) := by
  have h := v57_at R
  pointwise [res_main_v58, h]
  exact coe_rs _

theorem v63_at (i : Fin 4352) (k : Fin 1024) : (res_main_v63 V0 : FVec Ideal S4352x1024 .f32) (ix2 i k) = ((xh (d.z i) k : ℝ) : EReal) := by
  have h := v55_at R; have h2 := v58_at R
  pointwise [res_main_v63, h, h2]
  simp only [← EReal.coe_mul]; rfl

theorem v68_at (i : Fin 4352) (k : Fin 1024) : (res_main_v68 V0 : FVec Ideal S4352x1024 .f32) (ix2 i k) = ((d.dh i k : ℝ) : EReal) := by
  have h := R.dh
  pointwise [res_main_v68, h]

theorem v75_at (i : Fin 4352) (k : Fin 1024) : (res_main_v75 V0 : FVec Ideal S4352x1024 .f32) (ix2 i k) = ((d.e i k : ℝ) : EReal) := by
  have h := v68_at R; have h2 := R.lg
  pointwise [res_main_v75, h, h2]
  simp only [← EReal.coe_mul]; rfl

theorem v80_at (i : Fin 4352) (k : Fin 1024) :
    (res_main_v80 V0 : FVec Ideal S4352x1024 .f32) (ix2 i k) = ((d.e i k * rs (d.z i) : ℝ) : EReal) := by
  have h := v75_at R; have h2 := v58_at R
  pointwise [res_main_v80, h, h2]
  simp only [← EReal.coe_mul]

theorem v89_at (i : Fin 4352) (k : Fin 1024) :
    (res_main_v89 V0 : FVec Ideal S4352x1024 .f32) (ix2 i k) = ((cq (d.z i) (d.e i) * (2 * xc (d.z i) k) : ℝ) : EReal) := by
  have h := v75_at R; have h2 := v58_at R; have h3 := v57_at R; have h4 := v55_at R; have h5 := v46_at R
  pointwise [res_main_v89, h, h2, h3, h4, h5]
  simp only [Fin.sum_univ_one, Fin.isValue, h2, h3, bits_1024, bits_two, bits_neg_half, zero_add, ← EReal.coe_mul, ← coe_sum]
  rw [coe_div _ _ (sv_pos (d.z i)).ne', ← EReal.coe_mul, ← EReal.coe_mul, coe_div _ _ (by norm_num : (1024 : ℝ) ≠ 0), ← EReal.coe_mul]; rfl

theorem v99_at (i : Fin 4352) (k : Fin 1024) : (res_main_v99 V0 : FVec Ideal S4352x1024 .f32) (ix2 i k) = ((d.gz i k : ℝ) : EReal) := by
  have h := v80_at R; have h2 := v89_at R
  pointwise [res_main_v99, h, h2]
  simp only [bits_1024, zero_add, ← EReal.coe_neg, ← EReal.coe_add, ← coe_sum, coe_div _ _ (by norm_num : (1024 : ℝ) ≠ 0)]
  simp only [Finset.univ_unique, Finset.sum_singleton]
  rw [dz_of_terms]; rfl

theorem v100_at (i : Fin 4352) (j : Fin 1024) : (res_main_v100 V0 : FVec Ideal S4352x1024 .f32) (ix2 i j) = ((d.dm i j : ℝ) : EReal) := by
  have h := v99_at R; have w := R.w
  pointwise [res_main_v100, h, w]
  simp only [zero_add, add_zero, ← EReal.coe_mul, ← coe_sum]; rfl

theorem v101_at (i : Fin 4352) (j : Fin 512) : (res_main_v101 V0 : FVec Ideal S4352x512 .f32) (ix2 i j) = ((d.dR i j : ℝ) : EReal) := by
  have e : (res_main_v101 V0 : FVec Ideal S4352x512 .f32) (ix2 i j) = (res_main_v100 V0 : FVec Ideal S4352x1024 .f32) (ix2 i (⟨j.val, by omega⟩ : Fin 1024)) := by
    pointwise [res_main_v101]
  rw [e, v100_at R]; rfl

theorem v102_at (i : Fin 4352) (j : Fin 512) : (res_main_v102 V0 : FVec Ideal S4352x512 .f32) (ix2 i j) = ((d.dA i j : ℝ) : EReal) := by
  have e : (res_main_v102 V0 : FVec Ideal S4352x512 .f32) (ix2 i j) = (res_main_v100 V0 : FVec Ideal S4352x1024 .f32) (ix2 i (⟨512 + j.val, by omega⟩ : Fin 1024)) := by
    pointwise [res_main_v102]
  rw [e, v100_at R]; rfl

theorem v107_at (i : Fin 4352) (j : Fin 512) : (res_main_v107 V0 : FVec Ideal S4352x512 .f32) (ix2 i j) = ((d.dA i j * d.ga j : ℝ) : EReal) := by
  have h := v102_at R; have h2 := R.ga
  pointwise [res_main_v107, h, h2]
  simp only [← EReal.coe_mul]

theorem v124_at (i : Fin 4352) (j : Fin 512) : (res_main_v124 V0 : FVec Ideal S4352x512 .f32) (ix2 i j) = ((d.dR i j * d.gr j : ℝ) : EReal) := by
  have h := v101_at R; have h2 := R.gr
  pointwise [res_main_v124, h, h2]
  simp only [← EReal.coe_mul]

theorem v99_eq : (res_main_v99 V0 : FVec Ideal S4352x1024 .f32) = fun y => ((d.gz (y 0) (y 1) : ℝ) : EReal) := by
  have h := v99_at R
  funext y; idx_vars y
  pointwise [h]

theorem v137_eq : (truncf .bf16 (res_main_v99 V0) bitsLt_bf16_f32 : FVec Ideal S4352x1024 .bf16) = fun y => ((d.gz (y 0) (y 1) : ℝ) : EReal) := by
  have h := v99_at R
  funext y; idx_vars y
  pointwise [h]

theorem v136_eq : (addf (mulf (res_main_v124 V0) (broadcastInDim S4352x512 ![0, 1] bcast_S4352x1_S4352x512_0_1 (res_main_v10 V0))) (mulf (broadcastInDim S4352x512 ![0] bcast_S4352_S4352x512_0 (Host.reduceAdd (Host.divf (mulf (shapeCast S4352x1 (Host.reduceAdd (mulf (V0 (Proc.devRef .tc main_arg1) : FVec Ideal S4352x512 .f32) (res_main_v124 V0)) (constant S_ .f32 0x00000000#32) reducesTo_S4352x512_S4352_d1 h_S_) shapeCasts_S4352_S4352x1) (mulf (broadcastInDim S4352x1 ![] bcast_S_S4352x1 (constant S_ .f32 0xBF000000#32)) (Host.divf (res_main_v10 V0) (res_main_v9 V0)))) (broadcastInDim S4352x1 ![] bcast_S_S4352x1 (constant S_ .f32 0x44000000#32))) (constant S_ .f32 0x00000000#32) reducesTo_S4352x1_S4352_d1 h_S_)) (mulf (broadcastInDim S4352x512 ![] bcast_S_S4352x512 (constant S_ .f32 0x40000000#32)) (V0 (Proc.devRef .tc main_arg1) : FVec Ideal S4352x512 .f32))) : FVec Ideal S4352x512 .f32) = fun y => ((d.dyr (y 0) (y 1) : ℝ) : EReal) := by
  have h := v124_at R; have h2 := v10_at R; have h3 := v9_at R; have h4 := R.yr
  funext y
  obtain ⟨i, k, rfl⟩ : ∃ (i : Fin 4352) (k : Fin 512), y = ix2 i k := ⟨y 0, y 1, by blk_ext⟩
  pointwise [h, h2, h3, h4]
  simp only [Fin.sum_univ_one, Fin.isValue, h2, h3, bits_512, bits_two, bits_neg_half, zero_add, ← EReal.coe_mul, ← coe_sum]
  rw [coe_div _ _ (s2_pos (d.yr i)).ne', ← EReal.coe_mul, ← EReal.coe_mul, coe_div _ _ (by norm_num : (512 : ℝ) ≠ 0), ← EReal.coe_mul, ← EReal.coe_add]
  exact congrArg _ (dn_of_terms (d.yr i) (fun l => d.dR i l * d.gr l) k)

theorem v119_eq : (addf (mulf (res_main_v107 V0) (broadcastInDim S4352x512 ![0, 1] bcast_S4352x1_S4352x512_0_1 (res_main_v27 V0))) (mulf (broadcastInDim S4352x512 ![0] bcast_S4352_S4352x512_0 (Host.reduceAdd (Host.divf (mulf (shapeCast S4352x1 (Host.reduceAdd (mulf (V0 (Proc.devRef .tc main_arg2) : FVec Ideal S4352x512 .f32) (res_main_v107 V0)) (constant S_ .f32 0x00000000#32) reducesTo_S4352x512_S4352_d1 h_S_) shapeCasts_S4352_S4352x1) (mulf (broadcastInDim S4352x1 ![] bcast_S_S4352x1 (constant S_ .f32 0xBF000000#32)) (Host.divf (res_main_v27 V0) (res_main_v26 V0)))) (broadcastInDim S4352x1 ![] bcast_S_S4352x1 (constant S_ .f32 0x44000000#32))) (constant S_ .f32 0x00000000#32) reducesTo_S4352x1_S4352_d1 h_S_)) (mulf (broadcastInDim S4352x512 ![] bcast_S_S4352x512 (constant S_ .f32 0x40000000#32)) (V0 (Proc.devRef .tc main_arg2) : FVec Ideal S4352x512 .f32))) : FVec Ideal S4352x512 .f32) = fun y => ((d.dya (y 0) (y 1) : ℝ) : EReal) := by
  have h := v107_at R; have h2 := v27_at R; have h3 := v26_at R; have h4 := R.ya
  funext y
  obtain ⟨i, k, rfl⟩ : ∃ (i : Fin 4352) (k : Fin 512), y = ix2 i k := ⟨y 0, y 1, by blk_ext⟩
  pointwise [h, h2, h3, h4]
  simp only [Fin.sum_univ_one, Fin.isValue, h2, h3, bits_512, bits_two, bits_neg_half, zero_add, ← EReal.coe_mul, ← coe_sum]
  rw [coe_div _ _ (s2_pos (d.ya i)).ne', ← EReal.coe_mul, ← EReal.coe_mul, coe_div _ _ (by norm_num : (512 : ℝ) ≠ 0), ← EReal.coe_mul, ← EReal.coe_add]
  exact congrArg _ (dn_of_terms (d.ya i) (fun l => d.dA i l * d.ga l) k)

theorem v163_eq : (truncf .bf16 (concatenate S4352x1024 1 [⟨S4352x512, (mulf (mulf (V0 (Proc.devRef .tc main_arg1) : FVec Ideal S4352x512 .f32) (broadcastInDim S4352x512 ![0, 1] bcast_S4352x1_S4352x512_0_1 (Host.rsqrt (addf (Host.divf (broadcastInDim S4352x1 ![0] bcast_S4352_S4352x1_0 (Host.reduceAdd (mulf (V0 (Proc.devRef .tc main_arg1) : FVec Ideal S4352x512 .f32) (V0 (Proc.devRef .tc main_arg1) : FVec Ideal S4352x512 .f32)) (constant S_ .f32 0x00000000#32) reducesTo_S4352x512_S4352_d1 h_S_)) (broadcastInDim S4352x1 ![] bcast_S_S4352x1 (constant S_ .f32 0x44000000#32))) (broadcastInDim S4352x1 ![] bcast_S_S4352x1 (constant S_ .f32 0x358637BD#32)))))) (broadcastInDim S4352x512 ![0, 1] bcast_S1x512_S4352x512_0_1 (V0 (Proc.devRef .tc main_arg5) : FVec Ideal S1x512 .f32)))⟩, ⟨S4352x512, (mulf (mulf (V0 (Proc.devRef .tc main_arg2) : FVec Ideal S4352x512 .f32) (broadcastInDim S4352x512 ![0, 1] bcast_S4352x1_S4352x512_0_1 (Host.rsqrt (addf (Host.divf (broadcastInDim S4352x1 ![0] bcast_S4352_S4352x1_0 (Host.reduceAdd (mulf (V0 (Proc.devRef .tc main_arg2) : FVec Ideal S4352x512 .f32) (V0 (Proc.devRef .tc main_arg2) : FVec Ideal S4352x512 .f32)) (constant S_ .f32 0x00000000#32) reducesTo_S4352x512_S4352_d1 h_S_)) (broadcastInDim S4352x1 ![] bcast_S_S4352x1 (constant S_ .f32 0x44000000#32))) (broadcastInDim S4352x1 ![] bcast_S_S4352x1 (constant S_ .f32 0x358637BD#32)))))) (broadcastInDim S4352x512 ![0, 1] bcast_S1x512_S4352x512_0_1 (V0 (Proc.devRef .tc main_arg6) : FVec Ideal S1x512 .f32)))⟩] concatenates_S4352x512_S4352x512_S4352x1024_d1) bitsLt_bf16_f32 : FVec Ideal S4352x1024 .bf16) = fun y => ((d.mix (y 0) (y 1) : ℝ) : EReal) := by
  have a := v15_at R; have b := v32_at R; have gr := R.gr; have ga := R.ga
  funext y
  obtain ⟨i, k, rfl⟩ : ∃ (i : Fin 4352) (k : Fin 1024), y = ix2 i k := ⟨y 0, y 1, by blk_ext⟩
  show (truncf .bf16 (concatenate S4352x1024 1 [⟨S4352x512, (mulf (res_main_v15 V0) (broadcastInDim S4352x512 ![0, 1] bcast_S1x512_S4352x512_0_1 (V0 (Proc.devRef .tc main_arg5) : FVec Ideal S1x512 .f32)))⟩, ⟨S4352x512, (mulf (res_main_v32 V0) (broadcastInDim S4352x512 ![0, 1] bcast_S1x512_S4352x512_0_1 (V0 (Proc.devRef .tc main_arg6) : FVec Ideal S1x512 .f32)))⟩] concatenates_S4352x512_S4352x512_S4352x1024_d1) bitsLt_bf16_f32 : FVec Ideal S4352x1024 .bf16) (ix2 i k) = _
  pointwise [a, b, gr, ga]
  unfold MixData.mix
  split <;> simp only [← EReal.coe_mul]

theorem v73_eq : (shapeCast S1x1024 (Host.reduceAdd (mulf (res_main_v63 V0) (res_main_v68 V0)) (constant S_ .f32 0x00000000#32) reducesTo_S4352x1024_S1024_d0 h_S_) shapeCasts_S1024_S1x1024 : FVec Ideal S1x1024 .f32) = fun y => ((d.dlg (y 1) : ℝ) : EReal) := by
  have h := v63_at R; have h2 := v68_at R
  funext y; idx_vars y
  pointwise [h, h2]
  simp only [zero_add, add_zero, ← EReal.coe_mul, ← coe_sum]
  exact congrArg _ (Finset.sum_congr rfl fun _ _ => mul_comm _ _)

theorem v70_eq : (shapeCast S1x1024 (Host.reduceAdd (V0 (Proc.devRef .tc main_arg9) : FVec Ideal S4352x1024 .f32) (constant S_ .f32 0x00000000#32) reducesTo_S4352x1024_S1024_d0 h_S_) shapeCasts_S1024_S1x1024 : FVec Ideal S1x1024 .f32) = fun y => ((d.dlb (y 1) : ℝ) : EReal) := by
  have h := R.dh
  funext y; idx_vars y
  pointwise [h]
  simp only [zero_add, add_zero, ← coe_sum]; rfl

theorem v122_eq : (shapeCast S1x512 (Host.reduceAdd (mulf (res_main_v15 V0) (res_main_v101 V0)) (constant S_ .f32 0x00000000#32) reducesTo_S4352x512_S512_d0 h_S_) shapeCasts_S512_S1x512 : FVec Ideal S1x512 .f32) = fun y => ((d.dgr (y 1) : ℝ) : EReal) := by
  have h := v15_at R; have h2 := v101_at R
  funext y; idx_vars y
  pointwise [h, h2]
  simp only [zero_add, add_zero, ← EReal.coe_mul, ← coe_sum]
  exact congrArg _ (Finset.sum_congr rfl fun _ _ => mul_comm _ _)

theorem v105_eq : (shapeCast S1x512 (Host.reduceAdd (mulf (res_main_v32 V0) (res_main_v102 V0)) (constant S_ .f32 0x00000000#32) reducesTo_S4352x512_S512_d0 h_S_) shapeCasts_S512_S1x512 : FVec Ideal S1x512 .f32) = fun y => ((d.dga (y 1) : ℝ) : EReal) := by
  have h := v32_at R; have h2 := v102_at R
  funext y; idx_vars y
  pointwise [h, h2]
  simp only [zero_add, add_zero, ← EReal.coe_mul, ← coe_sum]
  exact congrArg _ (Finset.sum_congr rfl fun _ _ => mul_comm _ _)

omit R in
/-- The reference's run over the reals: its nine results end at the gradient, the arguments as they began. -/
theorem value_run (m : (ℓ : Loc nD τ sig) → Buf (Elt Ideal) ℓ) (ρ : Dev nD → PrngReg) (d : Dev nD → MixData) (R : ∀ c, Reads (d c) (launchContents m c)) :
    θ_run defs (onTc (τ := τ) (main (F := Ideal))) ⟨m, fun _ => 0, ρ⟩ (fun r => ∀ c : Dev nD,
      r.2.mem (c.tc.loc main_v99) = (fun y => (((d c).gz (y 0) (y 1) : ℝ) : EReal) : FVec Ideal S4352x1024 .f32)
      ∧ r.2.mem (c.tc.loc main_v137) = (fun y => (((d c).gz (y 0) (y 1) : ℝ) : EReal) : FVec Ideal S4352x1024 .bf16)
      ∧ r.2.mem (c.tc.loc main_v136) = (fun y => (((d c).dyr (y 0) (y 1) : ℝ) : EReal) : FVec Ideal S4352x512 .f32)
      ∧ r.2.mem (c.tc.loc main_v119) = (fun y => (((d c).dya (y 0) (y 1) : ℝ) : EReal) : FVec Ideal S4352x512 .f32)
      ∧ r.2.mem (c.tc.loc main_v163) = (fun y => (((d c).mix (y 0) (y 1) : ℝ) : EReal) : FVec Ideal S4352x1024 .bf16)
      ∧ r.2.mem (c.tc.loc main_v73) = (fun y => (((d c).dlg (y 1) : ℝ) : EReal) : FVec Ideal S1x1024 .f32)
      ∧ r.2.mem (c.tc.loc main_v70) = (fun y => (((d c).dlb (y 1) : ℝ) : EReal) : FVec Ideal S1x1024 .f32)
      ∧ r.2.mem (c.tc.loc main_v122) = (fun y => (((d c).dgr (y 1) : ℝ) : EReal) : FVec Ideal S1x512 .f32)
      ∧ r.2.mem (c.tc.loc main_v105) = (fun y => (((d c).dga (y 1) : ℝ) : EReal) : FVec Ideal S1x512 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨(h c).1.trans (v99_eq (R c)), (h c).2.1.trans (v137_eq (R c)), (h c).2.2.1.trans (v136_eq (R c)), (h c).2.2.2.1.trans (v119_eq (R c)), (h c).2.2.2.2.1.trans (v163_eq (R c)), (h c).2.2.2.2.2.1.trans (v73_eq (R c)), (h c).2.2.2.2.2.2.1.trans (v70_eq (R c)), (h c).2.2.2.2.2.2.2.1.trans (v122_eq (R c)), (h c).2.2.2.2.2.2.2.2.1.trans (v105_eq (R c)),
    (h c).2.2.2.2.2.2.2.2.2⟩) (Reference19Ideal.Value.run (F := Ideal) m ρ)

end Cert.Reference19Ideal.Mix

end
-- ==== Proof.Mix19.lean ====
/- The mixer's output gradient: under the precondition the kernel and the reference end with the same nine results. -/
module

public import proofs.«01_k».proof.Proof.Mix19Value
public import proofs.«01_k».proof.Proof.Mix19Ref
public import proofs.«01_k».proof.Proof.Finite
public import proofs.«01_k».proof.Proof.Gen.Pre_finite19
public import proofs.«01_k».proof.Defs

@[expose] public section

set_option maxRecDepth 16384

noncomputable section

namespace Cert.Kernel19Ideal.Mix

open Idealize.ShloMosaic Idealize.ShloMosaic.TcCoe Idealize.SL.Sem Cert.Row

/-- The reference has no counters, and its run leaves its arguments. -/
theorem frame_reference : Cert.quiescent_Reference19Ideal (hReference19Ideal := Reference19Ideal.Gen.facts) :=
  fun m ρ _ => (θ_run Reference19Ideal.defs _ _).mono
    (fun r h => And.intro (fun c => (h c).2.2.2.2.2.2.2.2.2) (Idealize.ShloMosaic.sem_eq_zero_of_no_sems (by decide) r.2))
    (Reference19Ideal.Value.run (F := Ideal) m ρ)

/-- Under the precondition the kernel's arguments are real. -/
theorem reads (m : (ℓ : Loc Kernel19Ideal.nD Kernel19Ideal.τ Kernel19Ideal.sig) → Buf (Elt Ideal) ℓ)
    (h : Cert.Pre_Kernel19Ideal_finite19 m) (c : Dev Kernel19Ideal.nD) : ∃ d : MixData, Reads m c d := by
  obtain ⟨h0, h1, h2, h4, h5, h6, h7, h9⟩ := h c
  have r0 : ∀ (i : Fin 4352) (k : Fin 1024), ∃ a : ℝ, (m (c.tc.loc Kernel19Ideal.main_arg0) :
      FVec Ideal Kernel19Ideal.S4352x1024 .f32) (ix2 i k) = (a : EReal) := fun i k => by
    have e := congrFun h0 (ix2 i k)
    pointwise [Cert.Pre_finite19.fn, Cert.Pre_finite19.fn_part1] at e
    exact real_of_lt _ e
  have r1 : ∀ (i : Fin 4352) (k : Fin 512), ∃ a : ℝ, (m (c.tc.loc Kernel19Ideal.main_arg1) :
      FVec Ideal Kernel19Ideal.S4352x512 .f32) (ix2 i k) = (a : EReal) := fun i k => by
    have e := congrFun h1 (ix2 i k)
    pointwise [Cert.Pre_finite19.fn, Cert.Pre_finite19.fn_part1] at e
    exact real_of_lt _ e
  have r2 : ∀ (i : Fin 4352) (k : Fin 512), ∃ a : ℝ, (m (c.tc.loc Kernel19Ideal.main_arg2) :
      FVec Ideal Kernel19Ideal.S4352x512 .f32) (ix2 i k) = (a : EReal) := fun i k => by
    have e := congrFun h2 (ix2 i k)
    pointwise [Cert.Pre_finite19.fn, Cert.Pre_finite19.fn_part1] at e
    exact real_of_lt _ e
  have r4 : ∀ (i : Fin 1024) (k : Fin 1024), ∃ a : ℝ, (m (c.tc.loc Kernel19Ideal.main_arg4) :
      FVec Ideal Kernel19Ideal.S1024x1024 .f32) (ix2 i k) = (a : EReal) := fun i k => by
    have e := congrFun h4 (ix2 i k)
    pointwise [Cert.Pre_finite19.fn, Cert.Pre_finite19.fn_part1] at e
    exact real_of_lt _ e
  have r5 : ∀ (k : Fin 512), ∃ a : ℝ, (m (c.tc.loc Kernel19Ideal.main_arg5) :
      FVec Ideal Kernel19Ideal.S1x512 .f32) (ix2 (0 : Fin 1) k) = (a : EReal) := fun k => by
    have e := congrFun h5 (ix2 (0 : Fin 1) k)
    pointwise [Cert.Pre_finite19.fn, Cert.Pre_finite19.fn_part1] at e
    exact real_of_lt _ e
  have r6 : ∀ (k : Fin 512), ∃ a : ℝ, (m (c.tc.loc Kernel19Ideal.main_arg6) :
      FVec Ideal Kernel19Ideal.S1x512 .f32) (ix2 (0 : Fin 1) k) = (a : EReal) := fun k => by
    have e := congrFun h6 (ix2 (0 : Fin 1) k)
    pointwise [Cert.Pre_finite19.fn, Cert.Pre_finite19.fn_part1] at e
    exact real_of_lt _ e
  have r7 : ∀ (k : Fin 1024), ∃ a : ℝ, (m (c.tc.loc Kernel19Ideal.main_arg7) :
      FVec Ideal Kernel19Ideal.S1x1024 .f32) (ix2 (0 : Fin 1) k) = (a : EReal) := fun k => by
    have e := congrFun h7 (ix2 (0 : Fin 1) k)
    pointwise [Cert.Pre_finite19.fn, Cert.Pre_finite19.fn_part1] at e
    exact real_of_lt _ e
  have r9 : ∀ (i : Fin 4352) (k : Fin 1024), ∃ a : ℝ, (m (c.tc.loc Kernel19Ideal.main_arg9) :
      FVec Ideal Kernel19Ideal.S4352x1024 .f32) (ix2 i k) = (a : EReal) := fun i k => by
    have e := congrFun h9 (ix2 i k)
    pointwise [Cert.Pre_finite19.fn, Cert.Pre_finite19.fn_part1] at e
    exact real_of_lt _ e
  choose a0 e0 using r0
  choose a1 e1 using r1
  choose a2 e2 using r2
  choose a4 e4 using r4
  choose a5 e5 using r5
  choose a6 e6 using r6
  choose a7 e7 using r7
  choose a9 e9 using r9
  exact ⟨⟨a0, a1, a2, a4, a5, a6, a7, a9⟩, ⟨e0, e1, e2, e4, e5, e6, e7, e9⟩⟩

theorem algebraic : Cert.algebraic_Kernel19Ideal_Reference19Ideal_pre_finite19 (hKernel19Ideal := Kernel19Ideal.Gen.facts)
    (hReference19Ideal := Reference19Ideal.Gen.facts) (hPre_finite19 := Cert.Pre_finite19.Gen.facts) := by
  intro m g m' g' hpre hagree
  choose d hd using reads m hpre
  have hr : ∀ c : Dev Reference19Ideal.nD, Reference19Ideal.Mix.Reads (d c) (StableHlo.launchContents m' c) := fun c =>
    ⟨fun i k => (congrFun (hagree c).1 _).trans ((hd c).h i k),
      fun i k => (congrFun (hagree c).2.1 _).trans ((hd c).yr i k),
      fun i k => (congrFun (hagree c).2.2.1 _).trans ((hd c).ya i k),
      fun i k => (congrFun (hagree c).2.2.2.2.1 _).trans ((hd c).w i k),
      fun k => (congrFun (hagree c).2.2.2.2.2.1 _).trans ((hd c).gr k),
      fun k => (congrFun (hagree c).2.2.2.2.2.2.1 _).trans ((hd c).ga k),
      fun k => (congrFun (hagree c).2.2.2.2.2.2.2.1 _).trans ((hd c).lg k),
      fun i k => (congrFun (hagree c).2.2.2.2.2.2.2.2.2 _).trans ((hd c).dh i k)⟩
  exact ⟨_, _, _, _, _, _, _, _, _, value_run m g d hd, Reference19Ideal.Mix.value_run m' g' d hr⟩

end Cert.Kernel19Ideal.Mix

end
-- ==== Proof.RopeReals.lean ====
/- The rotary embedding as a plain function, and the sum of three products that a lane's rotated value is. -/
module

public import Idealize.ShloMosaic.Lib.Pipeline.ValueKit

@[expose] public section

noncomputable section

namespace Cert.RopeReals

open Idealize.ShloMosaic

/-- An array's entry by two natural numbers, zero outside it. -/
def ent {a b : ℕ} (x : Shape.Idx ⟨2, ![a, b]⟩ → EReal) (r c : ℕ) : EReal :=
  if h : r < a ∧ c < b then x (ix2 (⟨r, h.1⟩ : Fin a) (⟨c, h.2⟩ : Fin b)) else 0

theorem ent_ix {a b : ℕ} (x : Shape.Idx ⟨2, ![a, b]⟩ → EReal) (r : Fin a) (c : Fin b) : x (ix2 r c) = ent x r.val c.val := by
  simp [ent, r.isLt, c.isLt]

/-- A row of the table of eight frequencies. -/
def pos (x : Shape.Idx ⟨2, ![2176, 8]⟩ → EReal) (r : ℕ) : ℕ → EReal := ent x r

/-- A head's lanes rotated: lanes 0 to 7 with lanes 8 to 15, the rest unchanged. -/
def turn (v c s : ℕ → EReal) (j : ℕ) : EReal :=
  if j % 64 < 8 then v j * c (j % 64) - v (j + 8) * s (j % 64)
  else if j % 64 < 16 then v j * c (j % 64 - 8) + v (j - 8) * s (j % 64 - 8)
  else v j

/-- The rotation's transpose. -/
def back (v c s : ℕ → EReal) (j : ℕ) : EReal :=
  if j % 64 < 8 then v j * c (j % 64) + v (j + 8) * s (j % 64)
  else if j % 64 < 16 then v j * c (j % 64 - 8) - v (j - 8) * s (j % 64 - 8)
  else v j

def tabC (c : ℕ → EReal) (d : ℕ) : EReal := if d < 8 then c d else if d < 16 then c (d - 8) else 1
def tabU (s : ℕ → EReal) (d : ℕ) : EReal := if d < 8 then - s d else 0
def tabD (s : ℕ → EReal) (d : ℕ) : EReal := if d < 8 then 0 else if d < 16 then s (d - 8) else 0

theorem turn_eq (v c s : ℕ → EReal) (j : ℕ) (w u : EReal) (hw : j % 64 < 8 → w = v (j + 8)) (hu : 8 ≤ j % 64 → j % 64 < 16 → u = v (j - 8)) :
    v j * tabC c (j % 64) + w * tabU s (j % 64) + u * tabD s (j % 64) = turn v c s j := by
  unfold tabC tabU tabD turn
  split_ifs with h h'
  · rw [hw h, mul_zero, add_zero, mul_neg, sub_eq_add_neg]
  · rw [hu (by omega) h', mul_zero, add_zero]
  · rw [mul_zero, mul_zero, mul_one, add_zero, add_zero]

theorem back_eq (v c s : ℕ → EReal) (j : ℕ) (w u : EReal) (hw : j % 64 < 8 → w = v (j + 8)) (hu : 8 ≤ j % 64 → j % 64 < 16 → u = v (j - 8)) :
    v j * tabC c (j % 64) + w * (- tabU s (j % 64)) + u * (- tabD s (j % 64)) = back v c s j := by
  unfold tabC tabU tabD back
  split_ifs with h h'
  · rw [hw h, neg_zero, mul_zero, add_zero, neg_neg]
  · rw [hu (by omega) h', neg_zero, mul_zero, add_zero, mul_neg, sub_eq_add_neg]
  · rw [neg_zero, mul_zero, mul_zero, mul_one, add_zero, add_zero]

/-- Lanes counted from a multiple of 64 on. -/
theorem turn_shift (v w c s : ℕ → EReal) (j : ℕ) (h : ∀ a, v a = w (512 + a)) : turn v c s j = turn w c s (512 + j) := by
  have e : (512 + j) % 64 = j % 64 := by omega
  unfold turn
  rw [e, h, h]
  split_ifs with h1 h2
  · rfl
  · rw [h, show 512 + (j - 8) = 512 + j - 8 by omega]
  · rfl

theorem two_sub {x y c s : ℕ → EReal} {a a' b b' d d' e e' : ℕ} (h1 : a = a') (h2 : b = b') (h3 : d = d') (h4 : e = e') :
    x a * c b - y d * s e = x a' * c b' - y d' * s e' := by
  subst h1 h2 h3 h4; rfl

theorem two_add {x y c s : ℕ → EReal} {a a' b b' d d' e e' : ℕ} (h1 : a = a') (h2 : b = b') (h3 : d = d') (h4 : e = e') :
    x a * c b + y d * s e = x a' * c b' + y d' * s e' := by
  subst h1 h2 h3 h4; rfl

theorem one_ent {x : ℕ → EReal} {a a' : ℕ} (h : a = a') : x a = x a' := by subst h; rfl

/-- The queries and keys (columns 1024 to 1663 of the projections) rotated by their positions in the sequence, the values as they are. -/
def ropedAt (x : Shape.Idx ⟨2, ![4352, 1792]⟩ → EReal) (cs sn : Shape.Idx ⟨2, ![2176, 8]⟩ → EReal) (r j : ℕ) : EReal :=
  if j < 640 then turn (fun a => ent x r (1024 + a)) (pos cs (r % 2176)) (pos sn (r % 2176)) j else ent x r (1024 + j)

/-- The same, as an array. -/
def roped (x : Shape.Idx ⟨2, ![4352, 1792]⟩ → EReal) (cs sn : Shape.Idx ⟨2, ![2176, 8]⟩ → EReal) (y : Shape.Idx ⟨2, ![4352, 768]⟩) : EReal :=
  ropedAt x cs sn (y 0).val (y 1).val

/-- The gradients of the queries, the keys and the values, side by side. -/
def side (q : Shape.Idx ⟨2, ![4352, 512]⟩ → EReal) (k v : Shape.Idx ⟨2, ![4352, 128]⟩ → EReal) (r j : ℕ) : EReal :=
  if j < 512 then ent q r j else if j < 640 then ent k r (j - 512) else ent v r (j - 640)

/-- The queries' lanes of the side by side gradients, rotated back. -/
theorem back_queries (q : Shape.Idx ⟨2, ![4352, 512]⟩ → EReal) (k v : Shape.Idx ⟨2, ![4352, 128]⟩ → EReal) (c s : ℕ → EReal) (r j : ℕ) (h : j < 512) :
    back (fun j => ent q r j) c s j = back (side q k v r) c s j := by
  unfold back side
  split_ifs <;> first | rfl | (exfalso; omega)

/-- The keys' lanes. -/
theorem back_keys (q : Shape.Idx ⟨2, ![4352, 512]⟩ → EReal) (k v : Shape.Idx ⟨2, ![4352, 128]⟩ → EReal) (c s : ℕ → EReal) (r j : ℕ) (h : j < 128) :
    back (fun j => ent k r j) c s j = back (side q k v r) c s (512 + j) := by
  have e : (512 + j) % 64 = j % 64 := by omega
  unfold back side
  rw [e]
  split_ifs <;> first | (exfalso; omega) | (apply two_add <;> omega) | (apply two_sub <;> omega) | (apply one_ent; omega)

/-- A lane of a head, counted from the head's first. -/
theorem back_head (v w c s : ℕ → EReal) (d j : ℕ) (h : ∀ a, v a = w (j / 64 * 64 + a)) (hd : d = j % 64) : back v c s d = back w c s j := by
  have e : d % 64 = j % 64 := by omega
  unfold back
  rw [e]
  split_ifs with h1 h2
  · rw [h, h, show j / 64 * 64 + d = j by omega, show j / 64 * 64 + (d + 8) = j + 8 by omega]
  · rw [h, h, show j / 64 * 64 + d = j by omega, show j / 64 * 64 + (d - 8) = j - 8 by omega]
  · rw [h, show j / 64 * 64 + d = j by omega]

/-- The gradient of the projections: the queries' and keys' gradients rotated back. -/
def unropedAt (q : Shape.Idx ⟨2, ![4352, 512]⟩ → EReal) (k v : Shape.Idx ⟨2, ![4352, 128]⟩ → EReal) (cs sn : Shape.Idx ⟨2, ![2176, 8]⟩ → EReal)
    (r j : ℕ) : EReal :=
  if j < 640 then back (side q k v r) (pos cs (r % 2176)) (pos sn (r % 2176)) j else side q k v r j

/-- The same, as an array. -/
def unroped (q : Shape.Idx ⟨2, ![4352, 512]⟩ → EReal) (k v : Shape.Idx ⟨2, ![4352, 128]⟩ → EReal) (cs sn : Shape.Idx ⟨2, ![2176, 8]⟩ → EReal)
    (y : Shape.Idx ⟨2, ![4352, 768]⟩) : EReal := unropedAt q k v cs sn (y 0).val (y 1).val

end Cert.RopeReals

end
-- ==== Proof.Rope23.lean ====
/- The rotary embedding of the queries and keys: over the extended reals the kernel's two lane rotations and three tables are the reference's rotation of each head's first sixteen lanes. -/
module

public import proofs.«01_k».proof.Defs
public import proofs.«01_k».proof.Proof.RopeReals
public import proofs.«01_k».proof.Proof.Gen.Kernel23.Frame
public import proofs.«01_k».proof.Proof.Gen.Kernel23Ideal.Value
public import proofs.«01_k».proof.Proof.Gen.Reference23Ideal.Run
public import Idealize.ShloMosaic.Lib.Pipeline.ValueKit
public import Idealize.ShloMosaic.Lib.Quiescent

@[expose] public section

set_option maxRecDepth 16384

noncomputable section

namespace Cert.Kernel23Ideal.Rope

open Idealize.ShloMosaic Idealize.ShloMosaic.TcCoe Idealize.SL.Sem Cert.Kernel23Ideal Kernel23Ideal.Gen
open Idealize.ShloMosaic.Pipeline (Dat)
open Cert.RopeReals

/-- The blocks of the windows at a point: a block of rows of the arrays, a block of positions of the tables. -/
theorem idx : ∀ t : Fin cfg0.N, win0_0.index t = ![t.val, 2] ∧ win0_1.index t = ![t.val, 12] ∧ win0_2.index t = ![t.val, 13]
    ∧ win0_3.index t = ![t.val % 4, 0] ∧ win0_4.index t = ![t.val % 4, 0] ∧ win0_5.index t = ![t.val % 4, 0] ∧ win0_6.index t = ![t.val, 0] ∧ t.val < 8 :=
  (by decide +kernel : ∀ t : Fin grid0.N, _)

section payloads
variable {tc tu td : Vec Ideal S544x512 .f32} {v C S : ℕ → EReal} {a : Fin 544}

/-- A head's lanes of the queries. -/
theorem queries_at {x : Vec Ideal S544x512 .f32} (hx : ∀ k : Fin 512, x (ix2 a k) = v k.val) (hc : ∀ k : Fin 512, tc (ix2 a k) = tabC C (k.val % 64))
    (hu : ∀ k : Fin 512, tu (ix2 a k) = tabU S (k.val % 64)) (hd : ∀ k : Fin 512, td (ix2 a k) = tabD S (k.val % 64)) (k : Fin 512) :
    k0_pay4 (F := Ideal) tc tu td x (ix2 a k) = turn v C S k.val := by
  have hk := k.isLt
  pointwise [k0_pay4, k0_pay1, k0_pay2, k0_pay3, hx, hc, hu, hd]
  exact turn_eq v C S k.val _ _ (fun h => congrArg v (by omega)) (fun h h' => congrArg v (by omega))

/-- A head's lanes of the keys. -/
theorem keys_at {x : Vec Ideal S544x128 .f32} (hx : ∀ k : Fin 128, x (ix2 a k) = v k.val) (hc : ∀ k : Fin 512, tc (ix2 a k) = tabC C (k.val % 64))
    (hu : ∀ k : Fin 512, tu (ix2 a k) = tabU S (k.val % 64)) (hd : ∀ k : Fin 512, td (ix2 a k) = tabD S (k.val % 64)) (k : Fin 128) :
    k0_pay5 (F := Ideal) tc tu td x (ix2 a k) = turn v C S k.val := by
  have hk := k.isLt
  pointwise [k0_pay5, k0_pay1, k0_pay2, k0_pay3, hx, hc, hu, hd]
  exact turn_eq v C S k.val _ _ (fun h => congrArg v (by omega)) (fun h h' => congrArg v (by omega))

end payloads

variable (m : (ℓ : Loc nD τ sig) → Buf (Elt Ideal) ℓ) (c : Dev nD)

/-- The table of the cosines: one on the lanes that are not rotated. -/
theorem cos_at (r : Fin 2176) (j : Fin 512) : (V m c main_v10 : FVec Ideal S2176x512 .f32) (ix2 r j)
    = tabC (pos (m (c.tc.loc main_arg1)) r.val) (j.val % 64) := by
  simp only [V, hostOps0, List.flatten_cons, List.flatten_nil, List.append_nil, List.cons_append, List.nil_append]
  after_results_simp
  (try simp only [StableHlo.TRef.ofBuf, StableHlo.TRef.toBuf, cast_eq])
  pointwise []
  after_results_simp
  pointwise []
  have e : ∀ (a : Fin 2176) (b : Fin 8), (m (c.tc.loc main_arg1) : FVec Ideal S2176x8 .f32) (ix2 a b) = ent (m (c.tc.loc main_arg1)) a.val b.val := ent_ix _
  have hj : j.val % 64 < 64 := Nat.mod_lt _ (by norm_num)
  unfold tabC pos
  by_cases h1 : j.val % 64 < 8
  · rw [dif_pos h1, if_pos h1]; exact e r ⟨j.val % 64, h1⟩
  · rw [dif_neg h1, if_neg h1]
    by_cases h2 : j.val % 64 < 16
    · rw [dif_pos (by omega), if_pos h2]; exact e r ⟨j.val % 64 - 8, by omega⟩
    · rw [dif_neg (by omega), if_neg h2]

/-- The table of the sines for the lanes eight above. -/
theorem up_at (r : Fin 2176) (j : Fin 512) : (V m c main_v13 : FVec Ideal S2176x512 .f32) (ix2 r j)
    = tabU (pos (m (c.tc.loc main_arg2)) r.val) (j.val % 64) := by
  simp only [V, hostOps0, List.flatten_cons, List.flatten_nil, List.append_nil, List.cons_append, List.nil_append]
  after_results_simp
  (try simp only [StableHlo.TRef.ofBuf, StableHlo.TRef.toBuf, cast_eq])
  pointwise []
  after_results_simp
  pointwise []
  have e : ∀ (a : Fin 2176) (b : Fin 8), (m (c.tc.loc main_arg2) : FVec Ideal S2176x8 .f32) (ix2 a b) = ent (m (c.tc.loc main_arg2)) a.val b.val := ent_ix _
  have hj : j.val % 64 < 64 := Nat.mod_lt _ (by norm_num)
  unfold tabU pos
  by_cases h1 : j.val % 64 < 8
  · rw [dif_pos h1, if_pos h1]; exact congrArg (fun a : EReal => - a) (e r ⟨j.val % 64, h1⟩)
  · rw [dif_neg h1, if_neg h1]
    by_cases h2 : j.val % 64 < 16
    · rw [dif_pos (by omega)]
    · rw [dif_neg (by omega)]

/-- The table of the sines for the lanes eight below. -/
theorem down_at (r : Fin 2176) (j : Fin 512) : (V m c main_v16 : FVec Ideal S2176x512 .f32) (ix2 r j)
    = tabD (pos (m (c.tc.loc main_arg2)) r.val) (j.val % 64) := by
  simp only [V, hostOps0, List.flatten_cons, List.flatten_nil, List.append_nil, List.cons_append, List.nil_append]
  after_results_simp
  (try simp only [StableHlo.TRef.ofBuf, StableHlo.TRef.toBuf, cast_eq])
  pointwise []
  after_results_simp
  pointwise []
  have e : ∀ (a : Fin 2176) (b : Fin 8), (m (c.tc.loc main_arg2) : FVec Ideal S2176x8 .f32) (ix2 a b) = ent (m (c.tc.loc main_arg2)) a.val b.val := ent_ix _
  have hj : j.val % 64 < 64 := Nat.mod_lt _ (by norm_num)
  unfold tabD pos
  by_cases h1 : j.val % 64 < 8
  · rw [dif_pos h1, if_pos h1]
  · rw [dif_neg h1, if_neg h1]
    by_cases h2 : j.val % 64 < 16
    · rw [dif_pos (by omega), if_pos h2]; exact e r ⟨j.val % 64 - 8, by omega⟩
    · rw [dif_neg (by omega), if_neg h2]

section blocks
variable (t : Fin cfg0.N) (a : Fin 544)

theorem q_at (k : Fin 512) : (X0_0 m c t : FVec Ideal S544x512 .f32) (ix2 a k) = ent (m (c.tc.loc main_arg0)) (t.val * 544 + a.val) (1024 + k.val) := by
  have ht := (idx t).2.2.2.2.2.2.2; have ha := a.isLt; have hk := k.isLt
  unfold X0_0 Pipeline.Window.fill
  rw [dif_pos (moved0_0 t _)]
  refine Eq.trans (congrArg (m (c.tc.loc main_arg0)) (?_ : _ = ix2 (⟨t.val * 544 + a.val, by omega⟩ : Fin 4352) (⟨1024 + k.val, by omega⟩ : Fin 1792))) (ent_ix _ _ _)
  blk_ext [iblk, V, idx t]

theorem k_at (k : Fin 128) : (iblk m c 1 t : FVec Ideal S544x128 .f32) (ix2 a k) = ent (m (c.tc.loc main_arg0)) (t.val * 544 + a.val) (1536 + k.val) := by
  have ht := (idx t).2.2.2.2.2.2.2; have ha := a.isLt; have hk := k.isLt
  refine Eq.trans (congrArg (m (c.tc.loc main_arg0)) (?_ : _ = ix2 (⟨t.val * 544 + a.val, by omega⟩ : Fin 4352) (⟨1536 + k.val, by omega⟩ : Fin 1792))) (ent_ix _ _ _)
  blk_ext [iblk, V, idx t]

theorem v_at (k : Fin 128) : (iblk m c 2 t : FVec Ideal S544x128 .f32) (ix2 a k) = ent (m (c.tc.loc main_arg0)) (t.val * 544 + a.val) (1664 + k.val) := by
  have ht := (idx t).2.2.2.2.2.2.2; have ha := a.isLt; have hk := k.isLt
  refine Eq.trans (congrArg (m (c.tc.loc main_arg0)) (?_ : _ = ix2 (⟨t.val * 544 + a.val, by omega⟩ : Fin 4352) (⟨1664 + k.val, by omega⟩ : Fin 1792))) (ent_ix _ _ _)
  blk_ext [iblk, V, idx t]

theorem tc_at (k : Fin 512) : (iblk m c 3 t : FVec Ideal S544x512 .f32) (ix2 a k) = tabC (pos (m (c.tc.loc main_arg1)) ((t.val * 544 + a.val) % 2176)) (k.val % 64) := by
  have ht := (idx t).2.2.2.2.2.2.2; have ha := a.isLt; have hk := k.isLt
  have e : (t.val * 544 + a.val) % 2176 = t.val % 4 * 544 + a.val := by omega
  rw [e]
  refine Eq.trans (congrArg (V m c main_v10) (?_ : _ = ix2 (⟨t.val % 4 * 544 + a.val, by omega⟩ : Fin 2176) k)) (cos_at m c _ k)
  blk_ext [iblk, V, idx t]

theorem tu_at (k : Fin 512) : (iblk m c 4 t : FVec Ideal S544x512 .f32) (ix2 a k) = tabU (pos (m (c.tc.loc main_arg2)) ((t.val * 544 + a.val) % 2176)) (k.val % 64) := by
  have ht := (idx t).2.2.2.2.2.2.2; have ha := a.isLt; have hk := k.isLt
  have e : (t.val * 544 + a.val) % 2176 = t.val % 4 * 544 + a.val := by omega
  rw [e]
  refine Eq.trans (congrArg (V m c main_v13) (?_ : _ = ix2 (⟨t.val % 4 * 544 + a.val, by omega⟩ : Fin 2176) k)) (up_at m c _ k)
  blk_ext [iblk, V, idx t]

theorem td_at (k : Fin 512) : (iblk m c 5 t : FVec Ideal S544x512 .f32) (ix2 a k) = tabD (pos (m (c.tc.loc main_arg2)) ((t.val * 544 + a.val) % 2176)) (k.val % 64) := by
  have ht := (idx t).2.2.2.2.2.2.2; have ha := a.isLt; have hk := k.isLt
  have e : (t.val * 544 + a.val) % 2176 = t.val % 4 * 544 + a.val := by omega
  rw [e]
  refine Eq.trans (congrArg (V m c main_v16) (?_ : _ = ix2 (⟨t.val % 4 * 544 + a.val, by omega⟩ : Fin 2176) k)) (down_at m c _ k)
  blk_ext [iblk, V, idx t]

end blocks

theorem final : (dats m 0 c).arrAt 6 (cfgs 0).N = roped (m (c.tc.loc main_arg0)) (m (c.tc.loc main_arg1)) (m (c.tc.loc main_arg2)) := by
  refine (dats m 0 c).arrAt_eq_of_covers 6 _ (by decide +kernel) fun t hf y => ?_
  blk_simp
  rw [after0_6, outsAt0]
  frame_out
  have e0 : ((((View.whole main_v17).slice (win0_6.rect t)).emb y) 0).val = t.val * 544 + (y 0).val := by
    show win0_6.index t 0 * 544 + 1 * (y 0).val = _
    rw [(idx t).2.2.2.2.2.2.1]; show t.val * 544 + 1 * (y 0).val = _; omega
  have e1 : ((((View.whole main_v17).slice (win0_6.rect t)).emb y) 1).val = (y 1).val := by
    show win0_6.index t 1 * 768 + 1 * (y 1).val = _
    rw [(idx t).2.2.2.2.2.2.1]; show 0 * 768 + 1 * (y 1).val = _; omega
  unfold roped
  rw [e0, e1]
  refine View.canon_apply_of_pieces (Val := Elt Ideal) (e := .bf16) (fun y : S544x768.Idx => ropedAt (m (c.tc.loc main_arg0))
    (m (c.tc.loc main_arg1)) (m (c.tc.loc main_arg2)) (t.val * 544 + (y 0).val) (y 1).val) _ ?_ y ?_
  · intro p hp
    simp only [List.mem_cons, List.not_mem_nil, or_false] at hp
    rcases hp with rfl | rfl | rfl
    · intro x
      have h1 : (x 1).val < 128 := (x 1).isLt
      show k0_pay6 (F := Ideal) (iblk m c 2 t) x = ropedAt _ _ _ (t.val * 544 + (0 + 1 * (x 0).val)) (640 + 1 * (x 1).val)
      refine (congrArg (k0_pay6 (F := Ideal) (iblk m c 2 t)) (ix2_eta x).symm).trans ((v_at m c t (x 0) (x 1)).trans ?_)
      rw [ropedAt, if_neg (by omega), Nat.zero_add, Nat.one_mul, Nat.one_mul, show 1024 + (640 + (x 1).val) = 1664 + (x 1).val by omega]
    · intro x
      have h1 : (x 1).val < 128 := (x 1).isLt
      show k0_pay5 (F := Ideal) (iblk m c 3 t) (iblk m c 4 t) (iblk m c 5 t) (iblk m c 1 t) x = ropedAt _ _ _ (t.val * 544 + (0 + 1 * (x 0).val)) (512 + 1 * (x 1).val)
      refine (congrArg (k0_pay5 (F := Ideal) (iblk m c 3 t) (iblk m c 4 t) (iblk m c 5 t) (iblk m c 1 t)) (ix2_eta x).symm).trans
        ((keys_at (v := fun j => ent (m (c.tc.loc main_arg0)) (t.val * 544 + (x 0).val) (1536 + j)) (k_at m c t (x 0)) (tc_at m c t (x 0)) (tu_at m c t (x 0)) (td_at m c t (x 0)) (x 1)).trans ?_)
      rw [ropedAt, if_pos (by omega), Nat.zero_add, Nat.one_mul, Nat.one_mul]
      exact turn_shift _ _ _ _ _ (fun a => congrArg _ (by omega))
    · intro x
      have h1 : (x 1).val < 512 := (x 1).isLt
      show k0_pay4 (F := Ideal) (iblk m c 3 t) (iblk m c 4 t) (iblk m c 5 t) (X0_0 m c t) x = ropedAt _ _ _ (t.val * 544 + (0 + 1 * (x 0).val)) (0 + 1 * (x 1).val)
      refine (congrArg (k0_pay4 (F := Ideal) (iblk m c 3 t) (iblk m c 4 t) (iblk m c 5 t) (X0_0 m c t)) (ix2_eta x).symm).trans
        ((queries_at (v := fun j => ent (m (c.tc.loc main_arg0)) (t.val * 544 + (x 0).val) (1024 + j)) (q_at m c t (x 0)) (tc_at m c t (x 0)) (tu_at m c t (x 0)) (td_at m c t (x 0)) (x 1)).trans ?_)
      rw [ropedAt, if_pos (by omega), Nat.zero_add, Nat.zero_add, Nat.one_mul, Nat.one_mul]
  · exact View.cover_of_tiledBy _ ![544, 128] (by sl_kernel_rfl) y

theorem reference_roped (m : (ℓ : Loc Reference23Ideal.nD Reference23Ideal.τ Reference23Ideal.sig) → Buf (Elt Ideal) ℓ) (c : Dev Reference23Ideal.nD) :
    Reference23Ideal.Value.res_main_v40 (F := Ideal) m c = roped (m (c.tc.loc Reference23Ideal.main_arg0))
      (m (c.tc.loc Reference23Ideal.main_arg1)) (m (c.tc.loc Reference23Ideal.main_arg2)) := by
  funext y
  obtain ⟨i, k, rfl⟩ : ∃ (i : Fin 4352) (k : Fin 768), y = ix2 i k := ⟨y 0, y 1, by blk_ext⟩
  unfold Reference23Ideal.Value.res_main_v40
  pointwise [roped, ropedAt]
  have eX : ∀ (a : Fin 4352) (b : Fin 1792), (m (c.tc.loc Reference23Ideal.main_arg0)) (ix2 a b) = ent (m (c.tc.loc Reference23Ideal.main_arg0)) a.val b.val := ent_ix (a := 4352) (b := 1792) _
  have eC : ∀ (a : Fin 2176) (b : Fin 8), (m (c.tc.loc Reference23Ideal.main_arg1)) (ix2 a b) = ent (m (c.tc.loc Reference23Ideal.main_arg1)) a.val b.val := ent_ix (a := 2176) (b := 8) _
  have eS : ∀ (a : Fin 2176) (b : Fin 8), (m (c.tc.loc Reference23Ideal.main_arg2)) (ix2 a b) = ent (m (c.tc.loc Reference23Ideal.main_arg2)) a.val b.val := ent_ix (a := 2176) (b := 8) _
  have hk := k.isLt
  simp only [eX, eC, eS, turn, pos]
  by_cases h : k.val < 512
  · rw [dif_pos h, if_pos (by omega)]
    by_cases h1 : k.val % 64 < 8
    · rw [dif_pos (by omega), if_pos h1]; apply two_sub <;> omega
    · rw [dif_neg (by omega), if_neg h1]
      by_cases h2 : k.val % 64 < 16
      · rw [dif_pos (by omega), if_pos h2]; apply two_add <;> omega
      · rw [dif_neg (by omega), if_neg h2]; apply one_ent; omega
  · rw [dif_neg h]
    by_cases h' : k.val < 640
    · rw [dif_pos (by omega), if_pos h']
      by_cases h1 : k.val % 64 < 8
      · rw [dif_pos (by omega), if_pos h1]; apply two_sub <;> omega
      · rw [dif_neg (by omega), if_neg h1]
        by_cases h2 : k.val % 64 < 16
        · rw [dif_pos (by omega), if_pos h2]; apply two_add <;> omega
        · rw [dif_neg (by omega), if_neg h2]; apply one_ent; omega
    · rw [dif_neg (by omega), if_neg h']; apply one_ent; omega

theorem frame_reference : Cert.quiescent_Reference23Ideal (hReference23Ideal := Reference23Ideal.Gen.facts) :=
  fun m ρ _ => (θ_run Reference23Ideal.defs _ _).mono
    (fun r h => And.intro (fun c => (h c).2) (Idealize.ShloMosaic.sem_eq_zero_of_no_sems (by decide) r.2))
    (Reference23Ideal.Value.run (F := Ideal) m ρ)

theorem algebraic : Cert.algebraic_Kernel23Ideal_Reference23Ideal (hKernel23Ideal := Kernel23Ideal.Gen.facts)
    (hReference23Ideal := Reference23Ideal.Gen.facts) := by
  intro m g m' g' _ hagree
  refine ⟨fun c => roped (m' (c.tc.loc Reference23Ideal.main_arg0))
      (m' (c.tc.loc Reference23Ideal.main_arg1))
      (m' (c.tc.loc Reference23Ideal.main_arg2)),
    (θ_run _ _ _).mono (fun r h c => ⟨(h c).1.trans ((final m c).trans ?_), (h c).2⟩) (Kernel23Ideal.Value.run_blocks (F := Ideal) m g),
    (θ_run _ _ _).mono (fun r h c => ⟨(h c).1.trans (reference_roped m' c), (h c).2⟩) (Reference23Ideal.Value.run (F := Ideal) m' g')⟩
  obtain ⟨h0, h1, h2⟩ := hagree c
  exact congr (congr (congrArg roped h0.symm) h1.symm) h2.symm

end Cert.Kernel23Ideal.Rope

end
-- ==== Proof.Rope24Ref.lean ====
/- The reference's rotation back of the gradients of the queries and the keys, entry by entry. -/
module

public import proofs.«01_k».proof.Proof.RopeReals
public import proofs.«01_k».proof.Proof.Gen.Reference24Ideal.Run
public import Idealize.ShloMosaic.Lib.Pipeline.ValueKit

@[expose] public section

set_option maxRecDepth 16384

noncomputable section

namespace Cert.Reference24Ideal.Rope

open Idealize.ShloMosaic Idealize.ShloMosaic.TcCoe Idealize.SL.Sem Cert.Reference24Ideal
open Cert.RopeReals

/-- The reference's rotation back, of the queries' gradient split into heads. -/
def partQ (x : FVec Ideal S2x2176x8x64 .f32) (C S : FVec Ideal S2176x8 .f32) : FVec Ideal S2x2176x8x64 .f32 :=
  (addf (addf (pad S2x2176x8x64 ![0, 0, 0, 16] ![0, 0, 0, 0] ![0, 0, 0, 0] (extractStridedSlice S2x2176x8x48 ![0, 0, 0, 16] x Gen.slices_S2x2176x8x64_S2x2176x8x48_0_0_0_16) (constant S_ .f32 0x00000000#32) Gen.pads_S2x2176x8x48_S2x2176x8x64_000_000_000_1600 Gen.h_S_) (pad S2x2176x8x64 ![0, 0, 0, 8] ![0, 0, 0, 48] ![0, 0, 0, 0] (addf (mulf (extractStridedSlice S2x2176x8x8 ![0, 0, 0, 8] x Gen.slices_S2x2176x8x64_S2x2176x8x8_0_0_0_8) (broadcastInDim S2x2176x8x8 ![0, 1, 2, 3] Gen.bcast_S1x2176x1x8_S2x2176x8x8_0_1_2_3 (broadcastInDim S1x2176x1x8 ![1, 3] Gen.bcast_S2176x8_S1x2176x1x8_1_3 C))) (mulf (Host.negf (extractStridedSlice S2x2176x8x8 ![0, 0, 0, 0] x Gen.slices_S2x2176x8x64_S2x2176x8x8_0_0_0_0)) (broadcastInDim S2x2176x8x8 ![0, 1, 2, 3] Gen.bcast_S1x2176x1x8_S2x2176x8x8_0_1_2_3 (broadcastInDim S1x2176x1x8 ![1, 3] Gen.bcast_S2176x8_S1x2176x1x8_1_3 S)))) (constant S_ .f32 0x00000000#32) Gen.pads_S2x2176x8x8_S2x2176x8x64_000_000_000_8480 Gen.h_S_)) (pad S2x2176x8x64 ![0, 0, 0, 0] ![0, 0, 0, 56] ![0, 0, 0, 0] (addf (mulf (extractStridedSlice S2x2176x8x8 ![0, 0, 0, 8] x Gen.slices_S2x2176x8x64_S2x2176x8x8_0_0_0_8) (broadcastInDim S2x2176x8x8 ![0, 1, 2, 3] Gen.bcast_S1x2176x1x8_S2x2176x8x8_0_1_2_3 (broadcastInDim S1x2176x1x8 ![1, 3] Gen.bcast_S2176x8_S1x2176x1x8_1_3 S))) (mulf (extractStridedSlice S2x2176x8x8 ![0, 0, 0, 0] x Gen.slices_S2x2176x8x64_S2x2176x8x8_0_0_0_0) (broadcastInDim S2x2176x8x8 ![0, 1, 2, 3] Gen.bcast_S1x2176x1x8_S2x2176x8x8_0_1_2_3 (broadcastInDim S1x2176x1x8 ![1, 3] Gen.bcast_S2176x8_S1x2176x1x8_1_3 C)))) (constant S_ .f32 0x00000000#32) Gen.pads_S2x2176x8x8_S2x2176x8x64_000_000_000_0560 Gen.h_S_))

theorem partQ_at {x : FVec Ideal S2x2176x8x64 .f32} {C S : FVec Ideal S2176x8 .f32} {v c s : ℕ → EReal} {a : Fin 2} {b : Fin 2176} {h : Fin 8}
    (hx : ∀ d : Fin 64, x (ix4 a b h d) = v d.val) (hC : ∀ d : Fin 8, C (ix2 b d) = c d.val) (hS : ∀ d : Fin 8, S (ix2 b d) = s d.val) (d : Fin 64) :
    partQ x C S (ix4 a b h d) = back v c s d.val := by
  have hd := d.isLt
  pointwise [partQ, hx, hC, hS]
  unfold back
  rw [Nat.mod_eq_of_lt hd]
  by_cases h1 : d.val < 8
  · rw [dif_neg (by omega), dif_neg (by omega), dif_pos (by omega), if_pos h1, zero_add, zero_add, add_comm]; apply two_add <;> omega
  · rw [if_neg h1]
    by_cases h2 : d.val < 16
    · rw [dif_neg (by omega), dif_pos (by omega), dif_neg (by omega), if_pos h2, zero_add, add_zero, neg_mul, ← sub_eq_add_neg]; apply two_sub <;> omega
    · rw [dif_pos (by omega), dif_neg (by omega), dif_neg (by omega), if_neg h2, add_zero, add_zero]; apply one_ent; omega

/-- The reference's rotation back, of the keys' gradient split into heads. -/
def partK (x : FVec Ideal S2x2176x2x64 .f32) (C S : FVec Ideal S2176x8 .f32) : FVec Ideal S2x2176x2x64 .f32 :=
  (addf (addf (pad S2x2176x2x64 ![0, 0, 0, 16] ![0, 0, 0, 0] ![0, 0, 0, 0] (extractStridedSlice S2x2176x2x48 ![0, 0, 0, 16] x Gen.slices_S2x2176x2x64_S2x2176x2x48_0_0_0_16) (constant S_ .f32 0x00000000#32) Gen.pads_S2x2176x2x48_S2x2176x2x64_000_000_000_1600 Gen.h_S_) (pad S2x2176x2x64 ![0, 0, 0, 8] ![0, 0, 0, 48] ![0, 0, 0, 0] (addf (mulf (extractStridedSlice S2x2176x2x8 ![0, 0, 0, 8] x Gen.slices_S2x2176x2x64_S2x2176x2x8_0_0_0_8) (broadcastInDim S2x2176x2x8 ![0, 1, 2, 3] Gen.bcast_S1x2176x1x8_S2x2176x2x8_0_1_2_3 (broadcastInDim S1x2176x1x8 ![1, 3] Gen.bcast_S2176x8_S1x2176x1x8_1_3 C))) (mulf (Host.negf (extractStridedSlice S2x2176x2x8 ![0, 0, 0, 0] x Gen.slices_S2x2176x2x64_S2x2176x2x8_0_0_0_0)) (broadcastInDim S2x2176x2x8 ![0, 1, 2, 3] Gen.bcast_S1x2176x1x8_S2x2176x2x8_0_1_2_3 (broadcastInDim S1x2176x1x8 ![1, 3] Gen.bcast_S2176x8_S1x2176x1x8_1_3 S)))) (constant S_ .f32 0x00000000#32) Gen.pads_S2x2176x2x8_S2x2176x2x64_000_000_000_8480 Gen.h_S_)) (pad S2x2176x2x64 ![0, 0, 0, 0] ![0, 0, 0, 56] ![0, 0, 0, 0] (addf (mulf (extractStridedSlice S2x2176x2x8 ![0, 0, 0, 8] x Gen.slices_S2x2176x2x64_S2x2176x2x8_0_0_0_8) (broadcastInDim S2x2176x2x8 ![0, 1, 2, 3] Gen.bcast_S1x2176x1x8_S2x2176x2x8_0_1_2_3 (broadcastInDim S1x2176x1x8 ![1, 3] Gen.bcast_S2176x8_S1x2176x1x8_1_3 S))) (mulf (extractStridedSlice S2x2176x2x8 ![0, 0, 0, 0] x Gen.slices_S2x2176x2x64_S2x2176x2x8_0_0_0_0) (broadcastInDim S2x2176x2x8 ![0, 1, 2, 3] Gen.bcast_S1x2176x1x8_S2x2176x2x8_0_1_2_3 (broadcastInDim S1x2176x1x8 ![1, 3] Gen.bcast_S2176x8_S1x2176x1x8_1_3 C)))) (constant S_ .f32 0x00000000#32) Gen.pads_S2x2176x2x8_S2x2176x2x64_000_000_000_0560 Gen.h_S_))

theorem partK_at {x : FVec Ideal S2x2176x2x64 .f32} {C S : FVec Ideal S2176x8 .f32} {v c s : ℕ → EReal} {a : Fin 2} {b : Fin 2176} {h : Fin 2}
    (hx : ∀ d : Fin 64, x (ix4 a b h d) = v d.val) (hC : ∀ d : Fin 8, C (ix2 b d) = c d.val) (hS : ∀ d : Fin 8, S (ix2 b d) = s d.val) (d : Fin 64) :
    partK x C S (ix4 a b h d) = back v c s d.val := by
  have hd := d.isLt
  pointwise [partK, hx, hC, hS]
  unfold back
  rw [Nat.mod_eq_of_lt hd]
  by_cases h1 : d.val < 8
  · rw [dif_neg (by omega), dif_neg (by omega), dif_pos (by omega), if_pos h1, zero_add, zero_add, add_comm]; apply two_add <;> omega
  · rw [if_neg h1]
    by_cases h2 : d.val < 16
    · rw [dif_neg (by omega), dif_pos (by omega), dif_neg (by omega), if_pos h2, zero_add, add_zero, neg_mul, ← sub_eq_add_neg]; apply two_sub <;> omega
    · rw [dif_pos (by omega), dif_neg (by omega), dif_neg (by omega), if_neg h2, add_zero, add_zero]; apply one_ent; omega

/-- The reference's gradients side by side. -/
def beside (m : (ℓ : Loc nD τ sig) → Buf (Elt Ideal) ℓ) (c : Dev nD) : FVec Ideal S4352x768 .f32 :=
  (concatenate S4352x768 1 [⟨S4352x512, ((m (c.tc.loc main_arg0)) : (⟨S4352x512, .f32⟩ : BufTy).Contents (Elt Ideal))⟩, ⟨S4352x128, ((m (c.tc.loc main_arg1)) : (⟨S4352x128, .f32⟩ : BufTy).Contents (Elt Ideal))⟩, ⟨S4352x128, ((m (c.tc.loc main_arg2)) : (⟨S4352x128, .f32⟩ : BufTy).Contents (Elt Ideal))⟩] Gen.concatenates_S4352x512_S4352x128_S4352x128_S4352x768_d1 : (⟨S4352x768, .f32⟩ : BufTy).Contents (Elt Ideal))

theorem beside_at (m : (ℓ : Loc nD τ sig) → Buf (Elt Ideal) ℓ) (c : Dev nD) (i : Fin 4352) (j : Fin 768) :
    beside m c (ix2 i j) = side (m (c.tc.loc main_arg0)) (m (c.tc.loc main_arg1)) (m (c.tc.loc main_arg2)) i.val j.val := by
  have hj := j.isLt
  pointwise [beside]
  unfold side
  by_cases h : j.val < 512
  · rw [dif_pos h, if_pos h]; exact ent_ix (a := 4352) (b := 512) _ _ _
  · rw [dif_neg h, if_neg h]
    by_cases h' : j.val < 640
    · rw [dif_pos (by omega), if_pos h']; exact ent_ix (a := 4352) (b := 128) _ _ _
    · rw [dif_neg (by omega), if_neg h']
      refine (ent_ix (a := 4352) (b := 128) _ _ _).trans (one_ent ?_)
      show j.val - 512 - 128 = j.val - 640; omega

theorem reference_unroped (m : (ℓ : Loc nD τ sig) → Buf (Elt Ideal) ℓ) (c : Dev nD) :
    Reference24Ideal.Value.res_main_v87 (F := Ideal) m c = unroped (m (c.tc.loc main_arg0)) (m (c.tc.loc main_arg1)) (m (c.tc.loc main_arg2)) (m (c.tc.loc main_arg3)) (m (c.tc.loc main_arg4)) := by
  funext y
  obtain ⟨i, k, rfl⟩ : ∃ (i : Fin 4352) (k : Fin 768), y = ix2 i k := ⟨y 0, y 1, by blk_ext⟩
  have eD := beside_at m c
  have hi := i.isLt; have hk := k.isLt
  have eC : ∀ d : Fin 8, (m (c.tc.loc main_arg3)) (ix2 (⟨i.val % 2176, by omega⟩ : Fin 2176) d) = pos (m (c.tc.loc main_arg3)) (i.val % 2176) d.val := fun d => ent_ix (a := 2176) (b := 8) _ _ d
  have eS : ∀ d : Fin 8, (m (c.tc.loc main_arg4)) (ix2 (⟨i.val % 2176, by omega⟩ : Fin 2176) d) = pos (m (c.tc.loc main_arg4)) (i.val % 2176) d.val := fun d => ent_ix (a := 2176) (b := 8) _ _ d
  have e : Reference24Ideal.Value.res_main_v87 (F := Ideal) m c = truncf .bf16 (concatenate S4352x768 1
      [⟨S4352x512, shapeCast S4352x512 (partQ (shapeCast S2x2176x8x64 (extractStridedSlice S4352x512 ![0, 0] (beside m c) Gen.slices_S4352x768_S4352x512_0_0) Gen.shapeCasts_S4352x512_S2x2176x8x64) (m (c.tc.loc main_arg3)) (m (c.tc.loc main_arg4))) Gen.shapeCasts_S2x2176x8x64_S4352x512⟩,
       ⟨S4352x128, shapeCast S4352x128 (partK (shapeCast S2x2176x2x64 (extractStridedSlice S4352x128 ![0, 512] (beside m c) Gen.slices_S4352x768_S4352x128_0_512) Gen.shapeCasts_S4352x128_S2x2176x2x64) (m (c.tc.loc main_arg3)) (m (c.tc.loc main_arg4))) Gen.shapeCasts_S2x2176x2x64_S4352x128⟩,
       ⟨S4352x128, extractStridedSlice S4352x128 ![0, 640] (beside m c) Gen.slices_S4352x768_S4352x128_0_640⟩]
      Gen.concatenates_S4352x512_S4352x128_S4352x128_S4352x768_d1 : FVec Ideal S4352x768 .f32) Gen.bitsLt_bf16_f32 := rfl
  rw [e]
  change _ = unropedAt _ _ _ _ _ i.val k.val
  unfold unropedAt
  by_cases h : k.val < 512
  · rw [if_pos (by omega)]; pointwise [eD]; rw [dif_pos h]
    refine (partQ_at (v := fun d => side (m (c.tc.loc main_arg0)) (m (c.tc.loc main_arg1)) (m (c.tc.loc main_arg2)) i.val (k.val / 64 * 64 + d)) (fun d => ?_) eC eS _).trans (back_head _ _ _ _ _ _ (fun a => rfl) rfl)
    pointwise [eD]
  · by_cases h' : k.val < 640
    · rw [if_pos h']; pointwise [eD]; rw [dif_neg h, dif_pos (by omega)]
      refine (partK_at (v := fun d => side (m (c.tc.loc main_arg0)) (m (c.tc.loc main_arg1)) (m (c.tc.loc main_arg2)) i.val (k.val / 64 * 64 + d)) (fun d => ?_) eC eS _).trans (back_head _ _ _ _ _ _ (fun a => rfl) (by show (k.val - 512) % 64 = _; omega))
      pointwise [eD]
      exact one_ent (by omega)
    · rw [if_neg h']; pointwise [eD]; rw [dif_neg h, dif_neg (by omega)]; apply one_ent; omega

end Cert.Reference24Ideal.Rope

end
-- ==== Proof.Rope24.lean ====
/- The rotary embedding's gradient: over the extended reals the kernel's rotations with the negated tables of sines are the derivative of the rotation of each head's first sixteen lanes. -/
module

public import proofs.«01_k».proof.Defs
public import proofs.«01_k».proof.Proof.RopeReals
public import proofs.«01_k».proof.Proof.Rope24Ref
public import proofs.«01_k».proof.Proof.Gen.Kernel24.Frame
public import proofs.«01_k».proof.Proof.Gen.Kernel24Ideal.Value
public import proofs.«01_k».proof.Proof.Gen.Reference24Ideal.Run
public import Idealize.ShloMosaic.Lib.Pipeline.ValueKit
public import Idealize.ShloMosaic.Lib.Quiescent

@[expose] public section

set_option maxRecDepth 16384

noncomputable section

namespace Cert.Kernel24Ideal.Rope

open Idealize.ShloMosaic Idealize.ShloMosaic.TcCoe Idealize.SL.Sem Cert.Kernel24Ideal Kernel24Ideal.Gen
open Idealize.ShloMosaic.Pipeline (Dat)
open Cert.RopeReals

/-- The blocks of the windows at a point: a block of rows of the arrays, a block of positions of the tables. -/
theorem idx : ∀ t : Fin cfg0.N, win0_0.index t = ![t.val, 0] ∧ win0_1.index t = ![t.val, 0] ∧ win0_2.index t = ![t.val, 0]
    ∧ win0_3.index t = ![t.val % 4, 0] ∧ win0_4.index t = ![t.val % 4, 0] ∧ win0_5.index t = ![t.val % 4, 0] ∧ win0_6.index t = ![t.val, 0] ∧ t.val < 8 :=
  (by decide +kernel : ∀ t : Fin grid0.N, _)

section payloads
variable {tc tu td : Vec Ideal S544x512 .f32} {v C S : ℕ → EReal} {a : Fin 544}

/-- A head's lanes of the queries. -/
theorem queries_at {x : Vec Ideal S544x512 .f32} (hx : ∀ k : Fin 512, x (ix2 a k) = v k.val) (hc : ∀ k : Fin 512, tc (ix2 a k) = tabC C (k.val % 64))
    (hu : ∀ k : Fin 512, tu (ix2 a k) = tabU S (k.val % 64)) (hd : ∀ k : Fin 512, td (ix2 a k) = tabD S (k.val % 64)) (k : Fin 512) :
    k0_pay5 (F := Ideal) tc tu td x (ix2 a k) = back v C S k.val := by
  have hk := k.isLt
  pointwise [k0_pay5, k0_pay2, k0_pay3, k0_pay4, hx, hc, hu, hd]
  rw [zero_sub, zero_sub]
  exact back_eq v C S k.val _ _ (fun h => congrArg v (by omega)) (fun h h' => congrArg v (by omega))

/-- A head's lanes of the keys. -/
theorem keys_at {x : Vec Ideal S544x128 .f32} (hx : ∀ k : Fin 128, x (ix2 a k) = v k.val) (hc : ∀ k : Fin 512, tc (ix2 a k) = tabC C (k.val % 64))
    (hu : ∀ k : Fin 512, tu (ix2 a k) = tabU S (k.val % 64)) (hd : ∀ k : Fin 512, td (ix2 a k) = tabD S (k.val % 64)) (k : Fin 128) :
    k0_pay6 (F := Ideal) tc tu td x (ix2 a k) = back v C S k.val := by
  have hk := k.isLt
  pointwise [k0_pay6, k0_pay2, k0_pay3, k0_pay4, hx, hc, hu, hd]
  rw [zero_sub, zero_sub]
  exact back_eq v C S k.val _ _ (fun h => congrArg v (by omega)) (fun h h' => congrArg v (by omega))

end payloads

variable (m : (ℓ : Loc nD τ sig) → Buf (Elt Ideal) ℓ) (c : Dev nD)

/-- The table of the cosines: one on the lanes that are not rotated. -/
theorem cos_at (r : Fin 2176) (j : Fin 512) : (V m c main_v10 : FVec Ideal S2176x512 .f32) (ix2 r j)
    = tabC (pos (m (c.tc.loc main_arg3)) r.val) (j.val % 64) := by
  simp only [V, hostOps0, List.flatten_cons, List.flatten_nil, List.append_nil, List.cons_append, List.nil_append]
  after_results_simp
  (try simp only [StableHlo.TRef.ofBuf, StableHlo.TRef.toBuf, cast_eq])
  pointwise []
  after_results_simp
  pointwise []
  have e : ∀ (a : Fin 2176) (b : Fin 8), (m (c.tc.loc main_arg3) : FVec Ideal S2176x8 .f32) (ix2 a b) = ent (m (c.tc.loc main_arg3)) a.val b.val := ent_ix _
  have hj : j.val % 64 < 64 := Nat.mod_lt _ (by norm_num)
  unfold tabC pos
  by_cases h1 : j.val % 64 < 8
  · rw [dif_pos h1, if_pos h1]; exact e r ⟨j.val % 64, h1⟩
  · rw [dif_neg h1, if_neg h1]
    by_cases h2 : j.val % 64 < 16
    · rw [dif_pos (by omega), if_pos h2]; exact e r ⟨j.val % 64 - 8, by omega⟩
    · rw [dif_neg (by omega), if_neg h2]

/-- The table of the sines for the lanes eight above. -/
theorem up_at (r : Fin 2176) (j : Fin 512) : (V m c main_v13 : FVec Ideal S2176x512 .f32) (ix2 r j)
    = tabU (pos (m (c.tc.loc main_arg4)) r.val) (j.val % 64) := by
  simp only [V, hostOps0, List.flatten_cons, List.flatten_nil, List.append_nil, List.cons_append, List.nil_append]
  after_results_simp
  (try simp only [StableHlo.TRef.ofBuf, StableHlo.TRef.toBuf, cast_eq])
  pointwise []
  after_results_simp
  pointwise []
  have e : ∀ (a : Fin 2176) (b : Fin 8), (m (c.tc.loc main_arg4) : FVec Ideal S2176x8 .f32) (ix2 a b) = ent (m (c.tc.loc main_arg4)) a.val b.val := ent_ix _
  have hj : j.val % 64 < 64 := Nat.mod_lt _ (by norm_num)
  unfold tabU pos
  by_cases h1 : j.val % 64 < 8
  · rw [dif_pos h1, if_pos h1]; exact congrArg (fun a : EReal => - a) (e r ⟨j.val % 64, h1⟩)
  · rw [dif_neg h1, if_neg h1]
    by_cases h2 : j.val % 64 < 16
    · rw [dif_pos (by omega)]
    · rw [dif_neg (by omega)]

/-- The table of the sines for the lanes eight below. -/
theorem down_at (r : Fin 2176) (j : Fin 512) : (V m c main_v16 : FVec Ideal S2176x512 .f32) (ix2 r j)
    = tabD (pos (m (c.tc.loc main_arg4)) r.val) (j.val % 64) := by
  simp only [V, hostOps0, List.flatten_cons, List.flatten_nil, List.append_nil, List.cons_append, List.nil_append]
  after_results_simp
  (try simp only [StableHlo.TRef.ofBuf, StableHlo.TRef.toBuf, cast_eq])
  pointwise []
  after_results_simp
  pointwise []
  have e : ∀ (a : Fin 2176) (b : Fin 8), (m (c.tc.loc main_arg4) : FVec Ideal S2176x8 .f32) (ix2 a b) = ent (m (c.tc.loc main_arg4)) a.val b.val := ent_ix _
  have hj : j.val % 64 < 64 := Nat.mod_lt _ (by norm_num)
  unfold tabD pos
  by_cases h1 : j.val % 64 < 8
  · rw [dif_pos h1, if_pos h1]
  · rw [dif_neg h1, if_neg h1]
    by_cases h2 : j.val % 64 < 16
    · rw [dif_pos (by omega), if_pos h2]; exact e r ⟨j.val % 64 - 8, by omega⟩
    · rw [dif_neg (by omega), if_neg h2]

section blocks
variable (t : Fin cfg0.N) (a : Fin 544)

theorem q_at (k : Fin 512) : (iblk m c 0 t : FVec Ideal S544x512 .f32) (ix2 a k) = ent (m (c.tc.loc main_arg0)) (t.val * 544 + a.val) k.val := by
  have ht := (idx t).2.2.2.2.2.2.2; have ha := a.isLt
  refine Eq.trans (congrArg (m (c.tc.loc main_arg0)) (?_ : _ = ix2 (⟨t.val * 544 + a.val, by omega⟩ : Fin 4352) k)) (ent_ix _ _ _)
  blk_ext [iblk, V, idx t]

theorem k_at (k : Fin 128) : (iblk m c 1 t : FVec Ideal S544x128 .f32) (ix2 a k) = ent (m (c.tc.loc main_arg1)) (t.val * 544 + a.val) k.val := by
  have ht := (idx t).2.2.2.2.2.2.2; have ha := a.isLt
  refine Eq.trans (congrArg (m (c.tc.loc main_arg1)) (?_ : _ = ix2 (⟨t.val * 544 + a.val, by omega⟩ : Fin 4352) k)) (ent_ix _ _ _)
  blk_ext [iblk, V, idx t]

theorem v_at (k : Fin 128) : (iblk m c 2 t : FVec Ideal S544x128 .f32) (ix2 a k) = ent (m (c.tc.loc main_arg2)) (t.val * 544 + a.val) k.val := by
  have ht := (idx t).2.2.2.2.2.2.2; have ha := a.isLt
  refine Eq.trans (congrArg (m (c.tc.loc main_arg2)) (?_ : _ = ix2 (⟨t.val * 544 + a.val, by omega⟩ : Fin 4352) k)) (ent_ix _ _ _)
  blk_ext [iblk, V, idx t]

theorem tc_at (k : Fin 512) : (iblk m c 3 t : FVec Ideal S544x512 .f32) (ix2 a k) = tabC (pos (m (c.tc.loc main_arg3)) ((t.val * 544 + a.val) % 2176)) (k.val % 64) := by
  have ht := (idx t).2.2.2.2.2.2.2; have ha := a.isLt; have hk := k.isLt
  have e : (t.val * 544 + a.val) % 2176 = t.val % 4 * 544 + a.val := by omega
  rw [e]
  refine Eq.trans (congrArg (V m c main_v10) (?_ : _ = ix2 (⟨t.val % 4 * 544 + a.val, by omega⟩ : Fin 2176) k)) (cos_at m c _ k)
  blk_ext [iblk, V, idx t]

theorem tu_at (k : Fin 512) : (iblk m c 4 t : FVec Ideal S544x512 .f32) (ix2 a k) = tabU (pos (m (c.tc.loc main_arg4)) ((t.val * 544 + a.val) % 2176)) (k.val % 64) := by
  have ht := (idx t).2.2.2.2.2.2.2; have ha := a.isLt; have hk := k.isLt
  have e : (t.val * 544 + a.val) % 2176 = t.val % 4 * 544 + a.val := by omega
  rw [e]
  refine Eq.trans (congrArg (V m c main_v13) (?_ : _ = ix2 (⟨t.val % 4 * 544 + a.val, by omega⟩ : Fin 2176) k)) (up_at m c _ k)
  blk_ext [iblk, V, idx t]

theorem td_at (k : Fin 512) : (iblk m c 5 t : FVec Ideal S544x512 .f32) (ix2 a k) = tabD (pos (m (c.tc.loc main_arg4)) ((t.val * 544 + a.val) % 2176)) (k.val % 64) := by
  have ht := (idx t).2.2.2.2.2.2.2; have ha := a.isLt; have hk := k.isLt
  have e : (t.val * 544 + a.val) % 2176 = t.val % 4 * 544 + a.val := by omega
  rw [e]
  refine Eq.trans (congrArg (V m c main_v16) (?_ : _ = ix2 (⟨t.val % 4 * 544 + a.val, by omega⟩ : Fin 2176) k)) (down_at m c _ k)
  blk_ext [iblk, V, idx t]

end blocks

theorem final : (dats m 0 c).arrAt 6 (cfgs 0).N = unroped (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6, outsAt0]
  frame_out
  have e0 : ((((View.whole main_v17).slice (win0_6.rect t)).emb y) 0).val = t.val * 544 + (y 0).val := by
    show win0_6.index t 0 * 544 + 1 * (y 0).val = _
    rw [(idx t).2.2.2.2.2.2.1]; show t.val * 544 + 1 * (y 0).val = _; omega
  have e1 : ((((View.whole main_v17).slice (win0_6.rect t)).emb y) 1).val = (y 1).val := by
    show win0_6.index t 1 * 768 + 1 * (y 1).val = _
    rw [(idx t).2.2.2.2.2.2.1]; show 0 * 768 + 1 * (y 1).val = _; omega
  unfold unroped
  rw [e0, e1]
  refine View.canon_apply_of_pieces (Val := Elt Ideal) (e := .bf16) (fun y : S544x768.Idx => unropedAt (m (c.tc.loc main_arg0)) (m (c.tc.loc main_arg1)) (m (c.tc.loc main_arg2)) (m (c.tc.loc main_arg3)) (m (c.tc.loc main_arg4)) (t.val * 544 + (y 0).val) (y 1).val) _ ?_ y ?_
  · intro p hp
    simp only [List.mem_cons, List.not_mem_nil, or_false] at hp
    rcases hp with rfl | rfl | rfl
    · intro x
      have h1 : (x 1).val < 128 := (x 1).isLt
      show k0_pay1 (F := Ideal) (iblk m c 2 t) x = unropedAt _ _ _ _ _ (t.val * 544 + (0 + 1 * (x 0).val)) (640 + 1 * (x 1).val)
      refine (congrArg (k0_pay1 (F := Ideal) (iblk m c 2 t)) (ix2_eta x).symm).trans ((v_at m c t (x 0) (x 1)).trans ?_)
      rw [unropedAt, if_neg (by omega), Nat.zero_add, Nat.one_mul, Nat.one_mul, side, if_neg (by omega), if_neg (by omega), Nat.add_sub_cancel_left]
    · intro x
      have h1 : (x 1).val < 128 := (x 1).isLt
      show k0_pay6 (F := Ideal) (iblk m c 3 t) (iblk m c 4 t) (iblk m c 5 t) (iblk m c 1 t) x = unropedAt _ _ _ _ _ (t.val * 544 + (0 + 1 * (x 0).val)) (512 + 1 * (x 1).val)
      refine (congrArg (k0_pay6 (F := Ideal) (iblk m c 3 t) (iblk m c 4 t) (iblk m c 5 t) (iblk m c 1 t)) (ix2_eta x).symm).trans
        ((keys_at (v := fun j => ent (m (c.tc.loc main_arg1)) (t.val * 544 + (x 0).val) j) (k_at m c t (x 0)) (tc_at m c t (x 0)) (tu_at m c t (x 0)) (td_at m c t (x 0)) (x 1)).trans ?_)
      rw [unropedAt, if_pos (by omega), Nat.zero_add, Nat.one_mul, Nat.one_mul]
      exact back_keys _ _ _ _ _ _ _ h1
    · intro x
      have h1 : (x 1).val < 512 := (x 1).isLt
      show k0_pay5 (F := Ideal) (iblk m c 3 t) (iblk m c 4 t) (iblk m c 5 t) (iblk m c 0 t) x = unropedAt _ _ _ _ _ (t.val * 544 + (0 + 1 * (x 0).val)) (0 + 1 * (x 1).val)
      refine (congrArg (k0_pay5 (F := Ideal) (iblk m c 3 t) (iblk m c 4 t) (iblk m c 5 t) (iblk m c 0 t)) (ix2_eta x).symm).trans
        ((queries_at (v := fun j => ent (m (c.tc.loc main_arg0)) (t.val * 544 + (x 0).val) j) (q_at m c t (x 0)) (tc_at m c t (x 0)) (tu_at m c t (x 0)) (td_at m c t (x 0)) (x 1)).trans ?_)
      rw [unropedAt, if_pos (by omega), Nat.zero_add, Nat.zero_add, Nat.one_mul, Nat.one_mul]
      exact back_queries _ _ _ _ _ _ _ h1
  · exact View.cover_of_tiledBy _ ![544, 128] (by sl_kernel_rfl) y

theorem frame_reference : Cert.quiescent_Reference24Ideal (hReference24Ideal := Reference24Ideal.Gen.facts) :=
  fun m ρ _ => (θ_run Reference24Ideal.defs _ _).mono
    (fun r h => And.intro (fun c => (h c).2) (Idealize.ShloMosaic.sem_eq_zero_of_no_sems (by decide) r.2))
    (Reference24Ideal.Value.run (F := Ideal) m ρ)

theorem algebraic : Cert.algebraic_Kernel24Ideal_Reference24Ideal (hKernel24Ideal := Kernel24Ideal.Gen.facts)
    (hReference24Ideal := Reference24Ideal.Gen.facts) := by
  intro m g m' g' _ hagree
  refine ⟨fun c => unroped (m' (c.tc.loc Reference24Ideal.main_arg0)) (m' (c.tc.loc Reference24Ideal.main_arg1)) (m' (c.tc.loc Reference24Ideal.main_arg2)) (m' (c.tc.loc Reference24Ideal.main_arg3)) (m' (c.tc.loc Reference24Ideal.main_arg4)),
    (θ_run _ _ _).mono (fun r h c => ⟨(h c).1.trans ((final m c).trans ?_), (h c).2⟩) (Kernel24Ideal.Value.run_blocks (F := Ideal) m g),
    (θ_run _ _ _).mono (fun r h c => ⟨(h c).1.trans (Reference24Ideal.Rope.reference_unroped m' c), (h c).2⟩) (Reference24Ideal.Value.run (F := Ideal) m' g')⟩
  obtain ⟨h0, h1, h2, h3, h4⟩ := hagree c
  exact congr (congr (congr (congr (congrArg unroped h0.symm) h1.symm) h2.symm) h3.symm) h4.symm

end Cert.Kernel24Ideal.Rope

end
-- ==== Proof.Bits.Mix19Frame.lean ====
/- The frame of the mixer's output gradient kernel as it was written: its idealized program is the same program, and the frame of that one is
   proved for every reading of its floats. -/
module

public import proofs.«01_k».proof.Proof.Mix19Frame
public import proofs.«01_k».proof.Proof.Gen.Kernel19

@[expose] public section

set_option maxRecDepth 16384

noncomputable section

namespace Cert.Kernel19Ideal.Mix

open Idealize.ShloMosaic Idealize.ShloMosaic.TcCoe Idealize.SL.Sem Cert.Kernel19Ideal Cert.Kernel19Ideal.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

end Cert.Kernel19Ideal.Mix

namespace Cert.Kernel19.Mix

open Idealize.ShloMosaic Idealize.ShloMosaic.TcCoe Idealize.SL.Sem Cert.Kernel19 Cert.Kernel19.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

/-- The two programs are the same. -/
theorem framed_eq (F : FTy → Type) [FloatOps F] : Framed F = Cert.Kernel19Ideal.Mix.Framed F := by sl_kernel_rfl

/-- The frame of the program as it was written. -/
theorem frame_run {F : FTy → Type} [FloatOps F] : Framed F :=
  (framed_eq F).mpr Cert.Kernel19Ideal.Mix.frame_run

end Cert.Kernel19.Mix

end
-- ==== Proof.Proj20Blocks.lean ====
/- What one grid point of the input projection's backward kernel computes from the blocks it reads: a block of rows of both gradients, and the
   weight matrix reassembled from the exchange buffer. -/
module

public import proofs.«01_k».proof.Proof.Gen.Kernel20Ideal.Frame.Runs
public import Idealize.ShloMosaic.Lib.Pipeline.ValueKit
public import Idealize.ShloMosaic.Lib.ValueLayout

@[expose] public section

set_option maxRecDepth 16384

noncomputable section

namespace Cert.Kernel20Ideal.Proj

open Idealize.ShloMosaic Kernel20Ideal.Gen

variable {F : FTy → Type} [FloatOps F]

/-- A matrix packed in the exchange buffer: device `k` holds rows `off .. off + 224` of its slab, and the slabs follow one another. -/
def shard (off : ℕ) (h : off + 224 ≤ 352) (f : S8x352x1024.Idx → Elt F .bf16) : Vec F S1792x1024 .bf16 := fun y =>
  f (ix3 (⟨(y 0).val / 224, by have : (y 0).val < 1792 := (y 0).isLt; omega⟩ : Fin 8)
    (⟨off + (y 0).val % 224, by have := Nat.mod_lt (y 0).val (by decide : 0 < 224); omega⟩ : Fin 352) (y 1))

/-- The input's gradient. -/
def fDh (dp : Vec F S544x1792 .bf16) (dz : Vec F S544x1024 .f32) (w : Vec F S1792x1024 .bf16) : Vec F S544x1024 .f32 := k0_pay1 dz dp w

/-- A slab of the exchange buffer, read as a matrix of 224 rows. -/
theorem slab_read (f : S8x352x1024.Idx → Elt F .bf16) (k off : ℕ) (hk : k < 8) (ho : off + 224 ≤ 352)
    (inb : ∀ a, (![k, off, 0] : Fin 3 → ℕ) a + (![1, 224, 1024] : Fin 3 → ℕ) a ≤ S8x352x1024.size a)
    (hr : S224x1024.numel = (Rect.unit (s := S8x352x1024) ![k, off, 0] ![1, 224, 1024] inb).shape.numel) (x : S224x1024.Idx) :
    f ((Rect.unit (s := S8x352x1024) ![k, off, 0] ![1, 224, 1024] inb).emb (Shape.reshapeEquiv hr x))
      = f (ix3 (⟨k, hk⟩ : Fin 8) (⟨off + (x 0).val, by have : (x 0).val < 224 := (x 0).isLt; omega⟩ : Fin 352) (x 1)) := by
  have e : Shape.reshapeEquiv hr x = (ix3 (0 : Fin 1) (x 0) (x 1) : (⟨3, ![1, 224, 1024]⟩ : Shape).Idx) := by
    rw [show x = ix2 (x 0) (x 1) from (ix2_eta x).symm]; exact ValueIdx.reshapeEquiv_ix2_1ab _ _ _
  rw [e]; congr 1; funext a; apply Fin.ext
  match a with
  | ⟨0, _⟩ => show k + 1 * 0 = k; omega
  | ⟨1, _⟩ => show off + 1 * (x 0).val = off + (x 0).val; omega
  | ⟨2, _⟩ => show 0 + 1 * (x 1).val = (x 1).val; omega

/-- The slab of device `k`, as the copy that fills rows `224 k .. 224 k + 224` of the scratch delivers it. -/
def piece (f : S8x352x1024.Idx → Elt F .bf16) (k off o : ℕ)
    (ino : ∀ a, (![o, 0] : Fin 2 → ℕ) a + (![224, 1024] : Fin 2 → ℕ) a ≤ S1792x1024.size a)
    (inb : ∀ a, (![k, off, 0] : Fin 3 → ℕ) a + (![1, 224, 1024] : Fin 3 → ℕ) a ≤ S8x352x1024.size a)
    (hr : S224x1024.numel = (Rect.unit (s := S8x352x1024) ![k, off, 0] ![1, 224, 1024] inb).shape.numel) :
    View.Piece (Elt F) S1792x1024 .bf16 :=
  ⟨Rect.unit ![o, 0] ![224, 1024] ino,
    fun x => f ((Rect.unit (s := S8x352x1024) ![k, off, 0] ![1, 224, 1024] inb).emb (Shape.reshapeEquiv hr x))⟩

theorem piece_apply (f : S8x352x1024.Idx → Elt F .bf16) (k off o : ℕ) (hk : k < 8) (ho : o = 224 * k) (hoff : off + 224 ≤ 352) (ino) (inb) (hr) (x) :
    (piece f k off o ino inb hr).2 x = shard off hoff f ((piece f k off o ino inb hr).1.emb x) := by
  refine (slab_read f k off hk hoff inb hr x).trans ?_
  subst ho
  have h0 : (x 0).val < 224 := (x 0).isLt
  unfold shard; congr 1; funext a; apply Fin.ext
  match a with
  | ⟨0, _⟩ => show k = (224 * k + 1 * (x 0).val) / 224; omega
  | ⟨1, _⟩ => show off + (x 0).val = off + (224 * k + 1 * (x 0).val) % 224; omega
  | ⟨2, _⟩ => show (x 1).val = 0 + 1 * (x 1).val; omega

/-- The eight copies fill the scratch with the reassembled matrix. -/
theorem canon_shard (f : S8x352x1024.Idx → Elt F .bf16) (off : ℕ) (hoff : off + 224 ≤ 352) (i0 i1 i2 i3 i4 i5 i6 i7 b0 b1 b2 b3 b4 b5 b6 b7 r0 r1 r2 r3 r4 r5 r6 r7) :
    View.canon [piece f 7 off 1568 i7 b7 r7, piece f 6 off 1344 i6 b6 r6, piece f 5 off 1120 i5 b5 r5, piece f 4 off 896 i4 b4 r4,
      piece f 3 off 672 i3 b3 r3, piece f 2 off 448 i2 b2 r2, piece f 1 off 224 i1 b1 r1, piece f 0 off 0 i0 b0 r0] = shard off hoff f := by
  funext y
  refine View.canon_apply_of_pieces (shard off hoff f) _ ?_ y ?_
  · intro p hp
    simp only [List.mem_cons, List.not_mem_nil, or_false] at hp
    rcases hp with rfl | rfl | rfl | rfl | rfl | rfl | rfl | rfl <;> exact piece_apply f _ _ _ (by decide) (by decide) hoff _ _ _
  · exact View.cover_of_tiledL _ ![224, 1024] (by sl_kernel_rfl) y

/-- A whole load of the scratch after the eight copies reads the reassembled matrix. -/
theorem load_shard (v : View sig .tc .vmem S1792x1024 .bf16) (f : S8x352x1024.Idx → Elt F .bf16) (off : ℕ) (hoff : off + 224 ≤ 352) (ib)
    (i0 i1 i2 i3 i4 i5 i6 i7 b0 b1 b2 b3 b4 b5 b6 b7 r0 r1 r2 r3 r4 r5 r6 r7) :
    v.readCov [piece f 7 off 1568 i7 b7 r7, piece f 6 off 1344 i6 b6 r6, piece f 5 off 1120 i5 b5 r5, piece f 4 off 896 i4 b4 r4,
      piece f 3 off 672 i3 b3 r3, piece f 2 off 448 i2 b2 r2, piece f 1 off 224 i1 b1 r1, piece f 0 off 0 i0 b0 r0]
      (Rect.unit (s := S1792x1024) ![0, 0] ![1792, 1024] ib).toLoadRect = shard off hoff f := by
  rw [View.readCov_eq_canon_ld _ _ _ (View.cover_of_tiledL _ ![224, 1024] (by sl_kernel_rfl)), canon_shard f off hoff]
  exact View.ld_unit_lit' _ _ (by decide)

end Cert.Kernel20Ideal.Proj

end
-- ==== Proof.Proj20Next.lean ====
/- A grid point of the input projection's backward pass after the first: the weight is already in the scratch. -/
module

public import proofs.«01_k».proof.Proof.Proj20Blocks

@[expose] public section

set_option maxRecDepth 16384

noncomputable section

namespace Cert.Kernel20Ideal.Proj

open Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1200000 in
/-- The body at such a point leaves each output block at its function of the blocks it read, and the scratch as it was. -/
theorem next_point (c : Dev nD) (i : grid0.Coords)
    (arg1 : Memref sig .tc .vmem S544x1792 .bf16) (harg1 : arg1.IsWhole)
    (arg3 : Memref sig .tc .vmem S544x1024 .f32) (harg3 : arg3.IsWhole)
    (arg4 : Memref sig .tc .vmem S544x1024 .f32) (harg4 : arg4.IsWhole)
    (arg5 : Memref sig .tc .vmem S1792x1024 .bf16) (harg5 : arg5.IsWhole)
    (hc0 : ¬cond0_0 i)
    (x0 : Vec F S544x1792 .bf16) (x1 : Vec F S544x1024 .f32)
    (w0 : Vec F S1792x1024 .bf16)
    (K : PUnit → sProp 𝕄) :
    iprop(owns (c : Thread nD τ) arg1 fullShare x0 ∗
      owns (c : Thread nD τ) arg3 fullShare x1 ∗
      (∃ d, owns (c : Thread nD τ) arg4 fullShare d) ∗
      owns (c : Thread nD τ) arg5 fullShare w0
      ∗ (iprop(owns (c : Thread nD τ) arg1 fullShare x0 ∗
      owns (c : Thread nD τ) arg3 fullShare x1 ∗
      owns (c : Thread nD τ) arg4 fullShare (fDh x0 x1 w0) ∗
      owns (c : Thread nD τ) arg5 fullShare w0) -∗ K ⟨⟩))
      ⊢ wp frame (wpE (defs₀ (F := F)) Variants.none c none) Set.univ
        (cc0_proj_bwd i arg1 harg1 (Memref.whole main_v6) (Memref.isWhole_whole _) arg3 harg3 arg4 harg4 arg5 harg5 cc0_scratch1) K := by
  simp only [cc0_proj_bwd_eq_skeleton]; unfold cc0_proj_bwd_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%fs0, %hfs0, HS0⟩, Hk⟩
  obtain rfl := harg1.eq_unread hf0
  obtain rfl := harg3.eq_unread hf1
  obtain rfl := harg5.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; swap; iexact H2; ipureintro
    rw [View.read_writes_eq_canon _ _ _ (View.cover_of_tiledL _ S544x1024.size (by sl_kernel_rfl))]; frame_out
    rfl
  iexists _; isplitr; · ipureintro; exact harg5.read_unread _
  iexact HS0

end Cert.Kernel20Ideal.Proj

end
-- ==== Proof.Proj20First.lean ====
/- The first grid point of the input projection's backward pass: it copies the weight into the scratch, slab by slab, before it computes its rows. -/
module

public import proofs.«01_k».proof.Proof.Proj20Next

@[expose] public section

set_option maxRecDepth 16384

noncomputable section

namespace Cert.Kernel20Ideal.Proj

open Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The counters of the copies, all at zero. -/
def cells (c : Dev nD) : sProp 𝕄 :=
  iprop(semVal ((c : Thread nD τ), SemLoc.dma 6) 0 ∗
    semVal ((c : Thread nD τ), SemLoc.dma 7) 0 ∗
    semVal ((c : Thread nD τ), SemLoc.dma 8) 0 ∗
    semVal ((c : Thread nD τ), SemLoc.dma 9) 0 ∗
    semVal ((c : Thread nD τ), SemLoc.dma 10) 0 ∗
    semVal ((c : Thread nD τ), SemLoc.dma 11) 0 ∗
    semVal ((c : Thread nD τ), SemLoc.dma 12) 0 ∗
    semVal ((c : Thread nD τ), SemLoc.dma 13) 0)

set_option sl_exec.dmaWindow true in
set_option sl_exec.dmaWindowSet true in
set_option maxHeartbeats 2400000 in
/-- The body at the first point: the scratch ends at the reassembled weights, and each output block at its function of the blocks read. -/
theorem first_point (c : Dev nD) (i : grid0.Coords)
    (arg1 : Memref sig .tc .vmem S544x1792 .bf16) (harg1 : arg1.IsWhole)
    (arg3 : Memref sig .tc .vmem S544x1024 .f32) (harg3 : arg3.IsWhole)
    (arg4 : Memref sig .tc .vmem S544x1024 .f32) (harg4 : arg4.IsWhole)
    (arg5 : Memref sig .tc .vmem S1792x1024 .bf16) (harg5 : arg5.IsWhole)
    (hc0 : cond0_0 i)
    (x0 : Vec F S544x1792 .bf16) (x1 : Vec F S544x1024 .f32)
    (fh : HbBuf0 (F := F) c hbM0_0) (W : Waits sig Unit) (K : PUnit → sProp 𝕄) :
    iprop(owns (c : Thread nD τ) arg1 fullShare x0 ∗
      owns (c : Thread nD τ) arg3 fullShare x1 ∗
      (∃ d, owns (c : Thread nD τ) arg4 fullShare d) ∗
      (∃ d, owns (c : Thread nD τ) arg5 fullShare d) ∗ cells c ∗ hbPt0 c hbM0_0 fh ∗ owes (c : Thread nD τ) 0 W
      ∗ (iprop(owns (c : Thread nD τ) arg1 fullShare x0 ∗
      owns (c : Thread nD τ) arg3 fullShare x1 ∗
      owns (c : Thread nD τ) arg4 fullShare (fDh x0 x1 (shard 0 (by decide) fh)) ∗
      owns (c : Thread nD τ) arg5 fullShare (shard 0 (by decide) fh) ∗
      cells c ∗ hbPt0 c hbM0_0 fh ∗ (∃ W', owes (c : Thread nD τ) 0 W')) -∗ K ⟨⟩))
      ⊢ wp frame (wpE (defs₀ (F := F)) Variants.none c none) Set.univ
        (cc0_proj_bwd i arg1 harg1 (Memref.whole main_v6) (Memref.isWhole_whole _) arg3 harg3 arg4 harg4 arg5 harg5 cc0_scratch1) K := by
  simp only [cc0_proj_bwd_eq_skeleton]; unfold cc0_proj_bwd_skel
  simp only [k0_part1_eq_skeleton, k0_part2_eq_skeleton, k0_part3_eq_skeleton]
  unfold owns; unfold cells
  iintro ⟨⟨%f0, %hf0, H0⟩, ⟨%f1, %hf1, H1⟩, ⟨%d2, %f2, -, H2⟩, ⟨%ds0, %fs0, -, HS0⟩, ⟨Hq0, Hq1, Hq2, Hq3, Hq4, Hq5, Hq6, Hq7⟩, Hh0, HW, Hk⟩
  obtain rfl := harg1.eq_unread hf0
  obtain rfl := harg3.eq_unread hf1
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; swap; iexact H2; ipureintro
    rw [View.read_writes_eq_canon _ _ _ (View.cover_of_tiledL _ S544x1024.size (by sl_kernel_rfl))]; frame_out
    exact congrArg (fun w0 => fDh x0 x1 w0) (load_shard _ fh 0 (by decide) _ _ _ _ _ _ _ _ _ _ _ _ _ _ _ _ _ _ _ _ _ _ _ _ _ )
  isplitl [HS0]
  · iexists _; isplitr; swap; iexact HS0; ipureintro
    rw [View.read_writes_eq_canon _ _ _ (View.cover_of_tiledL _ ![224, 1024] (by sl_kernel_rfl))]; frame_out
    exact canon_shard fh 0 (by decide) _ _ _ _ _ _ _ _ _ _ _ _ _ _ _ _ _ _ _ _ _ _ _ _
  isplitl [Hq0 Hq1 Hq2 Hq3 Hq4 Hq5 Hq6 Hq7]
  · isplitl [Hq0]; iexact Hq0
    isplitl [Hq1]; iexact Hq1
    isplitl [Hq2]; iexact Hq2
    isplitl [Hq3]; iexact Hq3
    isplitl [Hq4]; iexact Hq4
    isplitl [Hq5]; iexact Hq5
    isplitl [Hq6]; iexact Hq6
    iexact Hq7
  isplitl [Hh0]; · iexact Hh0
  iexists _; iexact HW

end Cert.Kernel20Ideal.Proj

end
-- ==== Proof.Proj20Frame.lean ====
/- The whole run of the input projection's backward kernel: what each staging buffer, the scratch and the copy counters hold before and after every grid point. -/
module

public import proofs.«01_k».proof.Proof.Proj20First

@[expose] public section

set_option maxRecDepth 16384

noncomputable section

namespace Cert.Kernel20Ideal.Proj

open Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the scratch holds them after the first point. -/
def wt0 (c : Dev nD) : Vec F S1792x1024 .bf16 := shard 0 (by decide) (V m c main_v6)

/-- What every point keeps: the generator register, the copy counters at zero, and what is left in main memory. -/
def kept (c : Dev nD) : sProp 𝕄 :=
  iprop((∃ r, prngReg c r) ∗ cells c ∗ hbPt0 c hbM0_0 (V m c main_v6))

/-- The scratch at anything, as the first point finds it. -/
def scratchAny (c : Dev nD) : sProp 𝕄 :=
  iprop((∃ d, owns (c : Thread nD τ) scM0_0 fullShare d))

/-- The scratch at the weights, as every later point finds it. -/
def scratchSet (c : Dev nD) : sProp 𝕄 :=
  iprop(owns (c : Thread nD τ) scM0_0 fullShare (wt0 m c))

theorem launch_eq (c : Dev nD) : (Pipeline.ΦD osem0 spec0 H0 (V m) c : sProp 𝕄) = iprop(scratchAny c ∗ kept m c) := by
  rw [PhiD0_eq]; rfl

/-- What holds before point `n`. -/
def inv (c : Dev nD) : (n : ℕ) → n ≤ cfg0.N → sProp 𝕄
  | 0, _ => iprop(scratchAny c ∗ kept m c)
  | _ + 1, _ => iprop(scratchSet m c ∗ kept m c)

theorem inv_first (c : Dev nD) (n : ℕ) (h : n ≤ cfg0.N) (hz : n = 0) : inv m c n h = iprop(scratchAny c ∗ kept m c) := by
  subst hz; rfl

theorem inv_next (c : Dev nD) (n : ℕ) (h : n ≤ cfg0.N) (hz : n ≠ 0) : inv m c n h = iprop(scratchSet m c ∗ kept m c) := by
  cases n with
  | zero => exact absurd rfl hz
  | succ n => rfl

/-- The arrays at the start, what the body leaves in each window's buffer, and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => fDh (iblk m c 0 t) (iblk m c 1 t) (wt0 m c)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = fDh (iblk m c 0 t) (iblk m c 1 t) (wt0 m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = iprop(scratchSet m c ∗ kept m c) from rfl,
    after_0, after_1, after_2]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases hz : t.val = 0
  · rw [inv_castSucc m c t, inv_first m c _ _ hz]
    unfold scratchAny scratchSet kept wt0
    iintro ⟨⟨HS0, ⟨Hg, Hq, Hh0⟩⟩, ⟨%W, -, HW⟩, ⟨%d0, H0⟩, ⟨%d1, H1⟩, ⟨%d2, H2⟩⟩
    iapply (first_point c (grid0.coords t) _ _ _ _ _ _ _ _  ((hcond0_0 t).mpr (by omega))
      (iblk m c 0 t) (iblk m c 1 t) (V m c main_v6) W _)
    isplitl [H0]; · iexact H0
    isplitl [H1]; · iexact H1
    isplitl [H2]; · iexists _; iexact H2
    isplitl [HS0]; · iexact HS0
    isplitl [Hq]; · iexact Hq
    isplitl [Hh0]; · iexact Hh0
    isplitl [HW]; · iexact HW
    iintro ⟨H0, H1, H2, HS0, Hq, Hh0, ⟨%W', HW'⟩⟩
    isplitl [HS0 Hg Hq Hh0]
    · isplitl [HS0]; · iexact HS0
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    iexact H2
  · rw [inv_castSucc m c t, inv_next m c _ _ hz]
    unfold scratchSet kept
    iintro ⟨⟨HS0, ⟨Hg, Hq, Hh0⟩⟩, ⟨%W, -, HW⟩, ⟨%d0, H0⟩, ⟨%d1, H1⟩, ⟨%d2, H2⟩⟩
    iapply (next_point c (grid0.coords t) _ _ _ _ _ _ _ _  (fun h => by have := (hcond0_0 t).mp h; omega)
      (iblk m c 0 t) (iblk m c 1 t) _ _ )
    isplitl [H0]; · iexact H0
    isplitl [H1]; · iexact H1
    isplitl [H2]; · iexists _; iexact H2
    isplitl [HS0]; · iexact HS0
    iintro ⟨H0, H1, H2, HS0⟩
    isplitl [HS0 Hg Hq Hh0]
    · isplitl [HS0]; · iexact HS0
      isplitl [Hg]; · iexact Hg
      isplitl [Hq]; · iexact Hq
      iexact Hh0
    isplitl [HW]
    · iexists W; isplitr; · ipureintro; exact fun _ _ => Or.inl trivial
      iexact HW
    isplitl [H0]; · iexact H0
    isplitl [H1]; · iexact H1
    iexact H2

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦD osem0 spec0 H0 (V m) c ⊢ (dats m 0 c).Φ 0 := by
  rw [show (dats m 0 c).Φ 0 = iprop(scratchAny c ∗ kept m c) from rfl, launch_eq]

theorem inv_out (c : Dev nD) : (dats m 0 c).Φ (Fin.last cfg0.N) ⊢ Pipeline.ΦD osem0 spec0 H0 (V m) c := by
  rw [show (dats m 0 c).Φ (Fin.last cfg0.N) = inv m c (Fin.last cfg0.N).val (Nat.le_of_lt_succ (Fin.last cfg0.N).isLt) from rfl,
    inv_next m c _ _ (by rw [Fin.val_last]; have : cfg0.N = 8 := N_0; omega), launch_eq]
  unfold scratchSet scratchAny
  iintro ⟨HS0, Hk⟩
  isplitl [HS0]
  · iexists _; iexact HS0
  iexact Hk

set_option backward.isDefEq.respectTransparency.types false in
/-- Every weakly fair run ends, with the arrays at what the points left and every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the arguments end as they began, and every counter is at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel20Ideal.Proj

end
-- ==== Proof.Proj20.lean ====
/- The gradient at the mixer's input: the block of the kernel, the whole run over the reals, and the reference. -/
module

public import proofs.«01_k».proof.Proof.Proj20Frame
public import proofs.«01_k».proof.Proof.Gen.Reference20Ideal.Run
public import proofs.«01_k».proof.Defs
public import proofs.«01_k».proof.Proof.Gen.Kernel20Ideal
public import Idealize.ShloMosaic.Lib.Quiescent

@[expose] public section

set_option maxRecDepth 16384

noncomputable section

namespace Cert.Kernel20Ideal.Proj

open Idealize.ShloMosaic Idealize.ShloMosaic.TcCoe Idealize.SL.Sem Cert.Kernel20Ideal Kernel20Ideal.Gen
open Idealize.ShloMosaic.Pipeline (Dat)

/-- The arguments: the gradient at the projection, the projection's weight, and the gradient at the norm's input. -/
structure Args where
  dp : Fin 4352 → Fin 1792 → EReal
  w : Fin 1024 → Fin 1792 → EReal
  dz : Fin 4352 → Fin 1024 → EReal

/-- The gradient at the mixer's input: through the projection, and past it. -/
def Args.dh (d : Args) (i : Fin 4352) (k : Fin 1024) : EReal := Ideal.ofBits FTy.f32 1071072509#32 * d.dz i k + ∑ j, d.dp i j * d.w k j

theorem dh_at {x : Vec Ideal S544x1792 .bf16} {z : Vec Ideal S544x1024 .f32} {w : Vec Ideal S1792x1024 .bf16} {d : Args} {ρ : Fin 544 → Fin 4352}
    (hx : ∀ a j, x (ix2 a j) = d.dp (ρ a) j) (hz : ∀ a k, z (ix2 a k) = d.dz (ρ a) k) (hw : ∀ j k, w (ix2 j k) = d.w k j)
    (a : Fin 544) (k : Fin 1024) : fDh x z w (ix2 a k) = d.dh (ρ a) k := by
  pointwise [fDh, k0_pay1, hx, hz, hw]
  rfl

section run

variable (m : (ℓ : Loc nD τ sig) → Buf (Elt Ideal) ℓ) (c : Dev nD)

/-- The kernel's arguments, entry by entry. -/
def args : Args where
  dp i k := (m (c.tc.loc main_arg0) : FVec Ideal S4352x1792 .f32) (ix2 i k)
  w i k := (m (c.tc.loc main_arg1) : FVec Ideal S1024x1792 .f32) (ix2 i k)
  dz i k := (m (c.tc.loc main_arg3) : FVec Ideal S4352x1024 .f32) (ix2 i k)

theorem buf_eq : V m c main_v6 = (concatenate S8x352x1024 1
    [⟨S8x224x1024, shapeCast S8x224x1024 (transpose S1792x1024 [1, 0] (m (c.tc.loc main_arg1) : FVec Ideal S1024x1792 .f32) transposes_S1024x1792_S1792x1024_1_0) shapeCasts_S1792x1024_S8x224x1024⟩,
     ⟨S8x128x1024, shapeCast S8x128x1024 (m (c.tc.loc main_arg2) : FVec Ideal S1024x1024 .f32) shapeCasts_S1024x1024_S8x128x1024⟩]
    concatenates_S8x224x1024_S8x128x1024_S8x352x1024_d1 : FVec Ideal S8x352x1024 .bf16) := by
  funext y
  simp only [V, hostOps0, List.flatten_cons, List.flatten_nil, List.append_nil, List.cons_append, List.nil_append]
  after_results_simp
  first | rfl | (dsimp only [Matrix.cons_val]; after_results_simp; rfl)

theorem cat_at (x₁ : FVec Ideal S8x224x1024 .bf16) (x₂ : FVec Ideal S8x128x1024 .bf16) (i : Fin 8) (j : Fin 352) (k : Fin 1024) :
    (concatenate S8x352x1024 1 [⟨S8x224x1024, x₁⟩, ⟨S8x128x1024, x₂⟩]
      concatenates_S8x224x1024_S8x128x1024_S8x352x1024_d1 : FVec Ideal S8x352x1024 .bf16) (ix3 i j k) =
    if h : j.val < 224 then x₁ (ix3 i ⟨j.val, h⟩ k) else x₂ (ix3 i ⟨j.val - 224, by omega⟩ k) := by
  pointwise []

theorem fold_at (x : FVec Ideal S1792x1024 .f32) (i : Fin 8) (j : Fin 224) (k : Fin 1024) :
    (shapeCast S8x224x1024 x shapeCasts_S1792x1024_S8x224x1024 : FVec Ideal S8x224x1024 .f32) (ix3 i j k) =
    x (ix2 (⟨i.val * 224 + j.val, by omega⟩ : Fin 1792) k) := by
  pointwise []

theorem turn_at (x : FVec Ideal S1024x1792 .f32) (i : Fin 1792) (k : Fin 1024) :
    (transpose S1792x1024 [1, 0] x transposes_S1024x1792_S1792x1024_1_0 : FVec Ideal S1792x1024 .f32) (ix2 i k) = x (ix2 k i) := by
  pointwise []

theorem wt0_at (j : Fin 1792) (k : Fin 1024) : wt0 m c (ix2 j k) = (args m c).w k j := by
  have hj := Nat.mod_lt j.val (by decide : 0 < 224)
  rw [wt0, buf_eq]
  refine (cat_at _ _ (⟨j.val / 224, by omega⟩ : Fin 8) (⟨0 + j.val % 224, by omega⟩ : Fin 352) k).trans ?_
  refine (dif_pos (show 0 + j.val % 224 < 224 by omega)).trans ?_
  refine (fold_at _ _ _ _).trans ?_
  refine (turn_at _ _ _).trans ?_
  unfold args; dsimp only; congr 2; apply Fin.ext; simp only; omega

/-- The block of every window at a point: rows by the point, or the whole row. -/
theorem idx : ∀ t : Fin cfg0.N, win0_0.index t = ![t.val, 0] ∧ win0_1.index t = ![t.val, 0] ∧ win0_2.index t = ![t.val, 0] ∧ t.val < 8 :=
  (by decide +kernel : ∀ t : Fin grid0.N, _)

/-- The array's row at row `a` of the block of point `t`. -/
def row (t : Fin cfg0.N) (a : Fin 544) : Fin 4352 := ⟨t.val * 544 + a.val, by have := (idx t).2.2.2; omega⟩

theorem cast_eq : V m c main_v0 = (m (c.tc.loc main_arg0) : FVec Ideal S4352x1792 .f32) := by
  funext y
  simp only [V, hostOps0, List.flatten_cons, List.flatten_nil, List.append_nil, List.cons_append, List.nil_append]
  after_results_simp
  rfl

theorem dp_at (t : Fin cfg0.N) (a : Fin 544) (k : Fin 1792) : (iblk m c 0 t : Vec Ideal S544x1792 .bf16) (ix2 a k) = (args m c).dp (row t a) k := by
  unfold args
  blk_ext [iblk, cast_eq, idx t, row]

theorem dz_at (t : Fin cfg0.N) (a : Fin 544) (k : Fin 1024) : (iblk m c 1 t : Vec Ideal S544x1024 .f32) (ix2 a k) = (args m c).dz (row t a) k := by
  unfold args
  blk_ext [iblk, V_main_arg3, idx t, row]

/-- The gradient at the mixer's input. -/
theorem out_eq : (dats m 0 c).arrAt 2 (cfgs 0).N = (fun y => (args m c).dh (y 0) (y 1) : FVec Ideal S4352x1024 .f32) := by
  refine (dats m 0 c).arrAt_eq_of_covers 2 _ (by decide +kernel) fun t hf y => ?_
  blk_simp
  rw [after_2]
  have hy : (y : S544x1024.Idx) = ix2 (y 0) (y 1) := by blk_ext
  have e0 : (win0_2.blk t).view.emb y 0 = row t (y 0) := by apply Fin.ext; blk_simp [idx t, row]
  have e1 : (win0_2.blk t).view.emb y 1 = y 1 := by apply Fin.ext; blk_simp [idx t]
  refine (congrArg _ hy).trans ((dh_at (dp_at m c t) (dz_at m c t) (wt0_at m c) (y 0) (y 1)).trans ?_)
  rw [e0, e1]

end run

section reference

/-- The reference's arguments, entry by entry. -/
def argsR (m : (ℓ : Loc Reference20Ideal.nD Reference20Ideal.τ Reference20Ideal.sig) → Buf (Elt Ideal) ℓ) (c : Dev Reference20Ideal.nD) : Args where
  dp i k := (m (c.tc.loc Reference20Ideal.main_arg0) : FVec Ideal Reference20Ideal.S4352x1792 .f32) (ix2 i k)
  w i k := (m (c.tc.loc Reference20Ideal.main_arg1) : FVec Ideal Reference20Ideal.S1024x1792 .f32) (ix2 i k)
  dz i k := (m (c.tc.loc Reference20Ideal.main_arg3) : FVec Ideal Reference20Ideal.S4352x1024 .f32) (ix2 i k)

variable (m : (ℓ : Loc Reference20Ideal.nD Reference20Ideal.τ Reference20Ideal.sig) → Buf (Elt Ideal) ℓ) (c : Dev Reference20Ideal.nD)

end reference

/-- The reference has no counters, and its run leaves its arguments. -/
theorem frame_reference : Cert.quiescent_Reference20Ideal (hReference20Ideal := Reference20Ideal.Gen.facts) :=
  fun m ρ _ => (θ_run Reference20Ideal.defs _ _).mono
    (fun r h => And.intro (fun c => (h c).2) (Idealize.ShloMosaic.sem_eq_zero_of_no_sems (by decide) r.2))
    (Reference20Ideal.Value.run (F := Ideal) m ρ)

/-- The reference's run: its results are those, its arguments end as they began. -/
theorem ref_run (m : (ℓ : Loc Reference20Ideal.nD Reference20Ideal.τ Reference20Ideal.sig) → Buf (Elt Ideal) ℓ) (ρ : Dev Reference20Ideal.nD → PrngReg) :
    θ_run Reference20Ideal.defs (onTc (τ := Reference20Ideal.τ) (Reference20Ideal.main (F := Ideal))) ⟨m, fun _ => 0, ρ⟩ (fun r => ∀ c : Dev Reference20Ideal.nD,
      r.2.mem (c.tc.loc Reference20Ideal.main_v7) = (fun y => (argsR m c).dh (y 0) (y 1) : FVec Ideal Reference20Ideal.S4352x1024 .f32)
      ∧ r.2.mem (c.tc.loc Reference20Ideal.main_arg0) = m (c.tc.loc Reference20Ideal.main_arg0)
      ∧ r.2.mem (c.tc.loc Reference20Ideal.main_arg1) = m (c.tc.loc Reference20Ideal.main_arg1)
      ∧ r.2.mem (c.tc.loc Reference20Ideal.main_arg2) = m (c.tc.loc Reference20Ideal.main_arg2)
      ∧ r.2.mem (c.tc.loc Reference20Ideal.main_arg3) = m (c.tc.loc Reference20Ideal.main_arg3)) := by
  refine (θ_run _ _ _).mono (fun r h c => ⟨((h c).1).trans (funext fun y => ?_), (h c).2⟩) (Reference20Ideal.Value.run (F := Ideal) m ρ)
  all_goals
    refine (congrArg _ (by blk_ext : y = ix2 (y 0) (y 1))).trans ?_
    generalize y 0 = i; generalize y 1 = k
    pointwise []
    rfl

/-- The kernel's run: its results are those, its arguments end as they began. -/
theorem value_run (m : (ℓ : Loc nD τ sig) → Buf (Elt Ideal) ℓ) (ρ : Dev nD → PrngReg) (d : Dev nD → Args) (hd : ∀ c, args m c = d c) :
    θ_run defs (onTc (τ := τ) (main (F := Ideal))) ⟨m, fun _ => 0, ρ⟩ (fun r => ∀ c : Dev nD,
      r.2.mem (c.tc.loc main_v7) = (fun y => (d c).dh (y 0) (y 1) : FVec Ideal S4352x1024 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨((h.1.1 c).1 2).trans (hd c ▸ out_eq m c), h.2.1 c⟩) (θ_run_and (run_main (F := Ideal) m ρ) (frame_run m ρ))

/-- Over the reals the kernel's results are the reference's. -/
theorem algebraic : Cert.algebraic_Kernel20Ideal_Reference20Ideal (hKernel20Ideal := Kernel20Ideal.Gen.facts)
    (hReference20Ideal := Reference20Ideal.Gen.facts) := by
  intro m g m' g' _ hagree
  refine ⟨_, value_run m g (fun c => argsR m' c) (fun c => ?_), ref_run m' g'⟩
  obtain ⟨h0, h1, h2, h3⟩ := hagree c
  unfold args argsR
  congr 1
  · funext i k; exact (congrFun h0 _).symm
  · funext i k; exact (congrFun h1 _).symm
  · funext i k; exact (congrFun h3 _).symm

end Cert.Kernel20Ideal.Proj

end
-- ==== Proof.Bits.Proj20Frame.lean ====
/- The frame of the input projection's backward kernel as it was written: its idealized program is the same program, and the frame of that one is
   proved for every reading of its floats. -/
module

public import proofs.«01_k».proof.Proof.Proj20Frame
public import proofs.«01_k».proof.Proof.Gen.Kernel20

@[expose] public section

set_option maxRecDepth 16384

noncomputable section

namespace Cert.Kernel20Ideal.Proj

open Idealize.ShloMosaic Idealize.ShloMosaic.TcCoe Idealize.SL.Sem Cert.Kernel20Ideal Cert.Kernel20Ideal.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

end Cert.Kernel20Ideal.Proj

namespace Cert.Kernel20.Proj

open Idealize.ShloMosaic Idealize.ShloMosaic.TcCoe Idealize.SL.Sem Cert.Kernel20 Cert.Kernel20.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The two programs are the same. -/
theorem framed_eq (F : FTy → Type) [FloatOps F] : Framed F = Cert.Kernel20Ideal.Proj.Framed F := by sl_kernel_rfl

/-- The frame of the program as it was written. -/
theorem frame_run {F : FTy → Type} [FloatOps F] : Framed F :=
  (framed_eq F).mpr Cert.Kernel20Ideal.Proj.frame_run

end Cert.Kernel20.Proj

end
-- ==== Proof.Proj21Blocks.lean ====
/- What one grid point of the input projection's forward kernel computes from the blocks it reads: a block of rows, and the weight matrix
   reassembled from the exchange buffer. -/
module

public import proofs.«01_k».proof.Proof.Gen.Kernel21Ideal.Frame.Runs
public import Idealize.ShloMosaic.Lib.Pipeline.ValueKit
public import Idealize.ShloMosaic.Lib.ValueLayout

@[expose] public section

set_option maxRecDepth 16384

noncomputable section

namespace Cert.Kernel21Ideal.Proj

open Idealize.ShloMosaic Kernel21Ideal.Gen

variable {F : FTy → Type} [FloatOps F]

/-- A matrix packed in the exchange buffer: device `k` holds rows `off .. off + 224` of its slab, and the slabs follow one another. -/
def shard (off : ℕ) (h : off + 224 ≤ 352) (f : S8x352x1024.Idx → Elt F .bf16) : Vec F S1792x1024 .bf16 := fun y =>
  f (ix3 (⟨(y 0).val / 224, by have : (y 0).val < 1792 := (y 0).isLt; omega⟩ : Fin 8)
    (⟨off + (y 0).val % 224, by have := Nat.mod_lt (y 0).val (by decide : 0 < 224); omega⟩ : Fin 352) (y 1))

/-- The projected rows. -/
def fP (h : Vec F S544x1024 .f32) (w : Vec F S1792x1024 .bf16) : Vec F S544x1792 .f32 := k0_pay1 h w

/-- A slab of the exchange buffer, read as a matrix of 224 rows. -/
theorem slab_read (f : S8x352x1024.Idx → Elt F .bf16) (k off : ℕ) (hk : k < 8) (ho : off + 224 ≤ 352)
    (inb : ∀ a, (![k, off, 0] : Fin 3 → ℕ) a + (![1, 224, 1024] : Fin 3 → ℕ) a ≤ S8x352x1024.size a)
    (hr : S224x1024.numel = (Rect.unit (s := S8x352x1024) ![k, off, 0] ![1, 224, 1024] inb).shape.numel) (x : S224x1024.Idx) :
    f ((Rect.unit (s := S8x352x1024) ![k, off, 0] ![1, 224, 1024] inb).emb (Shape.reshapeEquiv hr x))
      = f (ix3 (⟨k, hk⟩ : Fin 8) (⟨off + (x 0).val, by have : (x 0).val < 224 := (x 0).isLt; omega⟩ : Fin 352) (x 1)) := by
  have e : Shape.reshapeEquiv hr x = (ix3 (0 : Fin 1) (x 0) (x 1) : (⟨3, ![1, 224, 1024]⟩ : Shape).Idx) := by
    rw [show x = ix2 (x 0) (x 1) from (ix2_eta x).symm]; exact ValueIdx.reshapeEquiv_ix2_1ab _ _ _
  rw [e]; congr 1; funext a; apply Fin.ext
  match a with
  | ⟨0, _⟩ => show k + 1 * 0 = k; omega
  | ⟨1, _⟩ => show off + 1 * (x 0).val = off + (x 0).val; omega
  | ⟨2, _⟩ => show 0 + 1 * (x 1).val = (x 1).val; omega

/-- The slab of device `k`, as the copy that fills rows `224 k .. 224 k + 224` of the scratch delivers it. -/
def piece (f : S8x352x1024.Idx → Elt F .bf16) (k off o : ℕ)
    (ino : ∀ a, (![o, 0] : Fin 2 → ℕ) a + (![224, 1024] : Fin 2 → ℕ) a ≤ S1792x1024.size a)
    (inb : ∀ a, (![k, off, 0] : Fin 3 → ℕ) a + (![1, 224, 1024] : Fin 3 → ℕ) a ≤ S8x352x1024.size a)
    (hr : S224x1024.numel = (Rect.unit (s := S8x352x1024) ![k, off, 0] ![1, 224, 1024] inb).shape.numel) :
    View.Piece (Elt F) S1792x1024 .bf16 :=
  ⟨Rect.unit ![o, 0] ![224, 1024] ino,
    fun x => f ((Rect.unit (s := S8x352x1024) ![k, off, 0] ![1, 224, 1024] inb).emb (Shape.reshapeEquiv hr x))⟩

theorem piece_apply (f : S8x352x1024.Idx → Elt F .bf16) (k off o : ℕ) (hk : k < 8) (ho : o = 224 * k) (hoff : off + 224 ≤ 352) (ino) (inb) (hr) (x) :
    (piece f k off o ino inb hr).2 x = shard off hoff f ((piece f k off o ino inb hr).1.emb x) := by
  refine (slab_read f k off hk hoff inb hr x).trans ?_
  subst ho
  have h0 : (x 0).val < 224 := (x 0).isLt
  unfold shard; congr 1; funext a; apply Fin.ext
  match a with
  | ⟨0, _⟩ => show k = (224 * k + 1 * (x 0).val) / 224; omega
  | ⟨1, _⟩ => show off + (x 0).val = off + (224 * k + 1 * (x 0).val) % 224; omega
  | ⟨2, _⟩ => show (x 1).val = 0 + 1 * (x 1).val; omega

/-- The eight copies fill the scratch with the reassembled matrix. -/
theorem canon_shard (f : S8x352x1024.Idx → Elt F .bf16) (off : ℕ) (hoff : off + 224 ≤ 352) (i0 i1 i2 i3 i4 i5 i6 i7 b0 b1 b2 b3 b4 b5 b6 b7 r0 r1 r2 r3 r4 r5 r6 r7) :
    View.canon [piece f 7 off 1568 i7 b7 r7, piece f 6 off 1344 i6 b6 r6, piece f 5 off 1120 i5 b5 r5, piece f 4 off 896 i4 b4 r4,
      piece f 3 off 672 i3 b3 r3, piece f 2 off 448 i2 b2 r2, piece f 1 off 224 i1 b1 r1, piece f 0 off 0 i0 b0 r0] = shard off hoff f := by
  funext y
  refine View.canon_apply_of_pieces (shard off hoff f) _ ?_ y ?_
  · intro p hp
    simp only [List.mem_cons, List.not_mem_nil, or_false] at hp
    rcases hp with rfl | rfl | rfl | rfl | rfl | rfl | rfl | rfl <;> exact piece_apply f _ _ _ (by decide) (by decide) hoff _ _ _
  · exact View.cover_of_tiledL _ ![224, 1024] (by sl_kernel_rfl) y

/-- A whole load of the scratch after the eight copies reads the reassembled matrix. -/
theorem load_shard (v : View sig .tc .vmem S1792x1024 .bf16) (f : S8x352x1024.Idx → Elt F .bf16) (off : ℕ) (hoff : off + 224 ≤ 352) (ib)
    (i0 i1 i2 i3 i4 i5 i6 i7 b0 b1 b2 b3 b4 b5 b6 b7 r0 r1 r2 r3 r4 r5 r6 r7) :
    v.readCov [piece f 7 off 1568 i7 b7 r7, piece f 6 off 1344 i6 b6 r6, piece f 5 off 1120 i5 b5 r5, piece f 4 off 896 i4 b4 r4,
      piece f 3 off 672 i3 b3 r3, piece f 2 off 448 i2 b2 r2, piece f 1 off 224 i1 b1 r1, piece f 0 off 0 i0 b0 r0]
      (Rect.unit (s := S1792x1024) ![0, 0] ![1792, 1024] ib).toLoadRect = shard off hoff f := by
  rw [View.readCov_eq_canon_ld _ _ _ (View.cover_of_tiledL _ ![224, 1024] (by sl_kernel_rfl)), canon_shard f off hoff]
  exact View.ld_unit_lit' _ _ (by decide)

end Cert.Kernel21Ideal.Proj

end
-- ==== Proof.Proj21Next.lean ====
/- A grid point of the input projection after the first: the weight is already in the scratch. -/
module

public import proofs.«01_k».proof.Proof.Proj21Blocks

@[expose] public section

set_option maxRecDepth 16384

noncomputable section

namespace Cert.Kernel21Ideal.Proj

open Kernel21Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1200000 in
/-- The body at such a point leaves each output block at its function of the blocks it read, and the scratch as it was. -/
theorem next_point (c : Dev nD) (i : grid0.Coords)
    (arg1 : Memref sig .tc .vmem S544x1024 .f32) (harg1 : arg1.IsWhole)
    (arg3 : Memref sig .tc .vmem S544x1792 .f32) (harg3 : arg3.IsWhole)
    (arg4 : Memref sig .tc .vmem S1792x1024 .bf16) (harg4 : arg4.IsWhole)
    (hc0 : ¬cond0_0 i)
    (x0 : Vec F S544x1024 .f32)
    (w0 : Vec F S1792x1024 .bf16)
    (K : PUnit → sProp 𝕄) :
    iprop(owns (c : Thread nD τ) arg1 fullShare x0 ∗
      (∃ d, owns (c : Thread nD τ) arg3 fullShare d) ∗
      owns (c : Thread nD τ) arg4 fullShare w0
      ∗ (iprop(owns (c : Thread nD τ) arg1 fullShare x0 ∗
      owns (c : Thread nD τ) arg3 fullShare (fP x0 w0) ∗
      owns (c : Thread nD τ) arg4 fullShare w0) -∗ K ⟨⟩))
      ⊢ wp frame (wpE (defs₀ (F := F)) Variants.none c none) Set.univ
        (cc0_proj_fwd i arg1 harg1 (Memref.whole main_v5) (Memref.isWhole_whole _) arg3 harg3 arg4 harg4 cc0_scratch1) K := by
  simp only [cc0_proj_fwd_eq_skeleton]; unfold cc0_proj_fwd_skel
  simp only [k0_part1_eq_skeleton, k0_part2_eq_skeleton, k0_part3_eq_skeleton]
  unfold owns
  iintro ⟨⟨%f0, %hf0, H0⟩, ⟨%d1, %f1, -, H1⟩, ⟨%fs0, %hfs0, HS0⟩, Hk⟩
  obtain rfl := harg1.eq_unread hf0
  obtain rfl := harg4.eq_unread hfs0
  sl_exec (disch := first | sl_exact hc0)
  sl_step
  iapply Hk
  isplitl [H0]
  · iexists _; isplitr; · ipureintro; exact harg1.read_unread _
    iexact H0
  isplitl [H1]
  · iexists _; isplitr; swap; iexact H1; ipureintro
    rw [View.read_writes_eq_canon _ _ _ (View.cover_of_tiledL _ S544x1792.size (by sl_kernel_rfl))]; frame_out
    rfl
  iexists _; isplitr; · ipureintro; exact harg4.read_unread _
  iexact HS0

end Cert.Kernel21Ideal.Proj

end
-- ==== Proof.Proj21First.lean ====
/- The first grid point of the input projection: it copies the weight into the scratch, slab by slab, before it computes its rows. -/
module

public import proofs.«01_k».proof.Proof.Proj21Next

@[expose] public section

set_option maxRecDepth 16384

noncomputable section

namespace Cert.Kernel21Ideal.Proj

open Kernel21Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The counters of the copies, all at zero. -/
def cells (c : Dev nD) : sProp 𝕄 :=
  iprop(semVal ((c : Thread nD τ), SemLoc.dma 4) 0 ∗
    semVal ((c : Thread nD τ), SemLoc.dma 5) 0 ∗
    semVal ((c : Thread nD τ), SemLoc.dma 6) 0 ∗
    semVal ((c : Thread nD τ), SemLoc.dma 7) 0 ∗
    semVal ((c : Thread nD τ), SemLoc.dma 8) 0 ∗
    semVal ((c : Thread nD τ), SemLoc.dma 9) 0 ∗
    semVal ((c : Thread nD τ), SemLoc.dma 10) 0 ∗
    semVal ((c : Thread nD τ), SemLoc.dma 11) 0)

set_option sl_exec.dmaWindow true in
set_option sl_exec.dmaWindowSet true in
set_option maxHeartbeats 2400000 in
/-- The body at the first point: the scratch ends at the reassembled weights, and each output block at its function of the blocks read. -/
theorem first_point (c : Dev nD) (i : grid0.Coords)
    (arg1 : Memref sig .tc .vmem S544x1024 .f32) (harg1 : arg1.IsWhole)
    (arg3 : Memref sig .tc .vmem S544x1792 .f32) (harg3 : arg3.IsWhole)
    (arg4 : Memref sig .tc .vmem S1792x1024 .bf16) (harg4 : arg4.IsWhole)
    (hc0 : cond0_0 i)
    (x0 : Vec F S544x1024 .f32)
    (fh : HbBuf0 (F := F) c hbM0_0) (W : Waits sig Unit) (K : PUnit → sProp 𝕄) :
    iprop(owns (c : Thread nD τ) arg1 fullShare x0 ∗
      (∃ d, owns (c : Thread nD τ) arg3 fullShare d) ∗
      (∃ d, owns (c : Thread nD τ) arg4 fullShare d) ∗ cells c ∗ hbPt0 c hbM0_0 fh ∗ owes (c : Thread nD τ) 0 W
      ∗ (iprop(owns (c : Thread nD τ) arg1 fullShare x0 ∗
      owns (c : Thread nD τ) arg3 fullShare (fP x0 (shard 0 (by decide) fh)) ∗
      owns (c : Thread nD τ) arg4 fullShare (shard 0 (by decide) fh) ∗
      cells c ∗ hbPt0 c hbM0_0 fh ∗ (∃ W', owes (c : Thread nD τ) 0 W')) -∗ K ⟨⟩))
      ⊢ wp frame (wpE (defs₀ (F := F)) Variants.none c none) Set.univ
        (cc0_proj_fwd i arg1 harg1 (Memref.whole main_v5) (Memref.isWhole_whole _) arg3 harg3 arg4 harg4 cc0_scratch1) K := by
  simp only [cc0_proj_fwd_eq_skeleton]; unfold cc0_proj_fwd_skel
  simp only [k0_part1_eq_skeleton, k0_part2_eq_skeleton, k0_part3_eq_skeleton]
  unfold owns; unfold cells
  iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
  obtain rfl := harg1.eq_unread hf0
  sl_exec (disch := first | sl_exact hc0)
  sl_step
  iapply Hk
  isplitl [H0]
  · iexists _; isplitr; · ipureintro; exact harg1.read_unread _
    iexact H0
  isplitl [H1]
  · iexists _; isplitr; swap; iexact H1; ipureintro
    rw [View.read_writes_eq_canon _ _ _ (View.cover_of_tiledL _ S544x1792.size (by sl_kernel_rfl))]; frame_out
    exact congrArg (fun w0 => fP x0 w0) (load_shard _ fh 0 (by decide) _ _ _ _ _ _ _ _ _ _ _ _ _ _ _ _ _ _ _ _ _ _ _ _ _ )
  isplitl [HS0]
  · iexists _; isplitr; swap; iexact HS0; ipureintro
    rw [View.read_writes_eq_canon _ _ _ (View.cover_of_tiledL _ ![224, 1024] (by sl_kernel_rfl))]; frame_out
    exact canon_shard fh 0 (by decide) _ _ _ _ _ _ _ _ _ _ _ _ _ _ _ _ _ _ _ _ _ _ _ _
  isplitl [Hq0 Hq1 Hq2 Hq3 Hq4 Hq5 Hq6 Hq7]
  · isplitl [Hq0]; iexact Hq0
    isplitl [Hq1]; iexact Hq1
    isplitl [Hq2]; iexact Hq2
    isplitl [Hq3]; iexact Hq3
    isplitl [Hq4]; iexact Hq4
    isplitl [Hq5]; iexact Hq5
    isplitl [Hq6]; iexact Hq6
    iexact Hq7
  isplitl [Hh0]; · iexact Hh0
  iexists _; iexact HW

end Cert.Kernel21Ideal.Proj

end
-- ==== Proof.Proj21Frame.lean ====
/- The whole run of the input projection's forward kernel: what each staging buffer, the scratch and the copy counters hold before and after every grid point. -/
module

public import proofs.«01_k».proof.Proof.Proj21First

@[expose] public section

set_option maxRecDepth 16384

noncomputable section

namespace Cert.Kernel21Ideal.Proj

open Kernel21Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the scratch holds them after the first point. -/
def wt0 (c : Dev nD) : Vec F S1792x1024 .bf16 := shard 0 (by decide) (V m c main_v5)

/-- What every point keeps: the generator register, the copy counters at zero, and what is left in main memory. -/
def kept (c : Dev nD) : sProp 𝕄 :=
  iprop((∃ r, prngReg c r) ∗ cells c ∗ hbPt0 c hbM0_0 (V m c main_v5))

/-- The scratch at anything, as the first point finds it. -/
def scratchAny (c : Dev nD) : sProp 𝕄 :=
  iprop((∃ d, owns (c : Thread nD τ) scM0_0 fullShare d))

/-- The scratch at the weights, as every later point finds it. -/
def scratchSet (c : Dev nD) : sProp 𝕄 :=
  iprop(owns (c : Thread nD τ) scM0_0 fullShare (wt0 m c))

theorem launch_eq (c : Dev nD) : (Pipeline.ΦD osem0 spec0 H0 (V m) c : sProp 𝕄) = iprop(scratchAny c ∗ kept m c) := by
  rw [PhiD0_eq]; rfl

/-- What holds before point `n`. -/
def inv (c : Dev nD) : (n : ℕ) → n ≤ cfg0.N → sProp 𝕄
  | 0, _ => iprop(scratchAny c ∗ kept m c)
  | _ + 1, _ => iprop(scratchSet m c ∗ kept m c)

theorem inv_first (c : Dev nD) (n : ℕ) (h : n ≤ cfg0.N) (hz : n = 0) : inv m c n h = iprop(scratchAny c ∗ kept m c) := by
  subst hz; rfl

theorem inv_next (c : Dev nD) (n : ℕ) (h : n ≤ cfg0.N) (hz : n ≠ 0) : inv m c n h = iprop(scratchSet m c ∗ kept m c) := by
  cases n with
  | zero => exact absurd rfl hz
  | succ n => rfl

/-- The arrays at the start, what the body leaves in each window's buffer, and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => fP (iblk m c 0 t) (wt0 m c)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = fP (iblk m c 0 t) (wt0 m c) := by dsimp only [dats]

theorem before_0 (c : Dev nD) (t : Fin cfg0.N) (d) : (dats m 0 c).before 0 t d = iblk m c 0 t :=
  before0_0_of m (dats m 0 c) (A_eq m c 0) (after_0 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [show (dats m 0 c).Φ t.succ = iprop(scratchSet m c ∗ kept m c) from rfl,
    after_0, after_1]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases hz : t.val = 0
  · rw [inv_castSucc m c t, inv_first m c _ _ hz]
    unfold scratchAny scratchSet kept wt0
    iintro ⟨⟨HS0, ⟨Hg, Hq, Hh0⟩⟩, ⟨%W, -, HW⟩, ⟨%d0, H0⟩, ⟨%d1, H1⟩⟩
    iapply (first_point c (grid0.coords t) _ _ _ _ _ _  ((hcond0_0 t).mpr (by omega))
      (iblk m c 0 t) (V m c main_v5) W _)
    isplitl [H0]; · iexact H0
    isplitl [H1]; · iexists _; iexact H1
    isplitl [HS0]; · iexact HS0
    isplitl [Hq]; · iexact Hq
    isplitl [Hh0]; · iexact Hh0
    isplitl [HW]; · iexact HW
    iintro ⟨H0, H1, HS0, Hq, Hh0, ⟨%W', HW'⟩⟩
    isplitl [HS0 Hg Hq Hh0]
    · isplitl [HS0]; · iexact HS0
      isplitl [Hg]; · iexact Hg
      isplitl [Hq]; · iexact Hq
      iexact Hh0
    isplitl [HW']
    · iexists W'; isplitr; · ipureintro; exact fun _ _ => Or.inl trivial
      iexact HW'
    isplitl [H0]; · iexact H0
    iexact H1
  · rw [inv_castSucc m c t, inv_next m c _ _ hz]
    unfold scratchSet kept
    iintro ⟨⟨HS0, ⟨Hg, Hq, Hh0⟩⟩, ⟨%W, -, HW⟩, ⟨%d0, H0⟩, ⟨%d1, H1⟩⟩
    iapply (next_point c (grid0.coords t) _ _ _ _ _ _  (fun h => by have := (hcond0_0 t).mp h; omega)
      (iblk m c 0 t) _ _ )
    isplitl [H0]; · iexact H0
    isplitl [H1]; · iexists _; iexact H1
    isplitl [HS0]; · iexact HS0
    iintro ⟨H0, H1, HS0⟩
    isplitl [HS0 Hg Hq Hh0]
    · isplitl [HS0]; · iexact HS0
      isplitl [Hg]; · iexact Hg
      isplitl [Hq]; · iexact Hq
      iexact Hh0
    isplitl [HW]
    · iexists W; isplitr; · ipureintro; exact fun _ _ => Or.inl trivial
      iexact HW
    isplitl [H0]; · iexact H0
    iexact H1

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦD osem0 spec0 H0 (V m) c ⊢ (dats m 0 c).Φ 0 := by
  rw [show (dats m 0 c).Φ 0 = iprop(scratchAny c ∗ kept m c) from rfl, launch_eq]

theorem inv_out (c : Dev nD) : (dats m 0 c).Φ (Fin.last cfg0.N) ⊢ Pipeline.ΦD osem0 spec0 H0 (V m) c := by
  rw [show (dats m 0 c).Φ (Fin.last cfg0.N) = inv m c (Fin.last cfg0.N).val (Nat.le_of_lt_succ (Fin.last cfg0.N).isLt) from rfl,
    inv_next m c _ _ (by rw [Fin.val_last]; have : cfg0.N = 8 := N_0; omega), launch_eq]
  unfold scratchSet scratchAny
  iintro ⟨HS0, Hk⟩
  isplitl [HS0]
  · iexists _; iexact HS0
  iexact Hk

set_option backward.isDefEq.respectTransparency.types false in
/-- Every weakly fair run ends, with the arrays at what the points left and every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the arguments end as they began, and every counter is at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel21Ideal.Proj

end
-- ==== Proof.Proj21.lean ====
/- The mixer's input projection: the block of the kernel, the whole run over the reals, and the reference. -/
module

public import proofs.«01_k».proof.Proof.Proj21Frame
public import proofs.«01_k».proof.Proof.Gen.Reference21Ideal.Run
public import proofs.«01_k».proof.Defs
public import proofs.«01_k».proof.Proof.Gen.Kernel21Ideal
public import Idealize.ShloMosaic.Lib.Quiescent

@[expose] public section

set_option maxRecDepth 16384

noncomputable section

namespace Cert.Kernel21Ideal.Proj

open Idealize.ShloMosaic Idealize.ShloMosaic.TcCoe Idealize.SL.Sem Cert.Kernel21Ideal Kernel21Ideal.Gen
open Idealize.ShloMosaic.Pipeline (Dat)

/-- The arguments: the rows and the projection's weight. -/
structure Args where
  h : Fin 4352 → Fin 1024 → EReal
  w : Fin 1024 → Fin 1792 → EReal

/-- The projected rows. -/
def Args.p (d : Args) (i : Fin 4352) (j : Fin 1792) : EReal := ∑ k, d.h i k * d.w k j

theorem p_at {x : Vec Ideal S544x1024 .f32} {w : Vec Ideal S1792x1024 .bf16} {d : Args} {ρ : Fin 544 → Fin 4352}
    (hx : ∀ a k, x (ix2 a k) = d.h (ρ a) k) (hw : ∀ j k, w (ix2 j k) = d.w k j)
    (a : Fin 544) (j : Fin 1792) : fP x w (ix2 a j) = d.p (ρ a) j := by
  pointwise [fP, k0_pay1, hx, hw]
  rfl

section run

variable (m : (ℓ : Loc nD τ sig) → Buf (Elt Ideal) ℓ) (c : Dev nD)

/-- The kernel's arguments, entry by entry. -/
def args : Args where
  h i k := (m (c.tc.loc main_arg0) : FVec Ideal S4352x1024 .f32) (ix2 i k)
  w i k := (m (c.tc.loc main_arg1) : FVec Ideal S1024x1792 .f32) (ix2 i k)

theorem buf_eq : V m c main_v5 = (concatenate S8x352x1024 1
    [⟨S8x224x1024, shapeCast S8x224x1024 (transpose S1792x1024 [1, 0] (m (c.tc.loc main_arg1) : FVec Ideal S1024x1792 .f32) transposes_S1024x1792_S1792x1024_1_0) shapeCasts_S1792x1024_S8x224x1024⟩,
     ⟨S8x128x1024, shapeCast S8x128x1024 (m (c.tc.loc main_arg2) : FVec Ideal S1024x1024 .f32) shapeCasts_S1024x1024_S8x128x1024⟩]
    concatenates_S8x224x1024_S8x128x1024_S8x352x1024_d1 : FVec Ideal S8x352x1024 .bf16) := by
  funext y
  simp only [V, hostOps0, List.flatten_cons, List.flatten_nil, List.append_nil, List.cons_append, List.nil_append]
  after_results_simp
  first | rfl | (dsimp only [Matrix.cons_val]; after_results_simp; rfl)

theorem cat_at (x₁ : FVec Ideal S8x224x1024 .bf16) (x₂ : FVec Ideal S8x128x1024 .bf16) (i : Fin 8) (j : Fin 352) (k : Fin 1024) :
    (concatenate S8x352x1024 1 [⟨S8x224x1024, x₁⟩, ⟨S8x128x1024, x₂⟩]
      concatenates_S8x224x1024_S8x128x1024_S8x352x1024_d1 : FVec Ideal S8x352x1024 .bf16) (ix3 i j k) =
    if h : j.val < 224 then x₁ (ix3 i ⟨j.val, h⟩ k) else x₂ (ix3 i ⟨j.val - 224, by omega⟩ k) := by
  pointwise []

theorem fold_at (x : FVec Ideal S1792x1024 .f32) (i : Fin 8) (j : Fin 224) (k : Fin 1024) :
    (shapeCast S8x224x1024 x shapeCasts_S1792x1024_S8x224x1024 : FVec Ideal S8x224x1024 .f32) (ix3 i j k) =
    x (ix2 (⟨i.val * 224 + j.val, by omega⟩ : Fin 1792) k) := by
  pointwise []

theorem turn_at (x : FVec Ideal S1024x1792 .f32) (i : Fin 1792) (k : Fin 1024) :
    (transpose S1792x1024 [1, 0] x transposes_S1024x1792_S1792x1024_1_0 : FVec Ideal S1792x1024 .f32) (ix2 i k) = x (ix2 k i) := by
  pointwise []

theorem wt0_at (j : Fin 1792) (k : Fin 1024) : wt0 m c (ix2 j k) = (args m c).w k j := by
  have hj := Nat.mod_lt j.val (by decide : 0 < 224)
  rw [wt0, buf_eq]
  refine (cat_at _ _ (⟨j.val / 224, by omega⟩ : Fin 8) (⟨0 + j.val % 224, by omega⟩ : Fin 352) k).trans ?_
  refine (dif_pos (show 0 + j.val % 224 < 224 by omega)).trans ?_
  refine (fold_at _ _ _ _).trans ?_
  refine (turn_at _ _ _).trans ?_
  unfold args; dsimp only; congr 2; apply Fin.ext; simp only; omega

/-- The block of every window at a point: rows by the point, or the whole row. -/
theorem idx : ∀ t : Fin cfg0.N, win0_0.index t = ![t.val, 0] ∧ win0_1.index t = ![t.val, 0] ∧ t.val < 8 :=
  (by decide +kernel : ∀ t : Fin grid0.N, _)

/-- The array's row at row `a` of the block of point `t`. -/
def row (t : Fin cfg0.N) (a : Fin 544) : Fin 4352 := ⟨t.val * 544 + a.val, by have := (idx t).2.2; omega⟩

theorem h_at (t : Fin cfg0.N) (a : Fin 544) (k : Fin 1024) : (iblk m c 0 t : Vec Ideal S544x1024 .f32) (ix2 a k) = (args m c).h (row t a) k := by
  unfold args
  blk_ext [iblk, V_main_arg0, idx t, row]

/-- The projected rows. -/
theorem out_eq : (dats m 0 c).arrAt 1 (cfgs 0).N = (fun y => (args m c).p (y 0) (y 1) : FVec Ideal S4352x1792 .f32) := by
  refine (dats m 0 c).arrAt_eq_of_covers 1 _ (by decide +kernel) fun t hf y => ?_
  blk_simp
  rw [after_1]
  have hy : (y : S544x1792.Idx) = ix2 (y 0) (y 1) := by blk_ext
  have e0 : (win0_1.blk t).view.emb y 0 = row t (y 0) := by apply Fin.ext; blk_simp [idx t, row]
  have e1 : (win0_1.blk t).view.emb y 1 = y 1 := by apply Fin.ext; blk_simp [idx t]
  refine (congrArg _ hy).trans ((p_at (h_at m c t) (wt0_at m c) (y 0) (y 1)).trans ?_)
  rw [e0, e1]

end run

section reference

/-- The reference's arguments, entry by entry. -/
def argsR (m : (ℓ : Loc Reference21Ideal.nD Reference21Ideal.τ Reference21Ideal.sig) → Buf (Elt Ideal) ℓ) (c : Dev Reference21Ideal.nD) : Args where
  h i k := (m (c.tc.loc Reference21Ideal.main_arg0) : FVec Ideal Reference21Ideal.S4352x1024 .f32) (ix2 i k)
  w i k := (m (c.tc.loc Reference21Ideal.main_arg1) : FVec Ideal Reference21Ideal.S1024x1792 .f32) (ix2 i k)

variable (m : (ℓ : Loc Reference21Ideal.nD Reference21Ideal.τ Reference21Ideal.sig) → Buf (Elt Ideal) ℓ) (c : Dev Reference21Ideal.nD)

end reference

/-- The reference has no counters, and its run leaves its arguments. -/
theorem frame_reference : Cert.quiescent_Reference21Ideal (hReference21Ideal := Reference21Ideal.Gen.facts) :=
  fun m ρ _ => (θ_run Reference21Ideal.defs _ _).mono
    (fun r h => And.intro (fun c => (h c).2) (Idealize.ShloMosaic.sem_eq_zero_of_no_sems (by decide) r.2))
    (Reference21Ideal.Value.run (F := Ideal) m ρ)

/-- The reference's run: its results are those, its arguments end as they began. -/
theorem ref_run (m : (ℓ : Loc Reference21Ideal.nD Reference21Ideal.τ Reference21Ideal.sig) → Buf (Elt Ideal) ℓ) (ρ : Dev Reference21Ideal.nD → PrngReg) :
    θ_run Reference21Ideal.defs (onTc (τ := Reference21Ideal.τ) (Reference21Ideal.main (F := Ideal))) ⟨m, fun _ => 0, ρ⟩ (fun r => ∀ c : Dev Reference21Ideal.nD,
      r.2.mem (c.tc.loc Reference21Ideal.main_v0) = (fun y => (argsR m c).p (y 0) (y 1) : FVec Ideal Reference21Ideal.S4352x1792 .f32)
      ∧ r.2.mem (c.tc.loc Reference21Ideal.main_arg0) = m (c.tc.loc Reference21Ideal.main_arg0)
      ∧ r.2.mem (c.tc.loc Reference21Ideal.main_arg1) = m (c.tc.loc Reference21Ideal.main_arg1)
      ∧ r.2.mem (c.tc.loc Reference21Ideal.main_arg2) = m (c.tc.loc Reference21Ideal.main_arg2)) := by
  refine (θ_run _ _ _).mono (fun r h c => ⟨((h c).1).trans (funext fun y => ?_), (h c).2⟩) (Reference21Ideal.Value.run (F := Ideal) m ρ)
  all_goals
    refine (congrArg _ (by blk_ext : y = ix2 (y 0) (y 1))).trans ?_
    generalize y 0 = i; generalize y 1 = k
    pointwise []
    rfl

/-- The kernel's run: its results are those, its arguments end as they began. -/
theorem value_run (m : (ℓ : Loc nD τ sig) → Buf (Elt Ideal) ℓ) (ρ : Dev nD → PrngReg) (d : Dev nD → Args) (hd : ∀ c, args m c = d c) :
    θ_run defs (onTc (τ := τ) (main (F := Ideal))) ⟨m, fun _ => 0, ρ⟩ (fun r => ∀ c : Dev nD,
      r.2.mem (c.tc.loc main_v6) = (fun y => (d c).p (y 0) (y 1) : FVec Ideal S4352x1792 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨((h.1.1 c).1 1).trans (hd c ▸ out_eq m c), h.2.1 c⟩) (θ_run_and (run_main (F := Ideal) m ρ) (frame_run m ρ))

/-- Over the reals the kernel's results are the reference's. -/
theorem algebraic : Cert.algebraic_Kernel21Ideal_Reference21Ideal (hKernel21Ideal := Kernel21Ideal.Gen.facts)
    (hReference21Ideal := Reference21Ideal.Gen.facts) := by
  intro m g m' g' _ hagree
  refine ⟨_, value_run m g (fun c => argsR m' c) (fun c => ?_), ref_run m' g'⟩
  obtain ⟨h0, h1, h2⟩ := hagree c
  unfold args argsR
  congr 1
  · funext i k; exact (congrFun h0 _).symm
  · funext i k; exact (congrFun h1 _).symm

end Cert.Kernel21Ideal.Proj

end
-- ==== Proof.Bits.Proj21Frame.lean ====
/- The frame of the input projection's forward kernel as it was written: its idealized program is the same program, and the frame of that one is
   proved for every reading of its floats. -/
module

public import proofs.«01_k».proof.Proof.Proj21Frame
public import proofs.«01_k».proof.Proof.Gen.Kernel21

@[expose] public section

set_option maxRecDepth 16384

noncomputable section

namespace Cert.Kernel21Ideal.Proj

open Idealize.ShloMosaic Idealize.ShloMosaic.TcCoe Idealize.SL.Sem Cert.Kernel21Ideal Cert.Kernel21Ideal.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

end Cert.Kernel21Ideal.Proj

namespace Cert.Kernel21.Proj

open Idealize.ShloMosaic Idealize.ShloMosaic.TcCoe Idealize.SL.Sem Cert.Kernel21 Cert.Kernel21.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The two programs are the same. -/
theorem framed_eq (F : FTy → Type) [FloatOps F] : Framed F = Cert.Kernel21Ideal.Proj.Framed F := by sl_kernel_rfl

/-- The frame of the program as it was written. -/
theorem frame_run {F : FTy → Type} [FloatOps F] : Framed F :=
  (framed_eq F).mpr Cert.Kernel21Ideal.Proj.frame_run

end Cert.Kernel21.Proj

end
-- ==== Proof.Mix22Blocks.lean ====
/- What one grid point of the mixer's output kernel computes from the blocks it reads: a block of rows of both branches and of the residual, the gains,
   and the weight matrix reassembled from the exchange buffer. -/
module

public import proofs.«01_k».proof.Proof.Gen.Kernel22Ideal.Frame.Runs
public import Idealize.ShloMosaic.Lib.Pipeline.ValueKit
public import Idealize.ShloMosaic.Lib.ValueLayout

@[expose] public section

set_option maxRecDepth 16384

noncomputable section

namespace Cert.Kernel22Ideal.Mix

open Idealize.ShloMosaic Kernel22Ideal.Gen

variable {F : FTy → Type} [FloatOps F]

/-- A matrix packed in the exchange buffer: device `k` holds rows `off .. off + 128` of its slab, and the slabs follow one another. -/
def shard (off : ℕ) (h : off + 128 ≤ 352) (f : S8x352x1024.Idx → Elt F .bf16) : Vec F S1024x1024 .bf16 := fun y =>
  f (ix3 (⟨(y 0).val / 128, by have : (y 0).val < 1024 := (y 0).isLt; omega⟩ : Fin 8)
    (⟨off + (y 0).val % 128, by have := Nat.mod_lt (y 0).val (by decide : 0 < 128); omega⟩ : Fin 352) (y 1))

/-- The upper half of the weight: the rows the recurrent branch meets. -/
def top (w : Vec F S1024x1024 .bf16) : Vec F S512x1024 .bf16 :=
  View.ld (e' := .bf16) w (Rect.unit (s := S1024x1024) ![0, 0] S512x1024.size inb_S1024x1024_S512x1024_0_0)

/-- The lower half: the rows the attention branch meets. -/
def bot (w : Vec F S1024x1024 .bf16) : Vec F S512x1024 .bf16 :=
  View.ld (e' := .bf16) w (Rect.unit (s := S1024x1024) ![512, 0] S512x1024.size inb_S1024x1024_S512x1024_512_0)

/-- The norm's input. -/
def fZ (yr ya : Vec F S256x512 .f32) (h : Vec F S256x1024 .f32) (gr ga : Vec F S1x512 .f32) (wr wa : Vec F S512x1024 .bf16) : Vec F S256x1024 .f32 :=
  k0_pay1 (k0_pay4 ya ga) (k0_pay5 yr gr wr) wa (constant S256x1024 .f32 0x00000000#32) h

/-- The norm's output. -/
def fOut (yr ya : Vec F S256x512 .f32) (h : Vec F S256x1024 .f32) (gr ga : Vec F S1x512 .f32) (lg lb : Vec F S1x1024 .f32) (wr wa : Vec F S512x1024 .bf16) :
    Vec F S256x1024 .f32 := k0_pay2 (k0_pay4 ya ga) (k0_pay5 yr gr wr) wa (constant S256x1024 .f32 0x00000000#32) h lg lb

/-- The norm's output, rounded. -/
def fOutR (yr ya : Vec F S256x512 .f32) (h : Vec F S256x1024 .f32) (gr ga : Vec F S1x512 .f32) (lg lb : Vec F S1x1024 .f32) (wr wa : Vec F S512x1024 .bf16) :
    Vec F S256x1024 .bf16 := k0_pay3 (k0_pay4 ya ga) (k0_pay5 yr gr wr) wa (constant S256x1024 .f32 0x00000000#32) h lg lb

/-- A slab of the exchange buffer, read as a matrix of 128 rows. -/
theorem slab_read (f : S8x352x1024.Idx → Elt F .bf16) (k off : ℕ) (hk : k < 8) (ho : off + 128 ≤ 352)
    (inb : ∀ a, (![k, off, 0] : Fin 3 → ℕ) a + (![1, 128, 1024] : Fin 3 → ℕ) a ≤ S8x352x1024.size a)
    (hr : S128x1024.numel = (Rect.unit (s := S8x352x1024) ![k, off, 0] ![1, 128, 1024] inb).shape.numel) (x : S128x1024.Idx) :
    f ((Rect.unit (s := S8x352x1024) ![k, off, 0] ![1, 128, 1024] inb).emb (Shape.reshapeEquiv hr x))
      = f (ix3 (⟨k, hk⟩ : Fin 8) (⟨off + (x 0).val, by have : (x 0).val < 128 := (x 0).isLt; omega⟩ : Fin 352) (x 1)) := by
  have e : Shape.reshapeEquiv hr x = (ix3 (0 : Fin 1) (x 0) (x 1) : (⟨3, ![1, 128, 1024]⟩ : Shape).Idx) := by
    rw [show x = ix2 (x 0) (x 1) from (ix2_eta x).symm]; exact ValueIdx.reshapeEquiv_ix2_1ab _ _ _
  rw [e]; congr 1; funext a; apply Fin.ext
  match a with
  | ⟨0, _⟩ => show k + 1 * 0 = k; omega
  | ⟨1, _⟩ => show off + 1 * (x 0).val = off + (x 0).val; omega
  | ⟨2, _⟩ => show 0 + 1 * (x 1).val = (x 1).val; omega

/-- The slab of device `k`, as the copy that fills rows `128 k .. 128 k + 128` of the scratch delivers it. -/
def piece (f : S8x352x1024.Idx → Elt F .bf16) (k off o : ℕ)
    (ino : ∀ a, (![o, 0] : Fin 2 → ℕ) a + (![128, 1024] : Fin 2 → ℕ) a ≤ S1024x1024.size a)
    (inb : ∀ a, (![k, off, 0] : Fin 3 → ℕ) a + (![1, 128, 1024] : Fin 3 → ℕ) a ≤ S8x352x1024.size a)
    (hr : S128x1024.numel = (Rect.unit (s := S8x352x1024) ![k, off, 0] ![1, 128, 1024] inb).shape.numel) :
    View.Piece (Elt F) S1024x1024 .bf16 :=
  ⟨Rect.unit ![o, 0] ![128, 1024] ino,
    fun x => f ((Rect.unit (s := S8x352x1024) ![k, off, 0] ![1, 128, 1024] inb).emb (Shape.reshapeEquiv hr x))⟩

theorem piece_apply (f : S8x352x1024.Idx → Elt F .bf16) (k off o : ℕ) (hk : k < 8) (ho : o = 128 * k) (hoff : off + 128 ≤ 352) (ino) (inb) (hr) (x) :
    (piece f k off o ino inb hr).2 x = shard off hoff f ((piece f k off o ino inb hr).1.emb x) := by
  refine (slab_read f k off hk hoff inb hr x).trans ?_
  subst ho
  have h0 : (x 0).val < 128 := (x 0).isLt
  unfold shard; congr 1; funext a; apply Fin.ext
  match a with
  | ⟨0, _⟩ => show k = (128 * k + 1 * (x 0).val) / 128; omega
  | ⟨1, _⟩ => show off + (x 0).val = off + (128 * k + 1 * (x 0).val) % 128; omega
  | ⟨2, _⟩ => show (x 1).val = 0 + 1 * (x 1).val; omega

/-- The eight copies fill the scratch with the reassembled matrix. -/
theorem canon_shard (f : S8x352x1024.Idx → Elt F .bf16) (off : ℕ) (hoff : off + 128 ≤ 352) (i0 i1 i2 i3 i4 i5 i6 i7 b0 b1 b2 b3 b4 b5 b6 b7 r0 r1 r2 r3 r4 r5 r6 r7) :
    View.canon [piece f 7 off 896 i7 b7 r7, piece f 6 off 768 i6 b6 r6, piece f 5 off 640 i5 b5 r5, piece f 4 off 512 i4 b4 r4,
      piece f 3 off 384 i3 b3 r3, piece f 2 off 256 i2 b2 r2, piece f 1 off 128 i1 b1 r1, piece f 0 off 0 i0 b0 r0] = shard off hoff f := by
  funext y
  refine View.canon_apply_of_pieces (shard off hoff f) _ ?_ y ?_
  · intro p hp
    simp only [List.mem_cons, List.not_mem_nil, or_false] at hp
    rcases hp with rfl | rfl | rfl | rfl | rfl | rfl | rfl | rfl <;> exact piece_apply f _ _ _ (by decide) (by decide) hoff _ _ _
  · exact View.cover_of_tiledL _ ![128, 1024] (by sl_kernel_rfl) y

/-- A load of the upper half of the scratch after the eight copies reads that half of the reassembled matrix. -/
theorem load_top (v : View sig .tc .vmem S1024x1024 .bf16) (f : S8x352x1024.Idx → Elt F .bf16) (off : ℕ) (hoff : off + 128 ≤ 352) (ib)
    (i0 i1 i2 i3 i4 i5 i6 i7 b0 b1 b2 b3 b4 b5 b6 b7 r0 r1 r2 r3 r4 r5 r6 r7) :
    v.readCov [piece f 7 off 896 i7 b7 r7, piece f 6 off 768 i6 b6 r6, piece f 5 off 640 i5 b5 r5, piece f 4 off 512 i4 b4 r4,
      piece f 3 off 384 i3 b3 r3, piece f 2 off 256 i2 b2 r2, piece f 1 off 128 i1 b1 r1, piece f 0 off 0 i0 b0 r0]
      (Rect.unit (s := S1024x1024) ![0, 0] ![512, 1024] ib).toLoadRect = top (shard off hoff f) := by
  rw [View.readCov_eq_canon_ld _ _ _ (View.cover_of_tiledL _ ![128, 1024] (by sl_kernel_rfl)), canon_shard f off hoff]
  rfl

/-- A load of the lower half of the scratch after the eight copies reads that half of the reassembled matrix. -/
theorem load_bot (v : View sig .tc .vmem S1024x1024 .bf16) (f : S8x352x1024.Idx → Elt F .bf16) (off : ℕ) (hoff : off + 128 ≤ 352) (ib)
    (i0 i1 i2 i3 i4 i5 i6 i7 b0 b1 b2 b3 b4 b5 b6 b7 r0 r1 r2 r3 r4 r5 r6 r7) :
    v.readCov [piece f 7 off 896 i7 b7 r7, piece f 6 off 768 i6 b6 r6, piece f 5 off 640 i5 b5 r5, piece f 4 off 512 i4 b4 r4,
      piece f 3 off 384 i3 b3 r3, piece f 2 off 256 i2 b2 r2, piece f 1 off 128 i1 b1 r1, piece f 0 off 0 i0 b0 r0]
      (Rect.unit (s := S1024x1024) ![512, 0] ![512, 1024] ib).toLoadRect = bot (shard off hoff f) := by
  rw [View.readCov_eq_canon_ld _ _ _ (View.cover_of_tiledL _ ![128, 1024] (by sl_kernel_rfl)), canon_shard f off hoff]
  rfl

end Cert.Kernel22Ideal.Mix

end
-- ==== Proof.Mix22Next.lean ====
/- A grid point of the mixer's output kernel after the first: the weight is already in the scratch. -/
module

public import proofs.«01_k».proof.Proof.Mix22Blocks

@[expose] public section

set_option maxRecDepth 16384

noncomputable section

namespace Cert.Kernel22Ideal.Mix

open Kernel22Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1200000 in
/-- The body at such a point leaves each output block at its function of the blocks it read, and the scratch as it was. -/
theorem next_point (c : Dev nD) (i : grid0.Coords)
    (arg1 : Memref sig .tc .vmem S256x512 .f32) (harg1 : arg1.IsWhole)
    (arg2 : Memref sig .tc .vmem S256x512 .f32) (harg2 : arg2.IsWhole)
    (arg3 : Memref sig .tc .vmem S256x1024 .f32) (harg3 : arg3.IsWhole)
    (arg5 : Memref sig .tc .vmem S1x512 .f32) (harg5 : arg5.IsWhole)
    (arg6 : Memref sig .tc .vmem S1x512 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S256x1024 .f32) (harg9 : arg9.IsWhole)
    (arg10 : Memref sig .tc .vmem S256x1024 .f32) (harg10 : arg10.IsWhole)
    (arg11 : Memref sig .tc .vmem S256x1024 .bf16) (harg11 : arg11.IsWhole)
    (arg12 : Memref sig .tc .vmem S1024x1024 .bf16) (harg12 : arg12.IsWhole)
    (hc0 : ¬cond0_0 i)
    (x0 : Vec F S256x512 .f32) (x1 : Vec F S256x512 .f32) (x2 : Vec F S256x1024 .f32) (x3 : Vec F S1x512 .f32) (x4 : Vec F S1x512 .f32) (x5 : Vec F S1x1024 .f32) (x6 : Vec F S1x1024 .f32)
    (w0 : Vec F S1024x1024 .bf16)
    (K : PUnit → sProp 𝕄) :
    iprop(owns (c : Thread nD τ) arg1 fullShare x0 ∗
      owns (c : Thread nD τ) arg2 fullShare x1 ∗
      owns (c : Thread nD τ) arg3 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      (∃ d, owns (c : Thread nD τ) arg9 fullShare d) ∗
      (∃ d, owns (c : Thread nD τ) arg10 fullShare d) ∗
      (∃ d, owns (c : Thread nD τ) arg11 fullShare d) ∗
      owns (c : Thread nD τ) arg12 fullShare w0
      ∗ (iprop(owns (c : Thread nD τ) arg1 fullShare x0 ∗
      owns (c : Thread nD τ) arg2 fullShare x1 ∗
      owns (c : Thread nD τ) arg3 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      owns (c : Thread nD τ) arg9 fullShare (fOut x0 x1 x2 x3 x4 x5 x6 (top w0) (bot w0)) ∗
      owns (c : Thread nD τ) arg10 fullShare (fZ x0 x1 x2 x3 x4 (top w0) (bot w0)) ∗
      owns (c : Thread nD τ) arg11 fullShare (fOutR x0 x1 x2 x3 x4 x5 x6 (top w0) (bot w0)) ∗
      owns (c : Thread nD τ) arg12 fullShare w0) -∗ K ⟨⟩))
      ⊢ wp frame (wpE (defs₀ (F := F)) Variants.none c none) Set.univ
        (cc0_mix_out_fwd i arg1 harg1 arg2 harg2 arg3 harg3 (Memref.whole main_v5) (Memref.isWhole_whole _) arg5 harg5 arg6 harg6 arg7 harg7 arg8 harg8 arg9 harg9 arg10 harg10 arg11 harg11 arg12 harg12 cc0_scratch1) K := by
  simp only [cc0_mix_out_fwd_eq_skeleton]; unfold cc0_mix_out_fwd_skel
  simp only [k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, Hk⟩
  obtain rfl := harg1.eq_unread hf0
  obtain rfl := harg2.eq_unread hf1
  obtain rfl := harg3.eq_unread hf2
  obtain rfl := harg5.eq_unread hf3
  obtain rfl := harg6.eq_unread hf4
  obtain rfl := harg7.eq_unread hf5
  obtain rfl := harg8.eq_unread hf6
  obtain rfl := harg12.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; iexact H7; ipureintro
    rw [View.read_writes_eq_canon _ _ _ (View.cover_of_tiledL _ S256x1024.size (by sl_kernel_rfl))]; frame_out
    rfl
  isplitl [H8]
  · iexists _; isplitr; swap; iexact H8; ipureintro
    rw [View.read_writes_eq_canon _ _ _ (View.cover_of_tiledL _ S256x1024.size (by sl_kernel_rfl))]; frame_out
    rfl
  isplitl [H9]
  · iexists _; isplitr; swap; iexact H9; ipureintro
    rw [View.read_writes_eq_canon _ _ _ (View.cover_of_tiledL _ S256x1024.size (by sl_kernel_rfl))]; frame_out
    rfl
  iexists _; isplitr; · ipureintro; exact harg12.read_unread _
  iexact HS0

end Cert.Kernel22Ideal.Mix

end
-- ==== Proof.Mix22First.lean ====
/- The first grid point of the mixer's output kernel: it copies the weight into the scratch, slab by slab, before it computes its rows. -/
module

public import proofs.«01_k».proof.Proof.Mix22Next

@[expose] public section

set_option maxRecDepth 16384

noncomputable section

namespace Cert.Kernel22Ideal.Mix

open Kernel22Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The counters of the copies, all at zero. -/
def cells (c : Dev nD) : sProp 𝕄 :=
  iprop(semVal ((c : Thread nD τ), SemLoc.dma 16) 0 ∗
    semVal ((c : Thread nD τ), SemLoc.dma 17) 0 ∗
    semVal ((c : Thread nD τ), SemLoc.dma 18) 0 ∗
    semVal ((c : Thread nD τ), SemLoc.dma 19) 0 ∗
    semVal ((c : Thread nD τ), SemLoc.dma 20) 0 ∗
    semVal ((c : Thread nD τ), SemLoc.dma 21) 0 ∗
    semVal ((c : Thread nD τ), SemLoc.dma 22) 0 ∗
    semVal ((c : Thread nD τ), SemLoc.dma 23) 0)

set_option sl_exec.dmaWindow true in
set_option sl_exec.dmaWindowSet true in
set_option maxHeartbeats 2400000 in
/-- The body at the first point: the scratch ends at the reassembled weights, and each output block at its function of the blocks read. -/
theorem first_point (c : Dev nD) (i : grid0.Coords)
    (arg1 : Memref sig .tc .vmem S256x512 .f32) (harg1 : arg1.IsWhole)
    (arg2 : Memref sig .tc .vmem S256x512 .f32) (harg2 : arg2.IsWhole)
    (arg3 : Memref sig .tc .vmem S256x1024 .f32) (harg3 : arg3.IsWhole)
    (arg5 : Memref sig .tc .vmem S1x512 .f32) (harg5 : arg5.IsWhole)
    (arg6 : Memref sig .tc .vmem S1x512 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S256x1024 .f32) (harg9 : arg9.IsWhole)
    (arg10 : Memref sig .tc .vmem S256x1024 .f32) (harg10 : arg10.IsWhole)
    (arg11 : Memref sig .tc .vmem S256x1024 .bf16) (harg11 : arg11.IsWhole)
    (arg12 : Memref sig .tc .vmem S1024x1024 .bf16) (harg12 : arg12.IsWhole)
    (hc0 : cond0_0 i)
    (x0 : Vec F S256x512 .f32) (x1 : Vec F S256x512 .f32) (x2 : Vec F S256x1024 .f32) (x3 : Vec F S1x512 .f32) (x4 : Vec F S1x512 .f32) (x5 : Vec F S1x1024 .f32) (x6 : Vec F S1x1024 .f32)
    (fh : HbBuf0 (F := F) c hbM0_0) (W : Waits sig Unit) (K : PUnit → sProp 𝕄) :
    iprop(owns (c : Thread nD τ) arg1 fullShare x0 ∗
      owns (c : Thread nD τ) arg2 fullShare x1 ∗
      owns (c : Thread nD τ) arg3 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      (∃ d, owns (c : Thread nD τ) arg9 fullShare d) ∗
      (∃ d, owns (c : Thread nD τ) arg10 fullShare d) ∗
      (∃ d, owns (c : Thread nD τ) arg11 fullShare d) ∗
      (∃ d, owns (c : Thread nD τ) arg12 fullShare d) ∗ cells c ∗ hbPt0 c hbM0_0 fh ∗ owes (c : Thread nD τ) 0 W
      ∗ (iprop(owns (c : Thread nD τ) arg1 fullShare x0 ∗
      owns (c : Thread nD τ) arg2 fullShare x1 ∗
      owns (c : Thread nD τ) arg3 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      owns (c : Thread nD τ) arg9 fullShare (fOut x0 x1 x2 x3 x4 x5 x6 (top (shard 224 (by decide) fh)) (bot (shard 224 (by decide) fh))) ∗
      owns (c : Thread nD τ) arg10 fullShare (fZ x0 x1 x2 x3 x4 (top (shard 224 (by decide) fh)) (bot (shard 224 (by decide) fh))) ∗
      owns (c : Thread nD τ) arg11 fullShare (fOutR x0 x1 x2 x3 x4 x5 x6 (top (shard 224 (by decide) fh)) (bot (shard 224 (by decide) fh))) ∗
      owns (c : Thread nD τ) arg12 fullShare (shard 224 (by decide) fh) ∗
      cells c ∗ hbPt0 c hbM0_0 fh ∗ (∃ W', owes (c : Thread nD τ) 0 W')) -∗ K ⟨⟩))
      ⊢ wp frame (wpE (defs₀ (F := F)) Variants.none c none) Set.univ
        (cc0_mix_out_fwd i arg1 harg1 arg2 harg2 arg3 harg3 (Memref.whole main_v5) (Memref.isWhole_whole _) arg5 harg5 arg6 harg6 arg7 harg7 arg8 harg8 arg9 harg9 arg10 harg10 arg11 harg11 arg12 harg12 cc0_scratch1) K := by
  simp only [cc0_mix_out_fwd_eq_skeleton]; unfold cc0_mix_out_fwd_skel
  simp only [k0_part4_eq_skeleton, k0_part1_eq_skeleton, k0_part2_eq_skeleton, k0_part3_eq_skeleton]
  unfold owns; unfold cells
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨Hq0, Hq1, Hq2, Hq3, Hq4, Hq5, Hq6, Hq7⟩, Hh0, HW, Hk⟩
  obtain rfl := harg1.eq_unread hf0
  obtain rfl := harg2.eq_unread hf1
  obtain rfl := harg3.eq_unread hf2
  obtain rfl := harg5.eq_unread hf3
  obtain rfl := harg6.eq_unread hf4
  obtain rfl := harg7.eq_unread hf5
  obtain rfl := harg8.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; iexact H7; ipureintro
    rw [View.read_writes_eq_canon _ _ _ (View.cover_of_tiledL _ S256x1024.size (by sl_kernel_rfl))]; frame_out
    exact congrArg₂ (fun a b => fOut x0 x1 x2 x3 x4 x5 x6 a b) (load_top _ fh 224 (by decide) _ _ _ _ _ _ _ _ _ _ _ _ _ _ _ _ _ _ _ _ _ _ _ _ _ )
      (load_bot _ fh 224 (by decide) _ _ _ _ _ _ _ _ _ _ _ _ _ _ _ _ _ _ _ _ _ _ _ _ _ )
  isplitl [H8]
  · iexists _; isplitr; swap; iexact H8; ipureintro
    rw [View.read_writes_eq_canon _ _ _ (View.cover_of_tiledL _ S256x1024.size (by sl_kernel_rfl))]; frame_out
    exact congrArg₂ (fun a b => fZ x0 x1 x2 x3 x4 a b) (load_top _ fh 224 (by decide) _ _ _ _ _ _ _ _ _ _ _ _ _ _ _ _ _ _ _ _ _ _ _ _ _ )
      (load_bot _ fh 224 (by decide) _ _ _ _ _ _ _ _ _ _ _ _ _ _ _ _ _ _ _ _ _ _ _ _ _ )
  isplitl [H9]
  · iexists _; isplitr; swap; iexact H9; ipureintro
    rw [View.read_writes_eq_canon _ _ _ (View.cover_of_tiledL _ S256x1024.size (by sl_kernel_rfl))]; frame_out
    exact congrArg₂ (fun a b => fOutR x0 x1 x2 x3 x4 x5 x6 a b) (load_top _ fh 224 (by decide) _ _ _ _ _ _ _ _ _ _ _ _ _ _ _ _ _ _ _ _ _ _ _ _ _ )
      (load_bot _ fh 224 (by decide) _ _ _ _ _ _ _ _ _ _ _ _ _ _ _ _ _ _ _ _ _ _ _ _ _ )
  isplitl [HS0]
  · iexists _; isplitr; swap; iexact HS0; ipureintro
    rw [View.read_writes_eq_canon _ _ _ (View.cover_of_tiledL _ ![128, 1024] (by sl_kernel_rfl))]; frame_out
    exact canon_shard fh 224 (by decide) _ _ _ _ _ _ _ _ _ _ _ _ _ _ _ _ _ _ _ _ _ _ _ _
  isplitl [Hq0 Hq1 Hq2 Hq3 Hq4 Hq5 Hq6 Hq7]
  · isplitl [Hq0]; iexact Hq0
    isplitl [Hq1]; iexact Hq1
    isplitl [Hq2]; iexact Hq2
    isplitl [Hq3]; iexact Hq3
    isplitl [Hq4]; iexact Hq4
    isplitl [Hq5]; iexact Hq5
    isplitl [Hq6]; iexact Hq6
    iexact Hq7
  isplitl [Hh0]; · iexact Hh0
  iexists _; iexact HW

end Cert.Kernel22Ideal.Mix

end
-- ==== Proof.Mix22Frame.lean ====
/- The whole run of the mixer's output kernel: what each staging buffer, the scratch and the copy counters hold before and after every grid point. -/
module

public import proofs.«01_k».proof.Proof.Mix22First

@[expose] public section

set_option maxRecDepth 16384

noncomputable section

namespace Cert.Kernel22Ideal.Mix

open Kernel22Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the scratch holds them after the first point. -/
def wt0 (c : Dev nD) : Vec F S1024x1024 .bf16 := shard 224 (by decide) (V m c main_v5)

/-- What every point keeps: the generator register, the copy counters at zero, and what is left in main memory. -/
def kept (c : Dev nD) : sProp 𝕄 :=
  iprop((∃ r, prngReg c r) ∗ cells c ∗ hbPt0 c hbM0_0 (V m c main_v5))

/-- The scratch at anything, as the first point finds it. -/
def scratchAny (c : Dev nD) : sProp 𝕄 :=
  iprop((∃ d, owns (c : Thread nD τ) scM0_0 fullShare d))

/-- The scratch at the weights, as every later point finds it. -/
def scratchSet (c : Dev nD) : sProp 𝕄 :=
  iprop(owns (c : Thread nD τ) scM0_0 fullShare (wt0 m c))

theorem launch_eq (c : Dev nD) : (Pipeline.ΦD osem0 spec0 H0 (V m) c : sProp 𝕄) = iprop(scratchAny c ∗ kept m c) := by
  rw [PhiD0_eq]; rfl

/-- What holds before point `n`. -/
def inv (c : Dev nD) : (n : ℕ) → n ≤ cfg0.N → sProp 𝕄
  | 0, _ => iprop(scratchAny c ∗ kept m c)
  | _ + 1, _ => iprop(scratchSet m c ∗ kept m c)

theorem inv_first (c : Dev nD) (n : ℕ) (h : n ≤ cfg0.N) (hz : n = 0) : inv m c n h = iprop(scratchAny c ∗ kept m c) := by
  subst hz; rfl

theorem inv_next (c : Dev nD) (n : ℕ) (h : n ≤ cfg0.N) (hz : n ≠ 0) : inv m c n h = iprop(scratchSet m c ∗ kept m c) := by
  cases n with
  | zero => exact absurd rfl hz
  | succ n => rfl

/-- The arrays at the start, what the body leaves in each window's buffer, and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fOut (iblk m c 0 t) (iblk m c 1 t) (iblk m c 2 t) (iblk m c 3 t) (iblk m c 4 t) (iblk m c 5 t) (iblk m c 6 t) (top (wt0 m c)) (bot (wt0 m c))
    | ⟨8, _⟩ => fZ (iblk m c 0 t) (iblk m c 1 t) (iblk m c 2 t) (iblk m c 3 t) (iblk m c 4 t) (top (wt0 m c)) (bot (wt0 m c))
    | ⟨9, _⟩ => fOutR (iblk m c 0 t) (iblk m c 1 t) (iblk m c 2 t) (iblk m c 3 t) (iblk m c 4 t) (iblk m c 5 t) (iblk m c 6 t) (top (wt0 m c)) (bot (wt0 m c))
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = fOut (iblk m c 0 t) (iblk m c 1 t) (iblk m c 2 t) (iblk m c 3 t) (iblk m c 4 t) (iblk m c 5 t) (iblk m c 6 t) (top (wt0 m c)) (bot (wt0 m c)) := by dsimp only [dats]
theorem after_8 (c : Dev nD) (t : Fin cfg0.N) : (dats m 0 c).after 8 t = fZ (iblk m c 0 t) (iblk m c 1 t) (iblk m c 2 t) (iblk m c 3 t) (iblk m c 4 t) (top (wt0 m c)) (bot (wt0 m c)) := by dsimp only [dats]
theorem after_9 (c : Dev nD) (t : Fin cfg0.N) : (dats m 0 c).after 9 t = fOutR (iblk m c 0 t) (iblk m c 1 t) (iblk m c 2 t) (iblk m c 3 t) (iblk m c 4 t) (iblk m c 5 t) (iblk m c 6 t) (top (wt0 m c)) (bot (wt0 m c)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = iprop(scratchSet m c ∗ kept m c) from rfl,
    after_0, after_1, after_2, after_3, after_4, after_5, after_6, after_7, after_8, after_9]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases hz : t.val = 0
  · rw [inv_castSucc m c t, inv_first m c _ _ hz]
    unfold scratchAny scratchSet kept wt0
    iintro ⟨⟨HS0, ⟨Hg, Hq, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (first_point c (grid0.coords t) _ _ _ _ _ _ _ _ _ _ _ _ _ _ _ _ _ _ _ _ _ _  ((hcond0_0 t).mpr (by omega))
      (iblk m c 0 t) (iblk m c 1 t) (iblk m c 2 t) (iblk m c 3 t) (iblk m c 4 t) (iblk m c 5 t) (iblk m c 6 t) (V m c main_v5) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [Hq]; · iexact Hq
    isplitl [Hh0]; · iexact Hh0
    isplitl [HW]; · iexact HW
    iintro ⟨H0, H1, H2, H3, H4, H5, H6, H7, H8, H9, HS0, Hq, Hh0, ⟨%W', HW'⟩⟩
    isplitl [HS0 Hg Hq Hh0]
    · isplitl [HS0]; · iexact HS0
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv_castSucc m c t, inv_next m c _ _ hz]
    unfold scratchSet kept
    iintro ⟨⟨HS0, ⟨Hg, Hq, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (next_point c (grid0.coords t) _ _ _ _ _ _ _ _ _ _ _ _ _ _ _ _ _ _ _ _ _ _  (fun h => by have := (hcond0_0 t).mp h; omega)
      (iblk m c 0 t) (iblk m c 1 t) (iblk m c 2 t) (iblk m c 3 t) (iblk m c 4 t) (iblk m c 5 t) (iblk m c 6 t) _ _ )
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg Hq Hh0]
    · isplitl [HS0]; · iexact HS0
      isplitl [Hg]; · iexact Hg
      isplitl [Hq]; · iexact Hq
      iexact Hh0
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦD osem0 spec0 H0 (V m) c ⊢ (dats m 0 c).Φ 0 := by
  rw [show (dats m 0 c).Φ 0 = iprop(scratchAny c ∗ kept m c) from rfl, launch_eq]

theorem inv_out (c : Dev nD) : (dats m 0 c).Φ (Fin.last cfg0.N) ⊢ Pipeline.ΦD osem0 spec0 H0 (V m) c := by
  rw [show (dats m 0 c).Φ (Fin.last cfg0.N) = inv m c (Fin.last cfg0.N).val (Nat.le_of_lt_succ (Fin.last cfg0.N).isLt) from rfl,
    inv_next m c _ _ (by rw [Fin.val_last]; have : cfg0.N = 17 := N_0; omega), launch_eq]
  unfold scratchSet scratchAny
  iintro ⟨HS0, Hk⟩
  isplitl [HS0]
  · iexists _; iexact HS0
  iexact Hk

set_option backward.isDefEq.respectTransparency.types false in
/-- Every weakly fair run ends, with the arrays at what the points left and every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the arguments end as they began, and every counter is at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel22Ideal.Mix

end
-- ==== Proof.Mix22Block.lean ====
/- What one block of 256 rows of the mixer's output kernel holds, entry by entry. -/
module

public import proofs.«01_k».proof.Proof.Mix22Blocks

@[expose] public section

set_option maxRecDepth 16384

noncomputable section

namespace Cert.Kernel22Ideal.Mix

open Idealize.ShloMosaic Kernel22Ideal.Gen

/-- The arguments: the two branches, the residual, the output projection, the two branches' gains, and the norm's gain and bias. -/
structure Args where
  yr : Fin 4352 → Fin 512 → EReal
  ya : Fin 4352 → Fin 512 → EReal
  h : Fin 4352 → Fin 1024 → EReal
  w : Fin 1024 → Fin 1024 → EReal
  gr : Fin 512 → EReal
  ga : Fin 512 → EReal
  lg : Fin 1024 → EReal
  lb : Fin 1024 → EReal

/-- A row over its root mean square, times the gain. -/
def rn (v g : Fin 512 → EReal) (k : Fin 512) : EReal :=
  v k * Ideal.rsqrt (Ideal.div (∑ l, v l * v l) (Ideal.ofBits FTy.f32 1140850688#32) + Ideal.ofBits FTy.f32 897988541#32) * g k

namespace Args

variable (d : Args)

/-- The norm's input: the residual, and the two normed branches through the upper and the lower half of the projection. -/
def z (i : Fin 4352) (k : Fin 1024) : EReal := Ideal.ofBits FTy.f32 1071072509#32 * d.h i k
  + (∑ j : Fin 512, rn (d.yr i) d.gr j * d.w (⟨j.val, by omega⟩ : Fin 1024) k
    + ∑ j : Fin 512, rn (d.ya i) d.ga j * d.w (⟨512 + j.val, by omega⟩ : Fin 1024) k)
/-- The row less its mean. -/
def ctr (i : Fin 4352) (k : Fin 1024) : EReal := d.z i k - Ideal.div (∑ l, d.z i l) (Ideal.ofBits FTy.f32 1149239296#32)
/-- The norm's output. -/
def out (i : Fin 4352) (k : Fin 1024) : EReal :=
  d.ctr i k * Ideal.rsqrt (Ideal.div (∑ l, d.ctr i l * d.ctr i l) (Ideal.ofBits FTy.f32 1149239296#32) + Ideal.ofBits FTy.f32 925353388#32)
    * d.lg k + d.lb k

end Args

variable {yr ya : Vec Ideal S256x512 .f32} {h : Vec Ideal S256x1024 .f32} {gr ga : Vec Ideal S1x512 .f32} {lg lb : Vec Ideal S1x1024 .f32}
  {w : Vec Ideal S1024x1024 .bf16} {d : Args} {ρ : Fin 256 → Fin 4352}

theorem top_at (a : Fin 512) (k : Fin 1024) : top w (ix2 a k) = w (ix2 (⟨a.val, by omega⟩ : Fin 1024) k) := by
  show w _ = w _
  congr 1; funext i; apply Fin.ext
  match i with
  | ⟨0, _⟩ => show 0 + 1 * a.val = a.val; omega
  | ⟨1, _⟩ => show 0 + 1 * k.val = k.val; omega

theorem bot_at (a : Fin 512) (k : Fin 1024) : bot w (ix2 a k) = w (ix2 (⟨512 + a.val, by omega⟩ : Fin 1024) k) := by
  show w _ = w _
  congr 1; funext i; apply Fin.ext
  match i with
  | ⟨0, _⟩ => show 512 + 1 * a.val = 512 + a.val; omega
  | ⟨1, _⟩ => show 0 + 1 * k.val = k.val; omega

section block

variable (hyr : ∀ a k, yr (ix2 a k) = d.yr (ρ a) k) (hya : ∀ a k, ya (ix2 a k) = d.ya (ρ a) k) (hh : ∀ a k, h (ix2 a k) = d.h (ρ a) k)
  (hgr : ∀ k, gr (ix2 (0 : Fin 1) k) = d.gr k) (hga : ∀ k, ga (ix2 (0 : Fin 1) k) = d.ga k) (hw : ∀ j k, w (ix2 j k) = d.w j k)
  (hlg : ∀ k, lg (ix2 (0 : Fin 1) k) = d.lg k) (hlb : ∀ k, lb (ix2 (0 : Fin 1) k) = d.lb k)

include hya hga in
theorem pay4_at (a : Fin 256) (k : Fin 512) : k0_pay4 ya ga (ix2 a k) = rn (d.ya (ρ a)) d.ga k := by
  pointwise [k0_pay4, hya, hga]
  rfl

include hyr hgr hw in
theorem pay5_at (a : Fin 256) (k : Fin 1024) :
    k0_pay5 yr gr (top w) (ix2 a k) = ∑ j : Fin 512, rn (d.yr (ρ a)) d.gr j * d.w (⟨j.val, by omega⟩ : Fin 1024) k := by
  have ht : ∀ a k, top w (ix2 a k) = d.w (⟨a.val, by omega⟩ : Fin 1024) k := fun a k => (top_at a k).trans (hw _ _)
  pointwise [k0_pay5, hyr, hgr, ht]
  rfl

include hyr hya hh hgr hga hw in
theorem z_at (a : Fin 256) (k : Fin 1024) : fZ yr ya h gr ga (top w) (bot w) (ix2 a k) = d.z (ρ a) k := by
  have ht : ∀ a k, bot w (ix2 a k) = d.w (⟨512 + a.val, by omega⟩ : Fin 1024) k := fun a k => (bot_at a k).trans (hw _ _)
  have h4 := pay4_at hya hga
  have h5 := pay5_at hyr hgr hw
  pointwise [fZ, k0_pay1, h4, h5, hh, ht]
  rfl

include hyr hya hh hgr hga hw hlg hlb in
theorem out_at (a : Fin 256) (k : Fin 1024) : fOut yr ya h gr ga lg lb (top w) (bot w) (ix2 a k) = d.out (ρ a) k := by
  have h1 := z_at hyr hya hh hgr hga hw
  simp only [fZ] at h1
  pointwise [fOut, k0_pay2, h1, hlg, hlb]
  rfl

include hyr hya hh hgr hga hw hlg hlb in
theorem outR_at (a : Fin 256) (k : Fin 1024) : fOutR yr ya h gr ga lg lb (top w) (bot w) (ix2 a k) = d.out (ρ a) k := by
  have h1 := out_at hyr hya hh hgr hga hw hlg hlb
  simp only [fOut] at h1
  pointwise [fOutR, k0_pay3, h1]

end block

end Cert.Kernel22Ideal.Mix

end
-- ==== Proof.Mix22.lean ====
/- The mixer's output kernel: the whole run over the reals, and the reference. -/
module

public import proofs.«01_k».proof.Proof.Mix22Frame
public import proofs.«01_k».proof.Proof.Mix22Block
public import proofs.«01_k».proof.Proof.Gen.Reference22Ideal.Run
public import proofs.«01_k».proof.Defs
public import proofs.«01_k».proof.Proof.Gen.Kernel22Ideal
public import Idealize.ShloMosaic.Lib.Quiescent

@[expose] public section

set_option maxRecDepth 16384

noncomputable section

namespace Cert.Kernel22Ideal.Mix

open Idealize.ShloMosaic Idealize.ShloMosaic.TcCoe Idealize.SL.Sem Cert.Kernel22Ideal Kernel22Ideal.Gen
open Idealize.ShloMosaic.Pipeline (Dat)

section run

variable (m : (ℓ : Loc nD τ sig) → Buf (Elt Ideal) ℓ) (c : Dev nD)

/-- The kernel's arguments, entry by entry. -/
def args : Args where
  yr i k := (m (c.tc.loc main_arg0) : FVec Ideal S4352x512 .f32) (ix2 i k)
  ya i k := (m (c.tc.loc main_arg1) : FVec Ideal S4352x512 .f32) (ix2 i k)
  h i k := (m (c.tc.loc main_arg2) : FVec Ideal S4352x1024 .f32) (ix2 i k)
  w i k := (m (c.tc.loc main_arg4) : FVec Ideal S1024x1024 .f32) (ix2 i k)
  gr k := (m (c.tc.loc main_arg5) : FVec Ideal S1x512 .f32) (ix2 (0 : Fin 1) k)
  ga k := (m (c.tc.loc main_arg6) : FVec Ideal S1x512 .f32) (ix2 (0 : Fin 1) k)
  lg k := (m (c.tc.loc main_arg7) : FVec Ideal S1x1024 .f32) (ix2 (0 : Fin 1) k)
  lb k := (m (c.tc.loc main_arg8) : FVec Ideal S1x1024 .f32) (ix2 (0 : Fin 1) k)

theorem buf_eq : V m c main_v5 = (concatenate S8x352x1024 1
    [⟨S8x224x1024, shapeCast S8x224x1024 (transpose S1792x1024 [1, 0] (m (c.tc.loc main_arg3) : FVec Ideal S1024x1792 .f32) transposes_S1024x1792_S1792x1024_1_0) shapeCasts_S1792x1024_S8x224x1024⟩,
     ⟨S8x128x1024, shapeCast S8x128x1024 (m (c.tc.loc main_arg4) : FVec Ideal S1024x1024 .f32) shapeCasts_S1024x1024_S8x128x1024⟩]
    concatenates_S8x224x1024_S8x128x1024_S8x352x1024_d1 : FVec Ideal S8x352x1024 .bf16) := by
  funext y
  simp only [V, hostOps0, List.flatten_cons, List.flatten_nil, List.append_nil, List.cons_append, List.nil_append]
  after_results_simp
  first | rfl | (dsimp only [Matrix.cons_val]; after_results_simp; rfl)

theorem cat_at (x₁ : FVec Ideal S8x224x1024 .bf16) (x₂ : FVec Ideal S8x128x1024 .bf16) (i : Fin 8) (j : Fin 352) (k : Fin 1024) :
    (concatenate S8x352x1024 1 [⟨S8x224x1024, x₁⟩, ⟨S8x128x1024, x₂⟩]
      concatenates_S8x224x1024_S8x128x1024_S8x352x1024_d1 : FVec Ideal S8x352x1024 .bf16) (ix3 i j k) =
    if h : j.val < 224 then x₁ (ix3 i ⟨j.val, h⟩ k) else x₂ (ix3 i ⟨j.val - 224, by omega⟩ k) := by
  pointwise []

theorem fold_at (x : FVec Ideal S1024x1024 .f32) (i : Fin 8) (j : Fin 128) (k : Fin 1024) :
    (shapeCast S8x128x1024 x shapeCasts_S1024x1024_S8x128x1024 : FVec Ideal S8x128x1024 .f32) (ix3 i j k) =
    x (ix2 (⟨i.val * 128 + j.val, by omega⟩ : Fin 1024) k) := by
  pointwise []

theorem wt0_at (j : Fin 1024) (k : Fin 1024) : wt0 m c (ix2 j k) = (args m c).w j k := by
  have hj := Nat.mod_lt j.val (by decide : 0 < 128)
  rw [wt0, buf_eq]
  refine (cat_at _ _ (⟨j.val / 128, by omega⟩ : Fin 8) (⟨224 + j.val % 128, by omega⟩ : Fin 352) k).trans ?_
  refine (dif_neg (show ¬ 224 + j.val % 128 < 224 by omega)).trans ?_
  refine (fold_at _ _ _ _).trans ?_
  unfold args; dsimp only; congr 2; apply Fin.ext; simp only; omega

/-- The block of every window at a point: rows by the point, or the whole row. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ t.val < 17 :=
  (by decide +kernel : ∀ t : Fin grid0.N, _)

/-- The array's row at row `a` of the block of point `t`. -/
def row (t : Fin cfg0.N) (a : Fin 256) : Fin 4352 := ⟨t.val * 256 + a.val, by have := (idx t).2.2.2.2.2.2.2.2.2.2; omega⟩

theorem yr_at (t : Fin cfg0.N) (a : Fin 256) (k : Fin 512) : (iblk m c 0 t : Vec Ideal S256x512 .f32) (ix2 a k) = (args m c).yr (row t a) k := by
  unfold args
  blk_ext [iblk, V_main_arg0, idx t, row]

theorem ya_at (t : Fin cfg0.N) (a : Fin 256) (k : Fin 512) : (iblk m c 1 t : Vec Ideal S256x512 .f32) (ix2 a k) = (args m c).ya (row t a) k := by
  unfold args
  blk_ext [iblk, V_main_arg1, idx t, row]

theorem h_at (t : Fin cfg0.N) (a : Fin 256) (k : Fin 1024) : (iblk m c 2 t : Vec Ideal S256x1024 .f32) (ix2 a k) = (args m c).h (row t a) k := by
  unfold args
  blk_ext [iblk, V_main_arg2, idx t, row]

theorem gr_at (t : Fin cfg0.N) (k : Fin 512) : (iblk m c 3 t : Vec Ideal S1x512 .f32) (ix2 (0 : Fin 1) k) = (args m c).gr k := by
  unfold args
  blk_ext [iblk, V_main_arg5, idx t, row]

theorem ga_at (t : Fin cfg0.N) (k : Fin 512) : (iblk m c 4 t : Vec Ideal S1x512 .f32) (ix2 (0 : Fin 1) k) = (args m c).ga k := by
  unfold args
  blk_ext [iblk, V_main_arg6, idx t, row]

theorem lg_at (t : Fin cfg0.N) (k : Fin 1024) : (iblk m c 5 t : Vec Ideal S1x1024 .f32) (ix2 (0 : Fin 1) k) = (args m c).lg k := by
  unfold args
  blk_ext [iblk, V_main_arg7, idx t, row]

theorem lb_at (t : Fin cfg0.N) (k : Fin 1024) : (iblk m c 6 t : Vec Ideal S1x1024 .f32) (ix2 (0 : Fin 1) k) = (args m c).lb k := by
  unfold args
  blk_ext [iblk, V_main_arg8, idx t, row]

/-- The norm's output. -/
theorem out_eq : (dats m 0 c).arrAt 7 (cfgs 0).N = (fun y => (args m c).out (y 0) (y 1) : FVec Ideal S4352x1024 .f32) := by
  refine (dats m 0 c).arrAt_eq_of_covers 7 _ (by decide +kernel) fun t hf y => ?_
  blk_simp
  rw [after_7]
  have hy : (y : S256x1024.Idx) = ix2 (y 0) (y 1) := by blk_ext
  have e0 : (win0_7.blk t).view.emb y 0 = row t (y 0) := by apply Fin.ext; blk_simp [idx t, row]
  have e1 : (win0_7.blk t).view.emb y 1 = y 1 := by apply Fin.ext; blk_simp [idx t]
  refine (congrArg _ hy).trans ((out_at (yr_at m c t) (ya_at m c t) (h_at m c t) (gr_at m c t) (ga_at m c t) (wt0_at m c) (lg_at m c t) (lb_at m c t) (y 0) (y 1)).trans ?_)
  rw [e0, e1]

/-- The norm's input. -/
theorem z_eq : (dats m 0 c).arrAt 8 (cfgs 0).N = (fun y => (args m c).z (y 0) (y 1) : FVec Ideal S4352x1024 .f32) := by
  refine (dats m 0 c).arrAt_eq_of_covers 8 _ (by decide +kernel) fun t hf y => ?_
  blk_simp
  rw [after_8]
  have hy : (y : S256x1024.Idx) = ix2 (y 0) (y 1) := by blk_ext
  have e0 : (win0_8.blk t).view.emb y 0 = row t (y 0) := by apply Fin.ext; blk_simp [idx t, row]
  have e1 : (win0_8.blk t).view.emb y 1 = y 1 := by apply Fin.ext; blk_simp [idx t]
  refine (congrArg _ hy).trans ((z_at (yr_at m c t) (ya_at m c t) (h_at m c t) (gr_at m c t) (ga_at m c t) (wt0_at m c) (y 0) (y 1)).trans ?_)
  rw [e0, e1]

/-- The norm's output, rounded. -/
theorem outR_eq : (dats m 0 c).arrAt 9 (cfgs 0).N = (fun y => (args m c).out (y 0) (y 1) : FVec Ideal S4352x1024 .bf16) := by
  refine (dats m 0 c).arrAt_eq_of_covers 9 _ (by decide +kernel) fun t hf y => ?_
  blk_simp
  rw [after_9]
  have hy : (y : S256x1024.Idx) = ix2 (y 0) (y 1) := by blk_ext
  have e0 : (win0_9.blk t).view.emb y 0 = row t (y 0) := by apply Fin.ext; blk_simp [idx t, row]
  have e1 : (win0_9.blk t).view.emb y 1 = y 1 := by apply Fin.ext; blk_simp [idx t]
  refine (congrArg _ hy).trans ((outR_at (yr_at m c t) (ya_at m c t) (h_at m c t) (gr_at m c t) (ga_at m c t) (wt0_at m c) (lg_at m c t) (lb_at m c t) (y 0) (y 1)).trans ?_)
  rw [e0, e1]

end run

section reference

/-- The reference's arguments, entry by entry. -/
def argsR (m : (ℓ : Loc Reference22Ideal.nD Reference22Ideal.τ Reference22Ideal.sig) → Buf (Elt Ideal) ℓ) (c : Dev Reference22Ideal.nD) : Args where
  yr i k := (m (c.tc.loc Reference22Ideal.main_arg0) : FVec Ideal Reference22Ideal.S4352x512 .f32) (ix2 i k)
  ya i k := (m (c.tc.loc Reference22Ideal.main_arg1) : FVec Ideal Reference22Ideal.S4352x512 .f32) (ix2 i k)
  h i k := (m (c.tc.loc Reference22Ideal.main_arg2) : FVec Ideal Reference22Ideal.S4352x1024 .f32) (ix2 i k)
  w i k := (m (c.tc.loc Reference22Ideal.main_arg4) : FVec Ideal Reference22Ideal.S1024x1024 .f32) (ix2 i k)
  gr k := (m (c.tc.loc Reference22Ideal.main_arg5) : FVec Ideal Reference22Ideal.S1x512 .f32) (ix2 (0 : Fin 1) k)
  ga k := (m (c.tc.loc Reference22Ideal.main_arg6) : FVec Ideal Reference22Ideal.S1x512 .f32) (ix2 (0 : Fin 1) k)
  lg k := (m (c.tc.loc Reference22Ideal.main_arg7) : FVec Ideal Reference22Ideal.S1x1024 .f32) (ix2 (0 : Fin 1) k)
  lb k := (m (c.tc.loc Reference22Ideal.main_arg8) : FVec Ideal Reference22Ideal.S1x1024 .f32) (ix2 (0 : Fin 1) k)

variable (m : (ℓ : Loc Reference22Ideal.nD Reference22Ideal.τ Reference22Ideal.sig) → Buf (Elt Ideal) ℓ) (c : Dev Reference22Ideal.nD)

theorem refOut_at (y : Reference22Ideal.S4352x1024.Idx) :
    (Reference22Ideal.Value.res_main_v50 m c : FVec Ideal Reference22Ideal.S4352x1024 .f32) y = (argsR m c).out (y 0) (y 1) := by
  have hy : y = ix2 (y 0) (y 1) := by blk_ext
  refine (congrArg _ hy).trans ?_
  generalize y 0 = i; generalize y 1 = k
  unfold Reference22Ideal.Value.res_main_v50
  pointwise []
  rfl

theorem refOutR_at (y : Reference22Ideal.S4352x1024.Idx) :
    (Reference22Ideal.Value.res_main_v51 m c : FVec Ideal Reference22Ideal.S4352x1024 .bf16) y = (argsR m c).out (y 0) (y 1) :=
  refOut_at m c y

end reference

/-- The reference has no counters, and its run leaves its arguments. -/
theorem frame_reference : Cert.quiescent_Reference22Ideal (hReference22Ideal := Reference22Ideal.Gen.facts) :=
  fun m ρ _ => (θ_run Reference22Ideal.defs _ _).mono
    (fun r h => And.intro (fun c => (h c).2.2.2) (Idealize.ShloMosaic.sem_eq_zero_of_no_sems (by decide) r.2))
    (Reference22Ideal.Value.run (F := Ideal) m ρ)

/-- The reference's run: its results are those, its arguments end as they began. -/
theorem ref_run (m : (ℓ : Loc Reference22Ideal.nD Reference22Ideal.τ Reference22Ideal.sig) → Buf (Elt Ideal) ℓ) (ρ : Dev Reference22Ideal.nD → PrngReg) :
    θ_run Reference22Ideal.defs (onTc (τ := Reference22Ideal.τ) (Reference22Ideal.main (F := Ideal))) ⟨m, fun _ => 0, ρ⟩ (fun r => ∀ c : Dev Reference22Ideal.nD,
      r.2.mem (c.tc.loc Reference22Ideal.main_v50) = (fun y => (argsR m c).out (y 0) (y 1) : FVec Ideal Reference22Ideal.S4352x1024 .f32)
      ∧ r.2.mem (c.tc.loc Reference22Ideal.main_v28) = (fun y => (argsR m c).z (y 0) (y 1) : FVec Ideal Reference22Ideal.S4352x1024 .f32)
      ∧ r.2.mem (c.tc.loc Reference22Ideal.main_v51) = (fun y => (argsR m c).out (y 0) (y 1) : FVec Ideal Reference22Ideal.S4352x1024 .bf16)
      ∧ r.2.mem (c.tc.loc Reference22Ideal.main_arg0) = m (c.tc.loc Reference22Ideal.main_arg0)
      ∧ r.2.mem (c.tc.loc Reference22Ideal.main_arg1) = m (c.tc.loc Reference22Ideal.main_arg1)
      ∧ r.2.mem (c.tc.loc Reference22Ideal.main_arg2) = m (c.tc.loc Reference22Ideal.main_arg2)
      ∧ r.2.mem (c.tc.loc Reference22Ideal.main_arg3) = m (c.tc.loc Reference22Ideal.main_arg3)
      ∧ r.2.mem (c.tc.loc Reference22Ideal.main_arg4) = m (c.tc.loc Reference22Ideal.main_arg4)
      ∧ r.2.mem (c.tc.loc Reference22Ideal.main_arg5) = m (c.tc.loc Reference22Ideal.main_arg5)
      ∧ r.2.mem (c.tc.loc Reference22Ideal.main_arg6) = m (c.tc.loc Reference22Ideal.main_arg6)
      ∧ r.2.mem (c.tc.loc Reference22Ideal.main_arg7) = m (c.tc.loc Reference22Ideal.main_arg7)
      ∧ r.2.mem (c.tc.loc Reference22Ideal.main_arg8) = m (c.tc.loc Reference22Ideal.main_arg8)) := by
  refine (θ_run _ _ _).mono (fun r h c => ⟨((h c).1).trans (funext fun y => refOut_at m c y), ((h c).2.1).trans (funext fun y => ?_), ((h c).2.2.1).trans (funext fun y => refOutR_at m c y), (h c).2.2.2⟩) (Reference22Ideal.Value.run (F := Ideal) m ρ)
  all_goals
    refine (congrArg _ (by blk_ext : y = ix2 (y 0) (y 1))).trans ?_
    generalize y 0 = i; generalize y 1 = k
    pointwise []
    rfl

/-- The kernel's run: its results are those, its arguments end as they began. -/
theorem value_run (m : (ℓ : Loc nD τ sig) → Buf (Elt Ideal) ℓ) (ρ : Dev nD → PrngReg) (d : Dev nD → Args) (hd : ∀ c, args m c = d c) :
    θ_run defs (onTc (τ := τ) (main (F := Ideal))) ⟨m, fun _ => 0, ρ⟩ (fun r => ∀ c : Dev nD,
      r.2.mem (c.tc.loc main_v6_0) = (fun y => (d c).out (y 0) (y 1) : FVec Ideal S4352x1024 .f32)
      ∧ r.2.mem (c.tc.loc main_v6_1) = (fun y => (d c).z (y 0) (y 1) : FVec Ideal S4352x1024 .f32)
      ∧ r.2.mem (c.tc.loc main_v6_2) = (fun y => (d c).out (y 0) (y 1) : FVec Ideal S4352x1024 .bf16)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)) :=
  (θ_run defs _ _).mono (fun r h c => ⟨((h.1.1 c).1 7).trans (hd c ▸ out_eq m c), ((h.1.1 c).1 8).trans (hd c ▸ z_eq m c), ((h.1.1 c).1 9).trans (hd c ▸ outR_eq m c), h.2.1 c⟩) (θ_run_and (run_main (F := Ideal) m ρ) (frame_run m ρ))

/-- Over the reals the kernel's results are the reference's. -/
theorem algebraic : Cert.algebraic_Kernel22Ideal_Reference22Ideal (hKernel22Ideal := Kernel22Ideal.Gen.facts)
    (hReference22Ideal := Reference22Ideal.Gen.facts) := by
  intro m g m' g' _ hagree
  refine ⟨_, _, _, value_run m g (fun c => argsR m' c) (fun c => ?_), ref_run m' g'⟩
  obtain ⟨h0, h1, h2, h3, h4, h5, h6, h7, h8⟩ := hagree c
  unfold args argsR
  congr 1
  · funext i k; exact (congrFun h0 _).symm
  · funext i k; exact (congrFun h1 _).symm
  · funext i k; exact (congrFun h2 _).symm
  · funext i k; exact (congrFun h4 _).symm
  · funext k; exact (congrFun h5 _).symm
  · funext k; exact (congrFun h6 _).symm
  · funext k; exact (congrFun h7 _).symm
  · funext k; exact (congrFun h8 _).symm

end Cert.Kernel22Ideal.Mix

end
-- ==== Proof.Bits.Mix22Frame.lean ====
/- The frame of the mixer's output forward kernel as it was written: its idealized program is the same program, and the frame of that one is
   proved for every reading of its floats. -/
module

public import proofs.«01_k».proof.Proof.Mix22Frame
public import proofs.«01_k».proof.Proof.Gen.Kernel22

@[expose] public section

set_option maxRecDepth 16384

noncomputable section

namespace Cert.Kernel22Ideal.Mix

open Idealize.ShloMosaic Idealize.ShloMosaic.TcCoe Idealize.SL.Sem Cert.Kernel22Ideal Cert.Kernel22Ideal.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)

end Cert.Kernel22Ideal.Mix

namespace Cert.Kernel22.Mix

open Idealize.ShloMosaic Idealize.ShloMosaic.TcCoe Idealize.SL.Sem Cert.Kernel22 Cert.Kernel22.Gen

/-- The arguments end as they began, and every counter is at zero, whatever the arguments. -/
def Framed (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)

/-- The two programs are the same. -/
theorem framed_eq (F : FTy → Type) [FloatOps F] : Framed F = Cert.Kernel22Ideal.Mix.Framed F := by sl_kernel_rfl

/-- The frame of the program as it was written. -/
theorem frame_run {F : FTy → Type} [FloatOps F] : Framed F :=
  (framed_eq F).mpr Cert.Kernel22Ideal.Mix.frame_run

end Cert.Kernel22.Mix

end
-- ==== Proof.lean ====
/- The claims of the twenty-four calls, assembled. For each call the kernel programs and the reference leave their arguments and counters as required, the
   two kernel programs are the same, and over the reals the kernel's results are the reference's. -/
module

public import proofs.«01_k».proof.Proof.Loss16
public import proofs.«01_k».proof.Proof.Meta17
public import proofs.«01_k».proof.Proof.Sum18
public import proofs.«01_k».proof.Proof.Reduce13
public import proofs.«01_k».proof.Proof.Reduce14
public import proofs.«01_k».proof.Proof.Reduce15
public import proofs.«01_k».proof.Defs
public import proofs.«01_k».proof.Proof.Gen.Kernel
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Frame
public import proofs.«01_k».proof.Proof.Bits.Frame
public import proofs.«01_k».proof.Proof.KernelRun
public import proofs.«01_k».proof.Proof.RefRun
public import proofs.«01_k».proof.Proof.Finite
public import proofs.«01_k».proof.Proof.Gen.Pre_finite
public import proofs.«01_k».proof.Proof.Weight2
public import proofs.«01_k».proof.Proof.Weight3
public import proofs.«01_k».proof.Proof.Weight4
public import proofs.«01_k».proof.Proof.Weight5
public import proofs.«01_k».proof.Proof.Step6
public import proofs.«01_k».proof.Proof.Step7
public import proofs.«01_k».proof.Proof.Step8
public import proofs.«01_k».proof.Proof.Step9
public import proofs.«01_k».proof.Proof.Step10
public import proofs.«01_k».proof.Proof.Step11
public import proofs.«01_k».proof.Proof.Half12
public import proofs.«01_k».proof.Proof.Bits.Half12Frame
public import proofs.«01_k».proof.Proof.Gen.Kernel12
public import proofs.«01_k».proof.Proof.Mix19
public import proofs.«01_k».proof.Proof.Rope23
public import proofs.«01_k».proof.Proof.Rope24
public import proofs.«01_k».proof.Proof.Bits.Mix19Frame
public import proofs.«01_k».proof.Proof.Proj20
public import proofs.«01_k».proof.Proof.Bits.Proj20Frame
public import proofs.«01_k».proof.Proof.Proj21
public import proofs.«01_k».proof.Proof.Bits.Proj21Frame
public import proofs.«01_k».proof.Proof.Mix22
public import proofs.«01_k».proof.Proof.Bits.Mix22Frame
public import proofs.«01_k».proof.Proof.Gen.Kernel19
public import proofs.«01_k».proof.Proof.Gen.Kernel20
public import proofs.«01_k».proof.Proof.Gen.Kernel21
public import proofs.«01_k».proof.Proof.Gen.Kernel22
public import proofs.«01_k».proof.Proof.Gen.Pre_finite19
public import Idealize.ShloMosaic.Adequacy
public import Idealize.ShloMosaic.Init
public import Idealize.ShloMosaic.Lib.Quiescent

@[expose] public section

noncomputable section

namespace Cert.Proof

open Idealize.ShloMosaic Idealize.SL.Sem

/-- The reference has no counters, and its run leaves its arguments. -/
theorem frame_reference : Cert.quiescent_ReferenceIdeal (hReferenceIdeal := Cert.ReferenceIdeal.Gen.facts) :=
  fun m ρ _ => (θ_run Cert.ReferenceIdeal.defs _ _).mono
    (fun r h => And.intro (fun c => (h c).2.2.2.2.2.2.2) (Idealize.ShloMosaic.sem_eq_zero_of_no_sems (by decide) r.2))
    (Cert.ReferenceIdeal.Value.run (F := Ideal) m ρ)

/-- Over the reals the kernel's seven results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  choose d hd using Cert.Row.reads m hpre
  have hr : ∀ c : Dev Cert.ReferenceIdeal.nD, Cert.ReferenceIdeal.Half.Reads (d c) (StableHlo.launchContents m' c) := fun c =>
    ⟨fun i k => (congrFun (hagree c).1 _).trans ((hd c).h i k), fun i k => (congrFun (hagree c).2.1 _).trans ((hd c).wg i k),
      fun i k => (congrFun (hagree c).2.2.1 _).trans ((hd c).wu i k), fun i k => (congrFun (hagree c).2.2.2.1 _).trans ((hd c).wd i k),
      fun k => (congrFun (hagree c).2.2.2.2.1 _).trans ((hd c).lg k),
      fun i k => (congrFun (hagree c).2.2.2.2.2.2.1 _).trans ((hd c).dh i k)⟩
  exact ⟨_, _, _, _, _, _, _, Cert.KernelIdeal.Ffn.value_run m g d hd, Cert.ReferenceIdeal.Half.value_run m' g' d hr⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts,
  Cert.Pre_finite.Gen.facts, Cert.Pre_finite19.Gen.facts,
  fun m ρ _ => Cert.Kernel.Ffn.frame_run m ρ,
  fun m ρ _ => Cert.KernelIdeal.Ffn.frame_run m ρ,
  fun m ρ _ => Cert.KernelIdeal.Ffn.frame_run m ρ,
  frame_reference,
  fun m ρ _ => frame_reference m ρ trivial,
  fun m ρ _ => Cert.Kernel2.Gen.frame m ρ,
  fun m ρ _ => Cert.Kernel2Ideal.Gen.frame m ρ,
  Cert.Kernel2Ideal.Product.frame_reference,
  fun m ρ _ => Cert.Kernel3.Gen.frame m ρ,
  fun m ρ _ => Cert.Kernel3Ideal.Gen.frame m ρ,
  Cert.Kernel3Ideal.Product.frame_reference,
  fun m ρ _ => Cert.Kernel4.Gen.frame m ρ,
  fun m ρ _ => Cert.Kernel4Ideal.Gen.frame m ρ,
  Cert.Kernel4Ideal.Product.frame_reference,
  fun m ρ _ => Cert.Kernel5.Gen.frame m ρ,
  fun m ρ _ => Cert.Kernel5Ideal.Gen.frame m ρ,
  Cert.Kernel5Ideal.Product.frame_reference,
  fun m ρ _ => Cert.Kernel6.Gen.frame m ρ,
  fun m ρ _ => Cert.Kernel6Ideal.Gen.frame m ρ,
  Cert.Kernel6Ideal.Step.frame_reference,
  fun m ρ _ => Cert.Kernel7.Gen.frame m ρ,
  fun m ρ _ => Cert.Kernel7Ideal.Gen.frame m ρ,
  Cert.Kernel7Ideal.Step.frame_reference,
  fun m ρ _ => Cert.Kernel8.Gen.frame m ρ,
  fun m ρ _ => Cert.Kernel8Ideal.Gen.frame m ρ,
  Cert.Kernel8Ideal.Step.frame_reference,
  fun m ρ _ => Cert.Kernel9.Gen.frame m ρ,
  fun m ρ _ => Cert.Kernel9Ideal.Gen.frame m ρ,
  Cert.Kernel9Ideal.Step.frame_reference,
  fun m ρ _ => Cert.Kernel10.Gen.frame m ρ,
  fun m ρ _ => Cert.Kernel10Ideal.Gen.frame m ρ,
  Cert.Kernel10Ideal.Step.frame_reference,
  fun m ρ _ => Cert.Kernel11.Gen.frame m ρ,
  fun m ρ _ => Cert.Kernel11Ideal.Gen.frame m ρ,
  Cert.Kernel11Ideal.Step.frame_reference,
  fun m ρ _ => Cert.Kernel12.Half.frame_run m ρ,
  fun m ρ _ => Cert.Kernel12Ideal.Half.frame_run m ρ,
  Cert.Kernel12Ideal.Half.frame_reference,
  fun m ρ _ => Cert.Kernel13.Gen.frame m ρ,
  fun m ρ _ => Cert.Kernel13Ideal.Gen.frame m ρ,
  Cert.Kernel13Ideal.Reduce.frame_reference,
  fun m ρ _ => Cert.Kernel14.Gen.frame m ρ,
  fun m ρ _ => Cert.Kernel14Ideal.Gen.frame m ρ,
  Cert.Kernel14Ideal.Reduce.frame_reference,
  fun m ρ _ => Cert.Kernel15.Gen.frame m ρ,
  fun m ρ _ => Cert.Kernel15Ideal.Gen.frame m ρ,
  Cert.Kernel15Ideal.Reduce.frame_reference,
  fun m ρ _ => Cert.Kernel16.Gen.frame m ρ,
  fun m ρ _ => Cert.Kernel16Ideal.Gen.frame m ρ,
  Cert.Kernel16Ideal.Loss.frame_reference,
  fun m ρ _ => Cert.Kernel17.Gen.frame m ρ,
  fun m ρ _ => Cert.Kernel17Ideal.Gen.frame m ρ,
  Cert.Kernel17Ideal.Meta.frame_reference,
  fun m ρ _ => Cert.Kernel18.Gen.frame m ρ,
  fun m ρ _ => Cert.Kernel18Ideal.Gen.frame m ρ,
  Cert.Kernel18Ideal.Sum.frame_reference,
  fun m ρ _ => Cert.Kernel19.Mix.frame_run m ρ,
  fun m ρ _ => Cert.Kernel19Ideal.Mix.frame_run m ρ,
  fun m ρ _ => Cert.Kernel19Ideal.Mix.frame_run m ρ,
  Cert.Kernel19Ideal.Mix.frame_reference,
  fun m ρ _ => Cert.Kernel19Ideal.Mix.frame_reference m ρ trivial,
  fun m ρ _ => Cert.Kernel20.Proj.frame_run m ρ,
  fun m ρ _ => Cert.Kernel20Ideal.Proj.frame_run m ρ,
  Cert.Kernel20Ideal.Proj.frame_reference,
  fun m ρ _ => Cert.Kernel21.Proj.frame_run m ρ,
  fun m ρ _ => Cert.Kernel21Ideal.Proj.frame_run m ρ,
  Cert.Kernel21Ideal.Proj.frame_reference,
  fun m ρ _ => Cert.Kernel22.Mix.frame_run m ρ,
  fun m ρ _ => Cert.Kernel22Ideal.Mix.frame_run m ρ,
  Cert.Kernel22Ideal.Mix.frame_reference,
  fun m ρ _ => Cert.Kernel23.Gen.frame m ρ,
  fun m ρ _ => Cert.Kernel23Ideal.Gen.frame m ρ,
  Cert.Kernel23Ideal.Rope.frame_reference,
  fun m ρ _ => Cert.Kernel24.Gen.frame m ρ,
  fun m ρ _ => Cert.Kernel24Ideal.Gen.frame m ρ,
  Cert.Kernel24Ideal.Rope.frame_reference,
  trivial,
  algebraic,
  trivial,
  Cert.Kernel2Ideal.Product.algebraic,
  trivial,
  Cert.Kernel3Ideal.Product.algebraic,
  trivial,
  Cert.Kernel4Ideal.Product.algebraic,
  trivial,
  Cert.Kernel5Ideal.Product.algebraic,
  trivial,
  Cert.Kernel6Ideal.Step.algebraic,
  trivial,
  Cert.Kernel7Ideal.Step.algebraic,
  trivial,
  Cert.Kernel8Ideal.Step.algebraic,
  trivial,
  Cert.Kernel9Ideal.Step.algebraic,
  trivial,
  Cert.Kernel10Ideal.Step.algebraic,
  trivial,
  Cert.Kernel11Ideal.Step.algebraic,
  trivial,
  Cert.Kernel12Ideal.Half.algebraic,
  trivial,
  Cert.Kernel13Ideal.Reduce.algebraic,
  trivial,
  Cert.Kernel14Ideal.Reduce.algebraic,
  trivial,
  Cert.Kernel15Ideal.Reduce.algebraic,
  trivial,
  Cert.Kernel16Ideal.Loss.algebraic,
  trivial,
  Cert.Kernel17Ideal.Meta.algebraic,
  trivial,
  Cert.Kernel18Ideal.Sum.algebraic,
  trivial,
  Cert.Kernel19Ideal.Mix.algebraic,
  trivial,
  Cert.Kernel20Ideal.Proj.algebraic,
  trivial,
  Cert.Kernel21Ideal.Proj.algebraic,
  trivial,
  Cert.Kernel22Ideal.Mix.algebraic,
  trivial,
  Cert.Kernel23Ideal.Rope.algebraic,
  trivial,
  Cert.Kernel24Ideal.Rope.algebraic⟩

end Cert.Proof

end
